-- ==== Defs.lean ====
def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6))) = (fun _ => 1#1)

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_sb [hPre_finite_sb : Cert.Pre_finite_sb.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_sb [hPre_finite_sb : Cert.Pre_finite_sb.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_KernelProjIdeal_finite_proj [hPre_finite_proj : Cert.Pre_finite_proj.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_finite_proj.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg4)) (m ((c.tc : Thread Cert.KernelProjIdeal.nD Cert.KernelProjIdeal.τ).loc Cert.KernelProjIdeal.main_arg5)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7)) (m ((c.tc : Thread Cert.KernelProjIdeal.nD Cert.KernelProjIdeal.τ).loc Cert.KernelProjIdeal.main_arg8)) (m ((c.tc : Thread Cert.KernelProjIdeal.nD Cert.KernelProjIdeal.τ).loc Cert.KernelProjIdeal.main_arg9)) (m ((c.tc : Thread Cert.KernelProjIdeal.nD Cert.KernelProjIdeal.τ).loc Cert.KernelProjIdeal.main_arg10))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_proj [hPre_finite_proj : Cert.Pre_finite_proj.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_proj.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4)) (m ((c.tc : Thread Cert.ReferenceProjIdeal.nD Cert.ReferenceProjIdeal.τ).loc Cert.ReferenceProjIdeal.main_arg5)) (m ((c.tc : Thread Cert.ReferenceProjIdeal.nD Cert.ReferenceProjIdeal.τ).loc Cert.ReferenceProjIdeal.main_arg6)) (m ((c.tc : Thread Cert.ReferenceProjIdeal.nD Cert.ReferenceProjIdeal.τ).loc Cert.ReferenceProjIdeal.main_arg7)) (m ((c.tc : Thread Cert.ReferenceProjIdeal.nD Cert.ReferenceProjIdeal.τ).loc Cert.ReferenceProjIdeal.main_arg8)) (m ((c.tc : Thread Cert.ReferenceProjIdeal.nD Cert.ReferenceProjIdeal.τ).loc Cert.ReferenceProjIdeal.main_arg9)) (m ((c.tc : Thread Cert.ReferenceProjIdeal.nD Cert.ReferenceProjIdeal.τ).loc Cert.ReferenceProjIdeal.main_arg10))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7)) (m ((c.tc : Thread Cert.KernelFfnIdeal.nD Cert.KernelFfnIdeal.τ).loc Cert.KernelFfnIdeal.main_arg8)) (m ((c.tc : Thread Cert.KernelFfnIdeal.nD Cert.KernelFfnIdeal.τ).loc Cert.KernelFfnIdeal.main_arg9)) (m ((c.tc : Thread Cert.KernelFfnIdeal.nD Cert.KernelFfnIdeal.τ).loc Cert.KernelFfnIdeal.main_arg10)) (m ((c.tc : Thread Cert.KernelFfnIdeal.nD Cert.KernelFfnIdeal.τ).loc Cert.KernelFfnIdeal.main_arg11))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7)) (m ((c.tc : Thread Cert.ReferenceFfnIdeal.nD Cert.ReferenceFfnIdeal.τ).loc Cert.ReferenceFfnIdeal.main_arg8)) (m ((c.tc : Thread Cert.ReferenceFfnIdeal.nD Cert.ReferenceFfnIdeal.τ).loc Cert.ReferenceFfnIdeal.main_arg9)) (m ((c.tc : Thread Cert.ReferenceFfnIdeal.nD Cert.ReferenceFfnIdeal.τ).loc Cert.ReferenceFfnIdeal.main_arg10)) (m ((c.tc : Thread Cert.ReferenceFfnIdeal.nD Cert.ReferenceFfnIdeal.τ).loc Cert.ReferenceFfnIdeal.main_arg11))) = (fun _ => 1#1)

def Pre_KernelSbf (m : (ℓ : Loc Cert.KernelSbf.nD Cert.KernelSbf.τ Cert.KernelSbf.sig) → Buf (Elt Bits) ℓ) : Prop :=
  True

def Pre_KernelSbfIdeal (m : (ℓ : Loc Cert.KernelSbfIdeal.nD Cert.KernelSbfIdeal.τ Cert.KernelSbfIdeal.sig) → Buf (Elt Ideal) ℓ) : Prop :=
  True

def Pre_KernelSbfIdeal_finite_sbf [hPre_finite_sbf : Cert.Pre_finite_sbf.Facts] (m : (ℓ : Loc Cert.KernelSbfIdeal.nD Cert.KernelSbfIdeal.τ Cert.KernelSbfIdeal.sig) → Buf (Elt Ideal) ℓ) : Prop :=
  ∀ c : Dev Cert.KernelSbfIdeal.nD,
    (Cert.Pre_finite_sbf.fn (F := Ideal) (m ((c.tc : Thread Cert.KernelSbfIdeal.nD Cert.KernelSbfIdeal.τ).loc Cert.KernelSbfIdeal.main_arg0)) (m ((c.tc : Thread Cert.KernelSbfIdeal.nD Cert.KernelSbfIdeal.τ).loc Cert.KernelSbfIdeal.main_arg1)) (m ((c.tc : Thread Cert.KernelSbfIdeal.nD Cert.KernelSbfIdeal.τ).loc Cert.KernelSbfIdeal.main_arg2))) = (fun _ => 1#1)

def Pre_ReferenceSbfIdeal (m : (ℓ : Loc Cert.ReferenceSbfIdeal.nD Cert.ReferenceSbfIdeal.τ Cert.ReferenceSbfIdeal.sig) → Buf (Elt Ideal) ℓ) : Prop :=
  True

def Pre_ReferenceSbfIdeal_finite_sbf [hPre_finite_sbf : Cert.Pre_finite_sbf.Facts] (m : (ℓ : Loc Cert.ReferenceSbfIdeal.nD Cert.ReferenceSbfIdeal.τ Cert.ReferenceSbfIdeal.sig) → Buf (Elt Ideal) ℓ) : Prop :=
  ∀ c : Dev Cert.ReferenceSbfIdeal.nD,
    (Cert.Pre_finite_sbf.fn (F := Ideal) (m ((c.tc : Thread Cert.ReferenceSbfIdeal.nD Cert.ReferenceSbfIdeal.τ).loc Cert.ReferenceSbfIdeal.main_arg0)) (m ((c.tc : Thread Cert.ReferenceSbfIdeal.nD Cert.ReferenceSbfIdeal.τ).loc Cert.ReferenceSbfIdeal.main_arg1)) (m ((c.tc : Thread Cert.ReferenceSbfIdeal.nD Cert.ReferenceSbfIdeal.τ).loc Cert.ReferenceSbfIdeal.main_arg2))) = (fun _ => 1#1)

def Pre_KernelNp (m : (ℓ : Loc Cert.KernelNp.nD Cert.KernelNp.τ Cert.KernelNp.sig) → Buf (Elt Bits) ℓ) : Prop :=
  True

def Pre_KernelNpIdeal (m : (ℓ : Loc Cert.KernelNpIdeal.nD Cert.KernelNpIdeal.τ Cert.KernelNpIdeal.sig) → Buf (Elt Ideal) ℓ) : Prop :=
  True

def Pre_ReferenceNpIdeal (m : (ℓ : Loc Cert.ReferenceNpIdeal.nD Cert.ReferenceNpIdeal.τ Cert.ReferenceNpIdeal.sig) → Buf (Elt Ideal) ℓ) : Prop :=
  True

def Pre_KernelCols (m : (ℓ : Loc Cert.KernelCols.nD Cert.KernelCols.τ Cert.KernelCols.sig) → Buf (Elt Bits) ℓ) : Prop :=
  True

def Pre_KernelColsIdeal (m : (ℓ : Loc Cert.KernelColsIdeal.nD Cert.KernelColsIdeal.τ Cert.KernelColsIdeal.sig) → Buf (Elt Ideal) ℓ) : Prop :=
  True

def Pre_ReferenceColsIdeal (m : (ℓ : Loc Cert.ReferenceColsIdeal.nD Cert.ReferenceColsIdeal.τ Cert.ReferenceColsIdeal.sig) → Buf (Elt Ideal) ℓ) : Prop :=
  True

def Pre_KernelAtb (m : (ℓ : Loc Cert.KernelAtb.nD Cert.KernelAtb.τ Cert.KernelAtb.sig) → Buf (Elt Bits) ℓ) : Prop :=
  True

def Pre_KernelAtbIdeal (m : (ℓ : Loc Cert.KernelAtbIdeal.nD Cert.KernelAtbIdeal.τ Cert.KernelAtbIdeal.sig) → Buf (Elt Ideal) ℓ) : Prop :=
  True

def Pre_ReferenceAtbIdeal (m : (ℓ : Loc Cert.ReferenceAtbIdeal.nD Cert.ReferenceAtbIdeal.τ Cert.ReferenceAtbIdeal.sig) → Buf (Elt Ideal) ℓ) : Prop :=
  True

def Pre_KernelPcs (m : (ℓ : Loc Cert.KernelPcs.nD Cert.KernelPcs.τ Cert.KernelPcs.sig) → Buf (Elt Bits) ℓ) : Prop :=
  True

def Pre_KernelPcsIdeal (m : (ℓ : Loc Cert.KernelPcsIdeal.nD Cert.KernelPcsIdeal.τ Cert.KernelPcsIdeal.sig) → Buf (Elt Ideal) ℓ) : Prop :=
  True

def Pre_ReferencePcsIdeal (m : (ℓ : Loc Cert.ReferencePcsIdeal.nD Cert.ReferencePcsIdeal.τ Cert.ReferencePcsIdeal.sig) → Buf (Elt Ideal) ℓ) : Prop :=
  True

def Pre_KernelGains (m : (ℓ : Loc Cert.KernelGains.nD Cert.KernelGains.τ Cert.KernelGains.sig) → Buf (Elt Bits) ℓ) : Prop :=
  True

def Pre_KernelGainsIdeal (m : (ℓ : Loc Cert.KernelGainsIdeal.nD Cert.KernelGainsIdeal.τ Cert.KernelGainsIdeal.sig) → Buf (Elt Ideal) ℓ) : Prop :=
  True

def Pre_ReferenceGainsIdeal (m : (ℓ : Loc Cert.ReferenceGainsIdeal.nD Cert.ReferenceGainsIdeal.τ Cert.ReferenceGainsIdeal.sig) → Buf (Elt Ideal) ℓ) : Prop :=
  True

def Pre_KernelUpd (m : (ℓ : Loc Cert.KernelUpd.nD Cert.KernelUpd.τ Cert.KernelUpd.sig) → Buf (Elt Bits) ℓ) : Prop :=
  True

def Pre_KernelUpdIdeal (m : (ℓ : Loc Cert.KernelUpdIdeal.nD Cert.KernelUpdIdeal.τ Cert.KernelUpdIdeal.sig) → Buf (Elt Ideal) ℓ) : Prop :=
  True

def Pre_ReferenceUpdIdeal (m : (ℓ : Loc Cert.ReferenceUpdIdeal.nD Cert.ReferenceUpdIdeal.τ Cert.ReferenceUpdIdeal.sig) → Buf (Elt Ideal) ℓ) : Prop :=
  True

def Pre_KernelBf (m : (ℓ : Loc Cert.KernelBf.nD Cert.KernelBf.τ Cert.KernelBf.sig) → Buf (Elt Bits) ℓ) : Prop :=
  True

def Pre_KernelBfIdeal (m : (ℓ : Loc Cert.KernelBfIdeal.nD Cert.KernelBfIdeal.τ Cert.KernelBfIdeal.sig) → Buf (Elt Ideal) ℓ) : Prop :=
  True

def Pre_ReferenceBfIdeal (m : (ℓ : Loc Cert.ReferenceBfIdeal.nD Cert.ReferenceBfIdeal.τ Cert.ReferenceBfIdeal.sig) → Buf (Elt Ideal) ℓ) : Prop :=
  True

def Pre_KernelPs [hPre_a_core : Cert.Pre_a_core.Facts] (m : (ℓ : Loc Cert.KernelPs.nD Cert.KernelPs.τ Cert.KernelPs.sig) → Buf (Elt Bits) ℓ) : Prop :=
  ∀ c : Dev Cert.KernelPs.nD,
    (Cert.Pre_a_core.fn (F := Bits) (m ((c.tc : Thread Cert.KernelPs.nD Cert.KernelPs.τ).loc Cert.KernelPs.main_arg0)) (m ((c.tc : Thread Cert.KernelPs.nD Cert.KernelPs.τ).loc Cert.KernelPs.main_arg1)) (m ((c.tc : Thread Cert.KernelPs.nD Cert.KernelPs.τ).loc Cert.KernelPs.main_arg2))) = (fun _ => 1#1)

def Pre_KernelPsIdeal [hPre_a_core : Cert.Pre_a_core.Facts] (m : (ℓ : Loc Cert.KernelPsIdeal.nD Cert.KernelPsIdeal.τ Cert.KernelPsIdeal.sig) → Buf (Elt Ideal) ℓ) : Prop :=
  ∀ c : Dev Cert.KernelPsIdeal.nD,
    (Cert.Pre_a_core.fn (F := Ideal) (m ((c.tc : Thread Cert.KernelPsIdeal.nD Cert.KernelPsIdeal.τ).loc Cert.KernelPsIdeal.main_arg0)) (m ((c.tc : Thread Cert.KernelPsIdeal.nD Cert.KernelPsIdeal.τ).loc Cert.KernelPsIdeal.main_arg1)) (m ((c.tc : Thread Cert.KernelPsIdeal.nD Cert.KernelPsIdeal.τ).loc Cert.KernelPsIdeal.main_arg2))) = (fun _ => 1#1)

def Pre_ReferencePsIdeal (m : (ℓ : Loc Cert.ReferencePsIdeal.nD Cert.ReferencePsIdeal.τ Cert.ReferencePsIdeal.sig) → Buf (Elt Ideal) ℓ) : Prop :=
  True

def Pre_ReferencePsIdeal_a_core [hPre_a_core : Cert.Pre_a_core.Facts] (m : (ℓ : Loc Cert.ReferencePsIdeal.nD Cert.ReferencePsIdeal.τ Cert.ReferencePsIdeal.sig) → Buf (Elt Ideal) ℓ) : Prop :=
  ∀ c : Dev Cert.ReferencePsIdeal.nD,
    (Cert.Pre_a_core.fn (F := Ideal) (m ((c.tc : Thread Cert.ReferencePsIdeal.nD Cert.ReferencePsIdeal.τ).loc Cert.ReferencePsIdeal.main_arg0)) (m ((c.tc : Thread Cert.ReferencePsIdeal.nD Cert.ReferencePsIdeal.τ).loc Cert.ReferencePsIdeal.main_arg1)) (m ((c.tc : Thread Cert.ReferencePsIdeal.nD Cert.ReferencePsIdeal.τ).loc Cert.ReferencePsIdeal.main_arg2))) = (fun _ => 1#1)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2)
      ∧ r.2.mem ((c.tc : Thread Cert.KernelSb.nD Cert.KernelSb.τ).loc Cert.KernelSb.main_arg3) = m ((c.tc : Thread Cert.KernelSb.nD Cert.KernelSb.τ).loc Cert.KernelSb.main_arg3))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_KernelSbIdeal_pre_finite_sb [hKernelSbIdeal : Cert.KernelSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_sb m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_ReferenceSbIdeal_pre_finite_sb [hReferenceSbIdeal : Cert.ReferenceSbIdeal.Facts] [hPre_finite_sb : Cert.Pre_finite_sb.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_sb m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8)
      ∧ r.2.mem ((c.tc : Thread Cert.KernelProj.nD Cert.KernelProj.τ).loc Cert.KernelProj.main_arg9) = m ((c.tc : Thread Cert.KernelProj.nD Cert.KernelProj.τ).loc Cert.KernelProj.main_arg9)
      ∧ r.2.mem ((c.tc : Thread Cert.KernelProj.nD Cert.KernelProj.τ).loc Cert.KernelProj.main_arg10) = m ((c.tc : Thread Cert.KernelProj.nD Cert.KernelProj.τ).loc Cert.KernelProj.main_arg10))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
      ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9)
      ∧ r.2.mem ((c.tc : Thread Cert.KernelProjIdeal.nD Cert.KernelProjIdeal.τ).loc Cert.KernelProjIdeal.main_arg10) = m ((c.tc : Thread Cert.KernelProjIdeal.nD Cert.KernelProjIdeal.τ).loc Cert.KernelProjIdeal.main_arg10))
      ∧ r.2.sem = fun _ => 0)

def quiescent_KernelProjIdeal_pre_finite_proj [hKernelProjIdeal : Cert.KernelProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal_finite_proj m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
      ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9)
      ∧ r.2.mem ((c.tc : Thread Cert.KernelProjIdeal.nD Cert.KernelProjIdeal.τ).loc Cert.KernelProjIdeal.main_arg10) = m ((c.tc : Thread Cert.KernelProjIdeal.nD Cert.KernelProjIdeal.τ).loc Cert.KernelProjIdeal.main_arg10))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8)
      ∧ r.2.mem ((c.tc : Thread Cert.ReferenceProjIdeal.nD Cert.ReferenceProjIdeal.τ).loc Cert.ReferenceProjIdeal.main_arg9) = m ((c.tc : Thread Cert.ReferenceProjIdeal.nD Cert.ReferenceProjIdeal.τ).loc Cert.ReferenceProjIdeal.main_arg9)
      ∧ r.2.mem ((c.tc : Thread Cert.ReferenceProjIdeal.nD Cert.ReferenceProjIdeal.τ).loc Cert.ReferenceProjIdeal.main_arg10) = m ((c.tc : Thread Cert.ReferenceProjIdeal.nD Cert.ReferenceProjIdeal.τ).loc Cert.ReferenceProjIdeal.main_arg10))
      ∧ r.2.sem = fun _ => 0)

def quiescent_ReferenceProjIdeal_pre_finite_proj [hReferenceProjIdeal : Cert.ReferenceProjIdeal.Facts] [hPre_finite_proj : Cert.Pre_finite_proj.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_proj m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8)
      ∧ r.2.mem ((c.tc : Thread Cert.ReferenceProjIdeal.nD Cert.ReferenceProjIdeal.τ).loc Cert.ReferenceProjIdeal.main_arg9) = m ((c.tc : Thread Cert.ReferenceProjIdeal.nD Cert.ReferenceProjIdeal.τ).loc Cert.ReferenceProjIdeal.main_arg9)
      ∧ r.2.mem ((c.tc : Thread Cert.ReferenceProjIdeal.nD Cert.ReferenceProjIdeal.τ).loc Cert.ReferenceProjIdeal.main_arg10) = m ((c.tc : Thread Cert.ReferenceProjIdeal.nD Cert.ReferenceProjIdeal.τ).loc Cert.ReferenceProjIdeal.main_arg10))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9)
      ∧ r.2.mem ((c.tc : Thread Cert.KernelFfn.nD Cert.KernelFfn.τ).loc Cert.KernelFfn.main_arg10) = m ((c.tc : Thread Cert.KernelFfn.nD Cert.KernelFfn.τ).loc Cert.KernelFfn.main_arg10)
      ∧ r.2.mem ((c.tc : Thread Cert.KernelFfn.nD Cert.KernelFfn.τ).loc Cert.KernelFfn.main_arg11) = m ((c.tc : Thread Cert.KernelFfn.nD Cert.KernelFfn.τ).loc Cert.KernelFfn.main_arg11))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11))
      ∧ r.2.sem = fun _ => 0)

def quiescent_KernelSbf [hKernelSbf : Cert.KernelSbf.Facts] : Prop :=
  ∀ (m : (ℓ : Loc Cert.KernelSbf.nD Cert.KernelSbf.τ Cert.KernelSbf.sig) → Buf (Elt Bits) ℓ) (g : Dev Cert.KernelSbf.nD → PrngReg), Pre_KernelSbf m →
    θ_run (Cert.KernelSbf.defs (F := Bits)) (onTc (τ := Cert.KernelSbf.τ) (Cert.KernelSbf.main (F := Bits))) ⟨m, fun _ => 0, g⟩ (fun r => (∀ c : Dev Cert.KernelSbf.nD,
      r.2.mem ((c.tc : Thread Cert.KernelSbf.nD Cert.KernelSbf.τ).loc Cert.KernelSbf.main_arg0) = m ((c.tc : Thread Cert.KernelSbf.nD Cert.KernelSbf.τ).loc Cert.KernelSbf.main_arg0)
      ∧ r.2.mem ((c.tc : Thread Cert.KernelSbf.nD Cert.KernelSbf.τ).loc Cert.KernelSbf.main_arg1) = m ((c.tc : Thread Cert.KernelSbf.nD Cert.KernelSbf.τ).loc Cert.KernelSbf.main_arg1)
      ∧ r.2.mem ((c.tc : Thread Cert.KernelSbf.nD Cert.KernelSbf.τ).loc Cert.KernelSbf.main_arg2) = m ((c.tc : Thread Cert.KernelSbf.nD Cert.KernelSbf.τ).loc Cert.KernelSbf.main_arg2))
      ∧ r.2.sem = fun _ => 0)

def quiescent_KernelSbfIdeal [hKernelSbfIdeal : Cert.KernelSbfIdeal.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg), Pre_KernelSbfIdeal m →
    θ_run (Cert.KernelSbfIdeal.defs (F := Ideal)) (onTc (τ := Cert.KernelSbfIdeal.τ) (Cert.KernelSbfIdeal.main (F := Ideal))) ⟨m, fun _ => 0, g⟩ (fun r => (∀ c : Dev Cert.KernelSbfIdeal.nD,
      r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0)
      ∧ r.2.mem ((c.tc : Thread Cert.KernelSbfIdeal.nD Cert.KernelSbfIdeal.τ).loc Cert.KernelSbfIdeal.main_arg1) = m ((c.tc : Thread Cert.KernelSbfIdeal.nD Cert.KernelSbfIdeal.τ).loc Cert.KernelSbfIdeal.main_arg1)
      ∧ r.2.mem ((c.tc : Thread Cert.KernelSbfIdeal.nD Cert.KernelSbfIdeal.τ).loc Cert.KernelSbfIdeal.main_arg2) = m ((c.tc : Thread Cert.KernelSbfIdeal.nD Cert.KernelSbfIdeal.τ).loc Cert.KernelSbfIdeal.main_arg2))
      ∧ r.2.sem = fun _ => 0)

def quiescent_KernelSbfIdeal_pre_finite_sbf [hKernelSbfIdeal : Cert.KernelSbfIdeal.Facts] [hPre_finite_sbf : Cert.Pre_finite_sbf.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg), Pre_KernelSbfIdeal_finite_sbf m →
    θ_run (Cert.KernelSbfIdeal.defs (F := Ideal)) (onTc (τ := Cert.KernelSbfIdeal.τ) (Cert.KernelSbfIdeal.main (F := Ideal))) ⟨m, fun _ => 0, g⟩ (fun r => (∀ c : Dev Cert.KernelSbfIdeal.nD,
      r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0)
      ∧ r.2.mem ((c.tc : Thread Cert.KernelSbfIdeal.nD Cert.KernelSbfIdeal.τ).loc Cert.KernelSbfIdeal.main_arg1) = m ((c.tc : Thread Cert.KernelSbfIdeal.nD Cert.KernelSbfIdeal.τ).loc Cert.KernelSbfIdeal.main_arg1)
      ∧ r.2.mem ((c.tc : Thread Cert.KernelSbfIdeal.nD Cert.KernelSbfIdeal.τ).loc Cert.KernelSbfIdeal.main_arg2) = m ((c.tc : Thread Cert.KernelSbfIdeal.nD Cert.KernelSbfIdeal.τ).loc Cert.KernelSbfIdeal.main_arg2))
      ∧ r.2.sem = fun _ => 0)

def quiescent_ReferenceSbfIdeal [hReferenceSbfIdeal : Cert.ReferenceSbfIdeal.Facts] : Prop :=
  ∀ (m : (ℓ : Loc Cert.ReferenceSbfIdeal.nD Cert.ReferenceSbfIdeal.τ Cert.ReferenceSbfIdeal.sig) → Buf (Elt Ideal) ℓ) (g : Dev Cert.ReferenceSbfIdeal.nD → PrngReg), Pre_ReferenceSbfIdeal m →
    θ_run (Cert.ReferenceSbfIdeal.defs (F := Ideal)) (onTc (τ := Cert.ReferenceSbfIdeal.τ) (Cert.ReferenceSbfIdeal.main (F := Ideal))) ⟨m, fun _ => 0, g⟩ (fun r => (∀ c : Dev Cert.ReferenceSbfIdeal.nD,
      r.2.mem ((c.tc : Thread Cert.ReferenceSbfIdeal.nD Cert.ReferenceSbfIdeal.τ).loc Cert.ReferenceSbfIdeal.main_arg0) = m ((c.tc : Thread Cert.ReferenceSbfIdeal.nD Cert.ReferenceSbfIdeal.τ).loc Cert.ReferenceSbfIdeal.main_arg0)
      ∧ r.2.mem ((c.tc : Thread Cert.ReferenceSbfIdeal.nD Cert.ReferenceSbfIdeal.τ).loc Cert.ReferenceSbfIdeal.main_arg1) = m ((c.tc : Thread Cert.ReferenceSbfIdeal.nD Cert.ReferenceSbfIdeal.τ).loc Cert.ReferenceSbfIdeal.main_arg1)
      ∧ r.2.mem ((c.tc : Thread Cert.ReferenceSbfIdeal.nD Cert.ReferenceSbfIdeal.τ).loc Cert.ReferenceSbfIdeal.main_arg2) = m ((c.tc : Thread Cert.ReferenceSbfIdeal.nD Cert.ReferenceSbfIdeal.τ).loc Cert.ReferenceSbfIdeal.main_arg2))
      ∧ r.2.sem = fun _ => 0)

def quiescent_ReferenceSbfIdeal_pre_finite_sbf [hReferenceSbfIdeal : Cert.ReferenceSbfIdeal.Facts] [hPre_finite_sbf : Cert.Pre_finite_sbf.Facts] : Prop :=
  ∀ (m : (ℓ : Loc Cert.ReferenceSbfIdeal.nD Cert.ReferenceSbfIdeal.τ Cert.ReferenceSbfIdeal.sig) → Buf (Elt Ideal) ℓ) (g : Dev Cert.ReferenceSbfIdeal.nD → PrngReg), Pre_ReferenceSbfIdeal_finite_sbf m →
    θ_run (Cert.ReferenceSbfIdeal.defs (F := Ideal)) (onTc (τ := Cert.ReferenceSbfIdeal.τ) (Cert.ReferenceSbfIdeal.main (F := Ideal))) ⟨m, fun _ => 0, g⟩ (fun r => (∀ c : Dev Cert.ReferenceSbfIdeal.nD,
      r.2.mem ((c.tc : Thread Cert.ReferenceSbfIdeal.nD Cert.ReferenceSbfIdeal.τ).loc Cert.ReferenceSbfIdeal.main_arg0) = m ((c.tc : Thread Cert.ReferenceSbfIdeal.nD Cert.ReferenceSbfIdeal.τ).loc Cert.ReferenceSbfIdeal.main_arg0)
      ∧ r.2.mem ((c.tc : Thread Cert.ReferenceSbfIdeal.nD Cert.ReferenceSbfIdeal.τ).loc Cert.ReferenceSbfIdeal.main_arg1) = m ((c.tc : Thread Cert.ReferenceSbfIdeal.nD Cert.ReferenceSbfIdeal.τ).loc Cert.ReferenceSbfIdeal.main_arg1)
      ∧ r.2.mem ((c.tc : Thread Cert.ReferenceSbfIdeal.nD Cert.ReferenceSbfIdeal.τ).loc Cert.ReferenceSbfIdeal.main_arg2) = m ((c.tc : Thread Cert.ReferenceSbfIdeal.nD Cert.ReferenceSbfIdeal.τ).loc Cert.ReferenceSbfIdeal.main_arg2))
      ∧ r.2.sem = fun _ => 0)

def quiescent_KernelNp [hKernelNp : Cert.KernelNp.Facts] : Prop :=
  ∀ (m : (ℓ : Loc Cert.KernelNp.nD Cert.KernelNp.τ Cert.KernelNp.sig) → Buf (Elt Bits) ℓ) (g : Dev Cert.KernelNp.nD → PrngReg), Pre_KernelNp m →
    θ_run (Cert.KernelNp.defs (F := Bits)) (onTc (τ := Cert.KernelNp.τ) (Cert.KernelNp.main (F := Bits))) ⟨m, fun _ => 0, g⟩ (fun r => (∀ c : Dev Cert.KernelNp.nD,
      r.2.mem ((c.tc : Thread Cert.KernelNp.nD Cert.KernelNp.τ).loc Cert.KernelNp.main_arg0) = m ((c.tc : Thread Cert.KernelNp.nD Cert.KernelNp.τ).loc Cert.KernelNp.main_arg0)
      ∧ r.2.mem ((c.tc : Thread Cert.KernelNp.nD Cert.KernelNp.τ).loc Cert.KernelNp.main_arg1) = m ((c.tc : Thread Cert.KernelNp.nD Cert.KernelNp.τ).loc Cert.KernelNp.main_arg1)
      ∧ r.2.mem ((c.tc : Thread Cert.KernelNp.nD Cert.KernelNp.τ).loc Cert.KernelNp.main_arg2) = m ((c.tc : Thread Cert.KernelNp.nD Cert.KernelNp.τ).loc Cert.KernelNp.main_arg2))
      ∧ r.2.sem = fun _ => 0)

def quiescent_KernelNpIdeal [hKernelNpIdeal : Cert.KernelNpIdeal.Facts] : Prop :=
  ∀ (m : (ℓ : Loc Cert.KernelNpIdeal.nD Cert.KernelNpIdeal.τ Cert.KernelNpIdeal.sig) → Buf (Elt Ideal) ℓ) (g : Dev Cert.KernelNpIdeal.nD → PrngReg), Pre_KernelNpIdeal m →
    θ_run (Cert.KernelNpIdeal.defs (F := Ideal)) (onTc (τ := Cert.KernelNpIdeal.τ) (Cert.KernelNpIdeal.main (F := Ideal))) ⟨m, fun _ => 0, g⟩ (fun r => (∀ c : Dev Cert.KernelNpIdeal.nD,
      r.2.mem ((c.tc : Thread Cert.KernelNpIdeal.nD Cert.KernelNpIdeal.τ).loc Cert.KernelNpIdeal.main_arg0) = m ((c.tc : Thread Cert.KernelNpIdeal.nD Cert.KernelNpIdeal.τ).loc Cert.KernelNpIdeal.main_arg0)
      ∧ r.2.mem ((c.tc : Thread Cert.KernelNpIdeal.nD Cert.KernelNpIdeal.τ).loc Cert.KernelNpIdeal.main_arg1) = m ((c.tc : Thread Cert.KernelNpIdeal.nD Cert.KernelNpIdeal.τ).loc Cert.KernelNpIdeal.main_arg1)
      ∧ r.2.mem ((c.tc : Thread Cert.KernelNpIdeal.nD Cert.KernelNpIdeal.τ).loc Cert.KernelNpIdeal.main_arg2) = m ((c.tc : Thread Cert.KernelNpIdeal.nD Cert.KernelNpIdeal.τ).loc Cert.KernelNpIdeal.main_arg2))
      ∧ r.2.sem = fun _ => 0)

def quiescent_ReferenceNpIdeal [hReferenceNpIdeal : Cert.ReferenceNpIdeal.Facts] : Prop :=
  ∀ (m : (ℓ : Loc Cert.ReferenceNpIdeal.nD Cert.ReferenceNpIdeal.τ Cert.ReferenceNpIdeal.sig) → Buf (Elt Ideal) ℓ) (g : Dev Cert.ReferenceNpIdeal.nD → PrngReg), Pre_ReferenceNpIdeal m →
    θ_run (Cert.ReferenceNpIdeal.defs (F := Ideal)) (onTc (τ := Cert.ReferenceNpIdeal.τ) (Cert.ReferenceNpIdeal.main (F := Ideal))) ⟨m, fun _ => 0, g⟩ (fun r => (∀ c : Dev Cert.ReferenceNpIdeal.nD,
      r.2.mem ((c.tc : Thread Cert.ReferenceNpIdeal.nD Cert.ReferenceNpIdeal.τ).loc Cert.ReferenceNpIdeal.main_arg0) = m ((c.tc : Thread Cert.ReferenceNpIdeal.nD Cert.ReferenceNpIdeal.τ).loc Cert.ReferenceNpIdeal.main_arg0)
      ∧ r.2.mem ((c.tc : Thread Cert.ReferenceNpIdeal.nD Cert.ReferenceNpIdeal.τ).loc Cert.ReferenceNpIdeal.main_arg1) = m ((c.tc : Thread Cert.ReferenceNpIdeal.nD Cert.ReferenceNpIdeal.τ).loc Cert.ReferenceNpIdeal.main_arg1)
      ∧ r.2.mem ((c.tc : Thread Cert.ReferenceNpIdeal.nD Cert.ReferenceNpIdeal.τ).loc Cert.ReferenceNpIdeal.main_arg2) = m ((c.tc : Thread Cert.ReferenceNpIdeal.nD Cert.ReferenceNpIdeal.τ).loc Cert.ReferenceNpIdeal.main_arg2))
      ∧ r.2.sem = fun _ => 0)

def quiescent_KernelCols [hKernelCols : Cert.KernelCols.Facts] : Prop :=
  ∀ (m : (ℓ : Loc Cert.KernelCols.nD Cert.KernelCols.τ Cert.KernelCols.sig) → Buf (Elt Bits) ℓ) (g : Dev Cert.KernelCols.nD → PrngReg), Pre_KernelCols m →
    θ_run (Cert.KernelCols.defs (F := Bits)) (onTc (τ := Cert.KernelCols.τ) (Cert.KernelCols.main (F := Bits))) ⟨m, fun _ => 0, g⟩ (fun r => (∀ c : Dev Cert.KernelCols.nD,
      r.2.mem ((c.tc : Thread Cert.KernelCols.nD Cert.KernelCols.τ).loc Cert.KernelCols.main_arg0) = m ((c.tc : Thread Cert.KernelCols.nD Cert.KernelCols.τ).loc Cert.KernelCols.main_arg0)
      ∧ r.2.mem ((c.tc : Thread Cert.KernelCols.nD Cert.KernelCols.τ).loc Cert.KernelCols.main_arg1) = m ((c.tc : Thread Cert.KernelCols.nD Cert.KernelCols.τ).loc Cert.KernelCols.main_arg1))
      ∧ r.2.sem = fun _ => 0)

def quiescent_KernelColsIdeal [hKernelColsIdeal : Cert.KernelColsIdeal.Facts] : Prop :=
  ∀ (m : (ℓ : Loc Cert.KernelColsIdeal.nD Cert.KernelColsIdeal.τ Cert.KernelColsIdeal.sig) → Buf (Elt Ideal) ℓ) (g : Dev Cert.KernelColsIdeal.nD → PrngReg), Pre_KernelColsIdeal m →
    θ_run (Cert.KernelColsIdeal.defs (F := Ideal)) (onTc (τ := Cert.KernelColsIdeal.τ) (Cert.KernelColsIdeal.main (F := Ideal))) ⟨m, fun _ => 0, g⟩ (fun r => (∀ c : Dev Cert.KernelColsIdeal.nD,
      r.2.mem ((c.tc : Thread Cert.KernelColsIdeal.nD Cert.KernelColsIdeal.τ).loc Cert.KernelColsIdeal.main_arg0) = m ((c.tc : Thread Cert.KernelColsIdeal.nD Cert.KernelColsIdeal.τ).loc Cert.KernelColsIdeal.main_arg0)
      ∧ r.2.mem ((c.tc : Thread Cert.KernelColsIdeal.nD Cert.KernelColsIdeal.τ).loc Cert.KernelColsIdeal.main_arg1) = m ((c.tc : Thread Cert.KernelColsIdeal.nD Cert.KernelColsIdeal.τ).loc Cert.KernelColsIdeal.main_arg1))
      ∧ r.2.sem = fun _ => 0)

def quiescent_ReferenceColsIdeal [hReferenceColsIdeal : Cert.ReferenceColsIdeal.Facts] : Prop :=
  ∀ (m : (ℓ : Loc Cert.ReferenceColsIdeal.nD Cert.ReferenceColsIdeal.τ Cert.ReferenceColsIdeal.sig) → Buf (Elt Ideal) ℓ) (g : Dev Cert.ReferenceColsIdeal.nD → PrngReg), Pre_ReferenceColsIdeal m →
    θ_run (Cert.ReferenceColsIdeal.defs (F := Ideal)) (onTc (τ := Cert.ReferenceColsIdeal.τ) (Cert.ReferenceColsIdeal.main (F := Ideal))) ⟨m, fun _ => 0, g⟩ (fun r => (∀ c : Dev Cert.ReferenceColsIdeal.nD,
      r.2.mem ((c.tc : Thread Cert.ReferenceColsIdeal.nD Cert.ReferenceColsIdeal.τ).loc Cert.ReferenceColsIdeal.main_arg0) = m ((c.tc : Thread Cert.ReferenceColsIdeal.nD Cert.ReferenceColsIdeal.τ).loc Cert.ReferenceColsIdeal.main_arg0)
      ∧ r.2.mem ((c.tc : Thread Cert.ReferenceColsIdeal.nD Cert.ReferenceColsIdeal.τ).loc Cert.ReferenceColsIdeal.main_arg1) = m ((c.tc : Thread Cert.ReferenceColsIdeal.nD Cert.ReferenceColsIdeal.τ).loc Cert.ReferenceColsIdeal.main_arg1))
      ∧ r.2.sem = fun _ => 0)

def quiescent_KernelAtb [hKernelAtb : Cert.KernelAtb.Facts] : Prop :=
  ∀ (m : (ℓ : Loc Cert.KernelAtb.nD Cert.KernelAtb.τ Cert.KernelAtb.sig) → Buf (Elt Bits) ℓ) (g : Dev Cert.KernelAtb.nD → PrngReg), Pre_KernelAtb m →
    θ_run (Cert.KernelAtb.defs (F := Bits)) (onTc (τ := Cert.KernelAtb.τ) (Cert.KernelAtb.main (F := Bits))) ⟨m, fun _ => 0, g⟩ (fun r => (∀ c : Dev Cert.KernelAtb.nD,
      r.2.mem ((c.tc : Thread Cert.KernelAtb.nD Cert.KernelAtb.τ).loc Cert.KernelAtb.main_arg0) = m ((c.tc : Thread Cert.KernelAtb.nD Cert.KernelAtb.τ).loc Cert.KernelAtb.main_arg0)
      ∧ r.2.mem ((c.tc : Thread Cert.KernelAtb.nD Cert.KernelAtb.τ).loc Cert.KernelAtb.main_arg1) = m ((c.tc : Thread Cert.KernelAtb.nD Cert.KernelAtb.τ).loc Cert.KernelAtb.main_arg1))
      ∧ r.2.sem = fun _ => 0)

def quiescent_KernelAtbIdeal [hKernelAtbIdeal : Cert.KernelAtbIdeal.Facts] : Prop :=
  ∀ (m : (ℓ : Loc Cert.KernelAtbIdeal.nD Cert.KernelAtbIdeal.τ Cert.KernelAtbIdeal.sig) → Buf (Elt Ideal) ℓ) (g : Dev Cert.KernelAtbIdeal.nD → PrngReg), Pre_KernelAtbIdeal m →
    θ_run (Cert.KernelAtbIdeal.defs (F := Ideal)) (onTc (τ := Cert.KernelAtbIdeal.τ) (Cert.KernelAtbIdeal.main (F := Ideal))) ⟨m, fun _ => 0, g⟩ (fun r => (∀ c : Dev Cert.KernelAtbIdeal.nD,
      r.2.mem ((c.tc : Thread Cert.KernelAtbIdeal.nD Cert.KernelAtbIdeal.τ).loc Cert.KernelAtbIdeal.main_arg0) = m ((c.tc : Thread Cert.KernelAtbIdeal.nD Cert.KernelAtbIdeal.τ).loc Cert.KernelAtbIdeal.main_arg0)
      ∧ r.2.mem ((c.tc : Thread Cert.KernelAtbIdeal.nD Cert.KernelAtbIdeal.τ).loc Cert.KernelAtbIdeal.main_arg1) = m ((c.tc : Thread Cert.KernelAtbIdeal.nD Cert.KernelAtbIdeal.τ).loc Cert.KernelAtbIdeal.main_arg1))
      ∧ r.2.sem = fun _ => 0)

def quiescent_ReferenceAtbIdeal [hReferenceAtbIdeal : Cert.ReferenceAtbIdeal.Facts] : Prop :=
  ∀ (m : (ℓ : Loc Cert.ReferenceAtbIdeal.nD Cert.ReferenceAtbIdeal.τ Cert.ReferenceAtbIdeal.sig) → Buf (Elt Ideal) ℓ) (g : Dev Cert.ReferenceAtbIdeal.nD → PrngReg), Pre_ReferenceAtbIdeal m →
    θ_run (Cert.ReferenceAtbIdeal.defs (F := Ideal)) (onTc (τ := Cert.ReferenceAtbIdeal.τ) (Cert.ReferenceAtbIdeal.main (F := Ideal))) ⟨m, fun _ => 0, g⟩ (fun r => (∀ c : Dev Cert.ReferenceAtbIdeal.nD,
      r.2.mem ((c.tc : Thread Cert.ReferenceAtbIdeal.nD Cert.ReferenceAtbIdeal.τ).loc Cert.ReferenceAtbIdeal.main_arg0) = m ((c.tc : Thread Cert.ReferenceAtbIdeal.nD Cert.ReferenceAtbIdeal.τ).loc Cert.ReferenceAtbIdeal.main_arg0)
      ∧ r.2.mem ((c.tc : Thread Cert.ReferenceAtbIdeal.nD Cert.ReferenceAtbIdeal.τ).loc Cert.ReferenceAtbIdeal.main_arg1) = m ((c.tc : Thread Cert.ReferenceAtbIdeal.nD Cert.ReferenceAtbIdeal.τ).loc Cert.ReferenceAtbIdeal.main_arg1))
      ∧ r.2.sem = fun _ => 0)

def quiescent_KernelPcs [hKernelPcs : Cert.KernelPcs.Facts] : Prop :=
  ∀ (m : (ℓ : Loc Cert.KernelPcs.nD Cert.KernelPcs.τ Cert.KernelPcs.sig) → Buf (Elt Bits) ℓ) (g : Dev Cert.KernelPcs.nD → PrngReg), Pre_KernelPcs m →
    θ_run (Cert.KernelPcs.defs (F := Bits)) (onTc (τ := Cert.KernelPcs.τ) (Cert.KernelPcs.main (F := Bits))) ⟨m, fun _ => 0, g⟩ (fun r => (∀ c : Dev Cert.KernelPcs.nD,
      r.2.mem ((c.tc : Thread Cert.KernelPcs.nD Cert.KernelPcs.τ).loc Cert.KernelPcs.main_arg0) = m ((c.tc : Thread Cert.KernelPcs.nD Cert.KernelPcs.τ).loc Cert.KernelPcs.main_arg0)
      ∧ r.2.mem ((c.tc : Thread Cert.KernelPcs.nD Cert.KernelPcs.τ).loc Cert.KernelPcs.main_arg1) = m ((c.tc : Thread Cert.KernelPcs.nD Cert.KernelPcs.τ).loc Cert.KernelPcs.main_arg1)
      ∧ r.2.mem ((c.tc : Thread Cert.KernelPcs.nD Cert.KernelPcs.τ).loc Cert.KernelPcs.main_arg2) = m ((c.tc : Thread Cert.KernelPcs.nD Cert.KernelPcs.τ).loc Cert.KernelPcs.main_arg2)
      ∧ r.2.mem ((c.tc : Thread Cert.KernelPcs.nD Cert.KernelPcs.τ).loc Cert.KernelPcs.main_arg3) = m ((c.tc : Thread Cert.KernelPcs.nD Cert.KernelPcs.τ).loc Cert.KernelPcs.main_arg3)
      ∧ r.2.mem ((c.tc : Thread Cert.KernelPcs.nD Cert.KernelPcs.τ).loc Cert.KernelPcs.main_arg4) = m ((c.tc : Thread Cert.KernelPcs.nD Cert.KernelPcs.τ).loc Cert.KernelPcs.main_arg4)
      ∧ r.2.mem ((c.tc : Thread Cert.KernelPcs.nD Cert.KernelPcs.τ).loc Cert.KernelPcs.main_arg5) = m ((c.tc : Thread Cert.KernelPcs.nD Cert.KernelPcs.τ).loc Cert.KernelPcs.main_arg5)
      ∧ r.2.mem ((c.tc : Thread Cert.KernelPcs.nD Cert.KernelPcs.τ).loc Cert.KernelPcs.main_arg6) = m ((c.tc : Thread Cert.KernelPcs.nD Cert.KernelPcs.τ).loc Cert.KernelPcs.main_arg6)
      ∧ r.2.mem ((c.tc : Thread Cert.KernelPcs.nD Cert.KernelPcs.τ).loc Cert.KernelPcs.main_arg7) = m ((c.tc : Thread Cert.KernelPcs.nD Cert.KernelPcs.τ).loc Cert.KernelPcs.main_arg7))
      ∧ r.2.sem = fun _ => 0)

def quiescent_KernelPcsIdeal [hKernelPcsIdeal : Cert.KernelPcsIdeal.Facts] : Prop :=
  ∀ (m : (ℓ : Loc Cert.KernelPcsIdeal.nD Cert.KernelPcsIdeal.τ Cert.KernelPcsIdeal.sig) → Buf (Elt Ideal) ℓ) (g : Dev Cert.KernelPcsIdeal.nD → PrngReg), Pre_KernelPcsIdeal m →
    θ_run (Cert.KernelPcsIdeal.defs (F := Ideal)) (onTc (τ := Cert.KernelPcsIdeal.τ) (Cert.KernelPcsIdeal.main (F := Ideal))) ⟨m, fun _ => 0, g⟩ (fun r => (∀ c : Dev Cert.KernelPcsIdeal.nD,
      r.2.mem ((c.tc : Thread Cert.KernelPcsIdeal.nD Cert.KernelPcsIdeal.τ).loc Cert.KernelPcsIdeal.main_arg0) = m ((c.tc : Thread Cert.KernelPcsIdeal.nD Cert.KernelPcsIdeal.τ).loc Cert.KernelPcsIdeal.main_arg0)
      ∧ r.2.mem ((c.tc : Thread Cert.KernelPcsIdeal.nD Cert.KernelPcsIdeal.τ).loc Cert.KernelPcsIdeal.main_arg1) = m ((c.tc : Thread Cert.KernelPcsIdeal.nD Cert.KernelPcsIdeal.τ).loc Cert.KernelPcsIdeal.main_arg1)
      ∧ r.2.mem ((c.tc : Thread Cert.KernelPcsIdeal.nD Cert.KernelPcsIdeal.τ).loc Cert.KernelPcsIdeal.main_arg2) = m ((c.tc : Thread Cert.KernelPcsIdeal.nD Cert.KernelPcsIdeal.τ).loc Cert.KernelPcsIdeal.main_arg2)
      ∧ r.2.mem ((c.tc : Thread Cert.KernelPcsIdeal.nD Cert.KernelPcsIdeal.τ).loc Cert.KernelPcsIdeal.main_arg3) = m ((c.tc : Thread Cert.KernelPcsIdeal.nD Cert.KernelPcsIdeal.τ).loc Cert.KernelPcsIdeal.main_arg3)
      ∧ r.2.mem ((c.tc : Thread Cert.KernelPcsIdeal.nD Cert.KernelPcsIdeal.τ).loc Cert.KernelPcsIdeal.main_arg4) = m ((c.tc : Thread Cert.KernelPcsIdeal.nD Cert.KernelPcsIdeal.τ).loc Cert.KernelPcsIdeal.main_arg4)
      ∧ r.2.mem ((c.tc : Thread Cert.KernelPcsIdeal.nD Cert.KernelPcsIdeal.τ).loc Cert.KernelPcsIdeal.main_arg5) = m ((c.tc : Thread Cert.KernelPcsIdeal.nD Cert.KernelPcsIdeal.τ).loc Cert.KernelPcsIdeal.main_arg5)
      ∧ r.2.mem ((c.tc : Thread Cert.KernelPcsIdeal.nD Cert.KernelPcsIdeal.τ).loc Cert.KernelPcsIdeal.main_arg6) = m ((c.tc : Thread Cert.KernelPcsIdeal.nD Cert.KernelPcsIdeal.τ).loc Cert.KernelPcsIdeal.main_arg6)
      ∧ r.2.mem ((c.tc : Thread Cert.KernelPcsIdeal.nD Cert.KernelPcsIdeal.τ).loc Cert.KernelPcsIdeal.main_arg7) = m ((c.tc : Thread Cert.KernelPcsIdeal.nD Cert.KernelPcsIdeal.τ).loc Cert.KernelPcsIdeal.main_arg7))
      ∧ r.2.sem = fun _ => 0)

def quiescent_ReferencePcsIdeal [hReferencePcsIdeal : Cert.ReferencePcsIdeal.Facts] : Prop :=
  ∀ (m : (ℓ : Loc Cert.ReferencePcsIdeal.nD Cert.ReferencePcsIdeal.τ Cert.ReferencePcsIdeal.sig) → Buf (Elt Ideal) ℓ) (g : Dev Cert.ReferencePcsIdeal.nD → PrngReg), Pre_ReferencePcsIdeal m →
    θ_run (Cert.ReferencePcsIdeal.defs (F := Ideal)) (onTc (τ := Cert.ReferencePcsIdeal.τ) (Cert.ReferencePcsIdeal.main (F := Ideal))) ⟨m, fun _ => 0, g⟩ (fun r => (∀ c : Dev Cert.ReferencePcsIdeal.nD,
      r.2.mem ((c.tc : Thread Cert.ReferencePcsIdeal.nD Cert.ReferencePcsIdeal.τ).loc Cert.ReferencePcsIdeal.main_arg0) = m ((c.tc : Thread Cert.ReferencePcsIdeal.nD Cert.ReferencePcsIdeal.τ).loc Cert.ReferencePcsIdeal.main_arg0)
      ∧ r.2.mem ((c.tc : Thread Cert.ReferencePcsIdeal.nD Cert.ReferencePcsIdeal.τ).loc Cert.ReferencePcsIdeal.main_arg1) = m ((c.tc : Thread Cert.ReferencePcsIdeal.nD Cert.ReferencePcsIdeal.τ).loc Cert.ReferencePcsIdeal.main_arg1)
      ∧ r.2.mem ((c.tc : Thread Cert.ReferencePcsIdeal.nD Cert.ReferencePcsIdeal.τ).loc Cert.ReferencePcsIdeal.main_arg2) = m ((c.tc : Thread Cert.ReferencePcsIdeal.nD Cert.ReferencePcsIdeal.τ).loc Cert.ReferencePcsIdeal.main_arg2)
      ∧ r.2.mem ((c.tc : Thread Cert.ReferencePcsIdeal.nD Cert.ReferencePcsIdeal.τ).loc Cert.ReferencePcsIdeal.main_arg3) = m ((c.tc : Thread Cert.ReferencePcsIdeal.nD Cert.ReferencePcsIdeal.τ).loc Cert.ReferencePcsIdeal.main_arg3)
      ∧ r.2.mem ((c.tc : Thread Cert.ReferencePcsIdeal.nD Cert.ReferencePcsIdeal.τ).loc Cert.ReferencePcsIdeal.main_arg4) = m ((c.tc : Thread Cert.ReferencePcsIdeal.nD Cert.ReferencePcsIdeal.τ).loc Cert.ReferencePcsIdeal.main_arg4)
      ∧ r.2.mem ((c.tc : Thread Cert.ReferencePcsIdeal.nD Cert.ReferencePcsIdeal.τ).loc Cert.ReferencePcsIdeal.main_arg5) = m ((c.tc : Thread Cert.ReferencePcsIdeal.nD Cert.ReferencePcsIdeal.τ).loc Cert.ReferencePcsIdeal.main_arg5)
      ∧ r.2.mem ((c.tc : Thread Cert.ReferencePcsIdeal.nD Cert.ReferencePcsIdeal.τ).loc Cert.ReferencePcsIdeal.main_arg6) = m ((c.tc : Thread Cert.ReferencePcsIdeal.nD Cert.ReferencePcsIdeal.τ).loc Cert.ReferencePcsIdeal.main_arg6)
      ∧ r.2.mem ((c.tc : Thread Cert.ReferencePcsIdeal.nD Cert.ReferencePcsIdeal.τ).loc Cert.ReferencePcsIdeal.main_arg7) = m ((c.tc : Thread Cert.ReferencePcsIdeal.nD Cert.ReferencePcsIdeal.τ).loc Cert.ReferencePcsIdeal.main_arg7))
      ∧ r.2.sem = fun _ => 0)

def quiescent_KernelGains [hKernelGains : Cert.KernelGains.Facts] : Prop :=
  ∀ (m : (ℓ : Loc Cert.KernelGains.nD Cert.KernelGains.τ Cert.KernelGains.sig) → Buf (Elt Bits) ℓ) (g : Dev Cert.KernelGains.nD → PrngReg), Pre_KernelGains m →
    θ_run (Cert.KernelGains.defs (F := Bits)) (onTc (τ := Cert.KernelGains.τ) (Cert.KernelGains.main (F := Bits))) ⟨m, fun _ => 0, g⟩ (fun r => (∀ c : Dev Cert.KernelGains.nD,
      r.2.mem ((c.tc : Thread Cert.KernelGains.nD Cert.KernelGains.τ).loc Cert.KernelGains.main_arg0) = m ((c.tc : Thread Cert.KernelGains.nD Cert.KernelGains.τ).loc Cert.KernelGains.main_arg0)
      ∧ r.2.mem ((c.tc : Thread Cert.KernelGains.nD Cert.KernelGains.τ).loc Cert.KernelGains.main_arg1) = m ((c.tc : Thread Cert.KernelGains.nD Cert.KernelGains.τ).loc Cert.KernelGains.main_arg1)
      ∧ r.2.mem ((c.tc : Thread Cert.KernelGains.nD Cert.KernelGains.τ).loc Cert.KernelGains.main_arg2) = m ((c.tc : Thread Cert.KernelGains.nD Cert.KernelGains.τ).loc Cert.KernelGains.main_arg2)
      ∧ r.2.mem ((c.tc : Thread Cert.KernelGains.nD Cert.KernelGains.τ).loc Cert.KernelGains.main_arg3) = m ((c.tc : Thread Cert.KernelGains.nD Cert.KernelGains.τ).loc Cert.KernelGains.main_arg3)
      ∧ r.2.mem ((c.tc : Thread Cert.KernelGains.nD Cert.KernelGains.τ).loc Cert.KernelGains.main_arg4) = m ((c.tc : Thread Cert.KernelGains.nD Cert.KernelGains.τ).loc Cert.KernelGains.main_arg4)
      ∧ r.2.mem ((c.tc : Thread Cert.KernelGains.nD Cert.KernelGains.τ).loc Cert.KernelGains.main_arg5) = m ((c.tc : Thread Cert.KernelGains.nD Cert.KernelGains.τ).loc Cert.KernelGains.main_arg5)
      ∧ r.2.mem ((c.tc : Thread Cert.KernelGains.nD Cert.KernelGains.τ).loc Cert.KernelGains.main_arg6) = m ((c.tc : Thread Cert.KernelGains.nD Cert.KernelGains.τ).loc Cert.KernelGains.main_arg6)
      ∧ r.2.mem ((c.tc : Thread Cert.KernelGains.nD Cert.KernelGains.τ).loc Cert.KernelGains.main_arg7) = m ((c.tc : Thread Cert.KernelGains.nD Cert.KernelGains.τ).loc Cert.KernelGains.main_arg7)
      ∧ r.2.mem ((c.tc : Thread Cert.KernelGains.nD Cert.KernelGains.τ).loc Cert.KernelGains.main_arg8) = m ((c.tc : Thread Cert.KernelGains.nD Cert.KernelGains.τ).loc Cert.KernelGains.main_arg8)
      ∧ r.2.mem ((c.tc : Thread Cert.KernelGains.nD Cert.KernelGains.τ).loc Cert.KernelGains.main_arg9) = m ((c.tc : Thread Cert.KernelGains.nD Cert.KernelGains.τ).loc Cert.KernelGains.main_arg9))
      ∧ r.2.sem = fun _ => 0)

def quiescent_KernelGainsIdeal [hKernelGainsIdeal : Cert.KernelGainsIdeal.Facts] : Prop :=
  ∀ (m : (ℓ : Loc Cert.KernelGainsIdeal.nD Cert.KernelGainsIdeal.τ Cert.KernelGainsIdeal.sig) → Buf (Elt Ideal) ℓ) (g : Dev Cert.KernelGainsIdeal.nD → PrngReg), Pre_KernelGainsIdeal m →
    θ_run (Cert.KernelGainsIdeal.defs (F := Ideal)) (onTc (τ := Cert.KernelGainsIdeal.τ) (Cert.KernelGainsIdeal.main (F := Ideal))) ⟨m, fun _ => 0, g⟩ (fun r => (∀ c : Dev Cert.KernelGainsIdeal.nD,
      r.2.mem ((c.tc : Thread Cert.KernelGainsIdeal.nD Cert.KernelGainsIdeal.τ).loc Cert.KernelGainsIdeal.main_arg0) = m ((c.tc : Thread Cert.KernelGainsIdeal.nD Cert.KernelGainsIdeal.τ).loc Cert.KernelGainsIdeal.main_arg0)
      ∧ r.2.mem ((c.tc : Thread Cert.KernelGainsIdeal.nD Cert.KernelGainsIdeal.τ).loc Cert.KernelGainsIdeal.main_arg1) = m ((c.tc : Thread Cert.KernelGainsIdeal.nD Cert.KernelGainsIdeal.τ).loc Cert.KernelGainsIdeal.main_arg1)
      ∧ r.2.mem ((c.tc : Thread Cert.KernelGainsIdeal.nD Cert.KernelGainsIdeal.τ).loc Cert.KernelGainsIdeal.main_arg2) = m ((c.tc : Thread Cert.KernelGainsIdeal.nD Cert.KernelGainsIdeal.τ).loc Cert.KernelGainsIdeal.main_arg2)
      ∧ r.2.mem ((c.tc : Thread Cert.KernelGainsIdeal.nD Cert.KernelGainsIdeal.τ).loc Cert.KernelGainsIdeal.main_arg3) = m ((c.tc : Thread Cert.KernelGainsIdeal.nD Cert.KernelGainsIdeal.τ).loc Cert.KernelGainsIdeal.main_arg3)
      ∧ r.2.mem ((c.tc : Thread Cert.KernelGainsIdeal.nD Cert.KernelGainsIdeal.τ).loc Cert.KernelGainsIdeal.main_arg4) = m ((c.tc : Thread Cert.KernelGainsIdeal.nD Cert.KernelGainsIdeal.τ).loc Cert.KernelGainsIdeal.main_arg4)
      ∧ r.2.mem ((c.tc : Thread Cert.KernelGainsIdeal.nD Cert.KernelGainsIdeal.τ).loc Cert.KernelGainsIdeal.main_arg5) = m ((c.tc : Thread Cert.KernelGainsIdeal.nD Cert.KernelGainsIdeal.τ).loc Cert.KernelGainsIdeal.main_arg5)
      ∧ r.2.mem ((c.tc : Thread Cert.KernelGainsIdeal.nD Cert.KernelGainsIdeal.τ).loc Cert.KernelGainsIdeal.main_arg6) = m ((c.tc : Thread Cert.KernelGainsIdeal.nD Cert.KernelGainsIdeal.τ).loc Cert.KernelGainsIdeal.main_arg6)
      ∧ r.2.mem ((c.tc : Thread Cert.KernelGainsIdeal.nD Cert.KernelGainsIdeal.τ).loc Cert.KernelGainsIdeal.main_arg7) = m ((c.tc : Thread Cert.KernelGainsIdeal.nD Cert.KernelGainsIdeal.τ).loc Cert.KernelGainsIdeal.main_arg7)
      ∧ r.2.mem ((c.tc : Thread Cert.KernelGainsIdeal.nD Cert.KernelGainsIdeal.τ).loc Cert.KernelGainsIdeal.main_arg8) = m ((c.tc : Thread Cert.KernelGainsIdeal.nD Cert.KernelGainsIdeal.τ).loc Cert.KernelGainsIdeal.main_arg8)
      ∧ r.2.mem ((c.tc : Thread Cert.KernelGainsIdeal.nD Cert.KernelGainsIdeal.τ).loc Cert.KernelGainsIdeal.main_arg9) = m ((c.tc : Thread Cert.KernelGainsIdeal.nD Cert.KernelGainsIdeal.τ).loc Cert.KernelGainsIdeal.main_arg9))
      ∧ r.2.sem = fun _ => 0)

def quiescent_ReferenceGainsIdeal [hReferenceGainsIdeal : Cert.ReferenceGainsIdeal.Facts] : Prop :=
  ∀ (m : (ℓ : Loc Cert.ReferenceGainsIdeal.nD Cert.ReferenceGainsIdeal.τ Cert.ReferenceGainsIdeal.sig) → Buf (Elt Ideal) ℓ) (g : Dev Cert.ReferenceGainsIdeal.nD → PrngReg), Pre_ReferenceGainsIdeal m →
    θ_run (Cert.ReferenceGainsIdeal.defs (F := Ideal)) (onTc (τ := Cert.ReferenceGainsIdeal.τ) (Cert.ReferenceGainsIdeal.main (F := Ideal))) ⟨m, fun _ => 0, g⟩ (fun r => (∀ c : Dev Cert.ReferenceGainsIdeal.nD,
      r.2.mem ((c.tc : Thread Cert.ReferenceGainsIdeal.nD Cert.ReferenceGainsIdeal.τ).loc Cert.ReferenceGainsIdeal.main_arg0) = m ((c.tc : Thread Cert.ReferenceGainsIdeal.nD Cert.ReferenceGainsIdeal.τ).loc Cert.ReferenceGainsIdeal.main_arg0)
      ∧ r.2.mem ((c.tc : Thread Cert.ReferenceGainsIdeal.nD Cert.ReferenceGainsIdeal.τ).loc Cert.ReferenceGainsIdeal.main_arg1) = m ((c.tc : Thread Cert.ReferenceGainsIdeal.nD Cert.ReferenceGainsIdeal.τ).loc Cert.ReferenceGainsIdeal.main_arg1)
      ∧ r.2.mem ((c.tc : Thread Cert.ReferenceGainsIdeal.nD Cert.ReferenceGainsIdeal.τ).loc Cert.ReferenceGainsIdeal.main_arg2) = m ((c.tc : Thread Cert.ReferenceGainsIdeal.nD Cert.ReferenceGainsIdeal.τ).loc Cert.ReferenceGainsIdeal.main_arg2)
      ∧ r.2.mem ((c.tc : Thread Cert.ReferenceGainsIdeal.nD Cert.ReferenceGainsIdeal.τ).loc Cert.ReferenceGainsIdeal.main_arg3) = m ((c.tc : Thread Cert.ReferenceGainsIdeal.nD Cert.ReferenceGainsIdeal.τ).loc Cert.ReferenceGainsIdeal.main_arg3)
      ∧ r.2.mem ((c.tc : Thread Cert.ReferenceGainsIdeal.nD Cert.ReferenceGainsIdeal.τ).loc Cert.ReferenceGainsIdeal.main_arg4) = m ((c.tc : Thread Cert.ReferenceGainsIdeal.nD Cert.ReferenceGainsIdeal.τ).loc Cert.ReferenceGainsIdeal.main_arg4)
      ∧ r.2.mem ((c.tc : Thread Cert.ReferenceGainsIdeal.nD Cert.ReferenceGainsIdeal.τ).loc Cert.ReferenceGainsIdeal.main_arg5) = m ((c.tc : Thread Cert.ReferenceGainsIdeal.nD Cert.ReferenceGainsIdeal.τ).loc Cert.ReferenceGainsIdeal.main_arg5)
      ∧ r.2.mem ((c.tc : Thread Cert.ReferenceGainsIdeal.nD Cert.ReferenceGainsIdeal.τ).loc Cert.ReferenceGainsIdeal.main_arg6) = m ((c.tc : Thread Cert.ReferenceGainsIdeal.nD Cert.ReferenceGainsIdeal.τ).loc Cert.ReferenceGainsIdeal.main_arg6)
      ∧ r.2.mem ((c.tc : Thread Cert.ReferenceGainsIdeal.nD Cert.ReferenceGainsIdeal.τ).loc Cert.ReferenceGainsIdeal.main_arg7) = m ((c.tc : Thread Cert.ReferenceGainsIdeal.nD Cert.ReferenceGainsIdeal.τ).loc Cert.ReferenceGainsIdeal.main_arg7)
      ∧ r.2.mem ((c.tc : Thread Cert.ReferenceGainsIdeal.nD Cert.ReferenceGainsIdeal.τ).loc Cert.ReferenceGainsIdeal.main_arg8) = m ((c.tc : Thread Cert.ReferenceGainsIdeal.nD Cert.ReferenceGainsIdeal.τ).loc Cert.ReferenceGainsIdeal.main_arg8)
      ∧ r.2.mem ((c.tc : Thread Cert.ReferenceGainsIdeal.nD Cert.ReferenceGainsIdeal.τ).loc Cert.ReferenceGainsIdeal.main_arg9) = m ((c.tc : Thread Cert.ReferenceGainsIdeal.nD Cert.ReferenceGainsIdeal.τ).loc Cert.ReferenceGainsIdeal.main_arg9))
      ∧ r.2.sem = fun _ => 0)

def quiescent_KernelUpd [hKernelUpd : Cert.KernelUpd.Facts] : Prop :=
  ∀ (m : (ℓ : Loc Cert.KernelUpd.nD Cert.KernelUpd.τ Cert.KernelUpd.sig) → Buf (Elt Bits) ℓ) (g : Dev Cert.KernelUpd.nD → PrngReg), Pre_KernelUpd m →
    θ_run (Cert.KernelUpd.defs (F := Bits)) (onTc (τ := Cert.KernelUpd.τ) (Cert.KernelUpd.main (F := Bits))) ⟨m, fun _ => 0, g⟩ (fun r => (∀ c : Dev Cert.KernelUpd.nD,
      r.2.mem ((c.tc : Thread Cert.KernelUpd.nD Cert.KernelUpd.τ).loc Cert.KernelUpd.main_arg0) = m ((c.tc : Thread Cert.KernelUpd.nD Cert.KernelUpd.τ).loc Cert.KernelUpd.main_arg0)
      ∧ r.2.mem ((c.tc : Thread Cert.KernelUpd.nD Cert.KernelUpd.τ).loc Cert.KernelUpd.main_arg1) = m ((c.tc : Thread Cert.KernelUpd.nD Cert.KernelUpd.τ).loc Cert.KernelUpd.main_arg1)
      ∧ r.2.mem ((c.tc : Thread Cert.KernelUpd.nD Cert.KernelUpd.τ).loc Cert.KernelUpd.main_arg2) = m ((c.tc : Thread Cert.KernelUpd.nD Cert.KernelUpd.τ).loc Cert.KernelUpd.main_arg2)
      ∧ r.2.mem ((c.tc : Thread Cert.KernelUpd.nD Cert.KernelUpd.τ).loc Cert.KernelUpd.main_arg3) = m ((c.tc : Thread Cert.KernelUpd.nD Cert.KernelUpd.τ).loc Cert.KernelUpd.main_arg3))
      ∧ r.2.sem = fun _ => 0)

def quiescent_KernelUpdIdeal [hKernelUpdIdeal : Cert.KernelUpdIdeal.Facts] : Prop :=
  ∀ (m : (ℓ : Loc Cert.KernelUpdIdeal.nD Cert.KernelUpdIdeal.τ Cert.KernelUpdIdeal.sig) → Buf (Elt Ideal) ℓ) (g : Dev Cert.KernelUpdIdeal.nD → PrngReg), Pre_KernelUpdIdeal m →
    θ_run (Cert.KernelUpdIdeal.defs (F := Ideal)) (onTc (τ := Cert.KernelUpdIdeal.τ) (Cert.KernelUpdIdeal.main (F := Ideal))) ⟨m, fun _ => 0, g⟩ (fun r => (∀ c : Dev Cert.KernelUpdIdeal.nD,
      r.2.mem ((c.tc : Thread Cert.KernelUpdIdeal.nD Cert.KernelUpdIdeal.τ).loc Cert.KernelUpdIdeal.main_arg0) = m ((c.tc : Thread Cert.KernelUpdIdeal.nD Cert.KernelUpdIdeal.τ).loc Cert.KernelUpdIdeal.main_arg0)
      ∧ r.2.mem ((c.tc : Thread Cert.KernelUpdIdeal.nD Cert.KernelUpdIdeal.τ).loc Cert.KernelUpdIdeal.main_arg1) = m ((c.tc : Thread Cert.KernelUpdIdeal.nD Cert.KernelUpdIdeal.τ).loc Cert.KernelUpdIdeal.main_arg1)
      ∧ r.2.mem ((c.tc : Thread Cert.KernelUpdIdeal.nD Cert.KernelUpdIdeal.τ).loc Cert.KernelUpdIdeal.main_arg2) = m ((c.tc : Thread Cert.KernelUpdIdeal.nD Cert.KernelUpdIdeal.τ).loc Cert.KernelUpdIdeal.main_arg2)
      ∧ r.2.mem ((c.tc : Thread Cert.KernelUpdIdeal.nD Cert.KernelUpdIdeal.τ).loc Cert.KernelUpdIdeal.main_arg3) = m ((c.tc : Thread Cert.KernelUpdIdeal.nD Cert.KernelUpdIdeal.τ).loc Cert.KernelUpdIdeal.main_arg3))
      ∧ r.2.sem = fun _ => 0)

def quiescent_ReferenceUpdIdeal [hReferenceUpdIdeal : Cert.ReferenceUpdIdeal.Facts] : Prop :=
  ∀ (m : (ℓ : Loc Cert.ReferenceUpdIdeal.nD Cert.ReferenceUpdIdeal.τ Cert.ReferenceUpdIdeal.sig) → Buf (Elt Ideal) ℓ) (g : Dev Cert.ReferenceUpdIdeal.nD → PrngReg), Pre_ReferenceUpdIdeal m →
    θ_run (Cert.ReferenceUpdIdeal.defs (F := Ideal)) (onTc (τ := Cert.ReferenceUpdIdeal.τ) (Cert.ReferenceUpdIdeal.main (F := Ideal))) ⟨m, fun _ => 0, g⟩ (fun r => (∀ c : Dev Cert.ReferenceUpdIdeal.nD,
      r.2.mem ((c.tc : Thread Cert.ReferenceUpdIdeal.nD Cert.ReferenceUpdIdeal.τ).loc Cert.ReferenceUpdIdeal.main_arg0) = m ((c.tc : Thread Cert.ReferenceUpdIdeal.nD Cert.ReferenceUpdIdeal.τ).loc Cert.ReferenceUpdIdeal.main_arg0)
      ∧ r.2.mem ((c.tc : Thread Cert.ReferenceUpdIdeal.nD Cert.ReferenceUpdIdeal.τ).loc Cert.ReferenceUpdIdeal.main_arg1) = m ((c.tc : Thread Cert.ReferenceUpdIdeal.nD Cert.ReferenceUpdIdeal.τ).loc Cert.ReferenceUpdIdeal.main_arg1)
      ∧ r.2.mem ((c.tc : Thread Cert.ReferenceUpdIdeal.nD Cert.ReferenceUpdIdeal.τ).loc Cert.ReferenceUpdIdeal.main_arg2) = m ((c.tc : Thread Cert.ReferenceUpdIdeal.nD Cert.ReferenceUpdIdeal.τ).loc Cert.ReferenceUpdIdeal.main_arg2)
      ∧ r.2.mem ((c.tc : Thread Cert.ReferenceUpdIdeal.nD Cert.ReferenceUpdIdeal.τ).loc Cert.ReferenceUpdIdeal.main_arg3) = m ((c.tc : Thread Cert.ReferenceUpdIdeal.nD Cert.ReferenceUpdIdeal.τ).loc Cert.ReferenceUpdIdeal.main_arg3))
      ∧ r.2.sem = fun _ => 0)

def quiescent_KernelBf [hKernelBf : Cert.KernelBf.Facts] : Prop :=
  ∀ (m : (ℓ : Loc Cert.KernelBf.nD Cert.KernelBf.τ Cert.KernelBf.sig) → Buf (Elt Bits) ℓ) (g : Dev Cert.KernelBf.nD → PrngReg), Pre_KernelBf m →
    θ_run (Cert.KernelBf.defs (F := Bits)) (onTc (τ := Cert.KernelBf.τ) (Cert.KernelBf.main (F := Bits))) ⟨m, fun _ => 0, g⟩ (fun r => (∀ c : Dev Cert.KernelBf.nD,
      r.2.mem ((c.tc : Thread Cert.KernelBf.nD Cert.KernelBf.τ).loc Cert.KernelBf.main_arg0) = m ((c.tc : Thread Cert.KernelBf.nD Cert.KernelBf.τ).loc Cert.KernelBf.main_arg0)
      ∧ r.2.mem ((c.tc : Thread Cert.KernelBf.nD Cert.KernelBf.τ).loc Cert.KernelBf.main_arg1) = m ((c.tc : Thread Cert.KernelBf.nD Cert.KernelBf.τ).loc Cert.KernelBf.main_arg1)
      ∧ r.2.mem ((c.tc : Thread Cert.KernelBf.nD Cert.KernelBf.τ).loc Cert.KernelBf.main_arg2) = m ((c.tc : Thread Cert.KernelBf.nD Cert.KernelBf.τ).loc Cert.KernelBf.main_arg2)
      ∧ r.2.mem ((c.tc : Thread Cert.KernelBf.nD Cert.KernelBf.τ).loc Cert.KernelBf.main_arg3) = m ((c.tc : Thread Cert.KernelBf.nD Cert.KernelBf.τ).loc Cert.KernelBf.main_arg3)
      ∧ r.2.mem ((c.tc : Thread Cert.KernelBf.nD Cert.KernelBf.τ).loc Cert.KernelBf.main_arg4) = m ((c.tc : Thread Cert.KernelBf.nD Cert.KernelBf.τ).loc Cert.KernelBf.main_arg4)
      ∧ r.2.mem ((c.tc : Thread Cert.KernelBf.nD Cert.KernelBf.τ).loc Cert.KernelBf.main_arg5) = m ((c.tc : Thread Cert.KernelBf.nD Cert.KernelBf.τ).loc Cert.KernelBf.main_arg5))
      ∧ r.2.sem = fun _ => 0)

def quiescent_KernelBfIdeal [hKernelBfIdeal : Cert.KernelBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg), Pre_KernelBfIdeal m →
    θ_run (Cert.KernelBfIdeal.defs (F := Ideal)) (onTc (τ := Cert.KernelBfIdeal.τ) (Cert.KernelBfIdeal.main (F := Ideal))) ⟨m, fun _ => 0, g⟩ (fun r => (∀ c : Dev Cert.KernelBfIdeal.nD,
      r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
      ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1)
      ∧ r.2.mem ((c.tc : Thread Cert.KernelBfIdeal.nD Cert.KernelBfIdeal.τ).loc Cert.KernelBfIdeal.main_arg2) = m ((c.tc : Thread Cert.KernelBfIdeal.nD Cert.KernelBfIdeal.τ).loc Cert.KernelBfIdeal.main_arg2)
      ∧ r.2.mem ((c.tc : Thread Cert.KernelBfIdeal.nD Cert.KernelBfIdeal.τ).loc Cert.KernelBfIdeal.main_arg3) = m ((c.tc : Thread Cert.KernelBfIdeal.nD Cert.KernelBfIdeal.τ).loc Cert.KernelBfIdeal.main_arg3)
      ∧ r.2.mem ((c.tc : Thread Cert.KernelBfIdeal.nD Cert.KernelBfIdeal.τ).loc Cert.KernelBfIdeal.main_arg4) = m ((c.tc : Thread Cert.KernelBfIdeal.nD Cert.KernelBfIdeal.τ).loc Cert.KernelBfIdeal.main_arg4)
      ∧ r.2.mem ((c.tc : Thread Cert.KernelBfIdeal.nD Cert.KernelBfIdeal.τ).loc Cert.KernelBfIdeal.main_arg5) = m ((c.tc : Thread Cert.KernelBfIdeal.nD Cert.KernelBfIdeal.τ).loc Cert.KernelBfIdeal.main_arg5))
      ∧ r.2.sem = fun _ => 0)

def quiescent_ReferenceBfIdeal [hReferenceBfIdeal : Cert.ReferenceBfIdeal.Facts] : Prop :=
  ∀ (m : (ℓ : Loc Cert.ReferenceBfIdeal.nD Cert.ReferenceBfIdeal.τ Cert.ReferenceBfIdeal.sig) → Buf (Elt Ideal) ℓ) (g : Dev Cert.ReferenceBfIdeal.nD → PrngReg), Pre_ReferenceBfIdeal m →
    θ_run (Cert.ReferenceBfIdeal.defs (F := Ideal)) (onTc (τ := Cert.ReferenceBfIdeal.τ) (Cert.ReferenceBfIdeal.main (F := Ideal))) ⟨m, fun _ => 0, g⟩ (fun r => (∀ c : Dev Cert.ReferenceBfIdeal.nD,
      r.2.mem ((c.tc : Thread Cert.ReferenceBfIdeal.nD Cert.ReferenceBfIdeal.τ).loc Cert.ReferenceBfIdeal.main_arg0) = m ((c.tc : Thread Cert.ReferenceBfIdeal.nD Cert.ReferenceBfIdeal.τ).loc Cert.ReferenceBfIdeal.main_arg0)
      ∧ r.2.mem ((c.tc : Thread Cert.ReferenceBfIdeal.nD Cert.ReferenceBfIdeal.τ).loc Cert.ReferenceBfIdeal.main_arg1) = m ((c.tc : Thread Cert.ReferenceBfIdeal.nD Cert.ReferenceBfIdeal.τ).loc Cert.ReferenceBfIdeal.main_arg1)
      ∧ r.2.mem ((c.tc : Thread Cert.ReferenceBfIdeal.nD Cert.ReferenceBfIdeal.τ).loc Cert.ReferenceBfIdeal.main_arg2) = m ((c.tc : Thread Cert.ReferenceBfIdeal.nD Cert.ReferenceBfIdeal.τ).loc Cert.ReferenceBfIdeal.main_arg2)
      ∧ r.2.mem ((c.tc : Thread Cert.ReferenceBfIdeal.nD Cert.ReferenceBfIdeal.τ).loc Cert.ReferenceBfIdeal.main_arg3) = m ((c.tc : Thread Cert.ReferenceBfIdeal.nD Cert.ReferenceBfIdeal.τ).loc Cert.ReferenceBfIdeal.main_arg3)
      ∧ r.2.mem ((c.tc : Thread Cert.ReferenceBfIdeal.nD Cert.ReferenceBfIdeal.τ).loc Cert.ReferenceBfIdeal.main_arg4) = m ((c.tc : Thread Cert.ReferenceBfIdeal.nD Cert.ReferenceBfIdeal.τ).loc Cert.ReferenceBfIdeal.main_arg4)
      ∧ r.2.mem ((c.tc : Thread Cert.ReferenceBfIdeal.nD Cert.ReferenceBfIdeal.τ).loc Cert.ReferenceBfIdeal.main_arg5) = m ((c.tc : Thread Cert.ReferenceBfIdeal.nD Cert.ReferenceBfIdeal.τ).loc Cert.ReferenceBfIdeal.main_arg5))
      ∧ r.2.sem = fun _ => 0)

def quiescent_KernelPs [hKernelPs : Cert.KernelPs.Facts] [hPre_a_core : Cert.Pre_a_core.Facts] : Prop :=
  ∀ (m : (ℓ : Loc Cert.KernelPs.nD Cert.KernelPs.τ Cert.KernelPs.sig) → Buf (Elt Bits) ℓ) (g : Dev Cert.KernelPs.nD → PrngReg), Pre_KernelPs m →
    θ_run (Cert.KernelPs.defs (F := Bits)) (onTc (τ := Cert.KernelPs.τ) (Cert.KernelPs.main (F := Bits))) ⟨m, fun _ => 0, g⟩ (fun r => (∀ c : Dev Cert.KernelPs.nD,
      r.2.mem ((c.tc : Thread Cert.KernelPs.nD Cert.KernelPs.τ).loc Cert.KernelPs.main_arg0) = m ((c.tc : Thread Cert.KernelPs.nD Cert.KernelPs.τ).loc Cert.KernelPs.main_arg0)
      ∧ r.2.mem ((c.tc : Thread Cert.KernelPs.nD Cert.KernelPs.τ).loc Cert.KernelPs.main_arg1) = m ((c.tc : Thread Cert.KernelPs.nD Cert.KernelPs.τ).loc Cert.KernelPs.main_arg1)
      ∧ r.2.mem ((c.tc : Thread Cert.KernelPs.nD Cert.KernelPs.τ).loc Cert.KernelPs.main_arg2) = m ((c.tc : Thread Cert.KernelPs.nD Cert.KernelPs.τ).loc Cert.KernelPs.main_arg2))
      ∧ r.2.sem = fun _ => 0)

def quiescent_KernelPsIdeal [hKernelPsIdeal : Cert.KernelPsIdeal.Facts] [hPre_a_core : Cert.Pre_a_core.Facts] : Prop :=
  ∀ (m : (ℓ : Loc Cert.KernelPsIdeal.nD Cert.KernelPsIdeal.τ Cert.KernelPsIdeal.sig) → Buf (Elt Ideal) ℓ) (g : Dev Cert.KernelPsIdeal.nD → PrngReg), Pre_KernelPsIdeal m →
    θ_run (Cert.KernelPsIdeal.defs (F := Ideal)) (onTc (τ := Cert.KernelPsIdeal.τ) (Cert.KernelPsIdeal.main (F := Ideal))) ⟨m, fun _ => 0, g⟩ (fun r => (∀ c : Dev Cert.KernelPsIdeal.nD,
      r.2.mem ((c.tc : Thread Cert.KernelPsIdeal.nD Cert.KernelPsIdeal.τ).loc Cert.KernelPsIdeal.main_arg0) = m ((c.tc : Thread Cert.KernelPsIdeal.nD Cert.KernelPsIdeal.τ).loc Cert.KernelPsIdeal.main_arg0)
      ∧ r.2.mem ((c.tc : Thread Cert.KernelPsIdeal.nD Cert.KernelPsIdeal.τ).loc Cert.KernelPsIdeal.main_arg1) = m ((c.tc : Thread Cert.KernelPsIdeal.nD Cert.KernelPsIdeal.τ).loc Cert.KernelPsIdeal.main_arg1)
      ∧ r.2.mem ((c.tc : Thread Cert.KernelPsIdeal.nD Cert.KernelPsIdeal.τ).loc Cert.KernelPsIdeal.main_arg2) = m ((c.tc : Thread Cert.KernelPsIdeal.nD Cert.KernelPsIdeal.τ).loc Cert.KernelPsIdeal.main_arg2))
      ∧ r.2.sem = fun _ => 0)

def quiescent_ReferencePsIdeal [hReferencePsIdeal : Cert.ReferencePsIdeal.Facts] : Prop :=
  ∀ (m : (ℓ : Loc Cert.ReferencePsIdeal.nD Cert.ReferencePsIdeal.τ Cert.ReferencePsIdeal.sig) → Buf (Elt Ideal) ℓ) (g : Dev Cert.ReferencePsIdeal.nD → PrngReg), Pre_ReferencePsIdeal m →
    θ_run (Cert.ReferencePsIdeal.defs (F := Ideal)) (onTc (τ := Cert.ReferencePsIdeal.τ) (Cert.ReferencePsIdeal.main (F := Ideal))) ⟨m, fun _ => 0, g⟩ (fun r => (∀ c : Dev Cert.ReferencePsIdeal.nD,
      r.2.mem ((c.tc : Thread Cert.ReferencePsIdeal.nD Cert.ReferencePsIdeal.τ).loc Cert.ReferencePsIdeal.main_arg0) = m ((c.tc : Thread Cert.ReferencePsIdeal.nD Cert.ReferencePsIdeal.τ).loc Cert.ReferencePsIdeal.main_arg0)
      ∧ r.2.mem ((c.tc : Thread Cert.ReferencePsIdeal.nD Cert.ReferencePsIdeal.τ).loc Cert.ReferencePsIdeal.main_arg1) = m ((c.tc : Thread Cert.ReferencePsIdeal.nD Cert.ReferencePsIdeal.τ).loc Cert.ReferencePsIdeal.main_arg1)
      ∧ r.2.mem ((c.tc : Thread Cert.ReferencePsIdeal.nD Cert.ReferencePsIdeal.τ).loc Cert.ReferencePsIdeal.main_arg2) = m ((c.tc : Thread Cert.ReferencePsIdeal.nD Cert.ReferencePsIdeal.τ).loc Cert.ReferencePsIdeal.main_arg2))
      ∧ r.2.sem = fun _ => 0)

def quiescent_ReferencePsIdeal_pre_a_core [hReferencePsIdeal : Cert.ReferencePsIdeal.Facts] [hPre_a_core : Cert.Pre_a_core.Facts] : Prop :=
  ∀ (m : (ℓ : Loc Cert.ReferencePsIdeal.nD Cert.ReferencePsIdeal.τ Cert.ReferencePsIdeal.sig) → Buf (Elt Ideal) ℓ) (g : Dev Cert.ReferencePsIdeal.nD → PrngReg), Pre_ReferencePsIdeal_a_core m →
    θ_run (Cert.ReferencePsIdeal.defs (F := Ideal)) (onTc (τ := Cert.ReferencePsIdeal.τ) (Cert.ReferencePsIdeal.main (F := Ideal))) ⟨m, fun _ => 0, g⟩ (fun r => (∀ c : Dev Cert.ReferencePsIdeal.nD,
      r.2.mem ((c.tc : Thread Cert.ReferencePsIdeal.nD Cert.ReferencePsIdeal.τ).loc Cert.ReferencePsIdeal.main_arg0) = m ((c.tc : Thread Cert.ReferencePsIdeal.nD Cert.ReferencePsIdeal.τ).loc Cert.ReferencePsIdeal.main_arg0)
      ∧ r.2.mem ((c.tc : Thread Cert.ReferencePsIdeal.nD Cert.ReferencePsIdeal.τ).loc Cert.ReferencePsIdeal.main_arg1) = m ((c.tc : Thread Cert.ReferencePsIdeal.nD Cert.ReferencePsIdeal.τ).loc Cert.ReferencePsIdeal.main_arg1)
      ∧ r.2.mem ((c.tc : Thread Cert.ReferencePsIdeal.nD Cert.ReferencePsIdeal.τ).loc Cert.ReferencePsIdeal.main_arg2) = m ((c.tc : Thread Cert.ReferencePsIdeal.nD Cert.ReferencePsIdeal.τ).loc Cert.ReferencePsIdeal.main_arg2))
      ∧ r.2.sem = fun _ => 0)

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v10_0)) (v1 : (c : Dev Cert.KernelMixIdeal.nD) → Buf (Elt Ideal) ((c.tc : Thread Cert.KernelMixIdeal.nD Cert.KernelMixIdeal.τ).loc Cert.KernelMixIdeal.main_v10_1)) (v2 : (c : Dev Cert.KernelMixIdeal.nD) → Buf (Elt Ideal) ((c.tc : Thread Cert.KernelMixIdeal.nD Cert.KernelMixIdeal.τ).loc Cert.KernelMixIdeal.main_v10_2)) (v3 : (c : Dev Cert.KernelMixIdeal.nD) → Buf (Elt Ideal) ((c.tc : Thread Cert.KernelMixIdeal.nD Cert.KernelMixIdeal.τ).loc Cert.KernelMixIdeal.main_v10_3)) (v4 : (c : Dev Cert.KernelMixIdeal.nD) → Buf (Elt Ideal) ((c.tc : Thread Cert.KernelMixIdeal.nD Cert.KernelMixIdeal.τ).loc Cert.KernelMixIdeal.main_v10_4)) (v5 : (c : Dev Cert.KernelMixIdeal.nD) → Buf (Elt Ideal) ((c.tc : Thread Cert.KernelMixIdeal.nD Cert.KernelMixIdeal.τ).loc Cert.KernelMixIdeal.main_v10_5)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v10_0) = v0 c
          ∧ r.2.mem ((c.tc : Thread Cert.KernelMixIdeal.nD Cert.KernelMixIdeal.τ).loc Cert.KernelMixIdeal.main_v10_1) = v1 c
          ∧ r.2.mem ((c.tc : Thread Cert.KernelMixIdeal.nD Cert.KernelMixIdeal.τ).loc Cert.KernelMixIdeal.main_v10_2) = v2 c
          ∧ r.2.mem ((c.tc : Thread Cert.KernelMixIdeal.nD Cert.KernelMixIdeal.τ).loc Cert.KernelMixIdeal.main_v10_3) = v3 c
          ∧ r.2.mem ((c.tc : Thread Cert.KernelMixIdeal.nD Cert.KernelMixIdeal.τ).loc Cert.KernelMixIdeal.main_v10_4) = v4 c
          ∧ r.2.mem ((c.tc : Thread Cert.KernelMixIdeal.nD Cert.KernelMixIdeal.τ).loc Cert.KernelMixIdeal.main_v10_5) = v5 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v42) = v0 c
          ∧ r.2.mem ((c.tc : Thread Cert.ReferenceMixIdeal.nD Cert.ReferenceMixIdeal.τ).loc Cert.ReferenceMixIdeal.main_v44) = v1 c
          ∧ r.2.mem ((c.tc : Thread Cert.ReferenceMixIdeal.nD Cert.ReferenceMixIdeal.τ).loc Cert.ReferenceMixIdeal.main_v46) = v2 c
          ∧ r.2.mem ((c.tc : Thread Cert.ReferenceMixIdeal.nD Cert.ReferenceMixIdeal.τ).loc Cert.ReferenceMixIdeal.main_v48) = v3 c
          ∧ r.2.mem ((c.tc : Thread Cert.ReferenceMixIdeal.nD Cert.ReferenceMixIdeal.τ).loc Cert.ReferenceMixIdeal.main_v49) = v4 c
          ∧ r.2.mem ((c.tc : Thread Cert.ReferenceMixIdeal.nD Cert.ReferenceMixIdeal.τ).loc Cert.ReferenceMixIdeal.main_v50) = v5 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelSb_KernelSbIdeal : Prop :=
  IdealRules.named_const.Statement Cert.KernelSbIdeal.κ "sb_dead" .f32 0xC2D00000#32 ⊥

def algebraic_KernelSbIdeal_ReferenceSbIdeal_pre_finite_sb [hKernelSbIdeal : Cert.KernelSbIdeal.Facts] [hReferenceSbIdeal : Cert.ReferenceSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_sb m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)
      ∧ m' ((c.tc : Thread Cert.ReferenceSbIdeal.nD Cert.ReferenceSbIdeal.τ).loc Cert.ReferenceSbIdeal.main_arg3) = m ((c.tc : Thread Cert.KernelSbIdeal.nD Cert.KernelSbIdeal.τ).loc Cert.KernelSbIdeal.main_arg3)) →
    ∃ (v0 : (c : Dev Cert.KernelSbIdeal.nD) → Buf (Elt Ideal) ((c.tc : Thread Cert.KernelSbIdeal.nD Cert.KernelSbIdeal.τ).loc Cert.KernelSbIdeal.main_v6_0)) (v1 : (c : Dev Cert.KernelSbIdeal.nD) → Buf (Elt Ideal) ((c.tc : Thread Cert.KernelSbIdeal.nD Cert.KernelSbIdeal.τ).loc Cert.KernelSbIdeal.main_v6_1)) (v2 : (c : Dev Cert.KernelSbIdeal.nD) → Buf (Elt Ideal) ((c.tc : Thread Cert.KernelSbIdeal.nD Cert.KernelSbIdeal.τ).loc Cert.KernelSbIdeal.main_v6_2)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v6_0) = v0 c
          ∧ r.2.mem ((c.tc : Thread Cert.KernelSbIdeal.nD Cert.KernelSbIdeal.τ).loc Cert.KernelSbIdeal.main_v6_1) = v1 c
          ∧ r.2.mem ((c.tc : Thread Cert.KernelSbIdeal.nD Cert.KernelSbIdeal.τ).loc Cert.KernelSbIdeal.main_v6_2) = v2 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
          ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v43) = v0 c
          ∧ r.2.mem ((c.tc : Thread Cert.ReferenceSbIdeal.nD Cert.ReferenceSbIdeal.τ).loc Cert.ReferenceSbIdeal.main_v45) = v1 c
          ∧ r.2.mem ((c.tc : Thread Cert.ReferenceSbIdeal.nD Cert.ReferenceSbIdeal.τ).loc Cert.ReferenceSbIdeal.main_v47) = v2 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2)
          ∧ r.2.mem ((c.tc : Thread Cert.ReferenceSbIdeal.nD Cert.ReferenceSbIdeal.τ).loc Cert.ReferenceSbIdeal.main_arg3) = m' ((c.tc : Thread Cert.ReferenceSbIdeal.nD Cert.ReferenceSbIdeal.τ).loc Cert.ReferenceSbIdeal.main_arg3))

def preserves_KernelProj_KernelProjIdeal : Prop :=
  True

def algebraic_KernelProjIdeal_ReferenceProjIdeal_pre_finite_proj [hKernelProjIdeal : Cert.KernelProjIdeal.Facts] [hReferenceProjIdeal : Cert.ReferenceProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal_finite_proj m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)
      ∧ m' ((c.tc : Thread Cert.ReferenceProjIdeal.nD Cert.ReferenceProjIdeal.τ).loc Cert.ReferenceProjIdeal.main_arg9) = m ((c.tc : Thread Cert.KernelProjIdeal.nD Cert.KernelProjIdeal.τ).loc Cert.KernelProjIdeal.main_arg9)
      ∧ m' ((c.tc : Thread Cert.ReferenceProjIdeal.nD Cert.ReferenceProjIdeal.τ).loc Cert.ReferenceProjIdeal.main_arg10) = m ((c.tc : Thread Cert.KernelProjIdeal.nD Cert.KernelProjIdeal.τ).loc Cert.KernelProjIdeal.main_arg10)) →
    ∃ (v0 : (c : Dev Cert.KernelProjIdeal.nD) → Buf (Elt Ideal) ((c.tc : Thread Cert.KernelProjIdeal.nD Cert.KernelProjIdeal.τ).loc Cert.KernelProjIdeal.main_v31_0)) (v1 : (c : Dev Cert.KernelProjIdeal.nD) → Buf (Elt Ideal) ((c.tc : Thread Cert.KernelProjIdeal.nD Cert.KernelProjIdeal.τ).loc Cert.KernelProjIdeal.main_v31_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v31_0) = v0 c
          ∧ r.2.mem ((c.tc : Thread Cert.KernelProjIdeal.nD Cert.KernelProjIdeal.τ).loc Cert.KernelProjIdeal.main_v31_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
          ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9)
          ∧ r.2.mem ((c.tc : Thread Cert.KernelProjIdeal.nD Cert.KernelProjIdeal.τ).loc Cert.KernelProjIdeal.main_arg10) = m ((c.tc : Thread Cert.KernelProjIdeal.nD Cert.KernelProjIdeal.τ).loc Cert.KernelProjIdeal.main_arg10))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v47) = v0 c
          ∧ r.2.mem ((c.tc : Thread Cert.ReferenceProjIdeal.nD Cert.ReferenceProjIdeal.τ).loc Cert.ReferenceProjIdeal.main_v48) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8)
          ∧ r.2.mem ((c.tc : Thread Cert.ReferenceProjIdeal.nD Cert.ReferenceProjIdeal.τ).loc Cert.ReferenceProjIdeal.main_arg9) = m' ((c.tc : Thread Cert.ReferenceProjIdeal.nD Cert.ReferenceProjIdeal.τ).loc Cert.ReferenceProjIdeal.main_arg9)
          ∧ r.2.mem ((c.tc : Thread Cert.ReferenceProjIdeal.nD Cert.ReferenceProjIdeal.τ).loc Cert.ReferenceProjIdeal.main_arg10) = m' ((c.tc : Thread Cert.ReferenceProjIdeal.nD Cert.ReferenceProjIdeal.τ).loc Cert.ReferenceProjIdeal.main_arg10))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)
      ∧ m' ((c.tc : Thread Cert.ReferenceFfnIdeal.nD Cert.ReferenceFfnIdeal.τ).loc Cert.ReferenceFfnIdeal.main_arg10) = m ((c.tc : Thread Cert.KernelFfnIdeal.nD Cert.KernelFfnIdeal.τ).loc Cert.KernelFfnIdeal.main_arg10)
      ∧ m' ((c.tc : Thread Cert.ReferenceFfnIdeal.nD Cert.ReferenceFfnIdeal.τ).loc Cert.ReferenceFfnIdeal.main_arg11) = m ((c.tc : Thread Cert.KernelFfnIdeal.nD Cert.KernelFfnIdeal.τ).loc Cert.KernelFfnIdeal.main_arg11)) →
    ∃ (v0 : (c : Dev Cert.KernelFfnIdeal.nD) → Buf (Elt Ideal) ((c.tc : Thread Cert.KernelFfnIdeal.nD Cert.KernelFfnIdeal.τ).loc Cert.KernelFfnIdeal.main_v16_0)) (v1 : (c : Dev Cert.KernelFfnIdeal.nD) → Buf (Elt Ideal) ((c.tc : Thread Cert.KernelFfnIdeal.nD Cert.KernelFfnIdeal.τ).loc Cert.KernelFfnIdeal.main_v16_1)) (v2 : (c : Dev Cert.KernelFfnIdeal.nD) → Buf (Elt Ideal) ((c.tc : Thread Cert.KernelFfnIdeal.nD Cert.KernelFfnIdeal.τ).loc Cert.KernelFfnIdeal.main_v16_2)) (v3 : (c : Dev Cert.KernelFfnIdeal.nD) → Buf (Elt Ideal) ((c.tc : Thread Cert.KernelFfnIdeal.nD Cert.KernelFfnIdeal.τ).loc Cert.KernelFfnIdeal.main_v16_3)) (v4 : (c : Dev Cert.KernelFfnIdeal.nD) → Buf (Elt Ideal) ((c.tc : Thread Cert.KernelFfnIdeal.nD Cert.KernelFfnIdeal.τ).loc Cert.KernelFfnIdeal.main_v16_4)) (v5 : (c : Dev Cert.KernelFfnIdeal.nD) → Buf (Elt Ideal) ((c.tc : Thread Cert.KernelFfnIdeal.nD Cert.KernelFfnIdeal.τ).loc Cert.KernelFfnIdeal.main_v16_5)) (v6 : (c : Dev Cert.KernelFfnIdeal.nD) → Buf (Elt Ideal) ((c.tc : Thread Cert.KernelFfnIdeal.nD Cert.KernelFfnIdeal.τ).loc Cert.KernelFfnIdeal.main_v16_6)) (v7 : (c : Dev Cert.KernelFfnIdeal.nD) → Buf (Elt Ideal) ((c.tc : Thread Cert.KernelFfnIdeal.nD Cert.KernelFfnIdeal.τ).loc Cert.KernelFfnIdeal.main_v16_7)) (v8 : (c : Dev Cert.KernelFfnIdeal.nD) → Buf (Elt Ideal) ((c.tc : Thread Cert.KernelFfnIdeal.nD Cert.KernelFfnIdeal.τ).loc Cert.KernelFfnIdeal.main_v16_8)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v16_0) = v0 c
          ∧ r.2.mem ((c.tc : Thread Cert.KernelFfnIdeal.nD Cert.KernelFfnIdeal.τ).loc Cert.KernelFfnIdeal.main_v16_1) = v1 c
          ∧ r.2.mem ((c.tc : Thread Cert.KernelFfnIdeal.nD Cert.KernelFfnIdeal.τ).loc Cert.KernelFfnIdeal.main_v16_2) = v2 c
          ∧ r.2.mem ((c.tc : Thread Cert.KernelFfnIdeal.nD Cert.KernelFfnIdeal.τ).loc Cert.KernelFfnIdeal.main_v16_3) = v3 c
          ∧ r.2.mem ((c.tc : Thread Cert.KernelFfnIdeal.nD Cert.KernelFfnIdeal.τ).loc Cert.KernelFfnIdeal.main_v16_4) = v4 c
          ∧ r.2.mem ((c.tc : Thread Cert.KernelFfnIdeal.nD Cert.KernelFfnIdeal.τ).loc Cert.KernelFfnIdeal.main_v16_5) = v5 c
          ∧ r.2.mem ((c.tc : Thread Cert.KernelFfnIdeal.nD Cert.KernelFfnIdeal.τ).loc Cert.KernelFfnIdeal.main_v16_6) = v6 c
          ∧ r.2.mem ((c.tc : Thread Cert.KernelFfnIdeal.nD Cert.KernelFfnIdeal.τ).loc Cert.KernelFfnIdeal.main_v16_7) = v7 c
          ∧ r.2.mem ((c.tc : Thread Cert.KernelFfnIdeal.nD Cert.KernelFfnIdeal.τ).loc Cert.KernelFfnIdeal.main_v16_8) = v8 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
          ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
          ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v126) = v0 c
          ∧ r.2.mem ((c.tc : Thread Cert.ReferenceFfnIdeal.nD Cert.ReferenceFfnIdeal.τ).loc Cert.ReferenceFfnIdeal.main_v127) = v1 c
          ∧ r.2.mem ((c.tc : Thread Cert.ReferenceFfnIdeal.nD Cert.ReferenceFfnIdeal.τ).loc Cert.ReferenceFfnIdeal.main_v129) = v2 c
          ∧ r.2.mem ((c.tc : Thread Cert.ReferenceFfnIdeal.nD Cert.ReferenceFfnIdeal.τ).loc Cert.ReferenceFfnIdeal.main_v131) = v3 c
          ∧ r.2.mem ((c.tc : Thread Cert.ReferenceFfnIdeal.nD Cert.ReferenceFfnIdeal.τ).loc Cert.ReferenceFfnIdeal.main_v133) = v4 c
          ∧ r.2.mem ((c.tc : Thread Cert.ReferenceFfnIdeal.nD Cert.ReferenceFfnIdeal.τ).loc Cert.ReferenceFfnIdeal.main_v135) = v5 c
          ∧ r.2.mem ((c.tc : Thread Cert.ReferenceFfnIdeal.nD Cert.ReferenceFfnIdeal.τ).loc Cert.ReferenceFfnIdeal.main_v137) = v6 c
          ∧ r.2.mem ((c.tc : Thread Cert.ReferenceFfnIdeal.nD Cert.ReferenceFfnIdeal.τ).loc Cert.ReferenceFfnIdeal.main_v138) = v7 c
          ∧ r.2.mem ((c.tc : Thread Cert.ReferenceFfnIdeal.nD Cert.ReferenceFfnIdeal.τ).loc Cert.ReferenceFfnIdeal.main_v139) = v8 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9)
          ∧ r.2.mem ((c.tc : Thread Cert.ReferenceFfnIdeal.nD Cert.ReferenceFfnIdeal.τ).loc Cert.ReferenceFfnIdeal.main_arg10) = m' ((c.tc : Thread Cert.ReferenceFfnIdeal.nD Cert.ReferenceFfnIdeal.τ).loc Cert.ReferenceFfnIdeal.main_arg10)
          ∧ r.2.mem ((c.tc : Thread Cert.ReferenceFfnIdeal.nD Cert.ReferenceFfnIdeal.τ).loc Cert.ReferenceFfnIdeal.main_arg11) = m' ((c.tc : Thread Cert.ReferenceFfnIdeal.nD Cert.ReferenceFfnIdeal.τ).loc Cert.ReferenceFfnIdeal.main_arg11))

def preserves_KernelSbf_KernelSbfIdeal : Prop :=
  IdealRules.named_const.Statement Cert.KernelSbfIdeal.κ "sb_dead" .f32 0xC2D00000#32 ⊥

def algebraic_KernelSbfIdeal_ReferenceSbfIdeal_pre_finite_sbf [hKernelSbfIdeal : Cert.KernelSbfIdeal.Facts] [hReferenceSbfIdeal : Cert.ReferenceSbfIdeal.Facts] [hPre_finite_sbf : Cert.Pre_finite_sbf.Facts] : Prop :=
  ∀ (m : (ℓ : Loc Cert.KernelSbfIdeal.nD Cert.KernelSbfIdeal.τ Cert.KernelSbfIdeal.sig) → Buf (Elt Ideal) ℓ) (g : Dev Cert.KernelSbfIdeal.nD → PrngReg)
    (m' : (ℓ : Loc Cert.ReferenceSbfIdeal.nD Cert.ReferenceSbfIdeal.τ Cert.ReferenceSbfIdeal.sig) → Buf (Elt Ideal) ℓ) (g' : Dev Cert.ReferenceSbfIdeal.nD → PrngReg), Pre_KernelSbfIdeal_finite_sbf m →
    (∀ c : Dev Cert.KernelSbfIdeal.nD,
      m' ((c.tc : Thread Cert.ReferenceSbfIdeal.nD Cert.ReferenceSbfIdeal.τ).loc Cert.ReferenceSbfIdeal.main_arg0) = m ((c.tc : Thread Cert.KernelSbfIdeal.nD Cert.KernelSbfIdeal.τ).loc Cert.KernelSbfIdeal.main_arg0)
      ∧ m' ((c.tc : Thread Cert.ReferenceSbfIdeal.nD Cert.ReferenceSbfIdeal.τ).loc Cert.ReferenceSbfIdeal.main_arg1) = m ((c.tc : Thread Cert.KernelSbfIdeal.nD Cert.KernelSbfIdeal.τ).loc Cert.KernelSbfIdeal.main_arg1)
      ∧ m' ((c.tc : Thread Cert.ReferenceSbfIdeal.nD Cert.ReferenceSbfIdeal.τ).loc Cert.ReferenceSbfIdeal.main_arg2) = m ((c.tc : Thread Cert.KernelSbfIdeal.nD Cert.KernelSbfIdeal.τ).loc Cert.KernelSbfIdeal.main_arg2)) →
    ∃ (v0 : (c : Dev Cert.KernelSbfIdeal.nD) → Buf (Elt Ideal) ((c.tc : Thread Cert.KernelSbfIdeal.nD Cert.KernelSbfIdeal.τ).loc Cert.KernelSbfIdeal.main_v5)),
      θ_run (Cert.KernelSbfIdeal.defs (F := Ideal)) (onTc (τ := Cert.KernelSbfIdeal.τ) (Cert.KernelSbfIdeal.main (F := Ideal))) ⟨m, fun _ => 0, g⟩ (fun r => ∀ c : Dev Cert.KernelSbfIdeal.nD,
          r.2.mem ((c.tc : Thread Cert.KernelSbfIdeal.nD Cert.KernelSbfIdeal.τ).loc Cert.KernelSbfIdeal.main_v5) = v0 c
          ∧ r.2.mem ((c.tc : Thread Cert.KernelSbfIdeal.nD Cert.KernelSbfIdeal.τ).loc Cert.KernelSbfIdeal.main_arg0) = m ((c.tc : Thread Cert.KernelSbfIdeal.nD Cert.KernelSbfIdeal.τ).loc Cert.KernelSbfIdeal.main_arg0)
          ∧ r.2.mem ((c.tc : Thread Cert.KernelSbfIdeal.nD Cert.KernelSbfIdeal.τ).loc Cert.KernelSbfIdeal.main_arg1) = m ((c.tc : Thread Cert.KernelSbfIdeal.nD Cert.KernelSbfIdeal.τ).loc Cert.KernelSbfIdeal.main_arg1)
          ∧ r.2.mem ((c.tc : Thread Cert.KernelSbfIdeal.nD Cert.KernelSbfIdeal.τ).loc Cert.KernelSbfIdeal.main_arg2) = m ((c.tc : Thread Cert.KernelSbfIdeal.nD Cert.KernelSbfIdeal.τ).loc Cert.KernelSbfIdeal.main_arg2))
      ∧ θ_run (Cert.ReferenceSbfIdeal.defs (F := Ideal)) (onTc (τ := Cert.ReferenceSbfIdeal.τ) (Cert.ReferenceSbfIdeal.main (F := Ideal))) ⟨m', fun _ => 0, g'⟩ (fun r => ∀ c : Dev Cert.ReferenceSbfIdeal.nD,
          r.2.mem ((c.tc : Thread Cert.ReferenceSbfIdeal.nD Cert.ReferenceSbfIdeal.τ).loc Cert.ReferenceSbfIdeal.main_v21) = v0 c
          ∧ r.2.mem ((c.tc : Thread Cert.ReferenceSbfIdeal.nD Cert.ReferenceSbfIdeal.τ).loc Cert.ReferenceSbfIdeal.main_arg0) = m' ((c.tc : Thread Cert.ReferenceSbfIdeal.nD Cert.ReferenceSbfIdeal.τ).loc Cert.ReferenceSbfIdeal.main_arg0)
          ∧ r.2.mem ((c.tc : Thread Cert.ReferenceSbfIdeal.nD Cert.ReferenceSbfIdeal.τ).loc Cert.ReferenceSbfIdeal.main_arg1) = m' ((c.tc : Thread Cert.ReferenceSbfIdeal.nD Cert.ReferenceSbfIdeal.τ).loc Cert.ReferenceSbfIdeal.main_arg1)
          ∧ r.2.mem ((c.tc : Thread Cert.ReferenceSbfIdeal.nD Cert.ReferenceSbfIdeal.τ).loc Cert.ReferenceSbfIdeal.main_arg2) = m' ((c.tc : Thread Cert.ReferenceSbfIdeal.nD Cert.ReferenceSbfIdeal.τ).loc Cert.ReferenceSbfIdeal.main_arg2))

def preserves_KernelNp_KernelNpIdeal : Prop :=
  True

def algebraic_KernelNpIdeal_ReferenceNpIdeal [hKernelNpIdeal : Cert.KernelNpIdeal.Facts] [hReferenceNpIdeal : Cert.ReferenceNpIdeal.Facts] : Prop :=
  ∀ (m : (ℓ : Loc Cert.KernelNpIdeal.nD Cert.KernelNpIdeal.τ Cert.KernelNpIdeal.sig) → Buf (Elt Ideal) ℓ) (g : Dev Cert.KernelNpIdeal.nD → PrngReg)
    (m' : (ℓ : Loc Cert.ReferenceNpIdeal.nD Cert.ReferenceNpIdeal.τ Cert.ReferenceNpIdeal.sig) → Buf (Elt Ideal) ℓ) (g' : Dev Cert.ReferenceNpIdeal.nD → PrngReg), Pre_KernelNpIdeal m →
    (∀ c : Dev Cert.KernelNpIdeal.nD,
      m' ((c.tc : Thread Cert.ReferenceNpIdeal.nD Cert.ReferenceNpIdeal.τ).loc Cert.ReferenceNpIdeal.main_arg0) = m ((c.tc : Thread Cert.KernelNpIdeal.nD Cert.KernelNpIdeal.τ).loc Cert.KernelNpIdeal.main_arg0)
      ∧ m' ((c.tc : Thread Cert.ReferenceNpIdeal.nD Cert.ReferenceNpIdeal.τ).loc Cert.ReferenceNpIdeal.main_arg1) = m ((c.tc : Thread Cert.KernelNpIdeal.nD Cert.KernelNpIdeal.τ).loc Cert.KernelNpIdeal.main_arg1)
      ∧ m' ((c.tc : Thread Cert.ReferenceNpIdeal.nD Cert.ReferenceNpIdeal.τ).loc Cert.ReferenceNpIdeal.main_arg2) = m ((c.tc : Thread Cert.KernelNpIdeal.nD Cert.KernelNpIdeal.τ).loc Cert.KernelNpIdeal.main_arg2)) →
    ∃ (v0 : (c : Dev Cert.KernelNpIdeal.nD) → Buf (Elt Ideal) ((c.tc : Thread Cert.KernelNpIdeal.nD Cert.KernelNpIdeal.τ).loc Cert.KernelNpIdeal.main_v4_0)) (v1 : (c : Dev Cert.KernelNpIdeal.nD) → Buf (Elt Ideal) ((c.tc : Thread Cert.KernelNpIdeal.nD Cert.KernelNpIdeal.τ).loc Cert.KernelNpIdeal.main_v4_1)) (v2 : (c : Dev Cert.KernelNpIdeal.nD) → Buf (Elt Ideal) ((c.tc : Thread Cert.KernelNpIdeal.nD Cert.KernelNpIdeal.τ).loc Cert.KernelNpIdeal.main_v4_2)) (v3 : (c : Dev Cert.KernelNpIdeal.nD) → Buf (Elt Ideal) ((c.tc : Thread Cert.KernelNpIdeal.nD Cert.KernelNpIdeal.τ).loc Cert.KernelNpIdeal.main_v4_3)),
      θ_run (Cert.KernelNpIdeal.defs (F := Ideal)) (onTc (τ := Cert.KernelNpIdeal.τ) (Cert.KernelNpIdeal.main (F := Ideal))) ⟨m, fun _ => 0, g⟩ (fun r => ∀ c : Dev Cert.KernelNpIdeal.nD,
          r.2.mem ((c.tc : Thread Cert.KernelNpIdeal.nD Cert.KernelNpIdeal.τ).loc Cert.KernelNpIdeal.main_v4_0) = v0 c
          ∧ r.2.mem ((c.tc : Thread Cert.KernelNpIdeal.nD Cert.KernelNpIdeal.τ).loc Cert.KernelNpIdeal.main_v4_1) = v1 c
          ∧ r.2.mem ((c.tc : Thread Cert.KernelNpIdeal.nD Cert.KernelNpIdeal.τ).loc Cert.KernelNpIdeal.main_v4_2) = v2 c
          ∧ r.2.mem ((c.tc : Thread Cert.KernelNpIdeal.nD Cert.KernelNpIdeal.τ).loc Cert.KernelNpIdeal.main_v4_3) = v3 c
          ∧ r.2.mem ((c.tc : Thread Cert.KernelNpIdeal.nD Cert.KernelNpIdeal.τ).loc Cert.KernelNpIdeal.main_arg0) = m ((c.tc : Thread Cert.KernelNpIdeal.nD Cert.KernelNpIdeal.τ).loc Cert.KernelNpIdeal.main_arg0)
          ∧ r.2.mem ((c.tc : Thread Cert.KernelNpIdeal.nD Cert.KernelNpIdeal.τ).loc Cert.KernelNpIdeal.main_arg1) = m ((c.tc : Thread Cert.KernelNpIdeal.nD Cert.KernelNpIdeal.τ).loc Cert.KernelNpIdeal.main_arg1)
          ∧ r.2.mem ((c.tc : Thread Cert.KernelNpIdeal.nD Cert.KernelNpIdeal.τ).loc Cert.KernelNpIdeal.main_arg2) = m ((c.tc : Thread Cert.KernelNpIdeal.nD Cert.KernelNpIdeal.τ).loc Cert.KernelNpIdeal.main_arg2))
      ∧ θ_run (Cert.ReferenceNpIdeal.defs (F := Ideal)) (onTc (τ := Cert.ReferenceNpIdeal.τ) (Cert.ReferenceNpIdeal.main (F := Ideal))) ⟨m', fun _ => 0, g'⟩ (fun r => ∀ c : Dev Cert.ReferenceNpIdeal.nD,
          r.2.mem ((c.tc : Thread Cert.ReferenceNpIdeal.nD Cert.ReferenceNpIdeal.τ).loc Cert.ReferenceNpIdeal.main_v18) = v0 c
          ∧ r.2.mem ((c.tc : Thread Cert.ReferenceNpIdeal.nD Cert.ReferenceNpIdeal.τ).loc Cert.ReferenceNpIdeal.main_v19) = v1 c
          ∧ r.2.mem ((c.tc : Thread Cert.ReferenceNpIdeal.nD Cert.ReferenceNpIdeal.τ).loc Cert.ReferenceNpIdeal.main_v20) = v2 c
          ∧ r.2.mem ((c.tc : Thread Cert.ReferenceNpIdeal.nD Cert.ReferenceNpIdeal.τ).loc Cert.ReferenceNpIdeal.main_v22) = v3 c
          ∧ r.2.mem ((c.tc : Thread Cert.ReferenceNpIdeal.nD Cert.ReferenceNpIdeal.τ).loc Cert.ReferenceNpIdeal.main_arg0) = m' ((c.tc : Thread Cert.ReferenceNpIdeal.nD Cert.ReferenceNpIdeal.τ).loc Cert.ReferenceNpIdeal.main_arg0)
          ∧ r.2.mem ((c.tc : Thread Cert.ReferenceNpIdeal.nD Cert.ReferenceNpIdeal.τ).loc Cert.ReferenceNpIdeal.main_arg1) = m' ((c.tc : Thread Cert.ReferenceNpIdeal.nD Cert.ReferenceNpIdeal.τ).loc Cert.ReferenceNpIdeal.main_arg1)
          ∧ r.2.mem ((c.tc : Thread Cert.ReferenceNpIdeal.nD Cert.ReferenceNpIdeal.τ).loc Cert.ReferenceNpIdeal.main_arg2) = m' ((c.tc : Thread Cert.ReferenceNpIdeal.nD Cert.ReferenceNpIdeal.τ).loc Cert.ReferenceNpIdeal.main_arg2))

def preserves_KernelCols_KernelColsIdeal : Prop :=
  True

def algebraic_KernelColsIdeal_ReferenceColsIdeal [hKernelColsIdeal : Cert.KernelColsIdeal.Facts] [hReferenceColsIdeal : Cert.ReferenceColsIdeal.Facts] : Prop :=
  ∀ (m : (ℓ : Loc Cert.KernelColsIdeal.nD Cert.KernelColsIdeal.τ Cert.KernelColsIdeal.sig) → Buf (Elt Ideal) ℓ) (g : Dev Cert.KernelColsIdeal.nD → PrngReg)
    (m' : (ℓ : Loc Cert.ReferenceColsIdeal.nD Cert.ReferenceColsIdeal.τ Cert.ReferenceColsIdeal.sig) → Buf (Elt Ideal) ℓ) (g' : Dev Cert.ReferenceColsIdeal.nD → PrngReg), Pre_KernelColsIdeal m →
    (∀ c : Dev Cert.KernelColsIdeal.nD,
      m' ((c.tc : Thread Cert.ReferenceColsIdeal.nD Cert.ReferenceColsIdeal.τ).loc Cert.ReferenceColsIdeal.main_arg0) = m ((c.tc : Thread Cert.KernelColsIdeal.nD Cert.KernelColsIdeal.τ).loc Cert.KernelColsIdeal.main_arg0)
      ∧ m' ((c.tc : Thread Cert.ReferenceColsIdeal.nD Cert.ReferenceColsIdeal.τ).loc Cert.ReferenceColsIdeal.main_arg1) = m ((c.tc : Thread Cert.KernelColsIdeal.nD Cert.KernelColsIdeal.τ).loc Cert.KernelColsIdeal.main_arg1)) →
    ∃ (v0 : (c : Dev Cert.KernelColsIdeal.nD) → Buf (Elt Ideal) ((c.tc : Thread Cert.KernelColsIdeal.nD Cert.KernelColsIdeal.τ).loc Cert.KernelColsIdeal.main_v4)),
      θ_run (Cert.KernelColsIdeal.defs (F := Ideal)) (onTc (τ := Cert.KernelColsIdeal.τ) (Cert.KernelColsIdeal.main (F := Ideal))) ⟨m, fun _ => 0, g⟩ (fun r => ∀ c : Dev Cert.KernelColsIdeal.nD,
          r.2.mem ((c.tc : Thread Cert.KernelColsIdeal.nD Cert.KernelColsIdeal.τ).loc Cert.KernelColsIdeal.main_v4) = v0 c
          ∧ r.2.mem ((c.tc : Thread Cert.KernelColsIdeal.nD Cert.KernelColsIdeal.τ).loc Cert.KernelColsIdeal.main_arg0) = m ((c.tc : Thread Cert.KernelColsIdeal.nD Cert.KernelColsIdeal.τ).loc Cert.KernelColsIdeal.main_arg0)
          ∧ r.2.mem ((c.tc : Thread Cert.KernelColsIdeal.nD Cert.KernelColsIdeal.τ).loc Cert.KernelColsIdeal.main_arg1) = m ((c.tc : Thread Cert.KernelColsIdeal.nD Cert.KernelColsIdeal.τ).loc Cert.KernelColsIdeal.main_arg1))
      ∧ θ_run (Cert.ReferenceColsIdeal.defs (F := Ideal)) (onTc (τ := Cert.ReferenceColsIdeal.τ) (Cert.ReferenceColsIdeal.main (F := Ideal))) ⟨m', fun _ => 0, g'⟩ (fun r => ∀ c : Dev Cert.ReferenceColsIdeal.nD,
          r.2.mem ((c.tc : Thread Cert.ReferenceColsIdeal.nD Cert.ReferenceColsIdeal.τ).loc Cert.ReferenceColsIdeal.main_v1) = v0 c
          ∧ r.2.mem ((c.tc : Thread Cert.ReferenceColsIdeal.nD Cert.ReferenceColsIdeal.τ).loc Cert.ReferenceColsIdeal.main_arg0) = m' ((c.tc : Thread Cert.ReferenceColsIdeal.nD Cert.ReferenceColsIdeal.τ).loc Cert.ReferenceColsIdeal.main_arg0)
          ∧ r.2.mem ((c.tc : Thread Cert.ReferenceColsIdeal.nD Cert.ReferenceColsIdeal.τ).loc Cert.ReferenceColsIdeal.main_arg1) = m' ((c.tc : Thread Cert.ReferenceColsIdeal.nD Cert.ReferenceColsIdeal.τ).loc Cert.ReferenceColsIdeal.main_arg1))

def preserves_KernelAtb_KernelAtbIdeal : Prop :=
  True

def algebraic_KernelAtbIdeal_ReferenceAtbIdeal [hKernelAtbIdeal : Cert.KernelAtbIdeal.Facts] [hReferenceAtbIdeal : Cert.ReferenceAtbIdeal.Facts] : Prop :=
  ∀ (m : (ℓ : Loc Cert.KernelAtbIdeal.nD Cert.KernelAtbIdeal.τ Cert.KernelAtbIdeal.sig) → Buf (Elt Ideal) ℓ) (g : Dev Cert.KernelAtbIdeal.nD → PrngReg)
    (m' : (ℓ : Loc Cert.ReferenceAtbIdeal.nD Cert.ReferenceAtbIdeal.τ Cert.ReferenceAtbIdeal.sig) → Buf (Elt Ideal) ℓ) (g' : Dev Cert.ReferenceAtbIdeal.nD → PrngReg), Pre_KernelAtbIdeal m →
    (∀ c : Dev Cert.KernelAtbIdeal.nD,
      m' ((c.tc : Thread Cert.ReferenceAtbIdeal.nD Cert.ReferenceAtbIdeal.τ).loc Cert.ReferenceAtbIdeal.main_arg0) = m ((c.tc : Thread Cert.KernelAtbIdeal.nD Cert.KernelAtbIdeal.τ).loc Cert.KernelAtbIdeal.main_arg0)
      ∧ m' ((c.tc : Thread Cert.ReferenceAtbIdeal.nD Cert.ReferenceAtbIdeal.τ).loc Cert.ReferenceAtbIdeal.main_arg1) = m ((c.tc : Thread Cert.KernelAtbIdeal.nD Cert.KernelAtbIdeal.τ).loc Cert.KernelAtbIdeal.main_arg1)) →
    ∃ (v0 : (c : Dev Cert.KernelAtbIdeal.nD) → Buf (Elt Ideal) ((c.tc : Thread Cert.KernelAtbIdeal.nD Cert.KernelAtbIdeal.τ).loc Cert.KernelAtbIdeal.main_v3)),
      θ_run (Cert.KernelAtbIdeal.defs (F := Ideal)) (onTc (τ := Cert.KernelAtbIdeal.τ) (Cert.KernelAtbIdeal.main (F := Ideal))) ⟨m, fun _ => 0, g⟩ (fun r => ∀ c : Dev Cert.KernelAtbIdeal.nD,
          r.2.mem ((c.tc : Thread Cert.KernelAtbIdeal.nD Cert.KernelAtbIdeal.τ).loc Cert.KernelAtbIdeal.main_v3) = v0 c
          ∧ r.2.mem ((c.tc : Thread Cert.KernelAtbIdeal.nD Cert.KernelAtbIdeal.τ).loc Cert.KernelAtbIdeal.main_arg0) = m ((c.tc : Thread Cert.KernelAtbIdeal.nD Cert.KernelAtbIdeal.τ).loc Cert.KernelAtbIdeal.main_arg0)
          ∧ r.2.mem ((c.tc : Thread Cert.KernelAtbIdeal.nD Cert.KernelAtbIdeal.τ).loc Cert.KernelAtbIdeal.main_arg1) = m ((c.tc : Thread Cert.KernelAtbIdeal.nD Cert.KernelAtbIdeal.τ).loc Cert.KernelAtbIdeal.main_arg1))
      ∧ θ_run (Cert.ReferenceAtbIdeal.defs (F := Ideal)) (onTc (τ := Cert.ReferenceAtbIdeal.τ) (Cert.ReferenceAtbIdeal.main (F := Ideal))) ⟨m', fun _ => 0, g'⟩ (fun r => ∀ c : Dev Cert.ReferenceAtbIdeal.nD,
          r.2.mem ((c.tc : Thread Cert.ReferenceAtbIdeal.nD Cert.ReferenceAtbIdeal.τ).loc Cert.ReferenceAtbIdeal.main_v1) = v0 c
          ∧ r.2.mem ((c.tc : Thread Cert.ReferenceAtbIdeal.nD Cert.ReferenceAtbIdeal.τ).loc Cert.ReferenceAtbIdeal.main_arg0) = m' ((c.tc : Thread Cert.ReferenceAtbIdeal.nD Cert.ReferenceAtbIdeal.τ).loc Cert.ReferenceAtbIdeal.main_arg0)
          ∧ r.2.mem ((c.tc : Thread Cert.ReferenceAtbIdeal.nD Cert.ReferenceAtbIdeal.τ).loc Cert.ReferenceAtbIdeal.main_arg1) = m' ((c.tc : Thread Cert.ReferenceAtbIdeal.nD Cert.ReferenceAtbIdeal.τ).loc Cert.ReferenceAtbIdeal.main_arg1))

def preserves_KernelPcs_KernelPcsIdeal : Prop :=
  True

def algebraic_KernelPcsIdeal_ReferencePcsIdeal [hKernelPcsIdeal : Cert.KernelPcsIdeal.Facts] [hReferencePcsIdeal : Cert.ReferencePcsIdeal.Facts] : Prop :=
  ∀ (m : (ℓ : Loc Cert.KernelPcsIdeal.nD Cert.KernelPcsIdeal.τ Cert.KernelPcsIdeal.sig) → Buf (Elt Ideal) ℓ) (g : Dev Cert.KernelPcsIdeal.nD → PrngReg)
    (m' : (ℓ : Loc Cert.ReferencePcsIdeal.nD Cert.ReferencePcsIdeal.τ Cert.ReferencePcsIdeal.sig) → Buf (Elt Ideal) ℓ) (g' : Dev Cert.ReferencePcsIdeal.nD → PrngReg), Pre_KernelPcsIdeal m →
    (∀ c : Dev Cert.KernelPcsIdeal.nD,
      m' ((c.tc : Thread Cert.ReferencePcsIdeal.nD Cert.ReferencePcsIdeal.τ).loc Cert.ReferencePcsIdeal.main_arg0) = m ((c.tc : Thread Cert.KernelPcsIdeal.nD Cert.KernelPcsIdeal.τ).loc Cert.KernelPcsIdeal.main_arg0)
      ∧ m' ((c.tc : Thread Cert.ReferencePcsIdeal.nD Cert.ReferencePcsIdeal.τ).loc Cert.ReferencePcsIdeal.main_arg1) = m ((c.tc : Thread Cert.KernelPcsIdeal.nD Cert.KernelPcsIdeal.τ).loc Cert.KernelPcsIdeal.main_arg1)
      ∧ m' ((c.tc : Thread Cert.ReferencePcsIdeal.nD Cert.ReferencePcsIdeal.τ).loc Cert.ReferencePcsIdeal.main_arg2) = m ((c.tc : Thread Cert.KernelPcsIdeal.nD Cert.KernelPcsIdeal.τ).loc Cert.KernelPcsIdeal.main_arg2)
      ∧ m' ((c.tc : Thread Cert.ReferencePcsIdeal.nD Cert.ReferencePcsIdeal.τ).loc Cert.ReferencePcsIdeal.main_arg3) = m ((c.tc : Thread Cert.KernelPcsIdeal.nD Cert.KernelPcsIdeal.τ).loc Cert.KernelPcsIdeal.main_arg3)
      ∧ m' ((c.tc : Thread Cert.ReferencePcsIdeal.nD Cert.ReferencePcsIdeal.τ).loc Cert.ReferencePcsIdeal.main_arg4) = m ((c.tc : Thread Cert.KernelPcsIdeal.nD Cert.KernelPcsIdeal.τ).loc Cert.KernelPcsIdeal.main_arg4)
      ∧ m' ((c.tc : Thread Cert.ReferencePcsIdeal.nD Cert.ReferencePcsIdeal.τ).loc Cert.ReferencePcsIdeal.main_arg5) = m ((c.tc : Thread Cert.KernelPcsIdeal.nD Cert.KernelPcsIdeal.τ).loc Cert.KernelPcsIdeal.main_arg5)
      ∧ m' ((c.tc : Thread Cert.ReferencePcsIdeal.nD Cert.ReferencePcsIdeal.τ).loc Cert.ReferencePcsIdeal.main_arg6) = m ((c.tc : Thread Cert.KernelPcsIdeal.nD Cert.KernelPcsIdeal.τ).loc Cert.KernelPcsIdeal.main_arg6)
      ∧ m' ((c.tc : Thread Cert.ReferencePcsIdeal.nD Cert.ReferencePcsIdeal.τ).loc Cert.ReferencePcsIdeal.main_arg7) = m ((c.tc : Thread Cert.KernelPcsIdeal.nD Cert.KernelPcsIdeal.τ).loc Cert.KernelPcsIdeal.main_arg7)) →
    ∃ (v0 : (c : Dev Cert.KernelPcsIdeal.nD) → Buf (Elt Ideal) ((c.tc : Thread Cert.KernelPcsIdeal.nD Cert.KernelPcsIdeal.τ).loc Cert.KernelPcsIdeal.main_v28)),
      θ_run (Cert.KernelPcsIdeal.defs (F := Ideal)) (onTc (τ := Cert.KernelPcsIdeal.τ) (Cert.KernelPcsIdeal.main (F := Ideal))) ⟨m, fun _ => 0, g⟩ (fun r => ∀ c : Dev Cert.KernelPcsIdeal.nD,
          r.2.mem ((c.tc : Thread Cert.KernelPcsIdeal.nD Cert.KernelPcsIdeal.τ).loc Cert.KernelPcsIdeal.main_v28) = v0 c
          ∧ r.2.mem ((c.tc : Thread Cert.KernelPcsIdeal.nD Cert.KernelPcsIdeal.τ).loc Cert.KernelPcsIdeal.main_arg0) = m ((c.tc : Thread Cert.KernelPcsIdeal.nD Cert.KernelPcsIdeal.τ).loc Cert.KernelPcsIdeal.main_arg0)
          ∧ r.2.mem ((c.tc : Thread Cert.KernelPcsIdeal.nD Cert.KernelPcsIdeal.τ).loc Cert.KernelPcsIdeal.main_arg1) = m ((c.tc : Thread Cert.KernelPcsIdeal.nD Cert.KernelPcsIdeal.τ).loc Cert.KernelPcsIdeal.main_arg1)
          ∧ r.2.mem ((c.tc : Thread Cert.KernelPcsIdeal.nD Cert.KernelPcsIdeal.τ).loc Cert.KernelPcsIdeal.main_arg2) = m ((c.tc : Thread Cert.KernelPcsIdeal.nD Cert.KernelPcsIdeal.τ).loc Cert.KernelPcsIdeal.main_arg2)
          ∧ r.2.mem ((c.tc : Thread Cert.KernelPcsIdeal.nD Cert.KernelPcsIdeal.τ).loc Cert.KernelPcsIdeal.main_arg3) = m ((c.tc : Thread Cert.KernelPcsIdeal.nD Cert.KernelPcsIdeal.τ).loc Cert.KernelPcsIdeal.main_arg3)
          ∧ r.2.mem ((c.tc : Thread Cert.KernelPcsIdeal.nD Cert.KernelPcsIdeal.τ).loc Cert.KernelPcsIdeal.main_arg4) = m ((c.tc : Thread Cert.KernelPcsIdeal.nD Cert.KernelPcsIdeal.τ).loc Cert.KernelPcsIdeal.main_arg4)
          ∧ r.2.mem ((c.tc : Thread Cert.KernelPcsIdeal.nD Cert.KernelPcsIdeal.τ).loc Cert.KernelPcsIdeal.main_arg5) = m ((c.tc : Thread Cert.KernelPcsIdeal.nD Cert.KernelPcsIdeal.τ).loc Cert.KernelPcsIdeal.main_arg5)
          ∧ r.2.mem ((c.tc : Thread Cert.KernelPcsIdeal.nD Cert.KernelPcsIdeal.τ).loc Cert.KernelPcsIdeal.main_arg6) = m ((c.tc : Thread Cert.KernelPcsIdeal.nD Cert.KernelPcsIdeal.τ).loc Cert.KernelPcsIdeal.main_arg6)
          ∧ r.2.mem ((c.tc : Thread Cert.KernelPcsIdeal.nD Cert.KernelPcsIdeal.τ).loc Cert.KernelPcsIdeal.main_arg7) = m ((c.tc : Thread Cert.KernelPcsIdeal.nD Cert.KernelPcsIdeal.τ).loc Cert.KernelPcsIdeal.main_arg7))
      ∧ θ_run (Cert.ReferencePcsIdeal.defs (F := Ideal)) (onTc (τ := Cert.ReferencePcsIdeal.τ) (Cert.ReferencePcsIdeal.main (F := Ideal))) ⟨m', fun _ => 0, g'⟩ (fun r => ∀ c : Dev Cert.ReferencePcsIdeal.nD,
          r.2.mem ((c.tc : Thread Cert.ReferencePcsIdeal.nD Cert.ReferencePcsIdeal.τ).loc Cert.ReferencePcsIdeal.main_v2) = v0 c
          ∧ r.2.mem ((c.tc : Thread Cert.ReferencePcsIdeal.nD Cert.ReferencePcsIdeal.τ).loc Cert.ReferencePcsIdeal.main_arg0) = m' ((c.tc : Thread Cert.ReferencePcsIdeal.nD Cert.ReferencePcsIdeal.τ).loc Cert.ReferencePcsIdeal.main_arg0)
          ∧ r.2.mem ((c.tc : Thread Cert.ReferencePcsIdeal.nD Cert.ReferencePcsIdeal.τ).loc Cert.ReferencePcsIdeal.main_arg1) = m' ((c.tc : Thread Cert.ReferencePcsIdeal.nD Cert.ReferencePcsIdeal.τ).loc Cert.ReferencePcsIdeal.main_arg1)
          ∧ r.2.mem ((c.tc : Thread Cert.ReferencePcsIdeal.nD Cert.ReferencePcsIdeal.τ).loc Cert.ReferencePcsIdeal.main_arg2) = m' ((c.tc : Thread Cert.ReferencePcsIdeal.nD Cert.ReferencePcsIdeal.τ).loc Cert.ReferencePcsIdeal.main_arg2)
          ∧ r.2.mem ((c.tc : Thread Cert.ReferencePcsIdeal.nD Cert.ReferencePcsIdeal.τ).loc Cert.ReferencePcsIdeal.main_arg3) = m' ((c.tc : Thread Cert.ReferencePcsIdeal.nD Cert.ReferencePcsIdeal.τ).loc Cert.ReferencePcsIdeal.main_arg3)
          ∧ r.2.mem ((c.tc : Thread Cert.ReferencePcsIdeal.nD Cert.ReferencePcsIdeal.τ).loc Cert.ReferencePcsIdeal.main_arg4) = m' ((c.tc : Thread Cert.ReferencePcsIdeal.nD Cert.ReferencePcsIdeal.τ).loc Cert.ReferencePcsIdeal.main_arg4)
          ∧ r.2.mem ((c.tc : Thread Cert.ReferencePcsIdeal.nD Cert.ReferencePcsIdeal.τ).loc Cert.ReferencePcsIdeal.main_arg5) = m' ((c.tc : Thread Cert.ReferencePcsIdeal.nD Cert.ReferencePcsIdeal.τ).loc Cert.ReferencePcsIdeal.main_arg5)
          ∧ r.2.mem ((c.tc : Thread Cert.ReferencePcsIdeal.nD Cert.ReferencePcsIdeal.τ).loc Cert.ReferencePcsIdeal.main_arg6) = m' ((c.tc : Thread Cert.ReferencePcsIdeal.nD Cert.ReferencePcsIdeal.τ).loc Cert.ReferencePcsIdeal.main_arg6)
          ∧ r.2.mem ((c.tc : Thread Cert.ReferencePcsIdeal.nD Cert.ReferencePcsIdeal.τ).loc Cert.ReferencePcsIdeal.main_arg7) = m' ((c.tc : Thread Cert.ReferencePcsIdeal.nD Cert.ReferencePcsIdeal.τ).loc Cert.ReferencePcsIdeal.main_arg7))

def preserves_KernelGains_KernelGainsIdeal : Prop :=
  True

def algebraic_KernelGainsIdeal_ReferenceGainsIdeal [hKernelGainsIdeal : Cert.KernelGainsIdeal.Facts] [hReferenceGainsIdeal : Cert.ReferenceGainsIdeal.Facts] : Prop :=
  ∀ (m : (ℓ : Loc Cert.KernelGainsIdeal.nD Cert.KernelGainsIdeal.τ Cert.KernelGainsIdeal.sig) → Buf (Elt Ideal) ℓ) (g : Dev Cert.KernelGainsIdeal.nD → PrngReg)
    (m' : (ℓ : Loc Cert.ReferenceGainsIdeal.nD Cert.ReferenceGainsIdeal.τ Cert.ReferenceGainsIdeal.sig) → Buf (Elt Ideal) ℓ) (g' : Dev Cert.ReferenceGainsIdeal.nD → PrngReg), Pre_KernelGainsIdeal m →
    (∀ c : Dev Cert.KernelGainsIdeal.nD,
      m' ((c.tc : Thread Cert.ReferenceGainsIdeal.nD Cert.ReferenceGainsIdeal.τ).loc Cert.ReferenceGainsIdeal.main_arg0) = m ((c.tc : Thread Cert.KernelGainsIdeal.nD Cert.KernelGainsIdeal.τ).loc Cert.KernelGainsIdeal.main_arg0)
      ∧ m' ((c.tc : Thread Cert.ReferenceGainsIdeal.nD Cert.ReferenceGainsIdeal.τ).loc Cert.ReferenceGainsIdeal.main_arg1) = m ((c.tc : Thread Cert.KernelGainsIdeal.nD Cert.KernelGainsIdeal.τ).loc Cert.KernelGainsIdeal.main_arg1)
      ∧ m' ((c.tc : Thread Cert.ReferenceGainsIdeal.nD Cert.ReferenceGainsIdeal.τ).loc Cert.ReferenceGainsIdeal.main_arg2) = m ((c.tc : Thread Cert.KernelGainsIdeal.nD Cert.KernelGainsIdeal.τ).loc Cert.KernelGainsIdeal.main_arg2)
      ∧ m' ((c.tc : Thread Cert.ReferenceGainsIdeal.nD Cert.ReferenceGainsIdeal.τ).loc Cert.ReferenceGainsIdeal.main_arg3) = m ((c.tc : Thread Cert.KernelGainsIdeal.nD Cert.KernelGainsIdeal.τ).loc Cert.KernelGainsIdeal.main_arg3)
      ∧ m' ((c.tc : Thread Cert.ReferenceGainsIdeal.nD Cert.ReferenceGainsIdeal.τ).loc Cert.ReferenceGainsIdeal.main_arg4) = m ((c.tc : Thread Cert.KernelGainsIdeal.nD Cert.KernelGainsIdeal.τ).loc Cert.KernelGainsIdeal.main_arg4)
      ∧ m' ((c.tc : Thread Cert.ReferenceGainsIdeal.nD Cert.ReferenceGainsIdeal.τ).loc Cert.ReferenceGainsIdeal.main_arg5) = m ((c.tc : Thread Cert.KernelGainsIdeal.nD Cert.KernelGainsIdeal.τ).loc Cert.KernelGainsIdeal.main_arg5)
      ∧ m' ((c.tc : Thread Cert.ReferenceGainsIdeal.nD Cert.ReferenceGainsIdeal.τ).loc Cert.ReferenceGainsIdeal.main_arg6) = m ((c.tc : Thread Cert.KernelGainsIdeal.nD Cert.KernelGainsIdeal.τ).loc Cert.KernelGainsIdeal.main_arg6)
      ∧ m' ((c.tc : Thread Cert.ReferenceGainsIdeal.nD Cert.ReferenceGainsIdeal.τ).loc Cert.ReferenceGainsIdeal.main_arg7) = m ((c.tc : Thread Cert.KernelGainsIdeal.nD Cert.KernelGainsIdeal.τ).loc Cert.KernelGainsIdeal.main_arg7)
      ∧ m' ((c.tc : Thread Cert.ReferenceGainsIdeal.nD Cert.ReferenceGainsIdeal.τ).loc Cert.ReferenceGainsIdeal.main_arg8) = m ((c.tc : Thread Cert.KernelGainsIdeal.nD Cert.KernelGainsIdeal.τ).loc Cert.KernelGainsIdeal.main_arg8)
      ∧ m' ((c.tc : Thread Cert.ReferenceGainsIdeal.nD Cert.ReferenceGainsIdeal.τ).loc Cert.ReferenceGainsIdeal.main_arg9) = m ((c.tc : Thread Cert.KernelGainsIdeal.nD Cert.KernelGainsIdeal.τ).loc Cert.KernelGainsIdeal.main_arg9)) →
    ∃ (v0 : (c : Dev Cert.KernelGainsIdeal.nD) → Buf (Elt Ideal) ((c.tc : Thread Cert.KernelGainsIdeal.nD Cert.KernelGainsIdeal.τ).loc Cert.KernelGainsIdeal.main_v9_0)) (v1 : (c : Dev Cert.KernelGainsIdeal.nD) → Buf (Elt Ideal) ((c.tc : Thread Cert.KernelGainsIdeal.nD Cert.KernelGainsIdeal.τ).loc Cert.KernelGainsIdeal.main_v9_1)) (v2 : (c : Dev Cert.KernelGainsIdeal.nD) → Buf (Elt Ideal) ((c.tc : Thread Cert.KernelGainsIdeal.nD Cert.KernelGainsIdeal.τ).loc Cert.KernelGainsIdeal.main_v9_2)) (v3 : (c : Dev Cert.KernelGainsIdeal.nD) → Buf (Elt Ideal) ((c.tc : Thread Cert.KernelGainsIdeal.nD Cert.KernelGainsIdeal.τ).loc Cert.KernelGainsIdeal.main_v9_3)) (v4 : (c : Dev Cert.KernelGainsIdeal.nD) → Buf (Elt Ideal) ((c.tc : Thread Cert.KernelGainsIdeal.nD Cert.KernelGainsIdeal.τ).loc Cert.KernelGainsIdeal.main_v9_4)) (v5 : (c : Dev Cert.KernelGainsIdeal.nD) → Buf (Elt Ideal) ((c.tc : Thread Cert.KernelGainsIdeal.nD Cert.KernelGainsIdeal.τ).loc Cert.KernelGainsIdeal.main_v9_5)) (v6 : (c : Dev Cert.KernelGainsIdeal.nD) → Buf (Elt Ideal) ((c.tc : Thread Cert.KernelGainsIdeal.nD Cert.KernelGainsIdeal.τ).loc Cert.KernelGainsIdeal.main_v9_6)) (v7 : (c : Dev Cert.KernelGainsIdeal.nD) → Buf (Elt Ideal) ((c.tc : Thread Cert.KernelGainsIdeal.nD Cert.KernelGainsIdeal.τ).loc Cert.KernelGainsIdeal.main_v9_7)) (v8 : (c : Dev Cert.KernelGainsIdeal.nD) → Buf (Elt Ideal) ((c.tc : Thread Cert.KernelGainsIdeal.nD Cert.KernelGainsIdeal.τ).loc Cert.KernelGainsIdeal.main_v9_8)) (v9 : (c : Dev Cert.KernelGainsIdeal.nD) → Buf (Elt Ideal) ((c.tc : Thread Cert.KernelGainsIdeal.nD Cert.KernelGainsIdeal.τ).loc Cert.KernelGainsIdeal.main_v9_9)) (v10 : (c : Dev Cert.KernelGainsIdeal.nD) → Buf (Elt Ideal) ((c.tc : Thread Cert.KernelGainsIdeal.nD Cert.KernelGainsIdeal.τ).loc Cert.KernelGainsIdeal.main_v9_10)) (v11 : (c : Dev Cert.KernelGainsIdeal.nD) → Buf (Elt Ideal) ((c.tc : Thread Cert.KernelGainsIdeal.nD Cert.KernelGainsIdeal.τ).loc Cert.KernelGainsIdeal.main_v9_11)) (v12 : (c : Dev Cert.KernelGainsIdeal.nD) → Buf (Elt Ideal) ((c.tc : Thread Cert.KernelGainsIdeal.nD Cert.KernelGainsIdeal.τ).loc Cert.KernelGainsIdeal.main_v9_12)),
      θ_run (Cert.KernelGainsIdeal.defs (F := Ideal)) (onTc (τ := Cert.KernelGainsIdeal.τ) (Cert.KernelGainsIdeal.main (F := Ideal))) ⟨m, fun _ => 0, g⟩ (fun r => ∀ c : Dev Cert.KernelGainsIdeal.nD,
          r.2.mem ((c.tc : Thread Cert.KernelGainsIdeal.nD Cert.KernelGainsIdeal.τ).loc Cert.KernelGainsIdeal.main_v9_0) = v0 c
          ∧ r.2.mem ((c.tc : Thread Cert.KernelGainsIdeal.nD Cert.KernelGainsIdeal.τ).loc Cert.KernelGainsIdeal.main_v9_1) = v1 c
          ∧ r.2.mem ((c.tc : Thread Cert.KernelGainsIdeal.nD Cert.KernelGainsIdeal.τ).loc Cert.KernelGainsIdeal.main_v9_2) = v2 c
          ∧ r.2.mem ((c.tc : Thread Cert.KernelGainsIdeal.nD Cert.KernelGainsIdeal.τ).loc Cert.KernelGainsIdeal.main_v9_3) = v3 c
          ∧ r.2.mem ((c.tc : Thread Cert.KernelGainsIdeal.nD Cert.KernelGainsIdeal.τ).loc Cert.KernelGainsIdeal.main_v9_4) = v4 c
          ∧ r.2.mem ((c.tc : Thread Cert.KernelGainsIdeal.nD Cert.KernelGainsIdeal.τ).loc Cert.KernelGainsIdeal.main_v9_5) = v5 c
          ∧ r.2.mem ((c.tc : Thread Cert.KernelGainsIdeal.nD Cert.KernelGainsIdeal.τ).loc Cert.KernelGainsIdeal.main_v9_6) = v6 c
          ∧ r.2.mem ((c.tc : Thread Cert.KernelGainsIdeal.nD Cert.KernelGainsIdeal.τ).loc Cert.KernelGainsIdeal.main_v9_7) = v7 c
          ∧ r.2.mem ((c.tc : Thread Cert.KernelGainsIdeal.nD Cert.KernelGainsIdeal.τ).loc Cert.KernelGainsIdeal.main_v9_8) = v8 c
          ∧ r.2.mem ((c.tc : Thread Cert.KernelGainsIdeal.nD Cert.KernelGainsIdeal.τ).loc Cert.KernelGainsIdeal.main_v9_9) = v9 c
          ∧ r.2.mem ((c.tc : Thread Cert.KernelGainsIdeal.nD Cert.KernelGainsIdeal.τ).loc Cert.KernelGainsIdeal.main_v9_10) = v10 c
          ∧ r.2.mem ((c.tc : Thread Cert.KernelGainsIdeal.nD Cert.KernelGainsIdeal.τ).loc Cert.KernelGainsIdeal.main_v9_11) = v11 c
          ∧ r.2.mem ((c.tc : Thread Cert.KernelGainsIdeal.nD Cert.KernelGainsIdeal.τ).loc Cert.KernelGainsIdeal.main_v9_12) = v12 c
          ∧ r.2.mem ((c.tc : Thread Cert.KernelGainsIdeal.nD Cert.KernelGainsIdeal.τ).loc Cert.KernelGainsIdeal.main_arg0) = m ((c.tc : Thread Cert.KernelGainsIdeal.nD Cert.KernelGainsIdeal.τ).loc Cert.KernelGainsIdeal.main_arg0)
          ∧ r.2.mem ((c.tc : Thread Cert.KernelGainsIdeal.nD Cert.KernelGainsIdeal.τ).loc Cert.KernelGainsIdeal.main_arg1) = m ((c.tc : Thread Cert.KernelGainsIdeal.nD Cert.KernelGainsIdeal.τ).loc Cert.KernelGainsIdeal.main_arg1)
          ∧ r.2.mem ((c.tc : Thread Cert.KernelGainsIdeal.nD Cert.KernelGainsIdeal.τ).loc Cert.KernelGainsIdeal.main_arg2) = m ((c.tc : Thread Cert.KernelGainsIdeal.nD Cert.KernelGainsIdeal.τ).loc Cert.KernelGainsIdeal.main_arg2)
          ∧ r.2.mem ((c.tc : Thread Cert.KernelGainsIdeal.nD Cert.KernelGainsIdeal.τ).loc Cert.KernelGainsIdeal.main_arg3) = m ((c.tc : Thread Cert.KernelGainsIdeal.nD Cert.KernelGainsIdeal.τ).loc Cert.KernelGainsIdeal.main_arg3)
          ∧ r.2.mem ((c.tc : Thread Cert.KernelGainsIdeal.nD Cert.KernelGainsIdeal.τ).loc Cert.KernelGainsIdeal.main_arg4) = m ((c.tc : Thread Cert.KernelGainsIdeal.nD Cert.KernelGainsIdeal.τ).loc Cert.KernelGainsIdeal.main_arg4)
          ∧ r.2.mem ((c.tc : Thread Cert.KernelGainsIdeal.nD Cert.KernelGainsIdeal.τ).loc Cert.KernelGainsIdeal.main_arg5) = m ((c.tc : Thread Cert.KernelGainsIdeal.nD Cert.KernelGainsIdeal.τ).loc Cert.KernelGainsIdeal.main_arg5)
          ∧ r.2.mem ((c.tc : Thread Cert.KernelGainsIdeal.nD Cert.KernelGainsIdeal.τ).loc Cert.KernelGainsIdeal.main_arg6) = m ((c.tc : Thread Cert.KernelGainsIdeal.nD Cert.KernelGainsIdeal.τ).loc Cert.KernelGainsIdeal.main_arg6)
          ∧ r.2.mem ((c.tc : Thread Cert.KernelGainsIdeal.nD Cert.KernelGainsIdeal.τ).loc Cert.KernelGainsIdeal.main_arg7) = m ((c.tc : Thread Cert.KernelGainsIdeal.nD Cert.KernelGainsIdeal.τ).loc Cert.KernelGainsIdeal.main_arg7)
          ∧ r.2.mem ((c.tc : Thread Cert.KernelGainsIdeal.nD Cert.KernelGainsIdeal.τ).loc Cert.KernelGainsIdeal.main_arg8) = m ((c.tc : Thread Cert.KernelGainsIdeal.nD Cert.KernelGainsIdeal.τ).loc Cert.KernelGainsIdeal.main_arg8)
          ∧ r.2.mem ((c.tc : Thread Cert.KernelGainsIdeal.nD Cert.KernelGainsIdeal.τ).loc Cert.KernelGainsIdeal.main_arg9) = m ((c.tc : Thread Cert.KernelGainsIdeal.nD Cert.KernelGainsIdeal.τ).loc Cert.KernelGainsIdeal.main_arg9))
      ∧ θ_run (Cert.ReferenceGainsIdeal.defs (F := Ideal)) (onTc (τ := Cert.ReferenceGainsIdeal.τ) (Cert.ReferenceGainsIdeal.main (F := Ideal))) ⟨m', fun _ => 0, g'⟩ (fun r => ∀ c : Dev Cert.ReferenceGainsIdeal.nD,
          r.2.mem ((c.tc : Thread Cert.ReferenceGainsIdeal.nD Cert.ReferenceGainsIdeal.τ).loc Cert.ReferenceGainsIdeal.main_v1) = v0 c
          ∧ r.2.mem ((c.tc : Thread Cert.ReferenceGainsIdeal.nD Cert.ReferenceGainsIdeal.τ).loc Cert.ReferenceGainsIdeal.main_v30) = v1 c
          ∧ r.2.mem ((c.tc : Thread Cert.ReferenceGainsIdeal.nD Cert.ReferenceGainsIdeal.τ).loc Cert.ReferenceGainsIdeal.main_v31) = v2 c
          ∧ r.2.mem ((c.tc : Thread Cert.ReferenceGainsIdeal.nD Cert.ReferenceGainsIdeal.τ).loc Cert.ReferenceGainsIdeal.main_v32) = v3 c
          ∧ r.2.mem ((c.tc : Thread Cert.ReferenceGainsIdeal.nD Cert.ReferenceGainsIdeal.τ).loc Cert.ReferenceGainsIdeal.main_v33) = v4 c
          ∧ r.2.mem ((c.tc : Thread Cert.ReferenceGainsIdeal.nD Cert.ReferenceGainsIdeal.τ).loc Cert.ReferenceGainsIdeal.main_v62) = v5 c
          ∧ r.2.mem ((c.tc : Thread Cert.ReferenceGainsIdeal.nD Cert.ReferenceGainsIdeal.τ).loc Cert.ReferenceGainsIdeal.main_v63) = v6 c
          ∧ r.2.mem ((c.tc : Thread Cert.ReferenceGainsIdeal.nD Cert.ReferenceGainsIdeal.τ).loc Cert.ReferenceGainsIdeal.main_v64) = v7 c
          ∧ r.2.mem ((c.tc : Thread Cert.ReferenceGainsIdeal.nD Cert.ReferenceGainsIdeal.τ).loc Cert.ReferenceGainsIdeal.main_v65) = v8 c
          ∧ r.2.mem ((c.tc : Thread Cert.ReferenceGainsIdeal.nD Cert.ReferenceGainsIdeal.τ).loc Cert.ReferenceGainsIdeal.main_v94) = v9 c
          ∧ r.2.mem ((c.tc : Thread Cert.ReferenceGainsIdeal.nD Cert.ReferenceGainsIdeal.τ).loc Cert.ReferenceGainsIdeal.main_v95) = v10 c
          ∧ r.2.mem ((c.tc : Thread Cert.ReferenceGainsIdeal.nD Cert.ReferenceGainsIdeal.τ).loc Cert.ReferenceGainsIdeal.main_v96) = v11 c
          ∧ r.2.mem ((c.tc : Thread Cert.ReferenceGainsIdeal.nD Cert.ReferenceGainsIdeal.τ).loc Cert.ReferenceGainsIdeal.main_v97) = v12 c
          ∧ r.2.mem ((c.tc : Thread Cert.ReferenceGainsIdeal.nD Cert.ReferenceGainsIdeal.τ).loc Cert.ReferenceGainsIdeal.main_arg0) = m' ((c.tc : Thread Cert.ReferenceGainsIdeal.nD Cert.ReferenceGainsIdeal.τ).loc Cert.ReferenceGainsIdeal.main_arg0)
          ∧ r.2.mem ((c.tc : Thread Cert.ReferenceGainsIdeal.nD Cert.ReferenceGainsIdeal.τ).loc Cert.ReferenceGainsIdeal.main_arg1) = m' ((c.tc : Thread Cert.ReferenceGainsIdeal.nD Cert.ReferenceGainsIdeal.τ).loc Cert.ReferenceGainsIdeal.main_arg1)
          ∧ r.2.mem ((c.tc : Thread Cert.ReferenceGainsIdeal.nD Cert.ReferenceGainsIdeal.τ).loc Cert.ReferenceGainsIdeal.main_arg2) = m' ((c.tc : Thread Cert.ReferenceGainsIdeal.nD Cert.ReferenceGainsIdeal.τ).loc Cert.ReferenceGainsIdeal.main_arg2)
          ∧ r.2.mem ((c.tc : Thread Cert.ReferenceGainsIdeal.nD Cert.ReferenceGainsIdeal.τ).loc Cert.ReferenceGainsIdeal.main_arg3) = m' ((c.tc : Thread Cert.ReferenceGainsIdeal.nD Cert.ReferenceGainsIdeal.τ).loc Cert.ReferenceGainsIdeal.main_arg3)
          ∧ r.2.mem ((c.tc : Thread Cert.ReferenceGainsIdeal.nD Cert.ReferenceGainsIdeal.τ).loc Cert.ReferenceGainsIdeal.main_arg4) = m' ((c.tc : Thread Cert.ReferenceGainsIdeal.nD Cert.ReferenceGainsIdeal.τ).loc Cert.ReferenceGainsIdeal.main_arg4)
          ∧ r.2.mem ((c.tc : Thread Cert.ReferenceGainsIdeal.nD Cert.ReferenceGainsIdeal.τ).loc Cert.ReferenceGainsIdeal.main_arg5) = m' ((c.tc : Thread Cert.ReferenceGainsIdeal.nD Cert.ReferenceGainsIdeal.τ).loc Cert.ReferenceGainsIdeal.main_arg5)
          ∧ r.2.mem ((c.tc : Thread Cert.ReferenceGainsIdeal.nD Cert.ReferenceGainsIdeal.τ).loc Cert.ReferenceGainsIdeal.main_arg6) = m' ((c.tc : Thread Cert.ReferenceGainsIdeal.nD Cert.ReferenceGainsIdeal.τ).loc Cert.ReferenceGainsIdeal.main_arg6)
          ∧ r.2.mem ((c.tc : Thread Cert.ReferenceGainsIdeal.nD Cert.ReferenceGainsIdeal.τ).loc Cert.ReferenceGainsIdeal.main_arg7) = m' ((c.tc : Thread Cert.ReferenceGainsIdeal.nD Cert.ReferenceGainsIdeal.τ).loc Cert.ReferenceGainsIdeal.main_arg7)
          ∧ r.2.mem ((c.tc : Thread Cert.ReferenceGainsIdeal.nD Cert.ReferenceGainsIdeal.τ).loc Cert.ReferenceGainsIdeal.main_arg8) = m' ((c.tc : Thread Cert.ReferenceGainsIdeal.nD Cert.ReferenceGainsIdeal.τ).loc Cert.ReferenceGainsIdeal.main_arg8)
          ∧ r.2.mem ((c.tc : Thread Cert.ReferenceGainsIdeal.nD Cert.ReferenceGainsIdeal.τ).loc Cert.ReferenceGainsIdeal.main_arg9) = m' ((c.tc : Thread Cert.ReferenceGainsIdeal.nD Cert.ReferenceGainsIdeal.τ).loc Cert.ReferenceGainsIdeal.main_arg9))

def preserves_KernelUpd_KernelUpdIdeal : Prop :=
  True

def algebraic_KernelUpdIdeal_ReferenceUpdIdeal [hKernelUpdIdeal : Cert.KernelUpdIdeal.Facts] [hReferenceUpdIdeal : Cert.ReferenceUpdIdeal.Facts] : Prop :=
  ∀ (m : (ℓ : Loc Cert.KernelUpdIdeal.nD Cert.KernelUpdIdeal.τ Cert.KernelUpdIdeal.sig) → Buf (Elt Ideal) ℓ) (g : Dev Cert.KernelUpdIdeal.nD → PrngReg)
    (m' : (ℓ : Loc Cert.ReferenceUpdIdeal.nD Cert.ReferenceUpdIdeal.τ Cert.ReferenceUpdIdeal.sig) → Buf (Elt Ideal) ℓ) (g' : Dev Cert.ReferenceUpdIdeal.nD → PrngReg), Pre_KernelUpdIdeal m →
    (∀ c : Dev Cert.KernelUpdIdeal.nD,
      m' ((c.tc : Thread Cert.ReferenceUpdIdeal.nD Cert.ReferenceUpdIdeal.τ).loc Cert.ReferenceUpdIdeal.main_arg0) = m ((c.tc : Thread Cert.KernelUpdIdeal.nD Cert.KernelUpdIdeal.τ).loc Cert.KernelUpdIdeal.main_arg0)
      ∧ m' ((c.tc : Thread Cert.ReferenceUpdIdeal.nD Cert.ReferenceUpdIdeal.τ).loc Cert.ReferenceUpdIdeal.main_arg1) = m ((c.tc : Thread Cert.KernelUpdIdeal.nD Cert.KernelUpdIdeal.τ).loc Cert.KernelUpdIdeal.main_arg1)
      ∧ m' ((c.tc : Thread Cert.ReferenceUpdIdeal.nD Cert.ReferenceUpdIdeal.τ).loc Cert.ReferenceUpdIdeal.main_arg2) = m ((c.tc : Thread Cert.KernelUpdIdeal.nD Cert.KernelUpdIdeal.τ).loc Cert.KernelUpdIdeal.main_arg2)
      ∧ m' ((c.tc : Thread Cert.ReferenceUpdIdeal.nD Cert.ReferenceUpdIdeal.τ).loc Cert.ReferenceUpdIdeal.main_arg3) = m ((c.tc : Thread Cert.KernelUpdIdeal.nD Cert.KernelUpdIdeal.τ).loc Cert.KernelUpdIdeal.main_arg3)) →
    ∃ (v0 : (c : Dev Cert.KernelUpdIdeal.nD) → Buf (Elt Ideal) ((c.tc : Thread Cert.KernelUpdIdeal.nD Cert.KernelUpdIdeal.τ).loc Cert.KernelUpdIdeal.main_v1_0)) (v1 : (c : Dev Cert.KernelUpdIdeal.nD) → Buf (Elt Ideal) ((c.tc : Thread Cert.KernelUpdIdeal.nD Cert.KernelUpdIdeal.τ).loc Cert.KernelUpdIdeal.main_v1_1)) (v2 : (c : Dev Cert.KernelUpdIdeal.nD) → Buf (Elt Ideal) ((c.tc : Thread Cert.KernelUpdIdeal.nD Cert.KernelUpdIdeal.τ).loc Cert.KernelUpdIdeal.main_v1_2)) (v3 : (c : Dev Cert.KernelUpdIdeal.nD) → Buf (Elt Ideal) ((c.tc : Thread Cert.KernelUpdIdeal.nD Cert.KernelUpdIdeal.τ).loc Cert.KernelUpdIdeal.main_v1_3)),
      θ_run (Cert.KernelUpdIdeal.defs (F := Ideal)) (onTc (τ := Cert.KernelUpdIdeal.τ) (Cert.KernelUpdIdeal.main (F := Ideal))) ⟨m, fun _ => 0, g⟩ (fun r => ∀ c : Dev Cert.KernelUpdIdeal.nD,
          r.2.mem ((c.tc : Thread Cert.KernelUpdIdeal.nD Cert.KernelUpdIdeal.τ).loc Cert.KernelUpdIdeal.main_v1_0) = v0 c
          ∧ r.2.mem ((c.tc : Thread Cert.KernelUpdIdeal.nD Cert.KernelUpdIdeal.τ).loc Cert.KernelUpdIdeal.main_v1_1) = v1 c
          ∧ r.2.mem ((c.tc : Thread Cert.KernelUpdIdeal.nD Cert.KernelUpdIdeal.τ).loc Cert.KernelUpdIdeal.main_v1_2) = v2 c
          ∧ r.2.mem ((c.tc : Thread Cert.KernelUpdIdeal.nD Cert.KernelUpdIdeal.τ).loc Cert.KernelUpdIdeal.main_v1_3) = v3 c
          ∧ r.2.mem ((c.tc : Thread Cert.KernelUpdIdeal.nD Cert.KernelUpdIdeal.τ).loc Cert.KernelUpdIdeal.main_arg0) = m ((c.tc : Thread Cert.KernelUpdIdeal.nD Cert.KernelUpdIdeal.τ).loc Cert.KernelUpdIdeal.main_arg0)
          ∧ r.2.mem ((c.tc : Thread Cert.KernelUpdIdeal.nD Cert.KernelUpdIdeal.τ).loc Cert.KernelUpdIdeal.main_arg1) = m ((c.tc : Thread Cert.KernelUpdIdeal.nD Cert.KernelUpdIdeal.τ).loc Cert.KernelUpdIdeal.main_arg1)
          ∧ r.2.mem ((c.tc : Thread Cert.KernelUpdIdeal.nD Cert.KernelUpdIdeal.τ).loc Cert.KernelUpdIdeal.main_arg2) = m ((c.tc : Thread Cert.KernelUpdIdeal.nD Cert.KernelUpdIdeal.τ).loc Cert.KernelUpdIdeal.main_arg2)
          ∧ r.2.mem ((c.tc : Thread Cert.KernelUpdIdeal.nD Cert.KernelUpdIdeal.τ).loc Cert.KernelUpdIdeal.main_arg3) = m ((c.tc : Thread Cert.KernelUpdIdeal.nD Cert.KernelUpdIdeal.τ).loc Cert.KernelUpdIdeal.main_arg3))
      ∧ θ_run (Cert.ReferenceUpdIdeal.defs (F := Ideal)) (onTc (τ := Cert.ReferenceUpdIdeal.τ) (Cert.ReferenceUpdIdeal.main (F := Ideal))) ⟨m', fun _ => 0, g'⟩ (fun r => ∀ c : Dev Cert.ReferenceUpdIdeal.nD,
          r.2.mem ((c.tc : Thread Cert.ReferenceUpdIdeal.nD Cert.ReferenceUpdIdeal.τ).loc Cert.ReferenceUpdIdeal.main_v1) = v0 c
          ∧ r.2.mem ((c.tc : Thread Cert.ReferenceUpdIdeal.nD Cert.ReferenceUpdIdeal.τ).loc Cert.ReferenceUpdIdeal.main_v25) = v1 c
          ∧ r.2.mem ((c.tc : Thread Cert.ReferenceUpdIdeal.nD Cert.ReferenceUpdIdeal.τ).loc Cert.ReferenceUpdIdeal.main_v6) = v2 c
          ∧ r.2.mem ((c.tc : Thread Cert.ReferenceUpdIdeal.nD Cert.ReferenceUpdIdeal.τ).loc Cert.ReferenceUpdIdeal.main_v12) = v3 c
          ∧ r.2.mem ((c.tc : Thread Cert.ReferenceUpdIdeal.nD Cert.ReferenceUpdIdeal.τ).loc Cert.ReferenceUpdIdeal.main_arg0) = m' ((c.tc : Thread Cert.ReferenceUpdIdeal.nD Cert.ReferenceUpdIdeal.τ).loc Cert.ReferenceUpdIdeal.main_arg0)
          ∧ r.2.mem ((c.tc : Thread Cert.ReferenceUpdIdeal.nD Cert.ReferenceUpdIdeal.τ).loc Cert.ReferenceUpdIdeal.main_arg1) = m' ((c.tc : Thread Cert.ReferenceUpdIdeal.nD Cert.ReferenceUpdIdeal.τ).loc Cert.ReferenceUpdIdeal.main_arg1)
          ∧ r.2.mem ((c.tc : Thread Cert.ReferenceUpdIdeal.nD Cert.ReferenceUpdIdeal.τ).loc Cert.ReferenceUpdIdeal.main_arg2) = m' ((c.tc : Thread Cert.ReferenceUpdIdeal.nD Cert.ReferenceUpdIdeal.τ).loc Cert.ReferenceUpdIdeal.main_arg2)
          ∧ r.2.mem ((c.tc : Thread Cert.ReferenceUpdIdeal.nD Cert.ReferenceUpdIdeal.τ).loc Cert.ReferenceUpdIdeal.main_arg3) = m' ((c.tc : Thread Cert.ReferenceUpdIdeal.nD Cert.ReferenceUpdIdeal.τ).loc Cert.ReferenceUpdIdeal.main_arg3))

def preserves_KernelBf_KernelBfIdeal : Prop :=
  True

def algebraic_KernelBfIdeal_ReferenceBfIdeal [hKernelBfIdeal : Cert.KernelBfIdeal.Facts] [hReferenceBfIdeal : Cert.ReferenceBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg)
    (m' : (ℓ : Loc Cert.ReferenceBfIdeal.nD Cert.ReferenceBfIdeal.τ Cert.ReferenceBfIdeal.sig) → Buf (Elt Ideal) ℓ) (g' : Dev Cert.ReferenceBfIdeal.nD → PrngReg), Pre_KernelBfIdeal m →
    (∀ c : Dev Cert.KernelBfIdeal.nD,
      m' ((c.tc : Thread Cert.ReferenceBfIdeal.nD Cert.ReferenceBfIdeal.τ).loc Cert.ReferenceBfIdeal.main_arg0) = m ((c.tc : Thread Cert.KernelBfIdeal.nD Cert.KernelBfIdeal.τ).loc Cert.KernelBfIdeal.main_arg0)
      ∧ m' ((c.tc : Thread Cert.ReferenceBfIdeal.nD Cert.ReferenceBfIdeal.τ).loc Cert.ReferenceBfIdeal.main_arg1) = m ((c.tc : Thread Cert.KernelBfIdeal.nD Cert.KernelBfIdeal.τ).loc Cert.KernelBfIdeal.main_arg1)
      ∧ m' ((c.tc : Thread Cert.ReferenceBfIdeal.nD Cert.ReferenceBfIdeal.τ).loc Cert.ReferenceBfIdeal.main_arg2) = m ((c.tc : Thread Cert.KernelBfIdeal.nD Cert.KernelBfIdeal.τ).loc Cert.KernelBfIdeal.main_arg2)
      ∧ m' ((c.tc : Thread Cert.ReferenceBfIdeal.nD Cert.ReferenceBfIdeal.τ).loc Cert.ReferenceBfIdeal.main_arg3) = m ((c.tc : Thread Cert.KernelBfIdeal.nD Cert.KernelBfIdeal.τ).loc Cert.KernelBfIdeal.main_arg3)
      ∧ m' ((c.tc : Thread Cert.ReferenceBfIdeal.nD Cert.ReferenceBfIdeal.τ).loc Cert.ReferenceBfIdeal.main_arg4) = m ((c.tc : Thread Cert.KernelBfIdeal.nD Cert.KernelBfIdeal.τ).loc Cert.KernelBfIdeal.main_arg4)
      ∧ m' ((c.tc : Thread Cert.ReferenceBfIdeal.nD Cert.ReferenceBfIdeal.τ).loc Cert.ReferenceBfIdeal.main_arg5) = m ((c.tc : Thread Cert.KernelBfIdeal.nD Cert.KernelBfIdeal.τ).loc Cert.KernelBfIdeal.main_arg5)) →
    ∃ (v0 : (c : Dev Cert.KernelBfIdeal.nD) → Buf (Elt Ideal) ((c.tc : Thread Cert.KernelBfIdeal.nD Cert.KernelBfIdeal.τ).loc Cert.KernelBfIdeal.main_v8_0)) (v1 : (c : Dev Cert.KernelBfIdeal.nD) → Buf (Elt Ideal) ((c.tc : Thread Cert.KernelBfIdeal.nD Cert.KernelBfIdeal.τ).loc Cert.KernelBfIdeal.main_v8_1)) (v2 : (c : Dev Cert.KernelBfIdeal.nD) → Buf (Elt Ideal) ((c.tc : Thread Cert.KernelBfIdeal.nD Cert.KernelBfIdeal.τ).loc Cert.KernelBfIdeal.main_v8_2)) (v3 : (c : Dev Cert.KernelBfIdeal.nD) → Buf (Elt Ideal) ((c.tc : Thread Cert.KernelBfIdeal.nD Cert.KernelBfIdeal.τ).loc Cert.KernelBfIdeal.main_v8_3)) (v4 : (c : Dev Cert.KernelBfIdeal.nD) → Buf (Elt Ideal) ((c.tc : Thread Cert.KernelBfIdeal.nD Cert.KernelBfIdeal.τ).loc Cert.KernelBfIdeal.main_v8_4)) (v5 : (c : Dev Cert.KernelBfIdeal.nD) → Buf (Elt Ideal) ((c.tc : Thread Cert.KernelBfIdeal.nD Cert.KernelBfIdeal.τ).loc Cert.KernelBfIdeal.main_v8_5)),
      θ_run (Cert.KernelBfIdeal.defs (F := Ideal)) (onTc (τ := Cert.KernelBfIdeal.τ) (Cert.KernelBfIdeal.main (F := Ideal))) ⟨m, fun _ => 0, g⟩ (fun r => ∀ c : Dev Cert.KernelBfIdeal.nD,
          r.2.mem ((c.tc : Thread Cert.KernelBfIdeal.nD Cert.KernelBfIdeal.τ).loc Cert.KernelBfIdeal.main_v8_0) = v0 c
          ∧ r.2.mem ((c.tc : Thread Cert.KernelBfIdeal.nD Cert.KernelBfIdeal.τ).loc Cert.KernelBfIdeal.main_v8_1) = v1 c
          ∧ r.2.mem ((c.tc : Thread Cert.KernelBfIdeal.nD Cert.KernelBfIdeal.τ).loc Cert.KernelBfIdeal.main_v8_2) = v2 c
          ∧ r.2.mem ((c.tc : Thread Cert.KernelBfIdeal.nD Cert.KernelBfIdeal.τ).loc Cert.KernelBfIdeal.main_v8_3) = v3 c
          ∧ r.2.mem ((c.tc : Thread Cert.KernelBfIdeal.nD Cert.KernelBfIdeal.τ).loc Cert.KernelBfIdeal.main_v8_4) = v4 c
          ∧ r.2.mem ((c.tc : Thread Cert.KernelBfIdeal.nD Cert.KernelBfIdeal.τ).loc Cert.KernelBfIdeal.main_v8_5) = v5 c
          ∧ r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
          ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1)
          ∧ r.2.mem ((c.tc : Thread Cert.KernelBfIdeal.nD Cert.KernelBfIdeal.τ).loc Cert.KernelBfIdeal.main_arg2) = m ((c.tc : Thread Cert.KernelBfIdeal.nD Cert.KernelBfIdeal.τ).loc Cert.KernelBfIdeal.main_arg2)
          ∧ r.2.mem ((c.tc : Thread Cert.KernelBfIdeal.nD Cert.KernelBfIdeal.τ).loc Cert.KernelBfIdeal.main_arg3) = m ((c.tc : Thread Cert.KernelBfIdeal.nD Cert.KernelBfIdeal.τ).loc Cert.KernelBfIdeal.main_arg3)
          ∧ r.2.mem ((c.tc : Thread Cert.KernelBfIdeal.nD Cert.KernelBfIdeal.τ).loc Cert.KernelBfIdeal.main_arg4) = m ((c.tc : Thread Cert.KernelBfIdeal.nD Cert.KernelBfIdeal.τ).loc Cert.KernelBfIdeal.main_arg4)
          ∧ r.2.mem ((c.tc : Thread Cert.KernelBfIdeal.nD Cert.KernelBfIdeal.τ).loc Cert.KernelBfIdeal.main_arg5) = m ((c.tc : Thread Cert.KernelBfIdeal.nD Cert.KernelBfIdeal.τ).loc Cert.KernelBfIdeal.main_arg5))
      ∧ θ_run (Cert.ReferenceBfIdeal.defs (F := Ideal)) (onTc (τ := Cert.ReferenceBfIdeal.τ) (Cert.ReferenceBfIdeal.main (F := Ideal))) ⟨m', fun _ => 0, g'⟩ (fun r => ∀ c : Dev Cert.ReferenceBfIdeal.nD,
          r.2.mem ((c.tc : Thread Cert.ReferenceBfIdeal.nD Cert.ReferenceBfIdeal.τ).loc Cert.ReferenceBfIdeal.main_v2) = v0 c
          ∧ r.2.mem ((c.tc : Thread Cert.ReferenceBfIdeal.nD Cert.ReferenceBfIdeal.τ).loc Cert.ReferenceBfIdeal.main_v5) = v1 c
          ∧ r.2.mem ((c.tc : Thread Cert.ReferenceBfIdeal.nD Cert.ReferenceBfIdeal.τ).loc Cert.ReferenceBfIdeal.main_v8) = v2 c
          ∧ r.2.mem ((c.tc : Thread Cert.ReferenceBfIdeal.nD Cert.ReferenceBfIdeal.τ).loc Cert.ReferenceBfIdeal.main_v10) = v3 c
          ∧ r.2.mem ((c.tc : Thread Cert.ReferenceBfIdeal.nD Cert.ReferenceBfIdeal.τ).loc Cert.ReferenceBfIdeal.main_v13) = v4 c
          ∧ r.2.mem ((c.tc : Thread Cert.ReferenceBfIdeal.nD Cert.ReferenceBfIdeal.τ).loc Cert.ReferenceBfIdeal.main_v15) = v5 c
          ∧ r.2.mem ((c.tc : Thread Cert.ReferenceBfIdeal.nD Cert.ReferenceBfIdeal.τ).loc Cert.ReferenceBfIdeal.main_arg0) = m' ((c.tc : Thread Cert.ReferenceBfIdeal.nD Cert.ReferenceBfIdeal.τ).loc Cert.ReferenceBfIdeal.main_arg0)
          ∧ r.2.mem ((c.tc : Thread Cert.ReferenceBfIdeal.nD Cert.ReferenceBfIdeal.τ).loc Cert.ReferenceBfIdeal.main_arg1) = m' ((c.tc : Thread Cert.ReferenceBfIdeal.nD Cert.ReferenceBfIdeal.τ).loc Cert.ReferenceBfIdeal.main_arg1)
          ∧ r.2.mem ((c.tc : Thread Cert.ReferenceBfIdeal.nD Cert.ReferenceBfIdeal.τ).loc Cert.ReferenceBfIdeal.main_arg2) = m' ((c.tc : Thread Cert.ReferenceBfIdeal.nD Cert.ReferenceBfIdeal.τ).loc Cert.ReferenceBfIdeal.main_arg2)
          ∧ r.2.mem ((c.tc : Thread Cert.ReferenceBfIdeal.nD Cert.ReferenceBfIdeal.τ).loc Cert.ReferenceBfIdeal.main_arg3) = m' ((c.tc : Thread Cert.ReferenceBfIdeal.nD Cert.ReferenceBfIdeal.τ).loc Cert.ReferenceBfIdeal.main_arg3)
          ∧ r.2.mem ((c.tc : Thread Cert.ReferenceBfIdeal.nD Cert.ReferenceBfIdeal.τ).loc Cert.ReferenceBfIdeal.main_arg4) = m' ((c.tc : Thread Cert.ReferenceBfIdeal.nD Cert.ReferenceBfIdeal.τ).loc Cert.ReferenceBfIdeal.main_arg4)
          ∧ r.2.mem ((c.tc : Thread Cert.ReferenceBfIdeal.nD Cert.ReferenceBfIdeal.τ).loc Cert.ReferenceBfIdeal.main_arg5) = m' ((c.tc : Thread Cert.ReferenceBfIdeal.nD Cert.ReferenceBfIdeal.τ).loc Cert.ReferenceBfIdeal.main_arg5))

def preserves_KernelPs_KernelPsIdeal : Prop :=
  True

def algebraic_KernelPsIdeal_ReferencePsIdeal [hKernelPsIdeal : Cert.KernelPsIdeal.Facts] [hReferencePsIdeal : Cert.ReferencePsIdeal.Facts] [hPre_a_core : Cert.Pre_a_core.Facts] : Prop :=
  ∀ (m : (ℓ : Loc Cert.KernelPsIdeal.nD Cert.KernelPsIdeal.τ Cert.KernelPsIdeal.sig) → Buf (Elt Ideal) ℓ) (g : Dev Cert.KernelPsIdeal.nD → PrngReg)
    (m' : (ℓ : Loc Cert.ReferencePsIdeal.nD Cert.ReferencePsIdeal.τ Cert.ReferencePsIdeal.sig) → Buf (Elt Ideal) ℓ) (g' : Dev Cert.ReferencePsIdeal.nD → PrngReg), Pre_KernelPsIdeal m →
    (∀ c : Dev Cert.KernelPsIdeal.nD,
      m' ((c.tc : Thread Cert.ReferencePsIdeal.nD Cert.ReferencePsIdeal.τ).loc Cert.ReferencePsIdeal.main_arg0) = m ((c.tc : Thread Cert.KernelPsIdeal.nD Cert.KernelPsIdeal.τ).loc Cert.KernelPsIdeal.main_arg0)
      ∧ m' ((c.tc : Thread Cert.ReferencePsIdeal.nD Cert.ReferencePsIdeal.τ).loc Cert.ReferencePsIdeal.main_arg1) = m ((c.tc : Thread Cert.KernelPsIdeal.nD Cert.KernelPsIdeal.τ).loc Cert.KernelPsIdeal.main_arg1)
      ∧ m' ((c.tc : Thread Cert.ReferencePsIdeal.nD Cert.ReferencePsIdeal.τ).loc Cert.ReferencePsIdeal.main_arg2) = m ((c.tc : Thread Cert.KernelPsIdeal.nD Cert.KernelPsIdeal.τ).loc Cert.KernelPsIdeal.main_arg2)) →
    ∃ (v0 : (c : Dev Cert.KernelPsIdeal.nD) → Buf (Elt Ideal) ((c.tc : Thread Cert.KernelPsIdeal.nD Cert.KernelPsIdeal.τ).loc Cert.KernelPsIdeal.main_v0)),
      θ_run (Cert.KernelPsIdeal.defs (F := Ideal)) (onTc (τ := Cert.KernelPsIdeal.τ) (Cert.KernelPsIdeal.main (F := Ideal))) ⟨m, fun _ => 0, g⟩ (fun r => ∀ c : Dev Cert.KernelPsIdeal.nD,
          r.2.mem ((c.tc : Thread Cert.KernelPsIdeal.nD Cert.KernelPsIdeal.τ).loc Cert.KernelPsIdeal.main_v0) = v0 c
          ∧ r.2.mem ((c.tc : Thread Cert.KernelPsIdeal.nD Cert.KernelPsIdeal.τ).loc Cert.KernelPsIdeal.main_arg0) = m ((c.tc : Thread Cert.KernelPsIdeal.nD Cert.KernelPsIdeal.τ).loc Cert.KernelPsIdeal.main_arg0)
          ∧ r.2.mem ((c.tc : Thread Cert.KernelPsIdeal.nD Cert.KernelPsIdeal.τ).loc Cert.KernelPsIdeal.main_arg1) = m ((c.tc : Thread Cert.KernelPsIdeal.nD Cert.KernelPsIdeal.τ).loc Cert.KernelPsIdeal.main_arg1)
          ∧ r.2.mem ((c.tc : Thread Cert.KernelPsIdeal.nD Cert.KernelPsIdeal.τ).loc Cert.KernelPsIdeal.main_arg2) = m ((c.tc : Thread Cert.KernelPsIdeal.nD Cert.KernelPsIdeal.τ).loc Cert.KernelPsIdeal.main_arg2))
      ∧ θ_run (Cert.ReferencePsIdeal.defs (F := Ideal)) (onTc (τ := Cert.ReferencePsIdeal.τ) (Cert.ReferencePsIdeal.main (F := Ideal))) ⟨m', fun _ => 0, g'⟩ (fun r => ∀ c : Dev Cert.ReferencePsIdeal.nD,
          r.2.mem ((c.tc : Thread Cert.ReferencePsIdeal.nD Cert.ReferencePsIdeal.τ).loc Cert.ReferencePsIdeal.main_v12) = v0 c
          ∧ r.2.mem ((c.tc : Thread Cert.ReferencePsIdeal.nD Cert.ReferencePsIdeal.τ).loc Cert.ReferencePsIdeal.main_arg0) = m' ((c.tc : Thread Cert.ReferencePsIdeal.nD Cert.ReferencePsIdeal.τ).loc Cert.ReferencePsIdeal.main_arg0)
          ∧ r.2.mem ((c.tc : Thread Cert.ReferencePsIdeal.nD Cert.ReferencePsIdeal.τ).loc Cert.ReferencePsIdeal.main_arg1) = m' ((c.tc : Thread Cert.ReferencePsIdeal.nD Cert.ReferencePsIdeal.τ).loc Cert.ReferencePsIdeal.main_arg1)
          ∧ r.2.mem ((c.tc : Thread Cert.ReferencePsIdeal.nD Cert.ReferencePsIdeal.τ).loc Cert.ReferencePsIdeal.main_arg2) = m' ((c.tc : Thread Cert.ReferencePsIdeal.nD Cert.ReferencePsIdeal.τ).loc Cert.ReferencePsIdeal.main_arg2))

def Claim : Prop :=
  ∃ (hKernelMix : Cert.KernelMix.Facts) (hKernelMixIdeal : Cert.KernelMixIdeal.Facts) (hReferenceMixIdeal : Cert.ReferenceMixIdeal.Facts) (hKernelSb : Cert.KernelSb.Facts) (hKernelSbIdeal : Cert.KernelSbIdeal.Facts) (hReferenceSbIdeal : Cert.ReferenceSbIdeal.Facts) (hKernelProj : Cert.KernelProj.Facts) (hKernelProjIdeal : Cert.KernelProjIdeal.Facts) (hReferenceProjIdeal : Cert.ReferenceProjIdeal.Facts) (hKernelFfn : Cert.KernelFfn.Facts) (hKernelFfnIdeal : Cert.KernelFfnIdeal.Facts) (hReferenceFfnIdeal : Cert.ReferenceFfnIdeal.Facts) (hKernelSbf : Cert.KernelSbf.Facts) (hKernelSbfIdeal : Cert.KernelSbfIdeal.Facts) (hReferenceSbfIdeal : Cert.ReferenceSbfIdeal.Facts) (hKernelNp : Cert.KernelNp.Facts) (hKernelNpIdeal : Cert.KernelNpIdeal.Facts) (hReferenceNpIdeal : Cert.ReferenceNpIdeal.Facts) (hKernelCols : Cert.KernelCols.Facts) (hKernelColsIdeal : Cert.KernelColsIdeal.Facts) (hReferenceColsIdeal : Cert.ReferenceColsIdeal.Facts) (hKernelAtb : Cert.KernelAtb.Facts) (hKernelAtbIdeal : Cert.KernelAtbIdeal.Facts) (hReferenceAtbIdeal : Cert.ReferenceAtbIdeal.Facts) (hKernelPcs : Cert.KernelPcs.Facts) (hKernelPcsIdeal : Cert.KernelPcsIdeal.Facts) (hReferencePcsIdeal : Cert.ReferencePcsIdeal.Facts) (hKernelGains : Cert.KernelGains.Facts) (hKernelGainsIdeal : Cert.KernelGainsIdeal.Facts) (hReferenceGainsIdeal : Cert.ReferenceGainsIdeal.Facts) (hKernelUpd : Cert.KernelUpd.Facts) (hKernelUpdIdeal : Cert.KernelUpdIdeal.Facts) (hReferenceUpdIdeal : Cert.ReferenceUpdIdeal.Facts) (hKernelBf : Cert.KernelBf.Facts) (hKernelBfIdeal : Cert.KernelBfIdeal.Facts) (hReferenceBfIdeal : Cert.ReferenceBfIdeal.Facts) (hKernelPs : Cert.KernelPs.Facts) (hKernelPsIdeal : Cert.KernelPsIdeal.Facts) (hReferencePsIdeal : Cert.ReferencePsIdeal.Facts) (hPre_finite_mix : Cert.Pre_finite_mix.Facts) (hPre_finite_sb : Cert.Pre_finite_sb.Facts) (hPre_finite_proj : Cert.Pre_finite_proj.Facts) (hPre_finite_ffn : Cert.Pre_finite_ffn.Facts) (hPre_finite_sbf : Cert.Pre_finite_sbf.Facts) (hPre_a_core : Cert.Pre_a_core.Facts),
    quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelSb (hKernelSb := hKernelSb)
    ∧ quiescent_KernelSbIdeal (hKernelSbIdeal := hKernelSbIdeal)
    ∧ quiescent_KernelSbIdeal_pre_finite_sb (hKernelSbIdeal := hKernelSbIdeal) (hPre_finite_sb := hPre_finite_sb)
    ∧ quiescent_ReferenceSbIdeal (hReferenceSbIdeal := hReferenceSbIdeal)
    ∧ quiescent_ReferenceSbIdeal_pre_finite_sb (hReferenceSbIdeal := hReferenceSbIdeal) (hPre_finite_sb := hPre_finite_sb)
    ∧ quiescent_KernelProj (hKernelProj := hKernelProj)
    ∧ quiescent_KernelProjIdeal (hKernelProjIdeal := hKernelProjIdeal)
    ∧ quiescent_KernelProjIdeal_pre_finite_proj (hKernelProjIdeal := hKernelProjIdeal) (hPre_finite_proj := hPre_finite_proj)
    ∧ quiescent_ReferenceProjIdeal (hReferenceProjIdeal := hReferenceProjIdeal)
    ∧ quiescent_ReferenceProjIdeal_pre_finite_proj (hReferenceProjIdeal := hReferenceProjIdeal) (hPre_finite_proj := hPre_finite_proj)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelSbf (hKernelSbf := hKernelSbf)
    ∧ quiescent_KernelSbfIdeal (hKernelSbfIdeal := hKernelSbfIdeal)
    ∧ quiescent_KernelSbfIdeal_pre_finite_sbf (hKernelSbfIdeal := hKernelSbfIdeal) (hPre_finite_sbf := hPre_finite_sbf)
    ∧ quiescent_ReferenceSbfIdeal (hReferenceSbfIdeal := hReferenceSbfIdeal)
    ∧ quiescent_ReferenceSbfIdeal_pre_finite_sbf (hReferenceSbfIdeal := hReferenceSbfIdeal) (hPre_finite_sbf := hPre_finite_sbf)
    ∧ quiescent_KernelNp (hKernelNp := hKernelNp)
    ∧ quiescent_KernelNpIdeal (hKernelNpIdeal := hKernelNpIdeal)
    ∧ quiescent_ReferenceNpIdeal (hReferenceNpIdeal := hReferenceNpIdeal)
    ∧ quiescent_KernelCols (hKernelCols := hKernelCols)
    ∧ quiescent_KernelColsIdeal (hKernelColsIdeal := hKernelColsIdeal)
    ∧ quiescent_ReferenceColsIdeal (hReferenceColsIdeal := hReferenceColsIdeal)
    ∧ quiescent_KernelAtb (hKernelAtb := hKernelAtb)
    ∧ quiescent_KernelAtbIdeal (hKernelAtbIdeal := hKernelAtbIdeal)
    ∧ quiescent_ReferenceAtbIdeal (hReferenceAtbIdeal := hReferenceAtbIdeal)
    ∧ quiescent_KernelPcs (hKernelPcs := hKernelPcs)
    ∧ quiescent_KernelPcsIdeal (hKernelPcsIdeal := hKernelPcsIdeal)
    ∧ quiescent_ReferencePcsIdeal (hReferencePcsIdeal := hReferencePcsIdeal)
    ∧ quiescent_KernelGains (hKernelGains := hKernelGains)
    ∧ quiescent_KernelGainsIdeal (hKernelGainsIdeal := hKernelGainsIdeal)
    ∧ quiescent_ReferenceGainsIdeal (hReferenceGainsIdeal := hReferenceGainsIdeal)
    ∧ quiescent_KernelUpd (hKernelUpd := hKernelUpd)
    ∧ quiescent_KernelUpdIdeal (hKernelUpdIdeal := hKernelUpdIdeal)
    ∧ quiescent_ReferenceUpdIdeal (hReferenceUpdIdeal := hReferenceUpdIdeal)
    ∧ quiescent_KernelBf (hKernelBf := hKernelBf)
    ∧ quiescent_KernelBfIdeal (hKernelBfIdeal := hKernelBfIdeal)
    ∧ quiescent_ReferenceBfIdeal (hReferenceBfIdeal := hReferenceBfIdeal)
    ∧ quiescent_KernelPs (hKernelPs := hKernelPs) (hPre_a_core := hPre_a_core)
    ∧ quiescent_KernelPsIdeal (hKernelPsIdeal := hKernelPsIdeal) (hPre_a_core := hPre_a_core)
    ∧ quiescent_ReferencePsIdeal (hReferencePsIdeal := hReferencePsIdeal)
    ∧ quiescent_ReferencePsIdeal_pre_a_core (hReferencePsIdeal := hReferencePsIdeal) (hPre_a_core := hPre_a_core)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelSb_KernelSbIdeal
    ∧ algebraic_KernelSbIdeal_ReferenceSbIdeal_pre_finite_sb (hKernelSbIdeal := hKernelSbIdeal) (hReferenceSbIdeal := hReferenceSbIdeal) (hPre_finite_sb := hPre_finite_sb)
    ∧ preserves_KernelProj_KernelProjIdeal
    ∧ algebraic_KernelProjIdeal_ReferenceProjIdeal_pre_finite_proj (hKernelProjIdeal := hKernelProjIdeal) (hReferenceProjIdeal := hReferenceProjIdeal) (hPre_finite_proj := hPre_finite_proj)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelSbf_KernelSbfIdeal
    ∧ algebraic_KernelSbfIdeal_ReferenceSbfIdeal_pre_finite_sbf (hKernelSbfIdeal := hKernelSbfIdeal) (hReferenceSbfIdeal := hReferenceSbfIdeal) (hPre_finite_sbf := hPre_finite_sbf)
    ∧ preserves_KernelNp_KernelNpIdeal
    ∧ algebraic_KernelNpIdeal_ReferenceNpIdeal (hKernelNpIdeal := hKernelNpIdeal) (hReferenceNpIdeal := hReferenceNpIdeal)
    ∧ preserves_KernelCols_KernelColsIdeal
    ∧ algebraic_KernelColsIdeal_ReferenceColsIdeal (hKernelColsIdeal := hKernelColsIdeal) (hReferenceColsIdeal := hReferenceColsIdeal)
    ∧ preserves_KernelAtb_KernelAtbIdeal
    ∧ algebraic_KernelAtbIdeal_ReferenceAtbIdeal (hKernelAtbIdeal := hKernelAtbIdeal) (hReferenceAtbIdeal := hReferenceAtbIdeal)
    ∧ preserves_KernelPcs_KernelPcsIdeal
    ∧ algebraic_KernelPcsIdeal_ReferencePcsIdeal (hKernelPcsIdeal := hKernelPcsIdeal) (hReferencePcsIdeal := hReferencePcsIdeal)
    ∧ preserves_KernelGains_KernelGainsIdeal
    ∧ algebraic_KernelGainsIdeal_ReferenceGainsIdeal (hKernelGainsIdeal := hKernelGainsIdeal) (hReferenceGainsIdeal := hReferenceGainsIdeal)
    ∧ preserves_KernelUpd_KernelUpdIdeal
    ∧ algebraic_KernelUpdIdeal_ReferenceUpdIdeal (hKernelUpdIdeal := hKernelUpdIdeal) (hReferenceUpdIdeal := hReferenceUpdIdeal)
    ∧ preserves_KernelBf_KernelBfIdeal
    ∧ algebraic_KernelBfIdeal_ReferenceBfIdeal (hKernelBfIdeal := hKernelBfIdeal) (hReferenceBfIdeal := hReferenceBfIdeal)
    ∧ preserves_KernelPs_KernelPsIdeal
    ∧ algebraic_KernelPsIdeal_ReferencePsIdeal (hKernelPsIdeal := hKernelPsIdeal) (hReferencePsIdeal := hReferencePsIdeal) (hPre_a_core := hPre_a_core)
-- ==== Pre_a_core.lean ====
abbrev S8x736x1024 : Shape := ⟨3, ![8, 736, 1024]⟩
abbrev S4x736x1024 : Shape := ⟨3, ![4, 736, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S8x736x1024 .bf16) (main_arg1 : FVec F S4x736x1024 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_finite_ffn.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x256 : S_.BroadcastsInDim S2x2048x256 (![] : Fin 0 → Fin S2x2048x256.rank)
  reducesTo_S2x2048x256_S_d0_1_2 : S2x2048x256.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_arg11 : FVec F S2816x1024 .f32) (main_v48 : IVec S_ 1) (main_v49 : FVec F S1024x5632 .f32) (main_v50 : FVec F S1024x5632 .f32) : IVec S_ 1 :=
  let main_v51 : IVec S1024x5632 1 := cmpf .olt main_v49 main_v50
  let main_c_19 : IVec S_ 1 := constantI S_ 1 1#1
  let main_v52 : IVec S_ 1 := (fun x v => Host.reduce IntOp.andi x v reducesTo_S1024x5632_S_d0_1 h_S_) main_v51 main_c_19
  let main_v53 : IVec S_ 1 := andi main_v48 main_v52
  let main_v54 : FVec F S2816x1024 .f32 := Host.absf main_arg11
  let main_cst_20 : FVec F S_ .f32 := constant S_ .f32 0x7F800000#32
  let main_v55 : FVec F S2816x1024 .f32 := broadcastInDim S2816x1024 ![] bcast_S_S2816x1024 main_cst_20
  let main_v56 : IVec S2816x1024 1 := cmpf .olt main_v54 main_v55
  let main_c_21 : IVec S_ 1 := constantI S_ 1 1#1
  let main_v57 : IVec S_ 1 := (fun x v => Host.reduce IntOp.andi x v reducesTo_S2816x1024_S_d0_1 h_S_) main_v56 main_c_21
  let main_v58 : IVec S_ 1 := andi main_v53 main_v57
  main_v58

def fn_part2 {F : FTy → Type} [FloatOps F] (main_arg7 : FVec F S2x2048x1024 .f32) (main_arg8 : FVec F S1024 .f32) (main_arg9 : FVec F S1024 .f32) (main_arg10 : FVec F S1024x5632 .f32) (main_arg11 : FVec F S2816x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x5632 .f32 := Host.absf main_arg10
  let main_cst_18 : FVec F S_ .f32 := constant S_ .f32 0x7F800000#32
  let main_v50 : FVec F S1024x5632 .f32 := broadcastInDim S1024x5632 ![] bcast_S_S1024x5632 main_cst_18
  fn_part3 (F := F) main_arg11 main_v48 main_v49 main_v50

def fn_part1 {F : FTy → Type} [FloatOps F] (main_arg4 : FVec F S512x1024 .f32) (main_arg5 : FVec F S256x1024 .f32) (main_arg6 : FVec F S1024x1024 .f32) (main_arg7 : FVec F S2x2048x1024 .f32) (main_arg8 : FVec F S1024 .f32) (main_arg9 : FVec F S1024 .f32) (main_arg10 : FVec F S1024x5632 .f32) (main_arg11 : FVec F S2816x1024 .f32) (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x1024 .f32) (main_arg1 : FVec F S2x2048x512 .f32) (main_arg2 : FVec F S2x2048x256 .f32) (main_arg3 : FVec F S2x2048x2048 .f32) (main_arg4 : FVec F S512x1024 .f32) (main_arg5 : FVec F S256x1024 .f32) (main_arg6 : FVec F S1024x1024 .f32) (main_arg7 : FVec F S2x2048x1024 .f32) (main_arg8 : FVec F S1024 .f32) (main_arg9 : FVec F S1024 .f32) (main_arg10 : FVec F S1024x5632 .f32) (main_arg11 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x256 .f32 := Host.absf main_arg2
  let main_cst_2 : FVec F S_ .f32 := constant S_ .f32 0x7F800000#32
  let main_v10 : FVec F S2x2048x256 .f32 := broadcastInDim S2x2048x256 ![] bcast_S_S2x2048x256 main_cst_2
  let main_v11 : IVec S2x2048x256 1 := cmpf .olt main_v9 main_v10
  let main_c_3 : IVec S_ 1 := constantI S_ 1 1#1
  let main_v12 : IVec S_ 1 := (fun x v => Host.reduce IntOp.andi x v reducesTo_S2x2048x256_S_d0_1_2 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_arg4 main_arg5 main_arg6 main_arg7 main_arg8 main_arg9 main_arg10 main_arg11 main_v13 main_v16
-- ==== Pre_finite_mix.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x256 : S_.BroadcastsInDim S2x2048x256 (![] : Fin 0 → Fin S2x2048x256.rank)
  reducesTo_S2x2048x256_S_d0_1_2 : S2x2048x256.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S2x2048x1024 .f32) (main_arg1 : FVec F S2x2048x512 .f32) (main_arg2 : FVec F S2x2048x256 .f32) (main_arg3 : FVec F S2x2048x2048 .f32) (main_arg4 : FVec F S512x1024 .f32) (main_arg5 : FVec F S256x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x256 .f32 := Host.absf main_arg2
  let main_cst_0 : FVec F S_ .f32 := constant S_ .f32 0x7F800000#32
  let main_v5 : FVec F S2x2048x256 .f32 := broadcastInDim S2x2048x256 ![] bcast_S_S2x2048x256 main_cst_0
  let main_v6 : IVec S2x2048x256 1 := cmpf .olt main_v4 main_v5
  let main_c_1 : IVec S_ 1 := constantI S_ 1 1#1
  let main_v7 : IVec S_ 1 := (fun x v => Host.reduce IntOp.andi x v reducesTo_S2x2048x256_S_d0_1_2 h_S_) main_v6 main_c_1
  let main_v8 : IVec S_ 1 := andi main_v3 main_v7
  let main_v9 : FVec F S256x1024 .f32 := Host.absf main_arg5
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024x1024 .f32 := Host.absf main_arg6
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Pre_finite_proj.lean ====
abbrev S2x2048x1024 : Shape := ⟨3, ![2, 2048, 1024]⟩
abbrev S1024 : Shape := ⟨1, ![1024]⟩
abbrev S1024x5888 : Shape := ⟨2, ![1024, 5888]⟩
abbrev S2x2048x512 : Shape := ⟨3, ![2, 2048, 512]⟩
abbrev S2x2048x768 : Shape := ⟨3, ![2, 2048, 768]⟩
abbrev S2x2048x2048 : Shape := ⟨3, ![2, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5888 : S_.BroadcastsInDim S1024x5888 (![] : Fin 0 → Fin S1024x5888.rank)
  reducesTo_S1024x5888_S_d0_1 : S1024x5888.ReducesTo [0, 1] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x768 : S_.BroadcastsInDim S2x2048x768 (![] : Fin 0 → Fin S2x2048x768.rank)
  reducesTo_S2x2048x768_S_d0_1_2 : S2x2048x768.ReducesTo [0, 1, 2] S_

variable [Facts]

def fn_part3 {F : FTy → Type} [FloatOps F] (main_v48 : IVec S_ 1) (main_v49 : FVec F S2x2048x768 .f32) (main_v50 : FVec F S2x2048x768 .f32) : IVec S_ 1 :=
  let main_v51 : IVec S2x2048x768 1 := cmpf .olt main_v49 main_v50
  let main_c_19 : IVec S_ 1 := constantI S_ 1 1#1
  let main_v52 : IVec S_ 1 := (fun x v => Host.reduce IntOp.andi x v reducesTo_S2x2048x768_S_d0_1_2 h_S_) main_v51 main_c_19
  let main_v53 : IVec S_ 1 := andi main_v48 main_v52
  main_v53

def fn_part2 {F : FTy → Type} [FloatOps F] (main_arg6 : FVec F S2x2048x512 .f32) (main_arg7 : FVec F S2x2048x768 .f32) (main_arg8 : FVec F S2x2048x768 .f32) (main_arg9 : FVec F S2x2048x768 .f32) (main_v33 : IVec S_ 1) : IVec S_ 1 :=
  let main_v34 : FVec F S2x2048x512 .f32 := Host.absf main_arg6
  let main_cst_12 : FVec F S_ .f32 := constant S_ .f32 0x7F800000#32
  let main_v35 : FVec F S2x2048x512 .f32 := broadcastInDim S2x2048x512 ![] bcast_S_S2x2048x512 main_cst_12
  let main_v36 : IVec S2x2048x512 1 := cmpf .olt main_v34 main_v35
  let main_c_13 : IVec S_ 1 := constantI S_ 1 1#1
  let main_v37 : IVec S_ 1 := (fun x v => Host.reduce IntOp.andi x v reducesTo_S2x2048x512_S_d0_1_2 h_S_) main_v36 main_c_13
  let main_v38 : IVec S_ 1 := andi main_v33 main_v37
  let main_v39 : FVec F S2x2048x768 .f32 := Host.absf main_arg7
  let main_cst_14 : FVec F S_ .f32 := constant S_ .f32 0x7F800000#32
  let main_v40 : FVec F S2x2048x768 .f32 := broadcastInDim S2x2048x768 ![] bcast_S_S2x2048x768 main_cst_14
  let main_v41 : IVec S2x2048x768 1 := cmpf .olt main_v39 main_v40
  let main_c_15 : IVec S_ 1 := constantI S_ 1 1#1
  let main_v42 : IVec S_ 1 := (fun x v => Host.reduce IntOp.andi x v reducesTo_S2x2048x768_S_d0_1_2 h_S_) main_v41 main_c_15
  let main_v43 : IVec S_ 1 := andi main_v38 main_v42
  let main_v44 : FVec F S2x2048x768 .f32 := Host.absf main_arg8
  let main_cst_16 : FVec F S_ .f32 := constant S_ .f32 0x7F800000#32
  let main_v45 : FVec F S2x2048x768 .f32 := broadcastInDim S2x2048x768 ![] bcast_S_S2x2048x768 main_cst_16
  let main_v46 : IVec S2x2048x768 1 := cmpf .olt main_v44 main_v45
  let main_c_17 : IVec S_ 1 := constantI S_ 1 1#1
  let main_v47 : IVec S_ 1 := (fun x v => Host.reduce IntOp.andi x v reducesTo_S2x2048x768_S_d0_1_2 h_S_) main_v46 main_c_17
  let main_v48 : IVec S_ 1 := andi main_v43 main_v47
  let main_v49 : FVec F S2x2048x768 .f32 := Host.absf main_arg9
  let main_cst_18 : FVec F S_ .f32 := constant S_ .f32 0x7F800000#32
  let main_v50 : FVec F S2x2048x768 .f32 := broadcastInDim S2x2048x768 ![] bcast_S_S2x2048x768 main_cst_18
  fn_part3 (F := F) main_v48 main_v49 main_v50

def fn_part1 {F : FTy → Type} [FloatOps F] (main_arg4 : FVec F S2x2048x512 .f32) (main_arg5 : FVec F S2x2048x512 .f32) (main_arg6 : FVec F S2x2048x512 .f32) (main_arg7 : FVec F S2x2048x768 .f32) (main_arg8 : FVec F S2x2048x768 .f32) (main_arg9 : FVec F S2x2048x768 .f32) (main_arg10 : FVec F S2x2048x2048 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S2x2048x2048 .f32 := Host.absf main_arg10
  let main_cst_6 : FVec F S_ .f32 := constant S_ .f32 0x7F800000#32
  let main_v20 : FVec F S2x2048x2048 .f32 := broadcastInDim S2x2048x2048 ![] bcast_S_S2x2048x2048 main_cst_6
  let main_v21 : IVec S2x2048x2048 1 := cmpf .olt main_v19 main_v20
  let main_c_7 : IVec S_ 1 := constantI S_ 1 1#1
  let main_v22 : IVec S_ 1 := (fun x v => Host.reduce IntOp.andi x v reducesTo_S2x2048x2048_S_d0_1_2 h_S_) main_v21 main_c_7
  let main_v23 : IVec S_ 1 := andi main_v18 main_v22
  let main_v24 : FVec F S2x2048x512 .f32 := Host.absf main_arg4
  let main_cst_8 : FVec F S_ .f32 := constant S_ .f32 0x7F800000#32
  let main_v25 : FVec F S2x2048x512 .f32 := broadcastInDim S2x2048x512 ![] bcast_S_S2x2048x512 main_cst_8
  let main_v26 : IVec S2x2048x512 1 := cmpf .olt main_v24 main_v25
  let main_c_9 : IVec S_ 1 := constantI S_ 1 1#1
  let main_v27 : IVec S_ 1 := (fun x v => Host.reduce IntOp.andi x v reducesTo_S2x2048x512_S_d0_1_2 h_S_) main_v26 main_c_9
  let main_v28 : IVec S_ 1 := andi main_v23 main_v27
  let main_v29 : FVec F S2x2048x512 .f32 := Host.absf main_arg5
  let main_cst_10 : FVec F S_ .f32 := constant S_ .f32 0x7F800000#32
  let main_v30 : FVec F S2x2048x512 .f32 := broadcastInDim S2x2048x512 ![] bcast_S_S2x2048x512 main_cst_10
  let main_v31 : IVec S2x2048x512 1 := cmpf .olt main_v29 main_v30
  let main_c_11 : IVec S_ 1 := constantI S_ 1 1#1
  let main_v32 : IVec S_ 1 := (fun x v => Host.reduce IntOp.andi x v reducesTo_S2x2048x512_S_d0_1_2 h_S_) main_v31 main_c_11
  let main_v33 : IVec S_ 1 := andi main_v28 main_v32
  fn_part2 (F := F) main_arg6 main_arg7 main_arg8 main_arg9 main_v33

def fn {F : FTy → Type} [FloatOps F] (main_arg0 : FVec F S2x2048x1024 .f32) (main_arg1 : FVec F S1024 .f32) (main_arg2 : FVec F S1024x5888 .f32) (main_arg3 : FVec F S2x2048x1024 .f32) (main_arg4 : FVec F S2x2048x512 .f32) (main_arg5 : FVec F S2x2048x512 .f32) (main_arg6 : FVec F S2x2048x512 .f32) (main_arg7 : FVec F S2x2048x768 .f32) (main_arg8 : FVec F S2x2048x768 .f32) (main_arg9 : FVec F S2x2048x768 .f32) (main_arg10 : FVec F S2x2048x2048 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5888 .f32 := Host.absf main_arg2
  let main_cst_2 : FVec F S_ .f32 := constant S_ .f32 0x7F800000#32
  let main_v10 : FVec F S1024x5888 .f32 := broadcastInDim S1024x5888 ![] bcast_S_S1024x5888 main_cst_2
  let main_v11 : IVec S1024x5888 1 := cmpf .olt main_v9 main_v10
  let main_c_3 : IVec S_ 1 := constantI S_ 1 1#1
  let main_v12 : IVec S_ 1 := (fun x v => Host.reduce IntOp.andi x v reducesTo_S1024x5888_S_d0_1 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_arg5 main_arg6 main_arg7 main_arg8 main_arg9 main_arg10 main_v13 main_v16
-- ==== Pre_finite_sb.lean ====
abbrev S2x2048x8x64 : Shape := ⟨4, ![2, 2048, 8, 64]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x8x64 .f32) (main_arg1 : FVec F S2x2048x8x64 .f32) (main_arg2 : FVec F S2x2048x8x64 .f32) (main_arg3 : FVec F S2x2048x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Pre_finite_sbf.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel

variable [Facts]

def fn {F : FTy → Type} [FloatOps F] (main_arg0 : FVec F S2x2048x8x64 .f32) (main_arg1 : FVec F S2x2048x8x64 .f32) (main_arg2 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  main_v13
-- ==== KernelMix.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S1024x512 : Shape := ⟨2, ![1024, 512]⟩
abbrev S1024x256 : Shape := ⟨2, ![1024, 256]⟩
abbrev S512x512 : Shape := ⟨2, ![512, 512]⟩
abbrev S512x256 : Shape := ⟨2, ![512, 256]⟩
abbrev S512x2048 : Shape := ⟨2, ![512, 2048]⟩
abbrev S256x256 : Shape := ⟨2, ![256, 256]⟩

abbrev nBuf : Space → Nat
  | .hbm => 23
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x256, .f32⟩
  | .hbm, ⟨3, _⟩ => ⟨S2x2048x2048, .f32⟩
  | .hbm, ⟨4, _⟩ => ⟨S512x1024, .f32⟩
  | .hbm, ⟨5, _⟩ => ⟨S256x1024, .f32⟩
  | .hbm, ⟨6, _⟩ => ⟨S1024x1024, .f32⟩
  | .hbm, ⟨7, _⟩ => ⟨S4096x1024, .f32⟩
  | .hbm, ⟨8, _⟩ => ⟨S4096x512, .f32⟩
  | .hbm, ⟨9, _⟩ => ⟨S4096x512, .bf16⟩
  | .hbm, ⟨10, _⟩ => ⟨S4096x256, .f32⟩
  | .hbm, ⟨11, _⟩ => ⟨S4096x2048, .f32⟩
  | .hbm, ⟨12, _⟩ => ⟨S1024x512, .f32⟩
  | .hbm, ⟨13, _⟩ => ⟨S1024x512, .bf16⟩
  | .hbm, ⟨14, _⟩ => ⟨S1024x256, .f32⟩
  | .hbm, ⟨15, _⟩ => ⟨S1024x256, .bf16⟩
  | .hbm, ⟨16, _⟩ => ⟨S1024x1024, .bf16⟩
  | .hbm, ⟨17, _⟩ => ⟨S4096x2048, .bf16⟩
  | .hbm, ⟨18, _⟩ => ⟨S4096x1024, .bf16⟩
  | .hbm, ⟨19, _⟩ => ⟨S4096x1024, .bf16⟩
  | .hbm, ⟨20, _⟩ => ⟨S4096x512, .bf16⟩
  | .hbm, ⟨21, _⟩ => ⟨S4096x256, .f32⟩
  | .hbm, ⟨22, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x2048, .f32⟩
  | .local _ .vmem, ⟨7, _⟩ => ⟨S512x2048, .f32⟩
  | .local _ .vmem, ⟨8, _⟩ => ⟨S1024x512, .bf16⟩
  | .local _ .vmem, ⟨9, _⟩ => ⟨S1024x256, .bf16⟩
  | .local _ .vmem, ⟨10, _⟩ => ⟨S1024x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixIdeal.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩
abbrev S2x2048x4x64 : Shape := ⟨4, ![2, 2048, 4, 64]⟩
abbrev S2x2048x4 : Shape := ⟨3, ![2, 2048, 4]⟩
abbrev S2x2048x4x1 : Shape := ⟨4, ![2, 2048, 4, 1]⟩
abbrev S4096x2048 : Shape := ⟨2, ![4096, 2048]⟩
abbrev S4096x1024 : Shape := ⟨2, ![4096, 1024]⟩
abbrev S4096x512 : Shape := ⟨2, ![4096, 512]⟩
abbrev S4096x256 : Shape := ⟨2, ![4096, 256]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x256, .f32⟩
  | .hbm, ⟨3, _⟩ => ⟨S2x2048x2048, .f32⟩
  | .hbm, ⟨4, _⟩ => ⟨S512x1024, .f32⟩
  | .hbm, ⟨5, _⟩ => ⟨S256x1024, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x2048, .f32⟩
  | .hbm, ⟨47, _⟩ => ⟨S2x2048x512, .f32⟩
  | .hbm, ⟨48, _⟩ => ⟨S2x2048x256, .f32⟩
  | .hbm, ⟨49, _⟩ => ⟨S2x2048x256, .f32⟩
  | .hbm, ⟨50, _⟩ => ⟨S2x2048x4x64, .f32⟩
  | .hbm, ⟨51, _⟩ => ⟨S_, .f32⟩
  | .hbm, ⟨52, _⟩ => ⟨S2x2048x4, .f32⟩
  | .hbm, ⟨53, _⟩ => ⟨S2x2048x4x1, .f32⟩
  | .hbm, ⟨54, _⟩ => ⟨S2x2048x4x64, .f32⟩
  | .hbm, ⟨55, _⟩ => ⟨S4096x2048, .f32⟩
  | .hbm, ⟨56, _⟩ => ⟨S4096x2048, .bf16⟩
  | .hbm, ⟨57, _⟩ => ⟨S4096x1024, .f32⟩
  | .hbm, ⟨58, _⟩ => ⟨S4096x1024, .bf16⟩
  | .hbm, ⟨59, _⟩ => ⟨S4096x1024, .f32⟩
  | .hbm, ⟨60, _⟩ => ⟨S4096x1024, .bf16⟩
  | .hbm, ⟨61, _⟩ => ⟨S4096x512, .f32⟩
  | .hbm, ⟨62, _⟩ => ⟨S4096x512, .bf16⟩
  | .hbm, ⟨63, _⟩ => ⟨S4096x256, .f32⟩
  | .hbm, ⟨64, _⟩ => ⟨S4096x256, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KernelSb.lean ====
abbrev S2x2048x8x64 : Shape := ⟨4, ![2, 2048, 8, 64]⟩
abbrev S2x2048x512 : Shape := ⟨3, ![2, 2048, 512]⟩
abbrev S2x2048x1536 : Shape := ⟨3, ![2, 2048, 1536]⟩
abbrev S1x256x128 : Shape := ⟨3, ![1, 256, 128]⟩
abbrev S1x2048x128 : Shape := ⟨3, ![1, 2048, 128]⟩
abbrev S2048x128 : Shape := ⟨2, ![2048, 128]⟩
abbrev S8x512x256 : Shape := ⟨3, ![8, 512, 256]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024x128 : Shape := ⟨2, ![1024, 128]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x1536, .f32⟩
  | .hbm, ⟨8, _⟩ => ⟨S2x2048x1536, .bf16⟩
  | .hbm, ⟨9, _⟩ => ⟨S2x2048x512, .bf16⟩
  | .hbm, ⟨10, _⟩ => ⟨S2x2048x512, .bf16⟩
  | .hbm, ⟨11, _⟩ => ⟨S2x2048x512, .bf16⟩
  | .hbm, ⟨12, _⟩ => ⟨S2x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2048x128, .f32⟩
  | .local _ .vmem, ⟨15, _⟩ => ⟨S2048x128, .f32⟩
  | .local _ .vmem, ⟨16, _⟩ => ⟨S8x512x256, .f32⟩
  | .local _ .vmem, ⟨17, _⟩ => ⟨S8x512x256, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32_8 : BitVec 32 := 256#32
  let v35 : BitVec 32 := Scalar.muli arg2 c256_i32_8
  v35
def k0_off1 (i : grid0.Coords) : Fin 3 → Nat :=
  let c0_9 : Index := 0#32
  let arg2 : BitVec 32 := BitVec.ofNat 32 (i 2).val
  let c256_i32_8 : BitVec 32 := 256#32
  let v35 : BitVec 32 := Scalar.muli arg2 c256_i32_8
  let v36 : BitVec 32 := v35
  let v37 : Index := Scalar.indexCast v36
  let c0_10 : Index := 0#32
  ![0, v37.toNat, 0]
def k0_off2 (i : grid0.Coords) : Fin 3 → Nat :=
  let arg2 : BitVec 32 := BitVec.ofNat 32 (i 2).val
  let v53 : Index := Scalar.indexCast arg2
  let c0_16 : Index := 0#32
  let c0_17 : Index := 0#32
  ![v53.toNat, 0, 0]
def k0_mult2 (i : grid0.Coords) (arg14 : BitVec 32) : BitVec 32 :=
  let arg2 : BitVec 32 := BitVec.ofNat 32 (i 2).val
  let c1_i32_59 : BitVec 32 := 1#32
  let v187 : BitVec 32 := Scalar.subi arg2 c1_i32_59
  let v188 : BitVec 32 := Scalar.subi v187 arg14
  let c256_i32_60 : BitVec 32 := 256#32
  let v189 : BitVec 32 := Scalar.muli v188 c256_i32_60
  v189

def k0_off3 (i : grid0.Coords) (arg14 : BitVec 32) : Fin 3 → Nat :=
  let c0_61 : Index := 0#32
  let arg2 : BitVec 32 := BitVec.ofNat 32 (i 2).val
  let c1_i32_59 : BitVec 32 := 1#32
  let v187 : BitVec 32 := Scalar.subi arg2 c1_i32_59
  let v188 : BitVec 32 := Scalar.subi v187 arg14
  let c256_i32_60 : BitVec 32 := 256#32
  let v189 : BitVec 32 := Scalar.muli v188 c256_i32_60
  let v190 : BitVec 32 := v189
  let v191 : Index := Scalar.indexCast v190
  let c0_62 : Index := 0#32
  ![0, v191.toNat, 0]
def k0_off4 (i : grid0.Coords) (arg14 : BitVec 32) : Fin 3 → Nat :=
  let arg2 : BitVec 32 := BitVec.ofNat 32 (i 2).val
  let c1_i32_59 : BitVec 32 := 1#32
  let v187 : BitVec 32 := Scalar.subi arg2 c1_i32_59
  let v188 : BitVec 32 := Scalar.subi v187 arg14
  let v205 : Index := Scalar.indexCast v188
  let c0_67 : Index := 0#32
  let c0_68 : Index := 0#32
  ![v205.toNat, 0, 0]

def k0_chk1 (i : grid0.Coords) (arg14 : BitVec 32) : Prop :=
  (256 ∣ (k0_mult2 i arg14).toNat) ∧
  (∀ a, (k0_off3 i arg14) a + S1x256x128.size a ≤ S1x2048x128.size a) ∧
  (∀ a, (k0_off4 i arg14) a + S1x512x256.size a ≤ S8x512x256.size a)
theorem k0_mult2_dvd : ∀ (i : grid0.Coords) (arg14 : BitVec 32) (k0_hw1 : k0_chk1 i arg14), 256 ∣ (k0_mult2 i arg14).toNat := fun i arg14 k0_hw1 => k0_hw1.1
theorem k0_off3_inb : ∀ (i : grid0.Coords) (arg14 : BitVec 32) (k0_hw1 : k0_chk1 i arg14), ∀ a, (k0_off3 i arg14) a + S1x256x128.size a ≤ S1x2048x128.size a := fun i arg14 k0_hw1 => k0_hw1.2.1
theorem k0_off4_inb : ∀ (i : grid0.Coords) (arg14 : BitVec 32) (k0_hw1 : k0_chk1 i arg14), ∀ a, (k0_off4 i arg14) a + S1x512x256.size a ≤ S8x512x256.size a := fun i arg14 k0_hw1 => k0_hw1.2.2

@[reducible] def k0_t1_loop (i : grid0.Coords) (v69_0 : BitVec 32) : Scf.Loop 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_27 : BitVec 32 := 1#32
  ⟨v70, v80, c1_i32_27⟩

def k0_mult3 (i : grid0.Coords) (v69_0 : BitVec 32) (k0_t1 : Fin (k0_t1_loop i v69_0).trips) : BitVec 32 :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  v187
def k0_off5 (i : grid0.Coords) (v69_0 : BitVec 32) (k0_t1 : Fin (k0_t1_loop i v69_0).trips) : Fin 3 → Nat :=
  let c0_60 : Index := 0#32
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  let v188 : BitVec 32 := v187
  let v189 : Index := Scalar.indexCast v188
  let c0_61 : Index := 0#32
  ![0, v189.toNat, 0]
def k0_off6 (i : grid0.Coords) (v69_0 : BitVec 32) (k0_t1 : Fin (k0_t1_loop i v69_0).trips) : Fin 3 → Nat :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let v196 : Index := Scalar.indexCast arg14
  let c0_65 : Index := 0#32
  let c0_66 : Index := 0#32
  ![v196.toNat, 0, 0]
def k0_off7 (i : grid0.Coords) (v69_0 : BitVec 32) (k0_t1 : Fin (k0_t1_loop i v69_0).trips) : Fin 2 → Nat :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  let v188 : BitVec 32 := v187
  let v254 : Index := Scalar.indexCast v188
  let c0_76 : Index := 0#32
  ![v254.toNat, 0]
@[reducible] def k0_t2_loop (i : grid0.Coords) (v69_0 : BitVec 32) : Scf.Loop 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let v77 : BitVec 32 := Scalar.addi v70 v76
  let c1_i32_28 : BitVec 32 := 1#32
  ⟨v80, v77, c1_i32_28⟩
def k0_mult4 (i : grid0.Coords) (v69_0 : BitVec 32) (k0_t2 : Fin (k0_t2_loop i v69_0).trips) : BitVec 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  v187
def k0_off8 (i : grid0.Coords) (v69_0 : BitVec 32) (k0_t2 : Fin (k0_t2_loop i v69_0).trips) : Fin 3 → Nat :=
  let c0_60 : Index := 0#32
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  let v188 : BitVec 32 := v187
  let v189 : Index := Scalar.indexCast v188
  let c0_61 : Index := 0#32
  ![0, v189.toNat, 0]
def k0_off9 (i : grid0.Coords) (v69_0 : BitVec 32) (k0_t2 : Fin (k0_t2_loop i v69_0).trips) : Fin 3 → Nat :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let v196 : Index := Scalar.indexCast arg14
  let c0_65 : Index := 0#32
  let c0_66 : Index := 0#32
  ![v196.toNat, 0, 0]
def k0_off10 (i : grid0.Coords) (v69_0 : BitVec 32) (k0_t2 : Fin (k0_t2_loop i v69_0).trips) : Fin 2 → Nat :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  let v188 : BitVec 32 := v187
  let v254 : Index := Scalar.indexCast v188
  let c0_76 : Index := 0#32
  ![v254.toNat, 0]

def k0_chk2 (i : grid0.Coords) (v69_0 : BitVec 32) : Prop :=
  ((k0_t1_loop i v69_0).OK) ∧
  (∀ k0_t1 : Fin (k0_t1_loop i v69_0).trips, 256 ∣ (k0_mult3 i v69_0 k0_t1).toNat) ∧
  (∀ k0_t1 : Fin (k0_t1_loop i v69_0).trips, ∀ a, (k0_off5 i v69_0 k0_t1) a + S1x256x128.size a ≤ S1x2048x128.size a) ∧
  (∀ k0_t1 : Fin (k0_t1_loop i v69_0).trips, ∀ a, (k0_off6 i v69_0 k0_t1) a + S1x512x256.size a ≤ S8x512x256.size a) ∧
  (∀ k0_t1 : Fin (k0_t1_loop i v69_0).trips, ∀ a, (k0_off7 i v69_0 k0_t1) a + S256x128.size a ≤ S2048x128.size a) ∧
  ((k0_t2_loop i v69_0).OK) ∧
  (∀ k0_t2 : Fin (k0_t2_loop i v69_0).trips, 256 ∣ (k0_mult4 i v69_0 k0_t2).toNat) ∧
  (∀ k0_t2 : Fin (k0_t2_loop i v69_0).trips, ∀ a, (k0_off8 i v69_0 k0_t2) a + S1x256x128.size a ≤ S1x2048x128.size a) ∧
  (∀ k0_t2 : Fin (k0_t2_loop i v69_0).trips, ∀ a, (k0_off9 i v69_0 k0_t2) a + S1x512x256.size a ≤ S8x512x256.size a) ∧
  (∀ k0_t2 : Fin (k0_t2_loop i v69_0).trips, ∀ a, (k0_off10 i v69_0 k0_t2) a + S256x128.size a ≤ S2048x128.size a)
theorem k0_t1_ok : ∀ (i : grid0.Coords) (v69_0 : BitVec 32) (k0_hw2 : k0_chk2 i v69_0), (k0_t1_loop i v69_0).OK := fun i v69_0 k0_hw2 => k0_hw2.1
theorem k0_mult3_dvd : ∀ (i : grid0.Coords) (v69_0 : BitVec 32) (k0_hw2 : k0_chk2 i v69_0) (k0_t1 : Fin (k0_t1_loop i v69_0).trips), 256 ∣ (k0_mult3 i v69_0 k0_t1).toNat := fun i v69_0 k0_hw2 k0_t1 => k0_hw2.2.1 k0_t1
theorem k0_off5_inb : ∀ (i : grid0.Coords) (v69_0 : BitVec 32) (k0_hw2 : k0_chk2 i v69_0) (k0_t1 : Fin (k0_t1_loop i v69_0).trips), ∀ a, (k0_off5 i v69_0 k0_t1) a + S1x256x128.size a ≤ S1x2048x128.size a := fun i v69_0 k0_hw2 k0_t1 => k0_hw2.2.2.1 k0_t1
theorem k0_off6_inb : ∀ (i : grid0.Coords) (v69_0 : BitVec 32) (k0_hw2 : k0_chk2 i v69_0) (k0_t1 : Fin (k0_t1_loop i v69_0).trips), ∀ a, (k0_off6 i v69_0 k0_t1) a + S1x512x256.size a ≤ S8x512x256.size a := fun i v69_0 k0_hw2 k0_t1 => k0_hw2.2.2.2.1 k0_t1
theorem k0_off7_inb : ∀ (i : grid0.Coords) (v69_0 : BitVec 32) (k0_hw2 : k0_chk2 i v69_0) (k0_t1 : Fin (k0_t1_loop i v69_0).trips), ∀ a, (k0_off7 i v69_0 k0_t1) a + S256x128.size a ≤ S2048x128.size a := fun i v69_0 k0_hw2 k0_t1 => k0_hw2.2.2.2.2.1 k0_t1
theorem k0_t2_ok : ∀ (i : grid0.Coords) (v69_0 : BitVec 32) (k0_hw2 : k0_chk2 i v69_0), (k0_t2_loop i v69_0).OK := fun i v69_0 k0_hw2 => k0_hw2.2.2.2.2.2.1
theorem k0_mult4_dvd : ∀ (i : grid0.Coords) (v69_0 : BitVec 32) (k0_hw2 : k0_chk2 i v69_0) (k0_t2 : Fin (k0_t2_loop i v69_0).trips), 256 ∣ (k0_mult4 i v69_0 k0_t2).toNat := fun i v69_0 k0_hw2 k0_t2 => k0_hw2.2.2.2.2.2.2.1 k0_t2
theorem k0_off8_inb : ∀ (i : grid0.Coords) (v69_0 : BitVec 32) (k0_hw2 : k0_chk2 i v69_0) (k0_t2 : Fin (k0_t2_loop i v69_0).trips), ∀ a, (k0_off8 i v69_0 k0_t2) a + S1x256x128.size a ≤ S1x2048x128.size a := fun i v69_0 k0_hw2 k0_t2 => k0_hw2.2.2.2.2.2.2.2.1 k0_t2
theorem k0_off9_inb : ∀ (i : grid0.Coords) (v69_0 : BitVec 32) (k0_hw2 : k0_chk2 i v69_0) (k0_t2 : Fin (k0_t2_loop i v69_0).trips), ∀ a, (k0_off9 i v69_0 k0_t2) a + S1x512x256.size a ≤ S8x512x256.size a := fun i v69_0 k0_hw2 k0_t2 => k0_hw2.2.2.2.2.2.2.2.2.1 k0_t2
theorem k0_off10_inb : ∀ (i : grid0.Coords) (v69_0 : BitVec 32) (k0_hw2 : k0_chk2 i v69_0) (k0_t2 : Fin (k0_t2_loop i v69_0).trips), ∀ a, (k0_off10 i v69_0 k0_t2) a + S256x128.size a ≤ S2048x128.size a := fun i v69_0 k0_hw2 k0_t2 => k0_hw2.2.2.2.2.2.2.2.2.2 k0_t2

def k0_mult5 (i : grid0.Coords) : BitVec 32 :=
  let arg2 : BitVec 32 := BitVec.ofNat 32 (i 2).val
  let c256_i32_31 : BitVec 32 := 256#32
  let v91 : BitVec 32 := Scalar.muli arg2 c256_i32_31
  v91
def k0_off11 (i : grid0.Coords) : Fin 3 → Nat :=
  let c0_32 : Index := 0#32
  let arg2 : BitVec 32 := BitVec.ofNat 32 (i 2).val
  let c256_i32_31 : BitVec 32 := 256#32
  let v91 : BitVec 32 := Scalar.muli arg2 c256_i32_31
  let v92 : BitVec 32 := v91
  let v93 : Index := Scalar.indexCast v92
  let c0_33 : Index := 0#32
  ![0, v93.toNat, 0]
def k0_off12 (i : grid0.Coords) : Fin 3 → Nat :=
  let arg2 : BitVec 32 := BitVec.ofNat 32 (i 2).val
  let v100 : Index := Scalar.indexCast arg2
  let c0_37 : Index := 0#32
  let c0_38 : Index := 0#32
  ![v100.toNat, 0, 0]
def k0_off13 (i : grid0.Coords) : Fin 2 → Nat :=
  let arg2 : BitVec 32 := BitVec.ofNat 32 (i 2).val
  let c256_i32_31 : BitVec 32 := 256#32
  let v91 : BitVec 32 := Scalar.muli arg2 c256_i32_31
  let v92 : BitVec 32 := v91
  let v158 : Index := Scalar.indexCast v92
  let c0_48 : Index := 0#32
  ![v158.toNat, 0]
def k0_cond2 (i : grid0.Coords) : BitVec 1 :=
  let arg2 : BitVec 32 := BitVec.ofNat 32 (i 2).val
  let c7_i32 : BitVec 32 := 7#32
  let v184 : BitVec 1 := Scalar.cmpi .eq arg2 c7_i32
  let v185 : BitVec 32 := Scalar.extui v184
  let c0_i32_58 : BitVec 32 := 0#32
  let v186 : BitVec 1 := Scalar.cmpi .ne v185 c0_i32_58
  v186

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelSbIdeal.lean ====
variable {F : FTy → Type} [FloatOps F] [Named F]
def κ : String → Option EReal := fun
  | "sb_dead" => some ⊥
  | _ => none
-- ==== ReferenceSbIdeal.lean ====
abbrev S2x2048x8x64 : Shape := ⟨4, ![2, 2048, 8, 64]⟩
abbrev S2x2048x512 : Shape := ⟨3, ![2, 2048, 512]⟩
abbrev S2048 : Shape := ⟨1, ![2048]⟩
abbrev S2x8x2048x2048 : Shape := ⟨4, ![2, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩

abbrev nBuf : Space → Nat
  | .hbm => 172
  | .vmem => 0
  | .smem => 0
  | _ => 0

abbrev hbmTy0_0 (i : Nat) : BufTy := match i % 128 with
  | 0 => ⟨S2x2048x8x64, .f32⟩
  | 1 => ⟨S2x2048x8x64, .f32⟩
  | 2 => ⟨S2x2048x8x64, .f32⟩
  | 3 => ⟨S2x2048x512, .f32⟩
  | 4 => ⟨S2048, .i32⟩
  | 5 => ⟨S2x8x2048x2048, .f32⟩
  | 6 => ⟨S_, .f32⟩
  | 7 => ⟨S2x8x2048x2048, .f32⟩
  | 8 => ⟨S2x8x2048x2048, .f32⟩
  | 9 => ⟨S1x2048, .i32⟩
  | 10 => ⟨S2048x1, .i32⟩
  | 11 => ⟨S2048x2048, .i32⟩
  | 12 => ⟨S2048x2048, .i32⟩
  | 13 => ⟨S2048x2048, .i1⟩
  | 14 => ⟨S2x8x2048x2048, .f32⟩
  | 15 => ⟨S2x8x2048x2048, .f32⟩
  | 16 => ⟨S_, .f32⟩
  | 17 => ⟨S2x8x2048x2048, .f32⟩
  | 18 => ⟨S2x8x2048x2048, .f32⟩
  | 19 => ⟨S2x8x2048x2048, .f32⟩
  | 20 => ⟨S2x8x2048x2048, .f32⟩
  | 21 => ⟨S2x8x2048x2048, .i1⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S_, .f32⟩
  | 31 => ⟨S2x8x2048x2048, .f32⟩
  | 32 => ⟨S2x8x2048x2048, .i1⟩
  | 33 => ⟨S_, .f32⟩
  | 34 => ⟨S2x8x2048x2048, .f32⟩
  | 35 => ⟨S2x8x2048x2048, .f32⟩
  | 36 => ⟨S_, .f32⟩
  | 37 => ⟨S2x8x2048x2048, .f32⟩
  | 38 => ⟨S2x8x2048x2048, .i1⟩
  | 39 => ⟨S_, .f32⟩
  | 40 => ⟨S2x8x2048x2048, .f32⟩
  | 41 => ⟨S2x8x2048x2048, .f32⟩
  | 42 => ⟨S2x8x2048x2048, .f32⟩
  | 43 => ⟨S2x8x2048x2048, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S2x8x2048x2048, .f32⟩
  | 52 => ⟨S2x8x2048x2048, .i1⟩
  | 53 => ⟨S_, .f32⟩
  | 54 => ⟨S2x8x2048x2048, .f32⟩
  | 55 => ⟨S2x8x2048x2048, .f32⟩
  | 56 => ⟨S2x8x2048x2048, .f32⟩
  | 57 => ⟨S2x8x2048x2048, .f32⟩
  | 58 => ⟨S2x8x2048x2048, .f32⟩
  | 59 => ⟨S_, .f32⟩
  | 60 => ⟨S2x8x2048x2048, .f32⟩
  | 61 => ⟨S2x8x2048x2048, .f32⟩
  | 62 => ⟨S2x8x2048x2048, .f32⟩
  | 63 => ⟨S_, .f32⟩
  | 64 => ⟨S_, .f32⟩
  | 65 => ⟨S2x8x2048x2048, .i1⟩
  | 66 => ⟨S2x8x2048x2048, .f32⟩
  | 67 => ⟨S2x8x2048x2048, .f32⟩
  | 68 => ⟨S_, .f32⟩
  | 69 => ⟨S2x8x2048x2048, .f32⟩
  | 70 => ⟨S_, .f32⟩
  | 71 => ⟨S_, .f32⟩
  | 72 => ⟨S2x8x2048x2048, .f32⟩
  | 73 => ⟨S2x8x2048x2048, .f32⟩
  | 74 => ⟨S2x8x2048x2048, .f32⟩
  | 75 => ⟨S_, .f32⟩
  | 76 => ⟨S2x8x2048x2048, .f32⟩
  | 77 => ⟨S2x8x2048x2048, .f32⟩
  | 78 => ⟨S2x8x2048x2048, .f32⟩
  | 79 => ⟨S2x8x2048x2048, .f32⟩
  | 80 => ⟨S2x8x2048x2048, .i1⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S2x8x2048x2048, .f32⟩
  | 86 => ⟨S2x8x2048x2048, .f32⟩
  | 87 => ⟨S2x8x2048x2048, .f32⟩
  | 88 => ⟨S2x8x2048x2048, .f32⟩
  | 89 => ⟨S_, .f32⟩
  | 90 => ⟨S2x8x2048x2048, .f32⟩
  | 91 => ⟨S2x8x2048x2048, .i1⟩
  | 92 => ⟨S_, .f32⟩
  | 93 => ⟨S2x8x2048x2048, .f32⟩
  | 94 => ⟨S2x8x2048x2048, .f32⟩
  | 95 => ⟨S_, .f32⟩
  | 96 => ⟨S2x8x2048x2048, .f32⟩
  | 97 => ⟨S2x8x2048x2048, .i1⟩
  | 98 => ⟨S_, .f32⟩
  | 99 => ⟨S2x8x2048x2048, .f32⟩
  | 100 => ⟨S2x8x2048x2048, .f32⟩
  | 101 => ⟨S2x8x2048x2048, .f32⟩
  | 102 => ⟨S2x8x2048x2048, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S2x8x2048x2048, .f32⟩
  | 111 => ⟨S2x8x2048x2048, .i1⟩
  | 112 => ⟨S_, .f32⟩
  | 113 => ⟨S2x8x2048x2048, .f32⟩
  | 114 => ⟨S2x8x2048x2048, .f32⟩
  | 115 => ⟨S2x8x2048x2048, .f32⟩
  | 116 => ⟨S2x8x2048x2048, .f32⟩
  | 117 => ⟨S2x8x2048x2048, .f32⟩
  | 118 => ⟨S_, .f32⟩
  | 119 => ⟨S2x8x2048x2048, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S_, .f32⟩
  | 125 => ⟨S_, .f32⟩
  | 126 => ⟨S2x8x2048x2048, .i1⟩
  | 127 => ⟨S2x8x2048x2048, .f32⟩
  | _ => ⟨S2x2048x8x64, .f32⟩

abbrev hbmTy0_1 (i : Nat) : BufTy := match i % 128 with
  | 0 => ⟨S2x8x2048x2048, .f32⟩
  | 1 => ⟨S_, .f32⟩
  | 2 => ⟨S2x8x2048x2048, .f32⟩
  | 3 => ⟨S2x8x64x2048, .f32⟩
  | 4 => ⟨S2x2048x8x64, .f32⟩
  | 5 => ⟨S2x2048x512, .f32⟩
  | 6 => ⟨S2x2048x8x64, .f32⟩
  | 7 => ⟨S2x8x64x2048, .f32⟩
  | 8 => ⟨S2x8x2048x2048, .f32⟩
  | 9 => ⟨S2x8x64x2048, .f32⟩
  | 10 => ⟨S2x2048x8x64, .f32⟩
  | 11 => ⟨S_, .f32⟩
  | 12 => ⟨S2x8x2048x2048, .f32⟩
  | 13 => ⟨S2x8x2048x2048, .f32⟩
  | 14 => ⟨S2x8x2048x2048, .f32⟩
  | 15 => ⟨S2x8x2048x2048, .f32⟩
  | 16 => ⟨S2x8x2048x2048, .f32⟩
  | 17 => ⟨S2x8x2048x2048, .f32⟩
  | 18 => ⟨S2x8x2048x2048, .f32⟩
  | 19 => ⟨S_, .f32⟩
  | 20 => ⟨S_, .f32⟩
  | 21 => ⟨S2x8x2048x2048, .f32⟩
  | 22 => ⟨S2x8x2048x2048, .f32⟩
  | 23 => ⟨S_, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S_, .f32⟩
  | 32 => ⟨S2x8x2048x2048, .f32⟩
  | 33 => ⟨S2x8x2048x2048, .f32⟩
  | 34 => ⟨S2x8x2048x64, .f32⟩
  | 35 => ⟨S2x2048x8x64, .f32⟩
  | 36 => ⟨S2x8x2048x64, .f32⟩
  | 37 => ⟨S2x2048x8x64, .f32⟩
  | 38 => ⟨S2x2048x512, .f32⟩
  | 39 => ⟨S2x2048x512, .bf16⟩
  | 40 => ⟨S2x2048x512, .f32⟩
  | 41 => ⟨S2x2048x512, .bf16⟩
  | 42 => ⟨S2x2048x512, .f32⟩
  | 43 => ⟨S2x2048x512, .bf16⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_cst_0 : Ref sig .tc := ⟨.hbm, 63, rfl⟩
abbrev main_call1_v0 : Ref sig .tc := ⟨.hbm, 64, rfl⟩
abbrev main_v11_1 : Ref sig .tc := ⟨.hbm, 65, rfl⟩
abbrev main_call1_v2 : Ref sig .tc := ⟨.hbm, 66, rfl⟩
abbrev main_v11_0 : Ref sig .tc := ⟨.hbm, 67, rfl⟩
abbrev main_call1_cst : Ref sig .tc := ⟨.hbm, 68, rfl⟩
abbrev main_v11_2 : Ref sig .tc := ⟨.hbm, 69, rfl⟩
abbrev main_call2_cst : Ref sig .tc := ⟨.hbm, 70, rfl⟩
abbrev main_call2_v0 : Ref sig .tc := ⟨.hbm, 71, rfl⟩
abbrev main_v12 : Ref sig .tc := ⟨.hbm, 72, rfl⟩
abbrev main_v13 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1_0 : Ref sig .tc := ⟨.hbm, 88, rfl⟩
abbrev main_call3_call0_cst_0 : Ref sig .tc := ⟨.hbm, 89, rfl⟩
abbrev main_call3_call0_v13 : Ref sig .tc := ⟨.hbm, 90, rfl⟩
abbrev main_call3_call0_v14 : Ref sig .tc := ⟨.hbm, 91, rfl⟩
abbrev main_call3_call0_cst_1 : Ref sig .tc := ⟨.hbm, 92, rfl⟩
abbrev main_call3_call0_v15 : Ref sig .tc := ⟨.hbm, 93, rfl⟩
abbrev main_call3_call0_v16 : Ref sig .tc := ⟨.hbm, 94, rfl⟩
abbrev main_call3_call0_cst_2 : Ref sig .tc := ⟨.hbm, 95, rfl⟩
abbrev main_call3_call0_v17 : Ref sig .tc := ⟨.hbm, 96, rfl⟩
abbrev main_call3_call0_v18 : Ref sig .tc := ⟨.hbm, 97, rfl⟩
abbrev main_call3_call0_cst_3 : Ref sig .tc := ⟨.hbm, 98, rfl⟩
abbrev main_call3_call0_v19 : Ref sig .tc := ⟨.hbm, 99, rfl⟩
abbrev main_call3_call0_v20 : Ref sig .tc := ⟨.hbm, 100, rfl⟩
abbrev main_call3_call0_v21 : Ref sig .tc := ⟨.hbm, 101, rfl⟩
abbrev main_v14_1 : Ref sig .tc := ⟨.hbm, 102, rfl⟩
abbrev main_call3_call0_cst_4 : Ref sig .tc := ⟨.hbm, 103, rfl⟩
abbrev main_call3_call0_cst_5 : Ref sig .tc := ⟨.hbm, 104, rfl⟩
abbrev main_call3_call0_v23 : Ref sig .tc := ⟨.hbm, 105, rfl⟩
abbrev main_call3_call0_cst_6 : Ref sig .tc := ⟨.hbm, 106, rfl⟩
abbrev main_call3_call0_cst_7 : Ref sig .tc := ⟨.hbm, 107, rfl⟩
abbrev main_call3_call0_v24 : Ref sig .tc := ⟨.hbm, 108, rfl⟩
abbrev main_call3_call0_cst_8 : Ref sig .tc := ⟨.hbm, 109, rfl⟩
abbrev main_call3_call0_v25 : Ref sig .tc := ⟨.hbm, 110, rfl⟩
abbrev main_call3_call0_v26 : Ref sig .tc := ⟨.hbm, 111, rfl⟩
abbrev main_call3_call0_cst_9 : Ref sig .tc := ⟨.hbm, 112, rfl⟩
abbrev main_call3_call0_v27 : Ref sig .tc := ⟨.hbm, 113, rfl⟩
abbrev main_call3_call0_v28 : Ref sig .tc := ⟨.hbm, 114, rfl⟩
abbrev main_call3_call0_v29 : Ref sig .tc := ⟨.hbm, 115, rfl⟩
abbrev main_call3_call0_v30 : Ref sig .tc := ⟨.hbm, 116, rfl⟩
abbrev main_call3_call0_v31 : Ref sig .tc := ⟨.hbm, 117, rfl⟩
abbrev main_call3_call0_cst_10 : Ref sig .tc := ⟨.hbm, 118, rfl⟩
abbrev main_call3_call0_v32 : Ref sig .tc := ⟨.hbm, 119, rfl⟩
abbrev main_v14_2 : Ref sig .tc := ⟨.hbm, 120, rfl⟩
abbrev main_v14_0 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_call5_cst : Ref sig .tc := ⟨.hbm, 139, rfl⟩
abbrev main_call5_v0 : Ref sig .tc := ⟨.hbm, 140, rfl⟩
abbrev main_v26 : Ref sig .tc := ⟨.hbm, 141, rfl⟩
abbrev main_v27 : Ref sig .tc := ⟨.hbm, 142, rfl⟩
abbrev main_call6_v0 : Ref sig .tc := ⟨.hbm, 143, rfl⟩
abbrev main_call6_v1 : Ref sig .tc := ⟨.hbm, 144, rfl⟩
abbrev main_v28 : Ref sig .tc := ⟨.hbm, 145, rfl⟩
abbrev main_v29 : Ref sig .tc := ⟨.hbm, 146, rfl⟩
abbrev main_call7_cst : Ref sig .tc := ⟨.hbm, 147, rfl⟩
abbrev main_call7_v0 : Ref sig .tc := ⟨.hbm, 148, rfl⟩
abbrev main_v30 : Ref sig .tc := ⟨.hbm, 149, rfl⟩
abbrev main_v31 : Ref sig .tc := ⟨.hbm, 150, rfl⟩
abbrev main_call8_cst : Ref sig .tc := ⟨.hbm, 151, rfl⟩
abbrev main_call8_v0 : Ref sig .tc := ⟨.hbm, 152, rfl⟩
abbrev main_v32 : Ref sig .tc := ⟨.hbm, 153, rfl⟩
abbrev main_call9_v0 : Ref sig .tc := ⟨.hbm, 154, rfl⟩
abbrev main_call9_v1 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_cst_2 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩

abbrev nD : Nat := 1
abbrev τ : Topo := Topo.v7x

variable {F : FTy → Type} [FloatOps F]
-- ==== KernelProj.lean ====
abbrev S2x2048x1024 : Shape := ⟨3, ![2, 2048, 1024]⟩
abbrev S1024 : Shape := ⟨1, ![1024]⟩
abbrev S1024x5888 : Shape := ⟨2, ![1024, 5888]⟩
abbrev S2x2048x512 : Shape := ⟨3, ![2, 2048, 512]⟩
abbrev S2x2048x768 : Shape := ⟨3, ![2, 2048, 768]⟩
abbrev S2x2048x2048 : Shape := ⟨3, ![2, 2048, 2048]⟩
abbrev S4096x768 : Shape := ⟨2, ![4096, 768]⟩
abbrev S4096x256 : Shape := ⟨2, ![4096, 256]⟩
abbrev S4096x512 : Shape := ⟨2, ![4096, 512]⟩
abbrev S4096x2048 : Shape := ⟨2, ![4096, 2048]⟩
abbrev S4096x1024 : Shape := ⟨2, ![4096, 1024]⟩
abbrev S1x1024 : Shape := ⟨2, ![1, 1024]⟩
abbrev S5888x1024 : Shape := ⟨2, ![5888, 1024]⟩
abbrev S256x512 : Shape := ⟨2, ![256, 512]⟩
abbrev S256x256 : Shape := ⟨2, ![256, 256]⟩
abbrev S256x2048 : Shape := ⟨2, ![256, 2048]⟩
abbrev S256x1024 : Shape := ⟨2, ![256, 1024]⟩
abbrev S512x1024 : Shape := ⟨2, ![512, 1024]⟩
abbrev S2048x1024 : Shape := ⟨2, ![2048, 1024]⟩
abbrev S256 : Shape := ⟨1, ![256]⟩
abbrev S256x1 : Shape := ⟨2, ![256, 1]⟩

abbrev nBuf : Space → Nat
  | .hbm => 44
  | .vmem => 35
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x2048, .f32⟩
  | .hbm, ⟨11, _⟩ => ⟨S4096x768, .f32⟩
  | .hbm, ⟨12, _⟩ => ⟨S4096x256, .f32⟩
  | .hbm, ⟨13, _⟩ => ⟨S4096x768, .f32⟩
  | .hbm, ⟨14, _⟩ => ⟨S4096x256, .f32⟩
  | .hbm, ⟨15, _⟩ => ⟨S4096x768, .f32⟩
  | .hbm, ⟨16, _⟩ => ⟨S4096x256, .f32⟩
  | .hbm, ⟨17, _⟩ => ⟨S4096x768, .f32⟩
  | .hbm, ⟨18, _⟩ => ⟨S4096x256, .f32⟩
  | .hbm, ⟨19, _⟩ => ⟨S4096x768, .f32⟩
  | .hbm, ⟨20, _⟩ => ⟨S4096x256, .f32⟩
  | .hbm, ⟨21, _⟩ => ⟨S4096x768, .f32⟩
  | .hbm, ⟨22, _⟩ => ⟨S4096x256, .f32⟩
  | .hbm, ⟨23, _⟩ => ⟨S4096x768, .f32⟩
  | .hbm, ⟨24, _⟩ => ⟨S4096x256, .f32⟩
  | .hbm, ⟨25, _⟩ => ⟨S4096x768, .f32⟩
  | .hbm, ⟨26, _⟩ => ⟨S4096x256, .f32⟩
  | .hbm, ⟨27, _⟩ => ⟨S4096x768, .f32⟩
  | .hbm, ⟨28, _⟩ => ⟨S4096x256, .f32⟩
  | .hbm, ⟨29, _⟩ => ⟨S4096x512, .f32⟩
  | .hbm, ⟨30, _⟩ => ⟨S4096x512, .bf16⟩
  | .hbm, ⟨31, _⟩ => ⟨S4096x512, .f32⟩
  | .hbm, ⟨32, _⟩ => ⟨S4096x512, .bf16⟩
  | .hbm, ⟨33, _⟩ => ⟨S4096x512, .f32⟩
  | .hbm, ⟨34, _⟩ => ⟨S4096x512, .bf16⟩
  | .hbm, ⟨35, _⟩ => ⟨S4096x2048, .f32⟩
  | .hbm, ⟨36, _⟩ => ⟨S4096x2048, .bf16⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S5888x1024, .f32⟩
  | .hbm, ⟨41, _⟩ => ⟨S5888x1024, .bf16⟩
  | .hbm, ⟨42, _⟩ => ⟨S4096x1024, .f32⟩
  | .hbm, ⟨43, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x2048, .bf16⟩
  | .local _ .vmem, ⟨25, _⟩ => ⟨S256x2048, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S5888x1024, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S5888x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceProjIdeal.lean ====
abbrev S2x2048x1024 : Shape := ⟨3, ![2, 2048, 1024]⟩
abbrev S1024 : Shape := ⟨1, ![1024]⟩
abbrev S1024x5888 : Shape := ⟨2, ![1024, 5888]⟩
abbrev S2x2048x512 : Shape := ⟨3, ![2, 2048, 512]⟩
abbrev S2x2048x768 : Shape := ⟨3, ![2, 2048, 768]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5888 : Shape := ⟨3, ![2, 2048, 5888]⟩
abbrev S4096x1024 : Shape := ⟨2, ![4096, 1024]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x2048, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x5888, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x768, .f32⟩
  | .hbm, ⟨36, _⟩ => ⟨S2x2048x768, .f32⟩
  | .hbm, ⟨37, _⟩ => ⟨S2x2048x768, .f32⟩
  | .hbm, ⟨38, _⟩ => ⟨S2x2048x2048, .f32⟩
  | .hbm, ⟨39, _⟩ => ⟨S2x2048x5888, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S2x2048x1024, .f32⟩
  | .hbm, ⟨50, _⟩ => ⟨S_, .f32⟩
  | .hbm, ⟨51, _⟩ => ⟨S2x2048, .f32⟩
  | .hbm, ⟨52, _⟩ => ⟨S2x2048x1, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S_, .f32⟩
  | .hbm, ⟨61, _⟩ => ⟨S2x2048, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S4096x1024, .f32⟩
  | .hbm, ⟨68, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== KernelFfn.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S1024x512 : Shape := ⟨2, ![1024, 512]⟩
abbrev S1024x256 : Shape := ⟨2, ![1024, 256]⟩
abbrev S1x1024 : Shape := ⟨2, ![1, 1024]⟩
abbrev S5632x1024 : Shape := ⟨2, ![5632, 1024]⟩
abbrev S1x128 : Shape := ⟨2, ![1, 128]⟩
abbrev S4096x2816 : Shape := ⟨2, ![4096, 2816]⟩
abbrev S4096x5632 : Shape := ⟨2, ![4096, 5632]⟩
abbrev S256x512 : Shape := ⟨2, ![256, 512]⟩
abbrev S256x256 : Shape := ⟨2, ![256, 256]⟩
abbrev S256x2048 : Shape := ⟨2, ![256, 2048]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩

abbrev nBuf : Space → Nat
  | .hbm => 37
  | .vmem => 33
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x256, .f32⟩
  | .hbm, ⟨3, _⟩ => ⟨S2x2048x2048, .f32⟩
  | .hbm, ⟨4, _⟩ => ⟨S512x1024, .f32⟩
  | .hbm, ⟨5, _⟩ => ⟨S256x1024, .f32⟩
  | .hbm, ⟨6, _⟩ => ⟨S1024x1024, .f32⟩
  | .hbm, ⟨7, _⟩ => ⟨S2x2048x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S4096x1024, .f32⟩
  | .hbm, ⟨13, _⟩ => ⟨S4096x512, .f32⟩
  | .hbm, ⟨14, _⟩ => ⟨S4096x512, .bf16⟩
  | .hbm, ⟨15, _⟩ => ⟨S4096x256, .f32⟩
  | .hbm, ⟨16, _⟩ => ⟨S4096x2048, .f32⟩
  | .hbm, ⟨17, _⟩ => ⟨S1024x512, .f32⟩
  | .hbm, ⟨18, _⟩ => ⟨S1024x512, .bf16⟩
  | .hbm, ⟨19, _⟩ => ⟨S1024x256, .f32⟩
  | .hbm, ⟨20, _⟩ => ⟨S1024x256, .bf16⟩
  | .hbm, ⟨21, _⟩ => ⟨S1024x1024, .bf16⟩
  | .hbm, ⟨22, _⟩ => ⟨S4096x1024, .f32⟩
  | .hbm, ⟨23, _⟩ => ⟨S1x1024, .f32⟩
  | .hbm, ⟨24, _⟩ => ⟨S1x1024, .f32⟩
  | .hbm, ⟨25, _⟩ => ⟨S5632x1024, .f32⟩
  | .hbm, ⟨26, _⟩ => ⟨S5632x1024, .bf16⟩
  | .hbm, ⟨27, _⟩ => ⟨S2816x1024, .bf16⟩
  | .hbm, ⟨28, _⟩ => ⟨S1x128, .f32⟩
  | .hbm, ⟨29, _⟩ => ⟨S4096x1024, .f32⟩
  | .hbm, ⟨30, _⟩ => ⟨S4096x1024, .bf16⟩
  | .hbm, ⟨31, _⟩ => ⟨S4096x1024, .bf16⟩
  | .hbm, ⟨32, _⟩ => ⟨S4096x2816, .bf16⟩
  | .hbm, ⟨33, _⟩ => ⟨S4096x5632, .bf16⟩
  | .hbm, ⟨34, _⟩ => ⟨S4096x1024, .bf16⟩
  | .hbm, ⟨35, _⟩ => ⟨S1x1024, .f32⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S1024x512, .bf16⟩
  | .local _ .vmem, ⟨9, _⟩ => ⟨S1024x256, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S5632x1024, .bf16⟩
  | .local _ .vmem, ⟨16, _⟩ => ⟨S2816x1024, .bf16⟩
  | .local _ .vmem, ⟨17, _⟩ => ⟨S1x128, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x5632, .bf16⟩
  | .local _ .vmem, ⟨27, _⟩ => ⟨S256x5632, .bf16⟩
  | .local _ .vmem, ⟨28, _⟩ => ⟨S256x1024, .bf16⟩
  | .local _ .vmem, ⟨29, _⟩ => ⟨S256x1024, .bf16⟩
  | .local _ .vmem, ⟨30, _⟩ => ⟨S1x1024, .f32⟩
  | .local _ .vmem, ⟨31, _⟩ => ⟨S1x1024, .f32⟩
  | .local _ .vmem, ⟨32, _⟩ => ⟨S256x5632, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v16_7 : Ref sig .tc := ⟨.hbm, 35, rfl⟩
abbrev main_v16_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5632x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceFfnIdeal.lean ====
abbrev S2x2048x1024 : Shape := ⟨3, ![2, 2048, 1024]⟩
abbrev S2x2048x512 : Shape := ⟨3, ![2, 2048, 512]⟩
abbrev S2x2048x256 : Shape := ⟨3, ![2, 2048, 256]⟩
abbrev S2x2048x2048 : Shape := ⟨3, ![2, 2048, 2048]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S1x128 : Shape := ⟨2, ![1, 128]⟩
abbrev S4096x1024 : Shape := ⟨2, ![4096, 1024]⟩
abbrev S4096x2816 : Shape := ⟨2, ![4096, 2816]⟩
abbrev S4096x5632 : Shape := ⟨2, ![4096, 5632]⟩
abbrev S1x1024 : Shape := ⟨2, ![1, 1024]⟩

abbrev nBuf : Space → Nat
  | .hbm => 199
  | .vmem => 0
  | .smem => 0
  | _ => 0

abbrev hbmTy0_0 (i : Nat) : BufTy := match i % 128 with
  | 0 => ⟨S2x2048x1024, .f32⟩
  | 1 => ⟨S2x2048x512, .f32⟩
  | 2 => ⟨S2x2048x256, .f32⟩
  | 3 => ⟨S2x2048x2048, .f32⟩
  | 4 => ⟨S512x1024, .f32⟩
  | 5 => ⟨S256x1024, .f32⟩
  | 6 => ⟨S1024x1024, .f32⟩
  | 7 => ⟨S2x2048x1024, .f32⟩
  | 8 => ⟨S1024, .f32⟩
  | 9 => ⟨S1024, .f32⟩
  | 10 => ⟨S1024x5632, .f32⟩
  | 11 => ⟨S2816x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S_, .f32⟩
  | 19 => ⟨S2x2048x1024, .f32⟩
  | 20 => ⟨S2x2048x1024, .f32⟩
  | 21 => ⟨S_, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S2x2048x1024, .f32⟩
  | 34 => ⟨S2x2048x1024, .f32⟩
  | 35 => ⟨S2x2048x1024, .f32⟩
  | 36 => ⟨S2x2048x1024, .f32⟩
  | 37 => ⟨S_, .f32⟩
  | 38 => ⟨S2x2048x5632, .f32⟩
  | 39 => ⟨S_, .f32⟩
  | 40 => ⟨S2x2048x1024, .f32⟩
  | 41 => ⟨S2x2048x1024, .f32⟩
  | 42 => ⟨S_, .f32⟩
  | 43 => ⟨S2x2048, .f32⟩
  | 44 => ⟨S2x2048x1, .f32⟩
  | 45 => ⟨S_, .f32⟩
  | 46 => ⟨S2x2048x1, .f32⟩
  | 47 => ⟨S2x2048x1, .f32⟩
  | 48 => ⟨S_, .f32⟩
  | 49 => ⟨S2x2048x1, .f32⟩
  | 50 => ⟨S2x2048x1, .f32⟩
  | 51 => ⟨S2x2048x1, .f32⟩
  | 52 => ⟨S2x2048x1, .f32⟩
  | 53 => ⟨S_, .f32⟩
  | 54 => ⟨S2x2048x1, .f32⟩
  | 55 => ⟨S2x2048x1, .f32⟩
  | 56 => ⟨S2x2048x1024, .f32⟩
  | 57 => ⟨S2x2048x1024, .f32⟩
  | 58 => ⟨S1x1x1024, .f32⟩
  | 59 => ⟨S2x2048x1024, .f32⟩
  | 60 => ⟨S2x2048x1024, .f32⟩
  | 61 => ⟨S2x2048x5632, .f32⟩
  | 62 => ⟨S2x2048x5632, .f32⟩
  | 63 => ⟨S2x2048x2816, .f32⟩
  | 64 => ⟨S2x2048x2816, .f32⟩
  | 65 => ⟨S2x2048x2816, .f32⟩
  | 66 => ⟨S2x2048x2816, .f32⟩
  | 67 => ⟨S_, .f32⟩
  | 68 => ⟨S2x2048x2816, .f32⟩
  | 69 => ⟨S2x2048x2816, .f32⟩
  | 70 => ⟨S_, .f32⟩
  | 71 => ⟨S2x2048x2816, .f32⟩
  | 72 => ⟨S2x2048x2816, .f32⟩
  | 73 => ⟨S_, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x2816, .f32⟩
  | 79 => ⟨S2x2048x1024, .f32⟩
  | 80 => ⟨S2x2048x1024, .f32⟩
  | 81 => ⟨S2x2048x1024, .f32⟩
  | 82 => ⟨S2x2048x1024, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S_, .f32⟩
  | 90 => ⟨S2x2048x1, .f32⟩
  | 91 => ⟨S2x2048x1, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x1024, .f32⟩
  | 98 => ⟨S2x2048x1024, .f32⟩
  | 99 => ⟨S1x1x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S_, .f32⟩
  | 105 => ⟨S2x2048x1024, .f32⟩
  | 106 => ⟨S2x2048x1024, .f32⟩
  | 107 => ⟨S_, .f32⟩
  | 108 => ⟨S2x2048, .f32⟩
  | 109 => ⟨S_, .f32⟩
  | 110 => ⟨S2x2048, .f32⟩
  | 111 => ⟨S2x2048, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S2x2048, .f32⟩
  | 120 => ⟨S_, .f32⟩
  | 121 => ⟨S2x2048, .f32⟩
  | 122 => ⟨S2x2048, .f32⟩
  | 123 => ⟨S2x2048x1024, .f32⟩
  | 124 => ⟨S2x2048x1024, .f32⟩
  | 125 => ⟨S2x2048x1024, .f32⟩
  | 126 => ⟨S_, .f32⟩
  | 127 => ⟨S1024, .f32⟩
  | _ => ⟨S2x2048x1024, .f32⟩

abbrev hbmTy0_1 (i : Nat) : BufTy := match i % 128 with
  | 0 => ⟨S1x1x1024, .f32⟩
  | 1 => ⟨S2x2048x1024, .f32⟩
  | 2 => ⟨S2x2048x1024, .f32⟩
  | 3 => ⟨S_, .f32⟩
  | 4 => ⟨S1024, .f32⟩
  | 5 => ⟨S2x2048x1024, .f32⟩
  | 6 => ⟨S_, .f32⟩
  | 7 => ⟨S2x2048, .f32⟩
  | 8 => ⟨S2x2048x1, .f32⟩
  | 9 => ⟨S2x2048x1024, .f32⟩
  | 10 => ⟨S2x2048x1024, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x2816, .f32⟩
  | 23 => ⟨S2x2048x2816, .f32⟩
  | 24 => ⟨S2x2048x2816, .f32⟩
  | 25 => ⟨S2x2048x2816, .f32⟩
  | 26 => ⟨S2x2048x2816, .f32⟩
  | 27 => ⟨S2x2048x2816, .f32⟩
  | 28 => ⟨S2x2048x2816, .f32⟩
  | 29 => ⟨S2x2048x5632, .f32⟩
  | 30 => ⟨S2x2048x1024, .f32⟩
  | 31 => ⟨S2x2048x1024, .f32⟩
  | 32 => ⟨S_, .f32⟩
  | 33 => ⟨S1024, .f32⟩
  | 34 => ⟨S1x1x1024, .f32⟩
  | 35 => ⟨S2x2048x1024, .f32⟩
  | 36 => ⟨S2x2048x1024, .f32⟩
  | 37 => ⟨S_, .f32⟩
  | 38 => ⟨S1024, .f32⟩
  | 39 => ⟨S2x2048x1024, .f32⟩
  | 40 => ⟨S_, .f32⟩
  | 41 => ⟨S2x2048, .f32⟩
  | 42 => ⟨S2x2048x1, .f32⟩
  | 43 => ⟨S2x2048x1024, .f32⟩
  | 44 => ⟨S2x2048x1024, .f32⟩
  | 45 => ⟨S2x2048x1024, .f32⟩
  | 46 => ⟨S2x2048x1, .f32⟩
  | 47 => ⟨S_, .f32⟩
  | 48 => ⟨S2x2048x1, .f32⟩
  | 49 => ⟨S2x2048x1, .f32⟩
  | 50 => ⟨S_, .f32⟩
  | 51 => ⟨S2x2048, .f32⟩
  | 52 => ⟨S2x2048x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S1x128, .f32⟩
  | 58 => ⟨S4096x1024, .f32⟩
  | 59 => ⟨S4096x1024, .f32⟩
  | 60 => ⟨S4096x1024, .bf16⟩
  | 61 => ⟨S4096x1024, .f32⟩
  | 62 => ⟨S4096x1024, .bf16⟩
  | 63 => ⟨S4096x2816, .f32⟩
  | 64 => ⟨S4096x2816, .bf16⟩
  | 65 => ⟨S4096x5632, .f32⟩
  | 66 => ⟨S4096x5632, .bf16⟩
  | 67 => ⟨S4096x1024, .f32⟩
  | 68 => ⟨S4096x1024, .bf16⟩
  | 69 => ⟨S1x1024, .f32⟩
  | 70 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_v43_2 : Ref sig .tc := ⟨.hbm, 72, rfl⟩
abbrev main_call0_cst_1 : Ref sig .tc := ⟨.hbm, 73, rfl⟩
abbrev main_call0_v6 : Ref sig .tc := ⟨.hbm, 74, rfl⟩
abbrev main_call0_v7 : Ref sig .tc := ⟨.hbm, 75, rfl⟩
abbrev main_v43_1 : Ref sig .tc := ⟨.hbm, 76, rfl⟩
abbrev main_v43_0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_13 : Ref sig .tc := ⟨.hbm, 104, rfl⟩
abbrev main_v66 : Ref sig .tc := ⟨.hbm, 105, rfl⟩
abbrev main_v67 : Ref sig .tc := ⟨.hbm, 106, rfl⟩
abbrev main_cst_14 : Ref sig .tc := ⟨.hbm, 107, rfl⟩
abbrev main_v68 : Ref sig .tc := ⟨.hbm, 108, rfl⟩
abbrev main_cst_15 : Ref sig .tc := ⟨.hbm, 109, rfl⟩
abbrev main_v69 : Ref sig .tc := ⟨.hbm, 110, rfl⟩
abbrev main_v70 : Ref sig .tc := ⟨.hbm, 111, rfl⟩
abbrev main_cst_16 : Ref sig .tc := ⟨.hbm, 112, rfl⟩
abbrev main_v71 : Ref sig .tc := ⟨.hbm, 113, rfl⟩
abbrev main_cst_17 : Ref sig .tc := ⟨.hbm, 114, rfl⟩
abbrev main_v72 : Ref sig .tc := ⟨.hbm, 115, rfl⟩
abbrev main_cst_18 : Ref sig .tc := ⟨.hbm, 116, rfl⟩
abbrev main_cst_19 : Ref sig .tc := ⟨.hbm, 117, rfl⟩
abbrev main_v73 : Ref sig .tc := ⟨.hbm, 118, rfl⟩
abbrev main_v74 : Ref sig .tc := ⟨.hbm, 119, rfl⟩
abbrev main_cst_20 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_21 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_22 : Ref sig .tc := ⟨.hbm, 131, rfl⟩
abbrev main_v84 : Ref sig .tc := ⟨.hbm, 132, rfl⟩
abbrev main_v85 : Ref sig .tc := ⟨.hbm, 133, rfl⟩
abbrev main_cst_23 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_24 : Ref sig .tc := ⟨.hbm, 140, rfl⟩
abbrev main_v91 : Ref sig .tc := ⟨.hbm, 141, rfl⟩
abbrev main_v92 : Ref sig .tc := ⟨.hbm, 142, rfl⟩
abbrev main_cst_25 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_26 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_27 : Ref sig .tc := ⟨.hbm, 165, rfl⟩
abbrev main_v110 : Ref sig .tc := ⟨.hbm, 166, rfl⟩
abbrev main_v111 : Ref sig .tc := ⟨.hbm, 167, rfl⟩
abbrev main_cst_28 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_29 : Ref sig .tc := ⟨.hbm, 175, rfl⟩
abbrev main_v118 : Ref sig .tc := ⟨.hbm, 176, rfl⟩
abbrev main_v119 : Ref sig .tc := ⟨.hbm, 177, rfl⟩
abbrev main_cst_30 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩

abbrev nD : Nat := 1
abbrev τ : Topo := Topo.v7x

variable {F : FTy → Type} [FloatOps F]
-- ==== KernelSbf.lean ====
abbrev S2x2048x8x64 : Shape := ⟨4, ![2, 2048, 8, 64]⟩
abbrev S2x2048x512 : Shape := ⟨3, ![2, 2048, 512]⟩
abbrev S2x2048x1536 : Shape := ⟨3, ![2, 2048, 1536]⟩
abbrev S1x256x128 : Shape := ⟨3, ![1, 256, 128]⟩
abbrev S1x2048x128 : Shape := ⟨3, ![1, 2048, 128]⟩
abbrev S128x128 : Shape := ⟨2, ![128, 128]⟩
abbrev S256x128 : Shape := ⟨2, ![256, 128]⟩
abbrev S512x128 : Shape := ⟨2, ![512, 128]⟩
abbrev S512x1 : Shape := ⟨2, ![512, 1]⟩
abbrev S512x256 : Shape := ⟨2, ![512, 256]⟩
abbrev S1024x128 : Shape := ⟨2, ![1024, 128]⟩
abbrev S2048x128 : Shape := ⟨2, ![2048, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x1536, .f32⟩
  | .hbm, ⟨7, _⟩ => ⟨S2x2048x1536, .bf16⟩
  | .hbm, ⟨8, _⟩ => ⟨S2x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32_6 : BitVec 32 := 256#32
  let v27 : BitVec 32 := Scalar.muli arg2 c256_i32_6
  v27
def k0_off1 (i : grid0.Coords) : Fin 3 → Nat :=
  let c0_7 : Index := 0#32
  let arg2 : BitVec 32 := BitVec.ofNat 32 (i 2).val
  let c256_i32_6 : BitVec 32 := 256#32
  let v27 : BitVec 32 := Scalar.muli arg2 c256_i32_6
  let v28 : BitVec 32 := v27
  let v29 : Index := Scalar.indexCast v28
  let c0_8 : Index := 0#32
  ![0, v29.toNat, 0]
def k0_mult2 (i : grid0.Coords) (arg7 : BitVec 32) : BitVec 32 :=
  let arg2 : BitVec 32 := BitVec.ofNat 32 (i 2).val
  let c1_i32 : BitVec 32 := 1#32
  let v96 : BitVec 32 := Scalar.subi arg2 c1_i32
  let v97 : BitVec 32 := Scalar.subi v96 arg7
  let c256_i32_26 : BitVec 32 := 256#32
  let v98 : BitVec 32 := Scalar.muli v97 c256_i32_26
  v98

def k0_off2 (i : grid0.Coords) (arg7 : BitVec 32) : Fin 3 → Nat :=
  let c0_27 : Index := 0#32
  let arg2 : BitVec 32 := BitVec.ofNat 32 (i 2).val
  let c1_i32 : BitVec 32 := 1#32
  let v96 : BitVec 32 := Scalar.subi arg2 c1_i32
  let v97 : BitVec 32 := Scalar.subi v96 arg7
  let c256_i32_26 : BitVec 32 := 256#32
  let v98 : BitVec 32 := Scalar.muli v97 c256_i32_26
  let v99 : BitVec 32 := v98
  let v100 : Index := Scalar.indexCast v99
  let c0_28 : Index := 0#32
  ![0, v100.toNat, 0]

def k0_chk1 (i : grid0.Coords) (arg7 : BitVec 32) : Prop :=
  (256 ∣ (k0_mult2 i arg7).toNat) ∧
  (∀ a, (k0_off2 i arg7) a + S1x256x128.size a ≤ S1x2048x128.size a)
theorem k0_mult2_dvd : ∀ (i : grid0.Coords) (arg7 : BitVec 32) (k0_hw1 : k0_chk1 i arg7), 256 ∣ (k0_mult2 i arg7).toNat := fun i arg7 k0_hw1 => k0_hw1.1
theorem k0_off2_inb : ∀ (i : grid0.Coords) (arg7 : BitVec 32) (k0_hw1 : k0_chk1 i arg7), ∀ a, (k0_off2 i arg7) a + S1x256x128.size a ≤ S1x2048x128.size a := fun i arg7 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelSbfIdeal.lean ====
variable {F : FTy → Type} [FloatOps F] [Named F]
def κ : String → Option EReal := fun
  | "sb_dead" => some ⊥
  | _ => none
-- ==== ReferenceSbfIdeal.lean ====
abbrev S2x2048x8x64 : Shape := ⟨4, ![2, 2048, 8, 64]⟩
abbrev S2048 : Shape := ⟨1, ![2048]⟩
abbrev S2x8x2048x2048 : Shape := ⟨4, ![2, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S2x2048x512 : Shape := ⟨3, ![2, 2048, 512]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2048, .i32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S2x8x2048x2048, .f32⟩
  | .hbm, ⟨14, _⟩ => ⟨S2x8x2048x2048, .f32⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .i1⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S_, .f32⟩
  | .hbm, ⟨32, _⟩ => ⟨S2x8x2048x2048, .i1⟩
  | .hbm, ⟨33, _⟩ => ⟨S2x8x2048x2048, .f32⟩
  | .hbm, ⟨34, _⟩ => ⟨S2x8x2048x2048, .f32⟩
  | .hbm, ⟨35, _⟩ => ⟨S_, .f32⟩
  | .hbm, ⟨36, _⟩ => ⟨S_, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048x2048, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .i1⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S2x8x2048x2048, .f32⟩
  | .hbm, ⟨57, _⟩ => ⟨S_, .f32⟩
  | .hbm, ⟨58, _⟩ => ⟨S_, .f32⟩
  | .hbm, ⟨59, _⟩ => ⟨S2x8x2048x2048, .i1⟩
  | .hbm, ⟨60, _⟩ => ⟨S2x8x2048x2048, .f32⟩
  | .hbm, ⟨61, _⟩ => ⟨S2x8x2048x2048, .f32⟩
  | .hbm, ⟨62, _⟩ => ⟨S2x8x64x2048, .f32⟩
  | .hbm, ⟨63, _⟩ => ⟨S2x2048x8x64, .f32⟩
  | .hbm, ⟨64, _⟩ => ⟨S2x2048x512, .f32⟩
  | .hbm, ⟨65, _⟩ => ⟨S2x2048x512, .bf16⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== KernelNp.lean ====
abbrev S2x2048x1024 : Shape := ⟨3, ![2, 2048, 1024]⟩
abbrev S1024 : Shape := ⟨1, ![1024]⟩
abbrev S1024x5888 : Shape := ⟨2, ![1024, 5888]⟩
abbrev S4096x1024 : Shape := ⟨2, ![4096, 1024]⟩
abbrev S1x1024 : Shape := ⟨2, ![1, 1024]⟩
abbrev S5888x1024 : Shape := ⟨2, ![5888, 1024]⟩
abbrev S4096x1536 : Shape := ⟨2, ![4096, 1536]⟩
abbrev S4096x2304 : Shape := ⟨2, ![4096, 2304]⟩
abbrev S4096x2048 : Shape := ⟨2, ![4096, 2048]⟩
abbrev S512x1024 : Shape := ⟨2, ![512, 1024]⟩
abbrev S512x1536 : Shape := ⟨2, ![512, 1536]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S4096x1024, .f32⟩
  | .hbm, ⟨4, _⟩ => ⟨S1x1024, .f32⟩
  | .hbm, ⟨5, _⟩ => ⟨S5888x1024, .f32⟩
  | .hbm, ⟨6, _⟩ => ⟨S5888x1024, .bf16⟩
  | .hbm, ⟨7, _⟩ => ⟨S4096x1536, .bf16⟩
  | .hbm, ⟨8, _⟩ => ⟨S4096x2304, .f32⟩
  | .hbm, ⟨9, _⟩ => ⟨S4096x2048, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5888x1024, .bf16⟩
  | .local _ .vmem, ⟨4, _⟩ => ⟨S512x1536, .bf16⟩
  | .local _ .vmem, ⟨5, _⟩ => ⟨S512x1536, .bf16⟩
  | .local _ .vmem, ⟨6, _⟩ => ⟨S512x2304, .f32⟩
  | .local _ .vmem, ⟨7, _⟩ => ⟨S512x2304, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5888x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceNpIdeal.lean ====
abbrev S2x2048x1024 : Shape := ⟨3, ![2, 2048, 1024]⟩
abbrev S1024 : Shape := ⟨1, ![1024]⟩
abbrev S1024x5888 : Shape := ⟨2, ![1024, 5888]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5888 : Shape := ⟨3, ![2, 2048, 5888]⟩
abbrev S2x2048x1536 : Shape := ⟨3, ![2, 2048, 1536]⟩
abbrev S2x2048x2304 : Shape := ⟨3, ![2, 2048, 2304]⟩
abbrev S2x2048x2048 : Shape := ⟨3, ![2, 2048, 2048]⟩
abbrev S4096x1536 : Shape := ⟨2, ![4096, 1536]⟩
abbrev S4096x2304 : Shape := ⟨2, ![4096, 2304]⟩
abbrev S4096x2048 : Shape := ⟨2, ![4096, 2048]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5888, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x5888, .f32⟩
  | .hbm, ⟨20, _⟩ => ⟨S2x2048x1536, .f32⟩
  | .hbm, ⟨21, _⟩ => ⟨S2x2048x2304, .f32⟩
  | .hbm, ⟨22, _⟩ => ⟨S2x2048x2048, .f32⟩
  | .hbm, ⟨23, _⟩ => ⟨S4096x1536, .f32⟩
  | .hbm, ⟨24, _⟩ => ⟨S4096x1536, .bf16⟩
  | .hbm, ⟨25, _⟩ => ⟨S4096x2304, .f32⟩
  | .hbm, ⟨26, _⟩ => ⟨S4096x2048, .f32⟩
  | .hbm, ⟨27, _⟩ => ⟨S4096x1024, .f32⟩
  | .hbm, ⟨28, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelCols.lean ====
abbrev S2x2048x5632 : Shape := ⟨3, ![2, 2048, 5632]⟩
abbrev S2x2048x1024 : Shape := ⟨3, ![2, 2048, 1024]⟩
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x5632, .f32⟩
  | .hbm, ⟨1, _⟩ => ⟨S2x2048x1024, .f32⟩
  | .hbm, ⟨2, _⟩ => ⟨S4096x5632, .f32⟩
  | .hbm, ⟨3, _⟩ => ⟨S4096x5632, .bf16⟩
  | .hbm, ⟨4, _⟩ => ⟨S4096x1024, .f32⟩
  | .hbm, ⟨5, _⟩ => ⟨S4096x1024, .bf16⟩
  | .hbm, ⟨6, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceColsIdeal.lean ====
abbrev S2x2048x5632 : Shape := ⟨3, ![2, 2048, 5632]⟩
abbrev S2x2048x1024 : Shape := ⟨3, ![2, 2048, 1024]⟩
abbrev S5632x1024 : Shape := ⟨2, ![5632, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2x2048x1024, .f32⟩
  | .hbm, ⟨2, _⟩ => ⟨S5632x1024, .f32⟩
  | .hbm, ⟨3, _⟩ => ⟨S5632x1024, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelAtb.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceAtbIdeal.lean ====
abbrev S2x2048x1024 : Shape := ⟨3, ![2, 2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelPcs.lean ====
abbrev S2x2048x1024 : Shape := ⟨3, ![2, 2048, 1024]⟩
abbrev S2x2048x512 : Shape := ⟨3, ![2, 2048, 512]⟩
abbrev S2x2048x768 : Shape := ⟨3, ![2, 2048, 768]⟩
abbrev S2x2048x2048 : Shape := ⟨3, ![2, 2048, 2048]⟩
abbrev S4096x768 : Shape := ⟨2, ![4096, 768]⟩
abbrev S4096x256 : Shape := ⟨2, ![4096, 256]⟩
abbrev S4096x512 : Shape := ⟨2, ![4096, 512]⟩
abbrev S4096x2048 : Shape := ⟨2, ![4096, 2048]⟩
abbrev S4096x1024 : Shape := ⟨2, ![4096, 1024]⟩
abbrev S5888x1024 : Shape := ⟨2, ![5888, 1024]⟩
abbrev S512x512 : Shape := ⟨2, ![512, 512]⟩
abbrev S512x256 : Shape := ⟨2, ![512, 256]⟩
abbrev S512x2048 : Shape := ⟨2, ![512, 2048]⟩
abbrev S5888x512 : Shape := ⟨2, ![5888, 512]⟩
abbrev S512x5888 : Shape := ⟨2, ![512, 5888]⟩
abbrev S256x512 : Shape := ⟨2, ![256, 512]⟩

abbrev nBuf : Space → Nat
  | .hbm => 37
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x2048, .f32⟩
  | .hbm, ⟨8, _⟩ => ⟨S4096x768, .f32⟩
  | .hbm, ⟨9, _⟩ => ⟨S4096x256, .f32⟩
  | .hbm, ⟨10, _⟩ => ⟨S4096x768, .f32⟩
  | .hbm, ⟨11, _⟩ => ⟨S4096x256, .f32⟩
  | .hbm, ⟨12, _⟩ => ⟨S4096x768, .f32⟩
  | .hbm, ⟨13, _⟩ => ⟨S4096x256, .f32⟩
  | .hbm, ⟨14, _⟩ => ⟨S4096x768, .f32⟩
  | .hbm, ⟨15, _⟩ => ⟨S4096x256, .f32⟩
  | .hbm, ⟨16, _⟩ => ⟨S4096x768, .f32⟩
  | .hbm, ⟨17, _⟩ => ⟨S4096x256, .f32⟩
  | .hbm, ⟨18, _⟩ => ⟨S4096x768, .f32⟩
  | .hbm, ⟨19, _⟩ => ⟨S4096x256, .f32⟩
  | .hbm, ⟨20, _⟩ => ⟨S4096x768, .f32⟩
  | .hbm, ⟨21, _⟩ => ⟨S4096x256, .f32⟩
  | .hbm, ⟨22, _⟩ => ⟨S4096x768, .f32⟩
  | .hbm, ⟨23, _⟩ => ⟨S4096x256, .f32⟩
  | .hbm, ⟨24, _⟩ => ⟨S4096x768, .f32⟩
  | .hbm, ⟨25, _⟩ => ⟨S4096x256, .f32⟩
  | .hbm, ⟨26, _⟩ => ⟨S4096x512, .f32⟩
  | .hbm, ⟨27, _⟩ => ⟨S4096x512, .bf16⟩
  | .hbm, ⟨28, _⟩ => ⟨S4096x512, .f32⟩
  | .hbm, ⟨29, _⟩ => ⟨S4096x512, .bf16⟩
  | .hbm, ⟨30, _⟩ => ⟨S4096x512, .f32⟩
  | .hbm, ⟨31, _⟩ => ⟨S4096x512, .bf16⟩
  | .hbm, ⟨32, _⟩ => ⟨S4096x2048, .f32⟩
  | .hbm, ⟨33, _⟩ => ⟨S4096x2048, .bf16⟩
  | .hbm, ⟨34, _⟩ => ⟨S4096x1024, .f32⟩
  | .hbm, ⟨35, _⟩ => ⟨S4096x1024, .bf16⟩
  | .hbm, ⟨36, _⟩ => ⟨S5888x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x2048, .bf16⟩
  | .local _ .vmem, ⟨27, _⟩ => ⟨S512x2048, .bf16⟩
  | .local _ .vmem, ⟨28, _⟩ => ⟨S5888x512, .bf16⟩
  | .local _ .vmem, ⟨29, _⟩ => ⟨S5888x512, .bf16⟩
  | .local _ .vmem, ⟨30, _⟩ => ⟨S512x5888, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v118 : BitVec 1 := Scalar.cmpi .eq arg1 c7_i32
  let v119 : BitVec 32 := Scalar.extui v118
  let c0_i32_80 : BitVec 32 := 0#32
  let v120 : BitVec 1 := Scalar.cmpi .ne v119 c0_i32_80
  v120

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S5888x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferencePcsIdeal.lean ====
abbrev S2x2048x1024 : Shape := ⟨3, ![2, 2048, 1024]⟩
abbrev S2x2048x512 : Shape := ⟨3, ![2, 2048, 512]⟩
abbrev S2x2048x768 : Shape := ⟨3, ![2, 2048, 768]⟩
abbrev S2x2048x2048 : Shape := ⟨3, ![2, 2048, 2048]⟩
abbrev S2x2048x5888 : Shape := ⟨3, ![2, 2048, 5888]⟩
abbrev S5888x1024 : Shape := ⟨2, ![5888, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x2048, .f32⟩
  | .hbm, ⟨8, _⟩ => ⟨S2x2048x5888, .f32⟩
  | .hbm, ⟨9, _⟩ => ⟨S5888x1024, .f32⟩
  | .hbm, ⟨10, _⟩ => ⟨S5888x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== KernelGains.lean ====
abbrev S8x8x1024 : Shape := ⟨3, ![8, 8, 1024]⟩
abbrev S1024 : Shape := ⟨1, ![1024]⟩
abbrev S1x1024 : Shape := ⟨2, ![1, 1024]⟩
abbrev S1x8x1024 : Shape := ⟨3, ![1, 8, 1024]⟩
abbrev S8x1024 : Shape := ⟨2, ![8, 1024]⟩

abbrev nBuf : Space → Nat
  | .hbm => 32
  | .vmem => 23
  | .smem => 0
  | _ => 0

abbrev bufTy : (tb : Table) → Fin (tcTables nBuf tb) → BufTy
  | .hbm, ⟨0, _⟩ => ⟨S8x8x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_v9_8 : Ref sig .tc := ⟨.hbm, 27, rfl⟩
abbrev main_v9_9 : Ref sig .tc := ⟨.hbm, 28, rfl⟩
abbrev main_v9_10 : Ref sig .tc := ⟨.hbm, 29, rfl⟩
abbrev main_v9_11 : Ref sig .tc := ⟨.hbm, 30, rfl⟩
abbrev main_v9_12 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceGainsIdeal.lean ====
abbrev S8x8x1024 : Shape := ⟨3, ![8, 8, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩

abbrev nBuf : Space → Nat
  | .hbm => 136
  | .vmem => 0
  | .smem => 0
  | _ => 0

abbrev hbmTy0_0 (i : Nat) : BufTy := match i % 128 with
  | 0 => ⟨S8x8x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S_, .f32⟩
  | 11 => ⟨S8x1024, .f32⟩
  | 12 => ⟨S1x1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1024, .f32⟩
  | 56 => ⟨S1x1024, .f32⟩
  | 57 => ⟨S1024, .f32⟩
  | 58 => ⟨S_, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S1024, .f32⟩
  | 73 => ⟨S_, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S_, .f32⟩
  | 81 => ⟨S1024, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1024, .f32⟩
  | 97 => ⟨S1x1024, .f32⟩
  | 98 => ⟨S1024, .f32⟩
  | 99 => ⟨S_, .f32⟩
  | 100 => ⟨S1024, .f32⟩
  | 101 => ⟨S1024, .f32⟩
  | 102 => ⟨S_, .f32⟩
  | 103 => ⟨S1024, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S8x8x1024, .f32⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S1x1024, .f32⟩
  | 5 => ⟨S1x1024, .f32⟩
  | 6 => ⟨S1x1024, .f32⟩
  | 7 => ⟨S1x1024, .f32⟩
  | _ => ⟨S8x8x1024, .f32⟩

abbrev hbmTy (i : Nat) : BufTy := match i / 128 with
  | 0 => hbmTy0_0 i
  | 1 => hbmTy0_1 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_22 : Ref sig .tc := ⟨.hbm, 114, rfl⟩
abbrev main_v81 : Ref sig .tc := ⟨.hbm, 115, rfl⟩
abbrev main_v82 : Ref sig .tc := ⟨.hbm, 116, rfl⟩
abbrev main_cst_23 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_24 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_25 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_26 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]
-- ==== KernelUpd.lean ====
abbrev S8x704x1024 : Shape := ⟨3, ![8, 704, 1024]⟩
abbrev S1x704x1024 : Shape := ⟨3, ![1, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .bf16⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdIdeal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S_, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelBf.lean ====
abbrev S1x1024x736 : Shape := ⟨3, ![1, 1024, 736]⟩
abbrev S1x512x128 : Shape := ⟨3, ![1, 512, 128]⟩
abbrev S1x256x128 : Shape := ⟨3, ![1, 256, 128]⟩
abbrev S1x128x1024 : Shape := ⟨3, ![1, 128, 1024]⟩
abbrev S1x1024x704 : Shape := ⟨3, ![1, 1024, 704]⟩
abbrev S1x352x1024 : Shape := ⟨3, ![1, 352, 1024]⟩
abbrev S1x736x1024 : Shape := ⟨3, ![1, 736, 1024]⟩
abbrev S1x704x1024 : Shape := ⟨3, ![1, 704, 1024]⟩
abbrev S736x1024 : Shape := ⟨2, ![736, 1024]⟩
abbrev S512x128 : Shape := ⟨2, ![512, 128]⟩
abbrev S256x128 : Shape := ⟨2, ![256, 128]⟩
abbrev S128x1024 : Shape := ⟨2, ![128, 1024]⟩
abbrev S704x1024 : Shape := ⟨2, ![704, 1024]⟩
abbrev S352x1024 : Shape := ⟨2, ![352, 1024]⟩
abbrev S128x512 : Shape := ⟨2, ![128, 512]⟩
abbrev S128x256 : Shape := ⟨2, ![128, 256]⟩

abbrev nBuf : Space → Nat
  | .hbm => 20
  | .vmem => 12
  | .smem => 0
  | _ => 0

abbrev bufTy : (tb : Table) → Fin (tcTables nBuf tb) → BufTy
  | .hbm, ⟨0, _⟩ => ⟨S1x1024x736, .f32⟩
  | .hbm, ⟨1, _⟩ => ⟨S1x512x128, .f32⟩
  | .hbm, ⟨2, _⟩ => ⟨S1x256x128, .f32⟩
  | .hbm, ⟨3, _⟩ => ⟨S1x128x1024, .f32⟩
  | .hbm, ⟨4, _⟩ => ⟨S1x1024x704, .f32⟩
  | .hbm, ⟨5, _⟩ => ⟨S1x352x1024, .f32⟩
  | .hbm, ⟨6, _⟩ => ⟨S1x736x1024, .f32⟩
  | .hbm, ⟨7, _⟩ => ⟨S1x704x1024, .f32⟩
  | .hbm, ⟨8, _⟩ => ⟨S736x1024, .f32⟩
  | .hbm, ⟨9, _⟩ => ⟨S512x128, .f32⟩
  | .hbm, ⟨10, _⟩ => ⟨S256x128, .f32⟩
  | .hbm, ⟨11, _⟩ => ⟨S128x1024, .f32⟩
  | .hbm, ⟨12, _⟩ => ⟨S704x1024, .f32⟩
  | .hbm, ⟨13, _⟩ => ⟨S352x1024, .f32⟩
  | .hbm, ⟨14, _⟩ => ⟨S736x1024, .bf16⟩
  | .hbm, ⟨15, _⟩ => ⟨S128x512, .bf16⟩
  | .hbm, ⟨16, _⟩ => ⟨S128x256, .bf16⟩
  | .hbm, ⟨17, _⟩ => ⟨S128x1024, .bf16⟩
  | .hbm, ⟨18, _⟩ => ⟨S704x1024, .bf16⟩
  | .hbm, ⟨19, _⟩ => ⟨S352x1024, .bf16⟩
  | .local _ .vmem, ⟨0, _⟩ => ⟨S736x1024, .f32⟩
  | .local _ .vmem, ⟨1, _⟩ => ⟨S512x128, .f32⟩
  | .local _ .vmem, ⟨2, _⟩ => ⟨S256x128, .f32⟩
  | .local _ .vmem, ⟨3, _⟩ => ⟨S128x1024, .f32⟩
  | .local _ .vmem, ⟨4, _⟩ => ⟨S704x1024, .f32⟩
  | .local _ .vmem, ⟨5, _⟩ => ⟨S352x1024, .f32⟩
  | .local _ .vmem, ⟨6, _⟩ => ⟨S736x1024, .bf16⟩
  | .local _ .vmem, ⟨7, _⟩ => ⟨S128x512, .bf16⟩
  | .local _ .vmem, ⟨8, _⟩ => ⟨S128x256, .bf16⟩
  | .local _ .vmem, ⟨9, _⟩ => ⟨S128x1024, .bf16⟩
  | .local _ .vmem, ⟨10, _⟩ => ⟨S704x1024, .bf16⟩
  | .local _ .vmem, ⟨11, _⟩ => ⟨S352x1024, .bf16⟩
  | _, _ => ⟨S1x1024x736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S736x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S736x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S352x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceBfIdeal.lean ====
abbrev S1x1024x736 : Shape := ⟨3, ![1, 1024, 736]⟩
abbrev S1x512x128 : Shape := ⟨3, ![1, 512, 128]⟩
abbrev S1x256x128 : Shape := ⟨3, ![1, 256, 128]⟩
abbrev S1x128x1024 : Shape := ⟨3, ![1, 128, 1024]⟩
abbrev S1x1024x704 : Shape := ⟨3, ![1, 1024, 704]⟩
abbrev S1x352x1024 : Shape := ⟨3, ![1, 352, 1024]⟩
abbrev S1024x736 : Shape := ⟨2, ![1024, 736]⟩
abbrev S736x1024 : Shape := ⟨2, ![736, 1024]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S128x1024 : Shape := ⟨2, ![128, 1024]⟩
abbrev S1024x704 : Shape := ⟨2, ![1024, 704]⟩
abbrev S704x1024 : Shape := ⟨2, ![704, 1024]⟩
abbrev S352x1024 : Shape := ⟨2, ![352, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1x1024x736, .f32⟩
  | .hbm, ⟨1, _⟩ => ⟨S1x512x128, .f32⟩
  | .hbm, ⟨2, _⟩ => ⟨S1x256x128, .f32⟩
  | .hbm, ⟨3, _⟩ => ⟨S1x128x1024, .f32⟩
  | .hbm, ⟨4, _⟩ => ⟨S1x1024x704, .f32⟩
  | .hbm, ⟨5, _⟩ => ⟨S1x352x1024, .f32⟩
  | .hbm, ⟨6, _⟩ => ⟨S1024x736, .f32⟩
  | .hbm, ⟨7, _⟩ => ⟨S736x1024, .f32⟩
  | .hbm, ⟨8, _⟩ => ⟨S736x1024, .bf16⟩
  | .hbm, ⟨9, _⟩ => ⟨S512x128, .f32⟩
  | .hbm, ⟨10, _⟩ => ⟨S128x512, .f32⟩
  | .hbm, ⟨11, _⟩ => ⟨S128x512, .bf16⟩
  | .hbm, ⟨12, _⟩ => ⟨S256x128, .f32⟩
  | .hbm, ⟨13, _⟩ => ⟨S128x256, .f32⟩
  | .hbm, ⟨14, _⟩ => ⟨S128x256, .bf16⟩
  | .hbm, ⟨15, _⟩ => ⟨S128x1024, .f32⟩
  | .hbm, ⟨16, _⟩ => ⟨S128x1024, .bf16⟩
  | .hbm, ⟨17, _⟩ => ⟨S1024x704, .f32⟩
  | .hbm, ⟨18, _⟩ => ⟨S704x1024, .f32⟩
  | .hbm, ⟨19, _⟩ => ⟨S704x1024, .bf16⟩
  | .hbm, ⟨20, _⟩ => ⟨S352x1024, .f32⟩
  | .hbm, ⟨21, _⟩ => ⟨S352x1024, .bf16⟩
  | _, _ => ⟨S1x1024x736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelPs.lean ====
abbrev S8x736x1024 : Shape := ⟨3, ![8, 736, 1024]⟩
abbrev S4x736x1024 : Shape := ⟨3, ![4, 736, 1024]⟩
abbrev S1 : Shape := ⟨1, ![1]⟩
abbrev S1x368x1024 : Shape := ⟨3, ![1, 368, 1024]⟩
abbrev S368x1024 : Shape := ⟨2, ![368, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x736x1024, .bf16⟩
  | .hbm, ⟨1, _⟩ => ⟨S4x736x1024, .bf16⟩
  | .hbm, ⟨2, _⟩ => ⟨S4x736x1024, .bf16⟩
  | .local _ .vmem, ⟨0, _⟩ => ⟨S1x368x1024, .bf16⟩
  | .local _ .vmem, ⟨1, _⟩ => ⟨S1x368x1024, .bf16⟩
  | .local _ .vmem, ⟨2, _⟩ => ⟨S1x368x1024, .bf16⟩
  | .local _ .vmem, ⟨3, _⟩ => ⟨S1x368x1024, .bf16⟩
  | .local _ .vmem, ⟨4, _⟩ => ⟨S1x368x1024, .bf16⟩
  | .local _ .vmem, ⟨5, _⟩ => ⟨S1x368x1024, .bf16⟩
  | .local _ .smem, ⟨0, _⟩ => ⟨S1, .i32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePsIdeal.lean ====
abbrev S8x736x1024 : Shape := ⟨3, ![8, 736, 1024]⟩
abbrev S4x736x1024 : Shape := ⟨3, ![4, 736, 1024]⟩
abbrev S1 : Shape := ⟨1, ![1]⟩
abbrev S4x2x736x1024 : Shape := ⟨4, ![4, 2, 736, 1024]⟩
abbrev S_ : Shape := ⟨0, ![]⟩
abbrev S4x1x736x1024 : Shape := ⟨4, ![4, 1, 736, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S4x736x1024, .bf16⟩
  | .hbm, ⟨2, _⟩ => ⟨S1, .i32⟩
  | .hbm, ⟨3, _⟩ => ⟨S4x2x736x1024, .bf16⟩
  | .hbm, ⟨4, _⟩ => ⟨S4x2x736x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x736x1024, .i1⟩
  | .hbm, ⟨9, _⟩ => ⟨S4x1x736x1024, .f32⟩
  | .hbm, ⟨10, _⟩ => ⟨S4x736x1024, .f32⟩
  | .hbm, ⟨11, _⟩ => ⟨S4x1x736x1024, .f32⟩
  | .hbm, ⟨12, _⟩ => ⟨S4x736x1024, .f32⟩
  | .hbm, ⟨13, _⟩ => ⟨S4x736x1024, .f32⟩
  | .hbm, ⟨14, _⟩ => ⟨S4x736x1024, .f32⟩
  | .hbm, ⟨15, _⟩ => ⟨S4x736x1024, .f32⟩
  | .hbm, ⟨16, _⟩ => ⟨S4x736x1024, .bf16⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Reals.lean ====
/- The extended reals that are real numbers: what keeps a value real, and reading a value as a
   real number out of a precondition. -/
module

public import Idealize.ShloMosaic.Lib.Pointwise
public import Idealize.ShloMosaic.Lib.ReduceAll

@[expose] public section

noncomputable section

open Idealize.ShloMosaic

namespace Cert.Reals

/-- An extended real that is a real number. -/
def IsReal (x : EReal) : Prop := ∃ r : ℝ, x = (r : EReal)

theorem IsReal.coe (r : ℝ) : IsReal (r : EReal) := ⟨r, rfl⟩

theorem IsReal.of_ne {x : EReal} (hb : x ≠ ⊥) (ht : x ≠ ⊤) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, by simp⟩

theorem IsReal.mul {x y : EReal} (hx : IsReal x) (hy : IsReal y) : IsReal (x * y) := by
  obtain ⟨a, rfl⟩ := hx; obtain ⟨b, rfl⟩ := hy; exact ⟨a * b, by simp⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real number minus itself is zero. -/
theorem IsReal.sub_self {x : EReal} (hx : IsReal x) : x - x = 0 := by
  obtain ⟨a, rfl⟩ := hx; rw [← EReal.coe_sub]; simp

/-- The logistic function of any extended real is a real number. -/
theorem isReal_logistic (x : EReal) : IsReal (Ideal.div 1 (1 + Ideal.exp (-x))) := by
  change IsReal (Ideal.logistic x)
  induction x with
  | bot => rw [Ideal.logistic_bot]; exact ⟨0, by simp⟩
  | top => rw [Ideal.logistic_top]; exact ⟨1, by simp⟩
  | coe r => rw [Ideal.logistic_coe]; exact ⟨_, rfl⟩

/-- The format's infinity is the top of the extended reals. -/
theorem ofBits_inf : Ideal.ofBits .f32 0x7F800000#32 = ⊤ := by
  have h1 : (BitVec.extractLsb' 23 8 (0x7F800000#32)).toNat = 255 := by decide
  have h2 : (BitVec.extractLsb' 0 23 (0x7F800000#32)).toNat = 0 := by decide
  have h3 : (BitVec.extractLsb' 31 1 (0x7F800000#32) == 1#1) = false := by decide
  change Ideal.ieee 8 23 (0x7F800000#32) = ⊤
  simp [Ideal.ieee, h1, h2, h3]

/-- A value whose magnitude is below infinity is a real number. -/
theorem isReal_of_cmp {x : EReal} (h : Ideal.cmp .olt (max x (-x)) (Ideal.ofBits .f32 0x7F800000#32) = 1#1) : IsReal x := by
  rw [ofBits_inf] at h
  have h' : max x (-x) < ⊤ := by
    by_contra hn
    simp only [Ideal.cmp, hn, decide_false] at h
    exact absurd h (by decide)
  refine IsReal.of_ne (fun hb => ?_) fun ht => ?_
  · subst hb; simp at h'
  · subst ht; simp at h'

end Cert.Reals

end
-- ==== Proof.Mix.Rows.lean ====
/- The merge's gradients of one token, from the token's rows: the formulas that both programs come to. -/
module

public import proofs.«01_k».proof.Proof.Reals

@[expose] public section

noncomputable section

open Idealize.ShloMosaic

namespace Cert.Mix

/-- The logistic function. -/
def sg (x : EReal) : EReal := Ideal.div 1 (1 + Ideal.exp (-x))

/-- The merged activations' gradient: the cotangent's row times the transposed output weight. -/
def dm (dx : Fin 1024 → EReal) (wo : Fin 1024 → Fin 1024 → EReal) (l : Fin 1024) : EReal := ∑ x, dx x * wo l x

/-- One lane of an up-projected output. -/
def up {n : Nat} (o : Fin n → EReal) (w : Fin n → Fin 1024 → EReal) (l : Fin 1024) : EReal := ∑ k, o k * w k l

/-- A gate's gradient: `d` the merged gradient, `y` the gated value, `g` the gate's input. -/
def dgate (d y g : EReal) : EReal := d * y * (sg g * (1 - sg g))

/-- One lane of an attention output's gradient. -/
def down {n : Nat} (d g : Fin 1024 → EReal) (w : Fin n → Fin 1024 → EReal) (k : Fin n) : EReal :=
  ∑ l, sg (g l) * d l * w k l

/-- A head's sum of gradient times output, at one of its lanes. -/
def hsum (d o : Fin 256 → EReal) (j : Fin 256) : EReal :=
  ∑ l : Fin 64, d ⟨j.val / 64 * 64 + l.val, by omega⟩ * o ⟨j.val / 64 * 64 + l.val, by omega⟩

/-- The left and the right half of the gates' row. -/
def lft (g : Fin 2048 → EReal) (l : Fin 1024) : EReal := g ⟨l.val, by omega⟩

def rgt (g : Fin 2048 → EReal) (l : Fin 1024) : EReal := g ⟨1024 + l.val, by omega⟩

/-- The dilated output's gradient is real where the cotangent and the weights are. -/
theorem isReal_down {n : Nat} {dx : Fin 1024 → EReal} {wo : Fin 1024 → Fin 1024 → EReal} {g : Fin 1024 → EReal}
    {w : Fin n → Fin 1024 → EReal} (h1 : ∀ x, Reals.IsReal (dx x)) (h2 : ∀ l x, Reals.IsReal (wo l x))
    (h3 : ∀ k l, Reals.IsReal (w k l)) (k : Fin n) : Reals.IsReal (down (dm dx wo) g w k) :=
  Reals.IsReal.sum _ fun l => ((Reals.isReal_logistic _).mul (Reals.IsReal.sum _ fun x => (h1 x).mul (h2 l x))).mul (h3 k l)

end Cert.Mix

end
-- ==== Proof.Mix.Ref.lean ====
/- The gradients of the gated merge, as the reference's operations compose them: one named term for
   each array that the reference returns, over its seven arguments. -/
module

public import proofs.«01_k».proof.Proof.Gen.ReferenceMixIdeal
public import proofs.«01_k».proof.Proof.Mix.Rows

@[expose] public section

set_option maxRecDepth 16384

noncomputable section

open Idealize.ShloMosaic Idealize.ShloMosaic.TcCoe Idealize.SL.Sem

namespace Cert.ReferenceMixIdeal.Grad

open Cert.ReferenceMixIdeal Cert.ReferenceMixIdeal.Gen

/-- The two gates' inputs, the left and the right half of a token's row. -/
def half_sb (g : FVec Ideal S2x2048x2048 .f32) : FVec Ideal S2x2048x1024 .f32 :=
  extractStridedSlice S2x2048x1024 ![0, 0, 0] g slices_S2x2048x2048_S2x2048x1024_0_0_0

def half_dl (g : FVec Ideal S2x2048x2048 .f32) : FVec Ideal S2x2048x1024 .f32 :=
  extractStridedSlice S2x2048x1024 ![0, 0, 1024] g slices_S2x2048x2048_S2x2048x1024_0_0_1024

/-- The number one at every entry. -/
def one : FVec Ideal S2x2048x1024 .f32 :=
  broadcastInDim S2x2048x1024 ![] bcast_S_S2x2048x1024 (constant S_ .f32 0x3F800000#32)

/-- The logistic function, entry by entry. -/
def sigm (g : FVec Ideal S2x2048x1024 .f32) : FVec Ideal S2x2048x1024 .f32 :=
  Host.divf one (addf one (Host.exp (Host.negf g)))

/-- The gradient of the merged activations: the cotangent times the transposed output weight. -/
def dmerged (dx : FVec Ideal S2x2048x1024 .f32) (wo : FVec Ideal S1024x1024 .f32) : FVec Ideal S2x2048x1024 .f32 :=
  Host.dotGeneral dot_S2x2048x1024_S1024x1024_S2x2048x1024_2_1_01_0_n_n none dx wo

/-- The up-projected attention outputs. -/
def y_sb (o : FVec Ideal S2x2048x512 .f32) (w : FVec Ideal S512x1024 .f32) : FVec Ideal S2x2048x1024 .f32 :=
  Host.dotGeneral dot_S2x2048x512_S512x1024_S2x2048x1024_2_0_01_1_n_n none o w

def y_dl (o : FVec Ideal S2x2048x256 .f32) (w : FVec Ideal S256x1024 .f32) : FVec Ideal S2x2048x1024 .f32 :=
  Host.dotGeneral dot_S2x2048x256_S256x1024_S2x2048x1024_2_0_01_1_n_n none o w

/-- A gate's gradient from its logistic value `s`. -/
def dgate (d y s : FVec Ideal S2x2048x1024 .f32) : FVec Ideal S2x2048x1024 .f32 :=
  mulf (mulf d y) (mulf s (subf one s))

/-- The gradient of the dilated attention's output. -/
def do_dl (d s : FVec Ideal S2x2048x1024 .f32) (w : FVec Ideal S256x1024 .f32) : FVec Ideal S2x2048x256 .f32 :=
  Host.dotGeneral dot_S2x2048x1024_S256x1024_S2x2048x256_2_1_01_0_n_n none (mulf s d) w

variable (a0 : FVec Ideal S2x2048x1024 .f32) (a1 : FVec Ideal S2x2048x512 .f32) (a2 : FVec Ideal S2x2048x256 .f32)
  (a3 : FVec Ideal S2x2048x2048 .f32) (a4 : FVec Ideal S512x1024 .f32) (a5 : FVec Ideal S256x1024 .f32)
  (a6 : FVec Ideal S1024x1024 .f32)

/-- The gradient of both gates, side by side. -/
def R_dgates : FVec Ideal S4096x2048 .bf16 :=
  truncf .bf16 (shapeCast _ (concatenate S2x2048x2048 2
    [⟨S2x2048x1024, dgate (dmerged a0 a6) (y_sb a1 a4) (sigm (half_sb a3))⟩,
     ⟨S2x2048x1024, dgate (dmerged a0 a6) (y_dl a2 a5) (sigm (half_dl a3))⟩]
    concatenates_S2x2048x1024_S2x2048x1024_S2x2048x2048_d2) shapeCasts_S2x2048x2048_S4096x2048) bitsLt_bf16_f32

/-- The gradients of the two up-projected outputs. -/
def R_dy_sb : FVec Ideal S4096x1024 .bf16 :=
  truncf .bf16 (shapeCast _ (mulf (sigm (half_sb a3)) (dmerged a0 a6)) shapeCasts_S2x2048x1024_S4096x1024) bitsLt_bf16_f32

def R_dy_dl : FVec Ideal S4096x1024 .bf16 :=
  truncf .bf16 (shapeCast _ (mulf (sigm (half_dl a3)) (dmerged a0 a6)) shapeCasts_S2x2048x1024_S4096x1024) bitsLt_bf16_f32

/-- The gradients of the two attentions' outputs. -/
def R_do_sb : FVec Ideal S4096x512 .bf16 :=
  truncf .bf16 (shapeCast _ (Host.dotGeneral dot_S2x2048x1024_S512x1024_S2x2048x512_2_1_01_0_n_n none
    (mulf (sigm (half_sb a3)) (dmerged a0 a6)) a4) shapeCasts_S2x2048x512_S4096x512) bitsLt_bf16_f32

def R_do_dl : FVec Ideal S4096x256 .f32 :=
  shapeCast _ (do_dl (dmerged a0 a6) (sigm (half_dl a3)) a5) shapeCasts_S2x2048x256_S4096x256

/-- Each head's sum of the gradient times the output, at each of the head's lanes. -/
def R_dsum : FVec Ideal S4096x256 .f32 :=
  shapeCast _ (broadcastInDim S2x2048x4x64 ![0, 1, 2, 3] bcast_S2x2048x4x1_S2x2048x4x64_0_1_2_3
    (broadcastInDim S2x2048x4x1 ![0, 1, 2] bcast_S2x2048x4_S2x2048x4x1_0_1_2
      (Host.reduceAdd (shapeCast _ (mulf (do_dl (dmerged a0 a6) (sigm (half_dl a3)) a5) a2)
        shapeCasts_S2x2048x256_S2x2048x4x64) (constant S_ .f32 0x00000000#32)
        reducesTo_S2x2048x4x64_S2x2048x4_d3 h_S_))) shapeCasts_S2x2048x4x64_S4096x256

/-! ## Their entries: token `r` is row `r % 2048` of sequence `r / 2048` -/

open Cert.Mix

/-- A token's row of an array. -/
abbrev row {n : Nat} (a : FVec Ideal ⟨3, ![2, 2048, n]⟩ .f32) (r : Fin 4096) : Fin n → EReal :=
  fun k => a (ix3 ⟨r.val / 2048, by omega⟩ ⟨r.val % 2048, by omega⟩ k)

/-- A weight by its row and column. -/
abbrev mat {n k : Nat} (a : FVec Ideal ⟨2, ![n, k]⟩ .f32) : Fin n → Fin k → EReal := fun i j => a (ix2 i j)

theorem R_dy_sb_at (r : Fin 4096) (l : Fin 1024) : R_dy_sb a0 a3 a6 (ix2 r l : S4096x1024.Idx)
    = sg (lft (row a3 r) l) * dm (row a0 r) (mat a6) l := by
  pointwise [R_dy_sb, sigm, half_sb, one, dmerged, sg, lft, dm]

theorem R_dy_dl_at (r : Fin 4096) (l : Fin 1024) : R_dy_dl a0 a3 a6 (ix2 r l : S4096x1024.Idx)
    = sg (rgt (row a3 r) l) * dm (row a0 r) (mat a6) l := by
  pointwise [R_dy_dl, sigm, half_dl, one, dmerged, sg, rgt, dm]

theorem R_do_sb_at (r : Fin 4096) (k : Fin 512) : R_do_sb a0 a3 a4 a6 (ix2 r k : S4096x512.Idx)
    = down (dm (row a0 r) (mat a6)) (lft (row a3 r)) (mat a4) k := by
  pointwise [R_do_sb, sigm, half_sb, one, dmerged, sg, lft, dm, down]

theorem R_do_dl_at (r : Fin 4096) (k : Fin 256) : R_do_dl a0 a3 a5 a6 (ix2 r k : S4096x256.Idx)
    = down (dm (row a0 r) (mat a6)) (rgt (row a3 r)) (mat a5) k := by
  pointwise [R_do_dl, do_dl, sigm, half_dl, one, dmerged, sg, rgt, dm, down]

theorem R_dgates_l (r : Fin 4096) (l : Fin 1024) :
    R_dgates a0 a1 a2 a3 a4 a5 a6 (ix2 r ⟨l.val, by omega⟩ : S4096x2048.Idx)
    = Mix.dgate (dm (row a0 r) (mat a6) l) (up (row a1 r) (mat a4) l) (lft (row a3 r) l) := by
  pointwise [R_dgates, dgate, y_sb, y_dl, sigm, half_sb, half_dl, one, dmerged, sg, lft, dm, up, Mix.dgate]

theorem R_dgates_r (r : Fin 4096) (l : Fin 1024) :
    R_dgates a0 a1 a2 a3 a4 a5 a6 (ix2 r ⟨1024 + l.val, by omega⟩ : S4096x2048.Idx)
    = Mix.dgate (dm (row a0 r) (mat a6) l) (up (row a2 r) (mat a5) l) (rgt (row a3 r) l) := by
  pointwise [R_dgates, dgate, y_sb, y_dl, sigm, half_sb, half_dl, one, dmerged, sg, rgt, dm, up, Mix.dgate]

theorem R_dsum_at (r : Fin 4096) (j : Fin 256) : R_dsum a0 a2 a3 a5 a6 (ix2 r j : S4096x256.Idx)
    = hsum (down (dm (row a0 r) (mat a6)) (rgt (row a3 r)) (mat a5)) (row a2 r) j := by
  pointwise [R_dsum, do_dl, sigm, half_dl, one, dmerged, sg, rgt, dm, down, hsum]

end Cert.ReferenceMixIdeal.Grad

end
-- ==== Proof.Mix.Heads.lean ====
/- The matrix that sums a row within each head: its entry is one where row and column lie in one
   head of 64 lanes, zero elsewhere, and a row times it is each head's sum at each of its lanes. -/
module

public import proofs.«01_k».proof.Proof.Gen.KernelMixIdeal.Skeleton
public import proofs.«01_k».proof.Proof.Reals

@[expose] public section

set_option maxRecDepth 16384

noncomputable section

open Idealize.ShloMosaic Idealize.ShloMosaic.TcCoe Idealize.SL.Sem

namespace Cert.KernelMixIdeal.Grad

open Cert.KernelMixIdeal Cert.KernelMixIdeal.Gen

/-- The head of a lane that numbers a row of the matrix. -/
theorem head_row (i j : Fin 256) : k0_pay17 (iota .tc S256x256 32 [0] iota_S256x256_d0_w32) 64#32 k0_pay16
    (ix2 i j : S256x256.Idx) = BitVec.ofNat 32 (i.val / 64) := by
  pointwise [k0_pay17, k0_pay16]
  revert i; decide +kernel

/-- The head of a lane that numbers a column. -/
theorem head_col (i j : Fin 256) : k0_pay18 (ix2 i j : S256x256.Idx) = BitVec.ofNat 32 (j.val / 64) := by
  pointwise [k0_pay18]
  revert j; decide +kernel

/-- The comparison of two heads as a number. -/
theorem same_head (i j : Fin 256) :
    ((((IntOp.cmpi .eq (BitVec.ofNat 32 (i.val / 64)) (BitVec.ofNat 32 (j.val / 64))).setWidth 32 : BitVec 32).toInt : ℝ) : EReal)
      = if i.val / 64 = j.val / 64 then 1 else 0 := by
  have h : ((IntOp.cmpi .eq (BitVec.ofNat 32 (i.val / 64)) (BitVec.ofNat 32 (j.val / 64))).setWidth 32 : BitVec 32).toInt
      = if i.val / 64 = j.val / 64 then 1 else 0 := by revert i j; decide +kernel
  rw [h]; split <;> simp

/-- A row times the matrix: the sum over the lanes of the column's head. -/
theorem sum_head (v : Fin 256 → EReal) (j : Fin 256) :
    ∑ k : Fin 256, v k * (if k.val / 64 = j.val / 64 then 1 else 0)
      = ∑ l : Fin 64, v ⟨j.val / 64 * 64 + l.val, by omega⟩ := by
  rw [Fin.sum_univ_tiles 4 64 rfl (fun k : Fin 256 => v k * (if k.val / 64 = j.val / 64 then (1 : EReal) else 0))]
  have hj : j.val / 64 < 4 := by omega
  rw [Finset.sum_eq_single (⟨j.val / 64, hj⟩ : Fin 4)]
  · refine Finset.sum_congr rfl fun l _ => ?_
    have : (j.val / 64 * 64 + l.val) / 64 = j.val / 64 := by omega
    simp [this]
  · intro b _ hb
    refine Finset.sum_eq_zero fun l _ => ?_
    have : ¬ (b.val * 64 + l.val) / 64 = j.val / 64 := by
      intro h; apply hb; ext; simp; omega
    simp [this]
  · simp

end Cert.KernelMixIdeal.Grad

end
-- ==== Proof.Mix.Pay.lean ====
/- What one grid point's body stores, entry by entry, from the blocks it reads. -/
module

public import proofs.«01_k».proof.Proof.Gen.KernelMixIdeal.Value
public import proofs.«01_k».proof.Proof.Mix.Heads
public import proofs.«01_k».proof.Proof.Mix.Rows
public import Idealize.ShloMosaic.Lib.Pipeline.ValueKit

@[expose] public section

set_option maxRecDepth 16384

noncomputable section

open Idealize.ShloMosaic Idealize.ShloMosaic.TcCoe Idealize.SL.Sem
open Idealize.ShloMosaic.View (ld_unit_zero canon_unit_zero)
open Cert.Mix

namespace Cert.KernelMixIdeal.Grad

open Cert.KernelMixIdeal Cert.KernelMixIdeal.Gen

variable (x0 : FVec Ideal S512x1024 .f32) (x1 : FVec Ideal S512x512 .bf16) (x2 : FVec Ideal S512x256 .f32)
  (x3 : FVec Ideal S512x2048 .f32) (x4 : FVec Ideal S1024x512 .bf16) (x5 : FVec Ideal S1024x256 .bf16)
  (x6 : FVec Ideal S1024x1024 .bf16)

/-- The merged gradient's row and the gates' row of token `p` of the block. -/
abbrev bdm (p : Fin 512) : Fin 1024 → EReal := dm (fun k => x0 (ix2 p k)) (fun l k => x6 (ix2 l k))

abbrev bg (p : Fin 512) : Fin 2048 → EReal := fun l => x3 (ix2 p l)

theorem pay_dm (p : Fin 512) (l : Fin 1024) :
    k0_pay19 (F := Ideal) x0 x1 x2 x3 x4 x5 x6 (ix2 p l : S512x1024.Idx) = bdm x0 x6 p l := by
  unfold k0_pay19
  rw [ld_unit_zero (by decide), ld_unit_zero (by decide)]
  pointwise [k0_pay2]
  rfl

theorem pay_sg_l (p : Fin 512) (l : Fin 1024) :
    k0_pay20 (F := Ideal) x0 x1 x2 x3 x4 x5 x6 (ix2 p l : S512x1024.Idx) = sg (lft (bg x3 p) l) := by
  pointwise [k0_pay20, k0_pay6, sg, lft, bg]
  rw [zero_sub]

theorem pay_sg_r (p : Fin 512) (l : Fin 1024) :
    Ideal.div (k0_pay22 (F := Ideal) x0 x1 x2 x3 x4 x5 x6 (ix2 p l : S512x1024.Idx))
      (k0_pay21 (F := Ideal) x0 x1 x2 x3 x4 x5 x6 (ix2 p l : S512x1024.Idx)) = sg (rgt (bg x3 p) l) := by
  pointwise [k0_pay21, k0_pay22, k0_pay7, k0_pay8, sg, rgt, bg]
  rw [zero_sub]

theorem pay_up_sb (p : Fin 512) (l : Fin 1024) :
    k0_pay4 (F := Ideal) x1 x4 (ix2 p l : S512x1024.Idx) = up (fun k => x1 (ix2 p k)) (fun k l => x4 (ix2 l k)) l := by
  pointwise [k0_pay4, up]

theorem pay_up_dl (p : Fin 512) (l : Fin 1024) :
    k0_pay5 (F := Ideal) x2 x5 (ix2 p l : S512x1024.Idx) = up (fun k => x2 (ix2 p k)) (fun k l => x5 (ix2 l k)) l := by
  pointwise [k0_pay5, k0_pay3, up]

/-- The two up-projected outputs' gradients. -/
theorem out8_at (p : Fin 512) (l : Fin 1024) : out0_8 (F := Ideal) x0 x1 x2 x3 x4 x5 x6 (ix2 p l : S512x1024.Idx)
    = sg (lft (bg x3 p) l) * bdm x0 x6 p l := by
  unfold out0_8
  rw [canon_unit_zero (by decide)]
  pointwise [k0_pay12]
  rw [pay_sg_l, pay_dm, mul_comm]

theorem out9_at (p : Fin 512) (l : Fin 1024) : out0_9 (F := Ideal) x0 x1 x2 x3 x4 x5 x6 (ix2 p l : S512x1024.Idx)
    = sg (rgt (bg x3 p) l) * bdm x0 x6 p l := by
  unfold out0_9
  rw [canon_unit_zero (by decide)]
  pointwise [k0_pay13, k0_pay9]
  rw [pay_sg_r, pay_dm, mul_comm]

/-- The two attention outputs' gradients. -/
theorem out10_at (p : Fin 512) (k : Fin 512) : out0_10 (F := Ideal) x0 x1 x2 x3 x4 x5 x6 (ix2 p k : S512x512.Idx)
    = down (bdm x0 x6 p) (lft (bg x3 p)) (fun k l => x4 (ix2 l k)) k := by
  unfold out0_10
  rw [canon_unit_zero (by decide), ld_unit_zero (by decide)]
  pointwise [k0_pay14, k0_pay12]
  refine Finset.sum_congr rfl fun l _ => ?_
  rw [pay_sg_l, pay_dm, mul_comm (bdm x0 x6 p l)]

theorem pay_down (p : Fin 512) (k : Fin 256) :
    k0_pay15 (F := Ideal) (k0_pay19 x0 x1 x2 x3 x4 x5 x6) (k0_pay21 x0 x1 x2 x3 x4 x5 x6)
      (k0_pay22 x0 x1 x2 x3 x4 x5 x6) x5 (ix2 p k : S512x256.Idx)
    = down (bdm x0 x6 p) (rgt (bg x3 p)) (fun k l => x5 (ix2 l k)) k := by
  pointwise [k0_pay15, k0_pay13, k0_pay9]
  refine Finset.sum_congr rfl fun l _ => ?_
  rw [pay_sg_r, pay_dm, mul_comm (bdm x0 x6 p l)]

theorem out11_at (p : Fin 512) (k : Fin 256) : out0_11 (F := Ideal) x0 x1 x2 x3 x4 x5 x6 (ix2 p k : S512x256.Idx)
    = down (bdm x0 x6 p) (rgt (bg x3 p)) (fun k l => x5 (ix2 l k)) k := by
  unfold out0_11
  rw [canon_unit_zero (by decide), ld_unit_zero (by decide)]
  exact pay_down x0 x1 x2 x3 x4 x5 x6 p k

/-- The two gates' gradients, left half and right half of the row. -/
theorem out7_l (p : Fin 512) (l : Fin 1024) : out0_7 (F := Ideal) x0 x1 x2 x3 x4 x5 x6
      (ix2 p ⟨l.val, by omega⟩ : S512x2048.Idx)
    = dgate (bdm x0 x6 p l) (up (fun k => x1 (ix2 p k)) (fun k l => x4 (ix2 l k)) l) (lft (bg x3 p) l) := by
  unfold out0_7
  rw [ld_unit_zero (by decide), ld_unit_zero (by decide), ld_unit_zero (by decide), ld_unit_zero (by decide)]
  canon_tiles x h
  · pointwise at h1; omega
  · obtain ⟨q, r, rfl⟩ : ∃ (q : Fin 512) (r : Fin 1024), x = ix2 q r := ⟨x 0, x 1, eq_ix2 x⟩
    obtain rfl : p = q := Fin.ext h0
    obtain rfl : l = r := Fin.ext h1
    pointwise [k0_pay10]
    rw [pay_sg_l, pay_dm, pay_up_sb]; rfl

theorem out7_r (p : Fin 512) (l : Fin 1024) : out0_7 (F := Ideal) x0 x1 x2 x3 x4 x5 x6
      (ix2 p ⟨1024 + l.val, by omega⟩ : S512x2048.Idx)
    = dgate (bdm x0 x6 p l) (up (fun k => x2 (ix2 p k)) (fun k l => x5 (ix2 l k)) l) (rgt (bg x3 p) l) := by
  unfold out0_7
  rw [ld_unit_zero (by decide), ld_unit_zero (by decide), ld_unit_zero (by decide), ld_unit_zero (by decide)]
  canon_tiles x h
  · obtain ⟨q, r, rfl⟩ : ∃ (q : Fin 512) (r : Fin 1024), x = ix2 q r := ⟨x 0, x 1, eq_ix2 x⟩
    obtain rfl : p = q := Fin.ext h0
    obtain rfl : l = r := Fin.ext (Nat.add_left_cancel h1)
    pointwise [k0_pay11, k0_pay9]
    rw [pay_sg_r, pay_dm, pay_up_dl]; rfl
  · pointwise at h1; omega

/-- The heads' sums, where the gradient times the output is real. -/
theorem out12_at (p : Fin 512) (j : Fin 256)
    (hr : ∀ k, Reals.IsReal (down (bdm x0 x6 p) (rgt (bg x3 p)) (fun k l => x5 (ix2 l k)) k * x2 (ix2 p k))) :
    out0_12 (F := Ideal) x0 x1 x2 x3 x4 x5 x6 (ix2 p j : S512x256.Idx)
    = hsum (down (bdm x0 x6 p) (rgt (bg x3 p)) (fun k l => x5 (ix2 l k))) (fun k => x2 (ix2 p k)) j := by
  unfold out0_12
  rw [canon_unit_zero (by decide), ld_unit_zero (by decide), ld_unit_zero (by decide)]
  pointwise [k0_pay1, k0_pay3]
  simp only [pay_down]
  have hs : ∀ x : Fin 256, FloatOps.sitofp (F := Ideal) .f32 (BitVec.setWidth 32 (IntOp.cmpi .eq
      (k0_pay17 (iota .tc S256x256 32 [0] iota_S256x256_d0_w32) 64#32 k0_pay16 (ix2 x j : S256x256.Idx))
      (k0_pay18 (ix2 x j : S256x256.Idx)))) = if x.val / 64 = j.val / 64 then 1 else 0 := fun x => by
    rw [head_row, head_col]; exact same_head x j
  refine (congrArg₂ (· + ·) (Finset.sum_congr rfl fun x _ => congrArg (_ * ·) (hs x))
    (Finset.sum_congr rfl fun x _ => congrArg₂ (· * ·) (hr x).sub_self rfl)).trans ?_
  simp only [zero_mul, Finset.sum_const_zero, add_zero]
  exact sum_head (fun k => down (bdm x0 x6 p) (rgt (bg x3 p)) (fun k l => x5 (ix2 l k)) k * x2 (ix2 p k)) j

end Cert.KernelMixIdeal.Grad

end
-- ==== Proof.Mix.Value.lean ====
/- What the merge's backward call leaves in each of its six arrays, block by block, is the
   reference's term at the same entries. -/
module

public import proofs.«01_k».proof.Proof.Mix.Ref
public import proofs.«01_k».proof.Proof.Mix.Pay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.ReferenceMixIdeal.Grad

namespace Cert.KernelMixIdeal.Grad

open Cert.KernelMixIdeal Cert.KernelMixIdeal.Gen

variable (m : (ℓ : Loc nD τ sig) → Buf (Elt Ideal) ℓ) (c : Dev nD)

/-- Point `t` holds rows `512 t` to `512 t + 511` of every token array, and the three weights whole. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The token that row `p` of point `t`'s block is. -/
abbrev tok (t : Fin cfg0.N) (p : Fin 512) : Fin 4096 :=
  ⟨t.val * 512 + p.val, by have h : t.val < 8 := t.isLt; omega⟩

/-! ## The blocks a point reads, as rows of the arguments -/

theorem blk0 (t : Fin cfg0.N) (p : Fin 512) (k : Fin 1024) :
    iblk m c 0 t (ix2 p k : S512x1024.Idx) = row (m ((c : Thread nD τ).loc main_arg0)) (tok t p) k := by
  blk_point [iblk, V, idx t]

theorem blk1 (t : Fin cfg0.N) (p : Fin 512) (k : Fin 512) :
    iblk m c 1 t (ix2 p k : S512x512.Idx) = row (m ((c : Thread nD τ).loc main_arg1)) (tok t p) k := by
  blk_point [iblk, V, idx t]

theorem blk2 (t : Fin cfg0.N) (p : Fin 512) (k : Fin 256) :
    iblk m c 2 t (ix2 p k : S512x256.Idx) = row (m ((c : Thread nD τ).loc main_arg2)) (tok t p) k := by
  blk_point [iblk, V, idx t]

theorem blk3 (t : Fin cfg0.N) (p : Fin 512) (k : Fin 2048) :
    iblk m c 3 t (ix2 p k : S512x2048.Idx) = row (m ((c : Thread nD τ).loc main_arg3)) (tok t p) k := by
  blk_point [iblk, V, idx t]

theorem blk4 (t : Fin cfg0.N) (l : Fin 1024) (k : Fin 512) :
    iblk m c 4 t (ix2 l k : S1024x512.Idx) = mat (m ((c : Thread nD τ).loc main_arg4)) k l := by
  blk_point [iblk, V, idx t]

theorem blk5 (t : Fin cfg0.N) (l : Fin 1024) (k : Fin 256) :
    iblk m c 5 t (ix2 l k : S1024x256.Idx) = mat (m ((c : Thread nD τ).loc main_arg5)) k l := by
  blk_point [iblk, V, idx t]

theorem blk6 (t : Fin cfg0.N) (l : Fin 1024) (k : Fin 1024) :
    iblk m c 6 t (ix2 l k : S1024x1024.Idx) = mat (m ((c : Thread nD τ).loc main_arg6)) l k := by
  blk_point [iblk, V, idx t]

/-! ## The same, row against row -/

theorem bdm_eq (t : Fin cfg0.N) (p : Fin 512) : bdm (iblk m c 0 t) (iblk m c 6 t) p
    = Mix.dm (row (m ((c : Thread nD τ).loc main_arg0)) (tok t p)) (mat (m ((c : Thread nD τ).loc main_arg6))) :=
  congrArg₂ Mix.dm (funext fun k => blk0 m c t p k) (funext fun l => funext fun k => blk6 m c t l k)

theorem bg_eq (t : Fin cfg0.N) (p : Fin 512) : bg (iblk m c 3 t) p = row (m ((c : Thread nD τ).loc main_arg3)) (tok t p) :=
  funext fun k => blk3 m c t p k

theorem sb_eq (t : Fin cfg0.N) : (fun k l => (iblk m c 4 t : FVec Ideal S1024x512 .bf16) (ix2 l k))
    = mat (m ((c : Thread nD τ).loc main_arg4)) :=
  funext fun k => funext fun l => blk4 m c t l k

theorem dl_eq (t : Fin cfg0.N) : (fun k l => (iblk m c 5 t : FVec Ideal S1024x256 .bf16) (ix2 l k))
    = mat (m ((c : Thread nD τ).loc main_arg5)) :=
  funext fun k => funext fun l => blk5 m c t l k

theorem osb_eq (t : Fin cfg0.N) (p : Fin 512) : (fun k => (iblk m c 1 t : FVec Ideal S512x512 .bf16) (ix2 p k))
    = row (m ((c : Thread nD τ).loc main_arg1)) (tok t p) :=
  funext fun k => blk1 m c t p k

theorem odl_eq (t : Fin cfg0.N) (p : Fin 512) : (fun k => (iblk m c 2 t : FVec Ideal S512x256 .f32) (ix2 p k))
    = row (m ((c : Thread nD τ).loc main_arg2)) (tok t p) :=
  funext fun k => blk2 m c t p k

/-! ## The arrays after the run -/

/-- The gradient of the stick-breaking branch's up-projected output. -/
theorem final8 : (dats m 0 c).arrAt 8 (cfgs 0).N = R_dy_sb (m ((c : Thread nD τ).loc main_arg0)) (m ((c : Thread nD τ).loc main_arg3)) (m ((c : Thread nD τ).loc main_arg6)) := by
  refine (dats m 0 c).arrAt_eq_of_covers 8 _ (by decide +kernel) fun t _ y => ?_
  blk_simp
  rw [after0_8]
  obtain ⟨p, l, rfl⟩ : ∃ (p : Fin 512) (l : Fin 1024), y = (ix2 p l : S512x1024.Idx) := ⟨y 0, y 1, eq_ix2 y⟩
  have he : ((cfg0.win 8).blk t).view.emb (ix2 p l : S512x1024.Idx) = (ix2 (tok t p) l : S4096x1024.Idx) := by
    blk_ext [idx t]
  refine Eq.trans ?_ (congrArg (R_dy_sb (m ((c : Thread nD τ).loc main_arg0)) (m ((c : Thread nD τ).loc main_arg3)) (m ((c : Thread nD τ).loc main_arg6))) he.symm)
  refine (out8_at (iblk m c 0 t) (iblk m c 1 t) (iblk m c 2 t) (iblk m c 3 t) (iblk m c 4 t) (iblk m c 5 t) (iblk m c 6 t) p l).trans ?_
  refine Eq.trans ?_ (R_dy_sb_at _ _ _ (tok t p) l).symm
  rw [bg_eq, bdm_eq]

/-- The gradient of the dilated branch's up-projected output. -/
theorem final9 : (dats m 0 c).arrAt 9 (cfgs 0).N = R_dy_dl (m ((c : Thread nD τ).loc main_arg0)) (m ((c : Thread nD τ).loc main_arg3)) (m ((c : Thread nD τ).loc main_arg6)) := by
  refine (dats m 0 c).arrAt_eq_of_covers 9 _ (by decide +kernel) fun t _ y => ?_
  blk_simp
  rw [after0_9]
  obtain ⟨p, l, rfl⟩ : ∃ (p : Fin 512) (l : Fin 1024), y = (ix2 p l : S512x1024.Idx) := ⟨y 0, y 1, eq_ix2 y⟩
  have he : ((cfg0.win 9).blk t).view.emb (ix2 p l : S512x1024.Idx) = (ix2 (tok t p) l : S4096x1024.Idx) := by
    blk_ext [idx t]
  refine Eq.trans ?_ (congrArg (R_dy_dl (m ((c : Thread nD τ).loc main_arg0)) (m ((c : Thread nD τ).loc main_arg3)) (m ((c : Thread nD τ).loc main_arg6))) he.symm)
  refine (out9_at (iblk m c 0 t) (iblk m c 1 t) (iblk m c 2 t) (iblk m c 3 t) (iblk m c 4 t) (iblk m c 5 t) (iblk m c 6 t) p l).trans ?_
  refine Eq.trans ?_ (R_dy_dl_at _ _ _ (tok t p) l).symm
  rw [bg_eq, bdm_eq]

/-- The gradient of the stick-breaking attention's output. -/
theorem final10 : (dats m 0 c).arrAt 10 (cfgs 0).N = R_do_sb (m ((c : Thread nD τ).loc main_arg0)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨p, l, rfl⟩ : ∃ (p : Fin 512) (l : Fin 512), y = (ix2 p l : S512x512.Idx) := ⟨y 0, y 1, eq_ix2 y⟩
  have he : ((cfg0.win 10).blk t).view.emb (ix2 p l : S512x512.Idx) = (ix2 (tok t p) l : S4096x512.Idx) := by
    blk_ext [idx t]
  refine Eq.trans ?_ (congrArg (R_do_sb (m ((c : Thread nD τ).loc main_arg0)) (m ((c : Thread nD τ).loc main_arg3)) (m ((c : Thread nD τ).loc main_arg4)) (m ((c : Thread nD τ).loc main_arg6))) he.symm)
  refine (out10_at (iblk m c 0 t) (iblk m c 1 t) (iblk m c 2 t) (iblk m c 3 t) (iblk m c 4 t) (iblk m c 5 t) (iblk m c 6 t) p l).trans ?_
  refine Eq.trans ?_ (R_do_sb_at _ _ _ _ (tok t p) l).symm
  rw [bg_eq, bdm_eq, sb_eq]

/-- The gradient of the dilated attention's output. -/
theorem final11 : (dats m 0 c).arrAt 11 (cfgs 0).N = R_do_dl (m ((c : Thread nD τ).loc main_arg0)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]
  obtain ⟨p, l, rfl⟩ : ∃ (p : Fin 512) (l : Fin 256), y = (ix2 p l : S512x256.Idx) := ⟨y 0, y 1, eq_ix2 y⟩
  have he : ((cfg0.win 11).blk t).view.emb (ix2 p l : S512x256.Idx) = (ix2 (tok t p) l : S4096x256.Idx) := by
    blk_ext [idx t]
  refine Eq.trans ?_ (congrArg (R_do_dl (m ((c : Thread nD τ).loc main_arg0)) (m ((c : Thread nD τ).loc main_arg3)) (m ((c : Thread nD τ).loc main_arg5)) (m ((c : Thread nD τ).loc main_arg6))) he.symm)
  refine (out11_at (iblk m c 0 t) (iblk m c 1 t) (iblk m c 2 t) (iblk m c 3 t) (iblk m c 4 t) (iblk m c 5 t) (iblk m c 6 t) p l).trans ?_
  refine Eq.trans ?_ (R_do_dl_at _ _ _ _ (tok t p) l).symm
  rw [bg_eq, bdm_eq, dl_eq]

/-- The gradients of both gates. -/
theorem final7 : (dats m 0 c).arrAt 7 (cfgs 0).N = R_dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  obtain ⟨p, l, rfl⟩ : ∃ (p : Fin 512) (l : Fin 2048), y = (ix2 p l : S512x2048.Idx) := ⟨y 0, y 1, eq_ix2 y⟩
  have he : ((cfg0.win 7).blk t).view.emb (ix2 p l : S512x2048.Idx) = (ix2 (tok t p) l : S4096x2048.Idx) := by
    blk_ext [idx t]
  refine Eq.trans ?_ (congrArg (R_dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) he.symm)
  by_cases h : l.val < 1024
  · obtain ⟨k, hk⟩ : ∃ k : Fin 1024, l = ⟨k.val, by omega⟩ := ⟨⟨l.val, h⟩, rfl⟩
    rw [hk]
    refine (out7_l (iblk m c 0 t) (iblk m c 1 t) (iblk m c 2 t) (iblk m c 3 t) (iblk m c 4 t) (iblk m c 5 t) (iblk m c 6 t) p k).trans ?_
    refine Eq.trans ?_ (R_dgates_l _ _ _ _ _ _ _ (tok t p) k).symm
    rw [bg_eq, bdm_eq, sb_eq, osb_eq]
  · obtain ⟨k, hk⟩ : ∃ k : Fin 1024, l = ⟨1024 + k.val, by omega⟩ :=
      ⟨⟨l.val - 1024, by omega⟩, Fin.ext (show l.val = 1024 + (l.val - 1024) by omega)⟩
    rw [hk]
    refine (out7_r (iblk m c 0 t) (iblk m c 1 t) (iblk m c 2 t) (iblk m c 3 t) (iblk m c 4 t) (iblk m c 5 t) (iblk m c 6 t) p k).trans ?_
    refine Eq.trans ?_ (R_dgates_r _ _ _ _ _ _ _ (tok t p) k).symm
    rw [bg_eq, bdm_eq, dl_eq, odl_eq]

/-- Each head's sum of the dilated output times its gradient. -/
theorem final12
    (h0 : ∀ i, Reals.IsReal (m ((c : Thread nD τ).loc main_arg0) i)) (h2 : ∀ i, Reals.IsReal (m ((c : Thread nD τ).loc main_arg2) i))
    (h5 : ∀ i, Reals.IsReal (m ((c : Thread nD τ).loc main_arg5) i)) (h6 : ∀ i, Reals.IsReal (m ((c : Thread nD τ).loc main_arg6) i)) : (dats m 0 c).arrAt 12 (cfgs 0).N = R_dsum (m ((c : Thread nD τ).loc main_arg0)) (m ((c : Thread nD τ).loc main_arg2)) (m ((c : Thread nD τ).loc main_arg3)) (m ((c : Thread nD τ).loc main_arg5)) (m ((c : Thread nD τ).loc main_arg6)) := by
  refine (dats m 0 c).arrAt_eq_of_covers 12 _ (by decide +kernel) fun t _ y => ?_
  blk_simp
  rw [after0_12]
  obtain ⟨p, l, rfl⟩ : ∃ (p : Fin 512) (l : Fin 256), y = (ix2 p l : S512x256.Idx) := ⟨y 0, y 1, eq_ix2 y⟩
  have he : ((cfg0.win 12).blk t).view.emb (ix2 p l : S512x256.Idx) = (ix2 (tok t p) l : S4096x256.Idx) := by
    blk_ext [idx t]
  refine Eq.trans ?_ (congrArg (R_dsum (m ((c : Thread nD τ).loc main_arg0)) (m ((c : Thread nD τ).loc main_arg2)) (m ((c : Thread nD τ).loc main_arg3)) (m ((c : Thread nD τ).loc main_arg5)) (m ((c : Thread nD τ).loc main_arg6))) he.symm)
  have hr : ∀ k, Reals.IsReal (Mix.down (bdm (iblk m c 0 t) (iblk m c 6 t) p) (Mix.rgt (bg (iblk m c 3 t) p))
      (fun k l => (iblk m c 5 t : FVec Ideal S1024x256 .bf16) (ix2 l k)) k * (iblk m c 2 t : FVec Ideal S512x256 .f32) (ix2 p k)) := fun k => by
    rw [bg_eq, bdm_eq, dl_eq]
    exact (Mix.isReal_down (fun _ => h0 _) (fun _ _ => h6 _) (fun _ _ => h5 _) k).mul
      (by rw [show (iblk m c 2 t : FVec Ideal S512x256 .f32) (ix2 p k) = _ from blk2 m c t p k]; exact h2 _)
  refine (out12_at (iblk m c 0 t) (iblk m c 1 t) (iblk m c 2 t) (iblk m c 3 t) (iblk m c 4 t) (iblk m c 5 t) (iblk m c 6 t) p l hr).trans ?_
  refine Eq.trans ?_ (R_dsum_at _ _ _ _ _ (tok t p) l).symm
  rw [bg_eq, bdm_eq, dl_eq, odl_eq]

end Cert.KernelMixIdeal.Grad

end
-- ==== Proof.Mix.Claim.lean ====
/- The claims about the merge's backward call: frames, and the value under the precondition. -/
module

public import proofs.«01_k».proof.Defs
public import proofs.«01_k».proof.Proof.Gen.KernelMix.Frame
public import proofs.«01_k».proof.Proof.Gen.Pre_finite_mix
public import proofs.«01_k».proof.Proof.Gen.ReferenceMixIdeal.Run
public import proofs.«01_k».proof.Proof.Mix.Value
public import Idealize.ShloMosaic.Lib.Claim

@[expose] public section

set_option maxRecDepth 16384

noncomputable section

open Idealize.ShloMosaic Idealize.ShloMosaic.TcCoe Idealize.SL.Sem

namespace Cert.Mix

theorem frame_kernel : Cert.quiescent_KernelMix := fun m ρ _ => Cert.KernelMix.Gen.frame m ρ

theorem frame_ideal : Cert.quiescent_KernelMixIdeal := fun m ρ _ => Cert.KernelMixIdeal.Gen.frame m ρ

theorem frame_reference : Cert.quiescent_ReferenceMixIdeal := by
  intro m g _
  hlo_run
  · exact fun _ => ⟨trivial, trivial, trivial, trivial, trivial, trivial, trivial⟩
  · exact sem_eq_zero_of_no_sems (sig := Cert.ReferenceMixIdeal.sig) (by decide) _

section Pre

open Cert.Pre_finite_mix

instance : Subsingleton Cert.Pre_finite_mix.S_.Idx := ⟨fun a b => funext fun i => i.elim0⟩

/-- Under the precondition the four arrays hold real numbers. -/
theorem real_of_pre (a0 : FVec Ideal S2x2048x1024 .f32) (a1 : FVec Ideal S2x2048x512 .f32) (a2 : FVec Ideal S2x2048x256 .f32)
    (a3 : FVec Ideal S2x2048x2048 .f32) (a4 : FVec Ideal S512x1024 .f32) (a5 : FVec Ideal S256x1024 .f32)
    (a6 : FVec Ideal S1024x1024 .f32) (h : fn (F := Ideal) a0 a1 a2 a3 a4 a5 a6 = fun _ => 1#1) :
    (∀ i, Reals.IsReal (a0 i)) ∧ (∀ i, Reals.IsReal (a2 i)) ∧ (∀ i, Reals.IsReal (a5 i)) ∧ ∀ i, Reals.IsReal (a6 i) := by
  have e := congrFun h (fun i => i.elim0)
  dsimp only [fn, fn_part1] at e
  obtain ⟨e, e6⟩ := IntOp.andi_eq_one.1 e
  obtain ⟨e, e5⟩ := IntOp.andi_eq_one.1 e
  obtain ⟨e0, e2⟩ := IntOp.andi_eq_one.1 e
  exact ⟨fun i => Reals.isReal_of_cmp (Host.reduce_andi_all _ _ _ _ _ e0 i),
    fun i => Reals.isReal_of_cmp (Host.reduce_andi_all _ _ _ _ _ e2 i),
    fun i => Reals.isReal_of_cmp (Host.reduce_andi_all _ _ _ _ _ e5 i),
    fun i => Reals.isReal_of_cmp (Host.reduce_andi_all _ _ _ _ _ e6 i)⟩

end Pre

theorem frame_ideal_pre : Cert.quiescent_KernelMixIdeal_pre_finite_mix := fun m ρ _ => Cert.KernelMixIdeal.Gen.frame m ρ

theorem frame_reference_pre : Cert.quiescent_ReferenceMixIdeal_pre_finite_mix := by
  intro m g _
  hlo_run
  · exact fun _ => ⟨trivial, trivial, trivial, trivial, trivial, trivial, trivial⟩
  · exact sem_eq_zero_of_no_sems (sig := Cert.ReferenceMixIdeal.sig) (by decide) _

set_option maxHeartbeats 1000000 in
theorem algebraic : Cert.algebraic_KernelMixIdeal_ReferenceMixIdeal_pre_finite_mix := by
  pair_intro
  · run_from Cert.KernelMixIdeal.Value.run_blocks m g
  · run_from Cert.ReferenceMixIdeal.Value.run m' g'
    all_goals obtain ⟨_, _, _, _, e4, e5, e6⟩ := hagree c
    all_goals (try rw [e4]); (try rw [e5]); (try rw [e6])
    all_goals obtain ⟨h0, h2, h5, h6⟩ := real_of_pre _ _ _ _ _ _ _ (hpre c)
    · exact (Cert.KernelMixIdeal.Grad.final7 m c).symm
    · exact (Cert.KernelMixIdeal.Grad.final8 m c).symm
    · exact (Cert.KernelMixIdeal.Grad.final9 m c).symm
    · exact (Cert.KernelMixIdeal.Grad.final10 m c).symm
    · exact (Cert.KernelMixIdeal.Grad.final11 m c).symm
    · exact (Cert.KernelMixIdeal.Grad.final12 m c h0 h2 h5 h6).symm

end Cert.Mix

end
-- ==== Proof.Sb.RealVec.lean ====
/-
  Vectors whose entries are real numbers, indexed by natural numbers so that a chunk's columns and a whole row's
  columns are numbered alike, and the sums over ranges that prefix sums are.
-/
module

public import proofs.«01_k».proof.Proof.Reals
public import Idealize.ShloMosaic.Lib.Pipeline.ValueKit

@[expose] public section

noncomputable section

namespace Cert.Sb

open Idealize.ShloMosaic
open Finset (range)

/-- The entries of a vector of two dimensions are the real numbers `f`. -/
def Is {n m : ℕ} (X : (⟨2, ![n, m]⟩ : Shape).Idx → EReal) (f : ℕ → ℕ → ℝ) : Prop :=
  ∀ (r : Fin n) (c : Fin m), X (ix2 r c) = ((f r.val c.val : ℝ) : EReal)

/-- The same of a vector of three dimensions, the first of size one. -/
def Is3 {n m : ℕ} (X : (⟨3, ![1, n, m]⟩ : Shape).Idx → EReal) (f : ℕ → ℕ → ℝ) : Prop :=
  ∀ (r : Fin n) (c : Fin m), X (ix3 (0 : Fin 1) r c) = ((f r.val c.val : ℝ) : EReal)

theorem Is.congr {n m : ℕ} {X : (⟨2, ![n, m]⟩ : Shape).Idx → EReal} {f g : ℕ → ℕ → ℝ} (h : Is X f)
    (he : ∀ r < n, ∀ c < m, f r c = g r c) : Is X g := fun r c => by rw [h r c, he r r.isLt c c.isLt]

theorem Is3.congr {n m : ℕ} {X : (⟨3, ![1, n, m]⟩ : Shape).Idx → EReal} {f g : ℕ → ℕ → ℝ} (h : Is3 X f)
    (he : ∀ r < n, ∀ c < m, f r c = g r c) : Is3 X g := fun r c => by rw [h r c, he r r.isLt c c.isLt]

/-- A sum of real numbers among the extended reals. -/
theorem coe_fsum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum {n : ℕ} (f : ℕ → ℝ) : ∑ x : Fin n, ((f x.val : ℝ) : EReal) = ((∑ x ∈ range n, f x : ℝ) : EReal) := by
  rw [coe_fsum, Finset.sum_range]

/-- A sum of products, the factors being real. -/
theorem sum_mul {n : ℕ} {X Y : Fin n → EReal} (f g : ℕ → ℝ) (hX : ∀ x, X x = ((f x.val : ℝ) : EReal))
    (hY : ∀ x, Y x = ((g x.val : ℝ) : EReal)) : ∑ x, X x * Y x = ((∑ x ∈ range n, f x * g x : ℝ) : EReal) := by
  rw [← coe_sum]
  exact Finset.sum_congr rfl fun x _ => by rw [hX, hY, EReal.coe_mul]

theorem sum_one {n : ℕ} {X : Fin n → EReal} (f : ℕ → ℝ) (hX : ∀ x, X x = ((f x.val : ℝ) : EReal)) :
    ∑ x, X x = ((∑ x ∈ range n, f x : ℝ) : EReal) := by
  rw [← coe_sum]
  exact Finset.sum_congr rfl fun x _ => hX x

/-- The logarithm of one minus the logistic of `z`. -/
def lk (z : ℝ) : ℝ := - Real.log (1 + Real.exp z)

theorem lk_min (z : ℝ) : min (0 - z) 0 - Real.log (1 + Real.exp (min z (0 - z))) = lk z := by
  unfold lk
  rcases le_total z 0 with h | h
  · rw [min_eq_right (by linarith), min_eq_left (by linarith)]; ring
  · rw [min_eq_left (by linarith), min_eq_right (by linarith)]
    have h1 : (1 : ℝ) + Real.exp z = Real.exp z * (1 + Real.exp (0 - z)) := by
      rw [mul_add, ← Real.exp_add]; simp [add_comm]
    rw [h1, Real.log_mul (Real.exp_ne_zero _) (by positivity), Real.log_exp]; ring

/-- The kernel's form of it among the extended reals. -/
theorem lk_min_coe (z : ℝ) : min (0 - (z : EReal)) 0 - Ideal.log (1 + Ideal.exp (min (z : EReal) (0 - (z : EReal)))) = ((lk z : ℝ) : EReal) := by
  have h0 : (0 : EReal) = ((0 : ℝ) : EReal) := rfl
  have h1 : (1 : EReal) = ((1 : ℝ) : EReal) := rfl
  have hm : ∀ a b : ℝ, min (a : EReal) (b : EReal) = ((min a b : ℝ) : EReal) := fun a b => (EReal.coe_strictMono.monotone.map_min).symm
  rw [h0, h1, ← EReal.coe_sub, hm, hm, Ideal.exp_coe, ← EReal.coe_add, Ideal.log_coe, if_neg (not_le.2 (by positivity)), ← EReal.coe_sub, lk_min]

/-- The sum of a row up to a column, as the product with the matrix of ones at and above the diagonal. -/
theorem sum_upto (f : ℕ → ℝ) {n c : ℕ} (h : c < n) :
    ∑ x ∈ range n, f x * (if x ≤ c then 1 else 0) = ∑ x ∈ range (c + 1), f x := by
  simp only [mul_ite, mul_one, mul_zero, ← Finset.sum_filter]
  congr 1; ext x; simp; omega

theorem sum_before (f : ℕ → ℝ) {n c : ℕ} (h : c < n) :
    ∑ x ∈ range n, f x * (if x < c then 1 else 0) = ∑ x ∈ range c, f x := by
  simp only [mul_ite, mul_one, mul_zero, ← Finset.sum_filter]
  congr 1; ext x; simp; omega

/-- A sum up to a column of the second half. -/
theorem sum_half (f : ℕ → ℝ) {c n : ℕ} (h : 128 ≤ c) (hn : n = c - 128) :
    ∑ x ∈ range c, f x = ∑ x ∈ range 128, f x + ∑ x ∈ range n, f (128 + x) := by
  rw [hn, ← Finset.sum_range_add]; congr 2; omega

end Cert.Sb

end
-- ==== Proof.Sb.Window.lean ====
/-
  A running sum along the last of four axes, as a window sum: over real entries it is the sum of the entries the window
  meets, from the front or from the back.
-/
module

public import proofs.«01_k».proof.Proof.Sb.RealVec
public import Idealize.ShloMosaic.Lib.Pipeline.ValueKit
public import Idealize.ShloMosaic.Lib.Routing.Ops

@[expose] public section

noncomputable section

open Idealize.ShloMosaic
open Finset (range)

namespace Cert.Sb

/-- The entries of a vector of four dimensions. -/
def Is4 {a b n m : ℕ} (X : (⟨4, ![a, b, n, m]⟩ : Shape).Idx → EReal) (f : ℕ → ℕ → ℕ → ℕ → ℝ) : Prop :=
  ∀ (i : Fin a) (j : Fin b) (r : Fin n) (c : Fin m), X (ix4 i j r c) = ((f i.val j.val r.val c.val : ℝ) : EReal)

theorem Is4.congr {a b n m : ℕ} {X : (⟨4, ![a, b, n, m]⟩ : Shape).Idx → EReal} {f g : ℕ → ℕ → ℕ → ℕ → ℝ} (h : Is4 X f)
    (he : ∀ i < a, ∀ j < b, ∀ r < n, ∀ c < m, f i j r c = g i j r c) : Is4 X g :=
  fun i j r c => by rw [h i j r c, he i i.isLt j j.isLt r r.isLt c c.isLt]

/-- A left fold of addition is the sum. -/
theorem foldl_sum {n : ℕ} (g : Fin n → EReal) : (List.finRange n).foldl (fun r k => r + g k) 0 = ∑ k, g k := by
  rw [← List.foldl_map (f := g) (g := fun r e => r + e), ← List.sum_eq_foldl]
  exact (List.ofFn_eq_map (f := g)) ▸ List.sum_ofFn

/-- A window of one row has one index per column. -/
def rowIdx (n : ℕ) : (⟨4, ![1, 1, 1, n]⟩ : Shape).Idx ≃ Fin n where
  toFun w := w 3
  invFun k := ix4 (0 : Fin 1) (0 : Fin 1) (0 : Fin 1) k
  left_inv w := by
    refine Eq.trans ?_ (eq_ix4 w).symm
    rw [show w 0 = (0 : Fin 1) from Fin.eq_zero (w 0 : Fin 1), show w 1 = (0 : Fin 1) from Fin.eq_zero (w 1 : Fin 1),
      show w 2 = (0 : Fin 1) from Fin.eq_zero (w 2 : Fin 1)]
  right_inv k := rfl

theorem window_sum {a b n m : ℕ} (lo hi : ℕ) {x : (⟨4, ![a, b, n, m]⟩ : Shape).Idx → EReal} {f : ℕ → ℕ → ℕ → ℕ → ℝ} (hx : Is4 x f)
    (h : (⟨4, ![a, b, n, m]⟩ : Shape).ReduceWindows (![1, 1, 1, m] : Fin 4 → ℕ) ![1, 1, 1, 1] ![0, 0, 0, lo] ![0, 0, 0, hi] ⟨4, ![a, b, n, m]⟩) :
    Is4 (Ideal.hostReduceWindowAdd (![1, 1, 1, m] : Fin 4 → ℕ) ![1, 1, 1, 1] ![0, 0, 0, lo] ![0, 0, 0, hi] h x 0)
      fun i j r c => ∑ w ∈ range m, if lo ≤ c + w ∧ c + w - lo < m then f i j r (c + w - lo) else 0 := fun i j r c => by
  unfold Ideal.hostReduceWindowAdd Host.reduceWindow
  dsimp only
  refine (foldl_sum _).trans ?_
  rw [← coe_sum]
  refine Fintype.sum_equiv ((Shape.rowMajor _).symm.trans (rowIdx m)) _ _ fun k => ?_
  let w : (⟨4, ![1, 1, 1, m]⟩ : Shape).Idx := (Shape.rowMajor (⟨4, ![1, 1, 1, m]⟩ : Shape)).symm k
  have e3 : ((((Shape.rowMajor _).symm.trans (rowIdx m)) k : Fin m) : ℕ) = (w 3).val := rfl
  rw [e3]
  have w0 : (w 0).val = 0 := congrArg Fin.val (Fin.eq_zero (w 0 : Fin 1))
  have w1 : (w 1).val = 0 := congrArg Fin.val (Fin.eq_zero (w 1 : Fin 1))
  have w2 : (w 2).val = 0 := congrArg Fin.val (Fin.eq_zero (w 2 : Fin 1))
  by_cases hc : lo ≤ c.val + (w 3).val ∧ c.val + (w 3).val - lo < m
  · have hi : ∀ d : Fin 4, (![0, 0, 0, lo] : Fin 4 → ℕ) d ≤ ((ix4 i j r c : (⟨4, ![a, b, n, m]⟩ : Shape).Idx) d).val * (![1, 1, 1, 1] : Fin 4 → ℕ) d + (w d).val
        ∧ ((ix4 i j r c : (⟨4, ![a, b, n, m]⟩ : Shape).Idx) d).val * (![1, 1, 1, 1] : Fin 4 → ℕ) d + (w d).val - (![0, 0, 0, lo] : Fin 4 → ℕ) d < (![a, b, n, m] : Fin 4 → ℕ) d := by
      intro d
      match d with
      | ⟨0, _⟩ => exact ⟨Nat.zero_le _, by show i.val * 1 + (w 0).val - 0 < a; omega⟩
      | ⟨1, _⟩ => exact ⟨Nat.zero_le _, by show j.val * 1 + (w 1).val - 0 < b; omega⟩
      | ⟨2, _⟩ => exact ⟨Nat.zero_le _, by show r.val * 1 + (w 2).val - 0 < n; omega⟩
      | ⟨3, _⟩ => exact ⟨by show lo ≤ c.val * 1 + (w 3).val; omega, by show c.val * 1 + (w 3).val - lo < m; omega⟩
    rw [if_pos hc]
    refine (dif_pos hi).trans ((congrArg x ?_).trans (hx i j r ⟨c.val + (w 3).val - lo, hc.2⟩))
    funext d
    refine Fin.ext ?_
    match d with
    | ⟨0, _⟩ => show i.val * 1 + (w 0).val - 0 = i.val; omega
    | ⟨1, _⟩ => show j.val * 1 + (w 1).val - 0 = j.val; omega
    | ⟨2, _⟩ => show r.val * 1 + (w 2).val - 0 = r.val; omega
    | ⟨3, _⟩ => show c.val * 1 + (w 3).val - lo = c.val + (w 3).val - lo; omega
  · rw [if_neg hc]
    refine dif_neg fun hi => hc ?_
    have := hi (3 : Fin 4)
    change lo ≤ c.val * 1 + (w 3).val ∧ c.val * 1 + (w 3).val - lo < m at this
    rwa [Nat.mul_one] at this

/-- From the front: the entries up to the column. -/
theorem front_sum (f : ℕ → ℝ) {m c : ℕ} (hc : c < m) :
    ∑ w ∈ range m, (if m - 1 ≤ c + w ∧ c + w - (m - 1) < m then f (c + w - (m - 1)) else 0) = ∑ s ∈ range (c + 1), f s := by
  rw [← Finset.sum_filter]
  refine Finset.sum_bij (fun w _ => c + w - (m - 1)) ?_ ?_ ?_ fun _ _ => rfl
  · intro w hw; simp only [Finset.mem_filter, Finset.mem_range] at hw ⊢; omega
  · intro w hw w' hw' e; simp only [Finset.mem_filter, Finset.mem_range] at hw hw'; omega
  · intro s hs; simp only [Finset.mem_range] at hs
    exact ⟨s + (m - 1) - c, by simp only [Finset.mem_filter, Finset.mem_range]; omega, by omega⟩

/-- From the back: all entries but those before the column. -/
theorem back_sum (f : ℕ → ℝ) {m c : ℕ} (hc : c < m) :
    ∑ w ∈ range m, (if 0 ≤ c + w ∧ c + w - 0 < m then f (c + w - 0) else 0) = ∑ s ∈ range m, f s - ∑ s ∈ range c, f s := by
  rw [← Finset.sum_filter, ← Finset.sum_range_add_sum_Ico f hc.le, add_sub_cancel_left]
  refine Finset.sum_bij (fun w _ => c + w - 0) ?_ ?_ ?_ fun _ _ => rfl
  · intro w hw; simp only [Finset.mem_filter, Finset.mem_range, Finset.mem_Ico] at hw ⊢; omega
  · intro w hw w' hw' e; simp only [Finset.mem_filter, Finset.mem_range] at hw hw'; omega
  · intro s hs; simp only [Finset.mem_Ico] at hs
    exact ⟨s - c, by simp only [Finset.mem_filter, Finset.mem_range]; omega, by omega⟩

end Cert.Sb

end
-- ==== Proof.Sb.Own.lean ====
/-
  Loads and stores of an owned memref, by values: a load reads the window of what the memref holds, a store puts its
  payload over that window. The two rules are stated for any memref, so a kernel body is run through them without
  looking at where its buffers lie.
-/
module

public import Idealize.ShloMosaic.Lib.VecWindow
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix] {Val : EltTy → Type} {Name : Type}
  [DecidableEq Name] {U : Type} [URA U] {Lvl : Type} {Λ : Labels} [Preorder Lvl] {defs : Defs nD τ sig Val Λ}

local notation "𝕄" => MT nD τ sig Ix Val Name U Lvl

variable (𝒱 : Variants) (c : Thread nD τ) (bd : Option 𝒱.V) (E : Set Name)
variable {s : Shape} {e : EltTy} {α : Type} {Q : α → sProp (MT nD τ sig Ix Val Name U Lvl)}

/-- A load of an owned memref continues at the values in the rectangle. -/
theorem wp_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e}
    (v : r.shape.Idx → Val e) (hv : View.ld (Val := Val) X r = v) :
    (owns c m q X : sProp 𝕄)
      ⊢ iprop((owns c m q X -∗ wp frame (wpE defs 𝒱 c bd) E (k v) Q)
        -∗ wp frame (wpE defs 𝒱 c bd) E (.op (.load m r.toLoadRect hl) k) Q) := by
  subst hv
  iintro H Hk
  unfold owns
  icases H with ⟨%f, %hf, H⟩
  subst hf
  iapply (Idealize.ShloMosaic.wp_load 𝒱 c bd E (m := m) (r := r.toLoadRect) (S := m.view.set) (m.view.setOn_subset_set _)) $$ H
  iintro H
  iapply Hk
  iexists f
  isplitr
  · ipureintro; rfl
  · iexact H

/-- What a memref reads after an unmasked store through a rectangle of unit stride. -/
theorem read_write_put {κ : Kind} {sp : Space} (m : Memref sig κ sp s e) (f : m.view.ty.Contents Val) {off off' size : Fin s.rank → ℕ}
    (inb : ∀ a, off a + size a ≤ s.size a) (w : (Rect.unit off size inb).shape.Idx → Val e) (h : off = off') :
    m.view.read Val ((m.access (Rect.unit off size inb)).write Val f w Finset.univ)
      = VecWindow.put (m.view.read Val f) off' size w := by
  have := View.read_writes_cons_put m.view f inb w [] h
  rw [View.writes_cons, View.writes_nil] at this
  exact this

/-- A store into an owned memref leaves it with the payload put over the rectangle's window. -/
theorem wp_store {cs : CoreSpace} {m : Memref sig c.2.kind cs s e} {off off' size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} (h : off = off') :
    (owns c m fullShare X : sProp 𝕄)
      ⊢ iprop((owns c m fullShare (VecWindow.put X off' size w) -∗ wp frame (wpE defs 𝒱 c bd) E (k ⟨⟩) Q)
        -∗ wp frame (wpE defs 𝒱 c bd) E (.op (.store m (Rect.unit off size inb) w Finset.univ hx hm) k) Q) := by
  iintro H Hk
  unfold owns
  icases H with ⟨%f, %hf, H⟩
  subst hf
  iapply (Idealize.ShloMosaic.wp_store 𝒱 c bd E (m := m) (r := Rect.unit off size inb) (Mk := Finset.univ) (S := m.view.set)
    (((m.access _).setOn_subset_set _).trans (View.set_slice_subset _ _))) $$ H
  iintro H
  iapply Hk
  iexists _
  isplitr
  · ipureintro; exact read_write_put m f inb w h
  · iexact H

/-- A put over every window of the shape leaves the payload. -/
theorem put_full {β : Type} (X : s.Idx → β) {off : Fin s.rank → ℕ} (h : off = fun _ => 0)
    (w : ((a : Fin s.rank) → Fin (s.size a)) → β) : VecWindow.put X off s.size w = w := by
  subst h
  funext y
  have hy : ∀ a, 0 ≤ (y a).val ∧ (y a).val < 0 + s.size a := fun a => ⟨Nat.zero_le _, by have := (y a).isLt; omega⟩
  exact (dif_pos hy).trans (congrArg w (funext fun a => Fin.ext (Nat.sub_zero _)))

end Rules

end Cert.Own

end
-- ==== Proof.Sb.Words.lean ====
/-
  The words of the stick-breaking backward kernel: which chunk each load and store of its walk is at. The walk counts
  chunks back from the query chunk `i`, so its trip `n` is at chunk `i - 1 - n`; the second pass runs forwards from
  chunk `i - n`, so its trip `k` is at chunk `i - n + k`. Each is decided over the grid.
-/
module

public import proofs.«01_k».proof.Proof.Gen.KernelSbIdeal
public import proofs.«01_k».proof.Proof.Gen.KernelSbIdeal.Skeleton
public import proofs.«01_k».proof.Proof.Sb.Own
public import Idealize.ShloMosaic.Lib.Pipeline.ValueKit

@[expose] public section

noncomputable section

namespace Cert.Sb

open Cert.KernelSbIdeal Cert.KernelSbIdeal.Gen
open Idealize.ShloMosaic

/-- The walk's counter as a word. -/
abbrev W (n : ℕ) : BitVec 32 := BitVec.ofNat 32 n

theorem off1_eq : ∀ i : grid0.Coords, k0_off1 i = ![0, 256 * (i 2).val, 0] := by decide +kernel
theorem off2_eq : ∀ i : grid0.Coords, k0_off2 i = ![(i 2).val, 0, 0] := by decide +kernel
theorem off11_eq : ∀ i : grid0.Coords, k0_off11 i = ![0, 256 * (i 2).val, 0] := by decide +kernel
theorem off12_eq : ∀ i : grid0.Coords, k0_off12 i = ![(i 2).val, 0, 0] := by decide +kernel
theorem off13_eq : ∀ i : grid0.Coords, k0_off13 i = ![256 * (i 2).val, 0] := by decide +kernel

theorem off3_fin : ∀ (i : grid0.Coords) (n : Fin 8), n.val < (i 2).val → k0_off3 i (W n.val) = ![0, 256 * ((i 2).val - 1 - n.val), 0] := by
  decide +kernel
theorem off4_fin : ∀ (i : grid0.Coords) (n : Fin 8), n.val < (i 2).val → k0_off4 i (W n.val) = ![(i 2).val - 1 - n.val, 0, 0] := by
  decide +kernel
theorem chk1_fin : ∀ (i : grid0.Coords) (n : Fin 8), n.val < (i 2).val → k0_chk1 i (W n.val) := by decide +kernel
theorem slt_fin : ∀ (i : grid0.Coords) (n : Fin 8), n.val ≤ (i 2).val →
    (Scalar.cmpi .slt (W n.val) (BitVec.ofNat 32 (i 2).val) = if n.val < (i 2).val then 1#1 else 0#1) := by decide +kernel
theorem addi_fin : ∀ n : Fin 8, Scalar.addi (W n.val) 1#32 = W (n.val + 1) := by decide +kernel

theorem chk2_fin : ∀ (i : grid0.Coords) (n : Fin 8), n.val ≤ (i 2).val → k0_chk2 i (W n.val) := by decide +kernel
theorem trips1_fin : ∀ (i : grid0.Coords) (n : Fin 8), n.val ≤ (i 2).val → (k0_t1_loop i (W n.val)).trips = n.val := by decide +kernel
theorem trips2_fin : ∀ (i : grid0.Coords) (n : Fin 8), n.val ≤ (i 2).val → (k0_t2_loop i (W n.val)).trips = 0 := by decide +kernel
theorem off5_fin : ∀ (i : grid0.Coords) (n : Fin 8), n.val ≤ (i 2).val → ∀ k : Fin (k0_t1_loop i (W n.val)).trips,
    k0_off5 i (W n.val) k = ![0, 256 * ((i 2).val - n.val + k.val), 0] := by decide +kernel
theorem off6_fin : ∀ (i : grid0.Coords) (n : Fin 8), n.val ≤ (i 2).val → ∀ k : Fin (k0_t1_loop i (W n.val)).trips,
    k0_off6 i (W n.val) k = ![(i 2).val - n.val + k.val, 0, 0] := by decide +kernel
theorem off7_fin : ∀ (i : grid0.Coords) (n : Fin 8), n.val ≤ (i 2).val → ∀ k : Fin (k0_t1_loop i (W n.val)).trips,
    k0_off7 i (W n.val) k = ![256 * ((i 2).val - n.val + k.val), 0] := by decide +kernel

theorem i_lt (i : grid0.Coords) : (i 2).val < 8 := (i 2).isLt

section Nat

variable (i : grid0.Coords) (n : ℕ)

theorem off3_eq (h : n < (i 2).val) : k0_off3 i (W n) = ![0, 256 * ((i 2).val - 1 - n), 0] := off3_fin i ⟨n, h.trans (i_lt i)⟩ h
theorem off4_eq (h : n < (i 2).val) : k0_off4 i (W n) = ![(i 2).val - 1 - n, 0, 0] := off4_fin i ⟨n, h.trans (i_lt i)⟩ h
theorem chk1 (h : n < (i 2).val) : k0_chk1 i (W n) := chk1_fin i ⟨n, h.trans (i_lt i)⟩ h
theorem slt_eq (h : n ≤ (i 2).val) : Scalar.cmpi .slt (W n) (BitVec.ofNat 32 (i 2).val) = if n < (i 2).val then 1#1 else 0#1 :=
  slt_fin i ⟨n, h.trans_lt (i_lt i)⟩ h
theorem addi_eq (h : n < 8) : Scalar.addi (W n) 1#32 = W (n + 1) := addi_fin ⟨n, h⟩
theorem chk2 (h : n ≤ (i 2).val) : k0_chk2 i (W n) := chk2_fin i ⟨n, h.trans_lt (i_lt i)⟩ h
theorem trips1 (h : n ≤ (i 2).val) : (k0_t1_loop i (W n)).trips = n := trips1_fin i ⟨n, h.trans_lt (i_lt i)⟩ h
theorem trips2 (h : n ≤ (i 2).val) : (k0_t2_loop i (W n)).trips = 0 := trips2_fin i ⟨n, h.trans_lt (i_lt i)⟩ h
theorem off5_eq (h : n ≤ (i 2).val) (k : Fin (k0_t1_loop i (W n)).trips) : k0_off5 i (W n) k = ![0, 256 * ((i 2).val - n + k.val), 0] :=
  off5_fin i ⟨n, h.trans_lt (i_lt i)⟩ h k
theorem off6_eq (h : n ≤ (i 2).val) (k : Fin (k0_t1_loop i (W n)).trips) : k0_off6 i (W n) k = ![(i 2).val - n + k.val, 0, 0] :=
  off6_fin i ⟨n, h.trans_lt (i_lt i)⟩ h k
theorem off7_eq (h : n ≤ (i 2).val) (k : Fin (k0_t1_loop i (W n)).trips) : k0_off7 i (W n) k = ![256 * ((i 2).val - n + k.val), 0] :=
  off7_fin i ⟨n, h.trans_lt (i_lt i)⟩ h k

end Nat

/-! ## Chunks -/

section Chunks

variable {α : Type}

/-- Chunk `j` of 256 rows of the keys or the values. -/
def kch (X : S1x2048x128.Idx → α) (j : ℕ) : S1x256x128.Idx → α :=
  fun y => X (ix3 0 ⟨(256 * j + (y 1).val) % 2048, Nat.mod_lt _ (by decide)⟩ (y 2))

/-- Chunk `j` of the scores kept from the walk. -/
def zch (X : S8x512x256.Idx → α) (j : ℕ) : S1x512x256.Idx → α :=
  fun y => X (ix3 ⟨j % 8, Nat.mod_lt _ (by decide)⟩ (y 1) (y 2))

/-- Chunk `j` of 256 rows of an accumulator. -/
def ach (X : S2048x128.Idx → α) (j : ℕ) : S256x128.Idx → α :=
  fun y => X (ix2 ⟨(256 * j + (y 0).val) % 2048, Nat.mod_lt _ (by decide)⟩ (y 1))

/-! A window at a chunk's offsets is the chunk. -/

section Windows

variable {Val : EltTy → Type} {e : EltTy}

theorem ld_kch (X : S1x2048x128.Idx → Val e) {off : Fin 3 → ℕ} (inb : ∀ a, off a + S1x256x128.size a ≤ S1x2048x128.size a) {j : ℕ}
    (h : off = ![0, 256 * j, 0]) (hj : j < 8) : View.ld (Val := Val) X (Rect.unit (s := S1x2048x128) off S1x256x128.size inb) = kch X j := by
  subst h
  funext y
  have h0 : (y 0).val < 1 := (y 0).isLt
  have h1 : (y 1).val < 256 := (y 1).isLt
  refine congrArg X (funext fun a => Fin.ext ?_)
  fin_cases a
  · show 0 + 1 * (y 0).val = 0; omega
  · show 256 * j + 1 * (y 1).val = (256 * j + (y 1).val) % 2048; omega
  · show 0 + 1 * (y 2).val = (y 2).val; omega

theorem ld_zch (X : S8x512x256.Idx → Val e) {off : Fin 3 → ℕ} (inb : ∀ a, off a + S1x512x256.size a ≤ S8x512x256.size a) {j : ℕ}
    (h : off = ![j, 0, 0]) (hj : j < 8) : View.ld (Val := Val) X (Rect.unit (s := S8x512x256) off S1x512x256.size inb) = zch X j := by
  subst h
  funext y
  have h0 : (y 0).val < 1 := (y 0).isLt
  refine congrArg X (funext fun a => Fin.ext ?_)
  fin_cases a
  · show j + 1 * (y 0).val = j % 8; omega
  · show 0 + 1 * (y 1).val = (y 1).val; omega
  · show 0 + 1 * (y 2).val = (y 2).val; omega

theorem ld_ach (X : S2048x128.Idx → Val e) {off : Fin 2 → ℕ} (inb : ∀ a, off a + S256x128.size a ≤ S2048x128.size a) {j : ℕ}
    (h : off = ![256 * j, 0]) (hj : j < 8) : View.ld (Val := Val) X (Rect.unit (s := S2048x128) off S256x128.size inb) = ach X j := by
  subst h
  funext y
  have h0 : (y 0).val < 256 := (y 0).isLt
  refine congrArg X (funext fun a => Fin.ext ?_)
  fin_cases a
  · show 256 * j + 1 * (y 0).val = (256 * j + (y 0).val) % 2048; omega
  · show 0 + 1 * (y 1).val = (y 1).val; omega

end Windows

/-- The scores kept from the walk, with chunk `j` written. -/
def zput (X : S8x512x256.Idx → α) (j : ℕ) (w : S1x512x256.Idx → α) : S8x512x256.Idx → α :=
  VecWindow.put X ![j, 0, 0] S1x512x256.size w

theorem zch_zput_same (X : S8x512x256.Idx → α) (w : S1x512x256.Idx → α) {j : ℕ} (hj : j < 8) : zch (zput X j w) j = w := by
  have := VecWindow.window_put_same X ![j, 0, 0] S1x512x256.size (by intro a; fin_cases a <;> simp <;> omega) w
  exact (ld_zch (Val := fun _ => α) (e := .f32) (zput X j w) _ rfl hj).symm.trans this

theorem zch_zput_ne (X : S8x512x256.Idx → α) (w : S1x512x256.Idx → α) {j l : ℕ} (hj : j < 8) (hl : l < 8) (h : l ≠ j) :
    zch (zput X j w) l = zch X l := by
  have := VecWindow.window_put_of_disjoint X ![j, 0, 0] S1x512x256.size ![l, 0, 0] S1x512x256.size
    (by intro a; fin_cases a <;> simp <;> omega) w (0 : Fin 3) (by simp; omega)
  exact ((ld_zch (Val := fun _ => α) (e := .f32) (zput X j w) _ rfl hl).symm.trans this).trans (ld_zch (Val := fun _ => α) (e := .f32) X _ rfl hl)

/-- An accumulator with chunk `j` written. -/
def aput (X : S2048x128.Idx → α) (j : ℕ) (w : S256x128.Idx → α) : S2048x128.Idx → α :=
  VecWindow.put X ![256 * j, 0] S256x128.size w

end Chunks

end Cert.Sb

end
-- ==== Proof.Sb.State.lean ====
/-
  What one grid point of the stick-breaking backward kernel computes, as values: the chunks of scores its walk keeps,
  the remainders the walk carries, and the two accumulators and the query's gradient after its second pass. Everything
  is stated over the blocks the point reads and the number `n` of chunks the walk went back.
-/
module

public import proofs.«01_k».proof.Proof.Sb.Words

@[expose] public section

noncomputable section

namespace Cert.Sb

open Cert.KernelSbIdeal Cert.KernelSbIdeal.Gen
open Idealize.ShloMosaic

variable {F : FTy → Type} [FloatOps F] [Named F]

/-- The blocks a grid point reads, and the query chunk it is at. -/
structure Blk (F : FTy → Type) where
  i : ℕ
  q : FVec F S1x256x128 .bf16
  k : FVec F S1x2048x128 .bf16
  v : FVec F S1x2048x128 .bf16
  d : FVec F S1x256x128 .bf16

variable (B : Blk F)

/-- The scores of the query chunk against its own keys. -/
def zd : FVec F S512x256 .f32 := k0_pay41 B.q (kch B.k B.i)

/-- The remainder the walk carries before its trip `n`. -/
def runs : ℕ → FVec F S512x1 .f32
  | 0 => k0_pay45 k0_pay40 (zd B)
  | n + 1 => k0_pay9 (k0_pay38 B.q) (runs n) (kch B.k (B.i - 1 - n))

/-- Whether the walk's remainder is still alive before its trip `n`. -/
def alive : ℕ → BitVec 1
  | 0 => Scalar.cmpf .ogt (k0_pay46 k0_pay40 (zd B)) (Named.named κ "sb_dead" 0xC2D00000#32)
  | n + 1 => Scalar.cmpf .ogt (k0_pay10 (k0_pay38 B.q) (runs B n) (kch B.k (B.i - 1 - n))) (Named.named κ "sb_dead" 0xC2D00000#32)

/-- The scores, and the logarithms kept, of chunk `j`. -/
def zs (j : ℕ) : FVec F S1x512x256 .f32 := k0_pay7 (k0_pay38 B.q) (kch B.k j)
def ks (j : ℕ) : FVec F S1x512x256 .f32 := k0_pay8 (k0_pay38 B.q) (kch B.k j)

/-- The scratch holds what the walk wrote going back `n` chunks: its own chunk and the `n` before it. -/
def Walked (n : ℕ) (Z K : S8x512x256.Idx → Elt F .f32) : Prop :=
  (zch Z B.i = k0_pay43 (zd B) ∧ zch K B.i = k0_pay44 k0_pay40 (zd B))
    ∧ ∀ j, B.i - n ≤ j → j < B.i → zch Z j = zs B j ∧ zch K j = ks B j

/-- The second pass's values: the query's gradient, the two carried columns and the two accumulators. -/
structure Pass (F : FTy → Type) where
  dq : FVec F S512x128 .f32
  u : FVec F S512x1 .f32
  v : FVec F S512x1 .f32
  dk : FVec F S2048x128 .f32
  dv : FVec F S2048x128 .f32

/-- The second pass's trip at chunk `j`, `tot` being the whole remainder. -/
def trip (tot : FVec F S512x1 .f32) (j : ℕ) (s : Pass F) : Pass F :=
  let q2 := k0_pay38 B.q
  let do2 := k0_pay39 B.d
  let vb := kch B.v j
  let p18 := k0_pay18 k0_pay35 tot s.u (ks B j) (zs B j)
  let p19 := k0_pay19 k0_pay35 do2 tot s.u vb (ks B j) (zs B j)
  let p20 := k0_pay20 k0_pay35 do2 tot s.u vb (ks B j) (zs B j)
  let p21 := k0_pay21 k0_pay35 do2 tot s.u vb (ks B j) (zs B j)
  let p22 := k0_pay22 k0_pay35 do2 tot s.u vb (ks B j) (zs B j)
  let p13 := k0_pay13 (ks B j) (zs B j)
  { dq := k0_pay53 k0_pay36 s.dq s.v (k0_pay11 (kch B.k j)) p13 p19 p20 p22
    u := k0_pay56 s.u (k0_pay16 (ks B j)) (k0_pay17 (ks B j))
    v := k0_pay57 s.v p20 p21
    dk := aput s.dk j (k0_pay54 k0_pay36 q2 s.v p13 p19 p20 p22 (ach s.dk j))
    dv := aput s.dv j (k0_pay55 do2 p18 (ach s.dv j)) }

/-- The second pass after `k` trips, the walk having gone back `n`. -/
def pass (n : ℕ) (dk dv : FVec F S2048x128 .f32) : ℕ → Pass F
  | 0 => { dq := k0_pay50, u := k0_pay49, v := k0_pay49, dk := dk, dv := dv }
  | k + 1 => trip B (runs B n) (B.i - n + k) (pass n dk dv k)

/-- The accumulators a point starts from: zeros at the first query chunk. -/
def start (A : FVec F S2048x128 .f32) (z : FVec F S2048x128 .f32) : FVec F S2048x128 .f32 := if B.i = 0 then z else A

/-- The diagonal chunk's values. -/
def zD : FVec F S1x512x256 .f32 := k0_pay43 (zd B)
def kD : FVec F S1x512x256 .f32 := k0_pay44 k0_pay40 (zd B)

/-- What a point leaves, from the second pass `s` and the whole remainder `tot`. -/
def outQ (tot : FVec F S512x1 .f32) (s : Pass F) : FVec F S1x256x128 .bf16 :=
  k0_pay2 k0_pay37 (k0_pay77 k0_pay36 tot s.dq s.u s.v k0_pay65 (k0_pay66 (kch B.k B.i)) (k0_pay67 (k0_pay39 B.d) (kch B.v B.i))
    (k0_pay69 (kD B) (zD B)) (k0_pay72 k0_pay35 (kD B)) (k0_pay73 k0_pay35 (kD B)) (k0_pay74 (kD B)))

def outK (tot : FVec F S512x1 .f32) (s : Pass F) : FVec F S2048x128 .f32 :=
  aput s.dk B.i (k0_pay78 k0_pay36 (k0_pay38 B.q) tot s.u s.v k0_pay65 (k0_pay67 (k0_pay39 B.d) (kch B.v B.i))
    (k0_pay69 (kD B) (zD B)) (k0_pay72 k0_pay35 (kD B)) (k0_pay73 k0_pay35 (kD B)) (k0_pay74 (kD B)) (ach s.dk B.i))

def outV (tot : FVec F S512x1 .f32) (s : Pass F) : FVec F S2048x128 .f32 :=
  aput s.dv B.i (k0_pay1 (k0_pay79 (k0_pay39 B.d) tot s.u k0_pay65
    (k0_pay69 (kD B) (zD B)) (k0_pay72 k0_pay35 (kD B)) (k0_pay73 k0_pay35 (kD B)) (k0_pay74 (kD B)) (ach s.dv B.i)))

/-- The walk went back `n` chunks, its remainder alive before each of those trips. -/
def Reached (n : ℕ) : Prop := ∀ k < n, alive B k = 1#1

/-- The walk stopped after going back `n`: at the first chunk, or because no remainder is alive. -/
def Stops (n : ℕ) : Prop := n ≤ B.i ∧ (n = B.i ∨ alive B n ≠ 1#1) ∧ Reached B n

open Classical in
/-- How many chunks the walk goes back. -/
def walk : ℕ := if h : ∃ n, Stops B n then h.choose else 0

variable {B} in
theorem Stops.unique {n k : ℕ} (h : Stops B n) (h' : Stops B k) : n = k := by
  rcases Nat.lt_trichotomy n k with hl | he | hl
  · rcases h.2.1 with h1 | h1
    · have := h'.1; omega
    · exact absurd (h'.2.2 n hl) h1
  · exact he
  · rcases h'.2.1 with h1 | h1
    · have := h.1; omega
    · exact absurd (h.2.2 k hl) h1

variable {B} in
theorem Stops.eq {n : ℕ} (h : Stops B n) : n = walk B := by
  unfold walk
  rw [dif_pos ⟨n, h⟩]
  exact h.unique (Exists.choose_spec (⟨n, h⟩ : ∃ n, Stops B n))

/-- The accumulators at the start of a point and the second pass whole. -/
def whole (n : ℕ) (dk dv : FVec F S2048x128 .f32) : Pass F := pass B n (start B dk k0_pay47) (start B dv k0_pay48) n

end Cert.Sb

end
-- ==== Proof.Sb.While.lean ====
/-
  The walk back over earlier chunks: the label's specification, met by its body. Entered before trip `n` with the
  scratch holding the chunks written so far, it returns the number of chunks gone back, at which it stopped because it
  was at the first chunk or because nothing remained alive, and the scratch holding all of them.
-/
module

public import proofs.«01_k».proof.Proof.Sb.State
public import proofs.«01_k».proof.Proof.Gen.KernelSbIdeal.Launch
public import Idealize.ShloMosaic.Lib.Pipeline.Kit

@[expose] public section

noncomputable section

namespace Cert.Sb

open Cert.KernelSbIdeal Cert.KernelSbIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The walk's trips still to run bound its calls. -/
abbrev 𝒱₀ : Variants := Variants.nat

theorem Walked.zero {B : Blk F} {Z K : S8x512x256.Idx → Elt F .f32} (hi : B.i < 8) :
    Walked B 0 (zput Z B.i (k0_pay43 (zd B))) (zput K B.i (k0_pay44 k0_pay40 (zd B))) :=
  ⟨⟨zch_zput_same _ _ hi, zch_zput_same _ _ hi⟩, fun j h1 h2 => by omega⟩

theorem Walked.succ {B : Blk F} {n : ℕ} {Z K : S8x512x256.Idx → Elt F .f32} (hi : B.i < 8) (hn : n < B.i) (h : Walked B n Z K) :
    Walked B (n + 1) (zput Z (B.i - 1 - n) (zs B (B.i - 1 - n))) (zput K (B.i - 1 - n) (ks B (B.i - 1 - n))) := by
  refine ⟨⟨?_, ?_⟩, fun j h1 h2 => ?_⟩
  · rw [zch_zput_ne _ _ (by omega) hi (by omega)]; exact h.1.1
  · rw [zch_zput_ne _ _ (by omega) hi (by omega)]; exact h.1.2
  · by_cases hj : j = B.i - 1 - n
    · subst hj
      exact ⟨zch_zput_same _ _ (by omega), zch_zput_same _ _ (by omega)⟩
    · rw [zch_zput_ne _ _ (by omega) (by omega) hj, zch_zput_ne _ _ (by omega) (by omega) hj]
      exact h.2 j (by omega) h2

theorem guard_eq (a : BitVec 1) : Scalar.cmpi .sgt (Scalar.extui a) (0#32 : BitVec 32) = a := by
  revert a; decide

section Label

variable (c : Dev nD) (i : grid0.Coords) (B : Blk F) (hB : B.i = (i 2).val) (q : PosShare TreeShare)
  (arg4 : Memref sig .tc .vmem S1x2048x128 .bf16) (harg4 : arg4.IsWhole) (arg12 : Memref sig .tc .vmem S8x512x256 .f32)
  (harg12 : arg12.IsWhole) (arg13 : Memref sig .tc .vmem S8x512x256 .f32) (harg13 : arg13.IsWhole)

/-- What the label's function reads and writes: the keys, and the two scratch buffers. -/
def held (Z K : S8x512x256.Idx → Elt F .f32) : sProp 𝕄 :=
  iprop(owns (c : Thread nD τ) arg4 q B.k ∗ owns (c : Thread nD τ) arg12 fullShare Z ∗ owns (c : Thread nD τ) arg13 fullShare K)

/-- The label's specification. -/
def spec (Z K : S8x512x256.Idx → Elt F .f32) : sWPT 𝕄 (BitVec 32 × BitVec 32 × FVec F S512x1 .f32) := do
  sWPT.consume (held c B q arg4 arg12 arg13 Z K)
  let r : ℕ × BitVec 32 × (S8x512x256.Idx → Elt F .f32) × (S8x512x256.Idx → Elt F .f32) ← sWPT.arbitrary
  sWPT.assume (Stops B r.1 ∧ Walked B r.1 r.2.2.1 r.2.2.2)
  sWPT.produce (held c B q arg4 arg12 arg13 r.2.2.1 r.2.2.2)
  pure (W r.1, r.2.1, runs B r.1)

theorem spec_apply (Z K : S8x512x256.Idx → Elt F .f32) (Q : BitVec 32 × BitVec 32 × FVec F S512x1 .f32 → sProp 𝕄) :
    spec c B q arg4 arg12 arg13 Z K Q
      = iprop(held c B q arg4 arg12 arg13 Z K ∗ ∀ r : ℕ × BitVec 32 × (S8x512x256.Idx → Elt F .f32) × (S8x512x256.Idx → Elt F .f32),
        ⌜Stops B r.1 ∧ Walked B r.1 r.2.2.1 r.2.2.2⌝ -∗ (held c B q arg4 arg12 arg13 r.2.2.1 r.2.2.2 -∗ Q (W r.1, r.2.1, runs B r.1))) := rfl

theorem test_eq (n : ℕ) (hn : n ≤ (i 2).val) (a : BitVec 1) :
    Scalar.andi (Scalar.cmpi .slt (W n) (BitVec.ofNat 32 (i 2).val)) (Scalar.cmpi .sgt (Scalar.extui a) (0#32 : BitVec 32))
      = if n < (i 2).val then a else 0#1 := by
  rw [guard_eq, slt_eq i n hn]
  split
  · revert a; decide
  · revert a; decide

include hB in
/-- The label's body, entered before trip `n` with `k` trips left, meets the specification: by induction on `k`. -/
theorem spec_le (E : Set ℕ) :
    ∀ k n, n + k = B.i → ∀ Z K, Reached B n → Walked B n Z K → ∀ Q, spec c B q arg4 arg12 arg13 Z K Q
      ⊢ wp frame (wpE (defs₀ (F := F)) 𝒱₀ (c : Thread nD τ) (some k)) E
          (defs₀ (F := F) .tc 1 ⟨i, arg4, harg4, k0_pay38 B.q, arg12, harg12, arg13, harg13, W n, Scalar.extui (alive B n), runs B n⟩) Q := by
  have hi : B.i < 8 := by rw [hB]; exact i_lt i
  intro k
  induction k with
  | zero =>
    intro n hn Z K hR hW Q
    rw [spec_apply]
    show _ ⊢ wp frame (wpE (defs₀ (F := F)) 𝒱₀ (c : Thread nD τ) (some 0)) E
      (cc0_while1 i arg4 harg4 (k0_pay38 B.q) arg12 harg12 arg13 harg13 (W n) (Scalar.extui (alive B n)) (runs B n)) Q
    simp only [cc0_while1_eq_skeleton]; unfold cc0_while1_skel
    have ht : ¬ Scalar.andi (Scalar.cmpi .slt (W n) (BitVec.ofNat 32 (i 2).val)) (Scalar.cmpi .sgt (Scalar.extui (alive B n)) (0#32 : BitVec 32)) = 1#1 := by
      rw [test_eq i n (by omega), if_neg (by omega)]; decide
    simp only [ht, ↓reduceIte, Prog.pure_eq_ret]
    iintro ⟨H, Hk⟩
    rw [wp_ret]; imodintro
    iapply Hk $$ %((n, Scalar.extui (alive B n), Z, K))
    · ipureintro; exact ⟨⟨by omega, .inl (by omega), hR⟩, hW⟩
    · iexact H
  | succ k ih =>
    intro n hn Z K hR hW Q
    rw [spec_apply]
    show _ ⊢ wp frame (wpE (defs₀ (F := F)) 𝒱₀ (c : Thread nD τ) (some (k + 1))) E
      (cc0_while1 i arg4 harg4 (k0_pay38 B.q) arg12 harg12 arg13 harg13 (W n) (Scalar.extui (alive B n)) (runs B n)) Q
    simp only [cc0_while1_eq_skeleton]; unfold cc0_while1_skel
    have hni : n < (i 2).val := by omega
    by_cases ha : alive B n = 1#1
    · have ht : Scalar.andi (Scalar.cmpi .slt (W n) (BitVec.ofNat 32 (i 2).val)) (Scalar.cmpi .sgt (Scalar.extui (alive B n)) (0#32 : BitVec 32)) = 1#1 := by
        rw [test_eq i n (by omega), if_pos hni, ha]
      simp only [ht, ↓reduceIte, Prog.lift, Prog.bind_op, Prog.bind_ret, Prog.pure_eq_ret]
      unfold held
      iintro ⟨⟨Hk, Hz, Hl⟩, HQ⟩
      iapply (wp_assume 𝒱₀ (c : Thread nD τ) (some (k + 1)) E (chk1 i n hni))
      iapply (Own.wp_load 𝒱₀ (c : Thread nD τ) (some (k + 1)) E (kch B.k ((i 2).val - 1 - n)) (ld_kch _ _ (off3_eq i n hni) (by omega))) $$ Hk; iintro Hk
      iapply (Own.wp_load 𝒱₀ (c : Thread nD τ) (some (k + 1)) E _ rfl) $$ Hz; iintro Hz
      iapply (Own.wp_store 𝒱₀ (c : Thread nD τ) (some (k + 1)) E (off4_eq i n hni)) $$ Hz; iintro Hz
      iapply (Own.wp_load 𝒱₀ (c : Thread nD τ) (some (k + 1)) E _ rfl) $$ Hl; iintro Hl
      iapply (Own.wp_store 𝒱₀ (c : Thread nD τ) (some (k + 1)) E (off4_eq i n hni)) $$ Hl; iintro Hl
      have e1 : k0_pay9 (k0_pay38 B.q) (runs B n) (kch B.k ((i 2).val - 1 - n)) = runs B (n + 1) := by rw [← hB]; rfl
      have e2 : Scalar.cmpf .ogt (k0_pay10 (k0_pay38 B.q) (runs B n) (kch B.k ((i 2).val - 1 - n))) (Named.named κ "sb_dead" 0xC2D00000#32)
          = alive B (n + 1) := by rw [← hB]; rfl
      rw [addi_eq n (by omega), e1, e2]
      have hW' := hW.succ hi (by omega)
      rw [hB] at hW'
      have hR' : Reached B (n + 1) := fun k hk => by
        by_cases h : k = n
        · rw [h]; exact ha
        · exact hR k (by omega)
      have hs := ih (n + 1) (by omega) _ _ hR' hW'
      unfold zput zs ks at hs
      iapply (wp_call_spec 𝒱₀ (c : Thread nD τ) (some (k + 1)) E (spec c B q arg4 arg12 arg13 _ _) k
        (fun u hu => by cases hu; exact Nat.lt_succ_self k) hs)
      rw [spec_apply]; unfold held
      isplitl [Hk Hz Hl]
      · isplitl [Hk]; · iexact Hk
        isplitl [Hz]; · iexact Hz
        iexact Hl
      iintro %r %hr H
      rw [wp_ret]; imodintro
      iapply HQ $$ %r
      · ipureintro; exact hr
      · iexact H
    · have ht : ¬ Scalar.andi (Scalar.cmpi .slt (W n) (BitVec.ofNat 32 (i 2).val)) (Scalar.cmpi .sgt (Scalar.extui (alive B n)) (0#32 : BitVec 32)) = 1#1 := by
        rw [test_eq i n (by omega), if_pos hni]; exact ha
      simp only [ht, ↓reduceIte, Prog.pure_eq_ret]
      iintro ⟨H, Hk⟩
      rw [wp_ret]; imodintro
      iapply Hk $$ %((n, Scalar.extui (alive B n), Z, K))
      · ipureintro; exact ⟨⟨by omega, .inr ha, hR⟩, hW⟩
      · iexact H

end Label

end Cert.Sb

end
-- ==== Proof.Sb.Parts.lean ====
/-
  The parts of one grid point's body, each run through its loads and stores: what it leaves in the buffers it touches and
  the values it returns, as functions of the blocks the point reads and of the number of chunks the walk goes back.
-/
module

public import proofs.«01_k».proof.Proof.Sb.While

@[expose] public section

noncomputable section

namespace Cert.Sb

open Cert.KernelSbIdeal Cert.KernelSbIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (ld_unit_zero)

variable {F : FTy → Type} [FloatOps F] [Named F]

local notation "𝕄" => MT nD τ sig Unit (Elt F) ℕ (UR sig nD τ) ℕ

variable (c : Dev nD) (i : grid0.Coords) (B : Blk F) (hB : B.i = (i 2).val) (q : PosShare TreeShare)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S8x512x256 .f32) (harg12 : arg12.IsWhole)
  (arg13 : Memref sig .tc .vmem S8x512x256 .f32) (harg13 : arg13.IsWhole)

/-- The query chunk's word. -/
abbrev wi : BitVec 32 := BitVec.ofNat 32 (i 2).val

include hB in
theorem part3_run {q4 q6 : PosShare TreeShare} {Q : _ → sProp 𝕄} :
    iprop(owns (c : Thread nD τ) arg3 q B.q ∗ owns (c : Thread nD τ) arg4 q4 B.k ∗ owns (c : Thread nD τ) arg6 q6 B.d)
      ⊢ iprop((iprop(owns (c : Thread nD τ) arg3 q B.q ∗ owns (c : Thread nD τ) arg4 q4 B.k ∗ owns (c : Thread nD τ) arg6 q6 B.d)
          -∗ Q ⟨wi i, k0_pay35 (F := F), k0_pay36 (F := F), k0_pay37, k0_pay38 B.q, k0_pay39 B.d, k0_pay40, zd B⟩)
        -∗ wp frame (wpE (defs₀ (F := F)) 𝒱₀ (c : Thread nD τ) none) Set.univ (k0_part3 i arg3 harg3 arg4 harg4 arg5 harg5 arg6 harg6 arg7 harg7 arg8 harg8 arg9 harg9 arg10 harg10 arg11 harg11 arg12 harg12 arg13 harg13) Q) := by
  unfold zd wi
  rw [k0_part3_eq_skeleton]; unfold k0_part3_skel
  simp only [Prog.lift, Prog.bind_op, Prog.bind_ret, Prog.pure_eq_ret]
  iintro ⟨H3, H4, H6⟩ HQ
  iapply (Own.wp_load 𝒱₀ (c : Thread nD τ) none Set.univ B.q (ld_unit_zero (by decide) _ _)) $$ H3; iintro H3
  iapply (Own.wp_load 𝒱₀ (c : Thread nD τ) none Set.univ B.d (ld_unit_zero (by decide) _ _)) $$ H6; iintro H6
  iapply (Own.wp_load 𝒱₀ (c : Thread nD τ) none Set.univ (kch B.k B.i) (ld_kch _ _ ((off1_eq i).trans (by rw [hB])) (by rw [hB]; exact i_lt i))) $$ H4; iintro H4
  rw [wp_ret]; imodintro
  iapply HQ
  isplitl [H3]; · iexact H3
  isplitl [H4]; · iexact H4
  iexact H6

theorem zero_test (j : Fin 8) : (Scalar.cmpi .ne (Scalar.extui (Scalar.cmpi .eq (BitVec.ofNat 32 j.val) (0#32 : BitVec 32)) : BitVec 32) (0#32 : BitVec 32) = 1#1)
    ↔ j.val = 0 := by revert j; decide

include hB in
theorem part4_run {A A' : S2048x128.Idx → Elt F .f32} {Z K : S8x512x256.Idx → Elt F .f32} {Q : _ → sProp 𝕄} :
    iprop(held c B q arg4 arg12 arg13 Z K ∗ owns (c : Thread nD τ) arg10 fullShare A ∗ owns (c : Thread nD τ) arg11 fullShare A')
      ⊢ iprop((∀ n Z' K' (hw : k0_chk2 i (W n)), ⌜Stops B n ∧ Walked B n Z' K'⌝ -∗
          (iprop(held c B q arg4 arg12 arg13 Z' K' ∗ owns (c : Thread nD τ) arg10 fullShare (start B A k0_pay47)
              ∗ owns (c : Thread nD τ) arg11 fullShare (start B A' k0_pay48))
            -∗ Q ⟨W n, runs B n, hw, Scalar.subi (wi i) (W n), k0_pay49 (F := F), k0_pay50 (F := F),
              Scalar.muli (Scalar.divsi (Scalar.subi (wi i) (Scalar.subi (wi i) (W n))) 1#32) 1#32⟩))
        -∗ wp frame (wpE (defs₀ (F := F)) 𝒱₀ (c : Thread nD τ) none) Set.univ
          (k0_part4 i arg3 harg3 arg4 harg4 arg5 harg5 arg6 harg6 arg7 harg7 arg8 harg8 arg9 harg9 arg10 harg10 arg11 harg11 arg12 harg12 arg13 harg13 (wi i) (k0_pay38 B.q) k0_pay40 (zd B)) Q) := by
  have hi : B.i < 8 := by rw [hB]; exact i_lt i
  rw [k0_part4_eq_skeleton]; unfold k0_part4_skel
  simp only [Prog.lift, Prog.bind_op, Prog.bind_ret, Prog.pure_eq_ret]
  unfold held
  iintro ⟨⟨H4, H12, H13⟩, H10, H11⟩ HQ
  iapply (Own.wp_load 𝒱₀ (c : Thread nD τ) none Set.univ _ rfl) $$ H12; iintro H12
  iapply (Own.wp_store 𝒱₀ (c : Thread nD τ) none Set.univ (off2_eq i)) $$ H12; iintro H12
  iapply (Own.wp_load 𝒱₀ (c : Thread nD τ) none Set.univ _ rfl) $$ H13; iintro H13
  iapply (Own.wp_store 𝒱₀ (c : Thread nD τ) none Set.univ (off2_eq i)) $$ H13; iintro H13
  have h0 := Walked.zero (B := B) (Z := Z) (K := K) hi
  rw [hB] at h0
  have hs := spec_le c i B hB q arg4 harg4 arg12 harg12 arg13 harg13 Set.univ B.i 0 (by omega) _ _ (fun k hk => absurd hk (Nat.not_lt_zero k)) h0
  unfold zput at hs
  iapply (wp_call_spec 𝒱₀ (c : Thread nD τ) none Set.univ (spec c B q arg4 arg12 arg13 _ _) B.i (fun u hu => nomatch hu) hs)
  rw [spec_apply]; unfold held
  isplitl [H4 H12 H13]
  · isplitl [H4]; · iexact H4
    isplitl [H12]; · iexact H12
    iexact H13
  iintro %r %hr ⟨H4, H12, H13⟩
  obtain ⟨n, a, Z', K'⟩ := r
  have hn : n ≤ (i 2).val := by rw [← hB]; exact hr.1.1
  iapply (wp_assume 𝒱₀ (c : Thread nD τ) none Set.univ (chk2 i n hn))
  by_cases h : B.i = 0
  · have ht := (zero_test ⟨(i 2).val, i_lt i⟩).mpr (by rw [← hB]; exact h)
    simp only [ht, ↓reduceDIte, Prog.lift, Prog.bind_op, Prog.bind_ret, Prog.pure_eq_ret]
    iapply (Own.wp_load 𝒱₀ (c : Thread nD τ) none Set.univ _ rfl) $$ H10; iintro H10
    iapply (Own.wp_store 𝒱₀ (c : Thread nD τ) none Set.univ rfl) $$ H10; iintro H10
    iapply (Own.wp_load 𝒱₀ (c : Thread nD τ) none Set.univ _ rfl) $$ H11; iintro H11
    iapply (Own.wp_store 𝒱₀ (c : Thread nD τ) none Set.univ rfl) $$ H11; iintro H11
    rw [wp_ret]; imodintro
    iapply HQ $$ %n %Z' %K' %(chk2 i n hn)
    · ipureintro; exact hr
    unfold start
    rw [if_pos h, if_pos h, Own.put_full _ (by decide), Own.put_full _ (by decide)]
    isplitl [H4 H12 H13]
    · isplitl [H4]; · iexact H4
      isplitl [H12]; · iexact H12
      iexact H13
    isplitl [H10]; · iexact H10
    iexact H11
  · have ht := mt (zero_test ⟨(i 2).val, i_lt i⟩).mp (by rw [← hB]; exact h)
    simp only [ht, ↓reduceDIte, Prog.lift, Prog.bind_op, Prog.bind_ret, Prog.pure_eq_ret]
    rw [wp_ret]; imodintro
    iapply HQ $$ %n %Z' %K' %(chk2 i n hn)
    · ipureintro; exact hr
    unfold start
    rw [if_neg h, if_neg h]
    isplitl [H4 H12 H13]
    · isplitl [H4]; · iexact H4
      isplitl [H12]; · iexact H12
      iexact H13
    isplitl [H10]; · iexact H10
    iexact H11

end Cert.Sb

end
-- ==== Proof.Sb.Body.lean ====
/-
  One grid point's body as a whole: the second pass's counted loop, the diagonal chunk, and what the point leaves in its
  output windows and in its scratch.
-/
module

public import proofs.«01_k».proof.Proof.Sb.Parts
public import Idealize.ShloMosaic.Lib.LoopRemainder

@[expose] public section

noncomputable section

namespace Cert.Sb

open Cert.KernelSbIdeal Cert.KernelSbIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (ld_unit_zero)

variable {F : FTy → Type} [FloatOps F] [Named F]

local notation "𝕄" => MT nD τ sig Unit (Elt F) ℕ (UR sig nD τ) ℕ

variable (c : Dev nD) (i : grid0.Coords) (B : Blk F) (hB : B.i = (i 2).val) (q : PosShare TreeShare)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S8x512x256 .f32) (harg12 : arg12.IsWhole)
  (arg13 : Memref sig .tc .vmem S8x512x256 .f32) (harg13 : arg13.IsWhole)

/-- What the second pass touches: keys, values, the walk's scratch and the two accumulators. -/
def pool (q4 q5 : PosShare TreeShare) (Z K : S8x512x256.Idx → Elt F .f32) (dk dv : S2048x128.Idx → Elt F .f32) : sProp 𝕄 :=
  iprop(owns (c : Thread nD τ) arg4 q4 B.k ∗ owns (c : Thread nD τ) arg5 q5 B.v ∗ owns (c : Thread nD τ) arg12 fullShare Z
    ∗ owns (c : Thread nD τ) arg13 fullShare K ∗ owns (c : Thread nD τ) arg10 fullShare dk ∗ owns (c : Thread nD τ) arg11 fullShare dv)

variable {q4 q5 : PosShare TreeShare} {Z K : S8x512x256.Idx → Elt F .f32} (n : ℕ) (hn : n ≤ B.i) (hW : Walked B n Z K)

include hB hn hW in
theorem trip_run (w : BitVec 32) (v74 : FVec F S512x1 .f32) (v75 : FVec F S512x128 .f32) (v79 : BitVec 32) (v70 : BitVec 32)
    (hw : k0_chk2 i (W n)) (k : Fin (k0_t1_loop i (W n)).trips) (s : Pass F) {Q : _ → sProp 𝕄} :
    pool c B arg4 arg5 arg10 arg11 arg12 arg13 q4 q5 Z K s.dk s.dv
      ⊢ iprop((pool c B arg4 arg5 arg10 arg11 arg12 arg13 q4 q5 Z K (trip B (runs B n) (B.i - n + k.val) s).dk (trip B (runs B n) (B.i - n + k.val) s).dv
          -∗ Q ((trip B (runs B n) (B.i - n + k.val) s).dq, (trip B (runs B n) (B.i - n + k.val) s).u, (trip B (runs B n) (B.i - n + k.val) s).v))
        -∗ wp frame (wpE (defs₀ (F := F)) 𝒱₀ (c : Thread nD τ) none) Set.univ
          (k0_t1_body i arg3 harg3 arg4 harg4 arg5 harg5 arg6 harg6 arg7 harg7 arg8 harg8 arg9 harg9 arg10 harg10 arg11 harg11 arg12 harg12 arg13 harg13 w (k0_pay35 (F := F)) (k0_pay36 (F := F)) (k0_pay38 B.q) (k0_pay39 B.d) (W n) (runs B n) hw v70 v74 v75 v79 k (s.dq, s.u, s.v)) Q) := by
  have hi : B.i < 8 := by rw [hB]; exact i_lt i
  have hn' : n ≤ (i 2).val := by rw [← hB]; exact hn
  have hk : k.val < n := k.isLt.trans_eq (trips1 i n hn')
  have hj : B.i - n + k.val < 8 := by omega
  have hz := (hW.2 (B.i - n + k.val) (by omega) (by omega)).1
  have hl := (hW.2 (B.i - n + k.val) (by omega) (by omega)).2
  have o5 : k0_off5 i (W n) k = ![0, 256 * (B.i - n + k.val), 0] := by rw [off5_eq i n hn' k, hB]
  have o6 : k0_off6 i (W n) k = ![B.i - n + k.val, 0, 0] := by rw [off6_eq i n hn' k, hB]
  have o7 : k0_off7 i (W n) k = ![256 * (B.i - n + k.val), 0] := by rw [off7_eq i n hn' k, hB]
  unfold k0_t1_body
  rw [wp_bind, k0_part1_eq_skeleton]; unfold k0_part1_skel
  simp only [Prog.lift, Prog.bind_op, Prog.bind_ret, Prog.pure_eq_ret]
  unfold pool trip
  iintro ⟨H4, H5, H12, H13, H10, H11⟩ HQ
  iapply (Own.wp_load 𝒱₀ (c : Thread nD τ) none Set.univ _ (ld_kch _ _ o5 hj)) $$ H4; iintro H4
  iapply (Own.wp_load 𝒱₀ (c : Thread nD τ) none Set.univ _ (ld_kch _ _ o5 hj)) $$ H5; iintro H5
  iapply (Own.wp_load 𝒱₀ (c : Thread nD τ) none Set.univ _ ((ld_zch _ _ o6 hj).trans hl)) $$ H13; iintro H13
  iapply (Own.wp_load 𝒱₀ (c : Thread nD τ) none Set.univ _ ((ld_zch _ _ o6 hj).trans hz)) $$ H12; iintro H12
  rw [wp_ret]; imodintro; dsimp only
  iapply (Own.wp_load 𝒱₀ (c : Thread nD τ) none Set.univ _ (ld_ach _ _ o7 hj)) $$ H10; iintro H10
  iapply (Own.wp_load 𝒱₀ (c : Thread nD τ) none Set.univ _ (ld_ach _ _ o7 hj)) $$ H10; iintro H10
  iapply (Own.wp_store 𝒱₀ (c : Thread nD τ) none Set.univ o7) $$ H10; iintro H10
  iapply (Own.wp_load 𝒱₀ (c : Thread nD τ) none Set.univ _ (ld_ach _ _ o7 hj)) $$ H11; iintro H11
  iapply (Own.wp_load 𝒱₀ (c : Thread nD τ) none Set.univ _ (ld_ach _ _ o7 hj)) $$ H11; iintro H11
  iapply (Own.wp_store 𝒱₀ (c : Thread nD τ) none Set.univ o7) $$ H11; iintro H11
  rw [wp_ret]; imodintro
  iapply HQ
  isplitl [H4]; · iexact H4
  isplitl [H5]; · iexact H5
  isplitl [H12]; · iexact H12
  isplitl [H13]; · iexact H13
  isplitl [H10]; · iexact H10
  iexact H11

include hB hn hW in
theorem part5_run (v74 : FVec F S512x1 .f32) (v75 : FVec F S512x128 .f32) (v79 v70 : BitVec 32) (hw : k0_chk2 i (W n)) (dk dv : FVec F S2048x128 .f32)
    (h74 : v74 = k0_pay49) (h75 : v75 = k0_pay50) {Q : _ → sProp 𝕄} :
    pool c B arg4 arg5 arg10 arg11 arg12 arg13 q4 q5 Z K dk dv
      ⊢ iprop((pool c B arg4 arg5 arg10 arg11 arg12 arg13 q4 q5 Z K (pass B n dk dv n).dk (pass B n dk dv n).dv
          -∗ Q ⟨(pass B n dk dv n).dq, (pass B n dk dv n).u, (pass B n dk dv n).v, k0_pay65, Scalar.muli (wi i) 256#32, k0_pay66 (kch B.k B.i),
            k0_pay67 (k0_pay39 B.d) (kch B.v B.i), k0_pay69 (kD B) (zD B), k0_pay72 k0_pay35 (kD B), k0_pay73 k0_pay35 (kD B), k0_pay74 (kD B)⟩)
        -∗ wp frame (wpE (defs₀ (F := F)) 𝒱₀ (c : Thread nD τ) none) Set.univ
          (k0_part5 i arg3 harg3 arg4 harg4 arg5 harg5 arg6 harg6 arg7 harg7 arg8 harg8 arg9 harg9 arg10 harg10 arg11 harg11 arg12 harg12 arg13 harg13 (wi i) (k0_pay35 (F := F)) (k0_pay36 (F := F)) (k0_pay38 B.q) (k0_pay39 B.d) (W n) (runs B n) hw v70 v74 v75 v79) Q) := by
  have hi : B.i < 8 := by rw [hB]; exact i_lt i
  have hn' : n ≤ (i 2).val := by rw [← hB]; exact hn
  have o11 : k0_off11 i = ![0, 256 * B.i, 0] := by rw [off11_eq i, hB]
  have o12 : k0_off12 i = ![B.i, 0, 0] := by rw [off12_eq i, hB]
  rw [k0_part5_eq_skeleton]; unfold k0_part5_skel wi kD zD
  simp only [Prog.lift, Prog.bind_op, Prog.bind_ret, Prog.pure_eq_ret]
  iintro HP HQ
  iapply (Scf.wp_for_bind _ (wpE (defs₀ (F := F)) 𝒱₀ (c : Thread nD τ) none) Set.univ (k0_t1_loop i (W n)).lb (k0_t1_loop i (W n)).ub (k0_t1_loop i (W n)).st (k0_t1_ok i (W n) hw) (v75, v74, v74)
    (k0_t1_body i arg3 harg3 arg4 harg4 arg5 harg5 arg6 harg6 arg7 harg7 arg8 harg8 arg9 harg9 arg10 harg10 arg11 harg11 arg12 harg12 arg13 harg13 (BitVec.ofNat 32 (i 2).val) (k0_pay35 (F := F)) (k0_pay36 (F := F)) (k0_pay38 B.q) (k0_pay39 B.d) (W n) (runs B n) hw v70 v74 v75 v79)
    (fun k acc => iprop(⌜acc = ((pass B n dk dv k).dq, (pass B n dk dv k).u, (pass B n dk dv k).v)⌝
      ∗ pool c B arg4 arg5 arg10 arg11 arg12 arg13 q4 q5 Z K (pass B n dk dv k).dk (pass B n dk dv k).dv))
    (fun k acc => by
      iintro ⟨%ha, HP⟩
      subst ha
      iapply (trip_run c i B hB arg3 harg3 arg4 harg4 arg5 harg5 arg6 harg6 arg7 harg7 arg8 harg8 arg9 harg9 arg10 harg10 arg11 harg11 arg12 harg12 arg13 harg13 n hn hW _ v74 v75 v79 v70 hw k (pass B n dk dv k.val)) $$ HP
      iintro HP
      isplitr [HP]
      · ipureintro; rfl
      iexact HP)) $$ [HP]
  · isplitr [HP]
    · ipureintro; rw [h74, h75]; rfl
    iexact HP
  iintro %acc ⟨%ha, HP⟩
  subst ha
  have ht : Scf.trips (k0_t1_loop i (W n)).lb (k0_t1_loop i (W n)).ub (k0_t1_loop i (W n)).st = n := trips1 i n hn'
  rw [ht]
  dsimp only
  unfold Scf.Loop.for
  rw [Scf.for_eq_ret _ _ _ _ _ _ (trips2 i n hn')]
  simp only [Prog.bind_ret]
  unfold pool
  icases HP with ⟨H4, H5, H12, H13, H10, H11⟩
  iapply (Own.wp_load 𝒱₀ (c : Thread nD τ) none Set.univ _ (ld_kch _ _ o11 hi)) $$ H4; iintro H4
  iapply (Own.wp_load 𝒱₀ (c : Thread nD τ) none Set.univ _ (ld_kch _ _ o11 hi)) $$ H5; iintro H5
  iapply (Own.wp_load 𝒱₀ (c : Thread nD τ) none Set.univ _ ((ld_zch _ _ o12 hi).trans hW.1.2)) $$ H13; iintro H13
  iapply (Own.wp_load 𝒱₀ (c : Thread nD τ) none Set.univ _ ((ld_zch _ _ o12 hi).trans hW.1.1)) $$ H12; iintro H12
  rw [wp_ret]; imodintro
  iapply HQ
  isplitl [H4]; · iexact H4
  isplitl [H5]; · iexact H5
  isplitl [H12]; · iexact H12
  isplitl [H13]; · iexact H13
  isplitl [H10]; · iexact H10
  iexact H11

include hB in
theorem part6_run (v92 : BitVec 32) (s : Pass F) {Q : _ → sProp 𝕄} :
    iprop(owns (c : Thread nD τ) arg10 fullShare s.dk ∗ owns (c : Thread nD τ) arg11 fullShare s.dv)
      ⊢ iprop((iprop(owns (c : Thread nD τ) arg10 fullShare (outK B (runs B n) s) ∗ owns (c : Thread nD τ) arg11 fullShare s.dv)
          -∗ Q ⟨k0_pay77 k0_pay36 (runs B n) s.dq s.u s.v k0_pay65 (k0_pay66 (kch B.k B.i)) (k0_pay67 (k0_pay39 B.d) (kch B.v B.i))
              (k0_pay69 (kD B) (zD B)) (k0_pay72 k0_pay35 (kD B)) (k0_pay73 k0_pay35 (kD B)) (k0_pay74 (kD B)),
            k0_pay79 (k0_pay39 B.d) (runs B n) s.u k0_pay65
              (k0_pay69 (kD B) (zD B)) (k0_pay72 k0_pay35 (kD B)) (k0_pay73 k0_pay35 (kD B)) (k0_pay74 (kD B)) (ach s.dv B.i)⟩)
        -∗ wp frame (wpE (defs₀ (F := F)) 𝒱₀ (c : Thread nD τ) none) Set.univ
          (k0_part6 i arg3 harg3 arg4 harg4 arg5 harg5 arg6 harg6 arg7 harg7 arg8 harg8 arg9 harg9 arg10 harg10 arg11 harg11 arg12 harg12 arg13 harg13 (k0_pay36 (F := F)) (k0_pay38 B.q) (k0_pay39 B.d) (runs B n) s.dq s.u s.v k0_pay65 v92 (k0_pay66 (kch B.k B.i))
            (k0_pay67 (k0_pay39 B.d) (kch B.v B.i)) (k0_pay69 (kD B) (zD B)) (k0_pay72 k0_pay35 (kD B)) (k0_pay73 k0_pay35 (kD B)) (k0_pay74 (kD B))) Q) := by
  have hi : B.i < 8 := by rw [hB]; exact i_lt i
  have o13 : k0_off13 i = ![256 * B.i, 0] := by rw [off13_eq i, hB]
  rw [k0_part6_eq_skeleton]; unfold k0_part6_skel outK
  simp only [Prog.lift, Prog.bind_op, Prog.bind_ret, Prog.pure_eq_ret]
  iintro ⟨H10, H11⟩ HQ
  iapply (Own.wp_load 𝒱₀ (c : Thread nD τ) none Set.univ _ (ld_ach _ _ o13 hi)) $$ H10; iintro H10
  iapply (Own.wp_load 𝒱₀ (c : Thread nD τ) none Set.univ _ (ld_ach _ _ o13 hi)) $$ H10; iintro H10
  iapply (Own.wp_store 𝒱₀ (c : Thread nD τ) none Set.univ o13) $$ H10; iintro H10
  iapply (Own.wp_load 𝒱₀ (c : Thread nD τ) none Set.univ _ (ld_ach _ _ o13 hi)) $$ H11; iintro H11
  rw [wp_ret]; imodintro
  iapply HQ
  isplitl [H10]; · iexact H10
  iexact H11

theorem last_iff : ∀ i : grid0.Coords, k0_cond2 i = 1#1 ↔ (i 2).val = 7 := by decide +kernel

/-- What a point leaves in the two accumulators and in the query's gradient. -/
def endK (A A' : FVec F S2048x128 .f32) : FVec F S2048x128 .f32 := outK B (runs B (walk B)) (whole B (walk B) A A')
def endV (A A' : FVec F S2048x128 .f32) : FVec F S2048x128 .f32 := outV B (runs B (walk B)) (whole B (walk B) A A')
def endQ (A A' : FVec F S2048x128 .f32) : FVec F S1x256x128 .bf16 := outQ B (runs B (walk B)) (whole B (walk B) A A')

/-- Everything a point holds: its four blocks, its three output windows, and its four scratch buffers. -/
def all (q3 q4 q5 q6 : PosShare TreeShare) (o7 : S1x256x128.Idx → Elt F .bf16) (o8 o9 : S1x2048x128.Idx → Elt F .bf16)
    (A A' : S2048x128.Idx → Elt F .f32) (Z K : S8x512x256.Idx → Elt F .f32) : sProp 𝕄 :=
  iprop(owns (c : Thread nD τ) arg3 q3 B.q ∗ owns (c : Thread nD τ) arg4 q4 B.k ∗ owns (c : Thread nD τ) arg5 q5 B.v ∗ owns (c : Thread nD τ) arg6 q6 B.d
    ∗ owns (c : Thread nD τ) arg7 fullShare o7 ∗ owns (c : Thread nD τ) arg8 fullShare o8 ∗ owns (c : Thread nD τ) arg9 fullShare o9
    ∗ owns (c : Thread nD τ) arg10 fullShare A ∗ owns (c : Thread nD τ) arg11 fullShare A' ∗ owns (c : Thread nD τ) arg12 fullShare Z
    ∗ owns (c : Thread nD τ) arg13 fullShare K)

omit Z K in
include hB in
/-- One grid point: everything it leaves is a function of its blocks and of the accumulators it found. -/
theorem body_run {q3 q6 : PosShare TreeShare} (o7 : S1x256x128.Idx → Elt F .bf16) (o8 o9 : S1x2048x128.Idx → Elt F .bf16)
    (A A' : S2048x128.Idx → Elt F .f32) (Z K : S8x512x256.Idx → Elt F .f32) {Q : _ → sProp 𝕄} :
    all c B arg3 arg4 arg5 arg6 arg7 arg8 arg9 arg10 arg11 arg12 arg13 q3 q4 q5 q6 o7 o8 o9 A A' Z K
      ⊢ iprop((∀ Z' K', all c B arg3 arg4 arg5 arg6 arg7 arg8 arg9 arg10 arg11 arg12 arg13 q3 q4 q5 q6
            (endQ B A A')
            (if B.i = 7 then k0_pay3 (endK B A A') else o8) (if B.i = 7 then k0_pay4 (endV B A A') else o9)
            (endK B A A') (endV B A A') Z' K' -∗ Q ⟨⟩)
        -∗ wp frame (wpE (defs₀ (F := F)) 𝒱₀ (c : Thread nD τ) none) Set.univ (cc0_sb_bwd i arg3 harg3 arg4 harg4 arg5 harg5 arg6 harg6 arg7 harg7 arg8 harg8 arg9 harg9 arg10 harg10 arg11 harg11 arg12 harg12 arg13 harg13) Q) := by
  have hi : B.i < 8 := by rw [hB]; exact i_lt i
  have o13 : k0_off13 i = ![256 * B.i, 0] := by rw [off13_eq i, hB]
  rw [cc0_sb_bwd_eq_skeleton]; unfold cc0_sb_bwd_skel all
  simp only [Prog.lift, Prog.bind_op, Prog.bind_ret, Prog.pure_eq_ret]
  iintro ⟨H3, H4, H5, H6, H7, H8, H9, H10, H11, H12, H13⟩ HQ
  rw [wp_bind]
  iapply (part3_run c i B hB q3 arg3 harg3 arg4 harg4 arg5 harg5 arg6 harg6 arg7 harg7 arg8 harg8 arg9 harg9 arg10 harg10 arg11 harg11 arg12 harg12 arg13 harg13) $$ [H3 H4 H6]
  · isplitl [H3]; · iexact H3
    isplitl [H4]; · iexact H4
    iexact H6
  iintro ⟨H3, H4, H6⟩
  dsimp only
  rw [wp_bind]
  iapply (part4_run c i B hB q4 arg3 harg3 arg4 harg4 arg5 harg5 arg6 harg6 arg7 harg7 arg8 harg8 arg9 harg9 arg10 harg10 arg11 harg11 arg12 harg12 arg13 harg13) $$ [H4 H10 H11 H12 H13]
  · unfold held
    isplitl [H4 H12 H13]
    · isplitl [H4]; · iexact H4
      isplitl [H12]; · iexact H12
      iexact H13
    isplitl [H10]; · iexact H10
    iexact H11
  iintro %n %Z' %K' %hw %hr ⟨HH, H10, H11⟩
  obtain rfl := hr.1.eq
  unfold held
  icases HH with ⟨H4, H12, H13⟩
  dsimp only
  rw [wp_bind]
  iapply (part5_run c i B hB arg3 harg3 arg4 harg4 arg5 harg5 arg6 harg6 arg7 harg7 arg8 harg8 arg9 harg9 arg10 harg10 arg11 harg11 arg12 harg12 arg13 harg13 (walk B) hr.1.1 hr.2 _ _ _ _ hw (start B A k0_pay47) (start B A' k0_pay48) rfl rfl) $$ [H4 H5 H10 H11 H12 H13]
  · unfold pool
    isplitl [H4]; · iexact H4
    isplitl [H5]; · iexact H5
    isplitl [H12]; · iexact H12
    isplitl [H13]; · iexact H13
    isplitl [H10]; · iexact H10
    iexact H11
  iintro HP
  unfold pool
  icases HP with ⟨H4, H5, H12, H13, H10, H11⟩
  dsimp only
  rw [wp_bind]
  iapply (part6_run c i B hB arg3 harg3 arg4 harg4 arg5 harg5 arg6 harg6 arg7 harg7 arg8 harg8 arg9 harg9 arg10 harg10 arg11 harg11 arg12 harg12 arg13 harg13 (walk B) _ (whole B (walk B) A A')) $$ [H10 H11]
  · isplitl [H10]; · iexact H10
    iexact H11
  iintro ⟨H10, H11⟩
  dsimp only
  iapply (Own.wp_load 𝒱₀ (c : Thread nD τ) none Set.univ _ (ld_ach _ _ o13 hi)) $$ H11; iintro H11
  iapply (Own.wp_store 𝒱₀ (c : Thread nD τ) none Set.univ o13) $$ H11; iintro H11
  iapply (Own.wp_load 𝒱₀ (c : Thread nD τ) none Set.univ _ rfl) $$ H7; iintro H7
  iapply (Own.wp_store 𝒱₀ (c : Thread nD τ) none Set.univ rfl) $$ H7; iintro H7
  rw [Own.put_full _ (by decide)]
  by_cases h : B.i = 7
  · have ht : k0_cond2 i = 1#1 := (last_iff i).mpr (by rw [← hB]; exact h)
    rw [dif_pos ht]
    simp only [Prog.lift, Prog.bind_op, Prog.bind_ret, Prog.pure_eq_ret]
    iapply (Own.wp_load 𝒱₀ (c : Thread nD τ) none Set.univ _ (ld_unit_zero (by decide) _ _)) $$ H10; iintro H10
    iapply (Own.wp_load 𝒱₀ (c : Thread nD τ) none Set.univ _ rfl) $$ H8; iintro H8
    iapply (Own.wp_store 𝒱₀ (c : Thread nD τ) none Set.univ rfl) $$ H8; iintro H8
    iapply (Own.wp_load 𝒱₀ (c : Thread nD τ) none Set.univ _ (ld_unit_zero (by decide) _ _)) $$ H11; iintro H11
    iapply (Own.wp_load 𝒱₀ (c : Thread nD τ) none Set.univ _ rfl) $$ H9; iintro H9
    iapply (Own.wp_store 𝒱₀ (c : Thread nD τ) none Set.univ rfl) $$ H9; iintro H9
    rw [Own.put_full _ (by decide), Own.put_full _ (by decide)]
    rw [wp_ret]; imodintro
    iapply HQ $$ %Z' %K'
    rw [if_pos h, if_pos h]; unfold endQ endK endV
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have ht : ¬ k0_cond2 i = 1#1 := mt (last_iff i).mp (by rw [← hB]; exact h)
    rw [dif_neg ht]
    simp only [Prog.lift, Prog.bind_op, Prog.bind_ret, Prog.pure_eq_ret]
    rw [wp_ret]; imodintro
    iapply HQ $$ %Z' %K'
    rw [if_neg h, if_neg h]; unfold endQ endK endV
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.Sb

end
-- ==== Proof.Sb.Launch.lean ====
/-
  The launch: the pipeline's proof data, the body's obligation at every grid point, and the run of the whole program.
-/
module

public import proofs.«01_k».proof.Proof.Sb.Body
public import proofs.«01_k».proof.Proof.Gen.KernelSbIdeal.Launch
public import proofs.«01_k».proof.Proof.Gen.KernelSbIdeal.Points
public import Idealize.ShloMosaic.Lib.Pipeline.Frame
public import Idealize.ShloMosaic.Lib.Pipeline.FrameBody

@[expose] public section

noncomputable section

namespace Cert.Sb

open Cert.KernelSbIdeal Cert.KernelSbIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the kernel starts: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

/-- The host's operations write none of the arguments. -/
theorem V_arg (c : Dev nD) (b : Ref sig .tc) (hb : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  rcases hb with rfl | rfl | rfl | rfl
  all_goals
    repeat' apply And.intro
    all_goals exact StableHlo.devRef_ne_of_ne (by decide)

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The blocks of a point. -/
def blk (c : Dev nD) (t : Fin (cfg0 (F := F)).N) : Blk F where
  i := t.val % 8
  q := iblk m c 0 t
  k := iblk m c 1 t
  v := iblk m c 2 t
  d := iblk m c 3 t

theorem coord_fin : ∀ t : Fin grid0.N, t.val % 8 = ((grid0.coords t) 2).val := by decide +kernel
theorem blk_i (c : Dev nD) (t : Fin (cfg0 (F := F)).N) : (blk m c t).i = ((grid0.coords t) 2).val := coord_fin t

/-- The two accumulators before point `n`. -/
def acc (c : Dev nD) : ℕ → FVec F S2048x128 .f32 × FVec F S2048x128 .f32
  | 0 => (k0_pay47, k0_pay48)
  | n + 1 => if h : n < (cfg0 (F := F)).N then
      (endK (blk m c ⟨n, h⟩) (acc c n).1 (acc c n).2, endV (blk m c ⟨n, h⟩) (acc c n).1 (acc c n).2) else acc c n

theorem acc_succ (c : Dev nD) (t : Fin (cfg0 (F := F)).N) :
    acc m c (t.val + 1) = (endK (blk m c t) (acc m c t.val).1 (acc m c t.val).2, endV (blk m c t) (acc m c t.val).1 (acc m c t.val).2) := by
  rw [acc, dif_pos t.isLt]

/-- Between points: the two accumulators, exact inside a run of query chunks, and the walk's scratch at anything. -/
def Inv (c : Dev nD) (n : ℕ) : sProp 𝕄 :=
  iprop((∃ A A' Z K, ⌜n % 8 ≠ 0 → A = (acc m c n).1 ∧ A' = (acc m c n).2⌝
    ∗ owns (c : Thread nD τ) (Memref.whole cc0_scratch0) fullShare A ∗ owns (c : Thread nD τ) (Memref.whole cc0_scratch1) fullShare A'
    ∗ owns (c : Thread nD τ) (Memref.whole cc0_scratch2) fullShare Z ∗ owns (c : Thread nD τ) (Memref.whole cc0_scratch3) fullShare K)
    ∗ ∃ r, prngReg c r)

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => endQ (blk m c t) (acc m c t.val).1 (acc m c t.val).2
    | ⟨5, _⟩ => k0_pay3 (acc m c (t.val + 1)).1
    | ⟨6, _⟩ => k0_pay4 (acc m c (t.val + 1)).2
  Φ t := Inv m c t.val
  q w := Pipeline.shareOf spec0 w
  owed _ := 0

theorem A_eq (c : Dev nD) (w : Fin (cfg0 (F := F)).W) : (dats m 0 c).A w = V m c (Pipeline.arrRef spec0 w) := by dsimp only [dats]
theorem Φ_eq (c : Dev nD) (t) : (dats m 0 c).Φ t = Inv m c t.val := by dsimp only [dats]

theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem after3 (c : Dev nD) (t) : (dats m 0 c).after 3 t = iblk m c 3 t := by dsimp only [dats]; try rfl
theorem after4 (c : Dev nD) (t) : (dats m 0 c).after 4 t = endQ (blk m c t) (acc m c t.val).1 (acc m c t.val).2 := by dsimp only [dats]; try rfl
theorem after5 (c : Dev nD) (t) : (dats m 0 c).after 5 t = k0_pay3 (acc m c (t.val + 1)).1 := by dsimp only [dats]; try rfl
theorem after6 (c : Dev nD) (t) : (dats m 0 c).after 6 t = k0_pay4 (acc m c (t.val + 1)).2 := by dsimp only [dats]; try rfl

theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem start_eq (B : Blk F) {A C z : FVec F S2048x128 .f32} (h : B.i ≠ 0 → A = C) : start B A z = start B C z := by
  unfold start
  by_cases hi : B.i = 0
  · rw [if_pos hi, if_pos hi]
  · rw [if_neg hi, if_neg hi, h hi]

theorem whole_eq (B : Blk F) (n : ℕ) {A A' C C' : FVec F S2048x128 .f32} (h : B.i ≠ 0 → A = C ∧ A' = C') : whole B n A A' = whole B n C C' := by
  unfold whole; rw [start_eq B fun hi => (h hi).1, start_eq B fun hi => (h hi).2]

theorem idle5 (t : Fin (cfg0 (F := F)).N) : (cfg0 (F := F)).idle 5 ((cfg0 (F := F)).grid.coords t) = !(decide (t.val % 8 = 7)) :=
  (by decide +kernel : ∀ t : Fin grid0.N, idle0 5 (grid0.coords t) = !(decide (t.val % 8 = 7))) t
theorem idle6 (t : Fin (cfg0 (F := F)).N) : (cfg0 (F := F)).idle 6 ((cfg0 (F := F)).grid.coords t) = !(decide (t.val % 8 = 7)) :=
  (by decide +kernel : ∀ t : Fin grid0.N, idle0 6 (grid0.coords t) = !(decide (t.val % 8 = 7))) t

theorem defs₀_row (t : Fin (cfg0 (F := F)).N) : defs₀ (F := F) .tc cfg0.body (cfg0.bodyArgs t (cfg0.slots t)) = bodyAt0 t := by
  unfold defs₀; rw [Defs.onTc_tc]
/-- What the body is called with at a point, -/
def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns, an output it leaves alone being as it was found. -/
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

theorem flush5 (t : Fin (cfg0 (F := F)).N) (h : t.val % 8 ≠ 7) : ((cfg0 (F := F)).win 5).flush t = false :=
  Bool.eq_false_iff.mpr fun hf => h ((flush0_5 t).mp hf)
theorem flush6 (t : Fin (cfg0 (F := F)).N) (h : t.val % 8 ≠ 7) : ((cfg0 (F := F)).win 6).flush t = false :=
  Bool.eq_false_iff.mpr fun hf => h ((flush0_6 t).mp hf)

theorem blk_val (c : Dev nD) (t : Fin (cfg0 (F := F)).N) : (blk m c t).i = t.val % 8 := rfl

theorem endQ_eq (B : Blk F) {A A' z z' : S2048x128.Idx → Elt F .f32} (h : B.i ≠ 0 → A = z ∧ A' = z') : endQ B A A' = endQ B z z' := by
  unfold endQ; rw [whole_eq _ _ h]
theorem endK_eq (B : Blk F) {A A' z z' : S2048x128.Idx → Elt F .f32} (h : B.i ≠ 0 → A = z ∧ A' = z') : endK B A A' = endK B z z' := by
  unfold endK; rw [whole_eq _ _ h]
theorem endV_eq (B : Blk F) {A A' z z' : S2048x128.Idx → Elt F .f32} (h : B.i ≠ 0 → A = z ∧ A' = z') : endV B A A' = endV B z z' := by
  unfold endV; rw [whole_eq _ _ h]

/-- An output the body leaves as it was before the last query chunk and at its own value there. -/
theorem leaves5 (c : Dev nD) (t : Fin (cfg0 (F := F)).N) (d) (o o' : S1x2048x128.Idx → Elt F .bf16) (ho : o = (dats m 0 c).before 5 t d)
    (ho' : o' = if (blk m c t).i = 7 then k0_pay3 (acc m c (t.val + 1)).1 else o) :
    owns (c : Thread nD τ) (st0_5 t) fullShare o' ⊢ ((dats m 0 c).leavesExact 5 t : sProp 𝕄) := by
  unfold Dat.leavesExact
  rw [idle5]
  by_cases h : t.val % 8 = 7
  · rw [ho'.trans (if_pos (show (blk m c t).i = 7 from h)), decide_eq_true h]; exact .rfl
  · rw [(ho'.trans (if_neg (show ¬ (blk m c t).i = 7 from h))).trans ho, decide_eq_false h, flush5 t h]
    show _ ⊢ (iprop(∃ d, owns (c : Thread nD τ) (st0_5 t) fullShare ((dats m 0 c).before 5 t d)) : sProp 𝕄)
    iintro H; iexists d; iexact H
theorem leaves6 (c : Dev nD) (t : Fin (cfg0 (F := F)).N) (d) (o o' : S1x2048x128.Idx → Elt F .bf16) (ho : o = (dats m 0 c).before 6 t d)
    (ho' : o' = if (blk m c t).i = 7 then k0_pay4 (acc m c (t.val + 1)).2 else o) :
    owns (c : Thread nD τ) (st0_6 t) fullShare o' ⊢ ((dats m 0 c).leavesExact 6 t : sProp 𝕄) := by
  unfold Dat.leavesExact
  rw [idle6]
  by_cases h : t.val % 8 = 7
  · rw [ho'.trans (if_pos (show (blk m c t).i = 7 from h)), decide_eq_true h]; exact .rfl
  · rw [(ho'.trans (if_neg (show ¬ (blk m c t).i = 7 from h))).trans ho, decide_eq_false h, flush6 t h]
    show _ ⊢ (iprop(∃ d, owns (c : Thread nD τ) (st0_6 t) fullShare ((dats m 0 c).before 6 t d)) : sProp 𝕄)
    iintro H; iexists d; iexact H

theorem point_run (c : Dev nD) (t : Fin (cfg0 (F := F)).N) :
    pre m c t ⊢ wp frame (wpE (defs₀ (F := F)) 𝒱₀ (c : Thread nD τ) none) Set.univ (bodyAt0 t) (fun _ => post m c t) := by
  unfold pre post bodyAt0
  simp only [before0, before1, before2, before3]
  rw [Φ_eq, Φ_eq, show (dats m 0 c).owesAt () t.succ = (dats m 0 c).owesAt () t.castSucc from rfl, after0, after1, after2, after3, after4, Fin.val_castSucc, Fin.val_succ]
  unfold Inv
  iintro ⟨⟨⟨%A, %A', %Z, %K, %hA, Ha, Hb, Hz, Hk⟩, Hr⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) (blk m c t) (blk_i m c t) _ _ _ _ _ _ _ _ _ _ _ _ _ _ _ _ _ _ _ _ _ _ _ _ _ A A' Z K) $$ [H0 H1 H2 H3 H4 H5 H6 Ha Hb Hz Hk]
  · unfold all
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ha]; · iexact Ha
    isplitl [Hb]; · iexact Hb
    isplitl [Hz]; · iexact Hz
    iexact Hk
  iintro %Z' %K' H
  have hw : (blk m c t).i ≠ 0 → A = (acc m c t.val).1 ∧ A' = (acc m c t.val).2 := hA
  have eQ := endQ_eq (blk m c t) hw
  have eK := (endK_eq (blk m c t) hw).trans (congrArg Prod.fst (acc_succ m c t)).symm
  have eV := (endV_eq (blk m c t) hw).trans (congrArg Prod.snd (acc_succ m c t)).symm
  unfold all
  rw [eQ, eK, eV]
  icases H with ⟨H0, H1, H2, H3, H4, H5, H6, Ha, Hb, Hz, Hk⟩
  isplitl [Ha Hb Hz Hk Hr]
  · isplitl [Ha Hb Hz Hk]
    · iexists _; iexists _; iexists Z'; iexists K'
      isplitr
      · ipureintro; exact fun _ => ⟨rfl, rfl⟩
      isplitl [Ha]; · iexact Ha
      isplitl [Hb]; · iexact Hb
      isplitl [Hz]; · iexact Hz
      iexact Hk
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5 m c t d5 _ _ rfl rfl); iexact H5
  iapply (leaves6 m c t d6 _ _ rfl rfl); iexact H6

theorem obligation (c : Dev nD) : BodyObligation (dats (F := F) m 0 c) (defs₀ (F := F)) 𝒱₀ () Set.univ := fun t => by
  rw [bigSep_W0, bigSep_W0, defs₀_row]
  exact triple_restated (point_run m c t) rfl .rfl fun _ => .rfl

theorem inv_in (c : Dev nD) : (Pipeline.ΦA spec0 c : sProp 𝕄) ⊢ Inv m c 0 := by
  unfold Pipeline.ΦA Inv
  rw [scopedRest0_eq]
  simp only [owns_whole]
  iintro ⟨⟨⟨%A, Ha⟩, ⟨%A', Hb⟩, ⟨%Z, Hz⟩, ⟨%K, Hk⟩⟩, Hr⟩
  isplitl [Ha Hb Hz Hk]
  · iexists A; iexists A'; iexists Z; iexists K
    isplitr
    · ipureintro; exact fun h => absurd rfl h
    isplitl [Ha]; · iexact Ha
    isplitl [Hb]; · iexact Hb
    isplitl [Hz]; · iexact Hz
    iexact Hk
  iexact Hr

theorem inv_out (c : Dev nD) (n : ℕ) : Inv m c n ⊢ (Pipeline.ΦA spec0 c : sProp 𝕄) := by
  unfold Pipeline.ΦA Inv
  rw [scopedRest0_eq]
  simp only [owns_whole]
  iintro ⟨⟨%A, %A', %Z, %K, -, Ha, Hb, Hz, Hk⟩, Hr⟩
  isplitl [Ha Hb Hz Hk]
  · isplitl [Ha]; · iexists A; iexact Ha
    isplitl [Hb]; · iexists A'; iexact Hb
    isplitl [Hz]; · iexists Z; iexact Hz
    iexists K; iexact Hk
  iexact Hr

set_option backward.isDefEq.respectTransparency.types false in
set_option maxHeartbeats 800000 in
/-- The launch: every array ends as the proof data says, every other buffer as the kernel found it, and every counter at
    zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (obligation m c).loose) (hq := fun _ _ _ => rfl) (howed := fun _ _ => rfl) (V := V m)
    (hmain := hmain m 𝒱₀) (hA := A_eq m) (hin := fun c => by rw [Φ_eq]; exact inv_in m c) (hout := fun c => by rw [Φ_eq]; exact inv_out m c _)

/-- The launch leaves the four arguments alone. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (show ∀ w : Fin 7, (spec0 w).arr.view.ref ≠ main_arg0 by decide))).trans (V_arg m c _ (.inl rfl)),
      ((h c).2 main_arg1 (Pipeline.mem_restRefs_of main_arg1 (by decide) (show ∀ w : Fin 7, (spec0 w).arr.view.ref ≠ main_arg1 by decide))).trans (V_arg m c _ (.inr (.inl rfl))),
      ((h c).2 main_arg2 (Pipeline.mem_restRefs_of main_arg2 (by decide) (show ∀ w : Fin 7, (spec0 w).arr.view.ref ≠ main_arg2 by decide))).trans (V_arg m c _ (.inr (.inr (.inl rfl)))),
      ((h c).2 main_arg3 (Pipeline.mem_restRefs_of main_arg3 (by decide) (show ∀ w : Fin 7, (spec0 w).arr.view.ref ≠ main_arg3 by decide))).trans (V_arg m c _ (.inr (.inr (.inr rfl))))⟩

/-- The frame, for any values of the floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩)
    (run_main m ρ)

end Cert.Sb

end
-- ==== Proof.Sb.Pay.lean ====
/-
  What the payloads of the stick-breaking backward kernel compute over the extended reals, where the vectors they read
  hold real numbers: each payload's entries as real numbers, the two heads of a pair stacked in 512 rows.
-/
module

public import proofs.«01_k».proof.Proof.Sb.State
public import proofs.«01_k».proof.Proof.Sb.RealVec
public import Idealize.ShloMosaic.Lib.WordCmp

@[expose] public section

set_option maxRecDepth 16384

noncomputable section

open Idealize.ShloMosaic Idealize.ShloMosaic.TcCoe Idealize.SL.Sem
open Cert.KernelSbIdeal Cert.KernelSbIdeal.Gen
open Finset (range)

namespace Cert.Sb

/-! ## Constants and masks -/

theorem ofBits_eighth : Ideal.ofBits .f32 0x3E000000#32 = ((1 / 8 : ℝ) : EReal) := by
  have h1 : (BitVec.extractLsb' 23 8 (0x3E000000#32)).toNat = 124 := by decide
  have h2 : (BitVec.extractLsb' 0 23 (0x3E000000#32)).toNat = 0 := by decide
  have h3 : (BitVec.extractLsb' 31 1 (0x3E000000#32) == 1#1) = false := by decide
  change Ideal.ieee 8 23 (0x3E000000#32) = _
  simp [Ideal.ieee, h1, h2, h3]
  rw [← EReal.coe_mul]; norm_num

theorem ofBits_eighth_bf16 : Ideal.ofBits .bf16 0x3E00#16 = ((1 / 8 : ℝ) : EReal) := by
  have h1 : (BitVec.extractLsb' 7 8 (0x3E00#16)).toNat = 124 := by decide
  have h2 : (BitVec.extractLsb' 0 7 (0x3E00#16)).toNat = 0 := by decide
  have h3 : (BitVec.extractLsb' 15 1 (0x3E00#16) == 1#1) = false := by decide
  change Ideal.ieee 8 7 (0x3E00#16) = _
  simp [Ideal.ieee, h1, h2, h3]
  rw [← EReal.coe_mul]; norm_num

/-- A choice by a comparison. -/
theorem select_ofBool {α : Type} (p : Prop) [Decidable p] (a b : α) : Scalar.select (BitVec.ofBool (decide p)) a b = if p then a else b := by
  unfold Scalar.select; by_cases h : p <;> simp [h]

/-- A comparison as a number. -/
theorem toInt_ofBool (p : Prop) [Decidable p] : ((BitVec.setWidth 32 (BitVec.ofBool (decide p))).toInt : ℝ) = if p then 1 else 0 := by
  by_cases h : p <;> simp [h]

/-- Lanes below 64 are the pair's first head. -/
theorem pay37_at (r : Fin 256) (c : Fin 128) : k0_pay37 (ix2 r c : S256x128.Idx) = BitVec.ofBool (decide (c.val < 64)) := by
  pointwise [k0_pay37]
  exact WordCmp.cmpi_slt_ofNat (by omega) (by omega)

theorem diag_word {r c : ℕ} (hr : r < 512) (hc : c < 256) : IntOp.cmpi CmpIPredicate.slt (BitVec.ofNat 32 c)
      (Scalar.select (IntOp.cmpi CmpIPredicate.sge (BitVec.ofNat 32 r) 256#32) (IntOp.subi (BitVec.ofNat 32 r) 256#32)
        (BitVec.ofNat 32 r)) = BitVec.ofBool (decide (c < r % 256)) := by
  have h1 : IntOp.cmpi CmpIPredicate.sge (BitVec.ofNat 32 r) 256#32 = BitVec.ofBool (decide (256 ≤ r)) :=
    WordCmp.cmpi_sge_ofNat (by omega) (by omega)
  rw [h1, select_ofBool]
  split
  · have h2 : IntOp.subi (BitVec.ofNat 32 r) 256#32 = BitVec.ofNat 32 (r % 256) := by
      apply BitVec.eq_of_toNat_eq
      simp only [IntOp.subi, BitVec.toNat_sub, BitVec.toNat_ofNat]; omega
    rw [h2]; exact WordCmp.cmpi_slt_ofNat (by omega) (by omega)
  · rw [show r % 256 = r by omega]; exact WordCmp.cmpi_slt_ofNat (by omega) (by omega)

/-- The diagonal's mask: the key before the query. -/
theorem pay40_at (r : Fin 512) (c : Fin 256) : k0_pay40 (ix2 r c : S512x256.Idx) = BitVec.ofBool (decide (c.val < r.val % 256)) := by
  pointwise [k0_pay40]; exact diag_word r.isLt c.isLt

theorem pay65_at (r : Fin 512) (c : Fin 256) : k0_pay65 (ix2 r c : S512x256.Idx) = BitVec.ofBool (decide (c.val < r.val % 256)) := by
  pointwise [k0_pay65]; exact diag_word r.isLt c.isLt

/-- The matrices of ones at and above, and above, the diagonal. -/
theorem pay35_is : Is (k0_pay35 (F := Ideal)) fun r c => if r ≤ c then 1 else 0 := fun r c => by
  pointwise [k0_pay35]
  change ((BitVec.toInt _ : ℝ) : EReal) = _
  rw [show IntOp.cmpi CmpIPredicate.sle (BitVec.ofNat 32 r.val) (BitVec.ofNat 32 c.val) = BitVec.ofBool (decide (r.val ≤ c.val)) from
    WordCmp.cmpi_sle_ofNat (by omega) (by omega), toInt_ofBool]

theorem pay36_is : Is (k0_pay36 (F := Ideal)) fun r c => if r < c then 1 else 0 := fun r c => by
  pointwise [k0_pay36]
  change ((BitVec.toInt _ : ℝ) : EReal) = _
  rw [show IntOp.cmpi CmpIPredicate.slt (BitVec.ofNat 32 r.val) (BitVec.ofNat 32 c.val) = BitVec.ofBool (decide (r.val < c.val)) from
    WordCmp.cmpi_slt_ofNat (by omega) (by omega), toInt_ofBool]

/-! ## The stacked heads and the scores -/

/-- The two heads of a pair stacked: each row keeps its own head's lanes. -/
def stack (f : ℕ → ℕ → ℝ) (r d : ℕ) : ℝ := if r < 256 then (if d < 64 then f r d else 0) else (if d < 64 then 0 else f (r - 256) d)

variable {q d w : FVec Ideal S1x256x128 .bf16} {fq fd fw : ℕ → ℕ → ℝ}

theorem pay38_is (h : Is3 q fq) : Is (k0_pay38 (F := Ideal) q) (stack fun r c => fq r c * (1 / 8)) := fun r c => by
  pointwise [k0_pay38]
  unfold stack
  split
  · rw [pay37_at, select_ofBool, h, ofBits_eighth_bf16, ← EReal.coe_mul]; split <;> rfl
  · rw [pay37_at, select_ofBool, h, ofBits_eighth_bf16, ← EReal.coe_mul]; split <;> rfl

theorem pay39_is (h : Is3 d fd) : Is (k0_pay39 (F := Ideal) d) (stack fd) := fun r c => by
  pointwise [k0_pay39]
  unfold stack
  split
  · rw [pay37_at, select_ofBool, h]; split <;> rfl
  · rw [pay37_at, select_ofBool, h]; split <;> rfl

variable {x : FVec Ideal S512x128 .bf16} {X : ℕ → ℕ → ℝ}

theorem pay5_is (hx : Is x X) (hw : Is3 w fw) : Is (k0_pay5 (F := Ideal) x w) fun r c => ∑ l ∈ range 128, X r l * fw c l := fun r c => by
  pointwise [k0_pay5]
  exact sum_mul _ _ (hx r) (hw c)

theorem pay41_is (hx : Is (k0_pay38 (F := Ideal) q) X) (hw : Is3 w fw) :
    Is (k0_pay41 (F := Ideal) q w) fun r c => ∑ l ∈ range 128, X r l * fw c l := fun r c => by
  pointwise [k0_pay41]
  exact sum_mul _ _ (hx r) (hw c)

theorem pay67_is (hx : Is x X) (hw : Is3 w fw) : Is (k0_pay67 (F := Ideal) x w) fun r c => ∑ l ∈ range 128, X r l * fw c l := fun r c => by
  pointwise [k0_pay67]
  exact sum_mul _ _ (hx r) (hw c)

theorem pay6_is {Z : ℕ → ℕ → ℝ} (h : Is (k0_pay5 (F := Ideal) x w) Z) : Is (k0_pay6 (F := Ideal) x w) fun r c => lk (Z r c) := fun r c => by
  pointwise [k0_pay6]
  rw [h, lk_min_coe]

theorem pay42_is {z : FVec Ideal S512x256 .f32} {Z : ℕ → ℕ → ℝ} (h : Is z Z) :
    Is (k0_pay42 (F := Ideal) k0_pay40 z) fun r c => if c < r % 256 then lk (Z r c) else 0 := fun r c => by
  pointwise [k0_pay42]
  rw [h, lk_min_coe, pay40_at, select_ofBool]; split <;> rfl

theorem pay7_is {Z : ℕ → ℕ → ℝ} (h : Is (k0_pay5 (F := Ideal) x w) Z) : Is3 (k0_pay7 (F := Ideal) x w) Z := fun r c => by
  pointwise [k0_pay7]; exact h r c

theorem pay8_is {Z : ℕ → ℕ → ℝ} (h : Is (k0_pay6 (F := Ideal) x w) Z) : Is3 (k0_pay8 (F := Ideal) x w) Z := fun r c => by
  pointwise [k0_pay8]; exact h r c

theorem pay43_is {z : FVec Ideal S512x256 .f32} {Z : ℕ → ℕ → ℝ} (h : Is z Z) : Is3 (k0_pay43 (F := Ideal) z) Z := fun r c => by
  pointwise [k0_pay43]; exact h r c

theorem pay44_is {z : FVec Ideal S512x256 .f32} {Z : ℕ → ℕ → ℝ} (h : Is (k0_pay42 (F := Ideal) k0_pay40 z) Z) :
    Is3 (k0_pay44 (F := Ideal) k0_pay40 z) Z := fun r c => by
  pointwise [k0_pay44]; exact h r c

theorem pay45_is {z : FVec Ideal S512x256 .f32} {Z : ℕ → ℕ → ℝ} (h : Is (k0_pay42 (F := Ideal) k0_pay40 z) Z) :
    Is (k0_pay45 (F := Ideal) k0_pay40 z) fun r _ => ∑ c ∈ range 256, Z r c := fun r c => by
  pointwise [k0_pay45]; exact sum_one _ (h r)

theorem pay9_is {a : FVec Ideal S512x1 .f32} {A : ℕ → ℝ} {Z : ℕ → ℕ → ℝ} (ha : Is a fun r _ => A r) (h : Is (k0_pay6 (F := Ideal) x w) Z) :
    Is (k0_pay9 (F := Ideal) x a w) fun r _ => A r + ∑ c ∈ range 256, Z r c := fun r c => by
  pointwise [k0_pay9]; rw [sum_one _ (h r), ha, EReal.coe_add]

/-- The largest of a column of real numbers is above the bottom of the extended reals. -/
theorem alive_of_real {v : Fin 512 → EReal} {A : ℕ → ℝ} (h : ∀ r, v r = ((A r.val : ℝ) : EReal)) (b : EReal) :
    ⊥ < Finset.fold max b v Finset.univ := by
  refine lt_of_lt_of_le ?_ (Finset.le_fold_max (c := v 0) |>.2 (Or.inr ⟨0, Finset.mem_univ _, le_rfl⟩))
  rw [h]; exact EReal.bot_lt_coe _

end Cert.Sb

end
-- ==== Proof.Sb.PayPass.lean ====
/-
  What the payloads of the second pass compute where the vectors they read hold real numbers: the attention weights
  from prefix sums of the logarithms kept, the scores' gradient from prefix sums of the weighted cotangents, and what
  each chunk adds to the three gradients.
-/
module

public import proofs.«01_k».proof.Proof.Sb.Pay

@[expose] public section

set_option maxRecDepth 16384

noncomputable section

open Idealize.ShloMosaic Idealize.ShloMosaic.TcCoe Idealize.SL.Sem
open Cert.KernelSbIdeal Cert.KernelSbIdeal.Gen
open Finset (range)

namespace Cert.Sb

/-- The weight at a column of a chunk: `T` the whole remainder, `U` what the chunks before kept. -/
def wt (kf zf : ℕ → ℕ → ℝ) (T U : ℕ → ℝ) (r c : ℕ) : ℝ :=
  Real.exp (kf r c + zf r c + (T r - U r - ∑ x ∈ range (c + 1), kf r x))

/-- The scores' gradient at a column of a chunk: `V` the weighted cotangents of the chunks before. -/
def ds (lb e : ℕ → ℕ → ℝ) (V : ℕ → ℝ) (r c : ℕ) : ℝ :=
  e r c - (e r c + (V r + ∑ x ∈ range c, e r x)) * Real.exp (lb r c)

variable {k z : FVec Ideal S1x512x256 .f32} {kf zf : ℕ → ℕ → ℝ}
variable {tot u : FVec Ideal S512x1 .f32} {T U : ℕ → ℝ}
variable {m1 m2 : FVec Ideal S128x128 .bf16}

/-- A sum of a value's remainder past itself is zero. -/
theorem sum_rest {n : ℕ} {X Y : Fin n → EReal} (f g : ℕ → ℝ) (hX : ∀ x, X x = ((f x.val : ℝ) : EReal))
    (hY : ∀ x, Y x = ((g x.val : ℝ) : EReal)) : ∑ x, (X x - X x) * Y x = 0 := by
  refine Finset.sum_eq_zero fun x _ => ?_
  rw [hX, hY, ← EReal.coe_sub, sub_self, EReal.coe_zero, zero_mul]

/-- A product with a column of a matrix. -/
theorem col_mul {n p : ℕ} {X : Fin n → EReal} {Y : (⟨2, ![n, p]⟩ : Shape).Idx → EReal} (f : ℕ → ℝ) {g : ℕ → ℕ → ℝ}
    (hX : ∀ x, X x = ((f x.val : ℝ) : EReal)) (hY : Is Y g) (c : Fin p) :
    ∑ x, X x * Y (ix2 x c) = ((∑ x ∈ range n, f x * g x c.val : ℝ) : EReal) := sum_mul f (fun x => g x c.val) hX (fun x => hY x c)

/-- A row's prefix sums, and the remainder's, as products with the matrices of ones. -/
theorem upto_mul {X : Fin 128 → EReal} (f : ℕ → ℝ) (hX : ∀ x, X x = ((f x.val : ℝ) : EReal))
    (hm : Is m1 fun r c => if r ≤ c then 1 else 0) (c : ℕ) (hc : c < 128) :
    ∑ x, X x * m1 (ix2 x ⟨c, hc⟩) = ((∑ x ∈ range (c + 1), f x : ℝ) : EReal) := by
  rw [col_mul f hX hm, sum_upto _ hc]

theorem upto_rest {X : Fin 128 → EReal} (f : ℕ → ℝ) (hX : ∀ x, X x = ((f x.val : ℝ) : EReal))
    (hm : Is m1 fun r c => if r ≤ c then 1 else 0) (c : ℕ) (hc : c < 128) :
    ∑ x, (X x - X x) * m1 (ix2 x ⟨c, hc⟩) = 0 := sum_rest f (fun x => if x ≤ c then 1 else 0) hX (fun x => hm x ⟨c, hc⟩)

theorem before_mul {X : Fin 128 → EReal} (f : ℕ → ℝ) (hX : ∀ x, X x = ((f x.val : ℝ) : EReal))
    (hm : Is m2 fun r c => if r < c then 1 else 0) (c : ℕ) (hc : c < 128) :
    ∑ x, X x * m2 (ix2 x ⟨c, hc⟩) = ((∑ x ∈ range c, f x : ℝ) : EReal) := by
  rw [col_mul f hX hm, sum_before _ hc]

theorem pay13_is (hk : Is3 k kf) (hz : Is3 z zf) : Is (k0_pay13 (F := Ideal) k z) fun r c => kf r c + zf r c := fun r c => by
  pointwise [k0_pay13, k0_pay12]; rw [hk, hz, EReal.coe_add]

theorem pay69_is (hk : Is3 k kf) (hz : Is3 z zf) : Is (k0_pay69 (F := Ideal) k z) fun r c => kf r c + zf r c := fun r c => by
  pointwise [k0_pay69, k0_pay68]; rw [hk, hz, EReal.coe_add]

theorem pay14_is (hk : Is3 k kf) : Is (k0_pay14 (F := Ideal) k) kf := fun r c => by
  pointwise [k0_pay14, k0_pay12]; exact hk r ⟨c.val, by omega⟩

theorem pay15_is (hk : Is3 k kf) : Is (k0_pay15 (F := Ideal) k) fun r c => kf r (128 + c) := fun r c => by
  pointwise [k0_pay15, k0_pay12]; exact hk r ⟨128 + c.val, by omega⟩

theorem pay16_is (hk : Is3 k kf) : Is (k0_pay16 (F := Ideal) k) fun r _ => ∑ x ∈ range 128, kf r x := fun r c => by
  pointwise [k0_pay16]; exact sum_one _ (pay14_is hk r)

theorem pay17_is (hk : Is3 k kf) : Is (k0_pay17 (F := Ideal) k) fun r _ => ∑ x ∈ range 128, kf r (128 + x) := fun r c => by
  pointwise [k0_pay17]; exact sum_one _ (pay15_is hk r)

theorem pay18_is (hm : Is m1 fun r c => if r ≤ c then 1 else 0) (hT : Is tot fun r _ => T r) (hU : Is u fun r _ => U r)
    (hk : Is3 k kf) (hz : Is3 z zf) : Is (k0_pay18 (F := Ideal) m1 tot u k z) (wt kf zf T U) := fun r c => by
  pointwise [k0_pay18]
  simp only [dif_pos (show r.val < 1024 by omega), dif_pos (show 512 + r.val < 1024 by omega)]
  rw [pay13_is hk hz, hT, hU]
  unfold wt
  split
  · rename_i hc
    rw [upto_mul _ (pay14_is hk r) hm, upto_rest _ (pay14_is hk r) hm, add_zero]
    simp only [← EReal.coe_sub, ← EReal.coe_add, Ideal.exp_coe]
  · rename_i hc
    have hc' : c.val - 128 < 128 := by omega
    rw [upto_mul (fun x => kf r.val (128 + x)) (pay15_is hk r) hm, upto_rest (fun x => kf r.val (128 + x)) (pay15_is hk r) hm, add_zero, pay16_is hk, sum_half (kf r) (c := c.val + 1) (n := c.val - 128 + 1) (by omega) (by omega)]
    simp only [← EReal.coe_sub, ← EReal.coe_add, Ideal.exp_coe]
    rw [add_comm (∑ x ∈ range 128, kf r.val x)]

variable {a g lb ev : FVec Ideal S512x256 .f32} {A G L E : ℕ → ℕ → ℝ}
variable {vl vr : FVec Ideal S512x128 .f32} {st : FVec Ideal S1024x128 .f32}
variable {vb kb : FVec Ideal S1x256x128 .bf16} {fv fk : ℕ → ℕ → ℝ}
variable {x : FVec Ideal S512x128 .bf16} {X : ℕ → ℕ → ℝ}
variable {v : FVec Ideal S512x1 .f32} {V : ℕ → ℝ}

theorem pay19_is (hx : Is x X) (hv : Is3 vb fv) (hA : Is (k0_pay18 (F := Ideal) m1 tot u k z) A) :
    Is (k0_pay19 (F := Ideal) m1 x tot u vb k z) fun r c => (∑ l ∈ range 128, X r l * fv c l) * A r c := fun r c => by
  pointwise [k0_pay19]
  rw [sum_mul _ _ (hx r) (hv c), hA, EReal.coe_mul]

theorem pay20_is (hE : Is (k0_pay19 (F := Ideal) m1 x tot u vb k z) E) : Is (k0_pay20 (F := Ideal) m1 x tot u vb k z) E := fun r c => by
  pointwise [k0_pay20]; exact hE r ⟨c.val, by omega⟩

theorem pay21_is (hE : Is (k0_pay19 (F := Ideal) m1 x tot u vb k z) E) :
    Is (k0_pay21 (F := Ideal) m1 x tot u vb k z) fun r c => E r (128 + c) := fun r c => by
  pointwise [k0_pay21]; exact hE r ⟨128 + c.val, by omega⟩

/-- The two halves of a chunk's columns, one below the other. -/
def two (E : ℕ → ℕ → ℝ) (r c : ℕ) : ℝ := if r < 512 then E r c else E (r - 512) (128 + c)

theorem pay22_is (hE : Is (k0_pay19 (F := Ideal) m1 x tot u vb k z) E) : Is (k0_pay22 (F := Ideal) m1 x tot u vb k z) (two E) := fun r c => by
  pointwise [k0_pay22]
  unfold two
  split
  · rename_i h; exact pay20_is hE ⟨r.val, h⟩ c
  · rename_i h; exact pay21_is hE ⟨r.val - 512, by omega⟩ c

theorem pay52_is (hm : Is m2 fun r c => if r < c then 1 else 0) (hV : Is v fun r _ => V r) (hL : Is lb L) (hE : Is ev E) (hl : Is vl E)
    (hs : Is st (two E)) : Is (k0_pay52 (F := Ideal) m2 v lb ev vl st) (ds L E V) := fun r c => by
  pointwise [k0_pay52, k0_pay51]
  rw [hE, hL, hV]
  unfold ds
  split
  · rename_i hc
    have h1 : ∀ y : Fin 128, st (ix2 ⟨r.val, by omega⟩ y) = ((E r.val y.val : ℝ) : EReal) := fun y => by
      rw [hs]; simp [two]
    rw [before_mul _ h1 hm]
    simp only [← EReal.coe_sub, ← EReal.coe_add, ← EReal.coe_mul, Ideal.exp_coe]
    rw [add_comm (V r.val)]
  · rename_i hc
    have hc' : c.val - 128 < 128 := by omega
    have h1 : ∀ y : Fin 128, st (ix2 ⟨512 + r.val, by omega⟩ y) = ((E r.val (128 + y.val) : ℝ) : EReal) := fun y => by
      rw [hs]; simp [two]
    rw [before_mul (fun x => E r.val (128 + x)) h1 hm, sum_one _ (hl r),
      sum_half (E r.val) (c := c.val) (n := c.val - 128) (by omega) rfl]
    simp only [← EReal.coe_sub, ← EReal.coe_add, ← EReal.coe_mul, Ideal.exp_coe]
    congr 4; ring

variable {D : ℕ → ℕ → ℝ} {dq : FVec Ideal S512x128 .f32} {acc : FVec Ideal S256x128 .f32}

theorem pay11_is (hk : Is3 kb fk) : Is (k0_pay11 (F := Ideal) kb) fk := fun r c => by
  pointwise [k0_pay11]; exact hk r c

theorem pay66_is (hk : Is3 kb fk) : Is (k0_pay66 (F := Ideal) kb) fk := fun r c => by
  pointwise [k0_pay66]; exact hk r c

variable {kk : FVec Ideal S256x128 .bf16}

theorem pay53_is (hD : Is (k0_pay52 (F := Ideal) m2 v lb ev vl st) D) (hq : Is dq A) (hk : Is kk fk) :
    Is (k0_pay53 (F := Ideal) m2 dq v kk lb ev vl st) fun r d => A r d + ∑ c ∈ range 256, D r c * fk c d := fun r d => by
  pointwise [k0_pay53]
  rw [hq, col_mul _ (hD r) hk, EReal.coe_add]

theorem pay54_is (hD : Is (k0_pay52 (F := Ideal) m2 v lb ev vl st) D) (hx : Is x X) (ha : Is acc A) :
    Is (k0_pay54 (F := Ideal) m2 x v lb ev vl st acc) fun c d => A c d + ∑ r ∈ range 512, D r c * X r d := fun c d => by
  pointwise [k0_pay54]
  rw [ha, sum_mul (fun r => D r c) (fun r => X r d) (fun y => hD y c) (fun y => hx y d), EReal.coe_add]

theorem pay55_is (hA : Is a A) (hx : Is x X) (ha : Is acc G) :
    Is (k0_pay55 (F := Ideal) x a acc) fun c d => G c d + ∑ r ∈ range 512, A r c * X r d := fun c d => by
  pointwise [k0_pay55]
  rw [ha, sum_mul (fun r => A r c) (fun r => X r d) (fun y => hA y c) (fun y => hx y d), EReal.coe_add]

theorem pay56_is {y y' : FVec Ideal S512x1 .f32} {f f' : ℕ → ℝ} (hU : Is u fun r _ => U r) (hy : Is y fun r _ => f r) (hy' : Is y' fun r _ => f' r) :
    Is (k0_pay56 (F := Ideal) u y y') fun r _ => U r + (f r + f' r) := fun r c => by
  pointwise [k0_pay56]
  rw [hU, hy, hy']; simp only [EReal.coe_add]

theorem pay57_is (hV : Is v fun r _ => V r) (hl : Is vl E) (hr : Is vr G) :
    Is (k0_pay57 (F := Ideal) v vl vr) fun r _ => V r + (∑ c ∈ range 128, E r c + ∑ c ∈ range 128, G r c) := fun r c => by
  pointwise [k0_pay57, k0_pay51]
  rw [hV, sum_one _ (hl r), sum_one _ (hr r)]; simp only [EReal.coe_add]

/-! ## The diagonal chunk -/

theorem pay71_is (hm : Is m1 fun r c => if r ≤ c then 1 else 0) (hk : Is3 k kf) :
    Is (k0_pay71 (F := Ideal) m1 k) fun r c => ∑ y ∈ range (c + 1), two kf r y := fun r c => by
  pointwise [k0_pay71, k0_pay70, k0_pay68]
  have h1 : ∀ y : Fin 128, (if h : r.val < 512 then k (ix3 0 ⟨r.val, h⟩ ⟨y.val, by omega⟩)
      else k (ix3 0 ⟨r.val - 512, by omega⟩ ⟨128 + y.val, by omega⟩)) = ((two kf r.val y.val : ℝ) : EReal) := fun y => by
    unfold two; split
    · exact hk _ _
    · exact hk _ _
  rw [upto_mul _ h1 hm c.val c.isLt, upto_rest _ h1 hm c.val c.isLt, add_zero]

theorem pay72_is (hm : Is m1 fun r c => if r ≤ c then 1 else 0) (hk : Is3 k kf) :
    Is (k0_pay72 (F := Ideal) m1 k) fun r c => ∑ y ∈ range (c + 1), kf r y := fun r c => by
  pointwise [k0_pay72]
  rw [pay71_is hm hk]; simp [two]

theorem pay73_is (hm : Is m1 fun r c => if r ≤ c then 1 else 0) (hk : Is3 k kf) :
    Is (k0_pay73 (F := Ideal) m1 k) fun r c => ∑ y ∈ range (c + 1), kf r (128 + y) := fun r c => by
  pointwise [k0_pay73]
  rw [pay71_is hm hk]; simp [two]

theorem pay74_is (hk : Is3 k kf) : Is (k0_pay74 (F := Ideal) k) fun r _ => ∑ y ∈ range 128, kf r y := fun r c => by
  pointwise [k0_pay74, k0_pay70, k0_pay68]
  exact sum_one _ fun y => hk r ⟨y.val, by omega⟩

/-- The prefix sums of the logarithms that the diagonal's payloads read. -/
structure Pre (y y' y'' : FVec Ideal S512x128 .f32) (kf : ℕ → ℕ → ℝ) : Prop where
  l : Is y fun r c => ∑ x ∈ range (c + 1), kf r x
  r : Is y' fun r c => ∑ x ∈ range (c + 1), kf r (128 + x)
  s : Is y'' fun r _ => ∑ x ∈ range 128, kf r x

variable {y y' y'' : FVec Ideal S512x128 .f32}

theorem pay75_is (hT : Is tot fun r _ => T r) (hU : Is u fun r _ => U r) (hL : Is lb fun r c => kf r c + zf r c) (hp : Pre y y' y'' kf) :
    Is (k0_pay75 (F := Ideal) tot u k0_pay65 lb y y' y'') fun r c => if c < r % 256 then wt kf zf T U r c else 0 := fun r c => by
  pointwise [k0_pay75]
  rw [pay65_at, select_ofBool]
  split
  · rw [hT, hU, hL]
    unfold wt
    split
    · rename_i hc
      rw [hp.l]
      simp only [← EReal.coe_sub, ← EReal.coe_add, Ideal.exp_coe]
    · rename_i hc
      rw [hp.r, hp.s, sum_half (kf r) (c := c.val + 1) (n := c.val - 128 + 1) (by omega) (by omega)]
      simp only [← EReal.coe_sub, ← EReal.coe_add, Ideal.exp_coe]
      rw [add_comm (∑ x ∈ range 128, kf r.val x)]
  · rfl

theorem pay76_is (hm : Is m2 fun r c => if r < c then 1 else 0) (hA : Is (k0_pay75 (F := Ideal) tot u k0_pay65 lb y y' y'') A)
    (hV : Is v fun r _ => V r) (hG : Is g G) (hL : Is lb L) :
    Is (k0_pay76 (F := Ideal) m2 tot u v k0_pay65 g lb y y' y'')
      fun r c => if c < r % 256 then ds L (fun r c => G r c * A r c) V r c else 0 := fun r c => by
  pointwise [k0_pay76]
  rw [pay65_at, select_ofBool]
  split
  · have h1 : ∀ (c : Fin 256), g (ix2 r c) * k0_pay75 (F := Ideal) tot u k0_pay65 lb y y' y'' (ix2 r c)
        = ((G r.val c.val * A r.val c.val : ℝ) : EReal) := fun c => by rw [hG, hA, EReal.coe_mul]
    rw [h1, hL, hV]
    unfold ds
    split
    · rename_i hc
      rw [before_mul (fun x => G r.val x * A r.val x) (fun x => h1 ⟨x.val, by omega⟩) hm]
      simp only [← EReal.coe_sub, ← EReal.coe_add, ← EReal.coe_mul, Ideal.exp_coe]
      rw [add_comm (V r.val)]
    · rename_i hc
      have hc' : c.val - 128 < 128 := by omega
      rw [before_mul (fun x => G r.val (128 + x) * A r.val (128 + x)) (fun x => h1 ⟨128 + x.val, by omega⟩) hm,
        sum_one (fun x => G r.val x * A r.val x) (fun x : Fin 128 => h1 ⟨x.val, by omega⟩),
        sum_half (fun x => G r.val x * A r.val x) (c := c.val) (n := c.val - 128) (by omega) rfl]
      simp only [← EReal.coe_sub, ← EReal.coe_add, ← EReal.coe_mul, Ideal.exp_coe]
      congr 4; ring
  · rfl

theorem pay77_is (hD : Is (k0_pay76 (F := Ideal) m2 tot u v k0_pay65 g lb y y' y'') D) (hq : Is dq A) (hk : Is kk fk) :
    Is (k0_pay77 (F := Ideal) m2 tot dq u v k0_pay65 kk g lb y y' y'') fun r d => A r d + ∑ c ∈ range 256, D r c * fk c d := fun r d => by
  pointwise [k0_pay77]
  rw [hq, col_mul _ (hD r) hk, EReal.coe_add]

theorem pay78_is (hD : Is (k0_pay76 (F := Ideal) m2 tot u v k0_pay65 g lb y y' y'') D) (hx : Is x X) (ha : Is acc A) :
    Is (k0_pay78 (F := Ideal) m2 x tot u v k0_pay65 g lb y y' y'' acc) fun c d => A c d + ∑ r ∈ range 512, D r c * X r d := fun c d => by
  pointwise [k0_pay78]
  rw [ha, sum_mul (fun r => D r c) (fun r => X r d) (fun y => hD y c) (fun y => hx y d), EReal.coe_add]

theorem pay79_is (hA : Is (k0_pay75 (F := Ideal) tot u k0_pay65 lb y y' y'') A) (hx : Is x X) (ha : Is acc G) :
    Is (k0_pay1 (F := Ideal) (k0_pay79 (F := Ideal) x tot u k0_pay65 lb y y' y'' acc)) fun c d => G c d + ∑ r ∈ range 512, A r c * X r d := fun c d => by
  pointwise [k0_pay1, k0_pay79]
  rw [ha, sum_mul (fun r => A r c) (fun r => X r d) (fun y => hA y c) (fun y => hx y d), EReal.coe_add]

theorem pay2_is (hq : Is dq A) : Is3 (k0_pay2 (F := Ideal) k0_pay37 dq)
    fun r d => (if d < 64 then A r d else A (256 + r) d) * (1 / 8) := fun r d => by
  pointwise [k0_pay2]
  rw [pay37_at, select_ofBool, ofBits_eighth, hq, hq, EReal.coe_mul]
  split <;> rfl

end Cert.Sb

end
-- ==== Proof.Sb.Point.lean ====
/-
  One grid point of the stick-breaking backward kernel over the extended reals, where the blocks it reads hold real
  numbers: the walk never stops early, the second pass carries prefix sums over all the chunks before its own, and the
  point adds its queries' share to the gradients of all keys and values.
-/
module

public import proofs.«01_k».proof.Proof.Sb.PayPass

@[expose] public section

set_option maxRecDepth 16384

noncomputable section

open Idealize.ShloMosaic Idealize.ShloMosaic.TcCoe Idealize.SL.Sem
open Cert.KernelSbIdeal Cert.KernelSbIdeal.Gen
open Finset (range)

namespace Cert.Sb

/-! ## Chunks of arrays of real numbers -/

theorem kch_is {X : FVec Ideal S1x2048x128 .bf16} {f : ℕ → ℕ → ℝ} (h : Is3 X f) {j : ℕ} (hj : j < 8) :
    Is3 (kch X j) fun c d => f (256 * j + c) d := fun c d => by
  refine (h ⟨(256 * j + c.val) % 2048, Nat.mod_lt _ (by decide)⟩ d).trans ?_
  have : (256 * j + c.val) % 2048 = 256 * j + c.val := by omega
  simp only [this]

theorem ach_is {X : FVec Ideal S2048x128 .f32} {f : ℕ → ℕ → ℝ} (h : Is X f) {j : ℕ} (hj : j < 8) :
    Is (ach X j) fun c d => f (256 * j + c) d := fun c d => by
  refine (h ⟨(256 * j + c.val) % 2048, Nat.mod_lt _ (by decide)⟩ d).trans ?_
  have : (256 * j + c.val) % 2048 = 256 * j + c.val := by omega
  simp only [this]

theorem aput_is {X : FVec Ideal S2048x128 .f32} {w : FVec Ideal S256x128 .f32} {f g : ℕ → ℕ → ℝ} (h : Is X f) (hw : Is w g) (j : ℕ) :
    Is (aput X j w) fun s d => if 256 * j ≤ s ∧ s < 256 * (j + 1) then g (s - 256 * j) d else f s d := fun s d => by
  unfold aput VecWindow.put
  by_cases hs : 256 * j ≤ s.val ∧ s.val < 256 * (j + 1)
  · have hall : ∀ a : Fin 2, (![256 * j, 0] : Fin 2 → ℕ) a ≤ ((ix2 s d : S2048x128.Idx) a).val
        ∧ ((ix2 s d : S2048x128.Idx) a).val < (![256 * j, 0] : Fin 2 → ℕ) a + S256x128.size a := by
      intro a; fin_cases a
      · exact ⟨hs.1, by have := hs.2; show s.val < 256 * j + 256; omega⟩
      · exact ⟨Nat.zero_le _, by have := d.isLt; show d.val < 0 + 128; omega⟩
    rw [dif_pos hall]
    simp only [if_pos hs]
    refine (congrArg w (show _ = ix2 (⟨s.val - 256 * j, by omega⟩ : Fin 256) d from ?_)).trans (hw ⟨s.val - 256 * j, by omega⟩ d)
    funext a; fin_cases a
    · exact Fin.ext rfl
    · exact Fin.ext (Nat.sub_zero _)
  · rw [dif_neg fun hall => hs ⟨(hall 0).1, by have := (hall 0).2; change s.val < 256 * j + 256 at this; omega⟩]
    simp only [if_neg hs]
    exact h s d

/-! ## What a row of queries computes -/

/-- The real numbers of the blocks a point reads. -/
structure Num where
  i : ℕ
  q : ℕ → ℕ → ℝ
  k : ℕ → ℕ → ℝ
  v : ℕ → ℕ → ℝ
  d : ℕ → ℕ → ℝ

variable (N : Num)

/-- The stacked queries, scaled. -/
def Num.Q (r d : ℕ) : ℝ := stack (fun r c => N.q r c * (1 / 8)) r d

/-- The scores and the weights' cotangents. -/
def Num.Z (r s : ℕ) : ℝ := ∑ l ∈ range 128, N.Q r l * N.k s l
def Num.DA (r s : ℕ) : ℝ := ∑ l ∈ range 128, stack N.d r l * N.v s l

/-- How many keys a row of queries sees. -/
def Num.T (r : ℕ) : ℕ := 256 * N.i + r % 256

/-- The logarithms kept and their prefix sums, the weights, the weighted cotangents, the scores' gradient. -/
def Num.kp (r s : ℕ) : ℝ := if s < N.T r then lk (N.Z r s) else 0
def Num.KP (r n : ℕ) : ℝ := ∑ s ∈ range n, N.kp r s
def Num.at (r s : ℕ) : ℝ := if s < N.T r then Real.exp (N.kp r s + N.Z r s + (N.KP r (256 * (N.i + 1)) - N.KP r (s + 1))) else 0
def Num.er (r s : ℕ) : ℝ := N.DA r s * N.at r s
def Num.EP (r n : ℕ) : ℝ := ∑ s ∈ range n, N.er r s
def Num.dz (r s : ℕ) : ℝ := if s < N.T r then N.er r s - (N.er r s + N.EP r s) * Real.exp (N.kp r s + N.Z r s) else 0

theorem sum_chunk (f : ℕ → ℝ) (j : ℕ) : ∑ s ∈ range (256 * (j + 1)), f s = ∑ s ∈ range (256 * j), f s + ∑ c ∈ range 256, f (256 * j + c) := by
  rw [← Finset.sum_range_add, Nat.mul_succ]

theorem sum_at (f : ℕ → ℝ) (a c : ℕ) : ∑ s ∈ range (a + c), f s = ∑ s ∈ range a, f s + ∑ x ∈ range c, f (a + x) := Finset.sum_range_add ..

/-- The blocks hold these numbers. -/
structure Num.Of (B : Blk Ideal) : Prop where
  i : B.i = N.i
  lt : N.i < 8
  q : Is3 B.q N.q
  k : Is3 B.k N.k
  v : Is3 B.v N.v
  d : Is3 B.d N.d

variable {N} {B : Blk Ideal} (h : N.Of B)

include h

theorem Num.Of.zd : Is (zd B) fun r c => N.Z r (256 * N.i + c) := by
  have := pay41_is (pay38_is h.q) (kch_is h.k h.lt)
  unfold Sb.zd; rw [h.i]; exact this

theorem Num.Of.z5 {j : ℕ} (hj : j < 8) : Is (k0_pay5 (F := Ideal) (k0_pay38 B.q) (kch B.k j)) fun r c => N.Z r (256 * j + c) :=
  pay5_is (pay38_is h.q) (kch_is h.k hj)

theorem Num.Of.k6 {j : ℕ} (hj : j < N.i) : Is (k0_pay6 (F := Ideal) (k0_pay38 B.q) (kch B.k j)) fun r c => N.kp r (256 * j + c) :=
  (pay6_is (h.z5 (hj.trans h.lt))).congr fun r _ c hc => by
    unfold Num.kp; rw [if_pos]; unfold Num.T; omega

theorem Num.Of.k42 : Is (k0_pay42 (F := Ideal) k0_pay40 (Sb.zd B)) fun r c => N.kp r (256 * N.i + c) :=
  (pay42_is h.zd).congr fun r _ c hc => by
    unfold Num.kp Num.T; simp

theorem Num.Of.runs {n : ℕ} (hn : n ≤ N.i) : Is (runs B n) fun r _ => N.KP r (256 * (N.i + 1)) - N.KP r (256 * (N.i - n)) := by
  induction n with
  | zero =>
    refine (pay45_is h.k42).congr fun r _ c _ => ?_
    unfold Num.KP; rw [Nat.sub_zero, sum_chunk]; ring
  | succ n ih =>
    unfold Sb.runs; rw [h.i]
    refine (pay9_is (ih (by omega)) (h.k6 (j := N.i - 1 - n) (by omega))).congr fun r _ c _ => ?_
    have e : N.i - n = (N.i - 1 - n) + 1 := by omega
    have e' : N.i - (n + 1) = N.i - 1 - n := by omega
    rw [e', e]
    have := sum_chunk (N.kp r) (N.i - 1 - n)
    simp only [Num.KP]; rw [this]; ring

theorem Num.Of.alive {n : ℕ} (hn : n ≤ N.i) : alive B n = 1#1 := by
  have key : ∀ (b : EReal), ⊥ < b → Scalar.cmpf (F := Ideal) (φ := .f32) .ogt b (Named.named κ "sb_dead" 0xC2D00000#32) = 1#1 := by
    intro b hb
    have hn : (Named.named κ "sb_dead" 0xC2D00000#32 : Ideal .f32) = (⊥ : EReal) := rfl
    rw [hn]
    change BitVec.ofBool (decide ((⊥ : EReal) < b)) = 1#1
    simp [hb]
  cases n with
  | zero =>
    refine key _ ?_
    pointwise [k0_pay46]
    exact alive_of_real (A := fun r => N.KP r (256 * (N.i + 1)) - N.KP r (256 * (N.i - 0))) (fun r => h.runs hn r 0) _
  | succ n =>
    refine key _ ?_
    pointwise [k0_pay10]
    exact alive_of_real (A := fun r => N.KP r (256 * (N.i + 1)) - N.KP r (256 * (N.i - (n + 1)))) (fun r => h.runs hn r 0) _

theorem Num.Of.walk : walk B = N.i := by
  refine (Stops.eq ⟨by rw [h.i], Or.inl h.i.symm, fun k hk => h.alive hk.le⟩).symm

/-! ## The second pass -/

omit h in
/-- The weights of a chunk from its own prefix sums are the row's. -/
theorem Num.wt_chunk (r j c : ℕ) : wt (fun r c => N.kp r (256 * j + c)) (fun r c => N.Z r (256 * j + c))
      (fun r => N.KP r (256 * (N.i + 1))) (fun r => N.KP r (256 * j)) r c
    = Real.exp (N.kp r (256 * j + c) + N.Z r (256 * j + c) + (N.KP r (256 * (N.i + 1)) - N.KP r (256 * j + c + 1))) := by
  have e := sum_at (N.kp r) (256 * j) (c + 1)
  unfold wt
  simp only [Num.KP] at e ⊢
  rw [show 256 * j + c + 1 = 256 * j + (c + 1) by omega, e]
  congr 2; ring

omit h in
/-- The scores' gradient of a chunk from its own prefix sums is the row's. -/
theorem Num.ds_chunk (r j c : ℕ) : ds (fun r c => N.kp r (256 * j + c) + N.Z r (256 * j + c)) (fun r c => N.er r (256 * j + c))
      (fun r => N.EP r (256 * j)) r c
    = N.er r (256 * j + c) - (N.er r (256 * j + c) + N.EP r (256 * j + c)) * Real.exp (N.kp r (256 * j + c) + N.Z r (256 * j + c)) := by
  unfold ds Num.EP
  rw [sum_at]

/-- The second pass's state after the chunks before `j`, from the accumulators `fK` and `fV`. -/
structure Num.PassIs (N : Num) (fK fV : ℕ → ℕ → ℝ) (s : Pass Ideal) (j : ℕ) : Prop where
  dq : Is s.dq fun r d => ∑ t ∈ range (256 * j), N.dz r t * N.k t d
  u : Is s.u fun r _ => N.KP r (256 * j)
  v : Is s.v fun r _ => N.EP r (256 * j)
  dk : Is s.dk fun t d => if t < 256 * j then fK t d + ∑ r ∈ range 512, N.dz r t * N.Q r d else fK t d
  dv : Is s.dv fun t d => if t < 256 * j then fV t d + ∑ r ∈ range 512, N.at r t * stack N.d r d else fV t d

variable {fK fV : ℕ → ℕ → ℝ}

omit h in
/-- One chunk more of an accumulator. -/
theorem aput_step {X : FVec Ideal S2048x128 .f32} {w : FVec Ideal S256x128 .f32} {f g : ℕ → ℕ → ℝ} {j : ℕ} (hj : j < 8)
    (hX : Is X fun t d => if t < 256 * j then f t d + g t d else f t d)
    (hw : (Is (ach X j) fun c d => f (256 * j + c) d) → Is w fun c d => f (256 * j + c) d + g (256 * j + c) d) :
    Is (aput X j w) fun t d => if t < 256 * (j + 1) then f t d + g t d else f t d := by
  refine (aput_is hX (hw ((ach_is hX hj).congr fun c _ d _ => by simp)) j).congr fun t _ d _ => ?_
  by_cases h1 : 256 * j ≤ t
  · by_cases h2 : t < 256 * (j + 1)
    · simp only [h1, h2, and_self, if_true]
      rw [show 256 * j + (t - 256 * j) = t by omega]
    · rw [if_neg (fun hh => h2 hh.2), if_neg (by omega), if_neg h2]
  · rw [if_neg (fun hh => h1 hh.1), if_pos (by omega), if_pos (by omega)]

theorem Num.Of.ks {j : ℕ} (hj : j < N.i) : Is3 (ks B j) fun r c => N.kp r (256 * j + c) := pay8_is (h.k6 hj)
theorem Num.Of.zs {j : ℕ} (hj : j < N.i) : Is3 (zs B j) fun r c => N.Z r (256 * j + c) := pay7_is (h.z5 (hj.trans h.lt))
theorem Num.Of.tot : Is (Sb.runs B N.i) fun r _ => N.KP r (256 * (N.i + 1)) :=
  (h.runs le_rfl).congr fun r _ _ _ => by simp [Num.KP]

theorem Num.Of.trip {s : Pass Ideal} {j : ℕ} (hj : j < N.i) (hs : N.PassIs fK fV s j) :
    N.PassIs fK fV (trip B (Sb.runs B N.i) j s) (j + 1) := by
  have hj8 : j < 8 := hj.trans h.lt
  have hin : ∀ r c, c < 256 → 256 * j + c < N.T r := fun r c hc => by unfold Num.T; omega
  have hq := pay38_is h.q
  have hd := pay39_is h.d
  have h13 := pay13_is (h.ks hj) (h.zs hj)
  have h18 : Is (k0_pay18 (F := Ideal) k0_pay35 (Sb.runs B N.i) s.u (Sb.ks B j) (Sb.zs B j)) fun r c => N.at r (256 * j + c) :=
    (pay18_is pay35_is h.tot hs.u (h.ks hj) (h.zs hj)).congr fun r _ c hc => by
      rw [Num.wt_chunk]; unfold Num.at; rw [if_pos (hin r c hc)]
  have h19 : Is (k0_pay19 (F := Ideal) k0_pay35 (k0_pay39 B.d) (Sb.runs B N.i) s.u (kch B.v j) (Sb.ks B j) (Sb.zs B j)) fun r c => N.er r (256 * j + c) :=
    pay19_is hd (kch_is h.v hj8) h18
  have h20 := pay20_is h19
  have h21 := pay21_is h19
  have h22 := pay22_is h19
  have h52 := (pay52_is (v := s.v) pay36_is hs.v h13 h19 h20 h22).congr (g := fun r c => N.dz r (256 * j + c)) fun r _ c hc => by
    rw [Num.ds_chunk]; unfold Num.dz; rw [if_pos (hin r c hc)]
  unfold Sb.trip
  refine ⟨?_, ?_, ?_, ?_, ?_⟩ <;> dsimp only
  · exact (pay53_is h52 hs.dq (pay11_is (kch_is h.k hj8))).congr fun r _ d _ => by rw [sum_chunk]
  · refine (pay56_is hs.u (pay16_is (h.ks hj)) (pay17_is (h.ks hj))).congr fun r _ _ _ => ?_
    unfold Num.KP; rw [sum_chunk, sum_half (fun x => N.kp r (256 * j + x)) (c := 256) (n := 128) (by omega) rfl]
  · refine (pay57_is hs.v h20 h21).congr fun r _ _ _ => ?_
    unfold Num.EP; rw [sum_chunk, sum_half (fun x => N.er r (256 * j + x)) (c := 256) (n := 128) (by omega) rfl]
  · exact aput_step hj8 hs.dk fun ha => pay54_is h52 hq ha
  · exact aput_step hj8 hs.dv fun ha => pay55_is h18 hd ha

theorem Num.Of.pass {dk dv : FVec Ideal S2048x128 .f32} (hk : Is dk fK) (hv : Is dv fV) {j : ℕ} (hj : j ≤ N.i) :
    N.PassIs fK fV (pass B N.i dk dv j) j := by
  induction j with
  | zero =>
    refine ⟨fun r d => ?_, fun r d => ?_, fun r d => ?_, hk.congr fun t _ d _ => by simp, hv.congr fun t _ d _ => by simp⟩
    · unfold Sb.pass; dsimp only; pointwise [k0_pay50]; simp
    · unfold Sb.pass; dsimp only; pointwise [k0_pay49]; simp [Num.KP]
    · unfold Sb.pass; dsimp only; pointwise [k0_pay49]; simp [Num.EP]
  | succ j ih =>
    have := h.trip hj (ih (by omega))
    unfold Sb.pass; rw [h.i, Nat.sub_self, Nat.zero_add]; exact this

/-! ## What the point leaves -/

section Last

variable {s : Pass Ideal} (hs : N.PassIs fK fV s N.i)

theorem Num.Of.kD : Is3 (kD B) fun r c => N.kp r (256 * N.i + c) := pay44_is h.k42
theorem Num.Of.zD : Is3 (zD B) fun r c => N.Z r (256 * N.i + c) := pay43_is h.zd
theorem Num.Of.pre : Pre (k0_pay72 (F := Ideal) k0_pay35 (Sb.kD B)) (k0_pay73 (F := Ideal) k0_pay35 (Sb.kD B)) (k0_pay74 (F := Ideal) (Sb.kD B))
    fun r c => N.kp r (256 * N.i + c) := ⟨pay72_is pay35_is h.kD, pay73_is pay35_is h.kD, pay74_is h.kD⟩

include hs

theorem Num.Of.p75 : Is (k0_pay75 (F := Ideal) (Sb.runs B N.i) s.u k0_pay65 (k0_pay69 (Sb.kD B) (Sb.zD B)) (k0_pay72 k0_pay35 (Sb.kD B))
    (k0_pay73 k0_pay35 (Sb.kD B)) (k0_pay74 (Sb.kD B))) fun r c => N.at r (256 * N.i + c) :=
  (pay75_is h.tot hs.u (pay69_is h.kD h.zD) h.pre).congr fun r _ c _ => by
    rw [Num.wt_chunk]; unfold Num.at Num.T; simp

theorem Num.Of.p76 : Is (k0_pay76 (F := Ideal) k0_pay36 (Sb.runs B N.i) s.u s.v k0_pay65 (k0_pay67 (k0_pay39 B.d) (kch B.v N.i))
    (k0_pay69 (Sb.kD B) (Sb.zD B)) (k0_pay72 k0_pay35 (Sb.kD B)) (k0_pay73 k0_pay35 (Sb.kD B)) (k0_pay74 (Sb.kD B)))
    fun r c => N.dz r (256 * N.i + c) :=
  (pay76_is pay36_is (h.p75 hs) hs.v (pay67_is (pay39_is h.d) (kch_is h.v h.lt)) (pay69_is h.kD h.zD)).congr fun r _ c _ => by
    have := Num.ds_chunk (N := N) r N.i c
    simp only [Num.er, Num.DA] at this ⊢
    rw [this]; unfold Num.dz Num.T Num.er Num.DA; simp

theorem Num.Of.outQ : Is3 (outQ B (Sb.runs B N.i) s)
    fun r d => (∑ t ∈ range (256 * (N.i + 1)), N.dz (if d < 64 then r else 256 + r) t * N.k t d) * (1 / 8) := by
  unfold Sb.outQ; rw [h.i]
  refine (pay2_is (pay77_is (h.p76 hs) hs.dq (pay66_is (kch_is h.k h.lt)))).congr fun r _ d _ => ?_
  split <;> rw [sum_chunk]

theorem Num.Of.outK : Is (outK B (Sb.runs B N.i) s)
    fun t d => if t < 256 * (N.i + 1) then fK t d + ∑ r ∈ range 512, N.dz r t * N.Q r d else fK t d := by
  unfold Sb.outK; rw [h.i]
  exact aput_step h.lt hs.dk fun ha => pay78_is (h.p76 hs) (pay38_is h.q) ha

theorem Num.Of.outV : Is (outV B (Sb.runs B N.i) s)
    fun t d => if t < 256 * (N.i + 1) then fV t d + ∑ r ∈ range 512, N.at r t * stack N.d r d else fV t d := by
  unfold Sb.outV; rw [h.i]
  exact aput_step h.lt hs.dv fun ha => pay79_is (h.p75 hs) (pay39_is h.d) ha

end Last

end Cert.Sb

end
-- ==== Proof.Sb.Grad.lean ====
/-
  The gradients of the stick-breaking attention as real numbers, head by head: the scores, the logarithms kept, the
  weights, and the three gradients; and that a grid point's stacked rows are its two heads' rows of queries.
-/
module

public import proofs.«01_k».proof.Proof.Sb.Point

@[expose] public section

noncomputable section

open Finset (range)

namespace Cert.Sb

/-- The arguments as real numbers: queries, keys and values by sequence, position, head and lane, and the cotangent by
    sequence, position and column. -/
structure Args where
  q : ℕ → ℕ → ℕ → ℕ → ℝ
  k : ℕ → ℕ → ℕ → ℕ → ℝ
  v : ℕ → ℕ → ℕ → ℕ → ℝ
  o : ℕ → ℕ → ℕ → ℝ

variable (A : Args) (b h : ℕ)

/-- The score of query `t` against key `s`, and the cotangent of their weight. -/
def Args.z (t s : ℕ) : ℝ := (∑ d ∈ range 64, A.q b t h d * A.k b s h d) * (1 / 8)
def Args.da (t s : ℕ) : ℝ := ∑ d ∈ range 64, A.o b t (64 * h + d) * A.v b s h d

/-- The logarithms kept, their prefix sums, and the weights. -/
def Args.kp (t s : ℕ) : ℝ := if s < t then lk (A.z b h t s) else 0
def Args.KP (t n : ℕ) : ℝ := ∑ s ∈ range n, A.kp b h t s
def Args.a (t s : ℕ) : ℝ := if s < t then Real.exp (A.kp b h t s + A.z b h t s + (A.KP b h t 2048 - A.KP b h t (s + 1))) else 0

/-- The weighted cotangents, their prefix sums, and the gradient of the scores. -/
def Args.e (t s : ℕ) : ℝ := A.da b h t s * A.a b h t s
def Args.EP (t n : ℕ) : ℝ := ∑ s ∈ range n, A.e b h t s
def Args.dz (t s : ℕ) : ℝ :=
  if s < t then A.e b h t s - (A.e b h t s + A.EP b h t s) * Real.exp (A.kp b h t s + A.z b h t s) else 0

/-- The three gradients. -/
def Args.dq (t d : ℕ) : ℝ := (∑ s ∈ range 2048, A.dz b h t s * A.k b s h d) * (1 / 8)
def Args.dk (s d : ℕ) : ℝ := ∑ t ∈ range 2048, A.dz b h t s * (A.q b t h d * (1 / 8))
def Args.dv (s d : ℕ) : ℝ := ∑ t ∈ range 2048, A.a b h t s * A.o b t (64 * h + d)

/-- The numbers of a grid point: sequence `b`, pair `p`, query chunk `i`. -/
def Args.num (p i : ℕ) : Num where
  i := i
  q r d := A.q b (256 * i + r) (2 * p + d / 64) (d % 64)
  k s d := A.k b s (2 * p + d / 64) (d % 64)
  v s d := A.v b s (2 * p + d / 64) (d % 64)
  d r d := A.o b (256 * i + r) (128 * p + d)

variable (p i : ℕ)

/-- A product of a stacked row with a pair's row is the product over the row's own head. -/
theorem stack_sum (f g : ℕ → ℕ → ℝ) (r s : ℕ) (hr : r < 512) :
    ∑ l ∈ range 128, stack f r l * g s l = ∑ l ∈ range 64, f (r % 256) (64 * (r / 256) + l) * g s (64 * (r / 256) + l) := by
  rw [show (128 : ℕ) = 64 + 64 from rfl, Finset.sum_range_add]
  unfold stack
  by_cases h : r < 256
  · rw [Finset.sum_congr (s₁ := range 64) (g := fun l => f r l * g s l) rfl fun l hl => by
        rw [if_pos h, if_pos (Finset.mem_range.1 hl)],
      Finset.sum_eq_zero (s := range 64) (f := fun x => (if r < 256 then _ else _) * g s (64 + x)) fun l hl => by
        rw [if_pos h, if_neg (by omega), zero_mul], add_zero, show r / 256 = 0 by omega, show r % 256 = r by omega]
    simp
  · rw [Finset.sum_congr (s₁ := range 64) (f := fun x => (if r < 256 then _ else _) * g s (64 + x))
        (g := fun l => f (r - 256) (64 + l) * g s (64 + l)) rfl fun l hl => by rw [if_neg h, if_neg (by omega)],
      Finset.sum_eq_zero (s := range 64) (f := fun x => (if r < 256 then _ else _) * g s x) fun l hl => by
        rw [if_neg h, if_pos (Finset.mem_range.1 hl), zero_mul], zero_add, show r / 256 = 1 by omega, show r % 256 = r - 256 by omega]

variable {r : ℕ} (hr : r < 512)

include hr

theorem num_Z (s : ℕ) : (A.num b p i).Z r s = A.z b (2 * p + r / 256) (256 * i + r % 256) s := by
  unfold Num.Z Num.Q
  rw [stack_sum _ _ _ _ hr]
  unfold Args.z Args.num; dsimp only
  rw [Finset.sum_mul]
  refine Finset.sum_congr rfl fun l hl => ?_
  have hl' := Finset.mem_range.1 hl
  rw [show (64 * (r / 256) + l) / 64 = r / 256 by omega, show (64 * (r / 256) + l) % 64 = l by omega]
  ring

theorem num_DA (s : ℕ) : (A.num b p i).DA r s = A.da b (2 * p + r / 256) (256 * i + r % 256) s := by
  unfold Num.DA
  rw [stack_sum _ _ _ _ hr]
  unfold Args.da Args.num; dsimp only
  refine Finset.sum_congr rfl fun l hl => ?_
  have hl' := Finset.mem_range.1 hl
  rw [show (64 * (r / 256) + l) / 64 = r / 256 by omega, show (64 * (r / 256) + l) % 64 = l by omega]
  rw [show 128 * p + (64 * (r / 256) + l) = 64 * (2 * p + r / 256) + l by omega]

theorem num_kp (s : ℕ) : (A.num b p i).kp r s = A.kp b (2 * p + r / 256) (256 * i + r % 256) s := by
  unfold Num.kp Args.kp; rw [num_Z A b p i hr]; rfl

theorem num_KP (n : ℕ) : (A.num b p i).KP r n = A.KP b (2 * p + r / 256) (256 * i + r % 256) n :=
  Finset.sum_congr rfl fun s _ => num_kp A b p i hr s

omit hr in
/-- A row keeps nothing past its own key. -/
theorem KP_past {t n n' : ℕ} (hn : t ≤ n) (hn' : n ≤ n') : A.KP b h t n' = A.KP b h t n := by
  unfold Args.KP
  refine (Finset.sum_subset (Finset.range_mono hn') fun s _ hs => ?_).symm
  unfold Args.kp; rw [if_neg]; simp at hs; omega

theorem num_at (hi : i < 8) (s : ℕ) : (A.num b p i).at r s = A.a b (2 * p + r / 256) (256 * i + r % 256) s := by
  unfold Num.at Args.a
  rw [num_kp A b p i hr, num_Z A b p i hr, num_KP A b p i hr, num_KP A b p i hr]
  rw [KP_past A b _ (t := 256 * i + r % 256) (n := 256 * (i + 1)) (n' := 2048) (by omega) (by omega)]
  rfl

theorem num_er (hi : i < 8) (s : ℕ) : (A.num b p i).er r s = A.e b (2 * p + r / 256) (256 * i + r % 256) s := by
  unfold Num.er Args.e; rw [num_DA A b p i hr, num_at A b p i hr hi]

theorem num_dz (hi : i < 8) (s : ℕ) : (A.num b p i).dz r s = A.dz b (2 * p + r / 256) (256 * i + r % 256) s := by
  unfold Num.dz Args.dz
  rw [num_er A b p i hr hi, num_kp A b p i hr, num_Z A b p i hr]
  rw [show (A.num b p i).EP r s = A.EP b (2 * p + r / 256) (256 * i + r % 256) s from
    Finset.sum_congr rfl fun s _ => num_er A b p i hr hi s]
  rfl

omit hr

/-- A pair's stacked rows times stacked lanes: the rows of the lane's head. -/
theorem stack_col (f : ℕ → ℝ) (g : ℕ → ℕ → ℝ) {d : ℕ} (hd : d < 128) :
    ∑ r ∈ range 512, f r * stack g r d = ∑ r ∈ range 256, f (256 * (d / 64) + r) * g r d := by
  rw [show (512 : ℕ) = 256 + 256 from rfl, Finset.sum_range_add]
  unfold stack
  by_cases h : d < 64
  · rw [Finset.sum_congr (s₁ := range 256) (g := fun r => f r * g r d) rfl fun r hl => by
        rw [if_pos (Finset.mem_range.1 hl), if_pos h],
      Finset.sum_eq_zero (s := range 256) (f := fun x => f (256 + x) * _) fun r hl => by
        rw [if_neg (by omega), if_pos h, mul_zero], add_zero, show d / 64 = 0 by omega]
    simp
  · rw [Finset.sum_congr (s₁ := range 256) (f := fun x => f (256 + x) * _) (g := fun r => f (256 + r) * g r d) rfl fun r hl => by
        rw [if_neg (by omega), if_neg h, show 256 + r - 256 = r by omega],
      Finset.sum_eq_zero (s := range 256) (f := fun x => f x * _) fun r hl => by
        rw [if_pos (Finset.mem_range.1 hl), if_neg h, mul_zero], zero_add, show d / 64 = 1 by omega]

/-- What a point adds to the gradient of key `s`. -/
theorem num_dk (hi : i < 8) {d : ℕ} (hd : d < 128) (s : ℕ) : ∑ r ∈ range 512, (A.num b p i).dz r s * (A.num b p i).Q r d
    = ∑ r ∈ range 256, A.dz b (2 * p + d / 64) (256 * i + r) s * (A.q b (256 * i + r) (2 * p + d / 64) (d % 64) * (1 / 8)) := by
  unfold Num.Q
  rw [stack_col _ _ hd]
  refine Finset.sum_congr rfl fun r hl => ?_
  have hl' := Finset.mem_range.1 hl
  rw [num_dz A b p i (by omega) hi, show (256 * (d / 64) + r) / 256 = d / 64 by omega, show (256 * (d / 64) + r) % 256 = r by omega]
  rfl

/-- What a point adds to the gradient of value `s`. -/
theorem num_dv (hi : i < 8) {d : ℕ} (hd : d < 128) (s : ℕ) : ∑ r ∈ range 512, (A.num b p i).at r s * stack (A.num b p i).d r d
    = ∑ r ∈ range 256, A.a b (2 * p + d / 64) (256 * i + r) s * A.o b (256 * i + r) (128 * p + d) := by
  rw [stack_col _ _ hd]
  refine Finset.sum_congr rfl fun r hl => ?_
  have hl' := Finset.mem_range.1 hl
  rw [num_at A b p i (by omega) hi, show (256 * (d / 64) + r) / 256 = d / 64 by omega, show (256 * (d / 64) + r) % 256 = r by omega]
  rfl

/-- The gradient of query `r` of a point. -/
theorem num_dq (hi : i < 8) {r d : ℕ} (hr : r < 256) (hd : d < 128) :
    (∑ t ∈ range (256 * (i + 1)), (A.num b p i).dz (if d < 64 then r else 256 + r) t * (A.num b p i).k t d) * (1 / 8)
      = A.dq b (2 * p + d / 64) (256 * i + r) (d % 64) := by
  unfold Args.dq
  congr 1
  have e : (if d < 64 then r else 256 + r) = 256 * (d / 64) + r := by split <;> omega
  rw [e, ← Finset.sum_subset (Finset.range_mono (show 256 * (i + 1) ≤ 2048 by omega)) fun s _ hs => ?_]
  · refine Finset.sum_congr rfl fun t _ => ?_
    rw [num_dz A b p i (by omega) hi, show (256 * (d / 64) + r) / 256 = d / 64 by omega, show (256 * (d / 64) + r) % 256 = r by omega]
    rfl
  · unfold Args.dz; rw [if_neg, zero_mul]; simp at hs; omega

/-- The shares of the points before `i`, together. -/
theorem dk_zero {t s : ℕ} (hs : t ≤ s) : A.dz b h t s = 0 := by unfold Args.dz; rw [if_neg (by omega)]
theorem a_zero {t s : ℕ} (hs : t ≤ s) : A.a b h t s = 0 := by unfold Args.a; rw [if_neg (by omega)]

end Cert.Sb

end
-- ==== Proof.Sb.Value.lean ====
/-
  What the stick-breaking attention's backward call leaves in its three result arrays, when the arguments are real: the
  gradients of the queries, keys and values.
-/
module

public import proofs.«01_k».proof.Proof.Sb.Launch
public import proofs.«01_k».proof.Proof.Sb.Grad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelSbIdeal Cert.KernelSbIdeal.Gen
open Finset (range)

namespace Cert.Sb

/-- The four arguments hold these numbers. -/
structure Args.In (A : Args) (a0 a1 a2 : FVec Ideal S2x2048x8x64 .f32) (a3 : FVec Ideal S2x2048x512 .f32) : Prop where
  q : ∀ b t h d, a0 (ix4 b t h d) = ((A.q b.val t.val h.val d.val : ℝ) : EReal)
  k : ∀ b t h d, a1 (ix4 b t h d) = ((A.k b.val t.val h.val d.val : ℝ) : EReal)
  v : ∀ b t h d, a2 (ix4 b t h d) = ((A.v b.val t.val h.val d.val : ℝ) : EReal)
  o : ∀ b t l, a3 (ix3 b t l) = ((A.o b.val t.val l.val : ℝ) : EReal)

/-- What the host makes of the three head arrays: side by side, heads and lanes in one axis. -/
def qkv (a0 a1 a2 : FVec Ideal S2x2048x8x64 .f32) : FVec Ideal S2x2048x1536 .bf16 :=
  truncf .bf16 (concatenate S2x2048x1536 2 [⟨S2x2048x512, shapeCast _ a0 shapeCasts_S2x2048x8x64_S2x2048x512⟩,
    ⟨S2x2048x512, shapeCast _ a1 shapeCasts_S2x2048x8x64_S2x2048x512⟩, ⟨S2x2048x512, shapeCast _ a2 shapeCasts_S2x2048x8x64_S2x2048x512⟩]
    concatenates_S2x2048x512_S2x2048x512_S2x2048x512_S2x2048x1536_d2) bitsLt_bf16_f32

section Host

variable {A : Args} {a0 a1 a2 : FVec Ideal S2x2048x8x64 .f32} {a3 : FVec Ideal S2x2048x512 .f32} (h : A.In a0 a1 a2 a3)

include h

theorem Args.In.qkv0 (b : Fin 2) (t : Fin 2048) (d : Fin 1536) (hd : d.val < 512) :
    qkv a0 a1 a2 (ix3 b t d) = ((A.q b t (d.val / 64) (d.val % 64) : ℝ) : EReal) := by
  pointwise [qkv]
  rw [dif_pos hd, h.q]

theorem Args.In.qkv1 (b : Fin 2) (t : Fin 2048) (d : Fin 1536) (hd : 512 ≤ d.val) (hd' : d.val < 1024) :
    qkv a0 a1 a2 (ix3 b t d) = ((A.k b t ((d.val - 512) / 64) ((d.val - 512) % 64) : ℝ) : EReal) := by
  pointwise [qkv]
  rw [dif_neg (by omega), dif_pos (by omega), h.k]

theorem Args.In.qkv2 (b : Fin 2) (t : Fin 2048) (d : Fin 1536) (hd : 1024 ≤ d.val) :
    qkv a0 a1 a2 (ix3 b t d) = ((A.v b t ((d.val - 1024) / 64) ((d.val - 1024) % 64) : ℝ) : EReal) := by
  pointwise [qkv]
  rw [dif_neg (by omega), dif_neg (by omega), h.v]
  dsimp only
  rw [Nat.sub_sub]

end Host

variable (m : (ℓ : Loc nD τ sig) → Buf (Elt Ideal) ℓ) (c : Dev nD)

/-- Point `t` is sequence `t / 32`, pair of heads `t / 8 % 4`, chunk of queries `t % 8`. -/
theorem idx : ∀ t : Fin grid0.N, win0_0.index t = ![t.val / 32, t.val % 8, t.val / 8 % 4] ∧ win0_1.index t = ![t.val / 32, 0, 4 + t.val / 8 % 4]
    ∧ win0_2.index t = ![t.val / 32, 0, 8 + t.val / 8 % 4] ∧ win0_3.index t = ![t.val / 32, t.val % 8, t.val / 8 % 4]
    ∧ win0_4.index t = ![t.val / 32, t.val % 8, t.val / 8 % 4] ∧ win0_5.index t = ![t.val / 32, 0, t.val / 8 % 4]
    ∧ win0_6.index t = ![t.val / 32, 0, t.val / 8 % 4] := by decide +kernel

theorem V_qkv : V m c main_v4 = qkv (m ((c : Thread nD τ).loc main_arg0)) (m ((c : Thread nD τ).loc main_arg1)) (m ((c : Thread nD τ).loc main_arg2)) := by
  unfold V
  simp only [hostOps0]
  after_results_simp <;> rfl

theorem V_do : V m c main_v5 = (truncf .bf16 (m ((c : Thread nD τ).loc main_arg3) : FVec Ideal S2x2048x512 .f32) bitsLt_bf16_f32 : FVec Ideal S2x2048x512 .bf16) := by
  unfold V
  simp only [hostOps0]
  after_results_simp <;> rfl

variable (A : Args) (hA : A.In (m ((c : Thread nD τ).loc main_arg0)) (m ((c : Thread nD τ).loc main_arg1)) (m ((c : Thread nD τ).loc main_arg2))
  (m ((c : Thread nD τ).loc main_arg3)))

/-- The numbers of point `t`. -/
abbrev numAt (t : ℕ) : Num := A.num (t / 32) (t / 8 % 4) (t % 8)

theorem pt_lt (t : Fin (cfg0 (F := Ideal)).N) : t.val < 64 := t.isLt

include hA

theorem blkq (t : Fin (cfg0 (F := Ideal)).N) : Is3 (n := 256) (m := 128) (iblk m c 0 t) (numAt A t).q := fun r d => by
  have ht := pt_lt t
  have e : ((cfg0.win 0).blk t).view.emb (ix3 0 r d : S1x256x128.Idx)
      = (ix3 ⟨t.val / 32, by omega⟩ ⟨256 * (t.val % 8) + r.val, by omega⟩ ⟨128 * (t.val / 8 % 4) + d.val, by omega⟩ : S2x2048x1536.Idx) := by blk_ext [idx t]
  refine (congrArg (V m c main_v4) e).trans ?_
  rw [V_qkv, hA.qkv0 _ _ _ (by dsimp only; omega)]
  unfold numAt Args.num; dsimp only
  rw [show (128 * (t.val / 8 % 4) + d.val) / 64 = 2 * (t.val / 8 % 4) + d.val / 64 by omega, show (128 * (t.val / 8 % 4) + d.val) % 64 = d.val % 64 by omega]

theorem blkk (t : Fin (cfg0 (F := Ideal)).N) : Is3 (n := 2048) (m := 128) (iblk m c 1 t) (numAt A t).k := fun r d => by
  have ht := pt_lt t
  have e : ((cfg0.win 1).blk t).view.emb (ix3 0 r d : S1x2048x128.Idx)
      = (ix3 ⟨t.val / 32, by omega⟩ r ⟨128 * (4 + t.val / 8 % 4) + d.val, by omega⟩ : S2x2048x1536.Idx) := by blk_ext [idx t]
  refine (congrArg (V m c main_v4) e).trans ?_
  rw [V_qkv, hA.qkv1 _ _ _ (by dsimp only; omega) (by dsimp only; omega)]
  unfold numAt Args.num; dsimp only
  rw [show (128 * (4 + t.val / 8 % 4) + d.val - 512) / 64 = 2 * (t.val / 8 % 4) + d.val / 64 by omega, show (128 * (4 + t.val / 8 % 4) + d.val - 512) % 64 = d.val % 64 by omega]

theorem blkv (t : Fin (cfg0 (F := Ideal)).N) : Is3 (n := 2048) (m := 128) (iblk m c 2 t) (numAt A t).v := fun r d => by
  have ht := pt_lt t
  have e : ((cfg0.win 2).blk t).view.emb (ix3 0 r d : S1x2048x128.Idx)
      = (ix3 ⟨t.val / 32, by omega⟩ r ⟨128 * (8 + t.val / 8 % 4) + d.val, by omega⟩ : S2x2048x1536.Idx) := by blk_ext [idx t]
  refine (congrArg (V m c main_v4) e).trans ?_
  rw [V_qkv, hA.qkv2 _ _ _ (by dsimp only; omega)]
  unfold numAt Args.num; dsimp only
  rw [show (128 * (8 + t.val / 8 % 4) + d.val - 1024) / 64 = 2 * (t.val / 8 % 4) + d.val / 64 by omega, show (128 * (8 + t.val / 8 % 4) + d.val - 1024) % 64 = d.val % 64 by omega]

theorem blkd (t : Fin (cfg0 (F := Ideal)).N) : Is3 (n := 256) (m := 128) (iblk m c 3 t) (numAt A t).d := fun r d => by
  have ht := pt_lt t
  have e : ((cfg0.win 3).blk t).view.emb (ix3 0 r d : S1x256x128.Idx)
      = (ix3 ⟨t.val / 32, by omega⟩ ⟨256 * (t.val % 8) + r.val, by omega⟩ ⟨128 * (t.val / 8 % 4) + d.val, by omega⟩ : S2x2048x512.Idx) := by blk_ext [idx t]
  refine (congrArg (V m c main_v5) e).trans ?_
  rw [V_do]
  pointwise []
  exact hA.o _ _ _

theorem numOf (t : Fin (cfg0 (F := Ideal)).N) : (numAt A t).Of (blk m c t) :=
  ⟨rfl, Nat.mod_lt _ (by decide), blkq m c A hA t, blkk m c A hA t, blkv m c A hA t, blkd m c A hA t⟩

/-! ## The accumulators -/

omit hA in
/-- What the queries before chunk `i` give to key `s`. -/
def Args.dkTo (b p i s d : ℕ) : ℝ := ∑ t ∈ range (256 * i), A.dz b (2 * p + d / 64) t s * (A.q b t (2 * p + d / 64) (d % 64) * (1 / 8))
omit hA in
def Args.dvTo (b p i s d : ℕ) : ℝ := ∑ t ∈ range (256 * i), A.a b (2 * p + d / 64) t s * A.o b t (128 * p + d)

omit hA in
theorem dkTo_succ (b p i s : ℕ) {d : ℕ} (hi : i < 8) (hd : d < 128) :
    (if s < 256 * (i + 1) then A.dkTo b p i s d + ∑ r ∈ range 512, (A.num b p i).dz r s * (A.num b p i).Q r d else A.dkTo b p i s d)
      = A.dkTo b p (i + 1) s d := by
  have e : A.dkTo b p (i + 1) s d = A.dkTo b p i s d
      + ∑ r ∈ range 256, A.dz b (2 * p + d / 64) (256 * i + r) s * (A.q b (256 * i + r) (2 * p + d / 64) (d % 64) * (1 / 8)) := by
    unfold Args.dkTo; rw [Nat.mul_succ, Finset.sum_range_add]
  split
  · rw [num_dk A b p i hi hd, e]
  · rw [e, Finset.sum_eq_zero, add_zero]
    intro r hr; have := Finset.mem_range.1 hr
    rw [dk_zero A b _ (by omega), zero_mul]

omit hA in
theorem dvTo_succ (b p i s : ℕ) {d : ℕ} (hi : i < 8) (hd : d < 128) :
    (if s < 256 * (i + 1) then A.dvTo b p i s d + ∑ r ∈ range 512, (A.num b p i).at r s * stack (A.num b p i).d r d else A.dvTo b p i s d)
      = A.dvTo b p (i + 1) s d := by
  have e : A.dvTo b p (i + 1) s d = A.dvTo b p i s d
      + ∑ r ∈ range 256, A.a b (2 * p + d / 64) (256 * i + r) s * A.o b (256 * i + r) (128 * p + d) := by
    unfold Args.dvTo; rw [Nat.mul_succ, Finset.sum_range_add]
  split
  · rw [num_dv A b p i hi hd, e]
  · rw [e, Finset.sum_eq_zero, add_zero]
    intro r hr; have := Finset.mem_range.1 hr
    rw [a_zero A b _ (by omega), zero_mul]

omit hA in
theorem pay47_is : Is (k0_pay47 (F := Ideal)) fun _ _ => 0 := fun r d => by pointwise [k0_pay47]; simp
omit hA in
theorem pay48_is : Is (k0_pay48 (F := Ideal)) fun _ _ => 0 := fun r d => by pointwise [k0_pay48]; simp

/-- The pass of point `t`, when the accumulators hold the queries before. -/
theorem pass_is (t : Fin (cfg0 (F := Ideal)).N) {dk dv : FVec Ideal S2048x128 .f32}
    (hk : Is (start (blk m c t) dk k0_pay47) fun s d => A.dkTo (t.val / 32) (t.val / 8 % 4) (t.val % 8) s d)
    (hv : Is (start (blk m c t) dv k0_pay48) fun s d => A.dvTo (t.val / 32) (t.val / 8 % 4) (t.val % 8) s d) :
    Is (endK (blk m c t) dk dv) (fun s d => A.dkTo (t.val / 32) (t.val / 8 % 4) (t.val % 8 + 1) s d)
      ∧ Is (endV (blk m c t) dk dv) (fun s d => A.dvTo (t.val / 32) (t.val / 8 % 4) (t.val % 8 + 1) s d)
      ∧ Is3 (endQ (blk m c t) dk dv) (fun r d => A.dq (t.val / 32) (2 * (t.val / 8 % 4) + d / 64) (256 * (t.val % 8) + r) (d % 64)) := by
  have h := numOf m c A hA t
  have h8 : t.val % 8 < 8 := Nat.mod_lt _ (by decide)
  have hp := h.pass hk hv (j := t.val % 8) le_rfl
  unfold endK endV endQ whole
  rw [h.walk]
  refine ⟨(h.outK hp).congr fun s _ d hd => dkTo_succ A _ _ _ s h8 hd, (h.outV hp).congr fun s _ d hd => dvTo_succ A _ _ _ s h8 hd, ?_⟩
  exact (h.outQ hp).congr fun r hr d hd => num_dq A _ _ _ h8 hr hd

/-- The accumulators as a point starts. -/
theorem acc_start (t : Fin (cfg0 (F := Ideal)).N) :
    Is (start (blk m c t) (acc m c t.val).1 k0_pay47) (fun s d => A.dkTo (t.val / 32) (t.val / 8 % 4) (t.val % 8) s d)
      ∧ Is (start (blk m c t) (acc m c t.val).2 k0_pay48) (fun s d => A.dvTo (t.val / 32) (t.val / 8 % 4) (t.val % 8) s d) := by
  obtain ⟨n, hn⟩ := t
  induction n with
  | zero =>
    unfold start
    rw [if_pos (show (blk m c ⟨0, hn⟩).i = 0 from rfl), if_pos (show (blk m c ⟨0, hn⟩).i = 0 from rfl)]
    exact ⟨pay47_is.congr fun _ _ _ _ => by simp [Args.dkTo], pay48_is.congr fun _ _ _ _ => by simp [Args.dvTo]⟩
  | succ n ih =>
    have hs := acc_succ m c ⟨n, by omega⟩
    obtain ⟨hk, hv⟩ := ih (by omega)
    obtain ⟨hk, hv, -⟩ := pass_is m c A hA ⟨n, by omega⟩ hk hv
    dsimp only at hs hk hv ⊢
    rw [hs]
    unfold start
    by_cases h0 : (n + 1) % 8 = 0
    · rw [if_pos (show (blk m c ⟨n + 1, hn⟩).i = 0 from h0), if_pos (show (blk m c ⟨n + 1, hn⟩).i = 0 from h0), h0]
      exact ⟨pay47_is.congr fun _ _ _ _ => by simp [Args.dkTo], pay48_is.congr fun _ _ _ _ => by simp [Args.dvTo]⟩
    · rw [if_neg (show ¬ (blk m c ⟨n + 1, hn⟩).i = 0 from h0), if_neg (show ¬ (blk m c ⟨n + 1, hn⟩).i = 0 from h0),
        show (n + 1) / 32 = n / 32 by omega, show (n + 1) / 8 = n / 8 by omega, show (n + 1) % 8 = n % 8 + 1 by omega]
      exact ⟨hk, hv⟩

theorem acc_end (t : Fin (cfg0 (F := Ideal)).N) :
    Is (acc m c (t.val + 1)).1 (fun s d => A.dkTo (t.val / 32) (t.val / 8 % 4) (t.val % 8 + 1) s d)
      ∧ Is (acc m c (t.val + 1)).2 (fun s d => A.dvTo (t.val / 32) (t.val / 8 % 4) (t.val % 8 + 1) s d) := by
  obtain ⟨hk, hv⟩ := acc_start m c A hA t
  obtain ⟨hk, hv, -⟩ := pass_is m c A hA t hk hv
  rw [acc_succ]
  exact ⟨hk, hv⟩

/-! ## The three arrays -/

omit hA in
/-- An array of heads side by side, from its numbers. -/
def heads (f : ℕ → ℕ → ℕ → ℕ → ℝ) : FVec Ideal S2x2048x512 .bf16 :=
  fun y => ((f (y 0).val ((y 2).val / 64) (y 1).val ((y 2).val % 64) : ℝ) : EReal)

theorem final4 : (dats m 0 c).arrAt 4 (cfg0 (F := Ideal)).N = heads A.dq := by
  refine (dats m 0 c).arrAt_eq_of_covers 4 _ (by decide +kernel) fun t _ y => ?_
  blk_simp
  rw [after4]
  obtain ⟨p, l, rfl⟩ : ∃ (p : Fin 256) (l : Fin 128), y = (ix3 0 p l : S1x256x128.Idx) :=
    ⟨y 1, y 2, (eq_ix3 y).trans (by rw [show y 0 = (0 : Fin 1) from Fin.eq_zero (y 0 : Fin 1)])⟩
  have ht := pt_lt t
  have he : ((cfg0.win 4).blk t).view.emb (ix3 0 p l : S1x256x128.Idx)
      = (ix3 ⟨t.val / 32, by omega⟩ ⟨256 * (t.val % 8) + p.val, by omega⟩ ⟨128 * (t.val / 8 % 4) + l.val, by omega⟩ : S2x2048x512.Idx) := by
    blk_ext [idx t]
  refine Eq.trans ?_ (congrArg (heads A.dq) he.symm)
  obtain ⟨hk, hv⟩ := acc_start m c A hA t
  refine ((pass_is m c A hA t hk hv).2.2 p l).trans ?_
  unfold heads; dsimp only [ix3]
  have e1 : (128 * (t.val / 8 % 4) + l.val) / 64 = 2 * (t.val / 8 % 4) + l.val / 64 := by omega
  have e2 : (128 * (t.val / 8 % 4) + l.val) % 64 = l.val % 64 := by omega
  simp [e1, e2]

theorem final5 : (dats m 0 c).arrAt 5 (cfg0 (F := Ideal)).N = heads A.dk := by
  refine (dats m 0 c).arrAt_eq_of_covers 5 _ (by decide +kernel) fun t hf y => ?_
  blk_simp
  rw [after5]
  obtain ⟨p, l, rfl⟩ : ∃ (p : Fin 2048) (l : Fin 128), y = (ix3 0 p l : S1x2048x128.Idx) :=
    ⟨y 1, y 2, (eq_ix3 y).trans (by rw [show y 0 = (0 : Fin 1) from Fin.eq_zero (y 0 : Fin 1)])⟩
  have ht := pt_lt t
  have h7 := (flush0_5 t).mp hf
  have he : ((cfg0.win 5).blk t).view.emb (ix3 0 p l : S1x2048x128.Idx)
      = (ix3 ⟨t.val / 32, by omega⟩ p ⟨128 * (t.val / 8 % 4) + l.val, by omega⟩ : S2x2048x512.Idx) := by
    blk_ext [idx t]
  refine Eq.trans ?_ (congrArg (heads A.dk) he.symm)
  have hk := (acc_end m c A hA t).1
  generalize acc m c (t.val + 1) = X at hk ⊢
  pointwise [k0_pay3]
  refine (hk p l).trans ?_
  unfold heads Args.dk Args.dkTo; dsimp only [ix3]
  rw [h7]
  have e1 : (128 * (t.val / 8 % 4) + l.val) / 64 = 2 * (t.val / 8 % 4) + l.val / 64 := by omega
  have e2 : (128 * (t.val / 8 % 4) + l.val) % 64 = l.val % 64 := by omega
  simp [e1, e2]

theorem final6 : (dats m 0 c).arrAt 6 (cfg0 (F := Ideal)).N = heads A.dv := by
  refine (dats m 0 c).arrAt_eq_of_covers 6 _ (by decide +kernel) fun t hf y => ?_
  blk_simp
  rw [after6]
  obtain ⟨p, l, rfl⟩ : ∃ (p : Fin 2048) (l : Fin 128), y = (ix3 0 p l : S1x2048x128.Idx) :=
    ⟨y 1, y 2, (eq_ix3 y).trans (by rw [show y 0 = (0 : Fin 1) from Fin.eq_zero (y 0 : Fin 1)])⟩
  have ht := pt_lt t
  have h7 := (flush0_6 t).mp hf
  have he : ((cfg0.win 6).blk t).view.emb (ix3 0 p l : S1x2048x128.Idx)
      = (ix3 ⟨t.val / 32, by omega⟩ p ⟨128 * (t.val / 8 % 4) + l.val, by omega⟩ : S2x2048x512.Idx) := by
    blk_ext [idx t]
  refine Eq.trans ?_ (congrArg (heads A.dv) he.symm)
  have hk := (acc_end m c A hA t).2
  generalize acc m c (t.val + 1) = X at hk ⊢
  pointwise [k0_pay4]
  refine (hk p l).trans ?_
  unfold heads Args.dv Args.dvTo; dsimp only [ix3]
  rw [h7]
  have e1 : (128 * (t.val / 8 % 4) + l.val) / 64 = 2 * (t.val / 8 % 4) + l.val / 64 := by omega
  have e2 : 128 * (t.val / 8 % 4) + l.val = 64 * (2 * (t.val / 8 % 4) + l.val / 64) + l.val % 64 := by omega
  have e3 : (128 * (t.val / 8 % 4) + l.val) % 64 = l.val % 64 := by omega
  simp [e1, e3, ← e2]

end Cert.Sb

end
-- ==== Proof.Sb.Ref.lean ====
/-
  What the reference's three results are, operation by operation: the names of its stages, and their entries where the
  arguments are real.
-/
module

public import proofs.«01_k».proof.Proof.Gen.ReferenceSbIdeal.Run
public import proofs.«01_k».proof.Proof.Sb.Window
public import proofs.«01_k».proof.Proof.Reals
public import proofs.«01_k».proof.Proof.Sb.Value

@[expose] public section

set_option maxRecDepth 16384

noncomputable section

open Idealize.ShloMosaic Idealize.ShloMosaic.TcCoe Idealize.SL.Sem
open Cert.ReferenceSbIdeal Cert.ReferenceSbIdeal.Gen
open Finset (range)

namespace Cert.SbRef

open Cert.Sb (Is4 lk Args)

/-- Scores of every query against every key, by sequence and head. -/
local notation "R4" => FVec Ideal S2x8x2048x2048 FTy.f32

/-! ## The stages -/

def zero4 : R4 := broadcastInDim S2x8x2048x2048 ![] bcast_S_S2x8x2048x2048 (constant S_ .f32 0x00000000#32)
def inf4 : R4 := broadcastInDim S2x8x2048x2048 ![] bcast_S_S2x8x2048x2048 (constant S_ .f32 0x7F800000#32)
def eighth4 : R4 := broadcastInDim S2x8x2048x2048 ![] bcast_S_S2x8x2048x2048 (constant S_ .f32 0x3E000000#32)

/-- Keys before the query. -/
def mask : IVec S2x8x2048x2048 1 := broadcastInDim S2x8x2048x2048 ![2, 3] bcast_S2048x2048_S2x8x2048x2048_2_3
  (cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

def nz (q k : FVec Ideal S2x2048x8x64 .f32) : R4 :=
  Host.negf (mulf (Host.dotGeneral dot_S2x2048x8x64_S2x2048x8x64_S2x8x2048x2048_3_3_1_1_02_02 none q k) eighth4)
def ot (o : FVec Ideal S2x2048x512 .f32) : FVec Ideal S2x8x64x2048 .f32 :=
  transpose S2x8x64x2048 [0, 2, 3, 1] (shapeCast _ o shapeCasts_S2x2048x512_S2x2048x8x64) transposes_S2x2048x8x64_S2x8x64x2048_0_2_3_1
def da (o : FVec Ideal S2x2048x512 .f32) (v : FVec Ideal S2x2048x8x64 .f32) : R4 :=
  Host.dotGeneral dot_S2x8x64x2048_S2x2048x8x64_S2x8x2048x2048_2_3_3_1_01_02 none (ot o) v

/-- `log (1 + e^x)`, as it is computed. -/
def softplus (x : R4) : R4 := select (cmpf .une (subf x zero4) (subf x zero4)) (addf x zero4)
  (addf (maximumf x zero4) (Host.log1p (Host.exp (Host.negf (Host.absf (subf x zero4))))))
/-- The derivative of `softplus` at `x`. -/
def logistic (x : R4) : R4 :=
  Host.exp (subf (select (cmpf .oeq x inf4) zero4 x) (select (cmpf .oeq (softplus x) inf4) zero4 (softplus x)))
def masked (x : R4) : R4 := select mask x zero4
def back (x : R4) : R4 := Host.reduceWindowAdd ![1, 1, 1, 2048] ![1, 1, 1, 1] ![0, 0, 0, 0] ![0, 0, 0, 2047] x
  (broadcastInDim S_ ![] bcast_S_S_ (constant S_ .f32 0x00000000#32)) reduceWindows_S2x8x2048x2048_S2x8x2048x2048_w1s1p0_0_w1s1p0_0_w1s1p0_0_w2048s1p0_2047 h_S_
def front (x : R4) : R4 := Host.reduceWindowAdd ![1, 1, 1, 2048] ![1, 1, 1, 1] ![0, 0, 0, 2047] ![0, 0, 0, 0] x
  (broadcastInDim S_ ![] bcast_S_S_ (constant S_ .f32 0x00000000#32)) reduceWindows_S2x8x2048x2048_S2x8x2048x2048_w1s1p0_0_w1s1p0_0_w1s1p0_0_w2048s1p2047_0 h_S_

/-- The weights before their mask, from the negated scores `y`. -/
def wt (y : R4) : R4 := Host.exp (addf (Host.negf (softplus y))
  (subf (back (masked (Host.negf (softplus (Host.negf y))))) (masked (Host.negf (softplus (Host.negf y))))))
def e (y a : R4) : R4 := mulf (masked a) (wt y)
def before (x : R4) : R4 := masked (addf (Host.negf x) (front x))
def dz (y a : R4) : R4 := mulf (addf (Host.negf (mulf (Host.negf (e y a)) (logistic y)))
  (Host.negf (Host.negf (mulf (Host.negf (before (e y a))) (logistic (Host.negf y)))))) eighth4

def outQ (g : R4) (k : FVec Ideal S2x2048x8x64 .f32) : FVec Ideal S2x2048x512 .bf16 := truncf .bf16 (shapeCast _ (transpose S2x2048x8x64 [0, 2, 1, 3]
  (Host.dotGeneral dot_S2x8x2048x2048_S2x2048x8x64_S2x8x2048x64_3_1_2_3_01_02 none g k) transposes_S2x8x2048x64_S2x2048x8x64_0_2_1_3) shapeCasts_S2x2048x8x64_S2x2048x512) bitsLt_bf16_f32
def outK (g : R4) (q : FVec Ideal S2x2048x8x64 .f32) : FVec Ideal S2x2048x512 .bf16 := truncf .bf16 (shapeCast _ (transpose S2x2048x8x64 [0, 2, 1, 3]
  (Host.dotGeneral dot_S2x8x2048x2048_S2x2048x8x64_S2x8x2048x64_2_1_3_3_01_02 none g q) transposes_S2x8x2048x64_S2x2048x8x64_0_2_1_3) shapeCasts_S2x2048x8x64_S2x2048x512) bitsLt_bf16_f32
def outV (o : FVec Ideal S2x8x64x2048 .f32) (w : R4) : FVec Ideal S2x2048x512 .bf16 := truncf .bf16 (shapeCast _ (transpose S2x2048x8x64 [0, 3, 1, 2]
  (Host.dotGeneral dot_S2x8x64x2048_S2x8x2048x2048_S2x8x64x2048_3_2_2_3_01_01 none o w) transposes_S2x8x64x2048_S2x2048x8x64_0_3_1_2) shapeCasts_S2x2048x8x64_S2x2048x512) bitsLt_bf16_f32

section Results

variable (m : (ℓ : Loc nD τ sig) → Buf (Elt Ideal) ℓ) (c : Dev nD)

theorem res0 : Cert.ReferenceSbIdeal.Value.res_main_v43 m c = outQ (dz (nz (m ((c : Thread nD τ).loc main_arg0)) (m ((c : Thread nD τ).loc main_arg1))) (da (m ((c : Thread nD τ).loc main_arg3)) (m ((c : Thread nD τ).loc main_arg2)))) (m ((c : Thread nD τ).loc main_arg1)) := by
  unfold Cert.ReferenceSbIdeal.Value.res_main_v43; rfl
theorem res1 : Cert.ReferenceSbIdeal.Value.res_main_v45 m c = outK (dz (nz (m ((c : Thread nD τ).loc main_arg0)) (m ((c : Thread nD τ).loc main_arg1))) (da (m ((c : Thread nD τ).loc main_arg3)) (m ((c : Thread nD τ).loc main_arg2)))) (m ((c : Thread nD τ).loc main_arg0)) := by
  unfold Cert.ReferenceSbIdeal.Value.res_main_v45; rfl
theorem res2 : Cert.ReferenceSbIdeal.Value.res_main_v47 m c = outV (ot (m ((c : Thread nD τ).loc main_arg3))) (masked (wt (nz (m ((c : Thread nD τ).loc main_arg0)) (m ((c : Thread nD τ).loc main_arg1))))) := by
  unfold Cert.ReferenceSbIdeal.Value.res_main_v47; rfl

end Results

/-! ## Real entries -/

theorem lk_neg (z : ℝ) : lk (-z) = z + lk z := by
  unfold lk
  have h1 : (1 : ℝ) + Real.exp z = Real.exp z * (1 + Real.exp (-z)) := by
    rw [mul_add, ← Real.exp_add]; simp [add_comm]
  rw [h1, Real.log_mul (Real.exp_pos _).ne' (by positivity), Real.log_exp]; ring

theorem exp_lk (z : ℝ) : Real.exp (lk z) = 1 - Real.exp (z + lk z) := by
  have h : (0 : ℝ) < 1 + Real.exp z := by positivity
  rw [Real.exp_add]; unfold lk; rw [Real.exp_neg, Real.exp_log h]; field_simp; linarith

theorem coe_max (a b : ℝ) : max (a : EReal) (b : EReal) = ((max a b : ℝ) : EReal) := EReal.coe_strictMono.monotone.map_max.symm

theorem lk_max (x : ℝ) : max (x : EReal) 0 + Ideal.log1p (Ideal.exp (-(max (x : EReal) (-(x : EReal))))) = ((- lk (x) : ℝ) : EReal) := by
  have h0 : (0 : EReal) = ((0 : ℝ) : EReal) := rfl
  have h1 : (1 : EReal) = ((1 : ℝ) : EReal) := rfl
  unfold Ideal.log1p
  rw [h0, h1, ← EReal.coe_neg, coe_max, coe_max, ← EReal.coe_neg, Ideal.exp_coe, ← EReal.coe_add, Ideal.log_coe, if_neg (not_le.2 (by positivity)), ← EReal.coe_add]
  congr 1
  rcases le_total x 0 with h | h
  · rw [max_eq_right h, max_eq_right (by linarith)]; unfold lk; simp
  · rw [max_eq_left h, max_eq_left (by linarith)]
    have := lk_neg x
    unfold lk at this ⊢
    linarith

section Stages

variable {x y : R4} {f g : ℕ → ℕ → ℕ → ℕ → ℝ} (hx : Is4 x f) (hy : Is4 y g)

include hx

theorem masked_is : Is4 (masked x) fun b h t s => if s < t then f b h t s else 0 := fun b h t s => by
  pointwise [masked, mask, zero4]
  rw [WordCmp.cmpi_slt_ofNat (by omega) (by omega), Cert.Sb.select_ofBool, hx b h t s]
  split <;> rfl

theorem neg_is : Is4 (Host.negf x : R4) fun b h t s => - f b h t s := fun b h t s => by
  pointwise []
  rw [hx b h t s, EReal.coe_neg]

theorem softplus_is : Is4 (softplus x) fun b h t s => - lk (f b h t s) := fun b h t s => by
  pointwise [softplus, zero4]
  rw [if_neg (fun h => h rfl), hx b h t s]
  exact lk_max _

theorem logistic_is : Is4 (logistic x) fun b h t s => Real.exp (f b h t s + lk (f b h t s)) := fun b h t s => by
  have e := softplus_is hx b h t s
  unfold logistic
  generalize softplus x = w at e
  pointwise [zero4, inf4]
  rw [e, hx b h t s, Reals.ofBits_inf, if_neg (EReal.coe_ne_top _), if_neg (EReal.coe_ne_top _), ← EReal.coe_sub, Ideal.exp_coe]
  dsimp only
  rw [sub_neg_eq_add]

theorem back_is : Is4 (back x) fun b h t s => ∑ r ∈ range 2048, f b h t r - ∑ r ∈ range s, f b h t r := by
  unfold back Host.reduceWindowAdd
  have e : (broadcastInDim S_ ![] bcast_S_S_ (constant S_ .f32 0x00000000#32) : FVec Ideal S_ .f32) (Shape.Idx.first h_S_) = 0 := by
    pointwise []
  rw [e]
  exact (Cert.Sb.window_sum 0 2047 hx _).congr fun b _ h _ t _ s hs => Cert.Sb.back_sum _ hs

theorem front_is : Is4 (front x) fun b h t s => ∑ r ∈ range (s + 1), f b h t r := by
  unfold front Host.reduceWindowAdd
  have e : (broadcastInDim S_ ![] bcast_S_S_ (constant S_ .f32 0x00000000#32) : FVec Ideal S_ .f32) (Shape.Idx.first h_S_) = 0 := by
    pointwise []
  rw [e]
  exact (Cert.Sb.window_sum 2047 0 hx _).congr fun b _ h _ t _ s hs => Cert.Sb.front_sum _ hs

theorem before_is : Is4 (before x) fun b h t s => if s < t then ∑ r ∈ range s, f b h t r else 0 := by
  have h1 := front_is hx
  unfold before
  generalize front x = w at h1
  refine (masked_is (f := fun b h t s => ∑ r ∈ range s, f b h t r) fun b h t s => ?_)
  pointwise []
  rw [hx b h t s, h1 b h t s, ← EReal.coe_neg, ← EReal.coe_add]
  dsimp only
  rw [Finset.sum_range_succ]
  congr 1; ring

end Stages

/-! ## The results -/

section Read

variable {g : R4} {x : FVec Ideal S2x2048x8x64 .f32} {o : FVec Ideal S2x2048x512 .f32} (b : Fin 2) (t : Fin 2048) (d : Fin 512)

theorem outQ_at : outQ g x (ix3 b t d) = ∑ s : Fin 2048, g (ix4 b ⟨d.val / 64, by omega⟩ t s) * x (ix4 b s ⟨d.val / 64, by omega⟩ ⟨d.val % 64, by omega⟩) := by
  pointwise [outQ]
theorem outK_at : outK g x (ix3 b t d) = ∑ s : Fin 2048, g (ix4 b ⟨d.val / 64, by omega⟩ s t) * x (ix4 b s ⟨d.val / 64, by omega⟩ ⟨d.val % 64, by omega⟩) := by
  pointwise [outK]
theorem outV_at : outV (ot o) g (ix3 b t d) = ∑ s : Fin 2048, o (ix3 b s d) * g (ix4 b ⟨d.val / 64, by omega⟩ s t) := by
  pointwise [outV, ot]

end Read

section Grad

variable {A : Args} {q k v : FVec Ideal S2x2048x8x64 .f32} {o : FVec Ideal S2x2048x512 .f32} (h : A.In q k v o)

include h

theorem nz_is : Is4 (nz q k) fun b n t s => - A.z b n t s := fun b n t s => by
  pointwise [nz, eighth4]
  rw [Cert.Sb.sum_mul (fun d => A.q b t n d) (fun d => A.k b s n d) (fun d => h.q b t n d) (fun d => h.k b s n d), Cert.Sb.ofBits_eighth,
    ← EReal.coe_mul, ← EReal.coe_neg]
  rfl

theorem da_is : Is4 (da o v) fun b n t s => A.da b n t s := fun b n t s => by
  pointwise [da, ot]
  rw [Cert.Sb.sum_mul (fun d => A.o b t (64 * n + d)) (fun d => A.v b s n d)
    (fun d => (h.o b t _).trans (by dsimp only; rw [Nat.mul_comm])) (fun d => h.v b s n d)]
  rfl

theorem kp_is : Is4 (masked (Host.negf (softplus (Host.negf (nz q k))))) fun b n t s => A.kp b n t s :=
  (masked_is (neg_is (softplus_is (neg_is (nz_is h))))).congr fun b _ n _ t _ s _ => by
    unfold Args.kp; simp only [neg_neg]

theorem wt_is : Is4 (wt (nz q k)) fun b n t s => Real.exp (A.z b n t s + lk (A.z b n t s) + (A.KP b n t 2048 - A.KP b n t (s + 1))) := fun b n t s => by
  have h1 := neg_is (softplus_is (nz_is h)) b n t s
  have h2 := kp_is h b n t s
  have h3 := back_is (kp_is h) b n t s
  unfold wt
  generalize (Host.negf (softplus (nz q k)) : R4) = w1 at h1
  generalize masked (Host.negf (softplus (Host.negf (nz q k)))) = w2 at h2 h3
  generalize back w2 = w3 at h3
  pointwise []
  rw [h1, h2, h3, ← EReal.coe_sub, ← EReal.coe_add, Ideal.exp_coe]
  congr 2
  dsimp only
  rw [neg_neg, lk_neg, show A.KP b n t (s + 1) = A.KP b n t s + A.kp b n t s from Finset.sum_range_succ _ _]
  unfold Args.KP; ring

theorem a_is : Is4 (masked (wt (nz q k))) fun b n t s => A.a b n t s :=
  (masked_is (wt_is h)).congr fun b _ n _ t _ s _ => by
    unfold Args.a Args.kp
    split
    · rw [add_comm (A.z b n t s)]
    · rfl

theorem e_is : Is4 (e (nz q k) (da o v)) fun b n t s => A.e b n t s := fun b n t s => by
  have h1 := masked_is (da_is h) b n t s
  have h2 := wt_is h b n t s
  unfold e
  generalize masked (da o v) = w1 at h1
  generalize wt (nz q k) = w2 at h2
  pointwise []
  rw [h1, h2, ← EReal.coe_mul]
  dsimp only
  unfold Args.e Args.a Args.kp
  congr 1
  split
  · rw [add_comm (A.z b n t s)]
  · simp

theorem dz_is : Is4 (dz (nz q k) (da o v)) fun b n t s => A.dz b n t s * (1 / 8) := fun b n t s => by
  have h1 := e_is h b n t s
  have h2 := before_is (e_is h) b n t s
  have h3 := logistic_is (nz_is h) b n t s
  have h4 := logistic_is (neg_is (nz_is h)) b n t s
  unfold dz
  generalize e (nz q k) (da o v) = w1 at h1 h2
  generalize before w1 = w2 at h2
  generalize logistic (nz q k) = w3 at h3
  generalize logistic (Host.negf (nz q k)) = w4 at h4
  pointwise [eighth4]
  rw [h1, h2, h3, h4, Cert.Sb.ofBits_eighth]
  simp only [← EReal.coe_neg, ← EReal.coe_mul, ← EReal.coe_add]
  congr 2
  rw [neg_neg, lk_neg, neg_add_cancel_left]
  unfold Args.dz
  by_cases hs : s.val < t.val
  · rw [if_pos hs, if_pos hs, exp_lk, Args.kp, if_pos hs, add_comm (lk _)]
    unfold Args.EP; ring
  · rw [if_neg hs, if_neg hs, show A.e b n t s = 0 by unfold Args.e Args.a; rw [if_neg hs, mul_zero]]
    ring

theorem outQ_is (b : Fin 2) (t : Fin 2048) (d : Fin 512) :
    outQ (dz (nz q k) (da o v)) k (ix3 b t d) = ((A.dq b (d.val / 64) t (d.val % 64) : ℝ) : EReal) := by
  have hg := dz_is h
  generalize dz (nz q k) (da o v) = w at hg ⊢
  rw [outQ_at, Cert.Sb.sum_mul (fun s => A.dz b (d.val / 64) t s * (1 / 8)) (fun s => A.k b s (d.val / 64) (d.val % 64))
    (fun s => hg b ⟨d.val / 64, by omega⟩ t s) (fun s => h.k b s ⟨d.val / 64, by omega⟩ ⟨d.val % 64, by omega⟩)]
  unfold Args.dq
  rw [Finset.sum_mul]
  exact congrArg _ (Finset.sum_congr rfl fun s _ => by ring)

theorem outK_is (b : Fin 2) (t : Fin 2048) (d : Fin 512) :
    outK (dz (nz q k) (da o v)) q (ix3 b t d) = ((A.dk b (d.val / 64) t (d.val % 64) : ℝ) : EReal) := by
  have hg := dz_is h
  generalize dz (nz q k) (da o v) = w at hg ⊢
  rw [outK_at, Cert.Sb.sum_mul (fun s => A.dz b (d.val / 64) s t * (1 / 8)) (fun s => A.q b s (d.val / 64) (d.val % 64))
    (fun s => hg b ⟨d.val / 64, by omega⟩ s t) (fun s => h.q b s ⟨d.val / 64, by omega⟩ ⟨d.val % 64, by omega⟩)]
  unfold Args.dk
  exact congrArg _ (Finset.sum_congr rfl fun s _ => by ring)

theorem outV_is (b : Fin 2) (t : Fin 2048) (d : Fin 512) :
    outV (ot o) (masked (wt (nz q k))) (ix3 b t d) = ((A.dv b (d.val / 64) t (d.val % 64) : ℝ) : EReal) := by
  have hg := a_is h
  generalize masked (wt (nz q k)) = w at hg ⊢
  rw [outV_at, Cert.Sb.sum_mul (fun s => A.o b s d) (fun s => A.a b (d.val / 64) s t) (fun s => h.o b s d) (fun s => hg b ⟨d.val / 64, by omega⟩ s t)]
  unfold Args.dv
  refine congrArg _ (Finset.sum_congr rfl fun s _ => ?_)
  rw [mul_comm, Nat.div_add_mod]

omit h in
/-- An array with these entries is the array of heads. -/
theorem heads_eq {X : FVec Ideal S2x2048x512 .bf16} {f : ℕ → ℕ → ℕ → ℕ → ℝ}
    (hX : ∀ (b : Fin 2) (t : Fin 2048) (d : Fin 512), X (ix3 b t d) = ((f b (d.val / 64) t (d.val % 64) : ℝ) : EReal)) : X = Cert.Sb.heads f :=
  funext fun y => (congrArg X (eq_ix3 y)).trans (hX (y 0) (y 1) (y 2))

end Grad

end Cert.SbRef

end
-- ==== Proof.Safe.lean ====
/-
  Running a program while forgetting what its buffers hold. A resource `M` is kept from one step to the next: memrefs the
  program only reads are held in it at contents it returns unchanged, memrefs it writes at any contents. A program is
  `Safe` for `M` when, holding `M`, it runs without a fault and returns `M` with some result.
-/
module

public import proofs.«01_k».proof.Proof.Sb.Own
public import Idealize.ShloMosaic.Lib.LoopRemainder

@[expose] public section

noncomputable section

namespace Cert.Safe

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type}
  [DecidableEq Name] {U : Type} [URA U] {Lvl : Type} {Λ : Labels} [Preorder Lvl]

local notation "𝕄" => MT nD τ sig Ix Val Name U Lvl

variable (defs : Defs nD τ sig Val Λ) (𝒱 : Variants) (c : Thread nD τ) (M : sProp (MT nD τ sig Ix Val Name U Lvl))

/-- The resource holds the memref, at contents it takes back unchanged. -/
def Reads {cs : CoreSpace} {s : Shape} {e : EltTy} (m : Memref sig c.2.kind cs s e) : Prop :=
  ∃ q : PosShare TreeShare, M ⊢ iprop(∃ X, owns c m q X ∗ (owns c m q X -∗ M))

/-- The resource holds the memref outright, and takes it back at any contents. -/
def Writes {cs : CoreSpace} {s : Shape} {e : EltTy} (m : Memref sig c.2.kind cs s e) : Prop :=
  M ⊢ iprop(∃ X, owns c m fullShare X ∗ (∀ X', owns c m fullShare X' -∗ M))

variable {c M} in
theorem Writes.reads {cs : CoreSpace} {s : Shape} {e : EltTy} {m : Memref sig c.2.kind cs s e} (h : Writes c M m) : Reads c M m := by
  refine ⟨fullShare, BIBase.Entails.trans h ?_⟩
  iintro ⟨%X, H, Hk⟩
  iexists X
  isplitl [H]; · iexact H
  iapply Hk

section Split

variable {c : Thread nD τ} {cs : CoreSpace} {s : Shape} {e : EltTy} {m : Memref sig c.2.kind cs s e} {P N : sProp (MT nD τ sig Ix Val Name U Lvl)}

theorem Reads.head {q : PosShare TreeShare} {X : s.Idx → Val e} : Reads c iprop(owns c m q X ∗ N) m := by
  refine ⟨q, ?_⟩
  iintro ⟨H, HN⟩
  iexists X
  isplitl [H]; · iexact H
  iintro H
  isplitl [H]; · iexact H
  iexact HN

theorem Reads.tail (h : Reads c N m) : Reads c iprop(P ∗ N) m := by
  obtain ⟨q, h⟩ := h
  refine ⟨q, ?_⟩
  iintro ⟨HP, HN⟩
  ihave H := h $$ HN
  icases H with ⟨%X, H, Hk⟩
  iexists X
  isplitl [H]; · iexact H
  iintro H
  isplitl [HP]; · iexact HP
  iapply Hk; iexact H

theorem Writes.last : Writes c (iprop(∃ X, owns c m fullShare X) : sProp (MT nD τ sig Ix Val Name U Lvl)) m := by
  unfold Writes
  iintro ⟨%X, H⟩
  iexists X
  isplitl [H]; · iexact H
  iintro %X' H
  iexists X'; iexact H

theorem Writes.head : Writes c iprop((∃ X, owns c m fullShare X) ∗ N) m := by
  unfold Writes
  iintro ⟨⟨%X, H⟩, HN⟩
  iexists X
  isplitl [H]; · iexact H
  iintro %X' H
  isplitl [H]; · iexists X'; iexact H
  iexact HN

theorem Writes.tail (h : Writes c N m) : Writes c iprop(P ∗ N) m := by
  unfold Writes at h ⊢
  iintro ⟨HP, HN⟩
  ihave H := h $$ HN
  icases H with ⟨%X, H, Hk⟩
  iexists X
  isplitl [H]; · iexact H
  iintro %X' H
  isplitl [HP]; · iexact HP
  iapply Hk; iexact H

end Split

/-- Holding the resource, the program runs without a fault and returns the resource with a result that satisfies `R`. -/
def Safe (bd : Option 𝒱.V) {α : Type} (R : α → Prop) (p : Prog (TpuEff nD τ sig Val Λ c.2) α) : Prop :=
  ∀ Q : α → sProp (MT nD τ sig Ix Val Name U Lvl), M ⊢ iprop((∀ r, ⌜R r⌝ -∗ M -∗ Q r) -∗ wp frame (wpE defs 𝒱 c bd) Set.univ p Q)

variable {defs 𝒱 c M} {bd : Option 𝒱.V} {α β : Type} {R : α → Prop}

theorem pure {a : α} (h : R a) : Safe defs 𝒱 c M bd R (.ret a) := by
  intro Q
  iintro H Hk
  rw [wp_ret]; imodintro
  iapply Hk $$ %a %h H

theorem bind {S : β → Prop} {p : Prog (TpuEff nD τ sig Val Λ c.2) α} {k : α → Prog (TpuEff nD τ sig Val Λ c.2) β}
    (hp : Safe defs 𝒱 c M bd R p) (hk : ∀ a, R a → Safe defs 𝒱 c M bd S (k a)) : Safe defs 𝒱 c M bd S (p >>= k) := by
  intro Q
  rw [wp_bind]
  iintro H HQ
  iapply (hp _) $$ H
  iintro %r %hr H
  iapply (hk r hr Q) $$ H
  iexact HQ

theorem load {cs : CoreSpace} {s : Shape} {e : EltTy} {m : Memref sig c.2.kind cs s e} (hm : Reads c M m) {r : Rect s}
    {hl : m.view.LoadsAt r.toLoadRect} {k : (r.shape.Idx → Val e) → Prog (TpuEff nD τ sig Val Λ c.2) α}
    (hk : ∀ v, Safe defs 𝒱 c M bd R (k v)) : Safe defs 𝒱 c M bd R (.op (.load m r.toLoadRect hl) k) := by
  obtain ⟨q, hm⟩ := hm
  intro Q
  iintro H HQ
  ihave H := hm $$ H
  icases H with ⟨%X, H, Hb⟩
  iapply (Own.wp_load 𝒱 c bd Set.univ _ rfl) $$ H
  iintro H
  iapply (hk _ Q) $$ [H Hb]
  · iapply Hb; iexact H
  iexact HQ

theorem store {cs : CoreSpace} {s : Shape} {e : EltTy} {m : Memref sig c.2.kind cs s e} (hm : Writes c M m) {off size : Fin s.rank → ℕ}
    {inb : ∀ a, off a + size a ≤ s.size a} {w : (Rect.unit off size inb).shape.Idx → Val e}
    {hx : (m.access (Rect.unit off size inb)).Stores Finset.univ}
    {hu : Finset.univ = Finset.univ ∨ ∀ a, (Rect.unit off size inb).stride a = 1}
    {k : PUnit → Prog (TpuEff nD τ sig Val Λ c.2) α} (hk : Safe defs 𝒱 c M bd R (k ⟨⟩)) :
    Safe defs 𝒱 c M bd R (.op (.store m (Rect.unit off size inb) w Finset.univ hx hu) k) := by
  unfold Writes at hm
  intro Q
  iintro H HQ
  ihave H := hm $$ H
  icases H with ⟨%X, H, Hb⟩
  iapply (Own.wp_store 𝒱 c bd Set.univ rfl) $$ H
  iintro H
  iapply (hk Q) $$ [H Hb]
  · iapply Hb; iexact H
  iexact HQ

theorem assume {P : Prop} {d : Decidable P} {k : PLift P → Prog (TpuEff nD τ sig Val Λ c.2) α} (h : P)
    (hk : Safe defs 𝒱 c M bd R (k ⟨h⟩)) : Safe defs 𝒱 c M bd R (.op (.assume P d) k) := by
  intro Q
  iintro H HQ
  iapply (wp_assume 𝒱 c bd Set.univ h)
  iapply (hk Q) $$ H
  iexact HQ

/-- A call whose function is safe at a smaller variant is followed by what is safe for such results. -/
theorem call {ℓ : Λ.Label} {a : Λ.Args ℓ} {k : Λ.Result ℓ → Prog (TpuEff nD τ sig Val Λ c.2) α} {S : Λ.Result ℓ → Prop} (v : 𝒱.V)
    (hv : ∀ u ∈ bd, 𝒱.lt v u) (hS : Safe defs 𝒱 c M (some v) S (defs c.2 ℓ a))
    (hk : ∀ r, S r → Safe defs 𝒱 c M bd R (k r)) : Safe defs 𝒱 c M bd R (.op (.call ℓ a) k) := by
  intro Q
  iintro H HP
  let T : sWPT (MT nD τ sig Ix Val Name U Lvl) (Λ.Result ℓ) := do
    sWPT.consume M
    let r : Λ.Result ℓ ← sWPT.arbitrary
    sWPT.assume (S r)
    sWPT.produce M
    Pure.pure r
  have hle : T ≤ wp frame (wpE defs 𝒱 c (some v)) Set.univ (defs c.2 ℓ a) := fun Q' => by
    show iprop(M ∗ ∀ r, ⌜S r⌝ -∗ (M -∗ Q' r)) ⊢ _
    iintro ⟨H, Hk⟩
    iapply (hS Q') $$ H
    iexact Hk
  iapply (wp_call_spec 𝒱 c bd Set.univ T v hv hle)
  have hT : T (fun r => wp frame (wpE defs 𝒱 c bd) Set.univ (k r) Q)
      = iprop(M ∗ ∀ r, ⌜S r⌝ -∗ (M -∗ wp frame (wpE defs 𝒱 c bd) Set.univ (k r) Q)) := rfl
  rw [hT]
  isplitl [H]; · iexact H
  iintro %r %hr H
  iapply (hk r hr Q) $$ H
  iexact HP

theorem loop {w : ℕ} {lb ub st : BitVec w} (hok : Scf.OK lb ub st) (init : β) (body : Fin (Scf.trips lb ub st) → β → Prog (TpuEff nD τ sig Val Λ c.2) β)
    (hb : ∀ k a, Safe defs 𝒱 c M bd (fun _ => True) (body k a)) : Safe defs 𝒱 c M bd (fun _ => True) (Scf.for lb ub st hok init body) := by
  intro Q
  iintro H HQ
  rw [← bind_pure (Scf.for lb ub st hok init body)]
  iapply (Scf.wp_for_bind _ (wpE defs 𝒱 c bd) Set.univ lb ub st hok init body (fun _ _ => M) (fun k a => by
    iintro H
    iapply (hb k a (fun _ => M)) $$ H
    iintro %r %hr H; iexact H)) $$ H
  iintro %r H
  rw [Prog.pure_eq_ret, wp_ret]; imodintro
  iapply HQ $$ %r %trivial H

attribute [irreducible] Safe

end Cert.Safe

end
-- ==== Proof.Sb.Frame.lean ====
/-
  The frame of the kernel as printed: every point's body runs without a fault whatever its buffers hold, the walk
  ending because each of its trips goes one chunk further back.
-/
module

public import proofs.«01_k».proof.Defs
public import proofs.«01_k».proof.Proof.Safe
public import proofs.«01_k».proof.Proof.Sb.Words
public import proofs.«01_k».proof.Proof.Gen.KernelSb.Skeleton
public import proofs.«01_k».proof.Proof.Gen.KernelSb.Launch
public import proofs.«01_k».proof.Proof.Gen.KernelSb.Points
public import Idealize.ShloMosaic.Lib.Pipeline.Frame
public import Idealize.ShloMosaic.Lib.Pipeline.FrameBody
public import Idealize.ShloMosaic.Lib.Pipeline.Kit

@[expose] public section

noncomputable section

namespace Cert.SbFrame

open Cert.KernelSb Cert.KernelSb.Gen
open Cert.Safe (Safe Reads Writes)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Idealize.ShloMosaic.Rounds
open Cert.Sb (W)

variable {F : FTy → Type} [FloatOps F]

local notation "𝕄" => MT nD τ sig Unit (Elt F) ℕ (UR sig nD τ) ℕ

/-- The walk's trips still to run bound its calls. -/
abbrev 𝒱₀ : Variants := Variants.nat

section Body

variable (c : Dev nD) (i : grid0.Coords) (M : sProp (MT nD τ sig Unit (Elt F) ℕ (UR sig nD τ) ℕ))
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S8x512x256 .f32) (harg12 : arg12.IsWhole)
  (arg13 : Memref sig .tc .vmem S8x512x256 .f32) (harg13 : arg13.IsWhole)

/-- A piece of the body, run at a core. -/
abbrev safe {α : Type} (bd : Option 𝒱₀.V) (p : Prog (TpuEff nD τ sig (Elt F) (Λ₀ F) .tc) α) : Prop :=
  Safe (defs₀ (F := F)) 𝒱₀ (c : Thread nD τ) M bd (fun _ => True) p

theorem guard_word (a : BitVec 1) (n : ℕ) (hn : n ≤ (i 2).val)
    (h : Scalar.andi (Scalar.cmpi .slt (W n) (BitVec.ofNat 32 (i 2).val)) a = 1#1) : n < (i 2).val := by
  rw [Cert.Sb.slt_eq i n hn] at h
  by_contra hc
  rw [if_neg hc] at h
  revert h; revert a; decide

/-- The walk, entered with `k` chunks left before the first: it comes back having gone at most that far. -/
theorem walk_safe (v20 : FVec F S512x128 .bf16) (h4 : Reads (c : Thread nD τ) M arg4) (h12 : Writes (c : Thread nD τ) M arg12)
    (h13 : Writes (c : Thread nD τ) M arg13) :
    ∀ k n, n + k = (i 2).val → ∀ a v, Safe (defs₀ (F := F)) 𝒱₀ (c : Thread nD τ) M (some k)
      (fun r : BitVec 32 × BitVec 32 × FVec F S512x1 .f32 => ∃ n ≤ (i 2).val, r.1 = W n)
      (defs₀ (F := F) .tc 1 ⟨i, arg4, harg4, v20, arg12, harg12, arg13, harg13, W n, a, v⟩) := by
  intro k
  induction k with
  | zero =>
    intro n hn a v
    show Safe (defs₀ (F := F)) 𝒱₀ (c : Thread nD τ) M (some 0) _ (cc0_while1 i arg4 harg4 v20 arg12 harg12 arg13 harg13 (W n) a v)
    rw [cc0_while1_eq_skeleton]; unfold cc0_while1_skel
    have ht : ¬ Scalar.andi (Scalar.cmpi .slt (W n) (BitVec.ofNat 32 (i 2).val)) (Scalar.cmpi .sgt a (0#32 : BitVec 32)) = 1#1 := fun h => by
      have := guard_word i _ n (by omega) h; omega
    simp only [ht, ↓reduceIte, Prog.pure_eq_ret]
    exact Safe.pure ⟨n, by omega, rfl⟩
  | succ k ih =>
    intro n hn a v
    show Safe (defs₀ (F := F)) 𝒱₀ (c : Thread nD τ) M (some (k + 1)) _ (cc0_while1 i arg4 harg4 v20 arg12 harg12 arg13 harg13 (W n) a v)
    rw [cc0_while1_eq_skeleton]; unfold cc0_while1_skel
    by_cases ht : Scalar.andi (Scalar.cmpi .slt (W n) (BitVec.ofNat 32 (i 2).val)) (Scalar.cmpi .sgt a (0#32 : BitVec 32)) = 1#1
    · have hni := guard_word i _ n (by omega) ht
      simp only [ht, ↓reduceIte, Prog.lift, Prog.bind_op, Prog.bind_ret, Prog.pure_eq_ret]
      rw [Cert.Sb.addi_eq n (by have := Cert.Sb.i_lt i; omega)]
      refine Safe.assume (Cert.Sb.chk1 i n hni) (Safe.load h4 fun _ => Safe.load h12.reads fun _ => Safe.store h12 (Safe.load h13.reads fun _ => Safe.store h13
        (Safe.call k (fun u hu => by cases hu; exact Nat.lt_succ_self k) (ih (n + 1) (by omega) _ _) fun r hr => Safe.pure hr)))
    · simp only [ht, ↓reduceIte, Prog.pure_eq_ret]
      exact Safe.pure ⟨n, by omega, rfl⟩

variable (h3 : Reads (c : Thread nD τ) M arg3) (h4 : Reads (c : Thread nD τ) M arg4) (h5 : Reads (c : Thread nD τ) M arg5) (h6 : Reads (c : Thread nD τ) M arg6) (h7 : Writes (c : Thread nD τ) M arg7) (h8 : Writes (c : Thread nD τ) M arg8) (h9 : Writes (c : Thread nD τ) M arg9) (h10 : Writes (c : Thread nD τ) M arg10) (h11 : Writes (c : Thread nD τ) M arg11) (h12 : Writes (c : Thread nD τ) M arg12) (h13 : Writes (c : Thread nD τ) M arg13)

include h3 h4 h5 h6 h7 h8 h9 h10 h11 h12 h13 in
theorem part3_safe : safe c M none (k0_part3 (F := F) i arg3 harg3 arg4 harg4 arg5 harg5 arg6 harg6 arg7 harg7 arg8 harg8 arg9 harg9 arg10 harg10 arg11 harg11 arg12 harg12 arg13 harg13) := by
  rw [k0_part3_eq_skeleton]; unfold k0_part3_skel safe
  simp only [Prog.lift, Prog.bind_op, Prog.bind_ret, Prog.pure_eq_ret]
  repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem part4_safe (arg2 v20 v34 v40) : safe c M none (k0_part4 (F := F) i arg3 harg3 arg4 harg4 arg5 harg5 arg6 harg6 arg7 harg7 arg8 harg8 arg9 harg9 arg10 harg10 arg11 harg11 arg12 harg12 arg13 harg13 arg2 v20 v34 v40) := by
  rw [k0_part4_eq_skeleton]; unfold k0_part4_skel safe
  simp only [Prog.lift, Prog.bind_op, Prog.bind_ret, Prog.pure_eq_ret]
  refine Safe.load h12.reads fun _ => Safe.store h12 (Safe.load h13.reads fun _ => Safe.store h13
    (Safe.call (i 2).val (fun u hu => nomatch hu) (walk_safe c i M arg4 harg4 arg12 harg12 arg13 harg13 v20 h4 h12 h13 (i 2).val 0 (by omega) _ _) fun r hr => ?_))
  obtain ⟨w, a, v⟩ := r
  obtain ⟨n, hn, rfl⟩ : ∃ n ≤ (i 2).val, w = W n := hr
  refine Safe.assume (Cert.Sb.chk2 i n hn) ?_
  by_cases h : (Scalar.cmpi .ne (Scalar.extui (Scalar.cmpi .eq arg2 (0#32 : BitVec 32)) : BitVec 32) (0#32 : BitVec 32) = 1#1)
  all_goals simp only [h, ↓reduceDIte, Prog.lift, Prog.bind_op, Prog.bind_ret, Prog.pure_eq_ret]
  all_goals repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem part1_safe (v5 v26 v69_0 v69_2 hw v70 o t a) :
    safe c M none (k0_part1 (F := F) i arg3 harg3 arg4 harg4 arg5 harg5 arg6 harg6 arg7 harg7 arg8 harg8 arg9 harg9 arg10 harg10 arg11 harg11 arg12 harg12 arg13 harg13 v5 v26 v69_0 v69_2 hw v70 o t a) := by
  rw [k0_part1_eq_skeleton]; unfold k0_part1_skel safe
  simp only [Prog.lift, Prog.bind_op, Prog.bind_ret, Prog.pure_eq_ret]
  repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem part2_safe (v5 v26 v69_0 v69_2 hw v70 o t a) :
    safe c M none (k0_part2 (F := F) i arg3 harg3 arg4 harg4 arg5 harg5 arg6 harg6 arg7 harg7 arg8 harg8 arg9 harg9 arg10 harg10 arg11 harg11 arg12 harg12 arg13 harg13 v5 v26 v69_0 v69_2 hw v70 o t a) := by
  rw [k0_part2_eq_skeleton]; unfold k0_part2_skel safe
  simp only [Prog.lift, Prog.bind_op, Prog.bind_ret, Prog.pure_eq_ret]
  repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem part5_safe (arg2 v5 v9 v20 v26 w v69_2 hw v70 v74 v75 v79) :
    safe c M none (k0_part5 (F := F) i arg3 harg3 arg4 harg4 arg5 harg5 arg6 harg6 arg7 harg7 arg8 harg8 arg9 harg9 arg10 harg10 arg11 harg11 arg12 harg12 arg13 harg13 arg2 v5 v9 v20 v26 w v69_2 hw v70 v74 v75 v79) := by
  rw [k0_part5_eq_skeleton]; unfold k0_part5_skel safe Scf.Loop.for
  simp only [Prog.lift, Prog.bind_op, Prog.bind_ret, Prog.pure_eq_ret]
  refine Safe.bind (Safe.loop _ _ _ fun t a => ?_) fun _ _ => Safe.bind (Safe.loop _ _ _ fun t a => ?_) fun _ _ => ?_
  · unfold k0_t1_body
    refine Safe.bind (part1_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13) _ _ _ _ _ _ _ _ _) fun _ _ => ?_
    simp only [Prog.lift, Prog.bind_op, Prog.bind_ret, Prog.pure_eq_ret]
    repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)
  · unfold k0_t2_body
    refine Safe.bind (part2_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13) _ _ _ _ _ _ _ _ _) fun _ _ => ?_
    simp only [Prog.lift, Prog.bind_op, Prog.bind_ret, Prog.pure_eq_ret]
    repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)
  · repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem part6_safe (v9 v20 v26 v69_2 v82_0 v82_1 v82_2 v90 v92 v95 v99 v106 v121 v122 v123) :
    safe c M none (k0_part6 (F := F) i arg3 harg3 arg4 harg4 arg5 harg5 arg6 harg6 arg7 harg7 arg8 harg8 arg9 harg9 arg10 harg10 arg11 harg11 arg12 harg12 arg13 harg13 v9 v20 v26 v69_2 v82_0 v82_1 v82_2 v90 v92 v95 v99 v106 v121 v122 v123) := by
  rw [k0_part6_eq_skeleton]; unfold k0_part6_skel safe
  simp only [Prog.lift, Prog.bind_op, Prog.bind_ret, Prog.pure_eq_ret]
  repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

include h3 h4 h5 h6 h7 h8 h9 h10 h11 h12 h13 in
theorem body_safe : safe c M none (cc0_sb_bwd (F := F) i arg3 harg3 arg4 harg4 arg5 harg5 arg6 harg6 arg7 harg7 arg8 harg8 arg9 harg9 arg10 harg10 arg11 harg11 arg12 harg12 arg13 harg13) := by
  rw [cc0_sb_bwd_eq_skeleton]; unfold cc0_sb_bwd_skel safe
  refine Safe.bind (part3_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13)) fun a _ => ?_
  refine Safe.bind (part4_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13) _ _ _ _) fun b _ => ?_
  refine Safe.bind (part5_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13) _ _ _ _ _ _ _ _ _ _ _ _) fun d _ => ?_
  refine Safe.bind (part6_safe c i M arg3 harg3 arg4 harg4 arg5 harg5 arg6 harg6 arg7 harg7 arg8 harg8 arg9 harg9 arg10 harg10 arg11 harg11 arg12 harg12 arg13 harg13 (h3 := h3) (h4 := h4) (h5 := h5) (h6 := h6) (h7 := h7) (h8 := h8) (h9 := h9) (h10 := h10) (h11 := h11) (h12 := h12) (h13 := h13) _ _ _ _ _ _ _ _ _ _ _ _ _ _ _) fun e _ => ?_
  by_cases h : k0_cond2 i = 1#1
  all_goals simp only [h, ↓reduceDIte, Prog.lift, Prog.bind_op, Prog.bind_ret, Prog.pure_eq_ret]
  all_goals repeat (first | exact Safe.pure trivial | refine Safe.load h3 fun _ => ?_ | refine Safe.load h4 fun _ => ?_ | refine Safe.load h5 fun _ => ?_ | refine Safe.load h6 fun _ => ?_ | refine Safe.load h7.reads fun _ => ?_ | refine Safe.load h8.reads fun _ => ?_ | refine Safe.load h9.reads fun _ => ?_ | refine Safe.load h10.reads fun _ => ?_ | refine Safe.load h11.reads fun _ => ?_ | refine Safe.load h12.reads fun _ => ?_ | refine Safe.load h13.reads fun _ => ?_ | refine Safe.store h7 ?_ | refine Safe.store h8 ?_ | refine Safe.store h9 ?_ | refine Safe.store h10 ?_ | refine Safe.store h11 ?_ | refine Safe.store h12 ?_ | refine Safe.store h13 ?_)

end Body

/-! ### The launch -/

section Launch

variable (m : (ℓ : Loc nD τ sig) → Buf (Elt F) ℓ) (ρ : Dev nD → PrngReg)

/-- A core's buffers when the kernel starts: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

theorem V_arg (c : Dev nD) (b : Ref sig .tc) (hb : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  rcases hb with rfl | rfl | rfl | rfl
  all_goals
    repeat' apply And.intro
    all_goals exact StableHlo.devRef_ne_of_ne (by decide)

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: the inputs' blocks stay, the outputs' are forgotten. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q w := Pipeline.shareOf spec0 w
  owed _ := 0

def outs : Fin 7 → Bool := ![false, false, false, false, true, true, true]

theorem A_eq (c : Dev nD) (w : Fin (cfg0 (F := F)).W) : (dats m 0 c).A w = V m c (Pipeline.arrRef spec0 w) := by dsimp only [dats]
theorem Φ_eq (c : Dev nD) (t) : (dats m 0 c).Φ t = (Pipeline.ΦA spec0 c : sProp 𝕄) := by dsimp only [dats]
theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem after3 (c : Dev nD) (t) : (dats m 0 c).after 3 t = iblk m c 3 t := by dsimp only [dats]; try rfl
theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem defs₀_row (t : Fin (cfg0 (F := F)).N) : defs₀ (F := F) .tc cfg0.body (cfg0.bodyArgs t (cfg0.slots t)) = bodyAt0 t := by
  unfold defs₀; rw [Defs.onTc_tc]

/-- What a point's body holds: its inputs' blocks, and the outputs' and the scratch at anything. -/
def mem (c : Dev nD) (t : Fin (cfg0 (F := F)).N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X))

def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X))

theorem point_safe (c : Dev nD) (t : Fin (cfg0 (F := F)).N) : safe c (mem m c t) none (bodyAt0 (F := F) t) := by
  unfold mem bodyAt0
  exact body_safe c (grid0.coords t) _ _ _ _ _ _ _ _ _ _ _ _ _ _ _ _ _ _ _ _ _ _ _ (h3 := Safe.Reads.head) (h4 := (Safe.Reads.tail Safe.Reads.head)) (h5 := (Safe.Reads.tail (Safe.Reads.tail Safe.Reads.head))) (h6 := (Safe.Reads.tail (Safe.Reads.tail (Safe.Reads.tail Safe.Reads.head)))) (h7 := (Safe.Writes.tail (Safe.Writes.tail (Safe.Writes.tail (Safe.Writes.tail Safe.Writes.head))))) (h8 := (Safe.Writes.tail (Safe.Writes.tail (Safe.Writes.tail (Safe.Writes.tail (Safe.Writes.tail Safe.Writes.head)))))) (h9 := (Safe.Writes.tail (Safe.Writes.tail (Safe.Writes.tail (Safe.Writes.tail (Safe.Writes.tail (Safe.Writes.tail Safe.Writes.head))))))) (h10 := (Safe.Writes.tail (Safe.Writes.tail (Safe.Writes.tail (Safe.Writes.tail (Safe.Writes.tail (Safe.Writes.tail (Safe.Writes.tail Safe.Writes.head)))))))) (h11 := (Safe.Writes.tail (Safe.Writes.tail (Safe.Writes.tail (Safe.Writes.tail (Safe.Writes.tail (Safe.Writes.tail (Safe.Writes.tail (Safe.Writes.tail Safe.Writes.head))))))))) (h12 := (Safe.Writes.tail (Safe.Writes.tail (Safe.Writes.tail (Safe.Writes.tail (Safe.Writes.tail (Safe.Writes.tail (Safe.Writes.tail (Safe.Writes.tail (Safe.Writes.tail Safe.Writes.head)))))))))) (h13 := (Safe.Writes.tail (Safe.Writes.tail (Safe.Writes.tail (Safe.Writes.tail (Safe.Writes.tail (Safe.Writes.tail (Safe.Writes.tail (Safe.Writes.tail (Safe.Writes.tail (Safe.Writes.tail Safe.Writes.last)))))))))))

theorem point_run (c : Dev nD) (t : Fin (cfg0 (F := F)).N) :
    pre m c t ⊢ wp frame (wpE (defs₀ (F := F)) 𝒱₀ (c : Thread nD τ) none) Set.univ (bodyAt0 t) (fun _ => post m c t) := by
  have hs := point_safe m c t
  unfold safe Safe at hs
  unfold pre post
  simp only [before0, before1, before2, before3]
  rw [Φ_eq, Φ_eq, show (dats m 0 c).owesAt () t.succ = (dats m 0 c).owesAt () t.castSucc from rfl, after0, after1, after2, after3]
  unfold Pipeline.ΦA
  rw [scopedRest0_eq]
  simp only [← owns_whole]
  iintro ⟨⟨⟨H7, H8, H9, H10⟩, Hr⟩, Ho, ⟨%d0, H0⟩, ⟨%d1, H1⟩, ⟨%d2, H2⟩, ⟨%d3, H3⟩, H4, H5, H6⟩
  iapply (hs _) $$ [H0 H1 H2 H3 H4 H5 H6 H7 H8 H9 H10]
  · unfold mem
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ %_ H
  unfold mem
  icases H with ⟨H0, H1, H2, H3, H4, H5, H6, H7, H8, H9, H10⟩
  isplitl [H7 H8 H9 H10 Hr]
  · isplitl [H7 H8 H9 H10]
    · isplitl [H7]; · iexact H7
      isplitl [H8]; · iexact H8
      isplitl [H9]; · iexact H9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (c : Dev nD) : BodyObligationLoose (dats (F := F) m 0 c) (defs₀ (F := F)) 𝒱₀ () Set.univ outs := fun t => by
  rw [bigSep_W0, bigSep_W0, defs₀_row]
  exact triple_restated (point_run m c t) rfl .rfl fun _ => .rfl

set_option backward.isDefEq.respectTransparency.types false in
set_option maxHeartbeats 800000 in
/-- The launch: every buffer the kernel's windows leave out is as the kernel found it, and every counter is at zero. -/
theorem run_main : θ_run defs (onTc (τ := τ) (main (F := F))) (s₀ m ρ)
    (fun r => Pipeline.RDat.FramePost (cfg0 (F := F)) (fun c => (dats m 0 c).toRForget outs) (V m) r ∧ r.2.sem = fun _ => 0) :=
  Pipeline.θ_run_frame_forget_shared (Q' := _) cfgs (dats m) (0 : Fin 1) launch₀0 defs₀ 𝒱₀ outs m ρ main
    (hbody := obligation m) (hq := fun _ _ _ => rfl) (howed := fun _ _ => rfl) (V := V m)
    (hmain := hmain m 𝒱₀) (hA := A_eq m) (hΦ := Φ_eq m)

/-- The frame. -/
theorem frame_kernel : Cert.quiescent_KernelSb := fun m ρ _ =>
  (θ_run defs _ _).mono (fun _ h => ⟨fun c =>
    ⟨((h.1 c).2 main_arg0 (Pipeline.mem_restRefs_of main_arg0 (by decide) (show ∀ w : Fin 7, (spec0 w).arr.view.ref ≠ main_arg0 by decide))).trans (V_arg m c _ (by simp)),
      ((h.1 c).2 main_arg1 (Pipeline.mem_restRefs_of main_arg1 (by decide) (show ∀ w : Fin 7, (spec0 w).arr.view.ref ≠ main_arg1 by decide))).trans (V_arg m c _ (by simp)),
      ((h.1 c).2 main_arg2 (Pipeline.mem_restRefs_of main_arg2 (by decide) (show ∀ w : Fin 7, (spec0 w).arr.view.ref ≠ main_arg2 by decide))).trans (V_arg m c _ (by simp)),
      ((h.1 c).2 main_arg3 (Pipeline.mem_restRefs_of main_arg3 (by decide) (show ∀ w : Fin 7, (spec0 w).arr.view.ref ≠ main_arg3 by decide))).trans (V_arg m c _ (by simp))⟩, h.2⟩)
    (run_main (F := Bits) m ρ)

end Launch

end Cert.SbFrame

end
-- ==== Proof.Sb.Claim.lean ====
/-
  The claims about the stick-breaking attention's backward call: frames, and the value under the precondition.
-/
module

public import proofs.«01_k».proof.Defs
public import proofs.«01_k».proof.Proof.Gen.Pre_finite_sb
public import proofs.«01_k».proof.Proof.Sb.Ref
public import proofs.«01_k».proof.Proof.Sb.Frame
public import Idealize.ShloMosaic.Lib.Claim

@[expose] public section

set_option maxRecDepth 16384

noncomputable section

open Idealize.ShloMosaic Idealize.ShloMosaic.TcCoe Idealize.SL.Sem

namespace Cert.SbClaim

open Cert.Sb (Args)

theorem frame_ideal : Cert.quiescent_KernelSbIdeal := fun m ρ _ => Cert.Sb.frame_any m ρ

theorem frame_ideal_pre : Cert.quiescent_KernelSbIdeal_pre_finite_sb := fun m ρ _ => Cert.Sb.frame_any m ρ

theorem frame_reference : Cert.quiescent_ReferenceSbIdeal := by
  intro m g _
  hlo_run
  · exact fun _ => ⟨trivial, trivial, trivial, trivial⟩
  · exact sem_eq_zero_of_no_sems (sig := Cert.ReferenceSbIdeal.sig) (by decide) _

theorem frame_reference_pre : Cert.quiescent_ReferenceSbIdeal_pre_finite_sb := fun m g _ => frame_reference m g trivial

/-- The exit's threshold is the name's literal, and the name's value is minus infinity. -/
theorem preserves : Cert.preserves_KernelSb_KernelSbIdeal :=
  IdealRules.named_const.statement Cert.KernelSbIdeal.κ "sb_dead" .f32 0xC2D00000#32 ⊥ rfl

section Pre

open Cert.Pre_finite_sb

instance : Subsingleton Cert.Pre_finite_sb.S_.Idx := ⟨fun a b => funext fun i => i.elim0⟩

/-- Under the precondition the four arrays hold real numbers. -/
theorem real_of_pre (a0 a1 a2 : FVec Ideal S2x2048x8x64 .f32) (a3 : FVec Ideal S2x2048x512 .f32) (h : fn (F := Ideal) a0 a1 a2 a3 = fun _ => 1#1) :
    (∀ i, Reals.IsReal (a0 i)) ∧ (∀ i, Reals.IsReal (a1 i)) ∧ (∀ i, Reals.IsReal (a2 i)) ∧ ∀ i, Reals.IsReal (a3 i) := by
  have e := congrFun h (fun i => i.elim0)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨fun i => Reals.isReal_of_cmp (Host.reduce_andi_all _ _ _ _ _ e0 i),
    fun i => Reals.isReal_of_cmp (Host.reduce_andi_all _ _ _ _ _ e1 i),
    fun i => Reals.isReal_of_cmp (Host.reduce_andi_all _ _ _ _ _ e2 i),
    fun i => Reals.isReal_of_cmp (Host.reduce_andi_all _ _ _ _ _ e3 i)⟩

/-- The numbers of real arrays. -/
theorem args_of_real (a0 a1 a2 : FVec Ideal S2x2048x8x64 .f32) (a3 : FVec Ideal S2x2048x512 .f32) (h0 : ∀ i, Reals.IsReal (a0 i))
    (h1 : ∀ i, Reals.IsReal (a1 i)) (h2 : ∀ i, Reals.IsReal (a2 i)) (h3 : ∀ i, Reals.IsReal (a3 i)) : ∃ A : Args, A.In a0 a1 a2 a3 := by
  have four : ∀ a : FVec Ideal S2x2048x8x64 .f32, (∀ i, Reals.IsReal (a i)) →
      ∃ f : ℕ → ℕ → ℕ → ℕ → ℝ, ∀ (b : Fin 2) (t : Fin 2048) (n : Fin 8) (d : Fin 64), a (ix4 b t n d) = ((f b t n d : ℝ) : EReal) := fun a ha =>
    ⟨fun b t n d => (a (ix4 ⟨b % 2, by omega⟩ ⟨t % 2048, by omega⟩ ⟨n % 8, by omega⟩ ⟨d % 64, by omega⟩)).toReal, fun b t n d => by
      obtain ⟨r, hr⟩ := ha (ix4 b t n d)
      simp only [Nat.mod_eq_of_lt b.isLt, Nat.mod_eq_of_lt t.isLt, Nat.mod_eq_of_lt n.isLt, Nat.mod_eq_of_lt d.isLt, Fin.eta, hr, EReal.toReal_coe]⟩
  obtain ⟨q, hq⟩ := four a0 h0
  obtain ⟨k, hk⟩ := four a1 h1
  obtain ⟨v, hv⟩ := four a2 h2
  refine ⟨⟨q, k, v, fun b t l => (a3 (ix3 ⟨b % 2, by omega⟩ ⟨t % 2048, by omega⟩ ⟨l % 512, by omega⟩)).toReal⟩, hq, hk, hv, fun b t l => ?_⟩
  obtain ⟨r, hr⟩ := h3 (ix3 b t l)
  simp only [Nat.mod_eq_of_lt b.isLt, Nat.mod_eq_of_lt t.isLt, Nat.mod_eq_of_lt l.isLt, Fin.eta]
  rw [hr, EReal.toReal_coe]

theorem args_of_pre (a0 a1 a2 : FVec Ideal S2x2048x8x64 .f32) (a3 : FVec Ideal S2x2048x512 .f32) (h : fn (F := Ideal) a0 a1 a2 a3 = fun _ => 1#1) :
    ∃ A : Args, A.In a0 a1 a2 a3 :=
  have ⟨h0, h1, h2, h3⟩ := real_of_pre a0 a1 a2 a3 h
  args_of_real a0 a1 a2 a3 h0 h1 h2 h3

end Pre

open Cert.KernelSbIdeal Cert.KernelSbIdeal.Gen in
/-- The kernel's run, its three arrays named. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0) = (Cert.Sb.dats m 0 c).arrAt 4 (cfg0 (F := Ideal)).N
      ∧ r.2.mem ((c.tc : Thread nD τ).loc main_v6_1) = (Cert.Sb.dats m 0 c).arrAt 5 (cfg0 (F := Ideal)).N
      ∧ r.2.mem ((c.tc : Thread nD τ).loc main_v6_2) = (Cert.Sb.dats m 0 c).arrAt 6 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, Cert.Sb.kept m h.1 c⟩) (Cert.Sb.run_main m ρ)

theorem algebraic : Cert.algebraic_KernelSbIdeal_ReferenceSbIdeal_pre_finite_sb := by
  intro m g m' g' hpre hagree
  refine ⟨_, _, _, run_kernel m g, ?_⟩
  refine (θ_run Cert.ReferenceSbIdeal.defs _ _).mono (fun r h c => ?_) (Cert.ReferenceSbIdeal.Value.run m' g')
  obtain ⟨h0, h1, h2, hargs⟩ := h c
  obtain ⟨A, hA⟩ := args_of_pre _ _ _ _ (hpre c)
  have hR := hA
  obtain ⟨e0, e1, e2, e3⟩ := hagree c
  rw [← e0, ← e1, ← e2, ← e3] at hR
  refine ⟨h0.trans ?_, h1.trans ?_, h2.trans ?_, hargs⟩
  · rw [Cert.SbRef.res0, Cert.Sb.final4 m c A hA]; exact Cert.SbRef.heads_eq (Cert.SbRef.outQ_is hR)
  · rw [Cert.SbRef.res1, Cert.Sb.final5 m c A hA]; exact Cert.SbRef.heads_eq (Cert.SbRef.outK_is hR)
  · rw [Cert.SbRef.res2, Cert.Sb.final6 m c A hA]; exact Cert.SbRef.heads_eq (Cert.SbRef.outV_is hR)

end Cert.SbClaim

end
-- ==== Proof.Norm.lean ====
/-
  The root-mean-square norm's gradient on one row of 1024 real numbers, and the constants it is written with.
-/
module

public import proofs.«01_k».proof.Proof.Sb.RealVec

@[expose] public section

noncomputable section

namespace Cert.Norm

open Idealize.ShloMosaic
open Finset (range)

/-- The number added under the root. -/
def eps : ℝ := 8796093 / 2 ^ 43

/-- The mean square of a row, and the number under the root. -/
def under (x : ℕ → ℝ) : ℝ := (∑ j ∈ range 1024, x j * x j) / 1024 + eps

/-- The reciprocal root. -/
def rr (x : ℕ → ℝ) : ℝ := (Real.sqrt (under x))⁻¹

/-- The gradient at the norm's input: `u` is the gradient of its output times the gain. -/
def back (x u : ℕ → ℝ) (l : ℕ) : ℝ := rr x * (u l - x l * rr x * ((∑ j ∈ range 1024, u j * (x j * rr x)) / 1024))

theorem eps_pos : 0 < eps := by unfold eps; positivity

theorem under_pos (x : ℕ → ℝ) : 0 < under x :=
  add_pos_of_nonneg_of_pos (div_nonneg (Finset.sum_nonneg fun j _ => mul_self_nonneg (x j)) (by norm_num)) eps_pos

theorem rr_sq (x : ℕ → ℝ) : rr x * rr x = 1 / under x := by
  unfold rr
  rw [← mul_inv, Real.mul_self_sqrt (under_pos x).le, one_div]

theorem back_congr {x y u v : ℕ → ℝ} {l : ℕ} (hl : l < 1024) (hx : ∀ j < 1024, x j = y j) (hu : ∀ j < 1024, u j = v j) : back x u l = back y v l := by
  have e : rr x = rr y := by
    unfold rr under
    rw [Finset.sum_congr rfl fun j hj => by rw [hx j (Finset.mem_range.1 hj)]]
  unfold back
  rw [e, hx l hl, hu l hl, Finset.sum_congr rfl fun j hj => by rw [hx j (Finset.mem_range.1 hj), hu j (Finset.mem_range.1 hj)]]

/-- The derivative by the chain rule is that gradient. -/
theorem chain (x u : ℕ → ℝ) (l : ℕ) :
    u l * rr x + x l * ((∑ j ∈ range 1024, x j * u j) * (-(1 / 2) * (rr x / under x)) / 1024)
      + ((∑ j ∈ range 1024, x j * u j) * (-(1 / 2) * (rr x / under x)) / 1024) * x l = back x u l := by
  have e : ∑ j ∈ range 1024, u j * (x j * rr x) = rr x * ∑ j ∈ range 1024, x j * u j := by
    rw [Finset.mul_sum]; exact Finset.sum_congr rfl fun j _ => by ring
  unfold back
  rw [e, div_eq_mul_one_div (rr x), ← rr_sq]
  ring

theorem ofBits_eps : Ideal.ofBits .f32 0x358637BD#32 = ((eps : ℝ) : EReal) := by
  have h1 : (BitVec.extractLsb' 23 8 (0x358637BD#32)).toNat = 107 := by decide
  have h2 : (BitVec.extractLsb' 0 23 (0x358637BD#32)).toNat = 407485 := by decide
  have h3 : (BitVec.extractLsb' 31 1 (0x358637BD#32) == 1#1) = false := by decide
  change Ideal.ieee 8 23 (0x358637BD#32) = _
  simp [Ideal.ieee, h1, h2, h3, eps]
  rw [← EReal.coe_mul]; norm_num

theorem ofBits_1024 : Ideal.ofBits .f32 0x44800000#32 = ((1024 : ℝ) : EReal) := by
  have h1 : (BitVec.extractLsb' 23 8 (0x44800000#32)).toNat = 137 := by decide
  have h2 : (BitVec.extractLsb' 0 23 (0x44800000#32)).toNat = 0 := by decide
  have h3 : (BitVec.extractLsb' 31 1 (0x44800000#32) == 1#1) = false := by decide
  change Ideal.ieee 8 23 (0x44800000#32) = _
  simp [Ideal.ieee, h1, h2, h3]
  rw [← EReal.coe_mul]; norm_num

theorem ofBits_neg_half : Ideal.ofBits .f32 0xBF000000#32 = ((-(1 / 2) : ℝ) : EReal) := by
  have h1 : (BitVec.extractLsb' 23 8 (0xBF000000#32)).toNat = 126 := by decide
  have h2 : (BitVec.extractLsb' 0 23 (0xBF000000#32)).toNat = 0 := by decide
  have h3 : (BitVec.extractLsb' 31 1 (0xBF000000#32) == 1#1) = true := by decide
  change Ideal.ieee 8 23 (0xBF000000#32) = _
  simp [Ideal.ieee, h1, h2, h3]
  rw [← EReal.coe_mul]; norm_num

/-- A quotient of real numbers. -/
theorem div_real {b : ℝ} (a : ℝ) (h : b ≠ 0) : Ideal.div (a : EReal) (b : EReal) = ((a / b : ℝ) : EReal) := by
  rw [Ideal.div_coe h, ← EReal.coe_mul, ← div_eq_mul_one_div]

/-- The reciprocal root among the extended reals, from the row's sum of squares. -/
theorem rsqrt_row {x : ℕ → ℝ} {S : EReal} (h : S = ((∑ j ∈ range 1024, x j * x j : ℝ) : EReal)) :
    Ideal.rsqrt (Ideal.div S (Ideal.ofBits .f32 0x44800000#32) + Ideal.ofBits .f32 0x358637BD#32) = ((rr x : ℝ) : EReal) := by
  rw [h, ofBits_1024, ofBits_eps, div_real _ (by norm_num), ← EReal.coe_add]
  change Ideal.rsqrt ((under x : ℝ) : EReal) = _
  rw [Ideal.rsqrt_coe, if_neg (not_lt.2 (under_pos x).le), if_neg (under_pos x).ne']
  rfl

end Cert.Norm

end
-- ==== Proof.Rows.lean ====
/-
  Token arrays of two examples with 2048 tokens each, read as one array of 4096 rows: entries over the reals, and the
  same rows counted through blocks of 256.
-/
module

public import proofs.«01_k».proof.Proof.Sb.RealVec
public import Idealize.ShloMosaic.Lib.Pipeline.ValueKit

@[expose] public section

noncomputable section

open Idealize.ShloMosaic
open Finset (range)

namespace Cert.Rows

/-- The entries of a token array: example, token, lane. -/
def IsB {a n m : ℕ} (X : (⟨3, ![a, n, m]⟩ : Shape).Idx → EReal) (f : ℕ → ℕ → ℕ → ℝ) : Prop :=
  ∀ (b : Fin a) (r : Fin n) (c : Fin m), X (ix3 b r c) = ((f b.val r.val c.val : ℝ) : EReal)

/-- The entries of a vector of one dimension. -/
def Is1 {m : ℕ} (X : (⟨1, ![m]⟩ : Shape).Idx → EReal) (f : ℕ → ℝ) : Prop :=
  ∀ c : Fin m, X (ix1 c) = ((f c.val : ℝ) : EReal)

/-- Row `r` of the 4096 is token `r % 2048` of example `r / 2048`. -/
def fl (f : ℕ → ℕ → ℕ → ℝ) (r c : ℕ) : ℝ := f (r / 2048) (r % 2048) c

theorem flat_is {m : ℕ} {X : (⟨3, ![2, 2048, m]⟩ : Shape).Idx → EReal} {f : ℕ → ℕ → ℕ → ℝ} (h : IsB X f)
    (hs : (⟨3, ![2, 2048, m]⟩ : Shape).ShapeCasts ⟨2, ![4096, m]⟩) : Cert.Sb.Is (shapeCast (⟨2, ![4096, m]⟩ : Shape) X hs) (fl f) := fun r c => by
  have h1 := h ⟨r.val / 2048, by omega⟩ ⟨r.val % 2048, by omega⟩ c
  refine Eq.trans ?_ h1
  refine shapeCast_apply _ _ _ _ ?_
  rw [Shape.rowMajor_val_two, Shape.rowMajor_val_three]
  show (r.val / 2048 * 2048 + r.val % 2048) * m + c.val = r.val * m + c.val
  rw [Nat.div_add_mod']

theorem sum_tokens (f : ℕ → ℝ) : ∑ s ∈ range 16, ∑ p ∈ range 256, f (s * 256 + p) = ∑ b ∈ range 2, ∑ t ∈ range 2048, f (2048 * b + t) := by
  rw [Finset.sum_range_range_mul_add 16 256 f,
    Finset.sum_congr rfl fun s _ => Finset.sum_congr rfl fun p _ => congrArg (fun e => f (e + p)) (Nat.mul_comm 2048 s),
    Finset.sum_range_range_mul_add 2 2048 f]

/-- A sum over seven pieces laid end to end: three of 512 entries, three of 768, one of 2048. -/
theorem sum_pieces (f : ℕ → ℝ) : ∑ j ∈ range 5888, f j = ∑ j ∈ range 512, f j + ∑ j ∈ range 512, f (512 + j) + ∑ j ∈ range 512, f (1024 + j)
    + ∑ j ∈ range 768, f (1536 + j) + ∑ j ∈ range 768, f (2304 + j) + ∑ j ∈ range 768, f (3072 + j) + ∑ j ∈ range 2048, f (3840 + j) := by
  rw [show 5888 = 3840 + 2048 from rfl, Finset.sum_range_add f, show 3840 = 3072 + 768 from rfl, Finset.sum_range_add f,
    show 3072 = 2304 + 768 from rfl, Finset.sum_range_add f, show 2304 = 1536 + 768 from rfl, Finset.sum_range_add f,
    show 1536 = 1024 + 512 from rfl, Finset.sum_range_add f, show 1024 = 512 + 512 from rfl, Finset.sum_range_add f]

/-- A sum over 768 entries in three groups of 256. -/
theorem sum_groups (f : ℕ → ℝ) : ∑ j ∈ range 768, f j = ∑ j ∈ range 256, f j + ∑ j ∈ range 256, f (256 + j) + ∑ j ∈ range 256, f (512 + j) := by
  rw [show 768 = 512 + 256 from rfl, Finset.sum_range_add f, show 512 = 256 + 256 from rfl, Finset.sum_range_add f]

/-- A sum over the two leading axes of three. -/
theorem lead_sum {a b n : ℕ} (h : (⟨3, ![a, b, n]⟩ : Shape).ReducesTo [0, 1] ⟨1, ![n]⟩) (v : (⟨3, ![a, b, n]⟩ : Shape).Idx → EReal) (c : Fin n) :
    Ideal.hostReduceAdd h v 0 (ix1 c) = ∑ i : Fin a, ∑ j : Fin b, v (ix3 i j c) := by
  have hf : ∀ i : (⟨3, ![a, b, n]⟩ : Shape).Idx, h.drop i = ix1 c ↔ ∃ k : Fin a × Fin b, ix3 k.1 k.2 c = i := by
    intro i
    constructor
    · intro e
      have e0 : i 2 = c := congrFun e 0
      exact ⟨(i 0, i 1), by rw [← e0]; exact (eq_ix3 i).symm⟩
    · rintro ⟨k, rfl⟩
      funext x
      rw [Fin.eq_zero (x : Fin 1)]
      rfl
  show 0 + _ = _
  rw [zero_add]
  refine (Finset.sum_filter_eq_sum_of_fiber _ (fun k : Fin a × Fin b => ix3 k.1 k.2 c) (fun _ _ e => Prod.ext (congrFun e 0) (congrFun e 1)) hf v).trans ?_
  exact Fintype.sum_prod_type _

/-- A vector of real numbers is given by a function into the reals. -/
theorem exists_is {n m : ℕ} {X : (⟨2, ![n, m]⟩ : Shape).Idx → EReal} (h : ∀ i, Reals.IsReal (X i)) : ∃ f, Cert.Sb.Is X f :=
  ⟨fun r c => if hx : r < n ∧ c < m then (X (ix2 ⟨r, hx.1⟩ ⟨c, hx.2⟩)).toReal else 0, fun r c => by
    obtain ⟨v, hv⟩ := h (ix2 r c)
    dsimp only
    rw [dif_pos ⟨r.isLt, c.isLt⟩, hv, EReal.toReal_coe]⟩

theorem exists_isB {a n m : ℕ} {X : (⟨3, ![a, n, m]⟩ : Shape).Idx → EReal} (h : ∀ i, Reals.IsReal (X i)) : ∃ f, IsB X f :=
  ⟨fun b r c => if hx : b < a ∧ r < n ∧ c < m then (X (ix3 ⟨b, hx.1⟩ ⟨r, hx.2.1⟩ ⟨c, hx.2.2⟩)).toReal else 0, fun b r c => by
    obtain ⟨v, hv⟩ := h (ix3 b r c)
    dsimp only
    rw [dif_pos ⟨b.isLt, r.isLt, c.isLt⟩, hv, EReal.toReal_coe]⟩

theorem exists_is1 {m : ℕ} {X : (⟨1, ![m]⟩ : Shape).Idx → EReal} (h : ∀ i, Reals.IsReal (X i)) : ∃ f, Is1 X f :=
  ⟨fun c => if hx : c < m then (X (ix1 ⟨c, hx⟩)).toReal else 0, fun c => by
    obtain ⟨v, hv⟩ := h (ix1 c)
    dsimp only
    rw [dif_pos c.isLt, hv, EReal.toReal_coe]⟩

/-- The vector that holds these numbers. -/
def arr {n m : ℕ} (f : ℕ → ℕ → ℝ) : (⟨2, ![n, m]⟩ : Shape).Idx → EReal := fun i => ((f (i 0).val (i 1).val : ℝ) : EReal)

theorem arr_is {n m : ℕ} (f : ℕ → ℕ → ℝ) : Cert.Sb.Is (arr f : (⟨2, ![n, m]⟩ : Shape).Idx → EReal) f := fun r c => rfl

/-- Two vectors with the same real entries are the same. -/
theorem is_ext {n m : ℕ} {X Y : (⟨2, ![n, m]⟩ : Shape).Idx → EReal} {f : ℕ → ℕ → ℝ} (h : Cert.Sb.Is X f) (h' : Cert.Sb.Is Y f) : X = Y :=
  funext fun i => by rw [eq_ix2 i]; exact (h _ _).trans (h' _ _).symm

end Cert.Rows

end
-- ==== Proof.Ffn.Grad.lean ====
/-
  The merge, the gated feed-forward and the loss of one token, and their gradients down to the residual, over the reals.
-/
module

public import proofs.«01_k».proof.Proof.Norm
public import proofs.«01_k».proof.Proof.Rows

@[expose] public section

noncomputable section

open Idealize.ShloMosaic
open Finset (range)
open Cert.Norm Cert.Rows

namespace Cert.Ffn

/-- The logistic function. -/
def sg (z : ℝ) : ℝ := 1 / (1 + Real.exp (-z))

/-- The weights: up-projections of the two attentions, the out-projection, the gains of the two norms, and the feed-forward's two. -/
structure Wts where
  sb : ℕ → ℕ → ℝ
  dl : ℕ → ℕ → ℝ
  o : ℕ → ℕ → ℝ
  g : ℕ → ℝ
  e : ℕ → ℝ
  i : ℕ → ℕ → ℝ
  f : ℕ → ℕ → ℝ

/-- A token: the residual, the outputs of the two attentions, the gates, the target. -/
structure Row where
  x : ℕ → ℝ
  os : ℕ → ℝ
  od : ℕ → ℝ
  ga : ℕ → ℝ
  tg : ℕ → ℝ

namespace Row

variable (W : Wts) (r : Row)

def merged (k : ℕ) : ℝ := sg (r.ga k) * (∑ j ∈ range 512, r.os j * W.sb j k) + sg (r.ga (1024 + k)) * ∑ j ∈ range 256, r.od j * W.dl j k
def x1 (k : ℕ) : ℝ := r.x k + ∑ j ∈ range 1024, r.merged W j * W.o j k
def u2 (k : ℕ) : ℝ := r.x1 W k * rr (r.x1 W) * W.g k
def h (j : ℕ) : ℝ := ∑ k ∈ range 1024, r.u2 W k * W.i k j
def act (j : ℕ) : ℝ := r.h W j * sg (r.h W j) * r.h W (2816 + j)
def x2 (k : ℕ) : ℝ := r.x1 W k + ∑ j ∈ range 2816, r.act W j * W.f j k
def err (k : ℕ) : ℝ := r.x2 W k * rr (r.x2 W) * W.e k - r.tg k
/-- The token's part of the loss. -/
def loss : ℝ := (∑ k ∈ range 1024, r.err W k * r.err W k) * (1 / 2048)
/-- The gradient of the last norm's output, and the token's part of its gain's. -/
def dy (k : ℕ) : ℝ := r.err W k * (1 / 1024)
def de (k : ℕ) : ℝ := r.dy W k * (r.x2 W k * rr (r.x2 W))
def dx2 (k : ℕ) : ℝ := back (r.x2 W) (fun j => r.dy W j * W.e j) k
def dact (j : ℕ) : ℝ := ∑ k ∈ range 1024, r.dx2 W k * W.f j k
def dgate (j : ℕ) : ℝ := r.dact W j * r.h W (2816 + j) * (sg (r.h W j) * (1 + r.h W j * (1 - sg (r.h W j))))
def dup (j : ℕ) : ℝ := r.dact W j * (r.h W j * sg (r.h W j))
def dh (j : ℕ) : ℝ := if j < 2816 then r.dgate W j else r.dup W (j - 2816)
def du2 (k : ℕ) : ℝ := ∑ j ∈ range 5632, r.dh W j * W.i k j
/-- The token's part of the first norm's gain's gradient. -/
def dg (k : ℕ) : ℝ := r.du2 W k * (r.x1 W k * rr (r.x1 W))
def dx1 (k : ℕ) : ℝ := r.dx2 W k + back (r.x1 W) (fun j => r.du2 W j * W.g j) k

/-- A sum over the 2816 columns in the kernel's three pieces. -/
theorem sum_three (f : ℕ → ℝ) : ∑ j ∈ range 2816, f j
    = ∑ j ∈ range 1024, f (0 + j) + ∑ j ∈ range 1024, f (1024 + j) + ∑ j ∈ range 768, f (2048 + j) := by
  simp only [zero_add]
  rw [show 2816 = 2048 + 768 from rfl, Finset.sum_range_add f, show 2048 = 1024 + 1024 from rfl, Finset.sum_range_add f]

/-- What the columns `o … o + n - 1` of the activation add to the residual. -/
def xpart (n o k : ℕ) : ℝ := ∑ j ∈ range n, r.act W (o + j) * W.f (o + j) k

theorem x2_eq (k : ℕ) : r.x2 W k = r.x1 W k + r.xpart W 1024 0 k + r.xpart W 1024 1024 k + r.xpart W 768 2048 k := by
  unfold x2 xpart; rw [sum_three]; ring

/-- What the columns `o … o + n - 1` of the gate and of the up-projection add to the gradient of the feed-forward's input. -/
def upart (n o k : ℕ) : ℝ :=
  ∑ j ∈ range n, r.dgate W (o + j) * W.i k (o + j) + ∑ j ∈ range n, r.dup W (o + j) * W.i k (2816 + (o + j))

theorem du2_eq (k : ℕ) : r.du2 W k = r.upart W 1024 0 k + r.upart W 1024 1024 k + r.upart W 768 2048 k := by
  have e0 : ∀ j ∈ range 2816, r.dh W j * W.i k j = r.dgate W j * W.i k j := fun j hj => by
    unfold dh; rw [if_pos (Finset.mem_range.1 hj)]
  have e1 : ∀ j ∈ range 2816, r.dh W (2816 + j) * W.i k (2816 + j) = r.dup W j * W.i k (2816 + j) := fun j _ => by
    unfold dh; rw [if_neg (by omega), show 2816 + j - 2816 = j by omega]
  unfold du2 upart
  rw [show 5632 = 2816 + 2816 from rfl, Finset.sum_range_add fun j => r.dh W j * W.i k j, Finset.sum_congr rfl e0, Finset.sum_congr rfl e1,
    sum_three fun j => r.dgate W j * W.i k j, sum_three fun j => r.dup W j * W.i k (2816 + j)]
  ring

end Row

/-- All the tokens. -/
structure Args where
  W : Wts
  x : ℕ → ℕ → ℕ → ℝ
  os : ℕ → ℕ → ℕ → ℝ
  od : ℕ → ℕ → ℕ → ℝ
  ga : ℕ → ℕ → ℕ → ℝ
  tg : ℕ → ℕ → ℕ → ℝ

/-- Token `t` of example `b`. -/
def Args.row (A : Args) (b t : ℕ) : Row := ⟨A.x b t, A.os b t, A.od b t, A.ga b t, A.tg b t⟩

/-- Row `r` of the 4096. -/
abbrev Args.flat (A : Args) (r : ℕ) : Row := A.row (r / 2048) (r % 2048)

/-- The arrays hold these numbers. -/
structure Args.In (A : Args) (x : (⟨3, ![2, 2048, 1024]⟩ : Shape).Idx → EReal) (os : (⟨3, ![2, 2048, 512]⟩ : Shape).Idx → EReal)
    (od : (⟨3, ![2, 2048, 256]⟩ : Shape).Idx → EReal) (ga : (⟨3, ![2, 2048, 2048]⟩ : Shape).Idx → EReal)
    (wsb : (⟨2, ![512, 1024]⟩ : Shape).Idx → EReal) (wdl : (⟨2, ![256, 1024]⟩ : Shape).Idx → EReal) (wo : (⟨2, ![1024, 1024]⟩ : Shape).Idx → EReal)
    (tg : (⟨3, ![2, 2048, 1024]⟩ : Shape).Idx → EReal) (g e : (⟨1, ![1024]⟩ : Shape).Idx → EReal)
    (wi : (⟨2, ![1024, 5632]⟩ : Shape).Idx → EReal) (wf : (⟨2, ![2816, 1024]⟩ : Shape).Idx → EReal) : Prop where
  x : IsB x A.x
  os : IsB os A.os
  od : IsB od A.od
  ga : IsB ga A.ga
  wsb : Cert.Sb.Is wsb A.W.sb
  wdl : Cert.Sb.Is wdl A.W.dl
  wo : Cert.Sb.Is wo A.W.o
  tg : IsB tg A.tg
  g : Is1 g A.W.g
  e : Is1 e A.W.e
  wi : Cert.Sb.Is wi A.W.i
  wf : Cert.Sb.Is wf A.W.f

/-- The sum of the tokens' parts over both examples, and the same in the kernel's blocks of 256. -/
def Args.sum (A : Args) (f : Row → ℝ) : ℝ := ∑ b ∈ range 2, ∑ t ∈ range 2048, f (A.row b t)

theorem Args.total (A : Args) (f : Row → ℝ) : ∑ s ∈ range 16, ∑ p ∈ range 256, f (A.flat (s * 256 + p)) = A.sum f := by
  rw [sum_tokens fun r => f (A.flat r)]
  refine Finset.sum_congr rfl fun b _ => Finset.sum_congr rfl fun s hs => ?_
  have := Finset.mem_range.1 hs
  unfold Args.flat
  rw [show (2048 * b + s) / 2048 = b by omega, show (2048 * b + s) % 2048 = s by omega]

/-- The logistic function among the extended reals, as the kernel writes it, and as the reference does. -/
theorem sg_coe (z : ℝ) : Ideal.div (1 : EReal) (1 + Ideal.exp (0 - (z : EReal))) = ((sg z : ℝ) : EReal) := by
  have h0 : (0 : EReal) = ((0 : ℝ) : EReal) := rfl
  have h1 : (1 : EReal) = ((1 : ℝ) : EReal) := rfl
  rw [h0, h1, ← EReal.coe_sub, Ideal.exp_coe, ← EReal.coe_add, div_real _ (by positivity), zero_sub]
  rfl

end Cert.Ffn

end
-- ==== Proof.Proj.Pay.lean ====
/-
  What one grid point of the in-projection's backward call stores, where the blocks it reads are real numbers.
-/
module

public import proofs.«01_k».proof.Proof.Gen.KernelProjIdeal.Skeleton
public import proofs.«01_k».proof.Proof.Norm

@[expose] public section

set_option maxRecDepth 16384

noncomputable section

open Idealize.ShloMosaic
open Cert.KernelProjIdeal Cert.KernelProjIdeal.Gen
open Finset (range)

namespace Cert.Proj

open Cert.Sb (Is coe_sum sum_mul sum_one)
open Cert.Norm

/-- Row `r` of the first `n` columns of `p` against column `c` of `w`. -/
def dot (n : ℕ) (p w : ℕ → ℕ → ℝ) (r c : ℕ) : ℝ := ∑ j ∈ range n, p r j * w j c

theorem dot_is {n k m : ℕ} {v : (⟨2, ![n, k]⟩ : Shape).Idx → EReal} {w : (⟨2, ![k, m]⟩ : Shape).Idx → EReal} {p q : ℕ → ℕ → ℝ} (h : Is v p) (h' : Is w q)
    (r : Fin n) (c : Fin m) : ∑ x : Fin k, v (ix2 r x) * w (ix2 x c) = ((dot k p q r c : ℝ) : EReal) :=
  sum_mul (p r) (fun j => q j c) (fun x => h r x) fun x => h' x c

section Products

variable {v0 v1 v2 : FVec Ideal S256x512 .bf16} {w0 w1 w2 : FVec Ideal S512x1024 .bf16} {v3 v4 v5 v6 v7 v8 v9 v10 v11 : FVec Ideal S256x256 .f32}
  {w3 w4 w5 w6 w7 w8 w9 w10 w11 : FVec Ideal S256x1024 .bf16} {v12 : FVec Ideal S256x2048 .bf16} {w12 : FVec Ideal S2048x1024 .bf16}
  {p0 p1 p2 p3 p4 p5 p6 p7 p8 p9 p10 p11 p12 q0 q1 q2 q3 q4 q5 q6 q7 q8 q9 q10 q11 q12 s : ℕ → ℕ → ℝ} {a : FVec Ideal S256x1024 .f32}

theorem pay5_is (h0 : Is v0 p0) (h1 : Is v1 p1) (h2 : Is v2 p2) (h3 : Is v3 p3) (k0 : Is w0 q0) (k1 : Is w1 q1) (k2 : Is w2 q2) (k3 : Is w3 q3) :
    Is (k0_pay5 (F := Ideal) v0 w0 v1 w1 v2 w2 v3 w3) fun r c => dot 512 p0 q0 r c + dot 512 p1 q1 r c + dot 512 p2 q2 r c + dot 256 p3 q3 r c := fun r c => by
  pointwise [k0_pay5]
  rw [dot_is h0 k0, dot_is h1 k1, dot_is h2 k2, dot_is h3 k3]
  simp only [← EReal.coe_add]

theorem pay6_is (h : Is v4 p4) : Is (k0_pay6 (F := Ideal) v4) p4 := fun r c => by
  pointwise [k0_pay6]; exact h r c

theorem pay8_is (h : Is v4 p4) : Is (k0_pay8 (F := Ideal) v4) p4 := fun r c => by
  pointwise [k0_pay8]; exact h r c

theorem pay7_is (ha : Is a s) {v : FVec Ideal S256x256 .bf16} (h4 : Is v p4) (h5 : Is v5 p5) (h6 : Is v6 p6) (h7 : Is v7 p7) (h8 : Is v8 p8)
    (k4 : Is w4 q4) (k5 : Is w5 q5) (k6 : Is w6 q6) (k7 : Is w7 q7) (k8 : Is w8 q8) :
    Is (k0_pay7 (F := Ideal) a v w4 v5 w5 v6 w6 v7 w7 v8 w8)
      fun r c => s r c + dot 256 p4 q4 r c + dot 256 p5 q5 r c + dot 256 p6 q6 r c + dot 256 p7 q7 r c + dot 256 p8 q8 r c := fun r c => by
  pointwise [k0_pay7]
  rw [ha r c, dot_is h4 k4, dot_is h5 k5, dot_is h6 k6, dot_is h7 k7, dot_is h8 k8]
  simp only [← EReal.coe_add]

theorem pay9_is (ha : Is a s) {v : FVec Ideal S256x256 .bf16} (h9 : Is v p9) (h10 : Is v10 p10) (h11 : Is v11 p11) (h12 : Is v12 p12)
    (k9 : Is w9 q9) (k10 : Is w10 q10) (k11 : Is w11 q11) (k12 : Is w12 q12) :
    Is (k0_pay9 (F := Ideal) a v w9 v10 w10 v11 w11 v12 w12)
      fun r c => s r c + dot 256 p9 q9 r c + dot 256 p10 q10 r c + dot 256 p11 q11 r c + dot 2048 p12 q12 r c := fun r c => by
  pointwise [k0_pay9]
  rw [ha r c, dot_is h9 k9, dot_is h10 k10, dot_is h11 k11, dot_is h12 k12]
  simp only [← EReal.coe_add]

end Products

section Norm

variable {x dx1 du : FVec Ideal S256x1024 .f32} {g o : FVec Ideal S1x1024 .f32} {r1 : FVec Ideal S256x1 .f32} {fx fd fu fg fo : ℕ → ℕ → ℝ}

theorem pay12_is (hx : Is x fx) : Is (k0_pay12 (F := Ideal) x) fun r _ => rr (fx r) := fun r c => by
  pointwise [k0_pay12, k0_pay11]
  exact rsqrt_row (sum_mul (fx r) (fx r) (fun j => hx r j) fun j => hx r j)

/-- The gain's gradient, added to what the point before left. -/
theorem pay2_is (hu : Is du fu) (hx : Is x fx) (hr : Is r1 fun r _ => rr (fx r)) (ho : Is o fo) :
    Is (k0_pay2 (F := Ideal) du x r1 o) fun r c => fo r c + ∑ k ∈ range 256, fu k c * (fx k c * rr (fx k)) := fun r c => by
  pointwise [k0_pay2, k0_pay1]
  have hs : ∑ j : Fin 256, du (ix2 j c) * (x (ix2 j c) * r1 (ix2 j 0)) = ((∑ k ∈ range 256, fu k c * (fx k c * rr (fx k)) : ℝ) : EReal) :=
    sum_mul (fun k => fu k c) (fun k => fx k c * rr (fx k)) (fun j => hu j c) fun j => by
      have h := hr j 0
      simp only [] at h
      rw [hx j c, h, ← EReal.coe_mul]
  have h0 := ho r c
  rw [Fin.eq_zero r] at h0 ⊢
  rw [hs, h0, ← EReal.coe_add]
  rfl

theorem pay3_is (hu : Is du fu) (hg : Is g fg) (hx : Is x fx) (hr : Is r1 fun r _ => rr (fx r)) (hd : Is dx1 fd) :
    Is (k0_pay3 (F := Ideal) du g x r1 dx1) fun r c => fd r c + back (fx r) (fun j => fu r j * fg 0 j) c := fun r c => by
  pointwise [k0_pay3, k0_pay1]
  have hr0 : r1 (ix2 r 0) = ((rr (fx r) : ℝ) : EReal) := hr r 0
  have hs : ∑ j : Fin 1024, du (ix2 r j) * g (ix2 0 j) * (x (ix2 r j) * r1 (ix2 r 0))
      = ((∑ j ∈ range 1024, fu r j * fg 0 j * (fx r j * rr (fx r)) : ℝ) : EReal) :=
    sum_mul (fun j => fu r j * fg 0 j) (fun j => fx r j * rr (fx r)) (fun j => by rw [hu r j, hg 0 j, ← EReal.coe_mul]; rfl) fun j => by
      rw [hx r j, hr0, ← EReal.coe_mul]
  rw [hs, ofBits_1024, div_real _ (by norm_num), hd r c, hr0, hu r c, hg 0 c, hx r c]
  simp only [← EReal.coe_mul, ← EReal.coe_sub, ← EReal.coe_add]
  rfl

end Norm

end Cert.Proj

end
-- ==== Proof.Ffn.Pay.lean ====
/-
  What one grid point of the feed-forward's call computes, where the blocks it reads are real numbers. `R p` is the token of row `p`.
-/
module

public import proofs.«01_k».proof.Proof.Gen.KernelFfnIdeal.Skeleton
public import proofs.«01_k».proof.Proof.Ffn.Grad
public import proofs.«01_k».proof.Proof.Proj.Pay

@[expose] public section

set_option maxRecDepth 16384

noncomputable section

open Idealize.ShloMosaic
open Cert.KernelFfnIdeal Cert.KernelFfnIdeal.Gen
open Finset (range)

namespace Cert.Ffn

open Cert.Sb (Is coe_sum sum_mul sum_one)
open Cert.Norm
open Cert.Proj (dot dot_is)

theorem ofBits_2048th : Ideal.ofBits .f32 0x3A000000#32 = ((1 / 2048 : ℝ) : EReal) := by
  have h1 : (BitVec.extractLsb' 23 8 (0x3A000000#32)).toNat = 116 := by decide
  have h2 : (BitVec.extractLsb' 0 23 (0x3A000000#32)).toNat = 0 := by decide
  have h3 : (BitVec.extractLsb' 31 1 (0x3A000000#32) == 1#1) = false := by decide
  change Ideal.ieee 8 23 (0x3A000000#32) = _
  simp [Ideal.ieee, h1, h2, h3]
  rw [← EReal.coe_mul]; norm_num

theorem ofBits_1024th : Ideal.ofBits .f32 0x3A800000#32 = ((1 / 1024 : ℝ) : EReal) := by
  have h1 : (BitVec.extractLsb' 23 8 (0x3A800000#32)).toNat = 117 := by decide
  have h2 : (BitVec.extractLsb' 0 23 (0x3A800000#32)).toNat = 0 := by decide
  have h3 : (BitVec.extractLsb' 31 1 (0x3A800000#32) == 1#1) = false := by decide
  change Ideal.ieee 8 23 (0x3A800000#32) = _
  simp [Ideal.ieee, h1, h2, h3]
  rw [← EReal.coe_mul]; norm_num

/-- A row against a transposed weight. -/
theorem dotT {n k m : ℕ} {v : (⟨2, ![n, k]⟩ : Shape).Idx → EReal} {w : (⟨2, ![m, k]⟩ : Shape).Idx → EReal} {p q : ℕ → ℕ → ℝ} (h : Is v p)
    (h' : Is w fun c j => q j c) (r : Fin n) (c : Fin m) : ∑ x : Fin k, v (ix2 r x) * w (ix2 c x) = ((dot k p q r c : ℝ) : EReal) :=
  sum_mul (p r) (fun j => q j c) (fun x => h r x) fun x => h' c x

variable {W : Wts} {R : ℕ → Row} {o : ℕ}

section Merge

variable {x0 : FVec Ideal S256x1024 .f32} {x1 : FVec Ideal S256x512 .bf16} {x2 : FVec Ideal S256x256 .f32} {x3 x3' : FVec Ideal S256x1024 .f32}
  {x4 : FVec Ideal S1024x512 .bf16} {x5 : FVec Ideal S1024x256 .bf16} {x6 w : FVec Ideal S1024x1024 .bf16} {x8 x9 : FVec Ideal S1x1024 .f32}
  {mg : FVec Ideal S256x1024 .bf16}

theorem pay7_is (h1 : Is x1 fun p => (R p).os) (h4 : Is x4 fun k j => W.sb j k) (h2 : Is x2 fun p => (R p).od) (h5 : Is x5 fun k j => W.dl j k)
    (h3 : Is x3 fun p => (R p).ga) (h3' : Is x3' fun p k => (R p).ga (1024 + k)) :
    Is (k0_pay7 (F := Ideal) x1 x4 x2 x5 x3 x3') fun p => (R p).merged W := fun p k => by
  pointwise [k0_pay7]
  rw [h3 p k, h3' p k, sg_coe, sg_coe, dotT (q := W.sb) h1 h4, dotT (q := W.dl) h2 h5]
  simp only [← EReal.coe_mul, ← EReal.coe_add]
  rfl

theorem pay8_is (hm : Is mg fun p => (R p).merged W) (h0 : Is x0 fun p => (R p).x) (h6 : Is x6 W.o) :
    Is (k0_pay8 (F := Ideal) mg x0 x6) fun p => (R p).x1 W := fun p k => by
  pointwise [k0_pay8]
  rw [h0 p k, dot_is hm h6, ← EReal.coe_add]
  rfl

theorem pay9_is (h : Is x8 fun _ => W.g) : Is (k0_pay9 (F := Ideal) x8) fun _ => W.g := fun r k => by
  rw [Fin.eq_zero r]
  pointwise [k0_pay9]; exact h 0 k

theorem pay10_is (h : Is x9 fun _ => W.e) : Is (k0_pay10 (F := Ideal) x9) fun _ => W.e := fun r k => by
  rw [Fin.eq_zero r]
  pointwise [k0_pay10]; exact h 0 k

theorem pay11_is (h : Is (k0_pay8 (F := Ideal) mg x0 x6) fun p => (R p).x1 W) :
    Is (k0_pay11 (F := Ideal) mg x0 x6) fun p _ => rr ((R p).x1 W) := fun p k => by
  pointwise [k0_pay11]
  exact rsqrt_row (sum_mul ((R p).x1 W) ((R p).x1 W) (fun j => h p j) fun j => h p j)

theorem pay12_is (h : Is (k0_pay8 (F := Ideal) mg x0 x6) fun p => (R p).x1 W) :
    Is (k0_pay12 (F := Ideal) mg x0 x6) fun p k => (R p).x1 W k * rr ((R p).x1 W) := fun p k => by
  have h' : _ = ((rr ((R p).x1 W) : ℝ) : EReal) := pay11_is h p 0
  pointwise [k0_pay12]
  rw [h p k, h', ← EReal.coe_mul]

theorem pay13_is (h : Is (k0_pay8 (F := Ideal) mg x0 x6) fun p => (R p).x1 W) (h8 : Is x8 fun _ => W.g) :
    Is (k0_pay13 (F := Ideal) mg x0 x6 x8) fun p => (R p).u2 W := fun p k => by
  have h' : _ = ((W.g k : ℝ) : EReal) := pay9_is h8 0 k
  pointwise [k0_pay13]
  rw [pay12_is h p k, h', ← EReal.coe_mul]
  rfl

theorem pay14_is (h : Is (k0_pay13 (F := Ideal) mg x0 x6 x8) fun p => (R p).u2 W) (hw : Is w fun j k => W.i k (o + j)) :
    Is (k0_pay14 (F := Ideal) mg x0 x6 x8 w) fun p j => (R p).h W (o + j) := fun p j => by
  pointwise [k0_pay14]
  exact dotT (q := fun k j => W.i k (o + j)) h hw p j

theorem pay15_is (h : Is (k0_pay13 (F := Ideal) mg x0 x6 x8) fun p => (R p).u2 W) (hw : Is w fun j k => W.i k (2816 + (o + j))) :
    Is (k0_pay15 (F := Ideal) mg x0 x6 x8 w) fun p j => (R p).h W (2816 + (o + j)) := fun p j => by
  pointwise [k0_pay15]
  exact dotT (q := fun k j => W.i k (2816 + (o + j))) h hw p j

theorem pay16_is {f : ℕ → ℕ → ℝ} (h : Is (k0_pay14 (F := Ideal) mg x0 x6 x8 w) f) : Is (k0_pay16 (F := Ideal) mg x0 x6 x8 w) f := fun p j => by
  pointwise [k0_pay16]; exact h p j

end Merge

/-! The forward pass of the feed-forward, in chunks of columns starting at `o`. -/

section Forward

variable {a g u : FVec Ideal S256x1024 .f32} {u2 : FVec Ideal S256x1024 .bf16} {w wf : FVec Ideal S1024x1024 .bf16} {w' wu' wf' : FVec Ideal S768x1024 .bf16}
  {f : ℕ → ℕ → ℝ} {ac : FVec Ideal S256x768 .bf16}

theorem pay17_is (h : Is u f) : Is (k0_pay17 (F := Ideal) u) f := fun p j => by
  pointwise [k0_pay17]; exact h p j

theorem pay18_is (hg : Is g fun p j => (R p).h W (o + j)) (hu : Is u fun p j => (R p).h W (2816 + (o + j))) :
    Is (k0_pay18 (F := Ideal) g u) fun p j => (R p).act W (o + j) := fun p j => by
  pointwise [k0_pay18]
  rw [hg p j, hu p j, sg_coe, ← EReal.coe_mul, ← EReal.coe_mul]
  rfl

theorem pay19_is (ha : Is a f) (h : Is (k0_pay18 (F := Ideal) g u) fun p j => (R p).act W (o + j)) (hf : Is wf fun j k => W.f (o + j) k) :
    Is (k0_pay19 (F := Ideal) a g u wf) fun p k => f p k + (R p).xpart W 1024 o k := fun p k => by
  pointwise [k0_pay19]
  rw [ha p k, dot_is h hf, ← EReal.coe_add]
  rfl

theorem pay20_is (h : Is u2 fun p => (R p).u2 W) (hw : Is w fun j k => W.i k (o + j)) :
    Is (k0_pay20 (F := Ideal) u2 w) fun p j => (R p).h W (o + j) := fun p j => by
  pointwise [k0_pay20]
  exact dotT (q := fun k j => W.i k (o + j)) h hw p j

theorem pay21_is (h : Is u2 fun p => (R p).u2 W) (hw : Is w fun j k => W.i k (2816 + (o + j))) :
    Is (k0_pay21 (F := Ideal) u2 w) fun p j => (R p).h W (2816 + (o + j)) := fun p j => by
  pointwise [k0_pay21]
  exact dotT (q := fun k j => W.i k (2816 + (o + j))) h hw p j

theorem pay22_is (h : Is (k0_pay20 (F := Ideal) u2 w) f) : Is (k0_pay22 (F := Ideal) u2 w) f := fun p j => by
  pointwise [k0_pay22]; exact h p j

theorem pay23_is (h : Is (k0_pay21 (F := Ideal) u2 w) f) : Is (k0_pay23 (F := Ideal) u2 w) f := fun p j => by
  pointwise [k0_pay23]; exact h p j

theorem pay25_is (h : Is (k0_pay20 (F := Ideal) u2 w) fun p j => (R p).h W (o + j)) (hu : Is u fun p j => (R p).h W (2816 + (o + j))) :
    Is (k0_pay25 (F := Ideal) (k0_pay20 u2 w) u (k0_pay24 u2 w) (FloatOps.ofBits FTy.f32 1065353216#32)) fun p j => (R p).act W (o + j) := fun p j => by
  pointwise [k0_pay25, k0_pay24]
  rw [h p j, hu p j, sg_coe, ← EReal.coe_mul, ← EReal.coe_mul]
  rfl

theorem pay26_is {x : FVec Ideal S256x1024 .f32} {s : Ideal .f32} (ha : Is a f) (h : Is (k0_pay25 (F := Ideal) g u x s)
    fun p j => (R p).act W (o + j)) (hf : Is wf fun j k => W.f (o + j) k) :
    Is (k0_pay26 (F := Ideal) a g u x s wf)
      fun p k => f p k + (R p).xpart W 1024 o k := fun p k => by
  pointwise [k0_pay26]
  rw [ha p k, dot_is h hf, ← EReal.coe_add]
  rfl

theorem pay27_is (h : Is u2 fun p => (R p).u2 W) (hw : Is w' fun j k => W.i k (o + j)) :
    Is (k0_pay27 (F := Ideal) u2 w') fun p j => (R p).h W (o + j) := fun p j => by
  pointwise [k0_pay27]
  exact dotT (q := fun k j => W.i k (o + j)) h hw p j

theorem pay28_is (h : Is u2 fun p => (R p).u2 W) (hw : Is w' fun j k => W.i k (2816 + (o + j))) :
    Is (k0_pay28 (F := Ideal) u2 w') fun p j => (R p).h W (2816 + (o + j)) := fun p j => by
  pointwise [k0_pay28]
  exact dotT (q := fun k j => W.i k (2816 + (o + j))) h hw p j

theorem pay29_is (h : Is (k0_pay27 (F := Ideal) u2 w') f) : Is (k0_pay29 (F := Ideal) u2 w') f := fun p j => by
  pointwise [k0_pay29]; exact h p j

theorem pay30_is (h : Is (k0_pay28 (F := Ideal) u2 w') f) : Is (k0_pay30 (F := Ideal) u2 w') f := fun p j => by
  pointwise [k0_pay30]; exact h p j

theorem pay31_is (h : Is (k0_pay27 (F := Ideal) u2 w') fun p j => (R p).h W (o + j)) (hu : Is (k0_pay28 (F := Ideal) u2 wu') fun p j => (R p).h W (2816 + (o + j))) :
    Is (k0_pay31 (F := Ideal) u2 w' wu') fun p j => (R p).act W (o + j) := fun p j => by
  pointwise [k0_pay31]
  rw [h p j, hu p j, sg_coe, ← EReal.coe_mul, ← EReal.coe_mul]
  rfl

theorem pay32_is (ha : Is a f) (h : Is ac fun p j => (R p).act W (o + j)) (hf : Is wf' fun j k => W.f (o + j) k) :
    Is (k0_pay32 (F := Ideal) a ac wf') fun p k => f p k + (R p).xpart W 768 o k := fun p k => by
  pointwise [k0_pay32]
  rw [ha p k, dot_is h hf, ← EReal.coe_add]
  rfl

end Forward

/-! The last norm and the loss. -/

section Loss

variable {a x7 : FVec Ideal S256x1024 .f32} {ac : FVec Ideal S256x768 .bf16} {wf : FVec Ideal S768x1024 .bf16} {e pg : FVec Ideal S1x1024 .f32}
  {pl : FVec Ideal S1x128 .f32} {f : ℕ → ℕ → ℝ}

theorem pay33_is (h : Is (k0_pay32 (F := Ideal) a ac wf) fun p => (R p).x2 W) : Is (k0_pay33 (F := Ideal) a ac wf) fun p _ => rr ((R p).x2 W) := fun p k => by
  pointwise [k0_pay33]
  exact rsqrt_row (sum_mul ((R p).x2 W) ((R p).x2 W) (fun j => h p j) fun j => h p j)

theorem pay34_is (h : Is (k0_pay32 (F := Ideal) a ac wf) fun p => (R p).x2 W) :
    Is (k0_pay34 (F := Ideal) a ac wf) fun p k => (R p).x2 W k * rr ((R p).x2 W) := fun p k => by
  have h' : _ = ((rr ((R p).x2 W) : ℝ) : EReal) := pay33_is h p 0
  pointwise [k0_pay34]
  rw [h p k, h', ← EReal.coe_mul]

theorem pay35_is (h : Is (k0_pay34 (F := Ideal) a ac wf) fun p k => (R p).x2 W k * rr ((R p).x2 W)) (he : Is e fun _ => W.e) (h7 : Is x7 fun p => (R p).tg) :
    Is (k0_pay35 (F := Ideal) e a ac wf x7) fun p => (R p).err W := fun p k => by
  pointwise [k0_pay35]
  rw [h p k, he 0 k, h7 p k, ← EReal.coe_mul, ← EReal.coe_sub]
  rfl

theorem pay36_is (h : Is (k0_pay35 (F := Ideal) e a ac wf x7) fun p => (R p).err W) (ho : Is pl f) :
    Is (k0_pay36 (F := Ideal) e a ac wf x7 pl) fun p k => f p k + ∑ s ∈ range 256, (R s).loss W := fun p k => by
  have h0 := ho p k
  rw [Fin.eq_zero p] at h0 ⊢
  pointwise [k0_pay36]
  have hs : ∀ s : Fin 256, ∑ j : Fin 1024, k0_pay35 (F := Ideal) e a ac wf x7 (ix2 s j) * k0_pay35 (F := Ideal) e a ac wf x7 (ix2 s j)
      = ((∑ j ∈ range 1024, (R s).err W j * (R s).err W j : ℝ) : EReal) := fun s =>
    sum_mul ((R s).err W) ((R s).err W) (fun j => h s j) fun j => h s j
  rw [sum_one (fun s => ∑ j ∈ range 1024, (R s).err W j * (R s).err W j) hs, h0, ofBits_2048th, ← EReal.coe_mul, ← EReal.coe_add, Finset.sum_mul]
  rfl

theorem pay37_is (h : Is (k0_pay35 (F := Ideal) e a ac wf x7) fun p => (R p).err W) :
    Is (k0_pay37 (F := Ideal) e a ac wf x7) fun p => (R p).dy W := fun p k => by
  pointwise [k0_pay37]
  rw [h p k, ofBits_1024th, ← EReal.coe_mul]
  rfl

theorem pay38_is (h : Is (k0_pay37 (F := Ideal) e a ac wf x7) fun p => (R p).dy W)
    (h' : Is (k0_pay34 (F := Ideal) a ac wf) fun p k => (R p).x2 W k * rr ((R p).x2 W)) :
    Is (k0_pay38 (F := Ideal) e a ac wf x7) fun _ k => ∑ s ∈ range 256, (R s).de W k := fun p k => by
  rw [Fin.eq_zero p]
  pointwise [k0_pay38]
  exact sum_mul (fun s => (R s).dy W k) (fun s => (R s).x2 W k * rr ((R s).x2 W)) (fun s => h s k) fun s => h' s k

theorem pay42_is {q : ℕ → ℕ → ℝ} {d : FVec Ideal S1x1024 .f32} (h : Is d q) (ho : Is pg f) :
    Is (k0_pay42 (F := Ideal) d pg) fun p k => f p k + q p k := fun p k => by
  have h0 := ho p k
  have h1 := h p k
  rw [Fin.eq_zero p] at h0 h1 ⊢
  pointwise [k0_pay42]
  rw [h0, h1, ← EReal.coe_add]
  rfl

theorem pay39_is (h : Is (k0_pay37 (F := Ideal) e a ac wf x7) fun p => (R p).dy W) (he : Is e fun _ => W.e) :
    Is (k0_pay39 (F := Ideal) e a ac wf x7) fun p k => (R p).dy W k * W.e k := fun p k => by
  pointwise [k0_pay39]
  rw [h p k, he 0 k, ← EReal.coe_mul]

theorem pay40_is (h : Is (k0_pay39 (F := Ideal) e a ac wf x7) fun p k => (R p).dy W k * W.e k)
    (h' : Is (k0_pay34 (F := Ideal) a ac wf) fun p k => (R p).x2 W k * rr ((R p).x2 W)) :
    Is (k0_pay40 (F := Ideal) e a ac wf x7) fun p _ => ∑ j ∈ range 1024, (R p).dy W j * W.e j * ((R p).x2 W j * rr ((R p).x2 W)) := fun p k => by
  pointwise [k0_pay40]
  exact sum_mul (fun j => (R p).dy W j * W.e j) (fun j => (R p).x2 W j * rr ((R p).x2 W)) (fun j => h p j) fun j => h' p j

end Loss

/-! The gradient, in chunks of columns starting at `o`. -/

section Backward

variable {r3 q : FVec Ideal S256x1 .f32} {n d a g u n2 x2 : FVec Ideal S256x1024 .f32} {db dg du : FVec Ideal S256x1024 .bf16} {g' u' : FVec Ideal S256x768 .f32}
  {wf wi wi' : FVec Ideal S1024x1024 .bf16} {wf' vi vi' : FVec Ideal S768x1024 .bf16} {dg' du' : FVec Ideal S256x768 .bf16}
  {r2 : FVec Ideal S256x1 .f32} {gn pg : FVec Ideal S1x1024 .f32} {f : ℕ → ℕ → ℝ}

theorem pay41_is (hr : Is r3 fun p _ => rr ((R p).x2 W)) (hn : Is n fun p k => (R p).x2 W k * rr ((R p).x2 W))
    (hd : Is d fun p k => (R p).dy W k * W.e k) (hq : Is q fun p _ => ∑ j ∈ range 1024, (R p).dy W j * W.e j * ((R p).x2 W j * rr ((R p).x2 W))) :
    Is (k0_pay41 (F := Ideal) r3 n d q) fun p => (R p).dx2 W := fun p k => by
  have hr0 : r3 (ix2 p 0) = ((rr ((R p).x2 W) : ℝ) : EReal) := hr p 0
  have hq0 := hq p 0
  pointwise [k0_pay41]
  rw [hr0, hq0, hd p k, hn p k, ofBits_1024, div_real _ (by norm_num)]
  simp only [← EReal.coe_mul, ← EReal.coe_sub]
  rfl

theorem pay43_is (h : Is (k0_pay41 (F := Ideal) r3 n d q) f) : Is (k0_pay43 (F := Ideal) r3 n d q) f := fun p k => by
  pointwise [k0_pay43]; exact h p k

theorem pay45_is (h : Is (k0_pay43 (F := Ideal) r3 n d q) fun p => (R p).dx2 W) (hf : Is wf fun j k => W.f (o + j) k) :
    Is (k0_pay45 (F := Ideal) r3 n d q wf) fun p j => (R p).dact W (o + j) := fun p j => by
  pointwise [k0_pay45]
  exact dotT (q := fun k j => W.f (o + j) k) h hf p j

theorem pay46_is (h : Is g f) : Is (k0_pay46 (F := Ideal) g) fun p j => sg (f p j) := fun p j => by
  pointwise [k0_pay46]
  rw [h p j, sg_coe]

theorem pay47_is (h : Is (k0_pay45 (F := Ideal) r3 n d q wf) fun p j => (R p).dact W (o + j)) (hg : Is g fun p j => (R p).h W (o + j))
    (hu : Is u fun p j => (R p).h W (2816 + (o + j))) : Is (k0_pay47 (F := Ideal) r3 n d q g u wf) fun p j => (R p).dgate W (o + j) := fun p j => by
  pointwise [k0_pay47]
  rw [h p j, pay46_is hg p j, hg p j, hu p j, ← EReal.coe_one]
  simp only [← EReal.coe_mul, ← EReal.coe_sub, ← EReal.coe_add]
  rfl

theorem pay48_is (h : Is (k0_pay45 (F := Ideal) r3 n d q wf) fun p j => (R p).dact W (o + j)) (hg : Is g fun p j => (R p).h W (o + j)) :
    Is (k0_pay48 (F := Ideal) r3 n d q g wf) fun p j => (R p).dup W (o + j) := fun p j => by
  pointwise [k0_pay48]
  rw [h p j, pay46_is hg p j, hg p j]
  simp only [← EReal.coe_mul]
  rfl

theorem pay49_is (hg : Is dg fun p j => (R p).dgate W (o + j)) (hu : Is du fun p j => (R p).dup W (o + j)) (hi : Is wi fun j k => W.i k (o + j))
    (hi' : Is wi' fun j k => W.i k (2816 + (o + j))) : Is (k0_pay49 (F := Ideal) k0_pay44 dg du wi wi') fun p => (R p).upart W 1024 o := fun p k => by
  pointwise [k0_pay49, k0_pay44]
  rw [dot_is hg hi, dot_is hu hi', ← EReal.coe_add]
  rfl

theorem pay50_is (h : Is db fun p => (R p).dx2 W) (hf : Is wf fun j k => W.f (o + j) k) :
    Is (k0_pay50 (F := Ideal) db wf) fun p j => (R p).dact W (o + j) := fun p j => by
  pointwise [k0_pay50]
  exact dotT (q := fun k j => W.f (o + j) k) h hf p j

theorem pay51_is (h : Is g f) : Is (k0_pay51 (F := Ideal) g) fun p j => sg (f p j) := fun p j => by
  pointwise [k0_pay51]
  rw [h p j, sg_coe]

theorem pay52_is (h : Is (k0_pay50 (F := Ideal) db wf) fun p j => (R p).dact W (o + j)) (hg : Is g fun p j => (R p).h W (o + j))
    (hu : Is u fun p j => (R p).h W (2816 + (o + j))) : Is (k0_pay52 (F := Ideal) db g u wf) fun p j => (R p).dgate W (o + j) := fun p j => by
  pointwise [k0_pay52]
  rw [h p j, pay51_is hg p j, hg p j, hu p j, ← EReal.coe_one]
  simp only [← EReal.coe_mul, ← EReal.coe_sub, ← EReal.coe_add]
  rfl

theorem pay53_is (h : Is (k0_pay50 (F := Ideal) db wf) fun p j => (R p).dact W (o + j)) (hg : Is g fun p j => (R p).h W (o + j)) :
    Is (k0_pay53 (F := Ideal) db g wf) fun p j => (R p).dup W (o + j) := fun p j => by
  pointwise [k0_pay53]
  rw [h p j, pay51_is hg p j, hg p j]
  simp only [← EReal.coe_mul]
  rfl

theorem pay54_is (ha : Is a f) (hg : Is dg fun p j => (R p).dgate W (o + j)) (hu : Is du fun p j => (R p).dup W (o + j))
    (hi : Is wi fun j k => W.i k (o + j)) (hi' : Is wi' fun j k => W.i k (2816 + (o + j))) :
    Is (k0_pay54 (F := Ideal) a dg du wi wi') fun p k => f p k + (R p).upart W 1024 o k := fun p k => by
  pointwise [k0_pay54]
  rw [ha p k, dot_is hg hi, dot_is hu hi', ← EReal.coe_add, ← EReal.coe_add, add_assoc]
  rfl

theorem pay55_is (h : Is db fun p => (R p).dx2 W) (hf : Is wf' fun j k => W.f (o + j) k) :
    Is (k0_pay55 (F := Ideal) db wf') fun p j => (R p).dact W (o + j) := fun p j => by
  pointwise [k0_pay55]
  exact dotT (q := fun k j => W.f (o + j) k) h hf p j

theorem pay56_is (h : Is g' f) : Is (k0_pay56 (F := Ideal) g') fun p j => sg (f p j) := fun p j => by
  pointwise [k0_pay56]
  rw [h p j, sg_coe]

theorem pay57_is (h : Is (k0_pay55 (F := Ideal) db wf') fun p j => (R p).dact W (o + j)) (hg : Is g' fun p j => (R p).h W (o + j))
    (hu : Is u' fun p j => (R p).h W (2816 + (o + j))) : Is (k0_pay57 (F := Ideal) db g' u' wf') fun p j => (R p).dgate W (o + j) := fun p j => by
  pointwise [k0_pay57]
  rw [h p j, pay56_is hg p j, hg p j, hu p j, ← EReal.coe_one]
  simp only [← EReal.coe_mul, ← EReal.coe_sub, ← EReal.coe_add]
  rfl

theorem pay58_is (h : Is (k0_pay55 (F := Ideal) db wf') fun p j => (R p).dact W (o + j)) (hg : Is g' fun p j => (R p).h W (o + j)) :
    Is (k0_pay58 (F := Ideal) db g' wf') fun p j => (R p).dup W (o + j) := fun p j => by
  pointwise [k0_pay58]
  rw [h p j, pay56_is hg p j, hg p j]
  simp only [← EReal.coe_mul]
  rfl

theorem pay1_is (ha : Is a f) (hg : Is dg' fun p j => (R p).dgate W (o + j)) (hu : Is du' fun p j => (R p).dup W (o + j))
    (hi : Is vi fun j k => W.i k (o + j)) (hi' : Is vi' fun j k => W.i k (2816 + (o + j))) :
    Is (k0_pay1 (F := Ideal) a dg' du' vi vi') fun p k => f p k + (R p).upart W 768 o k := fun p k => by
  pointwise [k0_pay1]
  rw [ha p k, dot_is hg hi, dot_is hu hi', ← EReal.coe_add, ← EReal.coe_add, add_assoc]
  rfl

theorem pay2_is (h : Is (k0_pay1 (F := Ideal) a dg' du' vi vi') fun p => (R p).du2 W) (hn : Is n2 fun p k => (R p).x1 W k * rr ((R p).x1 W)) (ho : Is pg f) :
    Is (k0_pay2 (F := Ideal) n2 a dg' du' vi vi' pg) fun p k => f p k + ∑ s ∈ range 256, (R s).dg W k := fun p k => by
  have h0 := ho p k
  rw [Fin.eq_zero p] at h0 ⊢
  pointwise [k0_pay2]
  have hs : ∑ s : Fin 256, k0_pay1 (F := Ideal) a dg' du' vi vi' (ix2 s k) * n2 (ix2 s k) = ((∑ s ∈ range 256, (R s).dg W k : ℝ) : EReal) :=
    sum_mul (fun s => (R s).du2 W k) (fun s => (R s).x1 W k * rr ((R s).x1 W)) (fun s => h s k) fun s => hn s k
  rw [h0, hs, ← EReal.coe_add]
  rfl

theorem pay3_is (h : Is (k0_pay1 (F := Ideal) a dg' du' vi vi') fun p => (R p).du2 W) (hn : Is n2 fun p k => (R p).x1 W k * rr ((R p).x1 W))
    (hr : Is r2 fun p _ => rr ((R p).x1 W)) (hg : Is gn fun _ => W.g) (hx : Is x2 fun p => (R p).dx2 W) :
    Is (k0_pay3 (F := Ideal) gn r2 n2 x2 a dg' du' vi vi') fun p => (R p).dx1 W := fun p k => by
  have hr0 : r2 (ix2 p 0) = ((rr ((R p).x1 W) : ℝ) : EReal) := hr p 0
  pointwise [k0_pay3]
  have hs : ∑ j : Fin 1024, k0_pay1 (F := Ideal) a dg' du' vi vi' (ix2 p j) * gn (ix2 0 j) * n2 (ix2 p j)
      = ((∑ j ∈ range 1024, (R p).du2 W j * W.g j * ((R p).x1 W j * rr ((R p).x1 W)) : ℝ) : EReal) :=
    sum_mul (fun j => (R p).du2 W j * W.g j) (fun j => (R p).x1 W j * rr ((R p).x1 W)) (fun j => by
      rw [h p j, hg 0 j, ← EReal.coe_mul]) fun j => hn p j
  rw [hr0, hs, h p k, hg 0 k, hn p k, hx p k, ofBits_1024, div_real _ (by norm_num)]
  simp only [← EReal.coe_mul, ← EReal.coe_sub, ← EReal.coe_add]
  rfl

end Backward

end Cert.Ffn

end
-- ==== Proof.Ffn.Ref.lean ====
/-
  The reference of the merge, feed-forward and loss with their gradients, stage by stage over the reals.
-/
module

public import proofs.«01_k».proof.Proof.Gen.ReferenceFfnIdeal.Run
public import proofs.«01_k».proof.Proof.Ffn.Grad
public import proofs.«01_k».proof.Proof.Ffn.Pay

@[expose] public section

noncomputable section

open Idealize.ShloMosaic
open Finset (range)
open Cert.Norm Cert.Rows
open Cert.Sb (Is sum_mul sum_one coe_sum)

namespace Cert.FfnRef

open Cert.ReferenceFfnIdeal Cert.ReferenceFfnIdeal.Gen Cert.ReferenceFfnIdeal.Value
open Cert.Ffn (Args sg sg_coe)

theorem sg_neg {z : ℝ} {x : EReal} (h : x = ((z : ℝ) : EReal)) : Ideal.div (1 : EReal) (1 + Ideal.exp (-x)) = ((sg z : ℝ) : EReal) := by
  rw [h, ← sg_coe, zero_sub]

theorem ofBits_half : Ideal.ofBits .f32 0x3F000000#32 = ((1 / 2 : ℝ) : EReal) := by
  have h1 : (BitVec.extractLsb' 23 8 (0x3F000000#32)).toNat = 126 := by decide
  have h2 : (BitVec.extractLsb' 0 23 (0x3F000000#32)).toNat = 0 := by decide
  have h3 : (BitVec.extractLsb' 31 1 (0x3F000000#32) == 1#1) = false := by decide
  change Ideal.ieee 8 23 (0x3F000000#32) = _
  simp [Ideal.ieee, h1, h2, h3]
  rw [← EReal.coe_mul]; norm_num

theorem ofBits_two : Ideal.ofBits .f32 0x40000000#32 = ((2 : ℝ) : EReal) := by
  have h1 : (BitVec.extractLsb' 23 8 (0x40000000#32)).toNat = 128 := by decide
  have h2 : (BitVec.extractLsb' 0 23 (0x40000000#32)).toNat = 0 := by decide
  have h3 : (BitVec.extractLsb' 31 1 (0x40000000#32) == 1#1) = false := by decide
  change Ideal.ieee 8 23 (0x40000000#32) = _
  simp [Ideal.ieee, h1, h2, h3]
  rw [← EReal.coe_mul]; norm_num

variable (V0 : Valuation τ sig (Elt Ideal)) (A : Args)

/-- The valuation's arguments hold the numbers of `A`. -/
abbrev Has : Prop := A.In (V0 (Proc.devRef .tc main_arg0)) (V0 (Proc.devRef .tc main_arg1)) (V0 (Proc.devRef .tc main_arg2)) (V0 (Proc.devRef .tc main_arg3))
  (V0 (Proc.devRef .tc main_arg4)) (V0 (Proc.devRef .tc main_arg5)) (V0 (Proc.devRef .tc main_arg6)) (V0 (Proc.devRef .tc main_arg7))
  (V0 (Proc.devRef .tc main_arg8)) (V0 (Proc.devRef .tc main_arg9)) (V0 (Proc.devRef .tc main_arg10)) (V0 (Proc.devRef .tc main_arg11))

variable {V0 A} (hA : Has V0 A)
include hA

theorem v18_is : IsB (res_main_v18 V0) fun b t => (A.row b t).merged A.W := fun b t k => by
  pointwise [res_main_v18]
  rw [sg_neg (hA.ga b t ⟨k.val, by omega⟩), sg_neg (hA.ga b t ⟨1024 + k.val, by omega⟩),
    sum_mul (A.os b t) (fun j => A.W.sb j k) (fun j => hA.os b t j) fun j => hA.wsb j k, sum_mul (A.od b t) (fun j => A.W.dl j k) (fun j => hA.od b t j) fun j => hA.wdl j k,
    ← EReal.coe_mul, ← EReal.coe_mul, ← EReal.coe_add]
  rfl

theorem v20_is : IsB (res_main_v20 V0) fun b t => (A.row b t).x1 A.W := fun b t k => by
  have h := v18_is hA
  unfold res_main_v20
  generalize res_main_v18 V0 = w at h ⊢
  pointwise []
  rw [hA.x b t k, sum_mul ((A.row b t).merged A.W) (fun j => A.W.o j k) (fun j => h b t j) fun j => hA.wo j k, ← EReal.coe_add]
  rfl

theorem v29_is : IsB (res_main_v29 V0) fun b t _ => under ((A.row b t).x1 A.W) := fun b t k => by
  have h := v20_is hA
  unfold res_main_v29
  generalize res_main_v20 V0 = w at h ⊢
  pointwise []
  rw [sum_mul ((A.row b t).x1 A.W) ((A.row b t).x1 A.W) (fun j => h b t j) fun j => h b t j, ofBits_1024, ofBits_eps, div_real _ (by norm_num), ← EReal.coe_add]
  rfl

theorem v30_is : IsB (res_main_v30 V0) fun b t _ => rr ((A.row b t).x1 A.W) := fun b t k => by
  have h := v29_is hA b t k
  unfold res_main_v30
  generalize res_main_v29 V0 = w at h ⊢
  pointwise []
  rw [h, Ideal.rsqrt_coe, if_neg (not_lt.2 (under_pos _).le), if_neg (under_pos _).ne']
  rfl

theorem v35_is : IsB (res_main_v35 V0) fun b t k => (A.row b t).x1 A.W k * rr ((A.row b t).x1 A.W) := fun b t k => by
  have h := v20_is hA b t k
  have h1 := v30_is hA b t 0
  unfold res_main_v35
  generalize res_main_v20 V0 = w at h ⊢
  generalize res_main_v30 V0 = v at h1 ⊢
  pointwise []
  rw [h, h1, ← EReal.coe_mul]

theorem v36_is : IsB (res_main_v36 V0) fun _ _ k => A.W.g k := fun b t k => by
  have h := hA.g k
  unfold res_main_v36
  pointwise []
  exact h

theorem v38_is : IsB (res_main_v38 V0) fun b t => (A.row b t).u2 A.W := fun b t k => by
  have h := v35_is hA b t k
  have h1 := v36_is hA 0 0 k
  unfold res_main_v38
  generalize res_main_v35 V0 = w at h ⊢
  generalize res_main_v36 V0 = v at h1 ⊢
  pointwise []
  rw [h, h1, ← EReal.coe_mul]
  rfl

theorem v40_is : IsB (res_main_v40 V0) fun b t => (A.row b t).h A.W := fun b t k => by
  have h := v38_is hA
  have hw := hA.wi
  unfold res_main_v40
  generalize res_main_v38 V0 = w at h ⊢
  pointwise []
  rw [sum_mul ((A.row b t).u2 A.W) (fun j => A.W.i j k) (fun j => h b t j) fun j => hA.wi j k]
  rfl

theorem v41_is : IsB (res_main_v41 V0) fun b t => (A.row b t).h A.W := fun b t k => by
  have h := v40_is hA b t ⟨k.val, by omega⟩
  unfold res_main_v41
  generalize res_main_v40 V0 = w at h ⊢
  pointwise []
  exact h

theorem v42_is : IsB (res_main_v42 V0) fun b t k => (A.row b t).h A.W (2816 + k) := fun b t k => by
  have h := v40_is hA b t ⟨2816 + k.val, by omega⟩
  unfold res_main_v42
  generalize res_main_v40 V0 = w at h ⊢
  pointwise []
  exact h

theorem v43_2_is : IsB (res_main_v43_2 V0) fun b t k => sg ((A.row b t).h A.W k) := fun b t k => by
  have h := v41_is hA b t k
  unfold res_main_v43_2
  generalize res_main_v41 V0 = w at h ⊢
  pointwise []
  rw [sg_neg h]

theorem v43_0_is : IsB (res_main_v43_0 V0) fun b t k => (A.row b t).h A.W k * sg ((A.row b t).h A.W k) := fun b t k => by
  have h := v41_is hA b t k
  have h1 := v43_2_is hA b t k
  unfold res_main_v43_0
  generalize res_main_v41 V0 = w at h ⊢
  generalize res_main_v43_2 V0 = v at h1 ⊢
  pointwise []
  rw [h, h1, ← EReal.coe_mul]

theorem v44_is : IsB (res_main_v44 V0) fun b t => (A.row b t).act A.W := fun b t k => by
  have h := v43_0_is hA b t k
  have h1 := v42_is hA b t k
  unfold res_main_v44
  generalize res_main_v43_0 V0 = w at h ⊢
  generalize res_main_v42 V0 = v at h1 ⊢
  pointwise []
  rw [h, h1, ← EReal.coe_mul]
  rfl

theorem v47_is : IsB (res_main_v47 V0) fun b t => (A.row b t).x2 A.W := fun b t k => by
  have h := v20_is hA b t k
  have h1 := v44_is hA
  have hw := hA.wf
  unfold res_main_v47
  generalize res_main_v20 V0 = w at h ⊢
  generalize res_main_v44 V0 = v at h1 ⊢
  pointwise []
  rw [h, sum_mul ((A.row b t).act A.W) (fun j => A.W.f j k) (fun j => h1 b t j) fun j => hA.wf j k, ← EReal.coe_add]
  rfl

theorem v54_is : IsB (res_main_v54 V0) fun b t _ => under ((A.row b t).x2 A.W) := fun b t k => by
  have h := v47_is hA
  unfold res_main_v54
  generalize res_main_v47 V0 = w at h ⊢
  pointwise []
  rw [sum_mul ((A.row b t).x2 A.W) ((A.row b t).x2 A.W) (fun j => h b t j) fun j => h b t j, ofBits_1024, ofBits_eps, div_real _ (by norm_num), ← EReal.coe_add]
  rfl

theorem v55_is : IsB (res_main_v55 V0) fun b t _ => rr ((A.row b t).x2 A.W) := fun b t k => by
  have h := v54_is hA b t k
  unfold res_main_v55
  generalize res_main_v54 V0 = w at h ⊢
  pointwise []
  rw [h, Ideal.rsqrt_coe, if_neg (not_lt.2 (under_pos _).le), if_neg (under_pos _).ne']
  rfl

theorem v60_is : IsB (res_main_v60 V0) fun b t k => (A.row b t).x2 A.W k * rr ((A.row b t).x2 A.W) := fun b t k => by
  have h := v47_is hA b t k
  have h1 := v55_is hA b t 0
  unfold res_main_v60
  generalize res_main_v47 V0 = w at h ⊢
  generalize res_main_v55 V0 = v at h1 ⊢
  pointwise []
  rw [h, h1, ← EReal.coe_mul]

theorem v61_is : IsB (res_main_v61 V0) fun _ _ k => A.W.e k := fun b t k => by
  have h := hA.e k
  unfold res_main_v61
  pointwise []
  exact h

theorem v64_is : IsB (res_main_v64 V0) fun b t => (A.row b t).err A.W := fun b t k => by
  have h := v60_is hA b t k
  have h1 := v61_is hA 0 0 k
  have h2 := hA.tg b t k
  unfold res_main_v64
  generalize res_main_v60 V0 = w at h ⊢
  generalize res_main_v61 V0 = v at h1 ⊢
  pointwise []
  rw [h, h1, h2, ← EReal.coe_mul, ← EReal.coe_sub]
  rfl

theorem v78_is : IsB (res_main_v78 V0) fun b t => (A.row b t).dy A.W := fun b t k => by
  have h := v64_is hA b t k
  unfold res_main_v78
  generalize res_main_v64 V0 = w at h ⊢
  pointwise []
  rw [h, ofBits_half, ofBits_1024, ofBits_two, div_real _ (by norm_num), ← EReal.coe_mul, ← EReal.coe_mul]
  refine congrArg _ ?_
  unfold Cert.Ffn.Row.dy
  ring

theorem v83_is : IsB (res_main_v83 V0) fun b t k => (A.row b t).dy A.W k * A.W.e k := fun b t k => by
  have h := v78_is hA b t k
  have h1 := v61_is hA 0 0 k
  unfold res_main_v83
  generalize res_main_v78 V0 = w at h ⊢
  generalize res_main_v61 V0 = v at h1 ⊢
  pointwise []
  rw [h, h1, ← EReal.coe_mul]

theorem v94_is : IsB (res_main_v94 V0) fun b t _ => (∑ j ∈ range 1024, (A.row b t).x2 A.W j * ((A.row b t).dy A.W j * A.W.e j))
    * (-(1 / 2) * (rr ((A.row b t).x2 A.W) / under ((A.row b t).x2 A.W))) / 1024 := fun b t k => by
  have h := v47_is hA
  have h1 := v83_is hA
  have h2 := v55_is hA b t 0
  have h3 := v54_is hA b t 0
  unfold res_main_v94
  generalize res_main_v47 V0 = w at h ⊢
  generalize res_main_v83 V0 = v at h1 ⊢
  generalize res_main_v55 V0 = p at h2 ⊢
  generalize res_main_v54 V0 = q at h3 ⊢
  pointwise []
  rw [sum_mul ((A.row b t).x2 A.W) (fun j => (A.row b t).dy A.W j * A.W.e j) (fun j => h b t j) fun j => h1 b t j, Fin.sum_univ_one, h2, h3, ofBits_1024, ofBits_neg_half,
    div_real _ (under_pos _).ne', ← EReal.coe_mul, ← EReal.coe_mul, div_real _ (by norm_num)]

theorem v98_is : IsB (res_main_v98 V0) fun b t => (A.row b t).dx2 A.W := fun b t k => by
  have h := v83_is hA b t k
  have h1 := v55_is hA b t 0
  have h2 := v47_is hA b t k
  have h3 := v94_is hA b t k
  unfold res_main_v98
  generalize res_main_v83 V0 = w at h ⊢
  generalize res_main_v55 V0 = v at h1 ⊢
  generalize res_main_v47 V0 = p at h2 ⊢
  generalize res_main_v94 V0 = q at h3 ⊢
  pointwise []
  rw [h, h1, h2, h3]
  simp only [← EReal.coe_mul, ← EReal.coe_add]
  refine congrArg _ ?_
  unfold Cert.Ffn.Row.dx2
  rw [← chain]

theorem v99_is : IsB (res_main_v99 V0) fun b t => (A.row b t).dact A.W := fun b t k => by
  have h := v98_is hA
  unfold res_main_v99
  generalize res_main_v98 V0 = w at h ⊢
  pointwise []
  rw [sum_mul ((A.row b t).dx2 A.W) (fun j => A.W.f k j) (fun j => h b t j) fun j => hA.wf k j]
  rfl

theorem v101_is : IsB (res_main_v101 V0) fun b t k => (A.row b t).dact A.W k * (A.row b t).h A.W (2816 + k) := fun b t k => by
  have h := v99_is hA b t k
  have h1 := v42_is hA b t k
  unfold res_main_v101
  generalize res_main_v99 V0 = w at h ⊢
  generalize res_main_v42 V0 = v at h1 ⊢
  pointwise []
  rw [h, h1, ← EReal.coe_mul]

theorem v103_is : IsB (res_main_v103 V0) fun b t => (A.row b t).dh A.W := fun b t k => by
  have h := v101_is hA b t
  have h1 := v43_2_is hA b t
  have h2 := v41_is hA b t
  have h3 := v43_0_is hA b t
  have h4 := v99_is hA b t
  unfold res_main_v103
  generalize res_main_v101 V0 = w at h ⊢
  generalize res_main_v43_2 V0 = v at h1 ⊢
  generalize res_main_v41 V0 = p at h2 ⊢
  generalize res_main_v43_0 V0 = q at h3 ⊢
  generalize res_main_v99 V0 = s at h4 ⊢
  pointwise []
  unfold Cert.Ffn.Row.dh
  by_cases hk : k.val < 2816
  · rw [dif_pos hk, if_pos hk]
    have e0 := h ⟨k.val, hk⟩
    have e1 := h1 ⟨k.val, hk⟩
    have e2 := h2 ⟨k.val, hk⟩
    rw [e0, e1, e2, show (1 : EReal) = ((1 : ℝ) : EReal) from rfl]
    simp only [← EReal.coe_mul, ← EReal.coe_add, ← EReal.coe_sub]
    refine congrArg _ ?_
    unfold Cert.Ffn.Row.dgate
    ring
  · rw [dif_neg hk, if_neg hk]
    have e3 := h3 ⟨k.val - 2816, by omega⟩
    have e4 := h4 ⟨k.val - 2816, by omega⟩
    rw [e3, e4, ← EReal.coe_mul]
    refine congrArg _ ?_
    unfold Cert.Ffn.Row.dup
    ring

theorem v104_is : IsB (res_main_v104 V0) fun b t => (A.row b t).du2 A.W := fun b t k => by
  have h := v103_is hA
  unfold res_main_v104
  generalize res_main_v103 V0 = w at h ⊢
  pointwise []
  rw [sum_mul ((A.row b t).dh A.W) (fun j => A.W.i k j) (fun j => h b t j) fun j => hA.wi k j]
  rfl

theorem v109_is : IsB (res_main_v109 V0) fun b t k => (A.row b t).du2 A.W k * A.W.g k := fun b t k => by
  have h := v104_is hA b t k
  have h1 := v36_is hA 0 0 k
  unfold res_main_v109
  generalize res_main_v104 V0 = w at h ⊢
  generalize res_main_v36 V0 = v at h1 ⊢
  pointwise []
  rw [h, h1, ← EReal.coe_mul]

theorem v121_is : IsB (res_main_v121 V0) fun b t _ => (∑ j ∈ range 1024, (A.row b t).x1 A.W j * ((A.row b t).du2 A.W j * A.W.g j))
    * (-(1 / 2) * (rr ((A.row b t).x1 A.W) / under ((A.row b t).x1 A.W))) / 1024 := fun b t k => by
  have h := v20_is hA
  have h1 := v109_is hA
  have h2 := v30_is hA b t 0
  have h3 := v29_is hA b t 0
  unfold res_main_v121
  generalize res_main_v20 V0 = w at h ⊢
  generalize res_main_v109 V0 = v at h1 ⊢
  generalize res_main_v30 V0 = p at h2 ⊢
  generalize res_main_v29 V0 = q at h3 ⊢
  pointwise []
  rw [sum_mul ((A.row b t).x1 A.W) (fun j => (A.row b t).du2 A.W j * A.W.g j) (fun j => h b t j) fun j => h1 b t j, Fin.sum_univ_one, h2, h3, ofBits_1024, ofBits_neg_half,
    div_real _ (under_pos _).ne', ← EReal.coe_mul, ← EReal.coe_mul, div_real _ (by norm_num)]

omit hA

/-- The gradient of the residual before the rows are laid flat. -/
def dx1 (V0 : Valuation τ sig (Elt Ideal)) : FVec Ideal S2x2048x1024 .f32 := addf (addf (addf (res_main_v98 V0) (mulf (res_main_v109 V0)
  (broadcastInDim S2x2048x1024 ![0, 1, 2] bcast_S2x2048x1_S2x2048x1024_0_1_2 (res_main_v30 V0)))) (mulf (res_main_v20 V0) (res_main_v121 V0))) (mulf (res_main_v121 V0) (res_main_v20 V0))

include hA in
theorem dx1_is : IsB (dx1 V0) fun b t => (A.row b t).dx1 A.W := fun b t k => by
  have h := v98_is hA b t k
  have h1 := v109_is hA b t k
  have h2 := v30_is hA b t 0
  have h3 := v20_is hA b t k
  have h4 := v121_is hA b t k
  unfold dx1
  generalize res_main_v98 V0 = w at h ⊢
  generalize res_main_v109 V0 = v at h1 ⊢
  generalize res_main_v30 V0 = p at h2 ⊢
  generalize res_main_v20 V0 = q at h3 ⊢
  generalize res_main_v121 V0 = s at h4 ⊢
  pointwise []
  rw [h, h1, h2, h3, h4]
  simp only [← EReal.coe_mul, ← EReal.coe_add]
  refine congrArg _ ?_
  unfold Cert.Ffn.Row.dx1
  rw [← chain]
  ring

/-- A gain's gradient, of the normalised tokens and their cotangent. -/
def gain (x y : FVec Ideal S2x2048x1024 .f32) : FVec Ideal S1x1024 .f32 := shapeCast _ (Host.reduceAdd (shapeCast _ (Host.reduceAdd (mulf x y)
  (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem gain_is {x y : FVec Ideal S2x2048x1024 .f32} {fx fy : ℕ → ℕ → ℕ → ℝ} (hx : IsB x fx) (hy : IsB y fy) :
    Is (gain x y) fun _ k => ∑ b ∈ range 2, ∑ t ∈ range 2048, fy b t k * fx b t k := fun r c => by
  unfold gain
  pointwise []
  rw [lead_sum]
  pointwise []
  rw [Fin.sum_univ_one, Fin.sum_univ_one]
  rw [lead_sum]
  refine (Finset.sum_congr rfl fun b _ => ?_).trans (coe_sum (n := 2) fun b => ∑ t ∈ range 2048, fy b t c * fx b t c)
  refine (Finset.sum_congr rfl fun t _ => ?_).trans (coe_sum (n := 2048) fun t => fy b t c * fx b t c)
  pointwise []
  rw [hx b t c, hy b t c, ← EReal.coe_mul, mul_comm]

/-- The loss, in every lane. -/
def loss (e : FVec Ideal S2x2048x1024 .f32) : FVec Ideal S1x128 .f32 := broadcastInDim S1x128 ![] bcast_S_S1x128 (mulf (constant S_ .f32 0x3F000000#32) (Host.reduceAdd (Host.divf
  (Host.reduceAdd (mulf e e) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_))

theorem loss_is {e : FVec Ideal S2x2048x1024 .f32} {fe : ℕ → ℕ → ℕ → ℝ} (he : IsB e fe) :
    Is (loss e) fun _ _ => ∑ b ∈ range 2, ∑ t ∈ range 2048, (∑ k ∈ range 1024, fe b t k * fe b t k) * (1 / 2048) := fun r c => by
  unfold loss
  pointwise []
  have hs : ∀ (b : Fin 2) (t : Fin 2048), Ideal.div (∑ k, e (ix3 b t k) * e (ix3 b t k)) (Ideal.ofBits FTy.f32 1149239296#32)
      = (((∑ k ∈ range 1024, fe b t k * fe b t k) / 1024 : ℝ) : EReal) := fun b t => by
    rw [sum_mul (fe b t) (fe b t) (fun j => he b t j) fun j => he b t j, ofBits_1024, div_real _ (by norm_num)]
  have hb : ∀ b : Fin 2, (∑ t : Fin 2048, Ideal.div (∑ k, e (ix3 b t k) * e (ix3 b t k)) (Ideal.ofBits FTy.f32 1149239296#32))
      = ((∑ t ∈ range 2048, (∑ k ∈ range 1024, fe b t k * fe b t k) / 1024 : ℝ) : EReal) := fun b =>
    sum_one (fun t => (∑ k ∈ range 1024, fe b t k * fe b t k) / 1024) (hs b)
  rw [sum_one (fun b => ∑ t ∈ range 2048, (∑ k ∈ range 1024, fe b t k * fe b t k) / 1024) hb, ofBits_half, ← EReal.coe_mul, Finset.mul_sum]
  refine congrArg _ (Finset.sum_congr rfl fun b _ => ?_)
  rw [Finset.mul_sum]
  exact Finset.sum_congr rfl fun t _ => by ring

end Cert.FfnRef

end
-- ==== Proof.Ffn.Blocks.lean ====
/-
  The blocks that a grid point of the feed-forward's call reads, over the reals.
-/
module

public import proofs.«01_k».proof.Proof.Gen.KernelFfnIdeal.Value
public import proofs.«01_k».proof.Proof.Ffn.Grad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Finset (range)
open Cert.Norm Cert.Rows
open Cert.Sb (Is)

namespace Cert.FfnValue

open Cert.KernelFfnIdeal Cert.KernelFfnIdeal.Gen Cert.Ffn

variable (m : (ℓ : Loc nD τ sig) → Buf (Elt Ideal) ℓ) (c : Dev nD)

/-- Point `t` holds rows `256 t` to `256 t + 255` of every token array, and the gains, the weights and the sums whole. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![0, 0] ∧ win0_7.index t = ![t.val, 0] ∧ win0_8.index t = ![0, 0] ∧ win0_9.index t = ![0, 0] ∧
    win0_10.index t = ![0, 0] ∧ win0_11.index t = ![0, 0] ∧ win0_12.index t = ![0, 0] ∧ win0_13.index t = ![t.val, 0] ∧ win0_14.index t = ![t.val, 0] ∧
    win0_15.index t = ![t.val, 0] ∧ win0_16.index t = ![t.val, 0] ∧ win0_17.index t = ![t.val, 0] ∧ win0_18.index t = ![t.val, 0] ∧ win0_19.index t = ![0,
    0] ∧ win0_20.index t = ![0, 0] :=
  (by decide +kernel : ∀ t : Fin grid0.N, _)

/-- The row that row `p` of point `t`'s block is. -/
abbrev tok (t : Fin cfg0.N) (p : Fin 256) : Fin 4096 :=
  ⟨t.val * 256 + p.val, by have h : t.val < 16 := t.isLt; omega⟩

/-- The token in row `p` of point `t`'s block. -/
abbrev tokens (A : Args) (t : Fin cfg0.N) (p : ℕ) : Row := A.flat (t.val * 256 + p)

theorem rows_is {k : ℕ} {X : (⟨2, ![4096, k]⟩ : Shape).Idx → EReal} {f : ℕ → ℕ → ℝ} (t : Fin cfg0.N) (h : Is X f)
    (e : (⟨2, ![256, k]⟩ : Shape).Idx → (⟨2, ![4096, k]⟩ : Shape).Idx) (he : ∀ (p : Fin 256) (l : Fin k), e (ix2 p l) = ix2 (tok t p) l) :
    Is (fun i => X (e i)) fun p l => f (t.val * 256 + p) l := fun p l => by
  dsimp only
  rw [he]
  exact h (tok t p) l

theorem whole_is {n k : ℕ} {X : (⟨2, ![n, k]⟩ : Shape).Idx → EReal} {f : ℕ → ℕ → ℝ} (h : Is X f)
    (e : (⟨2, ![n, k]⟩ : Shape).Idx → (⟨2, ![n, k]⟩ : Shape).Idx) (he : ∀ (p : Fin n) (l : Fin k), e (ix2 p l) = ix2 p l) :
    Is (fun i => X (e i)) f := fun p l => by
  dsimp only
  rw [he]
  exact h p l

theorem gain_is {g : FVec Ideal S1024 .f32} {f : ℕ → ℝ} (h : Is1 g f) : Is (shapeCast S1x1024 g shapeCasts_S1024_S1x1024) fun _ => f := fun r k => by
  pointwise []
  exact h k

/-! What the host makes of the arguments: rows of the first attention's output, weights turned over. -/

def flat (a : FVec Ideal S2x2048x512 .f32) : FVec Ideal S4096x512 .bf16 := truncf .bf16 (shapeCast S4096x512 a shapeCasts_S2x2048x512_S4096x512) bitsLt_bf16_f32
def turn4 (w : FVec Ideal S512x1024 .f32) : FVec Ideal S1024x512 .bf16 := truncf .bf16 (transpose S1024x512 [1, 0] w transposes_S512x1024_S1024x512_1_0) bitsLt_bf16_f32
def turn5 (w : FVec Ideal S256x1024 .f32) : FVec Ideal S1024x256 .bf16 := truncf .bf16 (transpose S1024x256 [1, 0] w transposes_S256x1024_S1024x256_1_0) bitsLt_bf16_f32
def turn10 (w : FVec Ideal S1024x5632 .f32) : FVec Ideal S5632x1024 .bf16 := truncf .bf16 (transpose S5632x1024 [1, 0] w transposes_S1024x5632_S5632x1024_1_0) bitsLt_bf16_f32
def keep6 (w : FVec Ideal S1024x1024 .f32) : FVec Ideal S1024x1024 .bf16 := truncf .bf16 w bitsLt_bf16_f32
def keep11 (w : FVec Ideal S2816x1024 .f32) : FVec Ideal S2816x1024 .bf16 := truncf .bf16 w bitsLt_bf16_f32

theorem flat_of {a : FVec Ideal S2x2048x512 .f32} {f : ℕ → ℕ → ℕ → ℝ} (h : IsB a f) : Is (flat a) (fl f) := flat_is h _

section Host

variable {q : ℕ → ℕ → ℝ}

theorem turn4_of {w : FVec Ideal S512x1024 .f32} (h : Is w q) : Is (turn4 w) fun a b => q b a := fun a b => by
  pointwise [turn4]; exact h b a

theorem turn5_of {w : FVec Ideal S256x1024 .f32} (h : Is w q) : Is (turn5 w) fun a b => q b a := fun a b => by
  pointwise [turn5]; exact h b a

theorem turn10_of {w : FVec Ideal S1024x5632 .f32} (h : Is w q) : Is (turn10 w) fun a b => q b a := fun a b => by
  pointwise [turn10]; exact h b a

theorem keep6_of {w : FVec Ideal S1024x1024 .f32} (h : Is w q) : Is (keep6 w) q := fun a b => by
  pointwise [keep6]; exact h a b

theorem keep11_of {w : FVec Ideal S2816x1024 .f32} (h : Is w q) : Is (keep11 w) q := fun a b => by
  pointwise [keep11]; exact h a b

end Host

/-- A piece of an array, from row `o` and column `l` on. -/
theorem ld_is {N M n k : ℕ} {X : FVec Ideal ⟨2, ![N, M]⟩ .bf16} {q f : ℕ → ℕ → ℝ} (h : Is X q) (o l : ℕ)
    (inb : ∀ a, (![o, l] : Fin 2 → ℕ) a + (![n, k] : Fin 2 → ℕ) a ≤ (⟨2, ![N, M]⟩ : Shape).size a) (hf : ∀ a b, q (o + a) (l + b) = f a b) :
    Is (n := n) (m := k) (View.ld (Val := Elt Ideal) (S := ⟨2, ![N, M]⟩) (e' := .bf16) X (Rect.unit ![o, l] ![n, k] inb)) f := fun a b => by
  have h0 : o + n ≤ N := inb 0
  have h1 : l + k ≤ M := inb 1
  refine (View.ld_unit_apply_of (Val := Elt Ideal) (S := ⟨2, ![N, M]⟩) (e := .bf16) X ![o, l] ![n, k] inb (ix2 a b)
    (ix2 ⟨o + a.val, by omega⟩ ⟨l + b.val, by omega⟩) fun x => ?_).trans
      ((h ⟨o + a.val, by omega⟩ ⟨l + b.val, by omega⟩).trans (congrArg (fun z : ℝ => (z : EReal)) (hf a b)))
  match x with
  | ⟨0, _⟩ => rfl
  | ⟨1, _⟩ => rfl

theorem ldf_is {N M n k : ℕ} {X : FVec Ideal ⟨2, ![N, M]⟩ .f32} {q f : ℕ → ℕ → ℝ} (h : Is X q) (o l : ℕ)
    (inb : ∀ a, (![o, l] : Fin 2 → ℕ) a + (![n, k] : Fin 2 → ℕ) a ≤ (⟨2, ![N, M]⟩ : Shape).size a) (hf : ∀ a b, q (o + a) (l + b) = f a b) :
    Is (n := n) (m := k) (View.ld (Val := Elt Ideal) (S := ⟨2, ![N, M]⟩) (e' := .f32) X (Rect.unit ![o, l] ![n, k] inb)) f := fun a b => by
  have h0 : o + n ≤ N := inb 0
  have h1 : l + k ≤ M := inb 1
  refine (View.ld_unit_apply_of (Val := Elt Ideal) (S := ⟨2, ![N, M]⟩) (e := .f32) X ![o, l] ![n, k] inb (ix2 a b)
    (ix2 ⟨o + a.val, by omega⟩ ⟨l + b.val, by omega⟩) fun x => ?_).trans
      ((h ⟨o + a.val, by omega⟩ ⟨l + b.val, by omega⟩).trans (congrArg (fun z : ℝ => (z : EReal)) (hf a b)))
  match x with
  | ⟨0, _⟩ => rfl
  | ⟨1, _⟩ => rfl

/-! The arrays the region reads, as functions of the arguments. -/

theorem V0 : V m c main_v0 = (shapeCast S4096x1024 (m ((c : Thread nD τ).loc main_arg0) : FVec Ideal S2x2048x1024 .f32) shapeCasts_S2x2048x1024_S4096x1024 : FVec Ideal S4096x1024 .f32) := by
  unfold V; simp only [hostOps0]; after_results_simp <;> rfl

theorem V1 : V m c main_v2 = (flat (m ((c : Thread nD τ).loc main_arg1) : FVec Ideal S2x2048x512 .f32) : FVec Ideal S4096x512 .bf16) := by
  unfold V; simp only [hostOps0]; after_results_simp <;> rfl

theorem V2 : V m c main_v3 = (shapeCast S4096x256 (m ((c : Thread nD τ).loc main_arg2) : FVec Ideal S2x2048x256 .f32) shapeCasts_S2x2048x256_S4096x256 : FVec Ideal S4096x256 .f32) := by
  unfold V; simp only [hostOps0]; after_results_simp <;> rfl

theorem V3 : V m c main_v4 = (shapeCast S4096x2048 (m ((c : Thread nD τ).loc main_arg3) : FVec Ideal S2x2048x2048 .f32) shapeCasts_S2x2048x2048_S4096x2048 : FVec Ideal S4096x2048 .f32) := by
  unfold V; simp only [hostOps0]; after_results_simp <;> rfl

theorem V4 : V m c main_v6 = (turn4 (m ((c : Thread nD τ).loc main_arg4) : FVec Ideal S512x1024 .f32) : FVec Ideal S1024x512 .bf16) := by
  unfold V; simp only [hostOps0]; after_results_simp <;> rfl

theorem V5 : V m c main_v8 = (turn5 (m ((c : Thread nD τ).loc main_arg5) : FVec Ideal S256x1024 .f32) : FVec Ideal S1024x256 .bf16) := by
  unfold V; simp only [hostOps0]; after_results_simp <;> rfl

theorem V6 : V m c main_v9 = (keep6 (m ((c : Thread nD τ).loc main_arg6) : FVec Ideal S1024x1024 .f32) : FVec Ideal S1024x1024 .bf16) := by
  unfold V; simp only [hostOps0]; after_results_simp <;> rfl

theorem V7 : V m c main_v10 = (shapeCast S4096x1024 (m ((c : Thread nD τ).loc main_arg7) : FVec Ideal S2x2048x1024 .f32) shapeCasts_S2x2048x1024_S4096x1024 : FVec Ideal S4096x1024 .f32) := by
  unfold V; simp only [hostOps0]; after_results_simp <;> rfl

theorem V8 : V m c main_v11 = (shapeCast S1x1024 (m ((c : Thread nD τ).loc main_arg8) : FVec Ideal S1024 .f32) shapeCasts_S1024_S1x1024 : FVec Ideal S1x1024 .f32) := by
  unfold V; simp only [hostOps0]; after_results_simp <;> rfl

theorem V9 : V m c main_v12 = (shapeCast S1x1024 (m ((c : Thread nD τ).loc main_arg9) : FVec Ideal S1024 .f32) shapeCasts_S1024_S1x1024 : FVec Ideal S1x1024 .f32) := by
  unfold V; simp only [hostOps0]; after_results_simp <;> rfl

theorem V10 : V m c main_v14 = (turn10 (m ((c : Thread nD τ).loc main_arg10) : FVec Ideal S1024x5632 .f32) : FVec Ideal S5632x1024 .bf16) := by
  unfold V; simp only [hostOps0]; after_results_simp <;> rfl

theorem V11 : V m c main_v15 = (keep11 (m ((c : Thread nD τ).loc main_arg11) : FVec Ideal S2816x1024 .f32) : FVec Ideal S2816x1024 .bf16) := by
  unfold V; simp only [hostOps0]; after_results_simp <;> rfl

/-- The arguments in memory hold the numbers of `A`. -/
abbrev Holds (A : Args) : Prop := A.In (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

section Blocks

variable {A : Args} (hA : Holds m c A) (t : Fin cfg0.N)
include hA

theorem blk0 : Is (iblk m c 0 t) fun p => (tokens A t p).x :=
  rows_is t ((V0 m c).symm ▸ flat_is hA.x _) ((cfg0.win 0).blk t).view.emb fun p l => by blk_ext [idx t]

theorem blk1 : Is (iblk m c 1 t) fun p => (tokens A t p).os :=
  rows_is t ((V1 m c).symm ▸ flat_of hA.os) ((cfg0.win 1).blk t).view.emb fun p l => by blk_ext [idx t]

theorem blk2 : Is (iblk m c 2 t) fun p => (tokens A t p).od :=
  rows_is t ((V2 m c).symm ▸ flat_is hA.od _) ((cfg0.win 2).blk t).view.emb fun p l => by blk_ext [idx t]

theorem blk3 : Is (iblk m c 3 t) fun p => (tokens A t p).ga :=
  rows_is t ((V3 m c).symm ▸ flat_is hA.ga _) ((cfg0.win 3).blk t).view.emb fun p l => by blk_ext [idx t]

theorem blk7 : Is (iblk m c 7 t) fun p => (tokens A t p).tg :=
  rows_is t ((V7 m c).symm ▸ flat_is hA.tg _) ((cfg0.win 7).blk t).view.emb fun p l => by blk_ext [idx t]

theorem blk4 : Is (iblk m c 4 t) fun k j => A.W.sb j k :=
  whole_is ((V4 m c).symm ▸ turn4_of hA.wsb) ((cfg0.win 4).blk t).view.emb fun p l => by blk_ext [idx t]

theorem blk5 : Is (iblk m c 5 t) fun k j => A.W.dl j k :=
  whole_is ((V5 m c).symm ▸ turn5_of hA.wdl) ((cfg0.win 5).blk t).view.emb fun p l => by blk_ext [idx t]

theorem blk10 : Is (iblk m c 10 t) fun j k => A.W.i k j :=
  whole_is ((V10 m c).symm ▸ turn10_of hA.wi) ((cfg0.win 10).blk t).view.emb fun p l => by blk_ext [idx t]

theorem blk6 : Is (iblk m c 6 t) A.W.o :=
  whole_is (X := V m c main_v9) (by rw [V6 m c]; exact keep6_of hA.wo) ((cfg0.win 6).blk t).view.emb fun p l => by blk_ext [idx t]

theorem blk11 : Is (iblk m c 11 t) A.W.f :=
  whole_is (X := V m c main_v15) (by rw [V11 m c]; exact keep11_of hA.wf) ((cfg0.win 11).blk t).view.emb fun p l => by blk_ext [idx t]

theorem blk8 : Is (iblk m c 8 t) fun _ => A.W.g :=
  whole_is ((V8 m c).symm ▸ gain_is hA.g) ((cfg0.win 8).blk t).view.emb fun p l => by blk_ext [idx t]

theorem blk9 : Is (iblk m c 9 t) fun _ => A.W.e :=
  whole_is ((V9 m c).symm ▸ gain_is hA.e) ((cfg0.win 9).blk t).view.emb fun p l => by blk_ext [idx t]

end Blocks

end Cert.FfnValue

end
-- ==== Proof.Ffn.Point.lean ====
/-
  What one grid point of the feed-forward's call computes, over the reals.
-/
module

public import proofs.«01_k».proof.Proof.Ffn.Pay
public import proofs.«01_k».proof.Proof.Ffn.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Finset (range)
open Cert.Norm Cert.Rows
open Cert.Sb (Is)

namespace Cert.FfnValue

open Cert.KernelFfnIdeal Cert.KernelFfnIdeal.Gen Cert.Ffn

variable (m : (ℓ : Loc nD τ sig) → Buf (Elt Ideal) ℓ) (c : Dev nD)

/-! ## One grid point

Its pieces of the gates and of the feed-forward's weights. -/

section Point

variable (t : Fin cfg0.N)

def gateA : FVec Ideal S256x1024 .f32 := View.ld (iblk m c 3 t) (Rect.unit ![0, 0] ![256, 1024] inb_S256x2048_S256x1024_0_0)
def gateB : FVec Ideal S256x1024 .f32 := View.ld (iblk m c 3 t) (Rect.unit ![0, 1024] ![256, 1024] inb_S256x2048_S256x1024_0_1024)
def wg0 : FVec Ideal S1024x1024 .bf16 := View.ld (iblk m c 10 t) (Rect.unit ![0, 0] ![1024, 1024] inb_S5632x1024_S1024x1024_0_0)
def wu0 : FVec Ideal S1024x1024 .bf16 := View.ld (iblk m c 10 t) (Rect.unit ![2816, 0] ![1024, 1024] inb_S5632x1024_S1024x1024_2816_0)
def wf0 : FVec Ideal S1024x1024 .bf16 := View.ld (iblk m c 11 t) (Rect.unit ![0, 0] ![1024, 1024] inb_S2816x1024_S1024x1024_0_0)
def wg1 : FVec Ideal S1024x1024 .bf16 := View.ld (iblk m c 10 t) (Rect.unit ![1024, 0] ![1024, 1024] inb_S5632x1024_S1024x1024_1024_0)
def wu1 : FVec Ideal S1024x1024 .bf16 := View.ld (iblk m c 10 t) (Rect.unit ![3840, 0] ![1024, 1024] inb_S5632x1024_S1024x1024_3840_0)
def wf1 : FVec Ideal S1024x1024 .bf16 := View.ld (iblk m c 11 t) (Rect.unit ![1024, 0] ![1024, 1024] inb_S2816x1024_S1024x1024_1024_0)
def wg2 : FVec Ideal S768x1024 .bf16 := View.ld (iblk m c 10 t) (Rect.unit ![2048, 0] ![768, 1024] inb_S5632x1024_S768x1024_2048_0)
def wu2 : FVec Ideal S768x1024 .bf16 := View.ld (iblk m c 10 t) (Rect.unit ![4864, 0] ![768, 1024] inb_S5632x1024_S768x1024_4864_0)
def wf2 : FVec Ideal S768x1024 .bf16 := View.ld (iblk m c 11 t) (Rect.unit ![2048, 0] ![768, 1024] inb_S2816x1024_S768x1024_2048_0)

/-! The forward pass: the merge, the residual, the first norm, the three chunks of the feed-forward, the last norm. -/

def mgB : FVec Ideal S256x1024 .bf16 := k0_pay7 (iblk m c 1 t) (iblk m c 4 t) (iblk m c 2 t) (iblk m c 5 t) (gateA m c t) (gateB m c t)
def x1B : FVec Ideal S256x1024 .f32 := k0_pay8 (mgB m c t) (iblk m c 0 t) (iblk m c 6 t)
def u2B : FVec Ideal S256x1024 .bf16 := k0_pay13 (mgB m c t) (iblk m c 0 t) (iblk m c 6 t) (iblk m c 8 t)
def g0B : FVec Ideal S256x1024 .f32 := k0_pay14 (mgB m c t) (iblk m c 0 t) (iblk m c 6 t) (iblk m c 8 t) (wg0 m c t)
def u0B : FVec Ideal S256x1024 .f32 := k0_pay15 (mgB m c t) (iblk m c 0 t) (iblk m c 6 t) (iblk m c 8 t) (wu0 m c t)
def a0B : FVec Ideal S256x1024 .bf16 := k0_pay18 (g0B m c t) (u0B m c t)
def xaB : FVec Ideal S256x1024 .f32 := k0_pay19 (x1B m c t) (g0B m c t) (u0B m c t) (wf0 m c t)
def g1B : FVec Ideal S256x1024 .f32 := k0_pay20 (u2B m c t) (wg1 m c t)
def u1B : FVec Ideal S256x1024 .f32 := k0_pay21 (u2B m c t) (wu1 m c t)
def a1B : FVec Ideal S256x1024 .bf16 := k0_pay25 (g1B m c t) (u1B m c t) (k0_pay24 (u2B m c t) (wg1 m c t)) (FloatOps.ofBits FTy.f32 1065353216#32)
def xbB : FVec Ideal S256x1024 .f32 :=
  k0_pay26 (xaB m c t) (g1B m c t) (u1B m c t) (k0_pay24 (u2B m c t) (wg1 m c t)) (FloatOps.ofBits FTy.f32 1065353216#32) (wf1 m c t)
def g2B : FVec Ideal S256x768 .f32 := k0_pay27 (u2B m c t) (wg2 m c t)
def u2pB : FVec Ideal S256x768 .f32 := k0_pay28 (u2B m c t) (wu2 m c t)
def a2B : FVec Ideal S256x768 .bf16 := k0_pay31 (u2B m c t) (wg2 m c t) (wu2 m c t)
def x2B : FVec Ideal S256x1024 .f32 := k0_pay32 (xbB m c t) (a2B m c t) (wf2 m c t)
def r3B : FVec Ideal S256x1 .f32 := k0_pay33 (xbB m c t) (a2B m c t) (wf2 m c t)
def n3B : FVec Ideal S256x1024 .f32 := k0_pay34 (xbB m c t) (a2B m c t) (wf2 m c t)
def erB : FVec Ideal S256x1024 .f32 := k0_pay35 (k0_pay10 (iblk m c 9 t)) (xbB m c t) (a2B m c t) (wf2 m c t) (iblk m c 7 t)
def dyB : FVec Ideal S256x1024 .f32 := k0_pay37 (k0_pay10 (iblk m c 9 t)) (xbB m c t) (a2B m c t) (wf2 m c t) (iblk m c 7 t)
def deB : FVec Ideal S1x1024 .f32 := k0_pay38 (k0_pay10 (iblk m c 9 t)) (xbB m c t) (a2B m c t) (wf2 m c t) (iblk m c 7 t)
def dnB : FVec Ideal S256x1024 .f32 := k0_pay39 (k0_pay10 (iblk m c 9 t)) (xbB m c t) (a2B m c t) (wf2 m c t) (iblk m c 7 t)
def qB : FVec Ideal S256x1 .f32 := k0_pay40 (k0_pay10 (iblk m c 9 t)) (xbB m c t) (a2B m c t) (wf2 m c t) (iblk m c 7 t)

/-! The backward pass: the second residual, the three chunks of the gate and the up-projection, the feed-forward's input. -/

def dx2B : FVec Ideal S256x1024 .f32 := k0_pay41 (r3B m c t) (n3B m c t) (dnB m c t) (qB m c t)
def dxbB : FVec Ideal S256x1024 .bf16 := k0_pay43 (r3B m c t) (n3B m c t) (dnB m c t) (qB m c t)
def h0B : FVec Ideal S256x1024 .f32 := k0_pay16 (mgB m c t) (iblk m c 0 t) (iblk m c 6 t) (iblk m c 8 t) (wg0 m c t)
def dg0B : FVec Ideal S256x1024 .bf16 := k0_pay47 (r3B m c t) (n3B m c t) (dnB m c t) (qB m c t) (h0B m c t) (k0_pay17 (u0B m c t)) (wf0 m c t)
def du0B : FVec Ideal S256x1024 .bf16 := k0_pay48 (r3B m c t) (n3B m c t) (dnB m c t) (qB m c t) (h0B m c t) (wf0 m c t)
def y0B : FVec Ideal S256x1024 .f32 := k0_pay49 k0_pay44 (dg0B m c t) (du0B m c t) (wg0 m c t) (wu0 m c t)
def h1B : FVec Ideal S256x1024 .f32 := k0_pay22 (u2B m c t) (wg1 m c t)
def v1B : FVec Ideal S256x1024 .f32 := k0_pay23 (u2B m c t) (wu1 m c t)
def dg1B : FVec Ideal S256x1024 .bf16 := k0_pay52 (dxbB m c t) (h1B m c t) (v1B m c t) (wf1 m c t)
def du1B : FVec Ideal S256x1024 .bf16 := k0_pay53 (dxbB m c t) (h1B m c t) (wf1 m c t)
def y1B : FVec Ideal S256x1024 .f32 := k0_pay54 (y0B m c t) (dg1B m c t) (du1B m c t) (wg1 m c t) (wu1 m c t)
def h2B : FVec Ideal S256x768 .f32 := k0_pay29 (u2B m c t) (wg2 m c t)
def v2B : FVec Ideal S256x768 .f32 := k0_pay30 (u2B m c t) (wu2 m c t)
def dg2B : FVec Ideal S256x768 .bf16 := k0_pay57 (dxbB m c t) (h2B m c t) (v2B m c t) (wf2 m c t)
def du2B : FVec Ideal S256x768 .bf16 := k0_pay58 (dxbB m c t) (h2B m c t) (wf2 m c t)
def y2B : FVec Ideal S256x1024 .f32 := k0_pay1 (y1B m c t) (dg2B m c t) (du2B m c t) (wg2 m c t) (wu2 m c t)
def n2B : FVec Ideal S256x1024 .f32 := k0_pay12 (mgB m c t) (iblk m c 0 t) (iblk m c 6 t)
def r2B : FVec Ideal S256x1 .f32 := k0_pay11 (mgB m c t) (iblk m c 0 t) (iblk m c 6 t)
def dx1B : FVec Ideal S256x1024 .f32 :=
  k0_pay3 (k0_pay9 (iblk m c 8 t)) (r2B m c t) (n2B m c t) (dx2B m c t) (y1B m c t) (dg2B m c t) (du2B m c t) (wg2 m c t) (wu2 m c t)

/-! The three sums after this point, for what they were before. -/

def lossB (o : FVec Ideal S1x128 .f32) : FVec Ideal S1x128 .f32 :=
  k0_pay36 (k0_pay10 (iblk m c 9 t)) (xbB m c t) (a2B m c t) (wf2 m c t) (iblk m c 7 t) o
def gfinB (o : FVec Ideal S1x1024 .f32) : FVec Ideal S1x1024 .f32 := k0_pay42 (deB m c t) o
def gffnB (o : FVec Ideal S1x1024 .f32) : FVec Ideal S1x1024 .f32 :=
  k0_pay2 (n2B m c t) (y1B m c t) (dg2B m c t) (du2B m c t) (wg2 m c t) (wu2 m c t) o

section Real

variable {A : Args} (hA : Holds m c A)
include hA

theorem gateA_is : Is (gateA m c t) fun p => (tokens A t p).ga :=
  ldf_is (blk3 m c hA t) 0 0 _ fun a b => by simp only [Nat.zero_add]

theorem gateB_is : Is (gateB m c t) fun p k => (tokens A t p).ga (1024 + k) :=
  ldf_is (blk3 m c hA t) 0 1024 _ fun a b => by simp only [Nat.zero_add]

theorem wg0_is : Is (wg0 m c t) fun j k => A.W.i k (0 + j) :=
  ld_is (blk10 m c hA t) 0 0 _ fun a b => by simp only [Nat.zero_add]

theorem wu0_is : Is (wu0 m c t) fun j k => A.W.i k (2816 + (0 + j)) :=
  ld_is (blk10 m c hA t) 2816 0 _ fun a b => by simp only [Nat.zero_add, ← Nat.add_assoc, Nat.reduceAdd]

theorem wf0_is : Is (wf0 m c t) fun j k => A.W.f (0 + j) k :=
  ld_is (blk11 m c hA t) 0 0 _ fun a b => by simp only [Nat.zero_add]

theorem wg1_is : Is (wg1 m c t) fun j k => A.W.i k (1024 + j) :=
  ld_is (blk10 m c hA t) 1024 0 _ fun a b => by simp only [Nat.zero_add]

theorem wu1_is : Is (wu1 m c t) fun j k => A.W.i k (2816 + (1024 + j)) :=
  ld_is (blk10 m c hA t) 3840 0 _ fun a b => by simp only [Nat.zero_add, ← Nat.add_assoc, Nat.reduceAdd]

theorem wf1_is : Is (wf1 m c t) fun j k => A.W.f (1024 + j) k :=
  ld_is (blk11 m c hA t) 1024 0 _ fun a b => by simp only [Nat.zero_add]

theorem wg2_is : Is (wg2 m c t) fun j k => A.W.i k (2048 + j) :=
  ld_is (blk10 m c hA t) 2048 0 _ fun a b => by simp only [Nat.zero_add]

theorem wu2_is : Is (wu2 m c t) fun j k => A.W.i k (2816 + (2048 + j)) :=
  ld_is (blk10 m c hA t) 4864 0 _ fun a b => by simp only [Nat.zero_add, ← Nat.add_assoc, Nat.reduceAdd]

theorem wf2_is : Is (wf2 m c t) fun j k => A.W.f (2048 + j) k :=
  ld_is (blk11 m c hA t) 2048 0 _ fun a b => by simp only [Nat.zero_add]

theorem mgB_is : Is (mgB m c t) fun p => (tokens A t p).merged A.W :=
  pay7_is (blk1 m c hA t) (blk4 m c hA t) (blk2 m c hA t) (blk5 m c hA t) (gateA_is m c t hA) (gateB_is m c t hA)

theorem x1B_is : Is (x1B m c t) fun p => (tokens A t p).x1 A.W := pay8_is (mgB_is m c t hA) (blk0 m c hA t) (blk6 m c hA t)

theorem r2B_is : Is (r2B m c t) fun p _ => rr ((tokens A t p).x1 A.W) := pay11_is (x1B_is m c t hA)

theorem n2B_is : Is (n2B m c t) fun p k => (tokens A t p).x1 A.W k * rr ((tokens A t p).x1 A.W) := pay12_is (x1B_is m c t hA)

theorem u2B_is : Is (u2B m c t) fun p => (tokens A t p).u2 A.W := pay13_is (x1B_is m c t hA) (blk8 m c hA t)

theorem g0B_is : Is (g0B m c t) fun p j => (tokens A t p).h A.W (0 + j) := pay14_is (u2B_is m c t hA) (wg0_is m c t hA)

theorem u0B_is : Is (u0B m c t) fun p j => (tokens A t p).h A.W (2816 + (0 + j)) := pay15_is (u2B_is m c t hA) (wu0_is m c t hA)

theorem a0B_is : Is (a0B m c t) fun p j => (tokens A t p).act A.W (0 + j) := pay18_is (g0B_is m c t hA) (u0B_is m c t hA)

theorem xaB_is : Is (xaB m c t) fun p k => (tokens A t p).x1 A.W k + (tokens A t p).xpart A.W 1024 0 k :=
  pay19_is (x1B_is m c t hA) (a0B_is m c t hA) (wf0_is m c t hA)

theorem g1B_is : Is (g1B m c t) fun p j => (tokens A t p).h A.W (1024 + j) := pay20_is (u2B_is m c t hA) (wg1_is m c t hA)

theorem u1B_is : Is (u1B m c t) fun p j => (tokens A t p).h A.W (2816 + (1024 + j)) := pay21_is (u2B_is m c t hA) (wu1_is m c t hA)

theorem a1B_is : Is (a1B m c t) fun p j => (tokens A t p).act A.W (1024 + j) := pay25_is (g1B_is m c t hA) (u1B_is m c t hA)

theorem xbB_is : Is (xbB m c t) fun p k => (tokens A t p).x1 A.W k + (tokens A t p).xpart A.W 1024 0 k + (tokens A t p).xpart A.W 1024 1024 k :=
  pay26_is (xaB_is m c t hA) (a1B_is m c t hA) (wf1_is m c t hA)

theorem g2B_is : Is (g2B m c t) fun p j => (tokens A t p).h A.W (2048 + j) := pay27_is (u2B_is m c t hA) (wg2_is m c t hA)

theorem u2pB_is : Is (u2pB m c t) fun p j => (tokens A t p).h A.W (2816 + (2048 + j)) := pay28_is (u2B_is m c t hA) (wu2_is m c t hA)

theorem a2B_is : Is (a2B m c t) fun p j => (tokens A t p).act A.W (2048 + j) := pay31_is (g2B_is m c t hA) (u2pB_is m c t hA)

theorem x2B_is : Is (x2B m c t) fun p => (tokens A t p).x2 A.W :=
  (pay32_is (xbB_is m c t hA) (a2B_is m c t hA) (wf2_is m c t hA)).congr fun p _ k _ => ((tokens A t p).x2_eq A.W k).symm

theorem r3B_is : Is (r3B m c t) fun p _ => rr ((tokens A t p).x2 A.W) := pay33_is (x2B_is m c t hA)

theorem n3B_is : Is (n3B m c t) fun p k => (tokens A t p).x2 A.W k * rr ((tokens A t p).x2 A.W) := pay34_is (x2B_is m c t hA)

theorem erB_is : Is (erB m c t) fun p => (tokens A t p).err A.W := pay35_is (n3B_is m c t hA) (pay10_is (blk9 m c hA t)) (blk7 m c hA t)

theorem dyB_is : Is (dyB m c t) fun p => (tokens A t p).dy A.W := pay37_is (erB_is m c t hA)

theorem deB_is : Is (deB m c t) fun _ k => ∑ s ∈ range 256, (tokens A t s).de A.W k := pay38_is (dyB_is m c t hA) (n3B_is m c t hA)

theorem dnB_is : Is (dnB m c t) fun p k => (tokens A t p).dy A.W k * A.W.e k := pay39_is (dyB_is m c t hA) (pay10_is (blk9 m c hA t))

theorem qB_is : Is (qB m c t) fun p _ => ∑ j ∈ range 1024, (tokens A t p).dy A.W j * A.W.e j * ((tokens A t p).x2 A.W j * rr ((tokens A t p).x2 A.W)) :=
  pay40_is (dnB_is m c t hA) (n3B_is m c t hA)

theorem dx2B_is : Is (dx2B m c t) fun p => (tokens A t p).dx2 A.W := pay41_is (r3B_is m c t hA) (n3B_is m c t hA) (dnB_is m c t hA) (qB_is m c t hA)

theorem dxbB_is : Is (dxbB m c t) fun p => (tokens A t p).dx2 A.W := pay43_is (dx2B_is m c t hA)

theorem h0B_is : Is (h0B m c t) fun p j => (tokens A t p).h A.W (0 + j) := pay16_is (g0B_is m c t hA)

theorem dg0B_is : Is (dg0B m c t) fun p j => (tokens A t p).dgate A.W (0 + j) :=
  pay47_is (pay45_is (dxbB_is m c t hA) (wf0_is m c t hA)) (h0B_is m c t hA) (pay17_is (u0B_is m c t hA))

theorem du0B_is : Is (du0B m c t) fun p j => (tokens A t p).dup A.W (0 + j) :=
  pay48_is (pay45_is (dxbB_is m c t hA) (wf0_is m c t hA)) (h0B_is m c t hA)

theorem y0B_is : Is (y0B m c t) fun p k => (tokens A t p).upart A.W 1024 0 k :=
  pay49_is (dg0B_is m c t hA) (du0B_is m c t hA) (wg0_is m c t hA) (wu0_is m c t hA)

theorem h1B_is : Is (h1B m c t) fun p j => (tokens A t p).h A.W (1024 + j) := pay22_is (g1B_is m c t hA)

theorem v1B_is : Is (v1B m c t) fun p j => (tokens A t p).h A.W (2816 + (1024 + j)) := pay23_is (u1B_is m c t hA)

theorem dg1B_is : Is (dg1B m c t) fun p j => (tokens A t p).dgate A.W (1024 + j) :=
  pay52_is (pay50_is (dxbB_is m c t hA) (wf1_is m c t hA)) (h1B_is m c t hA) (v1B_is m c t hA)

theorem du1B_is : Is (du1B m c t) fun p j => (tokens A t p).dup A.W (1024 + j) :=
  pay53_is (pay50_is (dxbB_is m c t hA) (wf1_is m c t hA)) (h1B_is m c t hA)

theorem y1B_is : Is (y1B m c t) fun p k => (tokens A t p).upart A.W 1024 0 k + (tokens A t p).upart A.W 1024 1024 k :=
  pay54_is (y0B_is m c t hA) (dg1B_is m c t hA) (du1B_is m c t hA) (wg1_is m c t hA) (wu1_is m c t hA)

theorem h2B_is : Is (h2B m c t) fun p j => (tokens A t p).h A.W (2048 + j) := pay29_is (g2B_is m c t hA)

theorem v2B_is : Is (v2B m c t) fun p j => (tokens A t p).h A.W (2816 + (2048 + j)) := pay30_is (u2pB_is m c t hA)

theorem dg2B_is : Is (dg2B m c t) fun p j => (tokens A t p).dgate A.W (2048 + j) :=
  pay57_is (pay55_is (dxbB_is m c t hA) (wf2_is m c t hA)) (h2B_is m c t hA) (v2B_is m c t hA)

theorem du2B_is : Is (du2B m c t) fun p j => (tokens A t p).dup A.W (2048 + j) :=
  pay58_is (pay55_is (dxbB_is m c t hA) (wf2_is m c t hA)) (h2B_is m c t hA)

theorem y2B_is : Is (y2B m c t) fun p => (tokens A t p).du2 A.W :=
  (pay1_is (y1B_is m c t hA) (dg2B_is m c t hA) (du2B_is m c t hA) (wg2_is m c t hA) (wu2_is m c t hA)).congr
    fun p _ k _ => ((tokens A t p).du2_eq A.W k).symm

theorem dx1B_is : Is (dx1B m c t) fun p => (tokens A t p).dx1 A.W :=
  pay3_is (y2B_is m c t hA) (n2B_is m c t hA) (r2B_is m c t hA) (pay9_is (blk8 m c hA t)) (dx2B_is m c t hA)

theorem lossB_is {o : FVec Ideal S1x128 .f32} {f : ℕ → ℕ → ℝ} (ho : Is o f) :
    Is (lossB m c t o) fun r k => f r k + ∑ p ∈ range 256, (tokens A t p).loss A.W := pay36_is (erB_is m c t hA) ho

theorem gfinB_is {o : FVec Ideal S1x1024 .f32} {f : ℕ → ℕ → ℝ} (ho : Is o f) :
    Is (gfinB m c t o) fun r k => f r k + ∑ p ∈ range 256, (tokens A t p).de A.W k := pay42_is (deB_is m c t hA) ho

theorem gffnB_is {o : FVec Ideal S1x1024 .f32} {f : ℕ → ℕ → ℝ} (ho : Is o f) :
    Is (gffnB m c t o) fun r k => f r k + ∑ p ∈ range 256, (tokens A t p).dg A.W k := pay2_is (y2B_is m c t hA) (n2B_is m c t hA) ho

end Real

end Point

end Cert.FfnValue

end
-- ==== Proof.Ffn.Value.lean ====
/-
  What the feed-forward's call leaves in its nine arrays, over the reals.
-/
module

public import proofs.«01_k».proof.Proof.Ffn.Point

@[expose] public section

set_option maxRecDepth 16384

noncomputable section

open Idealize.ShloMosaic Idealize.ShloMosaic.TcCoe Idealize.SL.Sem
open Idealize.ShloMosaic.Pipeline (Dat)
open Finset (range)
open Cert.Norm Cert.Rows
open Cert.Sb (Is)

namespace Cert.FfnValue

open Cert.KernelFfnIdeal Cert.KernelFfnIdeal.Gen Cert.Ffn

variable (m : (ℓ : Loc nD τ sig) → Buf (Elt Ideal) ℓ) (c : Dev nD)

section After

variable (t : Fin cfg0.N)

/-! What the point leaves in its windows. -/

theorem after13 : (dats m 0 c).after 13 t = dx1B m c t := by
  rw [after0_13]
  by_cases h0 : t.val % 16 = 0
  · rw [outsAt0_A m c t h0]
    dsimp only
    frame_open
    simp (disch := decide) only [↓ View.readCov_skip, ↓ View.readCov_cons_toLoadRect, ↓ View.readCov_fill]
    frame_out
    rfl
  · rw [outsAt0_B m c t h0]
    dsimp only
    frame_open
    simp (disch := decide) only [↓ View.readCov_skip, ↓ View.readCov_cons_toLoadRect, ↓ View.readCov_fill]
    frame_out
    rfl

theorem after14 : (dats m 0 c).after 14 t = mgB m c t := by
  rw [after0_14]
  by_cases h0 : t.val % 16 = 0
  · rw [outsAt0_A m c t h0]; dsimp only; frame_out; rfl
  · rw [outsAt0_B m c t h0]; dsimp only; frame_out; rfl

theorem after15 : (dats m 0 c).after 15 t = u2B m c t := by
  rw [after0_15]
  by_cases h0 : t.val % 16 = 0
  · rw [outsAt0_A m c t h0]; dsimp only; frame_out; rfl
  · rw [outsAt0_B m c t h0]; dsimp only; frame_out; rfl

theorem after18 : (dats m 0 c).after 18 t = dxbB m c t := by
  rw [after0_18]
  by_cases h0 : t.val % 16 = 0
  · rw [outsAt0_A m c t h0]; dsimp only; frame_out; rfl
  · rw [outsAt0_B m c t h0]; dsimp only; frame_out; rfl

theorem start12 (h : t.val % 16 = 0) : (outsAt0 m c t.val t.isLt).1 = lossB m c t (k0_pay4 (F := Ideal)) := by
  rw [outsAt0_A m c t h]
  dsimp only
  frame_out
  rfl

theorem step12 (h : ¬t.val % 16 = 0) : (outsAt0 m c t.val t.isLt).1 = lossB m c t (outsAt0 m c (t.val - 1) (by omega)).1 := by
  rw [outsAt0_B m c t h]; dsimp only; frame_out; rfl

theorem start19 (h : t.val % 16 = 0) : (outsAt0 m c t.val t.isLt).2.2.2.2.2.2.2.1 = gfinB m c t (k0_pay5 (F := Ideal)) := by
  rw [outsAt0_A m c t h]
  dsimp only
  frame_out
  rfl

theorem step19 (h : ¬t.val % 16 = 0) : (outsAt0 m c t.val t.isLt).2.2.2.2.2.2.2.1 = gfinB m c t (outsAt0 m c (t.val - 1) (by omega)).2.2.2.2.2.2.2.1 := by
  rw [outsAt0_B m c t h]; dsimp only; frame_out; rfl

theorem start20 (h : t.val % 16 = 0) : (outsAt0 m c t.val t.isLt).2.2.2.2.2.2.2.2 = gffnB m c t (k0_pay6 (F := Ideal)) := by
  rw [outsAt0_A m c t h]; dsimp only
  frame_open
  simp (disch := decide) only [↓ View.readCov_skip, ↓ View.readCov_cons_toLoadRect, ↓ View.readCov_fill]
  frame_out; rfl

theorem step20 (h : ¬t.val % 16 = 0) : (outsAt0 m c t.val t.isLt).2.2.2.2.2.2.2.2 = gffnB m c t (outsAt0 m c (t.val - 1) (by omega)).2.2.2.2.2.2.2.2 := by
  rw [outsAt0_B m c t h]; dsimp only
  frame_open
  simp (disch := decide) only [↓ View.readCov_skip, ↓ View.readCov_cons_toLoadRect, ↓ View.readCov_fill]
  frame_out; rfl

/-- The activation's three chunks, and the hidden cotangent's six, last write first. -/
def actB : FVec Ideal S256x2816 .bf16 := View.canon (Val := Elt Ideal) (s := S256x2816) (e := .bf16)
  [⟨Rect.unit ![0, 2048] ![256, 768] inb_S256x2816_S256x768_0_2048, a2B m c t⟩,
    ⟨Rect.unit ![0, 1024] ![256, 1024] inb_S256x2816_S256x1024_0_1024, a1B m c t⟩,
    ⟨Rect.unit ![0, 0] ![256, 1024] inb_S256x2816_S256x1024_0_0, a0B m c t⟩]

def dhB : FVec Ideal S256x5632 .bf16 := View.canon (Val := Elt Ideal) (s := S256x5632) (e := .bf16)
  [⟨Rect.unit ![0, 4864] ![256, 768] inb_S256x5632_S256x768_0_4864, du2B m c t⟩,
    ⟨Rect.unit ![0, 2048] ![256, 768] inb_S256x5632_S256x768_0_2048, dg2B m c t⟩,
    ⟨Rect.unit ![0, 3840] ![256, 1024] inb_S256x5632_S256x1024_0_3840, du1B m c t⟩,
    ⟨Rect.unit ![0, 1024] ![256, 1024] inb_S256x5632_S256x1024_0_1024, dg1B m c t⟩,
    ⟨Rect.unit ![0, 2816] ![256, 1024] inb_S256x5632_S256x1024_0_2816, du0B m c t⟩,
    ⟨Rect.unit ![0, 0] ![256, 1024] inb_S256x5632_S256x1024_0_0, dg0B m c t⟩]

theorem after16 : (dats m 0 c).after 16 t = actB m c t := by
  rw [after0_16]
  by_cases h0 : t.val % 16 = 0
  · rw [outsAt0_A m c t h0]; dsimp only; frame_out; rfl
  · rw [outsAt0_B m c t h0]; dsimp only; frame_out; rfl

theorem after17 : (dats m 0 c).after 17 t = dhB m c t := by
  rw [after0_17]
  by_cases h0 : t.val % 16 = 0
  · rw [outsAt0_A m c t h0]
    dsimp only
    frame_open
    simp (disch := decide) only [↓ View.readCov_skip, ↓ View.readCov_cons_toLoadRect, ↓ View.readCov_fill]
    frame_out
    rfl
  · rw [outsAt0_B m c t h0]
    dsimp only
    frame_open
    simp (disch := decide) only [↓ View.readCov_skip, ↓ View.readCov_cons_toLoadRect, ↓ View.readCov_fill]
    frame_out
    rfl

/-- A block written in pieces of columns: inside the last piece it is the piece, elsewhere what was written before. -/
theorem piece {M n o : ℕ} (inb : ∀ a, (![0, o] : Fin 2 → ℕ) a + (![256, n] : Fin 2 → ℕ) a ≤ (⟨2, ![256, M]⟩ : Shape).size a)
    (w : FVec Ideal ⟨2, ![256, n]⟩ .bf16) (L : List (View.Piece (Elt Ideal) ⟨2, ![256, M]⟩ .bf16)) (p : Fin 256) (l : Fin M) {f : ℕ → ℕ → ℝ} {z : ℝ}
    (hw : Is w f) (h1 : o ≤ l.val → l.val < o + n → f p (l.val - o) = z)
    (h2 : ¬(o ≤ l.val ∧ l.val < o + n) → View.canon L (ix2 p l) = ((z : ℝ) : EReal)) :
    View.canon (⟨Rect.unit ![0, o] ![256, n] inb, w⟩ :: L) (ix2 p l) = ((z : ℝ) : EReal) := by
  by_cases h : o ≤ l.val ∧ l.val < o + n
  · have he : (Rect.unit (s := ⟨2, ![256, M]⟩) ![0, o] ![256, n] inb).emb (ix2 p ⟨l.val - o, by omega⟩ : (⟨2, ![256, n]⟩ : Shape).Idx) = ix2 p l := by
      funext a
      match a with
      | ⟨0, _⟩ => exact Fin.ext (by show 0 + 1 * p.val = p.val; omega)
      | ⟨1, _⟩ => exact Fin.ext (by show o + 1 * (l.val - o) = l.val; omega)
    rw [← he]
    refine (View.canon_cons_emb (Rect.unit (s := ⟨2, ![256, M]⟩) ![0, o] ![256, n] inb) w L _).trans ((hw p ⟨l.val - o, by omega⟩).trans ?_)
    exact congrArg (fun x : ℝ => (x : EReal)) (h1 h.1 h.2)
  · rw [View.canon_cons_of_not_mem]
    · exact h2 h
    · intro hm
      exact h ((Rect.mem_set_unit (inb := inb)).1 hm 1)

variable {A : Args} (hA : Holds m c A)
include hA

theorem actB_is : Is (actB m c t) fun p => (tokens A t p).act A.W := fun p l => by
  have hl := l.isLt
  refine piece _ _ _ p l (a2B_is m c t hA) (fun h _ => by rw [Nat.add_sub_of_le h]) fun n2 => ?_
  refine piece _ _ _ p l (a1B_is m c t hA) (fun h _ => by rw [Nat.add_sub_of_le h]) fun n1 => ?_
  exact piece _ _ _ p l (a0B_is m c t hA) (fun h _ => by rw [Nat.add_sub_of_le h]) fun n0 => by omega

theorem dhB_is : Is (dhB m c t) fun p => (tokens A t p).dh A.W := fun p l => by
  have hl := l.isLt
  have gate : ∀ o : ℕ, o ≤ l.val → l.val < 2816 → (tokens A t p).dgate A.W (o + (l.val - o)) = (tokens A t p).dh A.W l := fun o h h' => by
    unfold Row.dh; rw [if_pos h', Nat.add_sub_of_le h]
  have up : ∀ o : ℕ, 2816 + o ≤ l.val → (tokens A t p).dup A.W (o + (l.val - (2816 + o))) = (tokens A t p).dh A.W l := fun o h => by
    unfold Row.dh; rw [if_neg (by omega), show o + (l.val - (2816 + o)) = l.val - 2816 by omega]
  refine piece _ _ _ p l (du2B_is m c t hA) (fun h _ => up 2048 h) fun n5 => ?_
  refine piece _ _ _ p l (dg2B_is m c t hA) (fun h h' => gate 2048 h h') fun n4 => ?_
  refine piece _ _ _ p l (du1B_is m c t hA) (fun h _ => up 1024 h) fun n3 => ?_
  refine piece _ _ _ p l (dg1B_is m c t hA) (fun h h' => gate 1024 h (by omega)) fun n2 => ?_
  refine piece _ _ _ p l (du0B_is m c t hA) (fun h _ => up 0 h) fun n1 => ?_
  exact piece _ _ _ p l (dg0B_is m c t hA) (fun h h' => gate 0 h (by omega)) fun n0 => by omega

end After

/-! ## The three sums, point by point -/

section Sums

theorem pay4_is : Is (k0_pay4 (F := Ideal)) fun _ _ => 0 := fun r k => by
  pointwise [k0_pay4]
  exact EReal.coe_zero.symm

theorem pay5_is : Is (k0_pay5 (F := Ideal)) fun _ _ => 0 := fun r k => by
  pointwise [k0_pay5]
  exact EReal.coe_zero.symm

theorem pay6_is : Is (k0_pay6 (F := Ideal)) fun _ _ => 0 := fun r k => by
  pointwise [k0_pay6]
  exact EReal.coe_zero.symm

/-- After point `n` a sum is what the points so far make of it, each from what the one before left. -/
def acc {X : Type} (step : Fin cfg0.N → X → X) (x : X) : (n : ℕ) → n < cfg0.N → X
  | 0, h => step ⟨0, h⟩ x
  | n + 1, h => step ⟨n + 1, h⟩ (acc step x n (Nat.lt_of_succ_lt h))

theorem acc_eq {X : Type} {step : Fin cfg0.N → X → X} {x : X} (f : (n : ℕ) → n < cfg0.N → X) (h0 : ∀ h, f 0 h = step ⟨0, h⟩ x)
    (h1 : ∀ n h, f (n + 1) h = step ⟨n + 1, h⟩ (f n (Nat.lt_of_succ_lt h))) : ∀ (n : ℕ) (h : n < cfg0.N), f n h = acc step x n h
  | 0, h => h0 h
  | n + 1, h => (h1 n h).trans (congrArg _ (acc_eq f h0 h1 n (Nat.lt_of_succ_lt h)))

theorem acc_is {k : ℕ} {step : Fin cfg0.N → FVec Ideal ⟨2, ![1, k]⟩ .f32 → FVec Ideal ⟨2, ![1, k]⟩ .f32} {x : FVec Ideal ⟨2, ![1, k]⟩ .f32}
    (A : Args) (f : ℕ → Row → ℝ) (hx : Is x fun _ _ => 0)
    (hs : ∀ (t : Fin cfg0.N) {o : FVec Ideal ⟨2, ![1, k]⟩ .f32} {g : ℕ → ℕ → ℝ}, Is o g → Is (step t o) fun r j => g r j + ∑ p ∈ range 256, f j (tokens A t p)) :
    ∀ (n : ℕ) (h : n < cfg0.N), Is (acc step x n h) fun _ j => ∑ s ∈ range (n + 1), ∑ p ∈ range 256, f j (A.flat (s * 256 + p))
  | 0, h => (hs ⟨0, h⟩ hx).congr fun _ _ j _ =>
      (zero_add _).trans (Finset.sum_range_one fun s => ∑ p ∈ range 256, f j (A.flat (s * 256 + p))).symm
  | n + 1, h => (hs ⟨n + 1, h⟩ (acc_is A f hx hs n (Nat.lt_of_succ_lt h))).congr fun _ _ j _ =>
      (Finset.sum_range_succ (fun s => ∑ p ∈ range 256, f j (A.flat (s * 256 + p))) (n + 1)).symm

theorem acc12 : ∀ (n : ℕ) (h : n < cfg0.N), (outsAt0 m c n h).1 = acc (lossB m c) (k0_pay4 (F := Ideal)) n h :=
  acc_eq (fun n h => (outsAt0 m c n h).1) (fun h => start12 m c ⟨0, h⟩ rfl) fun n h =>
    step12 m c ⟨n + 1, h⟩ (by have h' : n + 1 < 16 := h; show ¬(n + 1) % 16 = 0; omega)

theorem acc19 : ∀ (n : ℕ) (h : n < cfg0.N), (outsAt0 m c n h).2.2.2.2.2.2.2.1 = acc (gfinB m c) (k0_pay5 (F := Ideal)) n h :=
  acc_eq (fun n h => (outsAt0 m c n h).2.2.2.2.2.2.2.1) (fun h => start19 m c ⟨0, h⟩ rfl) fun n h =>
    step19 m c ⟨n + 1, h⟩ (by have h' : n + 1 < 16 := h; show ¬(n + 1) % 16 = 0; omega)

theorem acc20 : ∀ (n : ℕ) (h : n < cfg0.N), (outsAt0 m c n h).2.2.2.2.2.2.2.2 = acc (gffnB m c) (k0_pay6 (F := Ideal)) n h :=
  acc_eq (fun n h => (outsAt0 m c n h).2.2.2.2.2.2.2.2) (fun h => start20 m c ⟨0, h⟩ rfl) fun n h =>
    step20 m c ⟨n + 1, h⟩ (by have h' : n + 1 < 16 := h; show ¬(n + 1) % 16 = 0; omega)

end Sums

/-! ## The arrays -/

theorem at_block {k : ℕ} (f : ℕ → ℕ → ℝ) (t : Fin cfg0.N) (p : Fin 256) (l : Fin k) {i : (⟨2, ![4096, k]⟩ : Shape).Idx} (h : i = ix2 (tok t p) l) :
    ((f (t.val * 256 + p.val) l.val : ℝ) : EReal) = arr f i := by
  subst h; rfl

variable {A : Args} (hA : Holds m c A)
include hA

/-- The gradient of the first residual. -/
theorem final13 : (dats m 0 c).arrAt 13 cfg0.N = (arr fun r => (A.flat r).dx1 A.W : FVec Ideal S4096x1024 .f32) := by
  refine (dats m 0 c).arrAt_eq_of_covers 13 _ (by decide +kernel) fun t _ y => ?_
  blk_simp
  obtain ⟨p, l, rfl⟩ : ∃ (p : Fin 256) (l : Fin 1024), y = (ix2 p l : S256x1024.Idx) := ⟨y 0, y 1, eq_ix2 y⟩
  have he : ((cfg0.win 13).blk t).view.emb (ix2 p l : S256x1024.Idx) = (ix2 (tok t p) l : S4096x1024.Idx) := by
    blk_ext [idx t]
  exact (congrFun (after13 m c t) _).trans ((dx1B_is m c t hA p l).trans (at_block (fun r => (A.flat r).dx1 A.W) t p l he))

/-- The merged attentions. -/
theorem final14 : (dats m 0 c).arrAt 14 cfg0.N = (arr fun r => (A.flat r).merged A.W : FVec Ideal S4096x1024 .bf16) := by
  refine (dats m 0 c).arrAt_eq_of_covers 14 _ (by decide +kernel) fun t _ y => ?_
  blk_simp
  obtain ⟨p, l, rfl⟩ : ∃ (p : Fin 256) (l : Fin 1024), y = (ix2 p l : S256x1024.Idx) := ⟨y 0, y 1, eq_ix2 y⟩
  have he : ((cfg0.win 14).blk t).view.emb (ix2 p l : S256x1024.Idx) = (ix2 (tok t p) l : S4096x1024.Idx) := by
    blk_ext [idx t]
  exact (congrFun (after14 m c t) _).trans ((mgB_is m c t hA p l).trans (at_block (fun r => (A.flat r).merged A.W) t p l he))

/-- The feed-forward's input. -/
theorem final15 : (dats m 0 c).arrAt 15 cfg0.N = (arr fun r => (A.flat r).u2 A.W : FVec Ideal S4096x1024 .bf16) := by
  refine (dats m 0 c).arrAt_eq_of_covers 15 _ (by decide +kernel) fun t _ y => ?_
  blk_simp
  obtain ⟨p, l, rfl⟩ : ∃ (p : Fin 256) (l : Fin 1024), y = (ix2 p l : S256x1024.Idx) := ⟨y 0, y 1, eq_ix2 y⟩
  have he : ((cfg0.win 15).blk t).view.emb (ix2 p l : S256x1024.Idx) = (ix2 (tok t p) l : S4096x1024.Idx) := by
    blk_ext [idx t]
  exact (congrFun (after15 m c t) _).trans ((u2B_is m c t hA p l).trans (at_block (fun r => (A.flat r).u2 A.W) t p l he))

/-- The activation. -/
theorem final16 : (dats m 0 c).arrAt 16 cfg0.N = (arr fun r => (A.flat r).act A.W : FVec Ideal S4096x2816 .bf16) := by
  refine (dats m 0 c).arrAt_eq_of_covers 16 _ (by decide +kernel) fun t _ y => ?_
  blk_simp
  obtain ⟨p, l, rfl⟩ : ∃ (p : Fin 256) (l : Fin 2816), y = (ix2 p l : S256x2816.Idx) := ⟨y 0, y 1, eq_ix2 y⟩
  have he : ((cfg0.win 16).blk t).view.emb (ix2 p l : S256x2816.Idx) = (ix2 (tok t p) l : S4096x2816.Idx) := by
    blk_ext [idx t]
  exact (congrFun (after16 m c t) _).trans ((actB_is m c t hA p l).trans (at_block (fun r => (A.flat r).act A.W) t p l he))

/-- The gradient of the hidden columns. -/
theorem final17 : (dats m 0 c).arrAt 17 cfg0.N = (arr fun r => (A.flat r).dh A.W : FVec Ideal S4096x5632 .bf16) := by
  refine (dats m 0 c).arrAt_eq_of_covers 17 _ (by decide +kernel) fun t _ y => ?_
  blk_simp
  obtain ⟨p, l, rfl⟩ : ∃ (p : Fin 256) (l : Fin 5632), y = (ix2 p l : S256x5632.Idx) := ⟨y 0, y 1, eq_ix2 y⟩
  have he : ((cfg0.win 17).blk t).view.emb (ix2 p l : S256x5632.Idx) = (ix2 (tok t p) l : S4096x5632.Idx) := by
    blk_ext [idx t]
  exact (congrFun (after17 m c t) _).trans ((dhB_is m c t hA p l).trans (at_block (fun r => (A.flat r).dh A.W) t p l he))

/-- The gradient of the second residual. -/
theorem final18 : (dats m 0 c).arrAt 18 cfg0.N = (arr fun r => (A.flat r).dx2 A.W : FVec Ideal S4096x1024 .bf16) := by
  refine (dats m 0 c).arrAt_eq_of_covers 18 _ (by decide +kernel) fun t _ y => ?_
  blk_simp
  obtain ⟨p, l, rfl⟩ : ∃ (p : Fin 256) (l : Fin 1024), y = (ix2 p l : S256x1024.Idx) := ⟨y 0, y 1, eq_ix2 y⟩
  have he : ((cfg0.win 18).blk t).view.emb (ix2 p l : S256x1024.Idx) = (ix2 (tok t p) l : S4096x1024.Idx) := by
    blk_ext [idx t]
  exact (congrFun (after18 m c t) _).trans ((dxbB_is m c t hA p l).trans (at_block (fun r => (A.flat r).dx2 A.W) t p l he))

/-- The loss, in every lane. -/
theorem final12 : (dats m 0 c).arrAt 12 cfg0.N = (arr fun _ k => A.sum fun r => r.loss A.W : FVec Ideal S1x128 .f32) := by
  refine (dats m 0 c).arrAt_eq_of_covers 12 _ (by decide +kernel) fun t hf y => ?_
  have ht : t.val = 15 := (by decide +kernel : ∀ t : Fin cfg0.N, (cfg0.win 12).flush t = true → t.val = 15) t hf
  blk_simp
  obtain ⟨p, l, rfl⟩ : ∃ (p : Fin 1) (l : Fin 128), y = (ix2 p l : S1x128.Idx) := ⟨y 0, y 1, eq_ix2 y⟩
  have he : ((cfg0.win 12).blk t).view.emb (ix2 p l : S1x128.Idx) = (ix2 p l : S1x128.Idx) := by
    blk_ext [idx t]
  rw [after0_12, acc12]
  refine (acc_is A (fun k r => r.loss A.W) pay4_is (fun t _ _ ho => lossB_is m c t hA ho) t.val t.isLt p l).trans ?_
  refine Eq.trans ?_ (congrArg (arr fun _ k => A.sum fun r => r.loss A.W : FVec Ideal S1x128 .f32) he.symm)
  rw [ht]
  exact congrArg _ (A.total fun r => r.loss A.W)

/-- The gradient of the last norm's gain. -/
theorem final19 : (dats m 0 c).arrAt 19 cfg0.N = (arr fun _ k => A.sum fun r => r.de A.W k : FVec Ideal S1x1024 .f32) := by
  refine (dats m 0 c).arrAt_eq_of_covers 19 _ (by decide +kernel) fun t hf y => ?_
  have ht : t.val = 15 := (by decide +kernel : ∀ t : Fin cfg0.N, (cfg0.win 19).flush t = true → t.val = 15) t hf
  blk_simp
  obtain ⟨p, l, rfl⟩ : ∃ (p : Fin 1) (l : Fin 1024), y = (ix2 p l : S1x1024.Idx) := ⟨y 0, y 1, eq_ix2 y⟩
  have he : ((cfg0.win 19).blk t).view.emb (ix2 p l : S1x1024.Idx) = (ix2 p l : S1x1024.Idx) := by
    blk_ext [idx t]
  rw [after0_19, acc19]
  refine (acc_is A (fun k r => r.de A.W k) pay5_is (fun t _ _ ho => gfinB_is m c t hA ho) t.val t.isLt p l).trans ?_
  refine Eq.trans ?_ (congrArg (arr fun _ k => A.sum fun r => r.de A.W k : FVec Ideal S1x1024 .f32) he.symm)
  rw [ht]
  exact congrArg _ (A.total fun r => r.de A.W l)

/-- The gradient of the first norm's gain. -/
theorem final20 : (dats m 0 c).arrAt 20 cfg0.N = (arr fun _ k => A.sum fun r => r.dg A.W k : FVec Ideal S1x1024 .f32) := by
  refine (dats m 0 c).arrAt_eq_of_covers 20 _ (by decide +kernel) fun t hf y => ?_
  have ht : t.val = 15 := (by decide +kernel : ∀ t : Fin cfg0.N, (cfg0.win 20).flush t = true → t.val = 15) t hf
  blk_simp
  obtain ⟨p, l, rfl⟩ : ∃ (p : Fin 1) (l : Fin 1024), y = (ix2 p l : S1x1024.Idx) := ⟨y 0, y 1, eq_ix2 y⟩
  have he : ((cfg0.win 20).blk t).view.emb (ix2 p l : S1x1024.Idx) = (ix2 p l : S1x1024.Idx) := by
    blk_ext [idx t]
  rw [after0_20, acc20]
  refine (acc_is A (fun k r => r.dg A.W k) pay6_is (fun t _ _ ho => gffnB_is m c t hA ho) t.val t.isLt p l).trans ?_
  refine Eq.trans ?_ (congrArg (arr fun _ k => A.sum fun r => r.dg A.W k : FVec Ideal S1x1024 .f32) he.symm)
  rw [ht]
  exact congrArg _ (A.total fun r => r.dg A.W l)

end Cert.FfnValue

end
-- ==== Proof.Ffn.Claim.lean ====
/-
  The claims about the fused call of merge, feed-forward and loss: frames, and the value under the precondition.
-/
module

public import proofs.«01_k».proof.Defs
public import proofs.«01_k».proof.Proof.Gen.Pre_finite_ffn
public import proofs.«01_k».proof.Proof.Gen.KernelFfn.Frame
public import proofs.«01_k».proof.Proof.Ffn.Ref
public import proofs.«01_k».proof.Proof.Ffn.Value
public import Idealize.ShloMosaic.Lib.Claim

@[expose] public section

set_option maxRecDepth 16384

noncomputable section

open Idealize.ShloMosaic Idealize.ShloMosaic.TcCoe Idealize.SL.Sem

namespace Cert.FfnClaim

open Cert.Ffn (Args)
open Cert.Rows

theorem frame_kernel : Cert.quiescent_KernelFfn := fun m ρ _ => Cert.KernelFfn.Gen.frame m ρ

theorem frame_ideal : Cert.quiescent_KernelFfnIdeal := fun m ρ _ => Cert.KernelFfnIdeal.Gen.frame m ρ

theorem frame_ideal_pre : Cert.quiescent_KernelFfnIdeal_pre_finite_ffn := fun m ρ _ => Cert.KernelFfnIdeal.Gen.frame m ρ

theorem frame_reference : Cert.quiescent_ReferenceFfnIdeal := by
  intro m g _
  hlo_run
  · exact fun _ => ⟨trivial, trivial, trivial, trivial, trivial, trivial, trivial, trivial, trivial, trivial, trivial, trivial⟩
  · exact sem_eq_zero_of_no_sems (sig := Cert.ReferenceFfnIdeal.sig) (by decide) _

theorem frame_reference_pre : Cert.quiescent_ReferenceFfnIdeal_pre_finite_ffn := fun m g _ => frame_reference m g trivial

section Pre

open Cert.Pre_finite_ffn

instance : Subsingleton Cert.Pre_finite_ffn.S_.Idx := ⟨fun a b => funext fun i => i.elim0⟩

/-- Under the precondition the arrays hold real numbers. -/
theorem args_of_pre (x : FVec Ideal S2x2048x1024 .f32) (os : FVec Ideal S2x2048x512 .f32) (od : FVec Ideal S2x2048x256 .f32) (ga : FVec Ideal S2x2048x2048 .f32) (wsb : FVec Ideal S512x1024 .f32) (wdl : FVec Ideal S256x1024 .f32) (wo : FVec Ideal S1024x1024 .f32) (tg : FVec Ideal S2x2048x1024 .f32) (g : FVec Ideal S1024 .f32) (e : FVec Ideal S1024 .f32) (wi : FVec Ideal S1024x5632 .f32) (wf : FVec Ideal S2816x1024 .f32)
    (h : fn (F := Ideal) x os od ga wsb wdl wo tg g e wi wf = fun _ => 1#1) : ∃ A : Args, A.In x os od ga wsb wdl wo tg g e wi wf := by
  have h := congrFun h (fun i => i.elim0)
  dsimp only [fn, fn_part1, fn_part2, fn_part3] at h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  obtain ⟨f0, h0⟩ := exists_isB fun i => Reals.isReal_of_cmp (Host.reduce_andi_all _ _ _ _ _ e0 i)
  obtain ⟨f1, h1⟩ := exists_isB fun i => Reals.isReal_of_cmp (Host.reduce_andi_all _ _ _ _ _ e1 i)
  obtain ⟨f2, h2⟩ := exists_isB fun i => Reals.isReal_of_cmp (Host.reduce_andi_all _ _ _ _ _ e2 i)
  obtain ⟨f3, h3⟩ := exists_isB fun i => Reals.isReal_of_cmp (Host.reduce_andi_all _ _ _ _ _ e3 i)
  obtain ⟨f4, h4⟩ := exists_is fun i => Reals.isReal_of_cmp (Host.reduce_andi_all _ _ _ _ _ e4 i)
  obtain ⟨f5, h5⟩ := exists_is fun i => Reals.isReal_of_cmp (Host.reduce_andi_all _ _ _ _ _ e5 i)
  obtain ⟨f6, h6⟩ := exists_is fun i => Reals.isReal_of_cmp (Host.reduce_andi_all _ _ _ _ _ e6 i)
  obtain ⟨f7, h7⟩ := exists_isB fun i => Reals.isReal_of_cmp (Host.reduce_andi_all _ _ _ _ _ e7 i)
  obtain ⟨f8, h8⟩ := exists_is1 fun i => Reals.isReal_of_cmp (Host.reduce_andi_all _ _ _ _ _ e8 i)
  obtain ⟨f9, h9⟩ := exists_is1 fun i => Reals.isReal_of_cmp (Host.reduce_andi_all _ _ _ _ _ e9 i)
  obtain ⟨f10, h10⟩ := exists_is fun i => Reals.isReal_of_cmp (Host.reduce_andi_all _ _ _ _ _ e10 i)
  obtain ⟨f11, h11⟩ := exists_is fun i => Reals.isReal_of_cmp (Host.reduce_andi_all _ _ _ _ _ e11 i)
  exact ⟨⟨⟨f4, f5, f6, f8, f9, f10, f11⟩, f0, f1, f2, f3, f7⟩, h0, h1, h2, h3, h4, h5, h6, h7, h8, h9, h10, h11⟩

end Pre

theorem algebraic : Cert.algebraic_KernelFfnIdeal_ReferenceFfnIdeal_pre_finite_ffn := by
  intro m g m' g' hpre hagree
  refine ⟨_, _, _, _, _, _, _, _, _, Cert.KernelFfnIdeal.Value.run_blocks m g, ?_⟩
  refine (θ_run Cert.ReferenceFfnIdeal.defs _ _).mono (fun r h c => ?_) (Cert.ReferenceFfnIdeal.Value.run m' g')
  obtain ⟨h0, h1, h2, h3, h4, h5, h6, h7, h8, hargs⟩ := h c
  obtain ⟨A, hA⟩ := args_of_pre _ _ _ _ _ _ _ _ _ _ _ _ (hpre c)
  have hR := hA
  obtain ⟨e0, e1, e2, e3, e4, e5, e6, e7, e8, e9, e10, e11⟩ := hagree c
  rw [← e0, ← e1, ← e2, ← e3, ← e4, ← e5, ← e6, ← e7, ← e8, ← e9, ← e10, ← e11] at hR
  have hV : Cert.FfnRef.Has (Idealize.ShloMosaic.StableHlo.launchContents m' c) A := hR
  refine ⟨h0.trans ?_, h1.trans ?_, h2.trans ?_, h3.trans ?_, h4.trans ?_, h5.trans ?_, h6.trans ?_, h7.trans ?_, h8.trans ?_, hargs⟩
  · rw [Cert.FfnValue.final12 m c hA]
    exact is_ext (Cert.FfnRef.loss_is (Cert.FfnRef.v64_is hV)) (arr_is _)
  · rw [Cert.FfnValue.final13 m c hA]
    exact is_ext (flat_is (Cert.FfnRef.dx1_is hV) _) (arr_is _)
  · rw [Cert.FfnValue.final14 m c hA]
    exact is_ext (flat_is (Cert.FfnRef.v18_is hV) _) (arr_is _)
  · rw [Cert.FfnValue.final15 m c hA]
    exact is_ext (flat_is (Cert.FfnRef.v38_is hV) _) (arr_is _)
  · rw [Cert.FfnValue.final16 m c hA]
    exact is_ext (flat_is (Cert.FfnRef.v44_is hV) _) (arr_is _)
  · rw [Cert.FfnValue.final17 m c hA]
    exact is_ext (flat_is (Cert.FfnRef.v103_is hV) _) (arr_is _)
  · rw [Cert.FfnValue.final18 m c hA]
    exact is_ext (flat_is (Cert.FfnRef.v98_is hV) _) (arr_is _)
  · rw [Cert.FfnValue.final19 m c hA]
    exact is_ext (Cert.FfnRef.gain_is (Cert.FfnRef.v60_is hV) (Cert.FfnRef.v78_is hV)) (arr_is _)
  · rw [Cert.FfnValue.final20 m c hA]
    exact is_ext (Cert.FfnRef.gain_is (Cert.FfnRef.v35_is hV) (Cert.FfnRef.v104_is hV)) (arr_is _)

end Cert.FfnClaim

end
-- ==== Proof.Proj.Grad.lean ====
/-
  The gradients of the in-projection's input and of its norm's gain, over the reals: the cotangent of the projection times
  the weight's transpose, carried back through the norm.
-/
module

public import proofs.«01_k».proof.Proof.Norm
public import proofs.«01_k».proof.Proof.Rows

@[expose] public section

noncomputable section

open Idealize.ShloMosaic
open Finset (range)
open Cert.Norm Cert.Rows

namespace Cert.Proj

/-- The arguments, over the reals: the input, the gain, the weight, the residual's cotangent, and the cotangents of the seven
    parts of the projection. -/
structure Args where
  x : ℕ → ℕ → ℕ → ℝ
  g : ℕ → ℝ
  w : ℕ → ℕ → ℝ
  d : ℕ → ℕ → ℕ → ℝ
  q0 : ℕ → ℕ → ℕ → ℝ
  q1 : ℕ → ℕ → ℕ → ℝ
  q2 : ℕ → ℕ → ℕ → ℝ
  l0 : ℕ → ℕ → ℕ → ℝ
  l1 : ℕ → ℕ → ℕ → ℝ
  l2 : ℕ → ℕ → ℕ → ℝ
  t : ℕ → ℕ → ℕ → ℝ

variable (A : Args)

/-- The arrays hold these numbers. -/
structure Args.In (A : Args) (x : (⟨3, ![2, 2048, 1024]⟩ : Shape).Idx → EReal) (g : (⟨1, ![1024]⟩ : Shape).Idx → EReal)
    (w : (⟨2, ![1024, 5888]⟩ : Shape).Idx → EReal) (d : (⟨3, ![2, 2048, 1024]⟩ : Shape).Idx → EReal)
    (q0 q1 q2 : (⟨3, ![2, 2048, 512]⟩ : Shape).Idx → EReal) (l0 l1 l2 : (⟨3, ![2, 2048, 768]⟩ : Shape).Idx → EReal)
    (t : (⟨3, ![2, 2048, 2048]⟩ : Shape).Idx → EReal) : Prop where
  x : IsB x A.x
  g : Is1 g A.g
  w : Cert.Sb.Is w A.w
  d : IsB d A.d
  q0 : IsB q0 A.q0
  q1 : IsB q1 A.q1
  q2 : IsB q2 A.q2
  l0 : IsB l0 A.l0
  l1 : IsB l1 A.l1
  l2 : IsB l2 A.l2
  t : IsB t A.t

/-- The seven cotangents laid end to end. -/
def Args.cat (b t j : ℕ) : ℝ :=
  if j < 512 then A.q0 b t j else if j - 512 < 512 then A.q1 b t (j - 512) else if j - 512 - 512 < 512 then A.q2 b t (j - 512 - 512)
  else if j - 512 - 512 - 512 < 768 then A.l0 b t (j - 512 - 512 - 512)
  else if j - 512 - 512 - 512 - 768 < 768 then A.l1 b t (j - 512 - 512 - 512 - 768)
  else if j - 512 - 512 - 512 - 768 - 768 < 768 then A.l2 b t (j - 512 - 512 - 512 - 768 - 768)
  else A.t b t (j - 512 - 512 - 512 - 768 - 768 - 768)

/-- The cotangent of the normalised input. -/
def Args.du (b t k : ℕ) : ℝ := ∑ j ∈ range 5888, A.cat b t j * A.w k j

def Args.dx (b t k : ℕ) : ℝ := A.d b t k + back (A.x b t) (fun j => A.du b t j * A.g j) k
def Args.dg (k : ℕ) : ℝ := ∑ b ∈ range 2, ∑ t ∈ range 2048, A.du b t k * (A.x b t k * rr (A.x b t))

/-- The kernel's order: the first three parts whole, the next three in groups of 256, the last whole. -/
theorem Args.du_eq (b t k : ℕ) : A.du b t k =
    ∑ j ∈ range 512, A.q0 b t j * A.w k j + ∑ j ∈ range 512, A.q1 b t j * A.w k (512 + j) + ∑ j ∈ range 512, A.q2 b t j * A.w k (1024 + j)
    + ∑ j ∈ range 256, A.l0 b t j * A.w k (1536 + j) + ∑ j ∈ range 256, A.l0 b t (256 + j) * A.w k (1792 + j) + ∑ j ∈ range 256, A.l0 b t (512 + j) * A.w k (2048 + j)
    + ∑ j ∈ range 256, A.l1 b t j * A.w k (2304 + j) + ∑ j ∈ range 256, A.l1 b t (256 + j) * A.w k (2560 + j) + ∑ j ∈ range 256, A.l1 b t (512 + j) * A.w k (2816 + j)
    + ∑ j ∈ range 256, A.l2 b t j * A.w k (3072 + j) + ∑ j ∈ range 256, A.l2 b t (256 + j) * A.w k (3328 + j) + ∑ j ∈ range 256, A.l2 b t (512 + j) * A.w k (3584 + j)
    + ∑ j ∈ range 2048, A.t b t j * A.w k (3840 + j) := by
  have e0 : ∀ j ∈ range 512, A.cat b t j * A.w k j = A.q0 b t j * A.w k j := fun j hj => by
    have := Finset.mem_range.1 hj
    unfold Args.cat; rw [if_pos (by omega)]
  have e1 : ∀ j ∈ range 512, A.cat b t (512 + j) * A.w k (512 + j) = A.q1 b t j * A.w k (512 + j) := fun j hj => by
    have := Finset.mem_range.1 hj
    unfold Args.cat; rw [if_neg (by omega), if_pos (by omega), show 512 + j - 512 = j by omega]
  have e2 : ∀ j ∈ range 512, A.cat b t (1024 + j) * A.w k (1024 + j) = A.q2 b t j * A.w k (1024 + j) := fun j hj => by
    have := Finset.mem_range.1 hj
    unfold Args.cat; rw [if_neg (by omega), if_neg (by omega), if_pos (by omega), show 1024 + j - 512 - 512 = j by omega]
  have e3 : ∀ j ∈ range 768, A.cat b t (1536 + j) * A.w k (1536 + j) = A.l0 b t j * A.w k (1536 + j) := fun j hj => by
    have := Finset.mem_range.1 hj
    unfold Args.cat
    rw [if_neg (by omega), if_neg (by omega), if_neg (by omega), if_pos (by omega), show 1536 + j - 512 - 512 - 512 = j by omega]
  have e4 : ∀ j ∈ range 768, A.cat b t (2304 + j) * A.w k (2304 + j) = A.l1 b t j * A.w k (2304 + j) := fun j hj => by
    have := Finset.mem_range.1 hj
    unfold Args.cat
    rw [if_neg (by omega), if_neg (by omega), if_neg (by omega), if_neg (by omega), if_pos (by omega), show 2304 + j - 512 - 512 - 512 - 768 = j by omega]
  have e5 : ∀ j ∈ range 768, A.cat b t (3072 + j) * A.w k (3072 + j) = A.l2 b t j * A.w k (3072 + j) := fun j hj => by
    have := Finset.mem_range.1 hj
    unfold Args.cat
    rw [if_neg (by omega), if_neg (by omega), if_neg (by omega), if_neg (by omega), if_neg (by omega), if_pos (by omega),
      show 3072 + j - 512 - 512 - 512 - 768 - 768 = j by omega]
  have e6 : ∀ j ∈ range 2048, A.cat b t (3840 + j) * A.w k (3840 + j) = A.t b t j * A.w k (3840 + j) := fun j hj => by
    unfold Args.cat
    rw [if_neg (by omega), if_neg (by omega), if_neg (by omega), if_neg (by omega), if_neg (by omega), if_neg (by omega),
      show 3840 + j - 512 - 512 - 512 - 768 - 768 - 768 = j by omega]
  unfold Args.du
  rw [sum_pieces, Finset.sum_congr rfl e0, Finset.sum_congr rfl e1, Finset.sum_congr rfl e2, Finset.sum_congr rfl e3, Finset.sum_congr rfl e4,
    Finset.sum_congr rfl e5, Finset.sum_congr rfl e6, sum_groups fun j => A.l0 b t j * A.w k (1536 + j), sum_groups fun j => A.l1 b t j * A.w k (2304 + j),
    sum_groups fun j => A.l2 b t j * A.w k (3072 + j)]
  simp only [← Nat.add_assoc, Nat.reduceAdd]
  ring

end Cert.Proj

end
-- ==== Proof.Proj.Ref.lean ====
/-
  The reference's two results, stage by stage over the reals.
-/
module

public import proofs.«01_k».proof.Proof.Gen.ReferenceProjIdeal.Run
public import proofs.«01_k».proof.Proof.Proj.Grad

@[expose] public section

noncomputable section

open Idealize.ShloMosaic
open Finset (range)
open Cert.Norm Cert.Rows
open Cert.Sb (Is sum_mul sum_one coe_sum)

namespace Cert.ProjRef

open Cert.ReferenceProjIdeal Cert.ReferenceProjIdeal.Gen

local notation "Tok" => FVec Ideal S2x2048x1024 FTy.f32
local notation "Col" => FVec Ideal S2x2048x1 FTy.f32

/-- The mean square of a token with the small constant, its inverse root, and the projection's cotangent times the weight. -/
def ms (x : Tok) : Col := addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

variable {x d y : Tok} {fx fd fy : ℕ → ℕ → ℕ → ℝ}

theorem ms_is (hx : IsB x fx) : IsB (ms x) fun b t _ => under (fx b t) := fun b t c => by
  pointwise [ms]
  rw [sum_mul (fx b t) (fx b t) (fun j => hx b t j) fun j => hx b t j, ofBits_1024, ofBits_eps, div_real _ (by norm_num), ← EReal.coe_add]
  rfl

theorem rs_is (hx : IsB x fx) : IsB (Host.rsqrt (ms x)) fun b t _ => rr (fx b t) := fun b t c => by
  have h := ms_is hx b t c
  generalize ms x = w at h ⊢
  pointwise []
  rw [h, Ideal.rsqrt_coe, if_neg (not_lt.2 (under_pos _).le), if_neg (under_pos _).ne']
  rfl

/-- The derivative of the inverse root. -/
def slope (x : Tok) : Col := mulf (broadcastInDim S2x2048x1 ![] bcast_S_S2x2048x1 (constant S_ .f32 0xBF000000#32)) (Host.divf (Host.rsqrt (ms x)) (ms x))

theorem slope_is (hx : IsB x fx) : IsB (slope x) fun b t _ => -(1 / 2) * (rr (fx b t) / under (fx b t)) := fun b t c => by
  have h := ms_is hx b t c
  have h1 := rs_is hx b t c
  unfold slope
  generalize ms x = w at h h1 ⊢
  generalize Host.rsqrt w = v at h1 ⊢
  pointwise []
  rw [h, h1, ofBits_neg_half, div_real _ (under_pos _).ne', ← EReal.coe_mul]

/-- The cotangent of the mean square, spread over the token. -/
def mean (x y : Tok) : FVec Ideal S2x2048 .f32 := Host.reduceAdd (Host.divf (mulf (shapeCast _ (Host.reduceAdd (mulf x y) (constant S_ .f32 0x00000000#32) reducesTo_S2x2048x1024_S2x2048_d2 h_S_) shapeCasts_S2x2048_S2x2048x1) (slope x)) (broadcastInDim S2x2048x1 ![] bcast_S_S2x2048x1 (constant S_ .f32 0x44800000#32))) (constant S_ .f32 0x00000000#32) reducesTo_S2x2048x1_S2x2048_d2 h_S_

theorem mean_is (hx : IsB x fx) (hy : IsB y fy) : Is (mean x y) fun b t => (∑ j ∈ range 1024, fx b t j * fy b t j) * (-(1 / 2) * (rr (fx b t) / under (fx b t))) / 1024 := fun b t => by
  have h := slope_is hx b t 0
  unfold mean
  generalize slope x = w at h ⊢
  pointwise []
  rw [sum_mul (fx b t) (fy b t) (fun j => hx b t j) fun j => hy b t j, Fin.sum_univ_one, h, ofBits_1024, ← EReal.coe_mul, div_real _ (by norm_num)]

/-- The input's gradient, for the cotangent `y` of the token times its inverse root. -/
def outX (x d y : Tok) : FVec Ideal S4096x1024 .f32 := shapeCast _ (addf (addf (addf d (mulf y (broadcastInDim S2x2048x1024 ![0, 1, 2] bcast_S2x2048x1_S2x2048x1024_0_1_2 (Host.rsqrt (ms x)))))
  (mulf x (broadcastInDim S2x2048x1024 ![0, 1] bcast_S2x2048_S2x2048x1024_0_1 (mean x y)))) (mulf (broadcastInDim S2x2048x1024 ![0, 1] bcast_S2x2048_S2x2048x1024_0_1 (mean x y)) x)) shapeCasts_S2x2048x1024_S4096x1024

theorem outX_is (hx : IsB x fx) (hd : IsB d fd) (hy : IsB y fy) : Is (outX x d y) (fl fun b t k => fd b t k + back (fx b t) (fy b t) k) :=
  flat_is (fun b t c => by
    have h := rs_is hx b t 0
    have h1 := mean_is hx hy b t
    generalize Host.rsqrt (ms x) = w at h ⊢
    generalize mean x y = v at h1 ⊢
    pointwise []
    rw [hd b t c, hy b t c, h, hx b t c, h1]
    simp only [← EReal.coe_mul, ← EReal.coe_add]
    rw [← chain]
    congr 1
    ring) _

/-- The gain's gradient. -/
def outG (x y : Tok) : FVec Ideal S1x1024 .f32 := shapeCast _ (Host.reduceAdd (shapeCast _ (Host.reduceAdd (mulf (mulf x (broadcastInDim S2x2048x1024 ![0, 1, 2] bcast_S2x2048x1_S2x2048x1024_0_1_2 (Host.rsqrt (ms x)))) y)
  (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem outG_is (hx : IsB x fx) (hy : IsB y fy) : Is (outG x y) fun _ k => ∑ b ∈ range 2, ∑ t ∈ range 2048, fy b t k * (fx b t k * rr (fx b t)) := fun r c => by
  unfold outG
  have h := rs_is hx
  generalize Host.rsqrt (ms x) = w at h ⊢
  pointwise []
  rw [lead_sum]
  pointwise []
  rw [Fin.sum_univ_one, Fin.sum_univ_one]
  rw [lead_sum]
  refine (Finset.sum_congr rfl fun b _ => ?_).trans (coe_sum (n := 2) fun b => ∑ t ∈ range 2048, fy b t c * (fx b t c * rr (fx b t)))
  refine (Finset.sum_congr rfl fun t _ => ?_).trans (coe_sum (n := 2048) fun t => fy b t c * (fx b t c * rr (fx b t)))
  have h1 := h b t 0
  pointwise []
  rw [h1, hx b t c, hy b t c, ← EReal.coe_mul, ← EReal.coe_mul, mul_comm]

/-- The cotangent of the normalised input. -/
def du (q0 q1 q2 : FVec Ideal S2x2048x512 .f32) (l0 l1 l2 : FVec Ideal S2x2048x768 .f32) (t : FVec Ideal S2x2048x2048 .f32) (w : FVec Ideal S1024x5888 .f32) : Tok :=
  Host.dotGeneral dot_S2x2048x5888_S1024x5888_S2x2048x1024_2_1_01_0_n_n none (concatenate S2x2048x5888 2 [⟨S2x2048x512, q0⟩, ⟨S2x2048x512, q1⟩, ⟨S2x2048x512, q2⟩, ⟨S2x2048x768, l0⟩, ⟨S2x2048x768, l1⟩, ⟨S2x2048x768, l2⟩, ⟨S2x2048x2048, t⟩] concatenates_S2x2048x512_S2x2048x512_S2x2048x512_S2x2048x768_S2x2048x768_S2x2048x768_S2x2048x2048_S2x2048x5888_d2) w

theorem du_is {A : Cert.Proj.Args} {q0 q1 q2 : FVec Ideal S2x2048x512 .f32} {l0 l1 l2 : FVec Ideal S2x2048x768 .f32} {t : FVec Ideal S2x2048x2048 .f32} {w : FVec Ideal S1024x5888 .f32}
    (h0 : IsB q0 A.q0) (h1 : IsB q1 A.q1) (h2 : IsB q2 A.q2) (h3 : IsB l0 A.l0) (h4 : IsB l1 A.l1) (h5 : IsB l2 A.l2) (h6 : IsB t A.t) (hw : Is w A.w) :
    IsB (du q0 q1 q2 l0 l1 l2 t w) A.du := fun b r c => by
  pointwise [du]
  refine sum_mul (A.cat b r) (A.w c) (fun j => ?_) fun j => hw c j
  have hj := j.isLt
  unfold Cert.Proj.Args.cat
  split_ifs <;> first | exact h0 b r ⟨_, _⟩ | exact h1 b r ⟨_, _⟩ | exact h2 b r ⟨_, _⟩ | exact h3 b r ⟨_, _⟩ | exact h4 b r ⟨_, _⟩ | exact h5 b r ⟨_, _⟩ | exact h6 b r ⟨_, _⟩ | (exfalso; omega)

/-- The gain spread over the tokens, times the cotangent of the normalised input. -/
def dn (u : Tok) (g : FVec Ideal S1024 .f32) : Tok := mulf u (broadcastInDim S2x2048x1024 ![0, 1, 2] bcast_S1x1x1024_S2x2048x1024_0_1_2 (broadcastInDim S1x1x1024 ![2] bcast_S1024_S1x1x1024_2 g))

theorem dn_is {u : Tok} {g : FVec Ideal S1024 .f32} {fu : ℕ → ℕ → ℕ → ℝ} {fg : ℕ → ℝ} (hu : IsB u fu) (hg : Is1 g fg) : IsB (dn u g) fun b t k => fu b t k * fg k := fun b t k => by
  pointwise [dn]
  rw [hu b t k, hg k, ← EReal.coe_mul]

section Results

variable (m : (ℓ : Loc nD τ sig) → Buf (Elt Ideal) ℓ) (c : Dev nD)

/-- The cotangent of the normalised input, of the arguments in memory. -/
abbrev duM : Tok := du (m ((c.tc : Thread nD τ).loc main_arg4)) (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10)) (m ((c.tc : Thread nD τ).loc main_arg2))

theorem res0 : Value.res_main_v47 m c = outX (m ((c.tc : Thread nD τ).loc main_arg0)) (m ((c.tc : Thread nD τ).loc main_arg3)) (dn (duM m c) (m ((c.tc : Thread nD τ).loc main_arg1))) := by
  unfold Value.res_main_v47; rfl

end Results

end Cert.ProjRef

end
-- ==== Proof.Proj.Blocks.lean ====
/-
  The blocks that a grid point of the in-projection's backward call reads, over the reals.
-/
module

public import proofs.«01_k».proof.Proof.Gen.KernelProjIdeal.Value
public import proofs.«01_k».proof.Proof.Proj.Pay
public import proofs.«01_k».proof.Proof.Proj.Grad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Finset (range)
open Cert.Norm Cert.Rows
open Cert.Sb (Is)

namespace Cert.ProjValue

open Cert.KernelProjIdeal Cert.KernelProjIdeal.Gen Cert.Proj

variable (m : (ℓ : Loc nD τ sig) → Buf (Elt Ideal) ℓ) (c : Dev nD)

/-- Point `t` holds rows `256 t` to `256 t + 255` of every token array, and the gain and the weight whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![0, 0] ∧ win0_16.index t = ![0, 0] ∧ win0_17.index t = ![t.val, 0] ∧ win0_18.index t = ![0, 0] :=
  (by decide +kernel : ∀ t : Fin grid0.N, _)

/-- The token that row `p` of point `t`'s block is. -/
abbrev tok (t : Fin cfg0.N) (p : Fin 256) : Fin 4096 :=
  ⟨t.val * 256 + p.val, by have h : t.val < 16 := t.isLt; omega⟩

/-- The block of point `t` in a token array: rows `256 t` and on. -/
abbrev rows (t : Fin cfg0.N) (f : ℕ → ℕ → ℕ → ℝ) (p k : ℕ) : ℝ := fl f (t.val * 256 + p) k

theorem rows_is {k : ℕ} {X : (⟨2, ![4096, k]⟩ : Shape).Idx → EReal} {f : ℕ → ℕ → ℕ → ℝ} (t : Fin cfg0.N) (h : Is X (fl f))
    (e : (⟨2, ![256, k]⟩ : Shape).Idx → (⟨2, ![4096, k]⟩ : Shape).Idx) (he : ∀ (p : Fin 256) (l : Fin k), e (ix2 p l) = ix2 (tok t p) l) :
    Is (fun i => X (e i)) (rows t f) := fun p l => by
  dsimp only
  rw [he]
  exact h (tok t p) l

theorem whole_is {n k : ℕ} {X : (⟨2, ![n, k]⟩ : Shape).Idx → EReal} {f : ℕ → ℕ → ℝ} (h : Is X f)
    (e : (⟨2, ![n, k]⟩ : Shape).Idx → (⟨2, ![n, k]⟩ : Shape).Idx) (he : ∀ (p : Fin n) (l : Fin k), e (ix2 p l) = ix2 p l) :
    Is (fun i => X (e i)) f := fun p l => by
  dsimp only
  rw [he]
  exact h p l

/-- What the host makes of the arguments: rows, and column groups of 256. -/
def flat (a : FVec Ideal S2x2048x512 .f32) : FVec Ideal S4096x512 .bf16 := truncf .bf16 (shapeCast S4096x512 a shapeCasts_S2x2048x512_S4096x512) bitsLt_bf16_f32
def group0 (a : FVec Ideal S2x2048x768 .f32) : FVec Ideal S4096x256 .f32 :=
  extractStridedSlice S4096x256 ![0, 0] (shapeCast S4096x768 a shapeCasts_S2x2048x768_S4096x768) slices_S4096x768_S4096x256_0_0
def group1 (a : FVec Ideal S2x2048x768 .f32) : FVec Ideal S4096x256 .f32 :=
  extractStridedSlice S4096x256 ![0, 256] (shapeCast S4096x768 a shapeCasts_S2x2048x768_S4096x768) slices_S4096x768_S4096x256_0_256
def group2 (a : FVec Ideal S2x2048x768 .f32) : FVec Ideal S4096x256 .f32 :=
  extractStridedSlice S4096x256 ![0, 512] (shapeCast S4096x768 a shapeCasts_S2x2048x768_S4096x768) slices_S4096x768_S4096x256_0_512
def weight (w : FVec Ideal S1024x5888 .f32) : FVec Ideal S5888x1024 .bf16 :=
  truncf .bf16 (transpose S5888x1024 [1, 0] w transposes_S1024x5888_S5888x1024_1_0) bitsLt_bf16_f32
def gates (a : FVec Ideal S2x2048x2048 .f32) : FVec Ideal S4096x2048 .bf16 := truncf .bf16 (shapeCast S4096x2048 a shapeCasts_S2x2048x2048_S4096x2048) bitsLt_bf16_f32

section Host

variable {f : ℕ → ℕ → ℕ → ℝ}

theorem flat_of {a : FVec Ideal S2x2048x512 .f32} (h : IsB a f) : Is (flat a) (fl f) := flat_is h _

theorem gates_of {a : FVec Ideal S2x2048x2048 .f32} (h : IsB a f) : Is (gates a) (fl f) := flat_is h _

theorem group0_of {a : FVec Ideal S2x2048x768 .f32} (h : IsB a f) : Is (group0 a) (fl f) := fun r c => by
  have h1 := flat_is h shapeCasts_S2x2048x768_S4096x768 r ⟨c.val, by omega⟩
  unfold group0
  generalize shapeCast S4096x768 a shapeCasts_S2x2048x768_S4096x768 = w at h1 ⊢
  pointwise []
  exact h1

theorem group1_of {a : FVec Ideal S2x2048x768 .f32} (h : IsB a f) : Is (group1 a) (fl fun b t k => f b t (256 + k)) := fun r c => by
  have h1 := flat_is h shapeCasts_S2x2048x768_S4096x768 r ⟨256 + c.val, by omega⟩
  unfold group1
  generalize shapeCast S4096x768 a shapeCasts_S2x2048x768_S4096x768 = w at h1 ⊢
  pointwise []
  exact h1

theorem group2_of {a : FVec Ideal S2x2048x768 .f32} (h : IsB a f) : Is (group2 a) (fl fun b t k => f b t (512 + k)) := fun r c => by
  have h1 := flat_is h shapeCasts_S2x2048x768_S4096x768 r ⟨512 + c.val, by omega⟩
  unfold group2
  generalize shapeCast S4096x768 a shapeCasts_S2x2048x768_S4096x768 = w at h1 ⊢
  pointwise []
  exact h1

theorem weight_of {w : FVec Ideal S1024x5888 .f32} {q : ℕ → ℕ → ℝ} (h : Is w q) : Is (weight w) fun j k => q k j := fun j k => by
  pointwise [weight]
  exact h k j

end Host

/-! The arrays the region reads, as functions of the arguments. -/

theorem V0 : V m c main_v19 = flat (m ((c : Thread nD τ).loc main_arg4)) := by
  unfold V; simp only [hostOps0]; after_results_simp <;> rfl

theorem V1 : V m c main_v21 = flat (m ((c : Thread nD τ).loc main_arg5)) := by
  unfold V; simp only [hostOps0]; after_results_simp <;> rfl

theorem V2 : V m c main_v23 = flat (m ((c : Thread nD τ).loc main_arg6)) := by
  unfold V; simp only [hostOps0]; after_results_simp <;> rfl

theorem V3 : V m c main_v1 = group0 (m ((c : Thread nD τ).loc main_arg7)) := by
  unfold V; simp only [hostOps0]; after_results_simp <;> rfl

theorem V4 : V m c main_v3 = group1 (m ((c : Thread nD τ).loc main_arg7)) := by
  unfold V; simp only [hostOps0]; after_results_simp <;> rfl

theorem V5 : V m c main_v5 = group2 (m ((c : Thread nD τ).loc main_arg7)) := by
  unfold V; simp only [hostOps0]; after_results_simp <;> rfl

theorem V6 : V m c main_v7 = group0 (m ((c : Thread nD τ).loc main_arg8)) := by
  unfold V; simp only [hostOps0]; after_results_simp <;> rfl

theorem V7 : V m c main_v9 = group1 (m ((c : Thread nD τ).loc main_arg8)) := by
  unfold V; simp only [hostOps0]; after_results_simp <;> rfl

theorem V8 : V m c main_v11 = group2 (m ((c : Thread nD τ).loc main_arg8)) := by
  unfold V; simp only [hostOps0]; after_results_simp <;> rfl

theorem V9 : V m c main_v13 = group0 (m ((c : Thread nD τ).loc main_arg9)) := by
  unfold V; simp only [hostOps0]; after_results_simp <;> rfl

theorem V10 : V m c main_v15 = group1 (m ((c : Thread nD τ).loc main_arg9)) := by
  unfold V; simp only [hostOps0]; after_results_simp <;> rfl

theorem V11 : V m c main_v17 = group2 (m ((c : Thread nD τ).loc main_arg9)) := by
  unfold V; simp only [hostOps0]; after_results_simp <;> rfl

theorem V12 : V m c main_v25 = gates (m ((c : Thread nD τ).loc main_arg10)) := by
  unfold V; simp only [hostOps0]; after_results_simp <;> rfl

theorem V13 : V m c main_v26 = (shapeCast S4096x1024 (m ((c : Thread nD τ).loc main_arg3) : FVec Ideal S2x2048x1024 .f32) shapeCasts_S2x2048x1024_S4096x1024 : FVec Ideal S4096x1024 .f32) := by
  unfold V; simp only [hostOps0]; after_results_simp <;> rfl

theorem V14 : V m c main_v27 = (shapeCast S4096x1024 (m ((c : Thread nD τ).loc main_arg0) : FVec Ideal S2x2048x1024 .f32) shapeCasts_S2x2048x1024_S4096x1024 : FVec Ideal S4096x1024 .f32) := by
  unfold V; simp only [hostOps0]; after_results_simp <;> rfl

theorem V15 : V m c main_v28 = (shapeCast S1x1024 (m ((c : Thread nD τ).loc main_arg1) : FVec Ideal S1024 .f32) shapeCasts_S1024_S1x1024 : FVec Ideal S1x1024 .f32) := by
  unfold V; simp only [hostOps0]; after_results_simp <;> rfl

theorem V16 : V m c main_v30 = weight (m ((c : Thread nD τ).loc main_arg2)) := by
  unfold V; simp only [hostOps0]; after_results_simp <;> rfl

/-- The arguments in memory hold the numbers of `A`. -/
abbrev Holds (A : Args) : Prop := A.In (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

section Blocks

variable {A : Args} (hA : Holds m c A) (t : Fin cfg0.N)
include hA

theorem blk0 : Is (iblk m c 0 t) (rows t A.q0) :=
  rows_is t ((V0 m c).symm ▸ flat_of hA.q0) ((cfg0.win 0).blk t).view.emb fun p l => by blk_ext [idx t]

theorem blk1 : Is (iblk m c 1 t) (rows t A.q1) :=
  rows_is t ((V1 m c).symm ▸ flat_of hA.q1) ((cfg0.win 1).blk t).view.emb fun p l => by blk_ext [idx t]

theorem blk2 : Is (iblk m c 2 t) (rows t A.q2) :=
  rows_is t ((V2 m c).symm ▸ flat_of hA.q2) ((cfg0.win 2).blk t).view.emb fun p l => by blk_ext [idx t]

theorem blk3 : Is (iblk m c 3 t) (rows t A.l0) :=
  rows_is t ((V3 m c).symm ▸ group0_of hA.l0) ((cfg0.win 3).blk t).view.emb fun p l => by blk_ext [idx t]

theorem blk4 : Is (iblk m c 4 t) (rows t (fun b t k => A.l0 b t (256 + k))) :=
  rows_is t ((V4 m c).symm ▸ group1_of hA.l0) ((cfg0.win 4).blk t).view.emb fun p l => by blk_ext [idx t]

theorem blk5 : Is (iblk m c 5 t) (rows t (fun b t k => A.l0 b t (512 + k))) :=
  rows_is t ((V5 m c).symm ▸ group2_of hA.l0) ((cfg0.win 5).blk t).view.emb fun p l => by blk_ext [idx t]

theorem blk6 : Is (iblk m c 6 t) (rows t A.l1) :=
  rows_is t ((V6 m c).symm ▸ group0_of hA.l1) ((cfg0.win 6).blk t).view.emb fun p l => by blk_ext [idx t]

theorem blk7 : Is (iblk m c 7 t) (rows t (fun b t k => A.l1 b t (256 + k))) :=
  rows_is t ((V7 m c).symm ▸ group1_of hA.l1) ((cfg0.win 7).blk t).view.emb fun p l => by blk_ext [idx t]

theorem blk8 : Is (iblk m c 8 t) (rows t (fun b t k => A.l1 b t (512 + k))) :=
  rows_is t ((V8 m c).symm ▸ group2_of hA.l1) ((cfg0.win 8).blk t).view.emb fun p l => by blk_ext [idx t]

theorem blk9 : Is (iblk m c 9 t) (rows t A.l2) :=
  rows_is t ((V9 m c).symm ▸ group0_of hA.l2) ((cfg0.win 9).blk t).view.emb fun p l => by blk_ext [idx t]

theorem blk10 : Is (iblk m c 10 t) (rows t (fun b t k => A.l2 b t (256 + k))) :=
  rows_is t ((V10 m c).symm ▸ group1_of hA.l2) ((cfg0.win 10).blk t).view.emb fun p l => by blk_ext [idx t]

theorem blk11 : Is (iblk m c 11 t) (rows t (fun b t k => A.l2 b t (512 + k))) :=
  rows_is t ((V11 m c).symm ▸ group2_of hA.l2) ((cfg0.win 11).blk t).view.emb fun p l => by blk_ext [idx t]

theorem blk12 : Is (iblk m c 12 t) (rows t A.t) :=
  rows_is t ((V12 m c).symm ▸ gates_of hA.t) ((cfg0.win 12).blk t).view.emb fun p l => by blk_ext [idx t]

theorem blk13 : Is (iblk m c 13 t) (rows t A.d) :=
  rows_is t ((V13 m c).symm ▸ flat_is hA.d _) ((cfg0.win 13).blk t).view.emb fun p l => by blk_ext [idx t]

theorem blk14 : Is (iblk m c 14 t) (rows t A.x) :=
  rows_is t ((V14 m c).symm ▸ flat_is hA.x _) ((cfg0.win 14).blk t).view.emb fun p l => by blk_ext [idx t]

end Blocks

end Cert.ProjValue

end
-- ==== Proof.Proj.Value.lean ====
/-
  What the in-projection's backward call leaves in its two arrays, over the reals.
-/
module

public import proofs.«01_k».proof.Proof.Proj.Pay
public import proofs.«01_k».proof.Proof.Proj.Blocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Finset (range)
open Cert.Norm Cert.Rows
open Cert.Sb (Is)

namespace Cert.ProjValue

open Cert.KernelProjIdeal Cert.KernelProjIdeal.Gen Cert.Proj

variable (m : (ℓ : Loc nD τ sig) → Buf (Elt Ideal) ℓ) (c : Dev nD)

section Point

variable {A : Args} (hA : Holds m c A) (t : Fin cfg0.N)

theorem gain_is {g : FVec Ideal S1024 .f32} {f : ℕ → ℝ} (h : Is1 g f) : Is (shapeCast S1x1024 g shapeCasts_S1024_S1x1024) fun _ k => f k := fun r k => by
  pointwise []
  exact h k

theorem blk15 (hA : Holds m c A) : Is (iblk m c 15 t) fun _ k => A.g k :=
  whole_is ((V15 m c).symm ▸ gain_is hA.g) ((cfg0.win 15).blk t).view.emb fun p l => by blk_ext [idx t]

theorem blk16 (hA : Holds m c A) : Is (iblk m c 16 t) fun j k => A.w k j :=
  whole_is ((V16 m c).symm ▸ weight_of hA.w) ((cfg0.win 16).blk t).view.emb fun p l => by blk_ext [idx t]

/-- Rows `o` to `o + n - 1` of the weight. -/
theorem ld_is {n : ℕ} {X : FVec Ideal S5888x1024 .bf16} {q : ℕ → ℕ → ℝ} (h : Is X q) (o : ℕ)
    (inb : ∀ a, (![o, 0] : Fin 2 → ℕ) a + (![n, 1024] : Fin 2 → ℕ) a ≤ S5888x1024.size a) (hn : o + n ≤ 5888) :
    Is (n := n) (m := 1024) (View.ld (Val := Elt Ideal) (S := S5888x1024) (e' := .bf16) X (Rect.unit ![o, 0] ![n, 1024] inb)) fun j k => q (o + j) k := fun j k => by
  refine (View.ld_unit_apply_of (Val := Elt Ideal) (S := S5888x1024) (e := .bf16) X ![o, 0] ![n, 1024] inb (ix2 j k) (ix2 ⟨o + j.val, by omega⟩ k) fun a => ?_).trans (h ⟨o + j.val, by omega⟩ k)
  match a with
  | ⟨0, _⟩ => rfl
  | ⟨1, _⟩ => exact (Nat.zero_add _).symm

/-- The cotangent of the normalised rows that point `t` computes. -/
def duB (t : Fin cfg0.N) : FVec Ideal S256x1024 .f32 :=
  k0_pay9
        (k0_pay7
          (k0_pay5 (iblk m c 0 t)
            (View.ld (iblk m c 16 t) (Rect.unit ![0, 0] ![512, 1024] inb_S5888x1024_S512x1024_0_0)) (iblk m c 1 t)
            (View.ld (iblk m c 16 t) (Rect.unit ![512, 0] ![512, 1024] inb_S5888x1024_S512x1024_512_0)) (iblk m c 2 t)
            (View.ld (iblk m c 16 t) (Rect.unit ![1024, 0] ![512, 1024] inb_S5888x1024_S512x1024_1024_0)) (iblk m c 3 t)
            (View.ld (iblk m c 16 t) (Rect.unit ![1536, 0] ![256, 1024] inb_S5888x1024_S256x1024_1536_0)))
          (k0_pay6 (iblk m c 4 t))
          (View.ld (iblk m c 16 t) (Rect.unit ![1792, 0] ![256, 1024] inb_S5888x1024_S256x1024_1792_0)) (iblk m c 5 t)
          (View.ld (iblk m c 16 t) (Rect.unit ![2048, 0] ![256, 1024] inb_S5888x1024_S256x1024_2048_0)) (iblk m c 6 t)
          (View.ld (iblk m c 16 t) (Rect.unit ![2304, 0] ![256, 1024] inb_S5888x1024_S256x1024_2304_0)) (iblk m c 7 t)
          (View.ld (iblk m c 16 t) (Rect.unit ![2560, 0] ![256, 1024] inb_S5888x1024_S256x1024_2560_0)) (iblk m c 8 t)
          (View.ld (iblk m c 16 t) (Rect.unit ![2816, 0] ![256, 1024] inb_S5888x1024_S256x1024_2816_0)))
        (k0_pay8 (iblk m c 9 t))
        (View.ld (iblk m c 16 t) (Rect.unit ![3072, 0] ![256, 1024] inb_S5888x1024_S256x1024_3072_0)) (iblk m c 10 t)
        (View.ld (iblk m c 16 t) (Rect.unit ![3328, 0] ![256, 1024] inb_S5888x1024_S256x1024_3328_0)) (iblk m c 11 t)
        (View.ld (iblk m c 16 t) (Rect.unit ![3584, 0] ![256, 1024] inb_S5888x1024_S256x1024_3584_0)) (iblk m c 12 t)
        (View.ld (iblk m c 16 t) (Rect.unit ![3840, 0] ![2048, 1024] inb_S5888x1024_S2048x1024_3840_0))

include hA in
theorem duB_is : Is (duB m c t) (rows t A.du) := by
  have w := blk16 m c t hA
  refine Is.congr (pay9_is (pay7_is (pay5_is (blk0 m c hA t) (blk1 m c hA t) (blk2 m c hA t) (blk3 m c hA t)
      (ld_is w 0 _ (by omega)) (ld_is w 512 _ (by omega)) (ld_is w 1024 _ (by omega)) (ld_is w 1536 _ (by omega)))
    (pay6_is (blk4 m c hA t)) (blk5 m c hA t) (blk6 m c hA t) (blk7 m c hA t) (blk8 m c hA t)
      (ld_is w 1792 _ (by omega)) (ld_is w 2048 _ (by omega)) (ld_is w 2304 _ (by omega)) (ld_is w 2560 _ (by omega)) (ld_is w 2816 _ (by omega)))
    (pay8_is (blk9 m c hA t)) (blk10 m c hA t) (blk11 m c hA t) (blk12 m c hA t)
      (ld_is w 3072 _ (by omega)) (ld_is w 3328 _ (by omega)) (ld_is w 3584 _ (by omega)) (ld_is w 3840 _ (by omega))) fun p _ k _ => ?_
  unfold rows fl dot
  rw [A.du_eq]
  simp only [Nat.zero_add]

theorem after17 : (dats m 0 c).after 17 t = k0_pay3 (duB m c t) (k0_pay10 (iblk m c 15 t)) (k0_pay11 (iblk m c 14 t)) (k0_pay12 (iblk m c 14 t)) (iblk m c 13 t) := by
  rw [after0_17]
  by_cases h0 : t.val % 16 = 0
  · rw [outsAt0_A m c t h0]
    dsimp only
    frame_out
    rfl
  · rw [outsAt0_B m c t h0]
    dsimp only
    frame_out
    rfl

theorem start18 (h : t.val % 16 = 0) : (outsAt0 m c t.val t.isLt).2 = k0_pay2 (duB m c t) (k0_pay11 (iblk m c 14 t)) (k0_pay12 (iblk m c 14 t)) (k0_pay4 (F := Ideal)) := by
  rw [outsAt0_A m c t h]
  dsimp only
  frame_out
  rfl

theorem step18 (h : ¬t.val % 16 = 0) : (outsAt0 m c t.val t.isLt).2 = k0_pay2 (duB m c t) (k0_pay11 (iblk m c 14 t)) (k0_pay12 (iblk m c 14 t)) (outsAt0 m c (t.val - 1) (by omega)).2 := by
  rw [outsAt0_B m c t h]
  dsimp only
  frame_out
  rfl

theorem pay10_is {g : FVec Ideal S1x1024 .f32} {f : ℕ → ℕ → ℝ} (h : Is g f) : Is (k0_pay10 (F := Ideal) g) f := fun r k => by
  pointwise [k0_pay10]
  rw [Fin.eq_zero r]
  exact h 0 k

theorem pay11_is {x : FVec Ideal S256x1024 .f32} {f : ℕ → ℕ → ℝ} (h : Is x f) : Is (k0_pay11 (F := Ideal) x) f := fun r k => by
  pointwise [k0_pay11]
  exact h r k

/-- The block of the input's gradient that point `t` stores. -/
def dxB (t : Fin cfg0.N) : FVec Ideal S256x1024 .f32 :=
  k0_pay3 (duB m c t) (k0_pay10 (iblk m c 15 t)) (k0_pay11 (iblk m c 14 t)) (k0_pay12 (iblk m c 14 t)) (iblk m c 13 t)

include hA in
theorem dxB_is : Is (dxB m c t) (rows t A.dx) := by
  have hx := blk14 m c hA t
  exact pay3_is (duB_is m c hA t) (pay10_is (blk15 m c t hA)) (pay11_is hx) (pay12_is hx) (blk13 m c hA t)

/-- A row's part of the gain's gradient. -/
def part (A : Args) (r k : ℕ) : ℝ := fl A.du r k * (fl A.x r k * rr (fl A.x r))

theorem total (A : Args) (k : ℕ) : ∑ s ∈ range 16, ∑ p ∈ range 256, part A (s * 256 + p) k = A.dg k := by
  rw [sum_tokens fun r => part A r k]
  refine Finset.sum_congr rfl fun b hb => Finset.sum_congr rfl fun s hs => ?_
  have := Finset.mem_range.1 hs
  unfold part fl
  rw [show (2048 * b + s) / 2048 = b by omega, show (2048 * b + s) % 2048 = s by omega]

theorem zero_is : Is (k0_pay4 (F := Ideal)) fun _ _ => 0 := fun r k => by
  pointwise [k0_pay4]
  exact EReal.coe_zero.symm

/-- The gain's gradient after point `t`, for what it was before. -/
def dgB (t : Fin cfg0.N) (o : FVec Ideal S1x1024 .f32) : FVec Ideal S1x1024 .f32 := k0_pay2 (duB m c t) (k0_pay11 (iblk m c 14 t)) (k0_pay12 (iblk m c 14 t)) o

include hA in
theorem dgB_is {o : FVec Ideal S1x1024 .f32} {f : ℕ → ℕ → ℝ} (hf : Is o f) :
    Is (dgB m c t o) fun r k => f r k + ∑ p ∈ range 256, part A (t.val * 256 + p) k := by
  have hx := blk14 m c hA t
  exact pay2_is (duB_is m c hA t) (pay11_is hx) (pay12_is hx) hf

/-- After point `n` the gain's gradient holds the parts of the rows met so far. -/
def acc : (n : ℕ) → n < cfg0.N → FVec Ideal S1x1024 .f32
  | 0, h => dgB m c ⟨0, h⟩ (k0_pay4 (F := Ideal))
  | n + 1, h => dgB m c ⟨n + 1, h⟩ (acc n (Nat.lt_of_succ_lt h))

theorem acc_eq : ∀ (n : ℕ) (h : n < cfg0.N), (outsAt0 m c n h).2 = acc m c n h
  | 0, h => start18 m c ⟨0, h⟩ rfl
  | n + 1, h => by
    have hn : n + 1 < 16 := h
    exact (step18 m c ⟨n + 1, h⟩ (by show ¬(n + 1) % 16 = 0; omega)).trans (congrArg (dgB m c ⟨n + 1, h⟩) (acc_eq n (Nat.lt_of_succ_lt h)))

include hA in
theorem acc_is : ∀ (n : ℕ) (h : n < cfg0.N), Is (acc m c n h) fun _ k => ∑ s ∈ range (n + 1), ∑ p ∈ range 256, part A (s * 256 + p) k
  | 0, h => (dgB_is m c hA ⟨0, h⟩ zero_is).congr fun _ _ k _ =>
      (zero_add _).trans (Finset.sum_range_one fun s => ∑ p ∈ range 256, part A (s * 256 + p) k).symm
  | n + 1, h => (dgB_is m c hA ⟨n + 1, h⟩ (acc_is n (Nat.lt_of_succ_lt h))).congr fun _ _ k _ =>
      (Finset.sum_range_succ (fun s => ∑ p ∈ range 256, part A (s * 256 + p) k) (n + 1)).symm

end Point

variable {A : Args} (hA : Holds m c A)
include hA

/-- The gradient of the input. -/
theorem final17 : (dats m 0 c).arrAt 17 cfg0.N = (arr (fl A.dx) : FVec Ideal S4096x1024 .f32) := by
  refine (dats m 0 c).arrAt_eq_of_covers 17 _ (by decide +kernel) fun t _ y => ?_
  blk_simp
  obtain ⟨p, l, rfl⟩ : ∃ (p : Fin 256) (l : Fin 1024), y = (ix2 p l : S256x1024.Idx) := ⟨y 0, y 1, eq_ix2 y⟩
  have he : ((cfg0.win 17).blk t).view.emb (ix2 p l : S256x1024.Idx) = (ix2 (tok t p) l : S4096x1024.Idx) := by
    blk_ext [idx t]
  refine (congrFun (after17 m c t) _).trans ((dxB_is m c hA t p l).trans ?_)
  exact (congrArg (arr (fl A.dx) : FVec Ideal S4096x1024 .f32) he.symm)

/-- The gradient of the gain. -/
theorem final18 : (dats m 0 c).arrAt 18 cfg0.N = (arr fun _ k => A.dg k : FVec Ideal S1x1024 .f32) := by
  refine (dats m 0 c).arrAt_eq_of_covers 18 _ (by decide +kernel) fun t hf y => ?_
  have ht : t.val = 15 := (by decide +kernel : ∀ t : Fin cfg0.N, (cfg0.win 18).flush t = true → t.val = 15) t hf
  blk_simp
  obtain ⟨p, l, rfl⟩ : ∃ (p : Fin 1) (l : Fin 1024), y = (ix2 p l : S1x1024.Idx) := ⟨y 0, y 1, eq_ix2 y⟩
  have he : ((cfg0.win 18).blk t).view.emb (ix2 p l : S1x1024.Idx) = (ix2 p l : S1x1024.Idx) := by
    blk_ext [idx t]
  rw [after0_18]
  rw [acc_eq]
  refine (acc_is m c hA t.val t.isLt p l).trans ?_
  refine Eq.trans ?_ (congrArg (arr fun _ k => A.dg k : FVec Ideal S1x1024 .f32) he.symm)
  rw [ht]
  exact congrArg _ (total A l)

end Cert.ProjValue

end
-- ==== Proof.Proj.Claim.lean ====
/-
  The claims about the in-projection's backward call: frames, and the value under the precondition.
-/
module

public import proofs.«01_k».proof.Defs
public import proofs.«01_k».proof.Proof.Gen.Pre_finite_proj
public import proofs.«01_k».proof.Proof.Gen.KernelProj.Frame
public import proofs.«01_k».proof.Proof.Proj.Ref
public import proofs.«01_k».proof.Proof.Proj.Value
public import Idealize.ShloMosaic.Lib.Claim

@[expose] public section

set_option maxRecDepth 16384

noncomputable section

open Idealize.ShloMosaic Idealize.ShloMosaic.TcCoe Idealize.SL.Sem

namespace Cert.ProjClaim

open Cert.Proj (Args)
open Cert.Rows

theorem frame_kernel : Cert.quiescent_KernelProj := fun m ρ _ => Cert.KernelProj.Gen.frame m ρ

theorem frame_ideal : Cert.quiescent_KernelProjIdeal := fun m ρ _ => Cert.KernelProjIdeal.Gen.frame m ρ

theorem frame_ideal_pre : Cert.quiescent_KernelProjIdeal_pre_finite_proj := fun m ρ _ => Cert.KernelProjIdeal.Gen.frame m ρ

theorem frame_reference : Cert.quiescent_ReferenceProjIdeal := by
  intro m g _
  hlo_run
  · exact fun _ => ⟨trivial, trivial, trivial, trivial, trivial, trivial, trivial, trivial, trivial, trivial, trivial⟩
  · exact sem_eq_zero_of_no_sems (sig := Cert.ReferenceProjIdeal.sig) (by decide) _

theorem frame_reference_pre : Cert.quiescent_ReferenceProjIdeal_pre_finite_proj := fun m g _ => frame_reference m g trivial

section Pre

open Cert.Pre_finite_proj

instance : Subsingleton Cert.Pre_finite_proj.S_.Idx := ⟨fun a b => funext fun i => i.elim0⟩

/-- Under the precondition the arrays hold real numbers. -/
theorem args_of_pre (x : FVec Ideal S2x2048x1024 .f32) (g : FVec Ideal S1024 .f32) (w : FVec Ideal S1024x5888 .f32) (d : FVec Ideal S2x2048x1024 .f32)
    (q0 q1 q2 : FVec Ideal S2x2048x512 .f32) (l0 l1 l2 : FVec Ideal S2x2048x768 .f32) (t : FVec Ideal S2x2048x2048 .f32)
    (h : fn (F := Ideal) x g w d q0 q1 q2 l0 l1 l2 t = fun _ => 1#1) : ∃ A : Args, A.In x g w d q0 q1 q2 l0 l1 l2 t := by
  have e := congrFun h (fun i => i.elim0)
  dsimp only [fn, fn_part1, fn_part2, fn_part3] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e10⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨f0, h0⟩ := exists_isB fun i => Reals.isReal_of_cmp (Host.reduce_andi_all _ _ _ _ _ e0 i)
  obtain ⟨f1, h1⟩ := exists_is1 fun i => Reals.isReal_of_cmp (Host.reduce_andi_all _ _ _ _ _ e1 i)
  obtain ⟨f2, h2⟩ := exists_is fun i => Reals.isReal_of_cmp (Host.reduce_andi_all _ _ _ _ _ e2 i)
  obtain ⟨f3, h3⟩ := exists_isB fun i => Reals.isReal_of_cmp (Host.reduce_andi_all _ _ _ _ _ e3 i)
  obtain ⟨f4, h4⟩ := exists_isB fun i => Reals.isReal_of_cmp (Host.reduce_andi_all _ _ _ _ _ e4 i)
  obtain ⟨f5, h5⟩ := exists_isB fun i => Reals.isReal_of_cmp (Host.reduce_andi_all _ _ _ _ _ e5 i)
  obtain ⟨f6, h6⟩ := exists_isB fun i => Reals.isReal_of_cmp (Host.reduce_andi_all _ _ _ _ _ e6 i)
  obtain ⟨f7, h7⟩ := exists_isB fun i => Reals.isReal_of_cmp (Host.reduce_andi_all _ _ _ _ _ e7 i)
  obtain ⟨f8, h8⟩ := exists_isB fun i => Reals.isReal_of_cmp (Host.reduce_andi_all _ _ _ _ _ e8 i)
  obtain ⟨f9, h9⟩ := exists_isB fun i => Reals.isReal_of_cmp (Host.reduce_andi_all _ _ _ _ _ e9 i)
  obtain ⟨f10, h10⟩ := exists_isB fun i => Reals.isReal_of_cmp (Host.reduce_andi_all _ _ _ _ _ e10 i)
  exact ⟨⟨f0, f1, f2, f3, f4, f5, f6, f7, f8, f9, f10⟩, h0, h1, h2, h3, h4, h5, h6, h7, h8, h9, h10⟩

end Pre

theorem algebraic : Cert.algebraic_KernelProjIdeal_ReferenceProjIdeal_pre_finite_proj := by
  intro m g m' g' hpre hagree
  refine ⟨_, _, Cert.KernelProjIdeal.Value.run_blocks m g, ?_⟩
  refine (θ_run Cert.ReferenceProjIdeal.defs _ _).mono (fun r h c => ?_) (Cert.ReferenceProjIdeal.Value.run m' g')
  obtain ⟨h0, h1, hargs⟩ := h c
  obtain ⟨A, hA⟩ := args_of_pre _ _ _ _ _ _ _ _ _ _ _ (hpre c)
  have hR := hA
  obtain ⟨e0, e1, e2, e3, e4, e5, e6, e7, e8, e9, e10⟩ := hagree c
  rw [← e0, ← e1, ← e2, ← e3, ← e4, ← e5, ← e6, ← e7, ← e8, ← e9, ← e10] at hR
  have hu := Cert.ProjRef.du_is hR.q0 hR.q1 hR.q2 hR.l0 hR.l1 hR.l2 hR.t hR.w
  refine ⟨h0.trans ?_, h1.trans ?_, hargs⟩
  · rw [Cert.ProjRef.res0, Cert.ProjValue.final17 m c hA]
    exact is_ext (Cert.ProjRef.outX_is hR.x hR.d (Cert.ProjRef.dn_is hu hR.g)) (arr_is _)
  · rw [Cert.ProjValue.final18 m c hA]
    exact is_ext (Cert.ProjRef.outG_is hR.x hu) (arr_is _)

end Cert.ProjClaim

end
-- ==== Proof.Sbf.State.lean ====
/-
  What one grid point of the stick-breaking forward kernel computes, as values: the logarithm of the stick that its walk
  carries back from the query chunk and the weighted sum of the values it accumulates, over the blocks the point reads
  and the number of chunks the walk went back.
-/
module

public import proofs.«01_k».proof.Proof.Gen.KernelSbfIdeal
public import proofs.«01_k».proof.Proof.Gen.KernelSbfIdeal.Skeleton
public import proofs.«01_k».proof.Proof.Sb.Words

@[expose] public section

noncomputable section

namespace Cert.Sbf

open Cert.KernelSbfIdeal Cert.KernelSbfIdeal.Gen
open Idealize.ShloMosaic
open Cert.Sb (W kch)

/-! ### The words of the walk -/

theorem i_lt (i : grid0.Coords) : (i 2).val < 8 := (i 2).isLt

theorem off1_eq : ∀ i : grid0.Coords, k0_off1 i = ![0, 256 * (i 2).val, 0] := by decide +kernel
theorem off2_fin : ∀ (i : grid0.Coords) (n : Fin 8), n.val < (i 2).val → k0_off2 i (W n.val) = ![0, 256 * ((i 2).val - 1 - n.val), 0] := by
  decide +kernel
theorem chk1_fin : ∀ (i : grid0.Coords) (n : Fin 8), n.val < (i 2).val → k0_chk1 i (W n.val) := by decide +kernel
theorem slt_fin : ∀ (i n : Fin 8), Scalar.cmpi .slt (W n.val) (BitVec.ofNat 32 i.val) = if n.val < i.val then 1#1 else 0#1 := by decide +kernel

section Nat

variable (i : grid0.Coords) (n : ℕ)

theorem off2_eq (h : n < (i 2).val) : k0_off2 i (W n) = ![0, 256 * ((i 2).val - 1 - n), 0] := off2_fin i ⟨n, h.trans (i_lt i)⟩ h
theorem chk1 (h : n < (i 2).val) : k0_chk1 i (W n) := chk1_fin i ⟨n, h.trans (i_lt i)⟩ h
theorem slt_eq (h : n ≤ (i 2).val) : Scalar.cmpi .slt (W n) (BitVec.ofNat 32 (i 2).val) = if n < (i 2).val then 1#1 else 0#1 :=
  slt_fin ⟨(i 2).val, i_lt i⟩ ⟨n, h.trans_lt (i_lt i)⟩

end Nat

/-! ### The values of a point -/

variable {F : FTy → Type} [FloatOps F] [Named F]

/-- The blocks a grid point reads, and the query chunk it is at. -/
structure Blk (F : FTy → Type) where
  i : ℕ
  q : FVec F S1x256x128 .bf16
  k : FVec F S1x2048x128 .bf16
  v : FVec F S1x2048x128 .bf16

variable (B : Blk F)

/-- The two pieces of the logarithms of the query chunk against its own keys. -/
def dmin : FVec F S512x256 .f32 := k0_pay13 B.q (kch B.k B.i)
def dexp : FVec F S512x256 .f32 := k0_pay14 B.q (kch B.k B.i)

/-- The stick's logarithm the walk carries before its trip `n`. -/
def runs : ℕ → FVec F S512x1 .f32
  | 0 => k0_pay21 k0_pay9 k0_pay10 (dmin B) (dexp B) k0_pay15
  | n + 1 => k0_pay3 (runs n) (k0_pay27 (k0_pay7 B.q) (kch B.k (B.i - 1 - n))) (k0_pay28 (k0_pay7 B.q) (kch B.k (B.i - 1 - n)))

/-- The weighted sum of the values before trip `n`. -/
def accs : ℕ → FVec F S512x128 .f32
  | 0 => k0_pay20 k0_pay5 k0_pay8 k0_pay9 k0_pay10 (k0_pay11 B.q (kch B.k B.i)) (dmin B) (dexp B) k0_pay15 (kch B.v B.i)
  | n + 1 => k0_pay2 (accs n) (k0_pay29 (k0_pay7 B.q) k0_pay5 (runs B n) (kch B.k (B.i - 1 - n))) (kch B.v (B.i - 1 - n))

/-- Whether a stick is still alive before trip `n`. -/
def alive : ℕ → BitVec 1
  | 0 => Scalar.cmpf .ogt (k0_pay22 k0_pay9 k0_pay10 (dmin B) (dexp B) k0_pay15) (Named.named κ "sb_dead" 0xC2D00000#32)
  | n + 1 => Scalar.cmpf .ogt (k0_pay4 (runs B n) (k0_pay27 (k0_pay7 B.q) (kch B.k (B.i - 1 - n))) (k0_pay28 (k0_pay7 B.q) (kch B.k (B.i - 1 - n))))
      (Named.named κ "sb_dead" 0xC2D00000#32)

/-- The walk went back `n` chunks, a stick alive before each of those trips. -/
def Reached (n : ℕ) : Prop := ∀ k < n, alive B k = 1#1

/-- The walk stopped after going back `n`: at the first chunk, or because no stick is alive. -/
def Stops (n : ℕ) : Prop := n ≤ B.i ∧ (n = B.i ∨ alive B n ≠ 1#1) ∧ Reached B n

open Classical in
/-- How many chunks the walk goes back. -/
def walk : ℕ := if h : ∃ n, Stops B n then h.choose else 0

variable {B} in
theorem Stops.unique {n k : ℕ} (h : Stops B n) (h' : Stops B k) : n = k := by
  rcases Nat.lt_trichotomy n k with hl | he | hl
  · rcases h.2.1 with h1 | h1
    · have := h'.1; omega
    · exact absurd (h'.2.2 n hl) h1
  · exact he
  · rcases h'.2.1 with h1 | h1
    · have := h.1; omega
    · exact absurd (h.2.2 k hl) h1

variable {B} in
theorem Stops.eq {n : ℕ} (h : Stops B n) : n = walk B := by
  unfold walk
  rw [dif_pos ⟨n, h⟩]
  exact h.unique (Exists.choose_spec (⟨n, h⟩ : ∃ n, Stops B n))

/-- What a point writes. -/
def out : FVec F S1x256x128 .bf16 := k0_pay1 k0_pay6 (accs B (walk B))

end Cert.Sbf

end
-- ==== Proof.Sbf.Body.lean ====
/-
  One grid point of the stick-breaking forward kernel: the walk's label meets its specification, and the body leaves the
  point's block of the output.
-/
module

public import proofs.«01_k».proof.Proof.Sbf.State
public import proofs.«01_k».proof.Proof.Sb.Own
public import proofs.«01_k».proof.Proof.Gen.KernelSbfIdeal.Launch
public import Idealize.ShloMosaic.Lib.Pipeline.Kit

@[expose] public section

noncomputable section

namespace Cert.Sbf

open Cert.KernelSbfIdeal Cert.KernelSbfIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (ld_unit_zero)
open Cert.Sb (W kch ld_kch)

variable {F : FTy → Type} [FloatOps F] [Named F]

local notation "𝕄" => MT nD τ sig Unit (Elt F) ℕ (UR sig nD τ) ℕ

/-- The walk's trips still to run bound its calls. -/
abbrev 𝒱₀ : Variants := Variants.nat

theorem guard_eq (a : BitVec 1) : Scalar.cmpi .sgt (Scalar.extui a) (0#32 : BitVec 32) = a := by
  revert a; decide

section Label

variable (c : Dev nD) (i : grid0.Coords) (B : Blk F) (hB : B.i = (i 2).val) (q q' : PosShare TreeShare)
  (arg4 : Memref sig .tc .vmem S1x2048x128 .bf16) (harg4 : arg4.IsWhole)
  (arg5 : Memref sig .tc .vmem S1x2048x128 .bf16) (harg5 : arg5.IsWhole)

/-- What the walk reads: the keys and the values. -/
def held : sProp 𝕄 := iprop(owns (c : Thread nD τ) arg4 q B.k ∗ owns (c : Thread nD τ) arg5 q' B.v)

/-- The label's specification: it comes back where the walk stops, with the sum and the stick of that place. -/
def spec : sWPT 𝕄 (BitVec 32 × BitVec 32 × FVec F S512x128 .f32 × FVec F S512x1 .f32) := do
  sWPT.consume (held c B q q' arg4 arg5)
  let r : ℕ × BitVec 32 ← sWPT.arbitrary
  sWPT.assume (Stops B r.1)
  sWPT.produce (held c B q q' arg4 arg5)
  pure (W r.1, r.2, accs B r.1, runs B r.1)

theorem spec_apply (Q : BitVec 32 × BitVec 32 × FVec F S512x128 .f32 × FVec F S512x1 .f32 → sProp 𝕄) :
    spec c B q q' arg4 arg5 Q
      = iprop(held c B q q' arg4 arg5 ∗ ∀ r : ℕ × BitVec 32,
        ⌜Stops B r.1⌝ -∗ (held c B q q' arg4 arg5 -∗ Q (W r.1, r.2, accs B r.1, runs B r.1))) := rfl

theorem test_eq (n : ℕ) (hn : n ≤ (i 2).val) (a : BitVec 1) :
    Scalar.andi (Scalar.cmpi .slt (W n) (BitVec.ofNat 32 (i 2).val)) (Scalar.cmpi .sgt (Scalar.extui a) (0#32 : BitVec 32))
      = if n < (i 2).val then a else 0#1 := by
  rw [guard_eq, slt_eq i n hn]
  split
  · revert a; decide
  · revert a; decide

include hB in
/-- The label's body, entered before trip `n` with `k` trips left, meets the specification: by induction on `k`. -/
theorem spec_le (E : Set ℕ) :
    ∀ k n, n + k = B.i → Reached B n → ∀ Q, spec c B q q' arg4 arg5 Q
      ⊢ wp frame (wpE (defs₀ (F := F)) 𝒱₀ (c : Thread nD τ) (some k)) E
          (defs₀ (F := F) .tc 1 ⟨i, arg4, harg4, k0_pay7 B.q, k0_pay5, arg5, harg5, W n, Scalar.extui (alive B n), accs B n, runs B n⟩) Q := by
  have hi : B.i < 8 := by rw [hB]; exact i_lt i
  intro k
  induction k with
  | zero =>
    intro n hn hR Q
    rw [spec_apply]
    show _ ⊢ wp frame (wpE (defs₀ (F := F)) 𝒱₀ (c : Thread nD τ) (some 0)) E
      (cc0_while1 i arg4 harg4 (k0_pay7 B.q) k0_pay5 arg5 harg5 (W n) (Scalar.extui (alive B n)) (accs B n) (runs B n)) Q
    simp only [cc0_while1_eq_skeleton]; unfold cc0_while1_skel
    have ht : ¬ Scalar.andi (Scalar.cmpi .slt (W n) (BitVec.ofNat 32 (i 2).val)) (Scalar.cmpi .sgt (Scalar.extui (alive B n)) (0#32 : BitVec 32)) = 1#1 := by
      rw [test_eq i n (by omega), if_neg (by omega)]; decide
    simp only [ht, ↓reduceIte, Prog.pure_eq_ret]
    iintro ⟨H, Hk⟩
    rw [wp_ret]; imodintro
    iapply Hk $$ %((n, Scalar.extui (alive B n)))
    · ipureintro; exact ⟨by omega, .inl (by omega), hR⟩
    · iexact H
  | succ k ih =>
    intro n hn hR Q
    rw [spec_apply]
    show _ ⊢ wp frame (wpE (defs₀ (F := F)) 𝒱₀ (c : Thread nD τ) (some (k + 1))) E
      (cc0_while1 i arg4 harg4 (k0_pay7 B.q) k0_pay5 arg5 harg5 (W n) (Scalar.extui (alive B n)) (accs B n) (runs B n)) Q
    simp only [cc0_while1_eq_skeleton]; unfold cc0_while1_skel
    have hni : n < (i 2).val := by omega
    by_cases ha : alive B n = 1#1
    · have ht : Scalar.andi (Scalar.cmpi .slt (W n) (BitVec.ofNat 32 (i 2).val)) (Scalar.cmpi .sgt (Scalar.extui (alive B n)) (0#32 : BitVec 32)) = 1#1 := by
        rw [test_eq i n (by omega), if_pos hni, ha]
      rw [k0_part3_eq_skeleton]; unfold k0_part3_skel
      simp only [ht, ↓reduceIte, Prog.lift, Prog.bind_op, Prog.bind_ret, Prog.pure_eq_ret]
      unfold held
      iintro ⟨⟨Hk, Hv⟩, HQ⟩
      iapply (wp_assume 𝒱₀ (c : Thread nD τ) (some (k + 1)) E (chk1 i n hni))
      iapply (Own.wp_load 𝒱₀ (c : Thread nD τ) (some (k + 1)) E (kch B.k ((i 2).val - 1 - n)) (ld_kch _ _ (off2_eq i n hni) (by omega))) $$ Hk; iintro Hk
      iapply (Own.wp_load 𝒱₀ (c : Thread nD τ) (some (k + 1)) E (kch B.v ((i 2).val - 1 - n)) (ld_kch _ _ (off2_eq i n hni) (by omega))) $$ Hv; iintro Hv
      have e1 : k0_pay3 (runs B n) (k0_pay27 (k0_pay7 B.q) (kch B.k ((i 2).val - 1 - n))) (k0_pay28 (k0_pay7 B.q) (kch B.k ((i 2).val - 1 - n)))
          = runs B (n + 1) := by rw [← hB]; rfl
      have e2 : Scalar.cmpf .ogt (k0_pay4 (runs B n) (k0_pay27 (k0_pay7 B.q) (kch B.k ((i 2).val - 1 - n))) (k0_pay28 (k0_pay7 B.q) (kch B.k ((i 2).val - 1 - n))))
          (Named.named κ "sb_dead" 0xC2D00000#32) = alive B (n + 1) := by rw [← hB]; rfl
      have e3 : k0_pay2 (accs B n) (k0_pay29 (k0_pay7 B.q) k0_pay5 (runs B n) (kch B.k ((i 2).val - 1 - n))) (kch B.v ((i 2).val - 1 - n))
          = accs B (n + 1) := by rw [← hB]; rfl
      rw [Cert.Sb.addi_eq n (by omega), e1, e2, e3]
      have hR' : Reached B (n + 1) := fun k hk => by
        by_cases h : k = n
        · rw [h]; exact ha
        · exact hR k (by omega)
      have hs := ih (n + 1) (by omega) hR'
      iapply (wp_call_spec 𝒱₀ (c : Thread nD τ) (some (k + 1)) E (spec c B q q' arg4 arg5) k
        (fun u hu => by cases hu; exact Nat.lt_succ_self k) hs)
      rw [spec_apply]; unfold held
      isplitl [Hk Hv]
      · isplitl [Hk]; · iexact Hk
        iexact Hv
      iintro %r %hr H
      rw [wp_ret]; imodintro
      iapply HQ $$ %r
      · ipureintro; exact hr
      · iexact H
    · have ht : ¬ Scalar.andi (Scalar.cmpi .slt (W n) (BitVec.ofNat 32 (i 2).val)) (Scalar.cmpi .sgt (Scalar.extui (alive B n)) (0#32 : BitVec 32)) = 1#1 := by
        rw [test_eq i n (by omega), if_pos hni]; exact ha
      simp only [ht, ↓reduceIte, Prog.pure_eq_ret]
      iintro ⟨H, Hk⟩
      rw [wp_ret]; imodintro
      iapply Hk $$ %((n, Scalar.extui (alive B n)))
      · ipureintro; exact ⟨by omega, .inr ha, hR⟩
      · iexact H

variable (arg3 : Memref sig .tc .vmem S1x256x128 .bf16) (harg3 : arg3.IsWhole)
  (arg6 : Memref sig .tc .vmem S1x256x128 .bf16) (harg6 : arg6.IsWhole)

/-- What the body reads and writes. -/
def all (q₃ q q' : PosShare TreeShare) (o : S1x256x128.Idx → Elt F .bf16) : sProp 𝕄 :=
  iprop(owns (c : Thread nD τ) arg3 q₃ B.q ∗ owns (c : Thread nD τ) arg4 q B.k ∗ owns (c : Thread nD τ) arg5 q' B.v
    ∗ owns (c : Thread nD τ) arg6 fullShare o)

include hB in
/-- One grid point leaves its block of the output. -/
theorem body_run (q₃ : PosShare TreeShare) (o : S1x256x128.Idx → Elt F .bf16) {Q : _ → sProp 𝕄} :
    all c B arg4 arg5 arg3 arg6 q₃ q q' o
      ⊢ iprop((all c B arg4 arg5 arg3 arg6 q₃ q q' (out B) -∗ Q ⟨⟩)
        -∗ wp frame (wpE (defs₀ (F := F)) 𝒱₀ (c : Thread nD τ) none) Set.univ
          (cc0_sb_fwd i arg3 harg3 arg4 harg4 arg5 harg5 arg6 harg6) Q) := by
  have hi : B.i < 8 := by rw [hB]; exact i_lt i
  have o1 : k0_off1 i = ![0, 256 * B.i, 0] := by rw [off1_eq i, hB]
  rw [cc0_sb_fwd_eq_skeleton]; unfold cc0_sb_fwd_skel all
  rw [k0_part1_eq_skeleton]; unfold k0_part1_skel
  rw [k0_part2_eq_skeleton]; unfold k0_part2_skel
  simp only [Prog.lift, Prog.bind_op, Prog.bind_ret, Prog.pure_eq_ret]
  iintro ⟨H3, H4, H5, H6⟩ HQ
  iapply (Own.wp_load 𝒱₀ (c : Thread nD τ) none Set.univ B.q (ld_unit_zero (by decide) _ _)) $$ H3; iintro H3
  iapply (Own.wp_load 𝒱₀ (c : Thread nD τ) none Set.univ (kch B.k B.i) (ld_kch _ _ o1 hi)) $$ H4; iintro H4
  iapply (Own.wp_load 𝒱₀ (c : Thread nD τ) none Set.univ (kch B.v B.i) (ld_kch _ _ o1 hi)) $$ H5; iintro H5
  iapply (wp_call_spec 𝒱₀ (c : Thread nD τ) none Set.univ (spec c B q q' arg4 arg5) B.i (fun u hu => nomatch hu)
    (spec_le c i B hB q q' arg4 harg4 arg5 harg5 Set.univ B.i 0 (by omega) (fun k hk => absurd hk (Nat.not_lt_zero k))))
  rw [spec_apply]; unfold held
  isplitl [H4 H5]
  · isplitl [H4]; · iexact H4
    iexact H5
  iintro %r %hr ⟨H4, H5⟩
  obtain ⟨n, a⟩ := r
  obtain rfl := Stops.eq hr
  dsimp only
  iapply (Own.wp_load 𝒱₀ (c : Thread nD τ) none Set.univ _ rfl) $$ H6; iintro H6
  iapply (Own.wp_store 𝒱₀ (c : Thread nD τ) none Set.univ rfl) $$ H6; iintro H6
  rw [Own.put_full _ (by decide)]
  rw [wp_ret]; imodintro
  iapply HQ
  isplitl [H3]; · iexact H3
  isplitl [H4]; · iexact H4
  isplitl [H5]; · iexact H5
  iexact H6

end Label

end Cert.Sbf

end
-- ==== Proof.Sbf.Launch.lean ====
/-
  The launch: the pipeline's proof data, the body's obligation at every grid point, and the run of the whole program.
-/
module

public import proofs.«01_k».proof.Proof.Sbf.Body
public import proofs.«01_k».proof.Proof.Gen.KernelSbfIdeal.Launch
public import proofs.«01_k».proof.Proof.Gen.KernelSbfIdeal.Points
public import Idealize.ShloMosaic.Lib.Pipeline.Frame
public import Idealize.ShloMosaic.Lib.Pipeline.FrameBody

@[expose] public section

noncomputable section

namespace Cert.Sbf

open Cert.KernelSbfIdeal Cert.KernelSbfIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the kernel starts: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

/-- The host's operations write none of the arguments. -/
theorem V_arg (c : Dev nD) (b : Ref sig .tc) (hb : b = main_arg0 ∨ b = main_arg1 ∨ b = main_arg2) :
    V m c b = m ((c : Thread nD τ).loc b) := by
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  rcases hb with rfl | rfl | rfl
  all_goals
    repeat' apply And.intro
    all_goals exact StableHlo.devRef_ne_of_ne (by decide)

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The blocks of a point. -/
def blk (c : Dev nD) (t : Fin (cfg0 (F := F)).N) : Blk F where
  i := t.val % 8
  q := iblk m c 0 t
  k := iblk m c 1 t
  v := iblk m c 2 t

theorem coord_fin : ∀ t : Fin grid0.N, t.val % 8 = ((grid0.coords t) 2).val := by decide +kernel
theorem blk_i (c : Dev nD) (t : Fin (cfg0 (F := F)).N) : (blk m c t).i = ((grid0.coords t) 2).val := coord_fin t

/-- The pipeline's proof data: the inputs' blocks stay, the output's block is what its point writes. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (blk m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]
theorem Φ_eq (c : Dev nD) (t) : (dats m 0 c).Φ t = (Pipeline.ΦA spec0 c : sProp 𝕄) := by dsimp only [dats]

theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem after3 (c : Dev nD) (t) : (dats m 0 c).after 3 t = out (blk m c t) := by dsimp only [dats]; try rfl

theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem defs₀_row (t : Fin (cfg0 (F := F)).N) : defs₀ (F := F) .tc cfg0.body (cfg0.bodyArgs t (cfg0.slots t)) = bodyAt0 t := by
  unfold defs₀; rw [Defs.onTc_tc]

/-- What the body is called with at a point, -/
def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point_run (c : Dev nD) (t : Fin (cfg0 (F := F)).N) :
    pre m c t ⊢ wp frame (wpE (defs₀ (F := F)) 𝒱₀ (c : Thread nD τ) none) Set.univ (bodyAt0 t) (fun _ => post m c t) := by
  unfold pre post bodyAt0
  simp only [before0, before1, before2]
  rw [Φ_eq, Φ_eq, show (dats m 0 c).owesAt () t.succ = (dats m 0 c).owesAt () t.castSucc from rfl, after0, after1, after2, after3]
  iintro ⟨HΦ, Ho, ⟨%d0, H0⟩, ⟨%d1, H1⟩, ⟨%d2, H2⟩, ⟨%d3, H3⟩⟩
  iapply (body_run c (grid0.coords t) (blk m c t) (blk_i m c t) _ _ _ _ _ _ _ _ _ _ _ _) $$ [H0 H1 H2 H3]
  · unfold all
    isplitl [H0]; · iexact H0
    isplitl [H1]; · iexact H1
    isplitl [H2]; · iexact H2
    iexact H3
  iintro H
  unfold all
  icases H with ⟨H0, H1, H2, H3⟩
  isplitl [HΦ]; · iexact HΦ
  isplitl [Ho]; · iexact Ho
  isplitl [H0]; · iexact H0
  isplitl [H1]; · iexact H1
  isplitl [H2]; · iexact H2
  iexact H3

theorem obligation (c : Dev nD) : BodyObligation (dats (F := F) m 0 c) (defs₀ (F := F)) 𝒱₀ () Set.univ := fun t => by
  rw [bigSep_W0, bigSep_W0, defs₀_row]
  exact triple_restated (point_run m c t) rfl .rfl fun _ => .rfl

set_option backward.isDefEq.respectTransparency.types false in
set_option maxHeartbeats 800000 in
/-- The launch: every array ends as the proof data says, every other buffer as the kernel found it, and every counter at
    zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (obligation m c).loose) (hq := fun _ _ _ => rfl) (howed := fun _ _ => rfl) (V := V m)
    (hmain := hmain m 𝒱₀) (hA := A_eq m) (hin := fun c => by rw [Φ_eq]) (hout := fun c => by rw [Φ_eq])

/-- The launch leaves the three arguments alone. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (show ∀ w : Fin 4, (spec0 w).arr.view.ref ≠ main_arg0 by decide))).trans (V_arg m c _ (.inl rfl)),
      ((h c).2 main_arg1 (Pipeline.mem_restRefs_of main_arg1 (by decide) (show ∀ w : Fin 4, (spec0 w).arr.view.ref ≠ main_arg1 by decide))).trans (V_arg m c _ (.inr (.inl rfl))),
      ((h c).2 main_arg2 (Pipeline.mem_restRefs_of main_arg2 (by decide) (show ∀ w : Fin 4, (spec0 w).arr.view.ref ≠ main_arg2 by decide))).trans (V_arg m c _ (.inr (.inr rfl)))⟩

/-- The frame, for any values of the floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m h.1, h.2⟩)
    (run_main m ρ)

end Cert.Sbf

end
-- ==== Proof.Sbf.Pay.lean ====
/-
  What the payloads of the stick-breaking forward kernel compute over the extended reals, where the vectors they read
  hold real numbers. The weights of a chunk need, at a column, the logarithms kept past it: the kernel forms them as a
  product with the matrix of ones below the diagonal, half a chunk at a time.
-/
module

public import proofs.«01_k».proof.Proof.Sbf.State
public import proofs.«01_k».proof.Proof.Sb.PayPass

@[expose] public section

set_option maxRecDepth 16384

noncomputable section

open Idealize.ShloMosaic Idealize.ShloMosaic.TcCoe Idealize.SL.Sem
open Cert.KernelSbfIdeal Cert.KernelSbfIdeal.Gen
open Finset (range)
open Cert.Sb (Is Is3 lk lk_min_coe stack select_ofBool toInt_ofBool ofBits_eighth_bf16 diag_word sum_mul sum_one sum_rest col_mul sum_half alive_of_real)

namespace Cert.Sbf

/-- Lanes below 64 are the pair's first head. -/
theorem pay6_at (r : Fin 256) (c : Fin 128) : k0_pay6 (ix2 r c : S256x128.Idx) = BitVec.ofBool (decide (c.val < 64)) := by
  pointwise [k0_pay6]
  exact WordCmp.cmpi_slt_ofNat (by omega) (by omega)

/-- The diagonal's mask: the key before the query. -/
theorem pay10_at (r : Fin 512) (c : Fin 256) : k0_pay10 (ix2 r c : S512x256.Idx) = BitVec.ofBool (decide (c.val < r.val % 256)) := by
  pointwise [k0_pay10]; exact diag_word r.isLt c.isLt

/-- The matrix of ones below the diagonal. -/
theorem pay5_is : Is (k0_pay5 (F := Ideal)) fun r c => if c < r then 1 else 0 := fun r c => by
  pointwise [k0_pay5]
  change ((BitVec.toInt _ : ℝ) : EReal) = _
  rw [show IntOp.cmpi CmpIPredicate.sgt (BitVec.ofNat 32 r.val) (BitVec.ofNat 32 c.val) = BitVec.ofBool (decide (c.val < r.val)) from
    WordCmp.cmpi_sgt_ofNat (by omega) (by omega), toInt_ofBool]

variable {q w : FVec Ideal S1x256x128 .bf16} {fq fw : ℕ → ℕ → ℝ}

theorem pay7_is (h : Is3 q fq) : Is (k0_pay7 (F := Ideal) q) (stack fun r c => fq r c * (1 / 8)) := fun r c => by
  pointwise [k0_pay7]
  unfold stack
  split
  · rw [pay6_at, select_ofBool, h, ofBits_eighth_bf16, ← EReal.coe_mul]; split <;> rfl
  · rw [pay6_at, select_ofBool, h, ofBits_eighth_bf16, ← EReal.coe_mul]; split <;> rfl

variable {x : FVec Ideal S512x128 .bf16} {X Z L : ℕ → ℕ → ℝ}

theorem pay11_is (hx : Is (k0_pay7 (F := Ideal) q) X) (hw : Is3 w fw) :
    Is (k0_pay11 (F := Ideal) q w) fun r c => ∑ l ∈ range 128, X r l * fw c l := fun r c => by
  pointwise [k0_pay11]
  exact sum_mul _ _ (hx r) (hw c)

theorem pay23_is (hx : Is x X) (hw : Is3 w fw) : Is (k0_pay23 (F := Ideal) x w) fun r c => ∑ l ∈ range 128, X r l * fw c l := fun r c => by
  pointwise [k0_pay23]
  exact sum_mul _ _ (hx r) (hw c)

theorem pay24_is (h : Is (k0_pay23 (F := Ideal) x w) Z) : Is (k0_pay24 (F := Ideal) x w) fun r c => lk (Z r c) := fun r c => by
  pointwise [k0_pay24]
  rw [h, lk_min_coe]

theorem pay16_is (h : Is (k0_pay11 (F := Ideal) q w) Z) :
    Is (k0_pay16 (F := Ideal) k0_pay10 (k0_pay13 q w) (k0_pay14 q w) k0_pay15) fun r c => if c < r % 256 then lk (Z r c) else 0 := fun r c => by
  pointwise [k0_pay16, k0_pay13, k0_pay14, k0_pay12, k0_pay15]
  rw [h, lk_min_coe, pay10_at, select_ofBool]; split <;> rfl

theorem pay25_is (h : Is (k0_pay24 (F := Ideal) x w) L) : Is (k0_pay25 (F := Ideal) x w) L := fun r c => by
  pointwise [k0_pay25]; exact h r ⟨c.val, by omega⟩

theorem pay26_is (h : Is (k0_pay24 (F := Ideal) x w) L) : Is (k0_pay26 (F := Ideal) x w) fun r c => L r (128 + c) := fun r c => by
  pointwise [k0_pay26]; exact h r ⟨128 + c.val, by omega⟩

theorem pay27_is (h : Is (k0_pay24 (F := Ideal) x w) L) : Is (k0_pay27 (F := Ideal) x w) fun r _ => ∑ y ∈ range 128, L r y := fun r c => by
  pointwise [k0_pay27]; exact sum_one _ (pay25_is h r)

theorem pay28_is (h : Is (k0_pay24 (F := Ideal) x w) L) : Is (k0_pay28 (F := Ideal) x w) fun r _ => ∑ y ∈ range 128, L r (128 + y) := fun r c => by
  pointwise [k0_pay28]; exact sum_one (fun y => L r.val (128 + y)) (pay26_is h r)

section Diag

variable {m : IVec S512x256 1} {a b e : FVec Ideal S512x256 .f32}

theorem pay17_is (h : Is (k0_pay16 (F := Ideal) m a b e) L) : Is (k0_pay17 (F := Ideal) m a b e) L := fun r c => by
  pointwise [k0_pay17]; exact h r ⟨c.val, by omega⟩

theorem pay18_is (h : Is (k0_pay16 (F := Ideal) m a b e) L) : Is (k0_pay18 (F := Ideal) m a b e) fun r c => L r (128 + c) := fun r c => by
  pointwise [k0_pay18]; exact h r ⟨128 + c.val, by omega⟩

theorem pay19_is (h : Is (k0_pay16 (F := Ideal) m a b e) L) : Is (k0_pay19 (F := Ideal) m a b e) fun r _ => ∑ y ∈ range 128, L r (128 + y) := fun r c => by
  pointwise [k0_pay19]; exact sum_one (fun y => L r.val (128 + y)) (pay18_is h r)

theorem pay21_is (h : Is (k0_pay16 (F := Ideal) m a b e) L) :
    Is (k0_pay21 (F := Ideal) k0_pay9 m a b e) fun r _ => ∑ y ∈ range 256, L r y := fun r c => by
  pointwise [k0_pay21, k0_pay9]
  rw [sum_one _ (pay17_is h r), pay19_is h, ← EReal.coe_add, show (256 : ℕ) = 128 + 128 from rfl, Finset.sum_range_add]

end Diag

theorem pay3_is {a s t : FVec Ideal S512x1 .f32} {A S T : ℕ → ℝ} (ha : Is a fun r _ => A r) (hs : Is s fun r _ => S r) (ht : Is t fun r _ => T r) :
    Is (k0_pay3 (F := Ideal) a s t) fun r _ => A r + (S r + T r) := fun r c => by
  pointwise [k0_pay3]; rw [ha, hs, ht, ← EReal.coe_add, ← EReal.coe_add]

/-! ### The weights -/

/-- The sum of a row past a column, as the product with the matrix of ones below the diagonal. -/
theorem sum_after (f : ℕ → ℝ) {n c : ℕ} (h : c < n) :
    ∑ y ∈ range n, f y * (if c < y then 1 else 0) = ∑ y ∈ range n, f y - ∑ y ∈ range (c + 1), f y := by
  rw [eq_sub_iff_add_eq, ← Cert.Sb.sum_upto f h, ← Finset.sum_add_distrib]
  refine Finset.sum_congr rfl fun y _ => ?_
  by_cases hy : y ≤ c
  · rw [if_neg (by omega), if_pos hy]; ring
  · rw [if_pos (by omega), if_neg hy]; ring

theorem after_mul {m : FVec Ideal S128x128 .bf16} {v : Fin 128 → EReal} (f : ℕ → ℝ) (hv : ∀ y, v y = ((f y.val : ℝ) : EReal))
    (hm : Is m fun r c => if c < r then 1 else 0) (c : ℕ) (hc : c < 128) :
    ∑ y, v y * m (ix2 y ⟨c, hc⟩) = ((∑ y ∈ range 128, f y - ∑ y ∈ range (c + 1), f y : ℝ) : EReal) := by
  rw [col_mul f hv hm, sum_after _ hc]

theorem after_rest {m : FVec Ideal S128x128 .bf16} {v : Fin 128 → EReal} (f : ℕ → ℝ) (hv : ∀ y, v y = ((f y.val : ℝ) : EReal))
    (hm : Is m fun r c => if c < r then 1 else 0) (c : ℕ) (hc : c < 128) :
    ∑ y, (v y - v y) * m (ix2 y ⟨c, hc⟩) = 0 := sum_rest f (fun y => if c < y then 1 else 0) hv (fun y => hm y ⟨c, hc⟩)

/-- The weight at a column of a chunk, the stick of the chunks after being `A`. -/
def wt (L Z : ℕ → ℕ → ℝ) (A : ℕ → ℝ) (r c : ℕ) : ℝ :=
  Real.exp (L r c + Z r c + (A r + (∑ y ∈ range 256, L r y - ∑ y ∈ range (c + 1), L r y)))

theorem wt_low {A : ℕ → ℝ} {r c : ℕ} (hc : c < 128) : wt L Z A r c = Real.exp (L r c + Z r c
    + ((∑ y ∈ range 128, L r y - ∑ y ∈ range (c + 1), L r y) + (A r + ∑ y ∈ range 128, L r (128 + y)))) := by
  unfold wt
  rw [show (256 : ℕ) = 128 + 128 from rfl, Finset.sum_range_add]
  congr 1; ring

theorem wt_high {A : ℕ → ℝ} {r c y : ℕ} (hc : c = 128 + y) : wt L Z A r c = Real.exp (L r c + Z r c
    + ((∑ y ∈ range 128, L r (128 + y) - ∑ y ∈ range (y + 1), L r (128 + y)) + A r)) := by
  unfold wt
  rw [show (256 : ℕ) = 128 + 128 from rfl, Finset.sum_range_add, sum_half (L r) (c := c + 1) (n := y + 1) (by omega) (by omega)]
  congr 1; ring

theorem pay29_is {m : FVec Ideal S128x128 .bf16} {a : FVec Ideal S512x1 .f32} {A : ℕ → ℝ} (hm : Is m fun r c => if c < r then 1 else 0)
    (ha : Is a fun r _ => A r) (hz : Is (k0_pay23 (F := Ideal) x w) Z) (hl : Is (k0_pay24 (F := Ideal) x w) L) :
    Is (k0_pay29 (F := Ideal) x m a w) (wt L Z A) := fun r c => by
  pointwise [k0_pay29]
  simp only [dif_pos (show r.val < 1024 by omega), dif_pos (show 512 + r.val < 1024 by omega)]
  rw [hl, hz, ha]
  split
  · rename_i hc
    rw [after_mul _ (pay25_is hl r) hm, after_rest _ (pay25_is hl r) hm, add_zero, pay28_is hl]
    simp only [← EReal.coe_add, Ideal.exp_coe]
    rw [wt_low hc]
  · rename_i hc
    have hc' : c.val - 128 < 128 := by omega
    rw [after_mul (fun y => L r.val (128 + y)) (pay26_is hl r) hm, after_rest (fun y => L r.val (128 + y)) (pay26_is hl r) hm, add_zero]
    simp only [← EReal.coe_add, Ideal.exp_coe]
    rw [wt_high (y := c.val - 128) (by omega)]

theorem pay20_is {p e o : FVec Ideal S512x256 .f32} {s : FVec Ideal S512x256 .f32} {m : FVec Ideal S128x128 .bf16} (hm : Is m fun r c => if c < r then 1 else 0)
    (hz : Is s Z) (hl : Is (k0_pay16 (F := Ideal) k0_pay10 p e o) L) (hw : Is3 w fw) :
    Is (k0_pay20 (F := Ideal) m k0_pay8 k0_pay9 k0_pay10 s p e o w)
      fun r d => ∑ c ∈ range 256, (if c < r % 256 then wt L Z (fun _ => 0) r c else 0) * fw c d := fun r d => by
  pointwise [k0_pay20, k0_pay8, k0_pay9]
  simp only [dif_pos (show r.val < 1024 by omega), dif_pos (show 512 + r.val < 1024 by omega)]
  rw [show (∑ c ∈ range 256, (if c < r.val % 256 then wt L Z (fun _ => 0) r.val c else 0) * fw c d.val) = _ from Finset.sum_range_add _ 128 128, EReal.coe_add]
  refine congrArg₂ (· + ·) (sum_one (fun c => (if c < r.val % 256 then wt L Z (fun _ => 0) r.val c else 0) * fw c d.val) fun y => ?_)
    (sum_one (fun c => (if 128 + c < r.val % 256 then wt L Z (fun _ => 0) r.val (128 + c) else 0) * fw (128 + c) d.val) fun y => ?_)
  · rw [after_mul _ (pay17_is hl r) hm, after_rest _ (pay17_is hl r) hm, add_zero, pay19_is hl, hl, hz, pay10_at, select_ofBool, hw]
    simp only [← EReal.coe_add, Ideal.exp_coe]
    rw [wt_low y.isLt]
    split <;> simp
  · rw [after_mul (fun y => L r.val (128 + y)) (pay18_is hl r) hm, after_rest (fun y => L r.val (128 + y)) (pay18_is hl r) hm, add_zero, hl, hz, pay10_at, select_ofBool, hw]
    simp only [← EReal.coe_add, Ideal.exp_coe]
    rw [wt_high (y := y.val) rfl]
    split <;> simp

theorem pay2_is {a : FVec Ideal S512x128 .f32} {A : ℕ → ℕ → ℝ} {p : FVec Ideal S512x256 .bf16} {P : ℕ → ℕ → ℝ} (ha : Is a A) (hp : Is p P) (hw : Is3 w fw) :
    Is (k0_pay2 (F := Ideal) a p w) fun r d => A r d + ∑ c ∈ range 256, P r c * fw c d := fun r d => by
  pointwise [k0_pay2]
  rw [ha, sum_mul _ (fun c => fw c d.val) (hp r) (fun c => hw c d), EReal.coe_add]

theorem pay1_is {a : FVec Ideal S512x128 .f32} {A : ℕ → ℕ → ℝ} (ha : Is a A) :
    Is3 (k0_pay1 (F := Ideal) k0_pay6 a) fun r d => A (if d < 64 then r else 256 + r) d := fun r d => by
  pointwise [k0_pay1]
  rw [pay6_at, select_ofBool, ha, ha]
  split <;> simp

end Cert.Sbf

end
-- ==== Proof.Sbf.Point.lean ====
/-
  One grid point of the stick-breaking forward kernel over the extended reals, where the blocks it reads hold real
  numbers: the walk never stops early, and what the point writes is, for each of its queries, the sum of all the values
  weighted by the attention.
-/
module

public import proofs.«01_k».proof.Proof.Sbf.Pay
public import proofs.«01_k».proof.Proof.Sb.Grad

@[expose] public section

set_option maxRecDepth 16384

noncomputable section

open Idealize.ShloMosaic Idealize.ShloMosaic.TcCoe Idealize.SL.Sem
open Cert.KernelSbfIdeal Cert.KernelSbfIdeal.Gen
open Finset (range)
open Cert.Sb (Is Is3 lk stack kch kch_is Num Args sum_chunk sum_at alive_of_real)

namespace Cert.Sbf

/-- The blocks hold these numbers. -/
structure Of (N : Num) (B : Blk Ideal) : Prop where
  i : B.i = N.i
  lt : N.i < 8
  q : Is3 B.q N.q
  k : Is3 B.k N.k
  v : Is3 B.v N.v

variable {N : Num} {B : Blk Ideal} (h : Of N B)

include h

theorem Of.z11 : Is (k0_pay11 (F := Ideal) B.q (kch B.k B.i)) fun r c => N.Z r (256 * N.i + c) := by
  rw [h.i]; exact pay11_is (pay7_is h.q) (kch_is h.k h.lt)

theorem Of.l16 : Is (k0_pay16 (F := Ideal) k0_pay10 (dmin B) (dexp B) k0_pay15) fun r c => N.kp r (256 * N.i + c) :=
  (pay16_is h.z11).congr fun r _ c _ => by unfold Num.kp Num.T; simp

theorem Of.z23 {j : ℕ} (hj : j < 8) : Is (k0_pay23 (F := Ideal) (k0_pay7 B.q) (kch B.k j)) fun r c => N.Z r (256 * j + c) :=
  pay23_is (pay7_is h.q) (kch_is h.k hj)

theorem Of.l24 {j : ℕ} (hj : j < N.i) : Is (k0_pay24 (F := Ideal) (k0_pay7 B.q) (kch B.k j)) fun r c => N.kp r (256 * j + c) :=
  (pay24_is (h.z23 (hj.trans h.lt))).congr fun r _ c hc => by
    unfold Num.kp; rw [if_pos]; unfold Num.T; omega

theorem Of.runs {n : ℕ} (hn : n ≤ N.i) : Is (runs B n) fun r _ => N.KP r (256 * (N.i + 1)) - N.KP r (256 * (N.i - n)) := by
  induction n with
  | zero =>
    refine (pay21_is h.l16).congr fun r _ c _ => ?_
    unfold Num.KP; rw [Nat.sub_zero, sum_chunk]; ring
  | succ n ih =>
    have hl := h.l24 (j := N.i - 1 - n) (by omega)
    unfold Sbf.runs; rw [h.i]
    refine (pay3_is (ih (by omega)) (pay27_is hl) (pay28_is hl)).congr fun r _ c _ => ?_
    have e : N.i - n = (N.i - 1 - n) + 1 := by omega
    have e' : N.i - (n + 1) = N.i - 1 - n := by omega
    rw [e', e]
    have := sum_chunk (N.kp r) (N.i - 1 - n)
    have e2 : ∑ y ∈ range 256, N.kp r (256 * (N.i - 1 - n) + y) = _ := Finset.sum_range_add (fun y => N.kp r (256 * (N.i - 1 - n) + y)) 128 128
    simp only [Num.KP]; rw [this, e2]; ring

theorem Of.alive {n : ℕ} (hn : n ≤ N.i) : alive B n = 1#1 := by
  have key : ∀ (b : EReal), ⊥ < b → Scalar.cmpf (F := Ideal) (φ := .f32) .ogt b (Named.named κ "sb_dead" 0xC2D00000#32) = 1#1 := by
    intro b hb
    have hn : (Named.named κ "sb_dead" 0xC2D00000#32 : Ideal .f32) = (⊥ : EReal) := rfl
    rw [hn]
    change BitVec.ofBool (decide ((⊥ : EReal) < b)) = 1#1
    simp [hb]
  cases n with
  | zero =>
    refine key _ ?_
    pointwise [k0_pay22]
    exact alive_of_real (A := fun r => N.KP r (256 * (N.i + 1)) - N.KP r (256 * (N.i - 0))) (fun r => h.runs hn r 0) _
  | succ n =>
    refine key _ ?_
    pointwise [k0_pay4]
    exact alive_of_real (A := fun r => N.KP r (256 * (N.i + 1)) - N.KP r (256 * (N.i - (n + 1)))) (fun r => h.runs hn r 0) _

theorem Of.walk : walk B = N.i :=
  (Stops.eq ⟨by rw [h.i], Or.inl h.i.symm, fun k hk => h.alive hk.le⟩).symm

omit h in
/-- The weights of a chunk from its own sums are the row's. -/
theorem wt_chunk (r j c : ℕ) : wt (fun r c => N.kp r (256 * j + c)) (fun r c => N.Z r (256 * j + c))
      (fun r => N.KP r (256 * (N.i + 1)) - N.KP r (256 * (j + 1))) r c
    = Real.exp (N.kp r (256 * j + c) + N.Z r (256 * j + c) + (N.KP r (256 * (N.i + 1)) - N.KP r (256 * j + c + 1))) := by
  have e := sum_at (N.kp r) (256 * j) (c + 1)
  have e' := sum_chunk (N.kp r) j
  unfold wt
  simp only [Num.KP] at e ⊢
  rw [show 256 * j + c + 1 = 256 * j + (c + 1) by omega, e, e']
  congr 2; ring

/-- The weighted sum after going back `n` chunks: over all the keys from there on. -/
theorem Of.accs {n : ℕ} (hn : n ≤ N.i) : Is (accs B n) fun r d =>
    ∑ s ∈ range (256 * (N.i + 1)), N.at r s * N.v s d - ∑ s ∈ range (256 * (N.i - n)), N.at r s * N.v s d := by
  induction n with
  | zero =>
    unfold Sbf.accs
    refine (pay20_is pay5_is h.z11 h.l16 (kch_is h.v (h.i ▸ h.lt))).congr fun r _ d _ => ?_
    rw [Nat.sub_zero, sum_chunk, add_sub_cancel_left]
    refine Finset.sum_congr rfl fun c hc => ?_
    have hw := wt_chunk (N := N) r N.i c
    simp only [sub_self] at hw
    rw [hw, h.i]
    congr 1
    unfold Num.at Num.T
    simp
  | succ n ih =>
    have hj : N.i - 1 - n < N.i := by omega
    have e : N.i - n = (N.i - 1 - n) + 1 := by omega
    have e' : N.i - (n + 1) = N.i - 1 - n := by omega
    unfold Sbf.accs; rw [h.i]
    refine (pay2_is (ih (by omega)) (pay29_is pay5_is (h.runs (n := n) (by omega)) (h.z23 (hj.trans h.lt)) (h.l24 hj))
      (kch_is h.v (hj.trans h.lt))).congr fun r _ d _ => ?_
    simp only [e, e']
    rw [sum_chunk (fun s => N.at r s * N.v s d) (N.i - 1 - n)]
    have : ∀ c ∈ range 256, wt (fun r c => N.kp r (256 * (N.i - 1 - n) + c)) (fun r c => N.Z r (256 * (N.i - 1 - n) + c))
        (fun r => N.KP r (256 * (N.i + 1)) - N.KP r (256 * (N.i - 1 - n + 1))) r c * N.v (256 * (N.i - 1 - n) + c) d
        = N.at r (256 * (N.i - 1 - n) + c) * N.v (256 * (N.i - 1 - n) + c) d := fun c hc => by
      have hc' := Finset.mem_range.1 hc
      rw [wt_chunk]
      unfold Num.at
      rw [if_pos]
      unfold Num.T; omega
    rw [Finset.sum_congr rfl this]; ring

/-- What a point writes. -/
theorem Of.out : Is3 (out B) fun r d => ∑ s ∈ range (256 * (N.i + 1)), N.at (if d < 64 then r else 256 + r) s * N.v s d := by
  unfold Sbf.out
  rw [h.walk]
  exact (pay1_is (h.accs le_rfl)).congr fun r _ d _ => by simp

end Cert.Sbf

/-! ### Head by head -/

namespace Cert.Sb

variable (A : Args) (b h p i : ℕ)

/-- The attention's output: a query's sum of the values by its weights. -/
def Args.y (t d : ℕ) : ℝ := ∑ s ∈ range 2048, A.a b h t s * A.v b s h d

/-- Row `r` of a point's output, in lane `d`. -/
theorem num_y (hi : i < 8) {r d : ℕ} (hr : r < 256) (hd : d < 128) :
    ∑ s ∈ range (256 * (i + 1)), (A.num b p i).at (if d < 64 then r else 256 + r) s * (A.num b p i).v s d
      = A.y b (2 * p + d / 64) (256 * i + r) (d % 64) := by
  unfold Args.y
  have e : (if d < 64 then r else 256 + r) = 256 * (d / 64) + r := by split <;> omega
  rw [e, ← Finset.sum_subset (Finset.range_mono (show 256 * (i + 1) ≤ 2048 by omega)) fun s _ hs => ?_]
  · refine Finset.sum_congr rfl fun t _ => ?_
    rw [num_at A b p i (by omega) hi, show (256 * (d / 64) + r) / 256 = d / 64 by omega, show (256 * (d / 64) + r) % 256 = r by omega]
    rfl
  · rw [a_zero, zero_mul]; simp at hs; omega

end Cert.Sb

end
-- ==== Proof.Sbf.Value.lean ====
/-
  What the stick-breaking attention's forward call leaves in its result array, when the arguments are real.
-/
module

public import proofs.«01_k».proof.Proof.Sbf.Launch
public import proofs.«01_k».proof.Proof.Sbf.Point
public import proofs.«01_k».proof.Proof.Sb.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelSbfIdeal Cert.KernelSbfIdeal.Gen
open Cert.Sb (Is3 Num Args heads qkv numAt)

namespace Cert.Sbf

variable (m : (ℓ : Loc nD τ sig) → Buf (Elt Ideal) ℓ) (c : Dev nD)

/-- Point `t` is sequence `t / 32`, pair of heads `t / 8 % 4`, chunk of queries `t % 8`. -/
theorem idx : ∀ t : Fin grid0.N, win0_0.index t = ![t.val / 32, t.val % 8, t.val / 8 % 4] ∧ win0_1.index t = ![t.val / 32, 0, 4 + t.val / 8 % 4]
    ∧ win0_2.index t = ![t.val / 32, 0, 8 + t.val / 8 % 4] ∧ win0_3.index t = ![t.val / 32, t.val % 8, t.val / 8 % 4] := by decide +kernel

theorem V_qkv : V m c main_v4 = qkv (m ((c : Thread nD τ).loc main_arg0)) (m ((c : Thread nD τ).loc main_arg1)) (m ((c : Thread nD τ).loc main_arg2)) := by
  unfold V
  simp only [hostOps0]
  after_results_simp <;> rfl

variable (A : Args) {o : FVec Ideal S2x2048x512 .f32}
  (hA : A.In (m ((c : Thread nD τ).loc main_arg0)) (m ((c : Thread nD τ).loc main_arg1)) (m ((c : Thread nD τ).loc main_arg2)) o)

theorem pt_lt (t : Fin (cfg0 (F := Ideal)).N) : t.val < 64 := t.isLt

include hA

theorem blkq (t : Fin (cfg0 (F := Ideal)).N) : Is3 (n := 256) (m := 128) (iblk m c 0 t) (numAt A t).q := fun r d => by
  have ht := pt_lt t
  have e : ((cfg0.win 0).blk t).view.emb (ix3 0 r d : S1x256x128.Idx)
      = (ix3 ⟨t.val / 32, by omega⟩ ⟨256 * (t.val % 8) + r.val, by omega⟩ ⟨128 * (t.val / 8 % 4) + d.val, by omega⟩ : S2x2048x1536.Idx) := by blk_ext [idx t]
  refine (congrArg (V m c main_v4) e).trans ?_
  rw [V_qkv, hA.qkv0 _ _ _ (by dsimp only; omega)]
  unfold numAt Args.num; dsimp only
  rw [show (128 * (t.val / 8 % 4) + d.val) / 64 = 2 * (t.val / 8 % 4) + d.val / 64 by omega, show (128 * (t.val / 8 % 4) + d.val) % 64 = d.val % 64 by omega]

theorem blkk (t : Fin (cfg0 (F := Ideal)).N) : Is3 (n := 2048) (m := 128) (iblk m c 1 t) (numAt A t).k := fun r d => by
  have ht := pt_lt t
  have e : ((cfg0.win 1).blk t).view.emb (ix3 0 r d : S1x2048x128.Idx)
      = (ix3 ⟨t.val / 32, by omega⟩ r ⟨128 * (4 + t.val / 8 % 4) + d.val, by omega⟩ : S2x2048x1536.Idx) := by blk_ext [idx t]
  refine (congrArg (V m c main_v4) e).trans ?_
  rw [V_qkv, hA.qkv1 _ _ _ (by dsimp only; omega) (by dsimp only; omega)]
  unfold numAt Args.num; dsimp only
  rw [show (128 * (4 + t.val / 8 % 4) + d.val - 512) / 64 = 2 * (t.val / 8 % 4) + d.val / 64 by omega, show (128 * (4 + t.val / 8 % 4) + d.val - 512) % 64 = d.val % 64 by omega]

theorem blkv (t : Fin (cfg0 (F := Ideal)).N) : Is3 (n := 2048) (m := 128) (iblk m c 2 t) (numAt A t).v := fun r d => by
  have ht := pt_lt t
  have e : ((cfg0.win 2).blk t).view.emb (ix3 0 r d : S1x2048x128.Idx)
      = (ix3 ⟨t.val / 32, by omega⟩ r ⟨128 * (8 + t.val / 8 % 4) + d.val, by omega⟩ : S2x2048x1536.Idx) := by blk_ext [idx t]
  refine (congrArg (V m c main_v4) e).trans ?_
  rw [V_qkv, hA.qkv2 _ _ _ (by dsimp only; omega)]
  unfold numAt Args.num; dsimp only
  rw [show (128 * (8 + t.val / 8 % 4) + d.val - 1024) / 64 = 2 * (t.val / 8 % 4) + d.val / 64 by omega, show (128 * (8 + t.val / 8 % 4) + d.val - 1024) % 64 = d.val % 64 by omega]

theorem numOf (t : Fin (cfg0 (F := Ideal)).N) : Of (numAt A t) (blk m c t) :=
  ⟨rfl, Nat.mod_lt _ (by decide), blkq m c A hA t, blkk m c A hA t, blkv m c A hA t⟩

/-- The result array: the attention's output, the heads side by side. -/
theorem final : (dats m 0 c).arrAt 3 (cfg0 (F := Ideal)).N = heads A.y := by
  refine (dats m 0 c).arrAt_eq_of_covers 3 _ (by decide +kernel) fun t _ y => ?_
  blk_simp
  rw [after3]
  obtain ⟨p, l, rfl⟩ : ∃ (p : Fin 256) (l : Fin 128), y = (ix3 0 p l : S1x256x128.Idx) :=
    ⟨y 1, y 2, (eq_ix3 y).trans (by rw [show y 0 = (0 : Fin 1) from Fin.eq_zero (y 0 : Fin 1)])⟩
  have ht := pt_lt t
  have he : ((cfg0.win 3).blk t).view.emb (ix3 0 p l : S1x256x128.Idx)
      = (ix3 ⟨t.val / 32, by omega⟩ ⟨256 * (t.val % 8) + p.val, by omega⟩ ⟨128 * (t.val / 8 % 4) + l.val, by omega⟩ : S2x2048x512.Idx) := by
    blk_ext [idx t]
  refine Eq.trans ?_ (congrArg (heads A.y) he.symm)
  refine (((numOf m c A hA t).out p l).trans (congrArg _ (Cert.Sb.num_y A _ _ _ (Nat.mod_lt _ (by decide)) p.isLt l.isLt))).trans ?_
  unfold heads; dsimp only [ix3]
  have e1 : (128 * (t.val / 8 % 4) + l.val) / 64 = 2 * (t.val / 8 % 4) + l.val / 64 := by omega
  have e2 : (128 * (t.val / 8 % 4) + l.val) % 64 = l.val % 64 := by omega
  simp [e1, e2]

end Cert.Sbf

end
-- ==== Proof.Sbf.Frame.lean ====
/-
  The frame of the kernel as printed: every point's body runs without a fault whatever its buffers hold, the walk
  ending because each of its trips goes one chunk further back.
-/
module

public import proofs.«01_k».proof.Defs
public import proofs.«01_k».proof.Proof.Safe
public import proofs.«01_k».proof.Proof.Sbf.State
public import proofs.«01_k».proof.Proof.Gen.KernelSbf.Skeleton
public import proofs.«01_k».proof.Proof.Gen.KernelSbf.Launch
public import proofs.«01_k».proof.Proof.Gen.KernelSbf.Points
public import Idealize.ShloMosaic.Lib.Pipeline.Frame
public import Idealize.ShloMosaic.Lib.Pipeline.FrameBody
public import Idealize.ShloMosaic.Lib.Pipeline.Kit

@[expose] public section

noncomputable section

namespace Cert.SbfFrame

open Cert.KernelSbf Cert.KernelSbf.Gen
open Cert.Safe (Safe Reads Writes)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Idealize.ShloMosaic.Rounds
open Cert.Sb (W)

variable {F : FTy → Type} [FloatOps F]

local notation "𝕄" => MT nD τ sig Unit (Elt F) ℕ (UR sig nD τ) ℕ

/-- The walk's trips still to run bound its calls. -/
abbrev 𝒱₀ : Variants := Variants.nat

section Body

variable (c : Dev nD) (i : grid0.Coords) (M : sProp (MT nD τ sig Unit (Elt F) ℕ (UR sig nD τ) ℕ))
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .bf16) (harg6 : arg6.IsWhole)

theorem guard_word (a : BitVec 1) (n : ℕ) (hn : n ≤ (i 2).val)
    (h : Scalar.andi (Scalar.cmpi .slt (W n) (BitVec.ofNat 32 (i 2).val)) a = 1#1) : n < (i 2).val := by
  rw [Cert.Sbf.slt_eq i n hn] at h
  by_contra hc
  rw [if_neg hc] at h
  revert h; revert a; decide

variable (h4 : Reads (c : Thread nD τ) M arg4) (h5 : Reads (c : Thread nD τ) M arg5)

include h4 h5 in
/-- The walk, entered with `k` chunks left before the first, ends. -/
theorem walk_safe (v16 : FVec F S512x128 .bf16) (v5 : FVec F S128x128 .bf16) :
    ∀ k n, n + k = (i 2).val → ∀ a v w, Safe (defs₀ (F := F)) 𝒱₀ (c : Thread nD τ) M (some k) (fun _ => True)
      (defs₀ (F := F) .tc 1 ⟨i, arg4, harg4, v16, v5, arg5, harg5, W n, a, v, w⟩) := by
  intro k
  induction k with
  | zero =>
    intro n hn a v w
    show Safe (defs₀ (F := F)) 𝒱₀ (c : Thread nD τ) M (some 0) _ (cc0_while1 i arg4 harg4 v16 v5 arg5 harg5 (W n) a v w)
    rw [cc0_while1_eq_skeleton]; unfold cc0_while1_skel
    have ht : ¬ Scalar.andi (Scalar.cmpi .slt (W n) (BitVec.ofNat 32 (i 2).val)) (Scalar.cmpi .sgt a (0#32 : BitVec 32)) = 1#1 := fun h => by
      have := guard_word i _ n (by omega) h; omega
    simp only [ht, ↓reduceIte, Prog.pure_eq_ret]
    exact Safe.pure trivial
  | succ k ih =>
    intro n hn a v w
    show Safe (defs₀ (F := F)) 𝒱₀ (c : Thread nD τ) M (some (k + 1)) _ (cc0_while1 i arg4 harg4 v16 v5 arg5 harg5 (W n) a v w)
    rw [cc0_while1_eq_skeleton]; unfold cc0_while1_skel
    by_cases ht : Scalar.andi (Scalar.cmpi .slt (W n) (BitVec.ofNat 32 (i 2).val)) (Scalar.cmpi .sgt a (0#32 : BitVec 32)) = 1#1
    · have hni := guard_word i _ n (by omega) ht
      rw [k0_part3_eq_skeleton]; unfold k0_part3_skel
      simp only [ht, ↓reduceIte, Prog.lift, Prog.bind_op, Prog.bind_ret, Prog.pure_eq_ret]
      rw [Cert.Sb.addi_eq n (by have := Cert.Sbf.i_lt i; omega)]
      exact Safe.assume (Cert.Sbf.chk1 i n hni) (Safe.load h4 fun _ => Safe.load h5 fun _ =>
        Safe.call k (fun u hu => by cases hu; exact Nat.lt_succ_self k) (ih (n + 1) (by omega) _ _ _) fun r hr => Safe.pure trivial)
    · simp only [ht, ↓reduceIte, Prog.pure_eq_ret]
      exact Safe.pure trivial

variable (h3 : Reads (c : Thread nD τ) M arg3) (h6 : Writes (c : Thread nD τ) M arg6)

include h3 h4 h5 h6 in
/-- The whole body ends. -/
theorem body_safe : Safe (defs₀ (F := F)) 𝒱₀ (c : Thread nD τ) M none (fun _ => True)
    (cc0_sb_fwd (F := F) i arg3 harg3 arg4 harg4 arg5 harg5 arg6 harg6) := by
  rw [cc0_sb_fwd_eq_skeleton]; unfold cc0_sb_fwd_skel
  rw [k0_part1_eq_skeleton]; unfold k0_part1_skel
  rw [k0_part2_eq_skeleton]; unfold k0_part2_skel
  simp only [Prog.lift, Prog.bind_op, Prog.bind_ret, Prog.pure_eq_ret]
  exact Safe.load h3 fun _ => Safe.load h4 fun _ => Safe.load h5 fun _ =>
    Safe.call (i 2).val (fun u hu => nomatch hu) (walk_safe c i M arg4 harg4 arg5 harg5 h4 h5 _ _ (i 2).val 0 (by omega) _ _ _) fun r hr =>
      Safe.load h6.reads fun _ => Safe.store h6 (Safe.pure trivial)

end Body

/-! ### The launch -/

section Launch

variable (m : (ℓ : Loc nD τ sig) → Buf (Elt F) ℓ) (ρ : Dev nD → PrngReg)

/-- A core's buffers when the kernel starts: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

theorem V_arg (c : Dev nD) (b : Ref sig .tc) (hb : b = main_arg0 ∨ b = main_arg1 ∨ b = main_arg2) :
    V m c b = m ((c : Thread nD τ).loc b) := by
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  rcases hb with rfl | rfl | rfl
  all_goals
    repeat' apply And.intro
    all_goals exact StableHlo.devRef_ne_of_ne (by decide)

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: the inputs' blocks stay, the output's is forgotten. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q w := Pipeline.shareOf spec0 w
  owed _ := 0

def outs : Fin 4 → Bool := ![false, false, false, true]

theorem A_eq (c : Dev nD) (w : Fin (cfg0 (F := F)).W) : (dats m 0 c).A w = V m c (Pipeline.arrRef spec0 w) := by dsimp only [dats]
theorem Φ_eq (c : Dev nD) (t) : (dats m 0 c).Φ t = (Pipeline.ΦA spec0 c : sProp 𝕄) := by dsimp only [dats]
theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem before0 (c : Dev nD) (t) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem defs₀_row (t : Fin (cfg0 (F := F)).N) : defs₀ (F := F) .tc cfg0.body (cfg0.bodyArgs t (cfg0.slots t)) = bodyAt0 t := by
  unfold defs₀; rw [Defs.onTc_tc]

/-- What a point's body holds: its inputs' blocks, and the output's at anything. -/
def mem (c : Dev nD) (t : Fin (cfg0 (F := F)).N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X))

def pre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))
def post (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem point_safe (c : Dev nD) (t : Fin (cfg0 (F := F)).N) :
    Safe (defs₀ (F := F)) 𝒱₀ (c : Thread nD τ) (mem m c t) none (fun _ => True) (bodyAt0 (F := F) t) := by
  unfold mem bodyAt0
  exact body_safe c (grid0.coords t) _ _ _ _ _ _ _ _ _ (h3 := Safe.Reads.head) (h4 := Safe.Reads.tail Safe.Reads.head)
    (h5 := Safe.Reads.tail (Safe.Reads.tail Safe.Reads.head)) (h6 := Safe.Writes.tail (Safe.Writes.tail (Safe.Writes.tail Safe.Writes.last)))

theorem point_run (c : Dev nD) (t : Fin (cfg0 (F := F)).N) :
    pre m c t ⊢ wp frame (wpE (defs₀ (F := F)) 𝒱₀ (c : Thread nD τ) none) Set.univ (bodyAt0 t) (fun _ => post m c t) := by
  have hs := point_safe m c t
  unfold Safe at hs
  unfold pre post
  simp only [before0, before1, before2]
  rw [Φ_eq, Φ_eq, show (dats m 0 c).owesAt () t.succ = (dats m 0 c).owesAt () t.castSucc from rfl, after0, after1, after2]
  iintro ⟨HΦ, Ho, ⟨%d0, H0⟩, ⟨%d1, H1⟩, ⟨%d2, H2⟩, H3⟩
  iapply (hs _) $$ [H0 H1 H2 H3]
  · unfold mem
    isplitl [H0]; · iexact H0
    isplitl [H1]; · iexact H1
    isplitl [H2]; · iexact H2
    iexact H3
  iintro %_ %_ H
  unfold mem
  icases H with ⟨H0, H1, H2, H3⟩
  isplitl [HΦ]; · iexact HΦ
  isplitl [Ho]; · iexact Ho
  isplitl [H0]; · iexact H0
  isplitl [H1]; · iexact H1
  isplitl [H2]; · iexact H2
  iexact H3

theorem obligation (c : Dev nD) : BodyObligationLoose (dats (F := F) m 0 c) (defs₀ (F := F)) 𝒱₀ () Set.univ outs := fun t => by
  rw [bigSep_W0, bigSep_W0, defs₀_row]
  exact triple_restated (point_run m c t) rfl .rfl fun _ => .rfl

set_option backward.isDefEq.respectTransparency.types false in
set_option maxHeartbeats 800000 in
/-- The launch: every buffer the kernel's windows leave out is as the kernel found it, and every counter is at zero. -/
theorem run_main : θ_run defs (onTc (τ := τ) (main (F := F))) (s₀ m ρ)
    (fun r => Pipeline.RDat.FramePost (cfg0 (F := F)) (fun c => (dats m 0 c).toRForget outs) (V m) r ∧ r.2.sem = fun _ => 0) :=
  Pipeline.θ_run_frame_forget_shared (Q' := _) cfgs (dats m) (0 : Fin 1) launch₀0 defs₀ 𝒱₀ outs m ρ main
    (hbody := obligation m) (hq := fun _ _ _ => rfl) (howed := fun _ _ => rfl) (V := V m)
    (hmain := hmain m 𝒱₀) (hA := A_eq m) (hΦ := Φ_eq m)

/-- The frame. -/
theorem frame_kernel : Cert.quiescent_KernelSbf := fun m ρ _ =>
  (θ_run defs _ _).mono (fun _ h => ⟨fun c =>
    ⟨((h.1 c).2 main_arg0 (Pipeline.mem_restRefs_of main_arg0 (by decide) (show ∀ w : Fin 4, (spec0 w).arr.view.ref ≠ main_arg0 by decide))).trans (V_arg m c _ (by simp)),
      ((h.1 c).2 main_arg1 (Pipeline.mem_restRefs_of main_arg1 (by decide) (show ∀ w : Fin 4, (spec0 w).arr.view.ref ≠ main_arg1 by decide))).trans (V_arg m c _ (by simp)),
      ((h.1 c).2 main_arg2 (Pipeline.mem_restRefs_of main_arg2 (by decide) (show ∀ w : Fin 4, (spec0 w).arr.view.ref ≠ main_arg2 by decide))).trans (V_arg m c _ (by simp))⟩, h.2⟩)
    (run_main (F := Bits) m ρ)

end Launch

end Cert.SbfFrame

end
-- ==== Proof.Sbf.Claim.lean ====
/-
  The claims about the stick-breaking attention's forward call: frames, and the value under the precondition. The
  reference's lines are those whose derivative the backward call's reference takes, so their stages are named there.
-/
module

public import proofs.«01_k».proof.Defs
public import proofs.«01_k».proof.Proof.Gen.Pre_finite_sbf
public import proofs.«01_k».proof.Proof.Gen.ReferenceSbfIdeal.Run
public import proofs.«01_k».proof.Proof.Sb.Claim
public import proofs.«01_k».proof.Proof.Sbf.Value
public import proofs.«01_k».proof.Proof.Sbf.Frame
public import Idealize.ShloMosaic.Lib.Claim

@[expose] public section

set_option maxRecDepth 16384

noncomputable section

open Idealize.ShloMosaic Idealize.ShloMosaic.TcCoe Idealize.SL.Sem

namespace Cert.SbfClaim

open Cert.Sb (Args)
open Cert.SbRef (masked wt nz)

theorem frame_ideal : Cert.quiescent_KernelSbfIdeal := fun m ρ _ => Cert.Sbf.frame_any m ρ

theorem frame_ideal_pre : Cert.quiescent_KernelSbfIdeal_pre_finite_sbf := fun m ρ _ => Cert.Sbf.frame_any m ρ

theorem frame_reference : Cert.quiescent_ReferenceSbfIdeal := by
  intro m g _
  hlo_run
  · exact fun _ => ⟨trivial, trivial, trivial⟩
  · exact sem_eq_zero_of_no_sems (sig := Cert.ReferenceSbfIdeal.sig) (by decide) _

theorem frame_reference_pre : Cert.quiescent_ReferenceSbfIdeal_pre_finite_sbf := fun m g _ => frame_reference m g trivial

/-- The exit's threshold is the name's literal, and the name's value is minus infinity. -/
theorem preserves : Cert.preserves_KernelSbf_KernelSbfIdeal :=
  IdealRules.named_const.statement Cert.KernelSbfIdeal.κ "sb_dead" .f32 0xC2D00000#32 ⊥ rfl

/-! ## The reference -/

section Reference

open Cert.ReferenceSbfIdeal Cert.ReferenceSbfIdeal.Gen

/-- The values summed by their weights, the heads side by side. -/
def outY (v : FVec Ideal S2x2048x8x64 .f32) (w : FVec Ideal S2x8x2048x2048 .f32) : FVec Ideal S2x2048x512 .bf16 :=
  truncf .bf16 (shapeCast _ (transpose S2x2048x8x64 [0, 3, 1, 2]
    (Host.dotGeneral dot_S2x2048x8x64_S2x8x2048x2048_S2x8x64x2048_1_3_3_2_02_01 none v w) transposes_S2x8x64x2048_S2x2048x8x64_0_3_1_2)
    shapeCasts_S2x2048x8x64_S2x2048x512) bitsLt_bf16_f32

theorem res (m : (ℓ : Loc nD τ sig) → Buf (Elt Ideal) ℓ) (c : Dev nD) : Cert.ReferenceSbfIdeal.Value.res_main_v21 m c
    = outY (m ((c : Thread nD τ).loc main_arg2)) (masked (wt (nz (m ((c : Thread nD τ).loc main_arg0)) (m ((c : Thread nD τ).loc main_arg1))))) := by
  unfold Cert.ReferenceSbfIdeal.Value.res_main_v21; rfl

theorem outY_at (v : FVec Ideal S2x2048x8x64 .f32) (w : FVec Ideal S2x8x2048x2048 .f32) (b : Fin 2) (t : Fin 2048) (d : Fin 512) :
    outY v w (ix3 b t d) = ∑ s : Fin 2048, v (ix4 b s ⟨d.val / 64, by omega⟩ ⟨d.val % 64, by omega⟩) * w (ix4 b ⟨d.val / 64, by omega⟩ t s) := by
  pointwise [outY]

theorem outY_is {A : Args} {q k v : FVec Ideal S2x2048x8x64 .f32} {o : FVec Ideal S2x2048x512 .f32} (h : A.In q k v o)
    (b : Fin 2) (t : Fin 2048) (d : Fin 512) :
    outY v (masked (wt (nz q k))) (ix3 b t d) = ((A.y b (d.val / 64) t (d.val % 64) : ℝ) : EReal) := by
  have hg := Cert.SbRef.a_is h
  generalize masked (wt (nz q k)) = w at hg ⊢
  rw [outY_at, Cert.Sb.sum_mul (fun s => A.v b s (d.val / 64) (d.val % 64)) (fun s => A.a b (d.val / 64) t s)
    (fun s => h.v b s ⟨d.val / 64, by omega⟩ ⟨d.val % 64, by omega⟩) (fun s => hg b ⟨d.val / 64, by omega⟩ t s)]
  unfold Args.y
  exact congrArg _ (Finset.sum_congr rfl fun s _ => mul_comm _ _)

end Reference

/-! ## The precondition -/

/-- Under the precondition the three arrays hold real numbers: these, beside a cotangent of zeros. -/
theorem args_of_pre (a0 a1 a2 : FVec Ideal Cert.Pre_finite_sbf.S2x2048x8x64 .f32) (h : Cert.Pre_finite_sbf.fn (F := Ideal) a0 a1 a2 = fun _ => 1#1) :
    ∃ A : Args, A.In a0 a1 a2 (fun _ => 0) := by
  have e := congrFun h (fun i => i.elim0)
  dsimp only [Cert.Pre_finite_sbf.fn] at e
  obtain ⟨e, e2⟩ := IntOp.andi_eq_one.1 e
  obtain ⟨e0, e1⟩ := IntOp.andi_eq_one.1 e
  exact Cert.SbClaim.args_of_real _ _ _ _ (fun i => Reals.isReal_of_cmp (Host.reduce_andi_all _ _ _ _ _ e0 i))
    (fun i => Reals.isReal_of_cmp (Host.reduce_andi_all _ _ _ _ _ e1 i)) (fun i => Reals.isReal_of_cmp (Host.reduce_andi_all _ _ _ _ _ e2 i))
    fun _ => ⟨0, rfl⟩

/-! ## The value -/

open Cert.KernelSbfIdeal Cert.KernelSbfIdeal.Gen in
/-- The kernel's run, its array named. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = (Cert.Sbf.dats m 0 c).arrAt 3 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, Cert.Sbf.kept m h.1 c⟩) (Cert.Sbf.run_main m ρ)

theorem algebraic : Cert.algebraic_KernelSbfIdeal_ReferenceSbfIdeal_pre_finite_sbf := by
  intro m g m' g' hpre hagree
  refine ⟨_, run_kernel m g, ?_⟩
  refine (θ_run Cert.ReferenceSbfIdeal.defs _ _).mono (fun r h c => ?_) (Cert.ReferenceSbfIdeal.Value.run m' g')
  obtain ⟨h0, hargs⟩ := h c
  obtain ⟨A, hA⟩ := args_of_pre _ _ _ (hpre c)
  have hR := hA
  obtain ⟨e0, e1, e2⟩ := hagree c
  rw [← e0, ← e1, ← e2] at hR
  refine ⟨h0.trans ?_, hargs⟩
  rw [res, Cert.Sbf.final m c A hA]
  exact Cert.SbRef.heads_eq (outY_is hR)

end Cert.SbfClaim

end
-- ==== Proof.Np.Entry.lean ====
/-
  One entry of the forward norm and of its product with the in-projection's weight, as functions of the arguments. Nothing here is
  assumed finite: both programs sum the same products, whatever they are.
-/
module

public import Idealize.ShloMosaic.Lib.Pipeline.ValueKit

@[expose] public section

noncomputable section

open Idealize.ShloMosaic

namespace Cert.Np

/-- Entry `k` of a row normalised by its root mean square, times the gain. -/
def normed (x g : Fin 1024 → EReal) (k : Fin 1024) : EReal :=
  x k * Ideal.rsqrt (Ideal.div (∑ l, x l * x l) (Ideal.ofBits FTy.f32 1149239296#32) + Ideal.ofBits FTy.f32 897988541#32) * g k

/-- A row against a row. -/
def dot (u w : Fin 1024 → EReal) : EReal := ∑ l, u l * w l

/-- Row `r` of the tokens, counted through the batch. -/
def row (x : (⟨3, ![2, 2048, 1024]⟩ : Shape).Idx → EReal) (r : Fin 4096) (l : Fin 1024) : EReal :=
  x (ix3 ⟨r.val / 2048, by omega⟩ ⟨r.val % 2048, by omega⟩ l)

variable (x : (⟨3, ![2, 2048, 1024]⟩ : Shape).Idx → EReal) (g : (⟨1, ![1024]⟩ : Shape).Idx → EReal) (w : (⟨2, ![1024, 5888]⟩ : Shape).Idx → EReal)

/-- Row `r` normalised. -/
def unit (r : Fin 4096) : Fin 1024 → EReal := normed (row x r) fun l => g (ix1 l)

/-- Row `r` normalised against column `j` of the weight. -/
def entry (r : Fin 4096) (j : Fin 5888) : EReal := dot (unit x g r) fun l => w (ix2 l j)

/-- The normalised rows. -/
def units : (⟨2, ![4096, 1024]⟩ : Shape).Idx → EReal := fun i => unit x g (i 0) (i 1)

/-- Columns `o` to `o + n - 1` of the product. -/
def columns (o n : ℕ) (h : o + n ≤ 5888) : (⟨2, ![4096, n]⟩ : Shape).Idx → EReal :=
  fun i => entry x g w (i 0) ⟨o + (i 1).val, by have : (i 1).val < n := (i 1).isLt; omega⟩

end Cert.Np

end
-- ==== Proof.Np.Value.lean ====
/-
  What the forward norm with the in-projection leaves in its four arrays.
-/
module

public import proofs.«01_k».proof.Proof.Gen.KernelNpIdeal.Value
public import proofs.«01_k».proof.Proof.Np.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NpValue

open Cert.KernelNpIdeal Cert.KernelNpIdeal.Gen Cert.Np

/-! ## What a point stores -/

theorem pay4_at (x : FVec Ideal S512x1024 .f32) (g : FVec Ideal S1x1024 .f32) (p : Fin 512) (k : Fin 1024) :
    k0_pay4 (F := Ideal) x g (ix2 p k) = normed (fun l => x (ix2 p l)) (fun l => g (ix2 0 l)) k := by
  pointwise [k0_pay4]
  rfl

theorem pay5_at (x : FVec Ideal S512x1024 .f32) (g : FVec Ideal S1x1024 .f32) (v : FVec Ideal S512x1024 .bf16) (p k : Fin 512) :
    k0_pay5 (F := Ideal) x g v (ix2 p k) = dot (fun l => k0_pay4 (F := Ideal) x g (ix2 p l)) fun l => v (ix2 k l) := by
  unfold k0_pay5
  generalize k0_pay4 (F := Ideal) x g = u
  pointwise []
  rfl

theorem pay8_at (u : FVec Ideal S512x1024 .bf16) (v : FVec Ideal S512x1024 .bf16) (p k : Fin 512) :
    k0_pay8 (F := Ideal) u v (ix2 p k) = dot (fun l => u (ix2 p l)) fun l => v (ix2 k l) := by
  pointwise [k0_pay8]
  rfl

theorem pay12_at (u : FVec Ideal S512x1024 .bf16) (v : FVec Ideal S256x1024 .bf16) (p : Fin 512) (k : Fin 256) :
    k0_pay12 (F := Ideal) u v (ix2 p k) = dot (fun l => u (ix2 p l)) fun l => v (ix2 k l) := by
  pointwise [k0_pay12]
  rfl

/-- A block written in pieces of columns: inside the last piece it is the piece, elsewhere what was written before. -/
theorem piece {e : EltTy} {M n o : ℕ} (inb : ∀ a, (![0, o] : Fin 2 → ℕ) a + (![512, n] : Fin 2 → ℕ) a ≤ (⟨2, ![512, M]⟩ : Shape).size a)
    (w : (⟨2, ![512, n]⟩ : Shape).Idx → Elt Ideal e) (L : List (View.Piece (Elt Ideal) ⟨2, ![512, M]⟩ e)) (p : Fin 512) (l : Fin M) {z : Elt Ideal e}
    (h1 : (ho : o ≤ l.val) → (hn : l.val < o + n) → w (ix2 p ⟨l.val - o, by omega⟩) = z)
    (h2 : ¬(o ≤ l.val ∧ l.val < o + n) → View.canon L (ix2 p l) = z) :
    View.canon (⟨Rect.unit ![0, o] ![512, n] inb, w⟩ :: L) (ix2 p l) = z := by
  by_cases h : o ≤ l.val ∧ l.val < o + n
  · have he : (Rect.unit (s := ⟨2, ![512, M]⟩) ![0, o] ![512, n] inb).emb (ix2 p ⟨l.val - o, by omega⟩ : (⟨2, ![512, n]⟩ : Shape).Idx) = ix2 p l := by
      funext a
      match a with
      | ⟨0, _⟩ => exact Fin.ext (by show 0 + 1 * p.val = p.val; omega)
      | ⟨1, _⟩ => exact Fin.ext (by show o + 1 * (l.val - o) = l.val; omega)
    rw [← he]
    exact (View.canon_cons_emb (Rect.unit (s := ⟨2, ![512, M]⟩) ![0, o] ![512, n] inb) w L _).trans (h1 h.1 h.2)
  · rw [View.canon_cons_of_not_mem]
    · exact h2 h
    · intro hm
      exact h ((Rect.mem_set_unit (inb := inb)).1 hm 1)

/-! ## What a point reads -/

variable (m : (ℓ : Loc nD τ sig) → Buf (Elt Ideal) ℓ) (c : Dev nD) (t : Fin cfg0.N)

/-- Point `t` holds rows `512 t` to `512 t + 511` of the token arrays, and the gain and the weight whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The token that row `p` of point `t`'s block is. -/
abbrev tok (t : Fin cfg0.N) (p : Fin 512) : Fin 4096 :=
  ⟨t.val * 512 + p.val, by have h : t.val < 8 := t.isLt; omega⟩

/-- The three arguments. -/
abbrev X : (⟨3, ![2, 2048, 1024]⟩ : Shape).Idx → EReal := m ((c : Thread nD τ).loc main_arg0)
abbrev G : (⟨1, ![1024]⟩ : Shape).Idx → EReal := m ((c : Thread nD τ).loc main_arg1)
abbrev W : (⟨2, ![1024, 5888]⟩ : Shape).Idx → EReal := m ((c : Thread nD τ).loc main_arg2)

theorem V0 : V m c main_v0 = (shapeCast S4096x1024 (m ((c : Thread nD τ).loc main_arg0) : FVec Ideal S2x2048x1024 .f32) shapeCasts_S2x2048x1024_S4096x1024 : FVec Ideal S4096x1024 .f32) := by
  unfold V; simp only [hostOps0]; after_results_simp <;> rfl

theorem V1 : V m c main_v1 = (shapeCast S1x1024 (m ((c : Thread nD τ).loc main_arg1) : FVec Ideal S1024 .f32) shapeCasts_S1024_S1x1024 : FVec Ideal S1x1024 .f32) := by
  unfold V; simp only [hostOps0]; after_results_simp <;> rfl

theorem V2 : V m c main_v3 = (truncf .bf16 (transpose S5888x1024 [1, 0] (m ((c : Thread nD τ).loc main_arg2) : FVec Ideal S1024x5888 .f32) transposes_S1024x5888_S5888x1024_1_0) bitsLt_bf16_f32 : FVec Ideal S5888x1024 .bf16) := by
  unfold V; simp only [hostOps0]; after_results_simp <;> rfl

theorem tokens_at (x : FVec Ideal S2x2048x1024 .f32) (r : Fin 4096) (l : Fin 1024) :
    shapeCast S4096x1024 x shapeCasts_S2x2048x1024_S4096x1024 (ix2 r l) = row x r l := by
  pointwise []
  rfl

theorem gain_at (g : FVec Ideal S1024 .f32) (l : Fin 1024) :
    shapeCast S1x1024 g shapeCasts_S1024_S1x1024 (ix2 0 l) = g (ix1 l) := by
  pointwise []

theorem weight_at (w : FVec Ideal S1024x5888 .f32) (j : Fin 5888) (l : Fin 1024) :
    truncf .bf16 (transpose S5888x1024 [1, 0] w transposes_S1024x5888_S5888x1024_1_0) bitsLt_bf16_f32 (ix2 j l) = w (ix2 l j) := by
  pointwise []

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem blk0 (p : Fin 512) (l : Fin 1024) : iblk m c 0 t (ix2 p l : S512x1024.Idx) = row (X m c) (tok t p) l :=
  (at_emb (V0 m c) ((cfg0.win 0).blk t).view.emb (j := ix2 (tok t p) l) (by blk_ext [idx t])).trans (tokens_at _ _ _)

theorem blk1 (l : Fin 1024) : iblk m c 1 t (ix2 0 l : S1x1024.Idx) = G m c (ix1 l) :=
  (at_emb (V1 m c) ((cfg0.win 1).blk t).view.emb (j := ix2 0 l) (by blk_ext [idx t])).trans (gain_at _ _)

theorem blk2 (j : Fin 5888) (l : Fin 1024) : iblk m c 2 t (ix2 j l : S5888x1024.Idx) = W m c (ix2 l j) :=
  (at_emb (V2 m c) ((cfg0.win 2).blk t).view.emb (j := ix2 j l) (by blk_ext [idx t])).trans (weight_at _ _ _)

/-- Rows `o` to `o + n - 1` of the weight. -/
theorem ld_at {n : ℕ} (o : ℕ) (inb : ∀ a, (![o, 0] : Fin 2 → ℕ) a + (![n, 1024] : Fin 2 → ℕ) a ≤ S5888x1024.size a) (hn : o + n ≤ 5888) (j : Fin n) (l : Fin 1024) :
    View.ld (Val := Elt Ideal) (S := S5888x1024) (e' := .bf16) (iblk m c 2 t) (Rect.unit ![o, 0] ![n, 1024] inb) (ix2 j l) = W m c (ix2 l ⟨o + j.val, by omega⟩) := by
  refine (View.ld_unit_apply_of (Val := Elt Ideal) (S := S5888x1024) (e := .bf16) (iblk m c 2 t) ![o, 0] ![n, 1024] inb (ix2 j l) (ix2 ⟨o + j.val, by omega⟩ l) fun a => ?_).trans (blk2 m c t _ _)
  match a with
  | ⟨0, _⟩ => rfl
  | ⟨1, _⟩ => exact (Nat.zero_add _).symm

/-- The rows that point `t` normalises. -/
def uB : FVec Ideal S512x1024 .bf16 := k0_pay4 (F := Ideal) (iblk m c 0 t) (iblk m c 1 t)

theorem uB_at (p : Fin 512) (l : Fin 1024) : uB m c t (ix2 p l) = unit (X m c) (G m c) (tok t p) l := by
  refine (pay4_at _ _ p l).trans ?_
  unfold unit
  exact congrFun (congrArg₂ normed (funext fun k => blk0 m c t p k) (funext fun k => blk1 m c t k)) l

/-- `n` rows of the weight from row `o` on, as point `t` reads them. -/
abbrev wB {n : ℕ} (o : ℕ) (inb : ∀ a, (![o, 0] : Fin 2 → ℕ) a + (![n, 1024] : Fin 2 → ℕ) a ≤ S5888x1024.size a) : (⟨2, ![n, 1024]⟩ : Shape).Idx → EReal :=
  View.ld (Val := Elt Ideal) (S := S5888x1024) (e' := .bf16) (iblk m c 2 t) (Rect.unit ![o, 0] ![n, 1024] inb)

/-- A product of the normalised rows with rows of the weight, at the columns that hold it. -/
theorem dot_at {n : ℕ} (o : ℕ) (inb : ∀ a, (![o, 0] : Fin 2 → ℕ) a + (![n, 1024] : Fin 2 → ℕ) a ≤ S5888x1024.size a) (hn : o + n ≤ 5888) (p : Fin 512) (j : Fin n) :
    dot (fun l => uB m c t (ix2 p l)) (fun l => wB m c t o inb (ix2 j l)) = entry (X m c) (G m c) (W m c) (tok t p) ⟨o + j.val, by omega⟩ :=
  congrArg₂ dot (funext fun l => uB_at m c t p l) (funext fun l => ld_at m c t o inb hn j l)

/-- Columns `o` to `o + 511` of the product, rounded and unrounded. -/
def qB (o : ℕ) (inb : ∀ a, (![o, 0] : Fin 2 → ℕ) a + (![512, 1024] : Fin 2 → ℕ) a ≤ S5888x1024.size a) : FVec Ideal S512x512 .bf16 :=
  k0_pay5 (F := Ideal) (iblk m c 0 t) (iblk m c 1 t) (wB m c t o inb)

def pB (o : ℕ) (inb : ∀ a, (![o, 0] : Fin 2 → ℕ) a + (![512, 1024] : Fin 2 → ℕ) a ≤ S5888x1024.size a) : FVec Ideal S512x512 .f32 :=
  k0_pay8 (F := Ideal) (uB m c t) (wB m c t o inb)

theorem qB_at (o : ℕ) (inb : ∀ a, (![o, 0] : Fin 2 → ℕ) a + (![512, 1024] : Fin 2 → ℕ) a ≤ S5888x1024.size a) (hn : o + 512 ≤ 5888) (p j : Fin 512) :
    qB m c t o inb (ix2 p j) = entry (X m c) (G m c) (W m c) (tok t p) ⟨o + j.val, by omega⟩ :=
  (pay5_at _ _ _ p j).trans (dot_at m c t o inb hn p j)

theorem pB_at (o : ℕ) (inb : ∀ a, (![o, 0] : Fin 2 → ℕ) a + (![512, 1024] : Fin 2 → ℕ) a ≤ S5888x1024.size a) (hn : o + 512 ≤ 5888) (p j : Fin 512) :
    pB m c t o inb (ix2 p j) = entry (X m c) (G m c) (W m c) (tok t p) ⟨o + j.val, by omega⟩ :=
  (pay8_at _ _ p j).trans (dot_at m c t o inb hn p j)

/-! ## What a point leaves in its windows, the pieces last write first -/

def sbB : FVec Ideal S512x1536 .bf16 := View.canon (Val := Elt Ideal) (s := S512x1536) (e := .bf16)
  [⟨Rect.unit ![0, 1024] ![512, 512] inb_S512x1536_S512x512_0_1024, qB m c t 1024 inb_S5888x1024_S512x1024_1024_0⟩,
    ⟨Rect.unit ![0, 512] ![512, 512] inb_S512x1536_S512x512_0_512, qB m c t 512 inb_S5888x1024_S512x1024_512_0⟩,
    ⟨Rect.unit ![0, 0] ![512, 512] inb_S512x1536_S512x512_0_0, qB m c t 0 inb_S5888x1024_S512x1024_0_0⟩]

def dlB : FVec Ideal S512x2304 .f32 := View.canon (Val := Elt Ideal) (s := S512x2304) (e := .f32)
  [⟨Rect.unit ![0, 2048] ![512, 256] inb_S512x2304_S512x256_0_2048, k0_pay12 (F := Ideal) (uB m c t) (wB m c t 3584 inb_S5888x1024_S256x1024_3584_0)⟩,
    ⟨Rect.unit ![0, 1536] ![512, 512] inb_S512x2304_S512x512_0_1536, pB m c t 3072 inb_S5888x1024_S512x1024_3072_0⟩,
    ⟨Rect.unit ![0, 1024] ![512, 512] inb_S512x2304_S512x512_0_1024, pB m c t 2560 inb_S5888x1024_S512x1024_2560_0⟩,
    ⟨Rect.unit ![0, 512] ![512, 512] inb_S512x2304_S512x512_0_512, pB m c t 2048 inb_S5888x1024_S512x1024_2048_0⟩,
    ⟨Rect.unit ![0, 0] ![512, 512] inb_S512x2304_S512x512_0_0, pB m c t 1536 inb_S5888x1024_S512x1024_1536_0⟩]

def gtB : FVec Ideal S512x2048 .f32 := View.canon (Val := Elt Ideal) (s := S512x2048) (e := .f32)
  [⟨Rect.unit ![0, 1536] ![512, 512] inb_S512x2048_S512x512_0_1536, pB m c t 5376 inb_S5888x1024_S512x1024_5376_0⟩,
    ⟨Rect.unit ![0, 1024] ![512, 512] inb_S512x2048_S512x512_0_1024, pB m c t 4864 inb_S5888x1024_S512x1024_4864_0⟩,
    ⟨Rect.unit ![0, 512] ![512, 512] inb_S512x2048_S512x512_0_512, pB m c t 4352 inb_S5888x1024_S512x1024_4352_0⟩,
    ⟨Rect.unit ![0, 0] ![512, 512] inb_S512x2048_S512x512_0_0, pB m c t 3840 inb_S5888x1024_S512x1024_3840_0⟩]

theorem after3 : (dats m 0 c).after 3 t = sbB m c t := by
  rw [after0_3]
  unfold outsAt0
  dsimp only
  frame_out
  rfl

theorem after4 : (dats m 0 c).after 4 t = dlB m c t := by
  rw [after0_4]
  unfold outsAt0
  dsimp only
  frame_out
  rfl

theorem after5 : (dats m 0 c).after 5 t = gtB m c t := by
  rw [after0_5]
  unfold outsAt0
  dsimp only
  frame_out
  rfl

theorem after6 : (dats m 0 c).after 6 t = uB m c t := by
  rw [after0_6]
  unfold outsAt0
  dsimp only
  frame_out
  rfl

/-- A column counted from the piece's first is the same column counted from the block's first. -/
theorem col {r : Fin 4096} {o q j : ℕ} {h : o + q + (j - q) < 5888} (hj : q ≤ j) (h' : o + j < 5888) :
    entry (X m c) (G m c) (W m c) r ⟨o + q + (j - q), h⟩ = entry (X m c) (G m c) (W m c) r ⟨o + j, h'⟩ :=
  congrArg _ (Fin.ext (by show o + q + (j - q) = o + j; omega))

/-- Every column of a block stands in one of its pieces. -/
theorem sbB_at (p : Fin 512) (l : Fin 1536) : sbB m c t (ix2 p l) = entry (X m c) (G m c) (W m c) (tok t p) ⟨0 + l.val, by omega⟩ := by
  have hl := l.isLt
  refine piece _ _ _ p l (fun ho hn => (qB_at m c t _ _ (by omega) p _).trans (col m c (o := 0) ho _)) fun n2 => ?_
  refine piece _ _ _ p l (fun ho hn => (qB_at m c t _ _ (by omega) p _).trans (col m c (o := 0) ho _)) fun n1 => ?_
  exact piece _ _ _ p l (fun ho hn => (qB_at m c t _ _ (by omega) p _).trans (col m c (o := 0) ho _)) fun n0 => by omega

theorem dlB_at (p : Fin 512) (l : Fin 2304) : dlB m c t (ix2 p l) = entry (X m c) (G m c) (W m c) (tok t p) ⟨1536 + l.val, by omega⟩ := by
  have hl := l.isLt
  refine piece _ _ _ p l (fun ho hn => ((pay12_at _ _ p _).trans (dot_at m c t _ _ (by omega) p _)).trans (col m c (o := 1536) ho _)) fun n4 => ?_
  refine piece _ _ _ p l (fun ho hn => (pB_at m c t _ _ (by omega) p _).trans (col m c (o := 1536) ho _)) fun n3 => ?_
  refine piece _ _ _ p l (fun ho hn => (pB_at m c t _ _ (by omega) p _).trans (col m c (o := 1536) ho _)) fun n2 => ?_
  refine piece _ _ _ p l (fun ho hn => (pB_at m c t _ _ (by omega) p _).trans (col m c (o := 1536) ho _)) fun n1 => ?_
  exact piece _ _ _ p l (fun ho hn => (pB_at m c t _ _ (by omega) p _).trans (col m c (o := 1536) ho _)) fun n0 => by omega

theorem gtB_at (p : Fin 512) (l : Fin 2048) : gtB m c t (ix2 p l) = entry (X m c) (G m c) (W m c) (tok t p) ⟨3840 + l.val, by omega⟩ := by
  have hl := l.isLt
  refine piece _ _ _ p l (fun ho hn => (pB_at m c t _ _ (by omega) p _).trans (col m c (o := 3840) ho _)) fun n3 => ?_
  refine piece _ _ _ p l (fun ho hn => (pB_at m c t _ _ (by omega) p _).trans (col m c (o := 3840) ho _)) fun n2 => ?_
  refine piece _ _ _ p l (fun ho hn => (pB_at m c t _ _ (by omega) p _).trans (col m c (o := 3840) ho _)) fun n1 => ?_
  exact piece _ _ _ p l (fun ho hn => (pB_at m c t _ _ (by omega) p _).trans (col m c (o := 3840) ho _)) fun n0 => by omega

/-! ## The arrays -/

theorem block_at {k : ℕ} (A : (⟨2, ![4096, k]⟩ : Shape).Idx → EReal) (p : Fin 512) (l : Fin k) {i : (⟨2, ![4096, k]⟩ : Shape).Idx} (h : i = ix2 (tok t p) l) :
    A (ix2 (tok t p) l) = A i := by
  subst h; rfl

/-- The stick-breaking attention's q, k and v. -/
theorem final3 : (dats m 0 c).arrAt 3 cfg0.N = (columns (X m c) (G m c) (W m c) 0 1536 (by omega) : FVec Ideal S4096x1536 .bf16) := by
  refine (dats m 0 c).arrAt_eq_of_covers 3 _ (by decide +kernel) fun t _ y => ?_
  blk_simp
  obtain ⟨p, l, rfl⟩ : ∃ (p : Fin 512) (l : Fin 1536), y = (ix2 p l : S512x1536.Idx) := ⟨y 0, y 1, eq_ix2 y⟩
  have he : ((cfg0.win 3).blk t).view.emb (ix2 p l : S512x1536.Idx) = (ix2 (tok t p) l : S4096x1536.Idx) := by
    blk_ext [idx t]
  exact (congrFun (after3 m c t) _).trans ((sbB_at m c t p l).trans (block_at t (columns (X m c) (G m c) (W m c) 0 1536 (by omega)) p l he))

/-- The dilated attention's q, k and v. -/
theorem final4 : (dats m 0 c).arrAt 4 cfg0.N = (columns (X m c) (G m c) (W m c) 1536 2304 (by omega) : FVec Ideal S4096x2304 .f32) := by
  refine (dats m 0 c).arrAt_eq_of_covers 4 _ (by decide +kernel) fun t _ y => ?_
  blk_simp
  obtain ⟨p, l, rfl⟩ : ∃ (p : Fin 512) (l : Fin 2304), y = (ix2 p l : S512x2304.Idx) := ⟨y 0, y 1, eq_ix2 y⟩
  have he : ((cfg0.win 4).blk t).view.emb (ix2 p l : S512x2304.Idx) = (ix2 (tok t p) l : S4096x2304.Idx) := by
    blk_ext [idx t]
  exact (congrFun (after4 m c t) _).trans ((dlB_at m c t p l).trans (block_at t (columns (X m c) (G m c) (W m c) 1536 2304 (by omega)) p l he))

/-- The gates. -/
theorem final5 : (dats m 0 c).arrAt 5 cfg0.N = (columns (X m c) (G m c) (W m c) 3840 2048 (by omega) : FVec Ideal S4096x2048 .f32) := by
  refine (dats m 0 c).arrAt_eq_of_covers 5 _ (by decide +kernel) fun t _ y => ?_
  blk_simp
  obtain ⟨p, l, rfl⟩ : ∃ (p : Fin 512) (l : Fin 2048), y = (ix2 p l : S512x2048.Idx) := ⟨y 0, y 1, eq_ix2 y⟩
  have he : ((cfg0.win 5).blk t).view.emb (ix2 p l : S512x2048.Idx) = (ix2 (tok t p) l : S4096x2048.Idx) := by
    blk_ext [idx t]
  exact (congrFun (after5 m c t) _).trans ((gtB_at m c t p l).trans (block_at t (columns (X m c) (G m c) (W m c) 3840 2048 (by omega)) p l he))

/-- The normalised rows. -/
theorem final6 : (dats m 0 c).arrAt 6 cfg0.N = (units (X m c) (G m c) : FVec Ideal S4096x1024 .bf16) := by
  refine (dats m 0 c).arrAt_eq_of_covers 6 _ (by decide +kernel) fun t _ y => ?_
  blk_simp
  obtain ⟨p, l, rfl⟩ : ∃ (p : Fin 512) (l : Fin 1024), y = (ix2 p l : S512x1024.Idx) := ⟨y 0, y 1, eq_ix2 y⟩
  have he : ((cfg0.win 6).blk t).view.emb (ix2 p l : S512x1024.Idx) = (ix2 (tok t p) l : S4096x1024.Idx) := by
    blk_ext [idx t]
  exact (congrFun (after6 m c t) _).trans ((uB_at m c t p l).trans (block_at t (units (X m c) (G m c)) p l he))

end Cert.NpValue

end
-- ==== Proof.Np.Claim.lean ====
/-
  The claims about the forward norm with the in-projection: frames, and the value, for any arguments.
-/
module

public import proofs.«01_k».proof.Defs
public import proofs.«01_k».proof.Proof.Gen.KernelNp.Frame
public import proofs.«01_k».proof.Proof.Gen.ReferenceNpIdeal.Run
public import proofs.«01_k».proof.Proof.Np.Value
public import Idealize.ShloMosaic.Lib.Claim

@[expose] public section

set_option maxRecDepth 16384

noncomputable section

open Idealize.ShloMosaic Idealize.ShloMosaic.TcCoe Idealize.SL.Sem

namespace Cert.NpClaim

open Cert.Np

theorem frame_reference : Cert.quiescent_ReferenceNpIdeal := by
  intro m g _
  hlo_run
  · exact fun _ => ⟨trivial, trivial, trivial⟩
  · exact sem_eq_zero_of_no_sems (sig := Cert.ReferenceNpIdeal.sig) (by decide) _

section Reference

open Cert.ReferenceNpIdeal Cert.ReferenceNpIdeal.Gen

variable (x : FVec Ideal S2x2048x1024 .f32) (g : FVec Ideal S1024 .f32) (w : FVec Ideal S1024x5888 .f32)

/-- The reference's normalised rows. -/
def un : FVec Ideal S2x2048x1024 .f32 :=
  mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 g))

/-- Their product with the weight. -/
def pr : FVec Ideal S2x2048x5888 .f32 := Host.dotGeneral dot_S2x2048x1024_S1024x5888_S2x2048x5888_2_0_01_1_n_n none (un x g) w

theorem un_at (b : Fin 2) (t : Fin 2048) (l : Fin 1024) :
    un x g (ix3 b t l) = normed (fun k => x (ix3 b t k)) (fun k => g (ix1 k)) l := by
  pointwise [un]
  rfl

theorem pr_at (b : Fin 2) (t : Fin 2048) (j : Fin 5888) :
    pr x g w (ix3 b t j) = dot (normed (fun k => x (ix3 b t k)) fun k => g (ix1 k)) fun l => w (ix2 l j) := by
  have h : ∀ l, un x g (ix3 b t l) = _ := un_at x g b t
  unfold pr
  generalize un x g = u at h ⊢
  pointwise []
  exact congrArg₂ dot (funext h) rfl

theorem res0 : (truncf .bf16 (shapeCast S4096x1536 (extractStridedSlice S2x2048x1536 ![0, 0, 0] (pr x g w) slices_S2x2048x5888_S2x2048x1536_0_0_0) shapeCasts_S2x2048x1536_S4096x1536) bitsLt_bf16_f32 : FVec Ideal S4096x1536 .bf16)
    = columns x g w 0 1536 (by omega) := by
  funext i
  obtain ⟨r, j, rfl⟩ : ∃ (r : Fin 4096) (j : Fin 1536), i = ix2 r j := ⟨i 0, i 1, eq_ix2 i⟩
  have h := pr_at x g w
  generalize pr x g w = p at h ⊢
  pointwise []
  rw [h]
  exact congrArg (entry x g w r) (Fin.ext (Nat.zero_add j.val).symm)

theorem res1 : (shapeCast S4096x2304 (extractStridedSlice S2x2048x2304 ![0, 0, 1536] (pr x g w) slices_S2x2048x5888_S2x2048x2304_0_0_1536) shapeCasts_S2x2048x2304_S4096x2304 : FVec Ideal S4096x2304 .f32)
    = columns x g w 1536 2304 (by omega) := by
  funext i
  obtain ⟨r, j, rfl⟩ : ∃ (r : Fin 4096) (j : Fin 2304), i = ix2 r j := ⟨i 0, i 1, eq_ix2 i⟩
  have h := pr_at x g w
  generalize pr x g w = p at h ⊢
  pointwise []
  rw [h]
  rfl

theorem res2 : (shapeCast S4096x2048 (extractStridedSlice S2x2048x2048 ![0, 0, 3840] (pr x g w) slices_S2x2048x5888_S2x2048x2048_0_0_3840) shapeCasts_S2x2048x2048_S4096x2048 : FVec Ideal S4096x2048 .f32)
    = columns x g w 3840 2048 (by omega) := by
  funext i
  obtain ⟨r, j, rfl⟩ : ∃ (r : Fin 4096) (j : Fin 2048), i = ix2 r j := ⟨i 0, i 1, eq_ix2 i⟩
  have h := pr_at x g w
  generalize pr x g w = p at h ⊢
  pointwise []
  rw [h]
  rfl

theorem res3 : (truncf .bf16 (shapeCast S4096x1024 (un x g) shapeCasts_S2x2048x1024_S4096x1024) bitsLt_bf16_f32 : FVec Ideal S4096x1024 .bf16) = units x g := by
  funext i
  obtain ⟨r, j, rfl⟩ : ∃ (r : Fin 4096) (j : Fin 1024), i = ix2 r j := ⟨i 0, i 1, eq_ix2 i⟩
  have h := un_at x g
  generalize un x g = u at h ⊢
  pointwise []
  rw [h]
  rfl

end Reference

theorem algebraic : Cert.algebraic_KernelNpIdeal_ReferenceNpIdeal := by
  intro m g m' g' _ hagree
  refine ⟨_, _, _, _, Cert.KernelNpIdeal.Value.run_blocks m g, ?_⟩
  refine (θ_run Cert.ReferenceNpIdeal.defs _ _).mono (fun r h c => ?_) (Cert.ReferenceNpIdeal.Value.run m' g')
  obtain ⟨h0, h1, h2, h3, hargs⟩ := h c
  obtain ⟨e0, e1, e2⟩ := hagree c
  refine ⟨h0.trans ?_, h1.trans ?_, h2.trans ?_, h3.trans ?_, hargs⟩
  · rw [e0, e1, e2, Cert.NpValue.final3 m c]
    exact res0 _ _ _
  · rw [e0, e1, e2, Cert.NpValue.final4 m c]
    exact res1 _ _ _
  · rw [e0, e1, e2, Cert.NpValue.final5 m c]
    exact res2 _ _ _
  · rw [e0, e1, Cert.NpValue.final6 m c]
    exact res3 _ _

end Cert.NpClaim

end
-- ==== Proof.Tokens.Sum.lean ====
/-
  A weight's gradient as a sum over the tokens, and that sum taken in blocks. Nothing is assumed finite.
-/
module

public import Idealize.ShloMosaic.Lib.Pipeline.ValueKit

@[expose] public section

noncomputable section

open Idealize.ShloMosaic

namespace Cert.Tokens

/-- What row `r` of a batch of two sequences holds in column `j`. -/
def row {n : ℕ} (x : (⟨3, ![2, 2048, n]⟩ : Shape).Idx → EReal) (r : ℕ) (j : Fin n) : EReal :=
  x (ix3 ⟨r / 2048 % 2, by omega⟩ ⟨r % 2048, by omega⟩ j)

theorem row_fin {n : ℕ} (x : (⟨3, ![2, 2048, n]⟩ : Shape).Idx → EReal) (r : ℕ) (s : Fin 2) (t : Fin 2048) (j : Fin n)
    (h : r = s.val * 2048 + t.val) : row x r j = x (ix3 s t j) := by
  have h1 : (⟨r / 2048 % 2, by omega⟩ : Fin 2) = s := Fin.ext (by show r / 2048 % 2 = s.val; omega)
  have h2 : (⟨r % 2048, by omega⟩ : Fin 2048) = t := Fin.ext (by show r % 2048 = t.val; omega)
  unfold row
  rw [h1, h2]

/-- A sum of `n` blocks of `k` terms is the sum of all terms. -/
theorem blocks (n k : ℕ) (g : ℕ → EReal) : ∑ b : Fin n, ∑ l : Fin k, g (b.val * k + l.val) = ∑ r : Fin (n * k), g r.val := by
  rw [← Fintype.sum_prod_type' fun (b : Fin n) (l : Fin k) => g (b.val * k + l.val)]
  refine Fintype.sum_equiv finProdFinEquiv _ _ fun bl => ?_
  show g _ = g (bl.2.val + k * bl.1.val)
  rw [Nat.mul_comm, Nat.add_comm]

/-- The gradient's entry: one array's column against the other's, over all tokens. -/
def grad {n k : ℕ} (a : (⟨3, ![2, 2048, n]⟩ : Shape).Idx → EReal) (b : (⟨3, ![2, 2048, k]⟩ : Shape).Idx → EReal) (j : Fin n) (l : Fin k) : EReal :=
  ∑ s, ∑ t, a (ix3 s t j) * b (ix3 s t l)

/-- The sum of block `c` of `w` tokens. -/
def part {n k : ℕ} (w : ℕ) (a : (⟨3, ![2, 2048, n]⟩ : Shape).Idx → EReal) (b : (⟨3, ![2, 2048, k]⟩ : Shape).Idx → EReal) (j : Fin n) (l : Fin k) (c : ℕ) : EReal :=
  ∑ q : Fin w, row a (c * w + q.val) j * row b (c * w + q.val) l

variable {n k : ℕ} (a : (⟨3, ![2, 2048, n]⟩ : Shape).Idx → EReal) (b : (⟨3, ![2, 2048, k]⟩ : Shape).Idx → EReal) (j : Fin n) (l : Fin k)

theorem grad_eq : grad a b j l = ∑ r : Fin (2 * 2048), row a r.val j * row b r.val l := by
  rw [← blocks 2 2048 fun r => row a r j * row b r l]
  refine Finset.sum_congr rfl fun s _ => Finset.sum_congr rfl fun t _ => ?_
  rw [row_fin a _ s t j rfl, row_fin b _ s t l rfl]

/-- Eight blocks of 512 tokens are all tokens. -/
theorem grad_eight : grad a b j l = ∑ c : Fin 8, part 512 a b j l c.val :=
  (grad_eq a b j l).trans (blocks 8 512 fun r => row a r j * row b r l).symm

/-- Two blocks of 2048 tokens are all tokens. -/
theorem grad_two : grad a b j l = ∑ c : Fin 2, part 2048 a b j l c.val :=
  (grad_eq a b j l).trans (blocks 2 2048 fun r => row a r j * row b r l).symm

end Cert.Tokens

end
-- ==== Proof.Cols.Claim.lean ====
/-
  The product over the tokens that takes one block of columns at a time: frames, and the value, for any arguments.
-/
module

public import proofs.«01_k».proof.Defs
public import proofs.«01_k».proof.Proof.Gen.KernelCols.Frame
public import proofs.«01_k».proof.Proof.Gen.KernelColsIdeal.Value
public import proofs.«01_k».proof.Proof.Gen.ReferenceColsIdeal.Run
public import proofs.«01_k».proof.Proof.Tokens.Sum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ColsClaim

open Cert.Tokens

theorem frame_reference : Cert.quiescent_ReferenceColsIdeal := by
  intro m g _
  hlo_run
  · exact fun _ => ⟨trivial, trivial⟩
  · exact sem_eq_zero_of_no_sems (sig := Cert.ReferenceColsIdeal.sig) (by decide) _

/-- The gradient's array. -/
def grads (a : (⟨3, ![2, 2048, 5632]⟩ : Shape).Idx → EReal) (b : (⟨3, ![2, 2048, 1024]⟩ : Shape).Idx → EReal) : (⟨2, ![5632, 1024]⟩ : Shape).Idx → EReal :=
  fun i => grad a b (i 0) (i 1)

section Reference

open Cert.ReferenceColsIdeal Cert.ReferenceColsIdeal.Gen

theorem reference_value (a : FVec Ideal S2x2048x5632 .f32) (b : FVec Ideal S2x2048x1024 .f32) :
    (truncf .bf16 (Host.dotGeneral dot_S2x2048x5632_S2x2048x1024_S5632x1024_01_01_2_2_n_n none a b) bitsLt_bf16_f32 : FVec Ideal S5632x1024 .bf16) = grads a b := by
  funext i
  obtain ⟨j, l, rfl⟩ : ∃ (j : Fin 5632) (l : Fin 1024), i = ix2 j l := ⟨i 0, i 1, eq_ix2 i⟩
  pointwise []
  rfl

end Reference

section Kernel

open Cert.KernelColsIdeal Cert.KernelColsIdeal.Gen

/-- One block of tokens against another. -/
def sumB (a : FVec Ideal S512x512 .bf16) (b : FVec Ideal S512x1024 .bf16) (p : Fin 512) (l : Fin 1024) : EReal :=
  ∑ q, a (ix2 q p) * b (ix2 q l)

theorem pay2_at (a0 a1 a2 a3 a4 : FVec Ideal S512x512 .bf16) (b0 b1 b2 b3 b4 : FVec Ideal S512x1024 .bf16) (p : Fin 512) (l : Fin 1024) :
    k0_pay2 (F := Ideal) a0 b0 a1 b1 a2 b2 a3 b3 a4 b4 (ix2 p l)
      = sumB a0 b0 p l + sumB a1 b1 p l + sumB a2 b2 p l + sumB a3 b3 p l + sumB a4 b4 p l := by
  pointwise [k0_pay2]
  rfl

theorem pay1_at (s : FVec Ideal S512x1024 .f32) (a0 a1 a2 : FVec Ideal S512x512 .bf16) (b0 b1 b2 : FVec Ideal S512x1024 .bf16) (p : Fin 512) (l : Fin 1024) :
    k0_pay1 (F := Ideal) s a0 b0 a1 b1 a2 b2 (ix2 p l) = s (ix2 p l) + sumB a0 b0 p l + sumB a1 b1 p l + sumB a2 b2 p l := by
  pointwise [k0_pay1]
  rfl

variable (m : (ℓ : Loc nD τ sig) → Buf (Elt Ideal) ℓ) (c : Dev nD) (t : Fin cfg0.N)

/-- Point `t` holds columns `512 t` to `512 t + 511` of the first array, the second array whole, and the same rows of the result. -/
theorem idx : ∀ t : Fin cfg0.N, win0_0.index t = ![0, t.val] ∧ win0_1.index t = ![0, 0] ∧ win0_2.index t = ![t.val, 0] :=
  (by decide +kernel : ∀ t : Fin grid0.N, _)

/-- The column that column `p` of point `t`'s block is. -/
abbrev col (t : Fin cfg0.N) (p : Fin 512) : Fin 5632 :=
  ⟨t.val * 512 + p.val, by have h : t.val < 11 := t.isLt; omega⟩

/-- The two arguments. -/
abbrev A : (⟨3, ![2, 2048, 5632]⟩ : Shape).Idx → EReal := m ((c : Thread nD τ).loc main_arg0)
abbrev B : (⟨3, ![2, 2048, 1024]⟩ : Shape).Idx → EReal := m ((c : Thread nD τ).loc main_arg1)

theorem V1 : V m c main_v1 = (truncf .bf16 (shapeCast S4096x5632 (m ((c : Thread nD τ).loc main_arg0) : FVec Ideal S2x2048x5632 .f32) shapeCasts_S2x2048x5632_S4096x5632) bitsLt_bf16_f32 : FVec Ideal S4096x5632 .bf16) := by
  unfold V; simp only [hostOps0]; after_results_simp <;> rfl

theorem V3 : V m c main_v3 = (truncf .bf16 (shapeCast S4096x1024 (m ((c : Thread nD τ).loc main_arg1) : FVec Ideal S2x2048x1024 .f32) shapeCasts_S2x2048x1024_S4096x1024) bitsLt_bf16_f32 : FVec Ideal S4096x1024 .bf16) := by
  unfold V; simp only [hostOps0]; after_results_simp <;> rfl

theorem left_at (x : FVec Ideal S2x2048x5632 .f32) (r : Fin 4096) (j : Fin 5632) :
    truncf .bf16 (shapeCast S4096x5632 x shapeCasts_S2x2048x5632_S4096x5632) bitsLt_bf16_f32 (ix2 r j) = row x r.val j := by
  pointwise []
  exact (row_fin x r.val _ _ j (by show r.val = r.val / 2048 * 2048 + r.val % 2048; omega)).symm

theorem right_at (x : FVec Ideal S2x2048x1024 .f32) (r : Fin 4096) (j : Fin 1024) :
    truncf .bf16 (shapeCast S4096x1024 x shapeCasts_S2x2048x1024_S4096x1024) bitsLt_bf16_f32 (ix2 r j) = row x r.val j := by
  pointwise []
  exact (row_fin x r.val _ _ j (by show r.val = r.val / 2048 * 2048 + r.val % 2048; omega)).symm

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem blk0 (r : Fin 4096) (p : Fin 512) : iblk m c 0 t (ix2 r p : S4096x512.Idx) = row (A m c) r.val (col t p) :=
  (at_emb (V1 m c) ((cfg0.win 0).blk t).view.emb (j := ix2 r (col t p)) (by blk_ext [idx t])).trans (left_at _ _ _)

theorem blk1 (r : Fin 4096) (l : Fin 1024) : iblk m c 1 t (ix2 r l : S4096x1024.Idx) = row (B m c) r.val l :=
  (at_emb (V3 m c) ((cfg0.win 1).blk t).view.emb (j := ix2 r l) (by blk_ext [idx t])).trans (right_at _ _ _)

/-- 512 tokens from token `o` on, of the two blocks. -/
theorem ld0 (o : ℕ) (inb : ∀ a, (![o, 0] : Fin 2 → ℕ) a + (![512, 512] : Fin 2 → ℕ) a ≤ S4096x512.size a) (ho : o + 512 ≤ 4096) (q p : Fin 512) :
    View.ld (Val := Elt Ideal) (S := S4096x512) (e' := .bf16) (iblk m c 0 t) (Rect.unit ![o, 0] ![512, 512] inb) (ix2 q p) = row (A m c) (o + q.val) (col t p) := by
  refine (View.ld_unit_apply_of (Val := Elt Ideal) (S := S4096x512) (e := .bf16) (iblk m c 0 t) ![o, 0] ![512, 512] inb (ix2 q p) (ix2 ⟨o + q.val, by omega⟩ p) fun a => ?_).trans (blk0 m c t _ _)
  match a with
  | ⟨0, _⟩ => rfl
  | ⟨1, _⟩ => exact (Nat.zero_add _).symm

theorem ld1 (o : ℕ) (inb : ∀ a, (![o, 0] : Fin 2 → ℕ) a + (![512, 1024] : Fin 2 → ℕ) a ≤ S4096x1024.size a) (ho : o + 512 ≤ 4096) (q : Fin 512) (l : Fin 1024) :
    View.ld (Val := Elt Ideal) (S := S4096x1024) (e' := .bf16) (iblk m c 1 t) (Rect.unit ![o, 0] ![512, 1024] inb) (ix2 q l) = row (B m c) (o + q.val) l := by
  refine (View.ld_unit_apply_of (Val := Elt Ideal) (S := S4096x1024) (e := .bf16) (iblk m c 1 t) ![o, 0] ![512, 1024] inb (ix2 q l) (ix2 ⟨o + q.val, by omega⟩ l) fun a => ?_).trans (blk1 m c t _ _)
  match a with
  | ⟨0, _⟩ => rfl
  | ⟨1, _⟩ => exact (Nat.zero_add _).symm

/-- The product of one block of tokens is that block's part of the gradient. -/
theorem sum_ld (k : ℕ) (i0 : ∀ a, (![k * 512, 0] : Fin 2 → ℕ) a + (![512, 512] : Fin 2 → ℕ) a ≤ S4096x512.size a)
    (i1 : ∀ a, (![k * 512, 0] : Fin 2 → ℕ) a + (![512, 1024] : Fin 2 → ℕ) a ≤ S4096x1024.size a) (hk : k < 8) (p : Fin 512) (l : Fin 1024) :
    sumB (View.ld (Val := Elt Ideal) (S := S4096x512) (e' := .bf16) (iblk m c 0 t) (Rect.unit ![k * 512, 0] ![512, 512] i0))
        (View.ld (Val := Elt Ideal) (S := S4096x1024) (e' := .bf16) (iblk m c 1 t) (Rect.unit ![k * 512, 0] ![512, 1024] i1)) p l
      = part 512 (A m c) (B m c) (col t p) l k :=
  Finset.sum_congr rfl fun q _ => congrArg₂ (· * ·) (ld0 m c t _ i0 (by omega) q p) (ld1 m c t _ i1 (by omega) q l)

theorem after2 (p : Fin 512) (l : Fin 1024) : (dats m 0 c).after 2 t (ix2 p l : S512x1024.Idx) = grad (A m c) (B m c) (col t p) l := by
  have h : (dats m 0 c).after 2 t = k0_pay1 (F := Ideal) (k0_pay2 (F := Ideal) (View.ld (iblk m c 0 t) r0_0) (View.ld (iblk m c 1 t) r0_1) (View.ld (iblk m c 0 t) r0_2) (View.ld (iblk m c 1 t) r0_3) (View.ld (iblk m c 0 t) r0_4) (View.ld (iblk m c 1 t) r0_5) (View.ld (iblk m c 0 t) r0_6) (View.ld (iblk m c 1 t) r0_7) (View.ld (iblk m c 0 t) r0_8) (View.ld (iblk m c 1 t) r0_9)) (View.ld (iblk m c 0 t) r0_10) (View.ld (iblk m c 1 t) r0_11) (View.ld (iblk m c 0 t) r0_12) (View.ld (iblk m c 1 t) r0_13) (View.ld (iblk m c 0 t) r0_14) (View.ld (iblk m c 1 t) r0_15) := by
    rw [after0_2]
    unfold out0_2
    frame_out
    rfl
  refine (congrFun h _).trans ?_
  rw [pay1_at, pay2_at, grad_eight, Fin.sum_univ_eight]
  exact congrArg₂ (· + ·) (congrArg₂ (· + ·) (congrArg₂ (· + ·) (congrArg₂ (· + ·) (congrArg₂ (· + ·) (congrArg₂ (· + ·) (congrArg₂ (· + ·)
    (sum_ld m c t 0 _ _ (by omega) p l) (sum_ld m c t 1 _ _ (by omega) p l)) (sum_ld m c t 2 _ _ (by omega) p l)) (sum_ld m c t 3 _ _ (by omega) p l))
    (sum_ld m c t 4 _ _ (by omega) p l)) (sum_ld m c t 5 _ _ (by omega) p l)) (sum_ld m c t 6 _ _ (by omega) p l)) (sum_ld m c t 7 _ _ (by omega) p l)

theorem block_at (X : (⟨2, ![5632, 1024]⟩ : Shape).Idx → EReal) (p : Fin 512) (l : Fin 1024) {i : (⟨2, ![5632, 1024]⟩ : Shape).Idx} (h : i = ix2 (col t p) l) :
    X (ix2 (col t p) l) = X i := by
  subst h; rfl

theorem final : (dats m 0 c).arrAt 2 cfg0.N = (grads (A m c) (B m c) : FVec Ideal S5632x1024 .bf16) := by
  refine (dats m 0 c).arrAt_eq_of_covers 2 _ (by decide +kernel) fun t _ y => ?_
  blk_simp
  obtain ⟨p, l, rfl⟩ : ∃ (p : Fin 512) (l : Fin 1024), y = (ix2 p l : S512x1024.Idx) := ⟨y 0, y 1, eq_ix2 y⟩
  have he : ((cfg0.win 2).blk t).view.emb (ix2 p l : S512x1024.Idx) = (ix2 (col t p) l : S5632x1024.Idx) := by
    blk_ext [idx t]
  exact (after2 m c t p l).trans (block_at t (grads (A m c) (B m c)) p l he)

end Kernel

theorem algebraic : Cert.algebraic_KernelColsIdeal_ReferenceColsIdeal := by
  intro m g m' g' _ hagree
  refine ⟨_, Cert.KernelColsIdeal.Value.run_blocks m g, ?_⟩
  refine (θ_run Cert.ReferenceColsIdeal.defs _ _).mono (fun r h c => ?_) (Cert.ReferenceColsIdeal.Value.run m' g')
  obtain ⟨h0, hargs⟩ := h c
  obtain ⟨e0, e1⟩ := hagree c
  refine ⟨h0.trans ?_, hargs⟩
  rw [e0, e1, final m c]
  exact reference_value _ _

end Cert.ColsClaim

end
-- ==== Proof.Atb.Claim.lean ====
/-
  The product over the tokens that takes one sequence at a time into a carried sum: frames, and the value, for any arguments.
-/
module

public import proofs.«01_k».proof.Defs
public import proofs.«01_k».proof.Proof.Gen.KernelAtb.Frame
public import proofs.«01_k».proof.Proof.Gen.KernelAtbIdeal.Value
public import proofs.«01_k».proof.Proof.Gen.ReferenceAtbIdeal.Run
public import proofs.«01_k».proof.Proof.Tokens.Sum
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AtbClaim

open Cert.Tokens

theorem frame_reference : Cert.quiescent_ReferenceAtbIdeal := by
  intro m g _
  hlo_run
  · exact fun _ => ⟨trivial, trivial⟩
  · exact sem_eq_zero_of_no_sems (sig := Cert.ReferenceAtbIdeal.sig) (by decide) _

/-- The gradient's array. -/
def grads (a b : (⟨3, ![2, 2048, 1024]⟩ : Shape).Idx → EReal) : (⟨2, ![1024, 1024]⟩ : Shape).Idx → EReal :=
  fun i => grad a b (i 0) (i 1)

section Reference

open Cert.ReferenceAtbIdeal Cert.ReferenceAtbIdeal.Gen

theorem reference_value (a b : FVec Ideal S2x2048x1024 .f32) :
    (truncf .bf16 (Host.dotGeneral dot_S2x2048x1024_S2x2048x1024_S1024x1024_01_01_2_2_n_n none a b) bitsLt_bf16_f32 : FVec Ideal S1024x1024 .bf16) = grads a b := by
  funext i
  obtain ⟨j, l, rfl⟩ : ∃ (j : Fin 1024) (l : Fin 1024), i = ix2 j l := ⟨i 0, i 1, eq_ix2 i⟩
  pointwise []
  rfl

end Reference

section Kernel

open Cert.KernelAtbIdeal Cert.KernelAtbIdeal.Gen

/-- One sequence's tokens in both arrays. -/
def sumB (a : FVec Ideal S2048x1024 .bf16) (b : FVec Ideal S2048x1024 .f32) (p l : Fin 1024) : EReal :=
  ∑ q, a (ix2 q p) * b (ix2 q l)

theorem pay1_at (p l : Fin 1024) : k0_pay1 (F := Ideal) (ix2 p l) = 0 := by
  pointwise [k0_pay1]

theorem pay2_at (s : FVec Ideal S1024x1024 .f32) (a : FVec Ideal S2048x1024 .bf16) (b : FVec Ideal S2048x1024 .f32) (p l : Fin 1024) :
    k0_pay2 (F := Ideal) s a b (ix2 p l) = s (ix2 p l) + sumB a b p l := by
  pointwise [k0_pay2]
  rfl

theorem pay3_at (s : FVec Ideal S1024x1024 .f32) (p l : Fin 1024) : k0_pay3 (F := Ideal) s (ix2 p l) = s (ix2 p l) := by
  pointwise [k0_pay3]

variable (m : (ℓ : Loc nD τ sig) → Buf (Elt Ideal) ℓ) (c : Dev nD) (t : Fin cfg0.N)

/-- Point `t` holds sequence `t` of both arrays, and the whole result. -/
theorem idx : ∀ t : Fin cfg0.N, win0_0.index t = ![t.val, 0] ∧ win0_1.index t = ![t.val, 0] ∧ win0_2.index t = ![0, 0] :=
  (by decide +kernel : ∀ t : Fin grid0.N, _)

/-- The row of a flat array that token `q` of point `t`'s sequence is. -/
abbrev tok (t : Fin cfg0.N) (q : Fin 2048) : Fin 4096 :=
  ⟨t.val * 2048 + q.val, by have h : t.val < 2 := t.isLt; omega⟩

/-- The two arguments. -/
abbrev A : (⟨3, ![2, 2048, 1024]⟩ : Shape).Idx → EReal := m ((c : Thread nD τ).loc main_arg0)
abbrev B : (⟨3, ![2, 2048, 1024]⟩ : Shape).Idx → EReal := m ((c : Thread nD τ).loc main_arg1)

theorem V1 : V m c main_v1 = (truncf .bf16 (shapeCast S4096x1024 (m ((c : Thread nD τ).loc main_arg0) : FVec Ideal S2x2048x1024 .f32) shapeCasts_S2x2048x1024_S4096x1024) bitsLt_bf16_f32 : FVec Ideal S4096x1024 .bf16) := by
  unfold V; simp only [hostOps0]; after_results_simp <;> rfl

theorem V2 : V m c main_v2 = (shapeCast S4096x1024 (m ((c : Thread nD τ).loc main_arg1) : FVec Ideal S2x2048x1024 .f32) shapeCasts_S2x2048x1024_S4096x1024 : FVec Ideal S4096x1024 .f32) := by
  unfold V; simp only [hostOps0]; after_results_simp <;> rfl

theorem left_at (x : FVec Ideal S2x2048x1024 .f32) (r : Fin 4096) (j : Fin 1024) :
    truncf .bf16 (shapeCast S4096x1024 x shapeCasts_S2x2048x1024_S4096x1024) bitsLt_bf16_f32 (ix2 r j) = row x r.val j := by
  pointwise []
  exact (row_fin x r.val _ _ j (by show r.val = r.val / 2048 * 2048 + r.val % 2048; omega)).symm

theorem right_at (x : FVec Ideal S2x2048x1024 .f32) (r : Fin 4096) (j : Fin 1024) :
    shapeCast S4096x1024 x shapeCasts_S2x2048x1024_S4096x1024 (ix2 r j) = row x r.val j := by
  pointwise []
  exact (row_fin x r.val _ _ j (by show r.val = r.val / 2048 * 2048 + r.val % 2048; omega)).symm

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem blk0 (q : Fin 2048) (p : Fin 1024) : iblk m c 0 t (ix2 q p : S2048x1024.Idx) = row (A m c) (t.val * 2048 + q.val) p :=
  (at_emb (V1 m c) ((cfg0.win 0).blk t).view.emb (j := ix2 (tok t q) p) (by blk_ext [idx t])).trans (left_at _ _ _)

theorem blk1 (q : Fin 2048) (l : Fin 1024) : iblk m c 1 t (ix2 q l : S2048x1024.Idx) = row (B m c) (t.val * 2048 + q.val) l :=
  (at_emb (V2 m c) ((cfg0.win 1).blk t).view.emb (j := ix2 (tok t q) l) (by blk_ext [idx t])).trans (right_at _ _ _)

/-- The product of one sequence is that sequence's part of the gradient. -/
theorem sum_blk (p l : Fin 1024) : sumB (iblk m c 0 t) (iblk m c 1 t) p l = part 2048 (A m c) (B m c) p l t.val :=
  Finset.sum_congr rfl fun q _ => congrArg₂ (· * ·) (blk0 m c t q p) (blk1 m c t q l)

/-- What the first point leaves in the carried sum, and what the second writes. -/
theorem start (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  frame_out

theorem stop (h0 : ¬t.val % 2 = 0) (h1 : t.val % 2 = 1) :
    (outsAt0 m c t.val t.isLt).1 = k0_pay3 (F := Ideal) (k0_pay2 (F := Ideal) (outsAt0 m c (t.val - 1) (by omega)).2 (iblk m c 0 t) (iblk m c 1 t)) := by
  rw [outsAt0_B m c t h0 h1]
  dsimp only
  frame_out
  exact congrArg (fun s => k0_pay3 (F := Ideal) (k0_pay2 (F := Ideal) s (iblk m c 0 t) (iblk m c 1 t))) ((Memref.isWhole_whole cc0_scratch0).read_unread _)

theorem after2 (h1 : t.val = 1) (p l : Fin 1024) : (dats m 0 c).after 2 t (ix2 p l : S1024x1024.Idx) = grad (A m c) (B m c) p l := by
  rw [after0_2]
  refine (congrFun (stop m c t (by omega) (by omega)) _).trans ?_
  rw [pay3_at, pay2_at, grad_two, Fin.sum_univ_two]
  refine congrArg₂ (· + ·) ?_ ((sum_blk m c t p l).trans (by rw [h1]; rfl))
  obtain rfl : t = ⟨1, by decide⟩ := Fin.ext h1
  refine (congrFun (start m c ⟨0, by decide⟩ (by decide) (by decide)) _).trans ?_
  rw [pay2_at, pay1_at, zero_add]
  exact sum_blk m c _ p l

theorem block_at (X : (⟨2, ![1024, 1024]⟩ : Shape).Idx → EReal) (p l : Fin 1024) {i : (⟨2, ![1024, 1024]⟩ : Shape).Idx} (h : i = ix2 p l) :
    X (ix2 p l) = X i := by
  subst h; rfl

theorem final : (dats m 0 c).arrAt 2 cfg0.N = (grads (A m c) (B m c) : FVec Ideal S1024x1024 .bf16) := by
  refine (dats m 0 c).arrAt_eq_of_covers 2 _ (by decide +kernel) fun t hf y => ?_
  have ht : t.val = 1 := (by decide +kernel : ∀ t : Fin cfg0.N, (cfg0.win 2).flush t = true → t.val = 1) t hf
  blk_simp
  obtain ⟨p, l, rfl⟩ : ∃ (p l : Fin 1024), y = (ix2 p l : S1024x1024.Idx) := ⟨y 0, y 1, eq_ix2 y⟩
  have he : ((cfg0.win 2).blk t).view.emb (ix2 p l : S1024x1024.Idx) = (ix2 p l : S1024x1024.Idx) := by
    blk_ext [idx t]
  exact (after2 m c t ht p l).trans (block_at (grads (A m c) (B m c)) p l he)

end Kernel

theorem algebraic : Cert.algebraic_KernelAtbIdeal_ReferenceAtbIdeal := by
  intro m g m' g' _ hagree
  refine ⟨_, Cert.KernelAtbIdeal.Value.run_blocks m g, ?_⟩
  refine (θ_run Cert.ReferenceAtbIdeal.defs _ _).mono (fun r h c => ?_) (Cert.ReferenceAtbIdeal.Value.run m' g')
  obtain ⟨h0, hargs⟩ := h c
  obtain ⟨e0, e1⟩ := hagree c
  refine ⟨h0.trans ?_, hargs⟩
  rw [e0, e1, final m c]
  exact reference_value _ _

end Cert.AtbClaim

end
-- ==== Proof.Pcs.Claim.lean ====
/-
  The product over the tokens against seven arrays laid side by side (the in-projection's weight gradient): frames, and the value, for any arguments.
-/
module

public import proofs.«01_k».proof.Defs
public import proofs.«01_k».proof.Proof.Gen.KernelPcs.Frame
public import proofs.«01_k».proof.Proof.Gen.KernelPcsIdeal.Value
public import proofs.«01_k».proof.Proof.Gen.ReferencePcsIdeal.Run
public import proofs.«01_k».proof.Proof.Tokens.Sum
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PcsClaim

open Cert.Tokens

theorem frame_reference : Cert.quiescent_ReferencePcsIdeal := by
  intro m g _
  hlo_run
  · exact fun _ => ⟨trivial, trivial, trivial, trivial, trivial, trivial, trivial, trivial⟩
  · exact sem_eq_zero_of_no_sems (sig := Cert.ReferencePcsIdeal.sig) (by decide) _

/-- The gradient's array. -/
def grads (a : (⟨3, ![2, 2048, 5888]⟩ : Shape).Idx → EReal) (b : (⟨3, ![2, 2048, 1024]⟩ : Shape).Idx → EReal) : (⟨2, ![5888, 1024]⟩ : Shape).Idx → EReal :=
  fun i => grad a b (i 0) (i 1)

section Columns

variable (x1 x2 x3 : (⟨3, ![2, 2048, 512]⟩ : Shape).Idx → EReal) (x4 x5 x6 : (⟨3, ![2, 2048, 768]⟩ : Shape).Idx → EReal)
  (x7 : (⟨3, ![2, 2048, 2048]⟩ : Shape).Idx → EReal)

/-- The seven arrays side by side. -/
def cat (i : (⟨3, ![2, 2048, 5888]⟩ : Shape).Idx) : EReal :=
  if h1 : (i 2).val < 512 then x1 (ix3 (i 0) (i 1) ⟨(i 2).val, h1⟩) else
  if h2 : (i 2).val - 512 < 512 then x2 (ix3 (i 0) (i 1) ⟨(i 2).val - 512, h2⟩) else
  if h3 : (i 2).val - 512 - 512 < 512 then x3 (ix3 (i 0) (i 1) ⟨(i 2).val - 512 - 512, h3⟩) else
  if h4 : (i 2).val - 512 - 512 - 512 < 768 then x4 (ix3 (i 0) (i 1) ⟨(i 2).val - 512 - 512 - 512, h4⟩) else
  if h5 : (i 2).val - 512 - 512 - 512 - 768 < 768 then x5 (ix3 (i 0) (i 1) ⟨(i 2).val - 512 - 512 - 512 - 768, h5⟩) else
  if h6 : (i 2).val - 512 - 512 - 512 - 768 - 768 < 768 then x6 (ix3 (i 0) (i 1) ⟨(i 2).val - 512 - 512 - 512 - 768 - 768, h6⟩) else
  x7 (ix3 (i 0) (i 1) ⟨(i 2).val - 512 - 512 - 512 - 768 - 768 - 768, by have h : (i 2).val < 5888 := (i 2).isLt; omega⟩)

theorem ix3_last {a b c : ℕ} (x : Fin a) (y : Fin b) (z : Fin c) : (ix3 x y z 2).val = z.val := rfl

variable (r : ℕ) (l : Fin 5888)

theorem cat1 (j : Fin 512) (h : l.val = 0 + j.val) : row (cat x1 x2 x3 x4 x5 x6 x7) r l = row x1 r j := by
  unfold row cat
  rw [dif_pos]
  · exact congrArg x1 (congrArg (ix3 _ _) (Fin.ext (by show l.val = j.val; omega)))
  all_goals simp only [ix3_last]; omega

theorem cat2 (j : Fin 512) (h : l.val = 512 + j.val) : row (cat x1 x2 x3 x4 x5 x6 x7) r l = row x2 r j := by
  unfold row cat
  rw [dif_neg, dif_pos]
  · exact congrArg x2 (congrArg (ix3 _ _) (Fin.ext (by show l.val - 512 = j.val; omega)))
  all_goals simp only [ix3_last]; omega

theorem cat3 (j : Fin 512) (h : l.val = 1024 + j.val) : row (cat x1 x2 x3 x4 x5 x6 x7) r l = row x3 r j := by
  unfold row cat
  rw [dif_neg, dif_neg, dif_pos]
  · exact congrArg x3 (congrArg (ix3 _ _) (Fin.ext (by show l.val - 512 - 512 = j.val; omega)))
  all_goals simp only [ix3_last]; omega

theorem cat4 (j : Fin 768) (h : l.val = 1536 + j.val) : row (cat x1 x2 x3 x4 x5 x6 x7) r l = row x4 r j := by
  unfold row cat
  rw [dif_neg, dif_neg, dif_neg, dif_pos]
  · exact congrArg x4 (congrArg (ix3 _ _) (Fin.ext (by show l.val - 512 - 512 - 512 = j.val; omega)))
  all_goals simp only [ix3_last]; omega

theorem cat5 (j : Fin 768) (h : l.val = 2304 + j.val) : row (cat x1 x2 x3 x4 x5 x6 x7) r l = row x5 r j := by
  unfold row cat
  rw [dif_neg, dif_neg, dif_neg, dif_neg, dif_pos]
  · exact congrArg x5 (congrArg (ix3 _ _) (Fin.ext (by show l.val - 512 - 512 - 512 - 768 = j.val; omega)))
  all_goals simp only [ix3_last]; omega

theorem cat6 (j : Fin 768) (h : l.val = 3072 + j.val) : row (cat x1 x2 x3 x4 x5 x6 x7) r l = row x6 r j := by
  unfold row cat
  rw [dif_neg, dif_neg, dif_neg, dif_neg, dif_neg, dif_pos]
  · exact congrArg x6 (congrArg (ix3 _ _) (Fin.ext (by show l.val - 512 - 512 - 512 - 768 - 768 = j.val; omega)))
  all_goals simp only [ix3_last]; omega

theorem cat7 (j : Fin 2048) (h : l.val = 3840 + j.val) : row (cat x1 x2 x3 x4 x5 x6 x7) r l = row x7 r j := by
  unfold row cat
  rw [dif_neg, dif_neg, dif_neg, dif_neg, dif_neg, dif_neg]
  · exact congrArg x7 (congrArg (ix3 _ _) (Fin.ext (by show l.val - 512 - 512 - 512 - 768 - 768 - 768 = j.val; omega)))
  all_goals simp only [ix3_last]; omega

end Columns

section Reference

open Cert.ReferencePcsIdeal Cert.ReferencePcsIdeal.Gen

variable (x1 x2 x3 : FVec Ideal S2x2048x512 .f32) (x4 x5 x6 : FVec Ideal S2x2048x768 .f32) (x7 : FVec Ideal S2x2048x2048 .f32) (b : FVec Ideal S2x2048x1024 .f32)

/-- The reference's row of arrays. -/
abbrev joined : FVec Ideal S2x2048x5888 .f32 :=
  concatenate S2x2048x5888 2 [⟨S2x2048x512, x1⟩, ⟨S2x2048x512, x2⟩, ⟨S2x2048x512, x3⟩, ⟨S2x2048x768, x4⟩, ⟨S2x2048x768, x5⟩, ⟨S2x2048x768, x6⟩, ⟨S2x2048x2048, x7⟩]
    concatenates_S2x2048x512_S2x2048x512_S2x2048x512_S2x2048x768_S2x2048x768_S2x2048x768_S2x2048x2048_S2x2048x5888_d2

theorem joined_at (s : Fin 2) (t : Fin 2048) (l : Fin 5888) : joined x1 x2 x3 x4 x5 x6 x7 (ix3 s t l) = cat x1 x2 x3 x4 x5 x6 x7 (ix3 s t l) := by
  unfold cat
  pointwise []

theorem reference_value : (truncf .bf16 (Host.dotGeneral dot_S2x2048x5888_S2x2048x1024_S5888x1024_01_01_2_2_n_n none (joined x1 x2 x3 x4 x5 x6 x7) b) bitsLt_bf16_f32 : FVec Ideal S5888x1024 .bf16)
    = grads (cat x1 x2 x3 x4 x5 x6 x7) b := by
  have h : joined x1 x2 x3 x4 x5 x6 x7 = cat x1 x2 x3 x4 x5 x6 x7 := by
    funext i
    obtain ⟨s, t, l, rfl⟩ : ∃ (s : Fin 2) (t : Fin 2048) (l : Fin 5888), i = ix3 s t l := ⟨i 0, i 1, i 2, eq_ix3 i⟩
    exact joined_at x1 x2 x3 x4 x5 x6 x7 s t l
  rw [h]
  generalize cat x1 x2 x3 x4 x5 x6 x7 = a
  funext i
  obtain ⟨j, l, rfl⟩ : ∃ (j : Fin 5888) (l : Fin 1024), i = ix2 j l := ⟨i 0, i 1, eq_ix2 i⟩
  pointwise []
  rfl

end Reference

section Kernel

open Cert.KernelPcsIdeal Cert.KernelPcsIdeal.Gen

/-! ## The body's terms at an index -/

/-- One block of tokens against another. -/
def sumB {n : ℕ} (u : FVec Ideal S512x512 .bf16) (d : (⟨2, ![512, n]⟩ : Shape).Idx → EReal) (p : Fin 512) (j : Fin n) : EReal :=
  ∑ q, u (ix2 q p) * d (ix2 q j)

theorem term1 (u : FVec Ideal S512x512 .bf16) (s : FVec Ideal S512x512 .f32) (d : FVec Ideal S512x512 .bf16) (p : Fin 512) (j : Fin 512) :
    k0_pay18 (F := Ideal) u s d (ix2 p j) = s (ix2 p j) + sumB u d p j := by
  pointwise [k0_pay17, k0_pay18]
  rfl

theorem term4 (u : FVec Ideal S512x512 .bf16) (s : FVec Ideal S512x256 .f32) (d : FVec Ideal S512x256 .f32) (p : Fin 512) (j : Fin 256) :
    k0_pay21 (F := Ideal) (k0_pay17 (F := Ideal) u) s d (ix2 p j) = s (ix2 p j) + sumB u d p j := by
  pointwise [k0_pay17, k0_pay21]
  rfl

theorem term13 (u : FVec Ideal S512x512 .bf16) (s : FVec Ideal S512x2048 .f32) (d : FVec Ideal S512x2048 .bf16) (p : Fin 512) (j : Fin 2048) :
    k0_pay3 (F := Ideal) (k0_pay17 (F := Ideal) u) s d (ix2 p j) = s (ix2 p j) + sumB u d p j := by
  pointwise [k0_pay17, k0_pay3]
  rfl

theorem zero_at (p : Fin 512) (l : Fin 5888) : k0_pay16 (F := Ideal) (ix2 p l) = 0 := by
  pointwise [k0_pay16]

theorem turn0 (s : FVec Ideal S512x512 .f32) (r p : Fin 512) : k0_pay9 (F := Ideal) s (ix2 r p) = s (ix2 p r) := by
  pointwise [k0_pay9]

theorem turn5632 (s : FVec Ideal S512x256 .f32) (r : Fin 256) (p : Fin 512) : k0_pay8 (F := Ideal) s (ix2 r p) = s (ix2 p r) := by
  pointwise [k0_pay8]

/-! ## Blocks written in pieces -/

/-- A block written in pieces of columns: inside the last piece it is the piece, elsewhere what was written before. -/
theorem cols {e : EltTy} {n o : ℕ} (inb : ∀ a, (![0, o] : Fin 2 → ℕ) a + (![512, n] : Fin 2 → ℕ) a ≤ S512x5888.size a)
    (w : (⟨2, ![512, n]⟩ : Shape).Idx → Elt Ideal e) (L : List (View.Piece (Elt Ideal) S512x5888 e)) (p : Fin 512) (l : Fin 5888) {z : Elt Ideal e}
    (h1 : (j : Fin n) → l.val = o + j.val → w (ix2 p j) = z) (h2 : ¬(o ≤ l.val ∧ l.val < o + n) → View.canon L (ix2 p l) = z) :
    View.canon (⟨Rect.unit ![0, o] ![512, n] inb, w⟩ :: L) (ix2 p l) = z := by
  by_cases h : o ≤ l.val ∧ l.val < o + n
  · have he : (Rect.unit (s := S512x5888) ![0, o] ![512, n] inb).emb (ix2 p ⟨l.val - o, by omega⟩ : (⟨2, ![512, n]⟩ : Shape).Idx) = ix2 p l := by
      funext a
      match a with
      | ⟨0, _⟩ => exact Fin.ext (by show 0 + 1 * p.val = p.val; omega)
      | ⟨1, _⟩ => exact Fin.ext (by show o + 1 * (l.val - o) = l.val; omega)
    rw [← he]
    exact (View.canon_cons_emb (Rect.unit (s := S512x5888) ![0, o] ![512, n] inb) w L _).trans (h1 _ (by show l.val = o + (l.val - o); omega))
  · rw [View.canon_cons_of_not_mem]
    · exact h2 h
    · exact fun hm => h ((Rect.mem_set_unit (inb := inb)).1 hm 1)

/-- A block written in pieces of rows, likewise. -/
theorem rows {e : EltTy} {n o : ℕ} (inb : ∀ a, (![o, 0] : Fin 2 → ℕ) a + (![n, 512] : Fin 2 → ℕ) a ≤ S5888x512.size a)
    (w : (⟨2, ![n, 512]⟩ : Shape).Idx → Elt Ideal e) (L : List (View.Piece (Elt Ideal) S5888x512 e)) (l : Fin 5888) (p : Fin 512) {z : Elt Ideal e}
    (h1 : (j : Fin n) → l.val = o + j.val → w (ix2 j p) = z) (h2 : ¬(o ≤ l.val ∧ l.val < o + n) → View.canon L (ix2 l p) = z) :
    View.canon (⟨Rect.unit ![o, 0] ![n, 512] inb, w⟩ :: L) (ix2 l p) = z := by
  by_cases h : o ≤ l.val ∧ l.val < o + n
  · have he : (Rect.unit (s := S5888x512) ![o, 0] ![n, 512] inb).emb (ix2 ⟨l.val - o, by omega⟩ p : (⟨2, ![n, 512]⟩ : Shape).Idx) = ix2 l p := by
      funext a
      match a with
      | ⟨0, _⟩ => exact Fin.ext (by show o + 1 * (l.val - o) = l.val; omega)
      | ⟨1, _⟩ => exact Fin.ext (by show 0 + 1 * p.val = p.val; omega)
    rw [← he]
    exact (View.canon_cons_emb (Rect.unit (s := S5888x512) ![o, 0] ![n, 512] inb) w L _).trans (h1 _ (by show l.val = o + (l.val - o); omega))
  · rw [View.canon_cons_of_not_mem]
    · exact h2 h
    · exact fun hm => h ((Rect.mem_set_unit (inb := inb)).1 hm 0)

/-- Columns `o` to `o + n - 1` of a block. -/
abbrev old (S : S512x5888.Idx → EReal) {n o : ℕ} (inb : ∀ a, (![0, o] : Fin 2 → ℕ) a + (![512, n] : Fin 2 → ℕ) a ≤ S512x5888.size a) : FVec Ideal ⟨2, ![512, n]⟩ .f32 :=
  View.ld (Val := Elt Ideal) (S := S512x5888) (e' := .f32) S (Rect.unit ![0, o] ![512, n] inb)

theorem ld_at (S : S512x5888.Idx → EReal) {n o : ℕ} (inb : ∀ a, (![0, o] : Fin 2 → ℕ) a + (![512, n] : Fin 2 → ℕ) a ≤ S512x5888.size a) (p : Fin 512) (l : Fin 5888) (j : Fin n)
    (h : l.val = o + j.val) : old S inb (ix2 p j) = S (ix2 p l) :=
  View.ld_unit_apply_of (Val := Elt Ideal) (S := S512x5888) (e := .f32) S ![0, o] ![512, n] inb (ix2 p j) (ix2 p l) fun a => by
    match a with
    | ⟨0, _⟩ => exact (Nat.zero_add _).symm
    | ⟨1, _⟩ => exact h

/-- The same columns read back out of the pieces just written. -/
theorem back_at (L : List (View.Piece (Elt Ideal) S512x5888 .f32)) {n o : ℕ} (inb : ∀ a, (![0, o] : Fin 2 → ℕ) a + (![512, n] : Fin 2 → ℕ) a ≤ S512x5888.size a)
    (p : Fin 512) (l : Fin 5888) (j : Fin n) (h : l.val = o + j.val) :
    (View.whole cc0_scratch0).readCov (Val := Elt Ideal) L (Rect.unit (s := S512x5888) ![0, o] ![512, n] inb).toLoadRect (ix2 p j : (⟨2, ![512, n]⟩ : Shape).Idx) = View.canon L (ix2 p l) := by
  rw [View.readCov_eq_canon']
  exact ld_at (View.canon L) inb p l j h

/-! ## What a point reads -/

variable (m : (ℓ : Loc nD τ sig) → Buf (Elt Ideal) ℓ) (c : Dev nD) (t : Fin cfg0.N) (p q : Fin 512) (l : Fin 5888)

/-- Point `t` holds tokens `512 (t % 8)` on of all arrays, half `t / 8` of the first one's columns, and that half of the result's. -/
theorem idx : ∀ t : Fin cfg0.N, win0_0.index t = ![t.val % 8, t.val / 8] ∧ win0_1.index t = ![t.val % 8, 0] ∧ win0_2.index t = ![t.val % 8, 0] ∧ win0_3.index t = ![t.val % 8, 0] ∧ win0_4.index t = ![t.val % 8, 0] ∧ win0_5.index t = ![t.val % 8, 0] ∧ win0_6.index t = ![t.val % 8, 0] ∧ win0_7.index t = ![t.val % 8, 0] ∧ win0_8.index t = ![t.val % 8, 0] ∧ win0_9.index t = ![t.val % 8, 0] ∧ win0_10.index t = ![t.val % 8, 0] ∧ win0_11.index t = ![t.val % 8, 0] ∧ win0_12.index t = ![t.val % 8, 0] ∧ win0_13.index t = ![t.val % 8, 0]
    ∧ win0_14.index t = ![0, t.val / 8] :=
  (by decide +kernel : ∀ t : Fin grid0.N, _)

/-- The token that row `q` of point `t`'s blocks is, and the column of the first array. -/
abbrev tok (t : Fin cfg0.N) (q : Fin 512) : Fin 4096 :=
  ⟨t.val % 8 * 512 + q.val, by omega⟩
abbrev col (t : Fin cfg0.N) (p : Fin 512) : Fin 1024 :=
  ⟨t.val / 8 * 512 + p.val, by have h : t.val < 16 := t.isLt; omega⟩

/-- The first argument, and the other seven side by side. -/
abbrev U : (⟨3, ![2, 2048, 1024]⟩ : Shape).Idx → EReal := m ((c : Thread nD τ).loc main_arg0)
abbrev D : (⟨3, ![2, 2048, 5888]⟩ : Shape).Idx → EReal :=
  cat (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev entry : EReal := row (D m c) (t.val % 8 * 512 + q.val) l

/-- The host's flat bf16 copy of an array. -/
abbrev flat1024 (x : FVec Ideal S2x2048x1024 .f32) : FVec Ideal S4096x1024 .bf16 :=
  truncf .bf16 (shapeCast S4096x1024 x shapeCasts_S2x2048x1024_S4096x1024) bitsLt_bf16_f32

/-- The host's flat bf16 copy of an array. -/
abbrev flat512 (x : FVec Ideal S2x2048x512 .f32) : FVec Ideal S4096x512 .bf16 :=
  truncf .bf16 (shapeCast S4096x512 x shapeCasts_S2x2048x512_S4096x512) bitsLt_bf16_f32

/-- The host's flat bf16 copy of an array. -/
abbrev flat2048 (x : FVec Ideal S2x2048x2048 .f32) : FVec Ideal S4096x2048 .bf16 :=
  truncf .bf16 (shapeCast S4096x2048 x shapeCasts_S2x2048x2048_S4096x2048) bitsLt_bf16_f32

/-- Columns 0 on of an array, flat. -/
abbrev cut0 (x : FVec Ideal S2x2048x768 .f32) : FVec Ideal S4096x256 .f32 :=
  extractStridedSlice S4096x256 ![0, 0] (shapeCast S4096x768 x shapeCasts_S2x2048x768_S4096x768) slices_S4096x768_S4096x256_0_0

/-- Columns 256 on of an array, flat. -/
abbrev cut256 (x : FVec Ideal S2x2048x768 .f32) : FVec Ideal S4096x256 .f32 :=
  extractStridedSlice S4096x256 ![0, 256] (shapeCast S4096x768 x shapeCasts_S2x2048x768_S4096x768) slices_S4096x768_S4096x256_0_256

/-- Columns 512 on of an array, flat. -/
abbrev cut512 (x : FVec Ideal S2x2048x768 .f32) : FVec Ideal S4096x256 .f32 :=
  extractStridedSlice S4096x256 ![0, 512] (shapeCast S4096x768 x shapeCasts_S2x2048x768_S4096x768) slices_S4096x768_S4096x256_0_512

theorem V27 : V m c main_v27 = flat1024 (m ((c : Thread nD τ).loc main_arg0)) := by
  unfold V; simp only [hostOps0]; after_results_simp <;> rfl

theorem V19 : V m c main_v19 = flat512 (m ((c : Thread nD τ).loc main_arg1)) := by
  unfold V; simp only [hostOps0]; after_results_simp <;> rfl

theorem V21 : V m c main_v21 = flat512 (m ((c : Thread nD τ).loc main_arg2)) := by
  unfold V; simp only [hostOps0]; after_results_simp <;> rfl

theorem V23 : V m c main_v23 = flat512 (m ((c : Thread nD τ).loc main_arg3)) := by
  unfold V; simp only [hostOps0]; after_results_simp <;> rfl

theorem V1 : V m c main_v1 = cut0 (m ((c : Thread nD τ).loc main_arg4)) := by
  unfold V; simp only [hostOps0]; after_results_simp <;> rfl

theorem V3 : V m c main_v3 = cut256 (m ((c : Thread nD τ).loc main_arg4)) := by
  unfold V; simp only [hostOps0]; after_results_simp <;> rfl

theorem V5 : V m c main_v5 = cut512 (m ((c : Thread nD τ).loc main_arg4)) := by
  unfold V; simp only [hostOps0]; after_results_simp <;> rfl

theorem V7 : V m c main_v7 = cut0 (m ((c : Thread nD τ).loc main_arg5)) := by
  unfold V; simp only [hostOps0]; after_results_simp <;> rfl

theorem V9 : V m c main_v9 = cut256 (m ((c : Thread nD τ).loc main_arg5)) := by
  unfold V; simp only [hostOps0]; after_results_simp <;> rfl

theorem V11 : V m c main_v11 = cut512 (m ((c : Thread nD τ).loc main_arg5)) := by
  unfold V; simp only [hostOps0]; after_results_simp <;> rfl

theorem V13 : V m c main_v13 = cut0 (m ((c : Thread nD τ).loc main_arg6)) := by
  unfold V; simp only [hostOps0]; after_results_simp <;> rfl

theorem V15 : V m c main_v15 = cut256 (m ((c : Thread nD τ).loc main_arg6)) := by
  unfold V; simp only [hostOps0]; after_results_simp <;> rfl

theorem V17 : V m c main_v17 = cut512 (m ((c : Thread nD τ).loc main_arg6)) := by
  unfold V; simp only [hostOps0]; after_results_simp <;> rfl

theorem V25 : V m c main_v25 = flat2048 (m ((c : Thread nD τ).loc main_arg7)) := by
  unfold V; simp only [hostOps0]; after_results_simp <;> rfl

theorem flat1024_at (x : FVec Ideal S2x2048x1024 .f32) (r : Fin 4096) (j : Fin 1024) : flat1024 x (ix2 r j) = row x r.val j := by
  pointwise []
  exact (row_fin x r.val _ _ j (by show r.val = r.val / 2048 * 2048 + r.val % 2048; omega)).symm

theorem flat512_at (x : FVec Ideal S2x2048x512 .f32) (r : Fin 4096) (j : Fin 512) : flat512 x (ix2 r j) = row x r.val j := by
  pointwise []
  exact (row_fin x r.val _ _ j (by show r.val = r.val / 2048 * 2048 + r.val % 2048; omega)).symm

theorem flat2048_at (x : FVec Ideal S2x2048x2048 .f32) (r : Fin 4096) (j : Fin 2048) : flat2048 x (ix2 r j) = row x r.val j := by
  pointwise []
  exact (row_fin x r.val _ _ j (by show r.val = r.val / 2048 * 2048 + r.val % 2048; omega)).symm

theorem cut0_at (x : FVec Ideal S2x2048x768 .f32) (r : Fin 4096) (j : Fin 256) : cut0 x (ix2 r j) = row x r.val ⟨0 + j.val, by omega⟩ := by
  pointwise []
  exact (row_fin x r.val _ _ _ (by show r.val = r.val / 2048 * 2048 + r.val % 2048; omega)).symm

theorem cut256_at (x : FVec Ideal S2x2048x768 .f32) (r : Fin 4096) (j : Fin 256) : cut256 x (ix2 r j) = row x r.val ⟨256 + j.val, by omega⟩ := by
  pointwise []
  exact (row_fin x r.val _ _ _ (by show r.val = r.val / 2048 * 2048 + r.val % 2048; omega)).symm

theorem cut512_at (x : FVec Ideal S2x2048x768 .f32) (r : Fin 4096) (j : Fin 256) : cut512 x (ix2 r j) = row x r.val ⟨512 + j.val, by omega⟩ := by
  pointwise []
  exact (row_fin x r.val _ _ _ (by show r.val = r.val / 2048 * 2048 + r.val % 2048; omega)).symm

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem blk0 : iblk m c 0 t (ix2 q p : S512x512.Idx) = row (U m c) (t.val % 8 * 512 + q.val) (col t p) :=
  (at_emb (V27 m c) ((cfg0.win 0).blk t).view.emb (j := ix2 (tok t q) (col t p)) (by blk_ext [idx t])).trans (flat1024_at _ _ _)

theorem blk1 (j : Fin 512) (h : l.val = 0 + j.val) : iblk m c 1 t (ix2 q j : S512x512.Idx) = entry m c t q l :=
  ((at_emb (V19 m c) ((cfg0.win 1).blk t).view.emb (by blk_ext [idx t])).trans (flat512_at _ (tok t q) j)).trans (cat1 _ _ _ _ _ _ _ _ l _ h).symm

theorem blk2 (j : Fin 512) (h : l.val = 512 + j.val) : iblk m c 2 t (ix2 q j : S512x512.Idx) = entry m c t q l :=
  ((at_emb (V21 m c) ((cfg0.win 2).blk t).view.emb (by blk_ext [idx t])).trans (flat512_at _ (tok t q) j)).trans (cat2 _ _ _ _ _ _ _ _ l _ h).symm

theorem blk3 (j : Fin 512) (h : l.val = 1024 + j.val) : iblk m c 3 t (ix2 q j : S512x512.Idx) = entry m c t q l :=
  ((at_emb (V23 m c) ((cfg0.win 3).blk t).view.emb (by blk_ext [idx t])).trans (flat512_at _ (tok t q) j)).trans (cat3 _ _ _ _ _ _ _ _ l _ h).symm

theorem blk4 (j : Fin 256) (h : l.val = 1536 + j.val) : iblk m c 4 t (ix2 q j : S512x256.Idx) = entry m c t q l :=
  ((at_emb (V1 m c) ((cfg0.win 4).blk t).view.emb (by blk_ext [idx t])).trans (cut0_at _ (tok t q) j)).trans (cat4 _ _ _ _ _ _ _ _ l ⟨0 + j.val, by omega⟩ (by show l.val = 1536 + (0 + j.val); omega)).symm

theorem blk5 (j : Fin 256) (h : l.val = 1792 + j.val) : iblk m c 5 t (ix2 q j : S512x256.Idx) = entry m c t q l :=
  ((at_emb (V3 m c) ((cfg0.win 5).blk t).view.emb (by blk_ext [idx t])).trans (cut256_at _ (tok t q) j)).trans (cat4 _ _ _ _ _ _ _ _ l ⟨256 + j.val, by omega⟩ (by show l.val = 1536 + (256 + j.val); omega)).symm

theorem blk6 (j : Fin 256) (h : l.val = 2048 + j.val) : iblk m c 6 t (ix2 q j : S512x256.Idx) = entry m c t q l :=
  ((at_emb (V5 m c) ((cfg0.win 6).blk t).view.emb (by blk_ext [idx t])).trans (cut512_at _ (tok t q) j)).trans (cat4 _ _ _ _ _ _ _ _ l ⟨512 + j.val, by omega⟩ (by show l.val = 1536 + (512 + j.val); omega)).symm

theorem blk7 (j : Fin 256) (h : l.val = 2304 + j.val) : iblk m c 7 t (ix2 q j : S512x256.Idx) = entry m c t q l :=
  ((at_emb (V7 m c) ((cfg0.win 7).blk t).view.emb (by blk_ext [idx t])).trans (cut0_at _ (tok t q) j)).trans (cat5 _ _ _ _ _ _ _ _ l ⟨0 + j.val, by omega⟩ (by show l.val = 2304 + (0 + j.val); omega)).symm

theorem blk8 (j : Fin 256) (h : l.val = 2560 + j.val) : iblk m c 8 t (ix2 q j : S512x256.Idx) = entry m c t q l :=
  ((at_emb (V9 m c) ((cfg0.win 8).blk t).view.emb (by blk_ext [idx t])).trans (cut256_at _ (tok t q) j)).trans (cat5 _ _ _ _ _ _ _ _ l ⟨256 + j.val, by omega⟩ (by show l.val = 2304 + (256 + j.val); omega)).symm

theorem blk9 (j : Fin 256) (h : l.val = 2816 + j.val) : iblk m c 9 t (ix2 q j : S512x256.Idx) = entry m c t q l :=
  ((at_emb (V11 m c) ((cfg0.win 9).blk t).view.emb (by blk_ext [idx t])).trans (cut512_at _ (tok t q) j)).trans (cat5 _ _ _ _ _ _ _ _ l ⟨512 + j.val, by omega⟩ (by show l.val = 2304 + (512 + j.val); omega)).symm

theorem blk10 (j : Fin 256) (h : l.val = 3072 + j.val) : iblk m c 10 t (ix2 q j : S512x256.Idx) = entry m c t q l :=
  ((at_emb (V13 m c) ((cfg0.win 10).blk t).view.emb (by blk_ext [idx t])).trans (cut0_at _ (tok t q) j)).trans (cat6 _ _ _ _ _ _ _ _ l ⟨0 + j.val, by omega⟩ (by show l.val = 3072 + (0 + j.val); omega)).symm

theorem blk11 (j : Fin 256) (h : l.val = 3328 + j.val) : iblk m c 11 t (ix2 q j : S512x256.Idx) = entry m c t q l :=
  ((at_emb (V15 m c) ((cfg0.win 11).blk t).view.emb (by blk_ext [idx t])).trans (cut256_at _ (tok t q) j)).trans (cat6 _ _ _ _ _ _ _ _ l ⟨256 + j.val, by omega⟩ (by show l.val = 3072 + (256 + j.val); omega)).symm

theorem blk12 (j : Fin 256) (h : l.val = 3584 + j.val) : iblk m c 12 t (ix2 q j : S512x256.Idx) = entry m c t q l :=
  ((at_emb (V17 m c) ((cfg0.win 12).blk t).view.emb (by blk_ext [idx t])).trans (cut512_at _ (tok t q) j)).trans (cat6 _ _ _ _ _ _ _ _ l ⟨512 + j.val, by omega⟩ (by show l.val = 3072 + (512 + j.val); omega)).symm

theorem blk13 (j : Fin 2048) (h : l.val = 3840 + j.val) : iblk m c 13 t (ix2 q j : S512x2048.Idx) = entry m c t q l :=
  ((at_emb (V25 m c) ((cfg0.win 13).blk t).view.emb (by blk_ext [idx t])).trans (flat2048_at _ (tok t q) j)).trans (cat7 _ _ _ _ _ _ _ _ l _ h).symm

/-- The product of one block of tokens is that block's part of the gradient; a point adds it to the columns `o` on of what was there. -/
theorem add {n o : ℕ} (S : S512x5888.Idx → EReal) (inb : ∀ a, (![0, o] : Fin 2 → ℕ) a + (![512, n] : Fin 2 → ℕ) a ≤ S512x5888.size a) (d : (⟨2, ![512, n]⟩ : Shape).Idx → EReal) (j : Fin n)
    (hj : l.val = o + j.val) {x : EReal} (hx : x = old S inb (ix2 p j) + sumB (iblk m c 0 t) d p j) (h : ∀ q : Fin 512, d (ix2 q j) = entry m c t q l) :
    x = S (ix2 p l) + part 512 (D m c) (U m c) l (col t p) (t.val % 8) :=
  hx.trans (congrArg₂ (· + ·) (ld_at S inb p l j hj) (Finset.sum_congr rfl fun q _ => (congrArg₂ (fun x y : EReal => x * y) (blk0 m c t p q) (h q)).trans (mul_comm _ _)))

/-! ## The carried sum -/

/-- The first array's block as the body holds it. -/
abbrev held : FVec Ideal S512x512 .bf16 := k0_pay17 (F := Ideal) (iblk m c 0 t)

/-- What a point adds to the carried sum, whatever was written before. -/
theorem step (S : S512x5888.Idx → EReal) (L : List (View.Piece (Elt Ideal) S512x5888 .f32)) :
    View.canon (Val := Elt Ideal) (s := S512x5888) (e := .f32) (
      ⟨Rect.unit ![0, 3840] ![512, 2048] inb_S512x5888_S512x2048_0_3840, k0_pay3 (held m c t) (old S inb_S512x5888_S512x2048_0_3840) (iblk m c 13 t)⟩ ::
      ⟨Rect.unit ![0, 3584] ![512, 256] inb_S512x5888_S512x256_0_3584, k0_pay2 (held m c t) (old S inb_S512x5888_S512x256_0_3584) (iblk m c 12 t)⟩ ::
      ⟨Rect.unit ![0, 3328] ![512, 256] inb_S512x5888_S512x256_0_3328, k0_pay1 (held m c t) (old S inb_S512x5888_S512x256_0_3328) (iblk m c 11 t)⟩ ::
      ⟨Rect.unit ![0, 3072] ![512, 256] inb_S512x5888_S512x256_0_3072, k0_pay28 (held m c t) (old S inb_S512x5888_S512x256_0_3072) (iblk m c 10 t)⟩ ::
      ⟨Rect.unit ![0, 2816] ![512, 256] inb_S512x5888_S512x256_0_2816, k0_pay27 (held m c t) (old S inb_S512x5888_S512x256_0_2816) (iblk m c 9 t)⟩ ::
      ⟨Rect.unit ![0, 2560] ![512, 256] inb_S512x5888_S512x256_0_2560, k0_pay26 (held m c t) (old S inb_S512x5888_S512x256_0_2560) (iblk m c 8 t)⟩ ::
      ⟨Rect.unit ![0, 2304] ![512, 256] inb_S512x5888_S512x256_0_2304, k0_pay25 (held m c t) (old S inb_S512x5888_S512x256_0_2304) (k0_pay24 (iblk m c 7 t)) (constant S512x256 .f32 0x00000000#32)⟩ ::
      ⟨Rect.unit ![0, 2048] ![512, 256] inb_S512x5888_S512x256_0_2048, k0_pay23 (held m c t) (old S inb_S512x5888_S512x256_0_2048) (iblk m c 6 t)⟩ ::
      ⟨Rect.unit ![0, 1792] ![512, 256] inb_S512x5888_S512x256_0_1792, k0_pay22 (held m c t) (old S inb_S512x5888_S512x256_0_1792) (iblk m c 5 t)⟩ ::
      ⟨Rect.unit ![0, 1536] ![512, 256] inb_S512x5888_S512x256_0_1536, k0_pay21 (held m c t) (old S inb_S512x5888_S512x256_0_1536) (iblk m c 4 t)⟩ ::
      ⟨Rect.unit ![0, 1024] ![512, 512] inb_S512x5888_S512x512_0_1024, k0_pay20 (iblk m c 0 t) (old S inb_S512x5888_S512x512_0_1024) (iblk m c 3 t)⟩ ::
      ⟨Rect.unit ![0, 512] ![512, 512] inb_S512x5888_S512x512_0_512, k0_pay19 (iblk m c 0 t) (old S inb_S512x5888_S512x512_0_512) (iblk m c 2 t)⟩ ::
      ⟨Rect.unit ![0, 0] ![512, 512] inb_S512x5888_S512x512_0_0, k0_pay18 (iblk m c 0 t) (old S inb_S512x5888_S512x512_0_0) (iblk m c 1 t)⟩ :: L) (ix2 p l)
      = S (ix2 p l) + part 512 (D m c) (U m c) l (col t p) (t.val % 8) := by
  refine cols _ _ _ p l (fun j h => add m c t p l S _ _ j h (term13 _ _ _ p j) fun q => blk13 m c t q l j h) fun n13 => ?_
  refine cols _ _ _ p l (fun j h => add m c t p l S _ _ j h (term4 _ _ _ p j) fun q => blk12 m c t q l j h) fun n12 => ?_
  refine cols _ _ _ p l (fun j h => add m c t p l S _ _ j h (term4 _ _ _ p j) fun q => blk11 m c t q l j h) fun n11 => ?_
  refine cols _ _ _ p l (fun j h => add m c t p l S _ _ j h (term4 _ _ _ p j) fun q => blk10 m c t q l j h) fun n10 => ?_
  refine cols _ _ _ p l (fun j h => add m c t p l S _ _ j h (term4 _ _ _ p j) fun q => blk9 m c t q l j h) fun n9 => ?_
  refine cols _ _ _ p l (fun j h => add m c t p l S _ _ j h (term4 _ _ _ p j) fun q => blk8 m c t q l j h) fun n8 => ?_
  refine cols _ _ _ p l (fun j h => add m c t p l S _ _ j h (term4 _ _ _ p j) fun q => blk7 m c t q l j h) fun n7 => ?_
  refine cols _ _ _ p l (fun j h => add m c t p l S _ _ j h (term4 _ _ _ p j) fun q => blk6 m c t q l j h) fun n6 => ?_
  refine cols _ _ _ p l (fun j h => add m c t p l S _ _ j h (term4 _ _ _ p j) fun q => blk5 m c t q l j h) fun n5 => ?_
  refine cols _ _ _ p l (fun j h => add m c t p l S _ _ j h (term4 _ _ _ p j) fun q => blk4 m c t q l j h) fun n4 => ?_
  refine cols _ _ _ p l (fun j h => add m c t p l S _ _ j h (term1 _ _ _ p j) fun q => blk3 m c t q l j h) fun n3 => ?_
  refine cols _ _ _ p l (fun j h => add m c t p l S _ _ j h (term1 _ _ _ p j) fun q => blk2 m c t q l j h) fun n2 => ?_
  refine cols _ _ _ p l (fun j h => add m c t p l S _ _ j h (term1 _ _ _ p j) fun q => blk1 m c t q l j h) fun n1 => ?_
  omega

/-- The carried sum's start, and a point's step from what the one before left. -/
theorem first (h0 : t.val % 8 = 0) :
    (outsAt0 m c t.val t.isLt).2 (ix2 p l) = part 512 (D m c) (U m c) l (col t p) (t.val % 8) := by
  have h1 : ¬t.val % 8 = 7 := by omega
  rw [outsAt0_A m c t h0 h1]
  dsimp only
  frame_out
  simp (disch := first | rfl | decide) only [↓View.readCov_skip, ↓View.readCov_fill]
  refine (step m c t p l (k0_pay16 (F := Ideal)) _).trans ?_
  rw [zero_at, zero_add]

theorem next (h0 : ¬t.val % 8 = 0) :
    (outsAt0 m c t.val t.isLt).2 (ix2 p l) = (outsAt0 m c (t.val - 1) (by omega)).2 (ix2 p l) + part 512 (D m c) (U m c) l (col t p) (t.val % 8) := by
  by_cases h1 : t.val % 8 = 7
  · rw [outsAt0_C m c t h0 h1]
    dsimp only
    frame_out
    simp only [read_unread_whole]
    exact step m c t p l _ _
  · rw [outsAt0_B m c t h0 h1]
    dsimp only
    frame_out
    simp only [read_unread_whole]
    exact step m c t p l _ _

/-- The carried sum after a point: the parts of the blocks of tokens so far. -/
theorem carried (n : ℕ) (hn : n < cfg0.N) (p : Fin 512) (l : Fin 5888) :
    (outsAt0 m c n hn).2 (ix2 p l) = ∑ k ∈ Finset.range (n % 8 + 1), part 512 (D m c) (U m c) l (col ⟨n, hn⟩ p) k := by
  induction n with
  | zero => exact (first m c ⟨0, hn⟩ p l rfl).trans (Finset.sum_range_one _).symm
  | succ n ih =>
    by_cases h0 : (n + 1) % 8 = 0
    · refine (first m c ⟨n + 1, hn⟩ p l h0).trans ?_
      show part 512 (D m c) (U m c) l (col ⟨n + 1, hn⟩ p) ((n + 1) % 8) = _
      rw [h0]
      exact (Finset.sum_range_one _).symm
    · refine (next m c ⟨n + 1, hn⟩ p l h0).trans ?_
      rw [Finset.sum_range_succ]
      refine congrArg₂ (· + ·) ((ih (Nat.lt_of_succ_lt hn)).trans ?_) rfl
      have e1 : (n + 1) % 8 = n % 8 + 1 := by omega
      have e2 : (col ⟨n, Nat.lt_of_succ_lt hn⟩ p) = col ⟨n + 1, hn⟩ p := Fin.ext (by show n / 8 * 512 + p.val = (n + 1) / 8 * 512 + p.val; omega)
      rw [e1, e2]

/-- The last point of a half writes the carried sum out, transposed. -/
theorem turned (h1 : t.val % 8 = 7) (l : Fin 5888) (p : Fin 512) :
    (outsAt0 m c t.val t.isLt).1 (ix2 l p) = (outsAt0 m c t.val t.isLt).2 (ix2 p l) := by
  rw [outsAt0_C m c t (by omega) h1]
  dsimp only
  frame_out
  refine rows _ _ _ l p (fun j hj => (turn5632 _ j p).trans (back_at _ _ p l j hj)) fun n5632 => ?_
  refine rows _ _ _ l p (fun j hj => (turn0 _ j p).trans (back_at _ _ p l j hj)) fun n5120 => ?_
  refine rows _ _ _ l p (fun j hj => (turn0 _ j p).trans (back_at _ _ p l j hj)) fun n4608 => ?_
  refine rows _ _ _ l p (fun j hj => (turn0 _ j p).trans (back_at _ _ p l j hj)) fun n4096 => ?_
  refine rows _ _ _ l p (fun j hj => (turn0 _ j p).trans (back_at _ _ p l j hj)) fun n3584 => ?_
  refine rows _ _ _ l p (fun j hj => (turn0 _ j p).trans (back_at _ _ p l j hj)) fun n3072 => ?_
  refine rows _ _ _ l p (fun j hj => (turn0 _ j p).trans (back_at _ _ p l j hj)) fun n2560 => ?_
  refine rows _ _ _ l p (fun j hj => (turn0 _ j p).trans (back_at _ _ p l j hj)) fun n2048 => ?_
  refine rows _ _ _ l p (fun j hj => (turn0 _ j p).trans (back_at _ _ p l j hj)) fun n1536 => ?_
  refine rows _ _ _ l p (fun j hj => (turn0 _ j p).trans (back_at _ _ p l j hj)) fun n1024 => ?_
  refine rows _ _ _ l p (fun j hj => (turn0 _ j p).trans (back_at _ _ p l j hj)) fun n512 => ?_
  refine rows _ _ _ l p (fun j hj => (turn0 _ j p).trans (back_at _ _ p l j hj)) fun n0 => ?_
  omega

theorem after14 (h1 : t.val % 8 = 7) (l : Fin 5888) (p : Fin 512) : (dats m 0 c).after 14 t (ix2 l p : S5888x512.Idx) = grad (D m c) (U m c) l (col t p) := by
  rw [after0_14]
  refine (turned m c t h1 l p).trans ((carried m c t.val t.isLt p l).trans ?_)
  rw [h1, grad_eight]
  exact Finset.sum_range fun k => part 512 (D m c) (U m c) l (col t p) k

theorem block_at (X : (⟨2, ![5888, 1024]⟩ : Shape).Idx → EReal) (l : Fin 5888) (p : Fin 512) {i : (⟨2, ![5888, 1024]⟩ : Shape).Idx} (h : i = ix2 l (col t p)) :
    X (ix2 l (col t p)) = X i := by
  subst h; rfl

theorem final : (dats m 0 c).arrAt 14 cfg0.N = (grads (D m c) (U m c) : FVec Ideal S5888x1024 .bf16) := by
  refine (dats m 0 c).arrAt_eq_of_covers 14 _ (by decide +kernel) fun t hf y => ?_
  have ht : t.val % 8 = 7 := (flush0_14 t).1 hf
  blk_simp
  obtain ⟨l, p, rfl⟩ : ∃ (l : Fin 5888) (p : Fin 512), y = (ix2 l p : S5888x512.Idx) := ⟨y 0, y 1, eq_ix2 y⟩
  have he : ((cfg0.win 14).blk t).view.emb (ix2 l p : S5888x512.Idx) = (ix2 l (col t p) : S5888x1024.Idx) := by
    blk_ext [idx t]
  exact (after14 m c t ht l p).trans (block_at t (grads (D m c) (U m c)) l p he)

end Kernel

theorem algebraic : Cert.algebraic_KernelPcsIdeal_ReferencePcsIdeal := by
  intro m g m' g' _ hagree
  refine ⟨_, Cert.KernelPcsIdeal.Value.run_blocks m g, ?_⟩
  refine (θ_run Cert.ReferencePcsIdeal.defs _ _).mono (fun r h c => ?_) (Cert.ReferencePcsIdeal.Value.run m' g')
  obtain ⟨h0, hargs⟩ := h c
  obtain ⟨e0, e1, e2, e3, e4, e5, e6, e7⟩ := hagree c
  refine ⟨h0.trans ?_, hargs⟩
  rw [e0, e1, e2, e3, e4, e5, e6, e7, final m c]
  exact reference_value _ _ _ _ _ _ _ _

end Cert.PcsClaim

end
-- ==== Proof.Adam.Step.lean ====
/-
  One step of AdamW at one entry, over the extended reals, its constants as the programs hold them. Nothing is assumed finite.
-/
module

public import Idealize.ShloMosaic.Lib.Pipeline.ValueKit

@[expose] public section

noncomputable section

open Idealize.ShloMosaic

namespace Cert.Adam

/-- The first moment: nine tenths of the old and a tenth of the gradient. -/
def mom (g m : EReal) : EReal :=
  Ideal.ofBits .f32 0x3F666666#32 * m + Ideal.ofBits .f32 0x3DCCCCCD#32 * g

/-- The second moment: 0.999 of the old and 0.001 of the gradient's square. -/
def vel (g v : EReal) : EReal :=
  Ideal.ofBits .f32 0x3F7FBE77#32 * v + Ideal.ofBits .f32 0x3A83126F#32 * (g * g)

/-- The weight's change: minus the rate times the corrected moments' quotient and the decayed weight. -/
def delta (g w m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

end Cert.Adam

end
-- ==== Proof.Gains.Claim.lean ====
/-
  The sum over the devices of the loss and the three gains' gradients, and the gains' updates: frames, and the value, for any arguments.
-/
module

public import proofs.«01_k».proof.Defs
public import proofs.«01_k».proof.Proof.Gen.KernelGains.Frame
public import proofs.«01_k».proof.Proof.Gen.KernelGainsIdeal.Value
public import proofs.«01_k».proof.Proof.Gen.ReferenceGainsIdeal.Run
public import proofs.«01_k».proof.Proof.Adam.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GainsClaim

theorem frame_reference : Cert.quiescent_ReferenceGainsIdeal := by
  intro m g _
  hlo_run
  · exact fun _ => ⟨trivial, trivial, trivial, trivial, trivial, trivial, trivial, trivial, trivial, trivial⟩
  · exact sem_eq_zero_of_no_sems (sig := Cert.ReferenceGainsIdeal.sig) (by decide) _

/-- What the devices sent, a gain's state, and a row of the result. -/
abbrev Land := (⟨3, ![8, 8, 1024]⟩ : Shape).Idx → EReal
abbrev Gain := (⟨1, ![1024]⟩ : Shape).Idx → EReal
abbrev Row := (⟨2, ![1, 1024]⟩ : Shape).Idx → EReal

/-- Row `k`, summed over the devices. -/
def sum (x : Land) (k : Fin 8) (l : Fin 1024) : EReal := ∑ d : Fin 8, x (ix3 d k l)

def gr (x : Land) (k : Fin 8) : Row := fun i => sum x k (i 1)

/-- A gain's new moments and its change, by the gradient in row `k`. -/
def mom (x : Land) (k : Fin 8) (m : Gain) : Row := fun i => Adam.mom (sum x k (i 1)) (m (ix1 (i 1)))
def vel (x : Land) (k : Fin 8) (v : Gain) : Row := fun i => Adam.vel (sum x k (i 1)) (v (ix1 (i 1)))
def delta (x : Land) (k : Fin 8) (w m v : Gain) : Row := fun i => Adam.delta (sum x k (i 1)) (w (ix1 (i 1))) (m (ix1 (i 1))) (v (ix1 (i 1)))

section Reference

open Cert.ReferenceGainsIdeal Cert.ReferenceGainsIdeal.Gen

theorem ref_row0 (x : FVec Ideal S8x8x1024 .f32) : (extractStridedSlice S1x1024 ![0, 0] (Host.reduceAdd x (constant S_ .f32 0x00000000#32) reducesTo_S8x8x1024_S8x1024_d0 h_S_) slices_S8x1024_S1x1024_0_0 : FVec Ideal S1x1024 .f32) = gr x 0 := by
  funext i
  obtain ⟨p, l, rfl⟩ : ∃ (p : Fin 1) (l : Fin 1024), i = ix2 p l := ⟨i 0, i 1, eq_ix2 i⟩
  pointwise []
  exact Finset.sum_congr rfl fun d _ => congrArg x (congrArg (ix3 d · l) (Fin.ext (by simp)))

theorem ref_row1 (x : FVec Ideal S8x8x1024 .f32) : (extractStridedSlice S1x1024 ![1, 0] (Host.reduceAdd x (constant S_ .f32 0x00000000#32) reducesTo_S8x8x1024_S8x1024_d0 h_S_) slices_S8x1024_S1x1024_1_0 : FVec Ideal S1x1024 .f32) = gr x 1 := by
  funext i
  obtain ⟨p, l, rfl⟩ : ∃ (p : Fin 1) (l : Fin 1024), i = ix2 p l := ⟨i 0, i 1, eq_ix2 i⟩
  pointwise []
  exact Finset.sum_congr rfl fun d _ => congrArg x (congrArg (ix3 d · l) (Fin.ext (by simp)))

theorem ref_row2 (x : FVec Ideal S8x8x1024 .f32) : (extractStridedSlice S1x1024 ![2, 0] (Host.reduceAdd x (constant S_ .f32 0x00000000#32) reducesTo_S8x8x1024_S8x1024_d0 h_S_) slices_S8x1024_S1x1024_2_0 : FVec Ideal S1x1024 .f32) = gr x 2 := by
  funext i
  obtain ⟨p, l, rfl⟩ : ∃ (p : Fin 1) (l : Fin 1024), i = ix2 p l := ⟨i 0, i 1, eq_ix2 i⟩
  pointwise []
  exact Finset.sum_congr rfl fun d _ => congrArg x (congrArg (ix3 d · l) (Fin.ext (by simp)))

theorem ref_row3 (x : FVec Ideal S8x8x1024 .f32) : (extractStridedSlice S1x1024 ![3, 0] (Host.reduceAdd x (constant S_ .f32 0x00000000#32) reducesTo_S8x8x1024_S8x1024_d0 h_S_) slices_S8x1024_S1x1024_3_0 : FVec Ideal S1x1024 .f32) = gr x 3 := by
  funext i
  obtain ⟨p, l, rfl⟩ : ∃ (p : Fin 1) (l : Fin 1024), i = ix2 p l := ⟨i 0, i 1, eq_ix2 i⟩
  pointwise []
  exact Finset.sum_congr rfl fun d _ => congrArg x (congrArg (ix3 d · l) (Fin.ext (by simp)))

theorem ref_flat (x : Land) (k : Fin 8) : (shapeCast S1024 (gr x k : FVec Ideal S1x1024 .f32) shapeCasts_S1x1024_S1024 : FVec Ideal S1024 .f32) = fun i => sum x k (i 0) := by
  funext i
  obtain ⟨l, rfl⟩ : ∃ (l : Fin 1024), i = ix1 l := ⟨i 0, eq_ix1 i⟩
  pointwise []
  rfl

theorem ref_gr (x : Land) (k : Fin 8) : (shapeCast S1x1024 ((fun i => sum x k (i 0)) : FVec Ideal S1024 .f32) shapeCasts_S1024_S1x1024 : FVec Ideal S1x1024 .f32) = gr x k := by
  funext i
  obtain ⟨p, l, rfl⟩ : ∃ (p : Fin 1) (l : Fin 1024), i = ix2 p l := ⟨i 0, i 1, eq_ix2 i⟩
  pointwise []
  rfl

theorem ref_mom (g m : FVec Ideal S1024 .f32) :
    (addf (mulf (broadcastInDim S1024 ![] bcast_S_S1024 (constant S_ .f32 0x3F666666#32)) m) (mulf (broadcastInDim S1024 ![] bcast_S_S1024 (constant S_ .f32 0x3DCCCCCD#32)) g) : FVec Ideal S1024 .f32)
      = fun i => Adam.mom (g i) (m i) := by
  funext i
  obtain ⟨l, rfl⟩ : ∃ (l : Fin 1024), i = ix1 l := ⟨i 0, eq_ix1 i⟩
  pointwise []
  rfl

theorem ref_vel (g v : FVec Ideal S1024 .f32) :
    (addf (mulf (broadcastInDim S1024 ![] bcast_S_S1024 (constant S_ .f32 0x3F7FBE77#32)) v) (mulf (broadcastInDim S1024 ![] bcast_S_S1024 (constant S_ .f32 0x3A83126F#32)) (mulf g g)) : FVec Ideal S1024 .f32)
      = fun i => Adam.vel (g i) (v i) := by
  funext i
  obtain ⟨l, rfl⟩ : ∃ (l : Fin 1024), i = ix1 l := ⟨i 0, eq_ix1 i⟩
  pointwise []
  rfl

theorem ref_delta (w mu ve : FVec Ideal S1024 .f32) (g m v : Gain) (hm : mu = fun i => Adam.mom (g i) (m i)) (hv : ve = fun i => Adam.vel (g i) (v i)) :
    (mulf (broadcastInDim S1024 ![] bcast_S_S1024 (constant S_ .f32 0xBA83126F#32)) (addf (Host.divf (Host.divf mu (broadcastInDim S1024 ![] bcast_S_S1024 (constant S_ .f32 0x3F26BD02#32))) (addf (Host.sqrt (Host.divf ve (broadcastInDim S1024 ![] bcast_S_S1024 (constant S_ .f32 0x3C231ACC#32)))) (broadcastInDim S1024 ![] bcast_S_S1024 (constant S_ .f32 0x322BCC77#32)))) (mulf (broadcastInDim S1024 ![] bcast_S_S1024 (constant S_ .f32 0x3C23D70A#32)) w)) : FVec Ideal S1024 .f32)
      = fun i => Adam.delta (g i) (w i) (m i) (v i) := by
  funext i
  obtain ⟨l, rfl⟩ : ∃ (l : Fin 1024), i = ix1 l := ⟨i 0, eq_ix1 i⟩
  pointwise []
  subst hm; subst hv
  rfl

/-- A gain's row as a row of the result. -/
theorem ref_cast (f : Fin 1024 → EReal) : (shapeCast S1x1024 ((fun i => f (i 0)) : FVec Ideal S1024 .f32) shapeCasts_S1024_S1x1024 : FVec Ideal S1x1024 .f32) = fun i => f (i 1) := by
  funext i
  obtain ⟨p, l, rfl⟩ : ∃ (p : Fin 1) (l : Fin 1024), i = ix2 p l := ⟨i 0, i 1, eq_ix2 i⟩
  pointwise []

theorem ref_cast' (y : FVec Ideal S1024 .f32) (f : Fin 1024 → EReal) (h : y = fun i => f (i 0)) : (shapeCast S1x1024 y shapeCasts_S1024_S1x1024 : FVec Ideal S1x1024 .f32) = fun i => f (i 1) := by
  subst h
  exact ref_cast f

theorem mom_cast (y : FVec Ideal S1024 .f32) (x : Land) (k : Fin 8) (m : Gain) (h : y = fun i => Adam.mom (sum x k (i 0)) (m i)) :
    (shapeCast S1x1024 y shapeCasts_S1024_S1x1024 : FVec Ideal S1x1024 .f32) = mom x k m :=
  ref_cast' y (fun l => Adam.mom (sum x k l) (m (ix1 l))) (h.trans (funext fun i => congrArg (Adam.mom _) (congrArg m (eq_ix1 i))))

theorem vel_cast (y : FVec Ideal S1024 .f32) (x : Land) (k : Fin 8) (v : Gain) (h : y = fun i => Adam.vel (sum x k (i 0)) (v i)) :
    (shapeCast S1x1024 y shapeCasts_S1024_S1x1024 : FVec Ideal S1x1024 .f32) = vel x k v :=
  ref_cast' y (fun l => Adam.vel (sum x k l) (v (ix1 l))) (h.trans (funext fun i => congrArg (Adam.vel _) (congrArg v (eq_ix1 i))))

theorem delta_cast (y : FVec Ideal S1024 .f32) (x : Land) (k : Fin 8) (w m v : Gain) (h : y = fun i => Adam.delta (sum x k (i 0)) (w i) (m i) (v i)) :
    (shapeCast S1x1024 y shapeCasts_S1024_S1x1024 : FVec Ideal S1x1024 .f32) = delta x k w m v :=
  ref_cast' y (fun l => Adam.delta (sum x k l) (w (ix1 l)) (m (ix1 l)) (v (ix1 l)))
    (h.trans (funext fun i => congr (congr (congrArg (Adam.delta _) (congrArg w (eq_ix1 i))) (congrArg m (eq_ix1 i))) (congrArg v (eq_ix1 i))))

end Reference

section Kernel

open Cert.KernelGainsIdeal Cert.KernelGainsIdeal.Gen

variable (x : FVec Ideal S8x8x1024 .f32) (x1 x2 x3 x4 x5 x6 x7 x8 x9 : FVec Ideal S1x1024 .f32)

theorem pay15_at (k : Fin 8) (l : Fin 1024) : k0_pay15 (F := Ideal) x x1 x2 x3 x4 x5 x6 x7 x8 x9 (ix2 k l) = sum x k l := by
  unfold k0_pay15
  pointwise [k0_pay1]
  exact (Fin.sum_univ_eight fun d => x (ix3 d k l)).symm

theorem pay16_at (l : Fin 1024) : k0_pay16 (F := Ideal) x x1 x2 x3 x4 x5 x6 x7 x8 x9 (ix2 0 l) = sum x 0 l := by
  unfold k0_pay16
  pointwise [k0_pay3, k0_pay1]
  exact (Fin.sum_univ_eight fun d => x (ix3 d 0 l)).symm

theorem pay17_at (l : Fin 1024) : k0_pay17 (F := Ideal) x x1 x2 x3 x4 x5 x6 x7 x8 x9 (ix2 0 l) = sum x 1 l := by
  unfold k0_pay17
  pointwise [k0_pay7]
  exact pay15_at x x1 x2 x3 x4 x5 x6 x7 x8 x9 1 l

theorem pay18_at (l : Fin 1024) : k0_pay18 (F := Ideal) x x1 x2 x3 x4 x5 x6 x7 x8 x9 (ix2 0 l) = sum x 2 l := by
  unfold k0_pay18
  pointwise [k0_pay11]
  exact pay15_at x x1 x2 x3 x4 x5 x6 x7 x8 x9 2 l

theorem pay4_at (g m : FVec Ideal S1x1024 .f32) (l : Fin 1024) : k0_pay4 (F := Ideal) g m (ix2 0 l) = Adam.mom (g (ix2 0 l)) (m (ix2 0 l)) := by
  pointwise [k0_pay4]
  rfl

theorem pay5_at (g v : FVec Ideal S1x1024 .f32) (l : Fin 1024) : k0_pay5 (F := Ideal) g v (ix2 0 l) = Adam.vel (g (ix2 0 l)) (v (ix2 0 l)) := by
  pointwise [k0_pay5]
  rfl

theorem pay6_at (g w m v : FVec Ideal S1x1024 .f32) (l : Fin 1024) :
    k0_pay6 (F := Ideal) g w m v (ix2 0 l) = Adam.delta (g (ix2 0 l)) (w (ix2 0 l)) (m (ix2 0 l)) (v (ix2 0 l)) := by
  pointwise [k0_pay6, k0_pay4, k0_pay5]
  rfl

theorem pay8_at (g m : FVec Ideal S1x1024 .f32) (l : Fin 1024) : k0_pay8 (F := Ideal) g m (ix2 0 l) = Adam.mom (g (ix2 0 l)) (m (ix2 0 l)) := by
  pointwise [k0_pay8]
  rfl

theorem pay9_at (g v : FVec Ideal S1x1024 .f32) (l : Fin 1024) : k0_pay9 (F := Ideal) g v (ix2 0 l) = Adam.vel (g (ix2 0 l)) (v (ix2 0 l)) := by
  pointwise [k0_pay9]
  rfl

theorem pay10_at (g w m v : FVec Ideal S1x1024 .f32) (l : Fin 1024) :
    k0_pay10 (F := Ideal) g w m v (ix2 0 l) = Adam.delta (g (ix2 0 l)) (w (ix2 0 l)) (m (ix2 0 l)) (v (ix2 0 l)) := by
  pointwise [k0_pay10, k0_pay8, k0_pay9]
  rfl

theorem pay12_at (g m : FVec Ideal S1x1024 .f32) (l : Fin 1024) : k0_pay12 (F := Ideal) g m (ix2 0 l) = Adam.mom (g (ix2 0 l)) (m (ix2 0 l)) := by
  pointwise [k0_pay12]
  rfl

theorem pay13_at (g v : FVec Ideal S1x1024 .f32) (l : Fin 1024) : k0_pay13 (F := Ideal) g v (ix2 0 l) = Adam.vel (g (ix2 0 l)) (v (ix2 0 l)) := by
  pointwise [k0_pay13]
  rfl

theorem pay14_at (g w m v : FVec Ideal S1x1024 .f32) (l : Fin 1024) :
    k0_pay14 (F := Ideal) g w m v (ix2 0 l) = Adam.delta (g (ix2 0 l)) (w (ix2 0 l)) (m (ix2 0 l)) (v (ix2 0 l)) := by
  pointwise [k0_pay14, k0_pay12, k0_pay13]
  rfl

variable (m : (ℓ : Loc nD τ sig) → Buf (Elt Ideal) ℓ) (c : Dev nD) (t : Fin cfg0.N)

/-- The one point holds every array whole. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0] :=
  (by decide +kernel : ∀ t : Fin grid0.N, _)

/-- What the devices sent. -/
abbrev X : Land := m ((c : Thread nD τ).loc main_arg0)

/-- The gains, their first moments, their second ones. -/
abbrev A1 : Gain := m ((c : Thread nD τ).loc main_arg1)
abbrev A2 : Gain := m ((c : Thread nD τ).loc main_arg2)
abbrev A3 : Gain := m ((c : Thread nD τ).loc main_arg3)
abbrev A4 : Gain := m ((c : Thread nD τ).loc main_arg4)
abbrev A5 : Gain := m ((c : Thread nD τ).loc main_arg5)
abbrev A6 : Gain := m ((c : Thread nD τ).loc main_arg6)
abbrev A7 : Gain := m ((c : Thread nD τ).loc main_arg7)
abbrev A8 : Gain := m ((c : Thread nD τ).loc main_arg8)
abbrev A9 : Gain := m ((c : Thread nD τ).loc main_arg9)

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

/-- A gain as a row. -/
abbrev asRow (y : FVec Ideal S1024 .f32) : FVec Ideal S1x1024 .f32 := shapeCast S1x1024 y shapeCasts_S1024_S1x1024

theorem cast_at (y : FVec Ideal S1024 .f32) (l : Fin 1024) : asRow y (ix2 0 l) = y (ix1 l) := by
  pointwise []

theorem V0 : V m c main_arg0 = X m c := by
  unfold V; simp only [hostOps0]; after_results_simp

theorem blk0 (d k : Fin 8) (l : Fin 1024) : iblk m c 0 t (ix3 d k l : S8x8x1024.Idx) = X m c (ix3 d k l) :=
  at_emb (V0 m c) ((cfg0.win 0).blk t).view.emb (j := ix3 d k l) (by blk_ext [idx t])

theorem blk0_sum (k : Fin 8) (l : Fin 1024) : sum (iblk m c 0 t) k l = sum (X m c) k l :=
  Finset.sum_congr rfl fun d _ => blk0 m c t d k l

theorem V1 : V m c main_v0 = asRow (A1 m c) := by
  unfold V; simp only [hostOps0]; after_results_simp <;> rfl

theorem blk1 (l : Fin 1024) : iblk m c 1 t (ix2 0 l : S1x1024.Idx) = A1 m c (ix1 l) :=
  (at_emb (V1 m c) ((cfg0.win 1).blk t).view.emb (j := ix2 0 l) (by blk_ext [idx t])).trans (cast_at _ l)

theorem V2 : V m c main_v1 = asRow (A2 m c) := by
  unfold V; simp only [hostOps0]; after_results_simp <;> rfl

theorem blk2 (l : Fin 1024) : iblk m c 2 t (ix2 0 l : S1x1024.Idx) = A2 m c (ix1 l) :=
  (at_emb (V2 m c) ((cfg0.win 2).blk t).view.emb (j := ix2 0 l) (by blk_ext [idx t])).trans (cast_at _ l)

theorem V3 : V m c main_v2 = asRow (A3 m c) := by
  unfold V; simp only [hostOps0]; after_results_simp <;> rfl

theorem blk3 (l : Fin 1024) : iblk m c 3 t (ix2 0 l : S1x1024.Idx) = A3 m c (ix1 l) :=
  (at_emb (V3 m c) ((cfg0.win 3).blk t).view.emb (j := ix2 0 l) (by blk_ext [idx t])).trans (cast_at _ l)

theorem V4 : V m c main_v3 = asRow (A4 m c) := by
  unfold V; simp only [hostOps0]; after_results_simp <;> rfl

theorem blk4 (l : Fin 1024) : iblk m c 4 t (ix2 0 l : S1x1024.Idx) = A4 m c (ix1 l) :=
  (at_emb (V4 m c) ((cfg0.win 4).blk t).view.emb (j := ix2 0 l) (by blk_ext [idx t])).trans (cast_at _ l)

theorem V5 : V m c main_v4 = asRow (A5 m c) := by
  unfold V; simp only [hostOps0]; after_results_simp <;> rfl

theorem blk5 (l : Fin 1024) : iblk m c 5 t (ix2 0 l : S1x1024.Idx) = A5 m c (ix1 l) :=
  (at_emb (V5 m c) ((cfg0.win 5).blk t).view.emb (j := ix2 0 l) (by blk_ext [idx t])).trans (cast_at _ l)

theorem V6 : V m c main_v5 = asRow (A6 m c) := by
  unfold V; simp only [hostOps0]; after_results_simp <;> rfl

theorem blk6 (l : Fin 1024) : iblk m c 6 t (ix2 0 l : S1x1024.Idx) = A6 m c (ix1 l) :=
  (at_emb (V6 m c) ((cfg0.win 6).blk t).view.emb (j := ix2 0 l) (by blk_ext [idx t])).trans (cast_at _ l)

theorem V7 : V m c main_v6 = asRow (A7 m c) := by
  unfold V; simp only [hostOps0]; after_results_simp <;> rfl

theorem blk7 (l : Fin 1024) : iblk m c 7 t (ix2 0 l : S1x1024.Idx) = A7 m c (ix1 l) :=
  (at_emb (V7 m c) ((cfg0.win 7).blk t).view.emb (j := ix2 0 l) (by blk_ext [idx t])).trans (cast_at _ l)

theorem V8 : V m c main_v7 = asRow (A8 m c) := by
  unfold V; simp only [hostOps0]; after_results_simp <;> rfl

theorem blk8 (l : Fin 1024) : iblk m c 8 t (ix2 0 l : S1x1024.Idx) = A8 m c (ix1 l) :=
  (at_emb (V8 m c) ((cfg0.win 8).blk t).view.emb (j := ix2 0 l) (by blk_ext [idx t])).trans (cast_at _ l)

theorem V9 : V m c main_v8 = asRow (A9 m c) := by
  unfold V; simp only [hostOps0]; after_results_simp <;> rfl

theorem blk9 (l : Fin 1024) : iblk m c 9 t (ix2 0 l : S1x1024.Idx) = A9 m c (ix1 l) :=
  (at_emb (V9 m c) ((cfg0.win 9).blk t).view.emb (j := ix2 0 l) (by blk_ext [idx t])).trans (cast_at _ l)

/-- The gradient in row 0. -/
abbrev g0B : FVec Ideal S1x1024 .f32 := k0_pay16 (F := Ideal) (iblk m c 0 t) (iblk m c 1 t) (iblk m c 2 t) (iblk m c 3 t) (iblk m c 4 t) (iblk m c 5 t) (iblk m c 6 t) (iblk m c 7 t) (iblk m c 8 t) (iblk m c 9 t)

theorem g0_at (l : Fin 1024) : g0B m c t (ix2 0 l) = sum (X m c) 0 l :=
  (pay16_at _ _ _ _ _ _ _ _ _ _ l).trans (blk0_sum m c t 0 l)

/-- The gradient in row 1. -/
abbrev g1B : FVec Ideal S1x1024 .f32 := k0_pay17 (F := Ideal) (iblk m c 0 t) (iblk m c 1 t) (iblk m c 2 t) (iblk m c 3 t) (iblk m c 4 t) (iblk m c 5 t) (iblk m c 6 t) (iblk m c 7 t) (iblk m c 8 t) (iblk m c 9 t)

theorem g1_at (l : Fin 1024) : g1B m c t (ix2 0 l) = sum (X m c) 1 l :=
  (pay17_at _ _ _ _ _ _ _ _ _ _ l).trans (blk0_sum m c t 1 l)

/-- The gradient in row 2. -/
abbrev g2B : FVec Ideal S1x1024 .f32 := k0_pay18 (F := Ideal) (iblk m c 0 t) (iblk m c 1 t) (iblk m c 2 t) (iblk m c 3 t) (iblk m c 4 t) (iblk m c 5 t) (iblk m c 6 t) (iblk m c 7 t) (iblk m c 8 t) (iblk m c 9 t)

theorem g2_at (l : Fin 1024) : g2B m c t (ix2 0 l) = sum (X m c) 2 l :=
  (pay18_at _ _ _ _ _ _ _ _ _ _ l).trans (blk0_sum m c t 2 l)

theorem row_ix (y : S1x1024.Idx) : ∃ l : Fin 1024, y = ix2 0 l :=
  ⟨y 1, (eq_ix2 y).trans (congrArg (ix2 · (y 1)) (Subsingleton.elim (α := Fin 1) _ _))⟩

theorem block_at (Y : Row) (l : Fin 1024) {i : (⟨2, ![1, 1024]⟩ : Shape).Idx} (h : i = ix2 0 l) : Y (ix2 0 l) = Y i := by
  subst h; rfl

/-- The block of all eight rows. -/
abbrev gB : FVec Ideal S8x1024 .f32 := k0_pay15 (F := Ideal) (iblk m c 0 t) (iblk m c 1 t) (iblk m c 2 t) (iblk m c 3 t) (iblk m c 4 t) (iblk m c 5 t) (iblk m c 6 t) (iblk m c 7 t) (iblk m c 8 t) (iblk m c 9 t)

theorem pay2_eq (l : Fin 1024) : k0_pay2 (F := Ideal) (View.ld x r0_0) (View.ld x r0_1) (View.ld x r0_2) (View.ld x r0_3) (View.ld x r0_4) (View.ld x r0_5) (View.ld x r0_6) (View.ld x r0_7) (ix2 0 l) = sum x 3 l := by
  pointwise [k0_pay2, k0_pay1]
  exact (Fin.sum_univ_eight fun d => x (ix3 d 3 l)).symm

theorem final10 : (dats m 0 c).arrAt 10 cfg0.N = (gr (X m c) 3 : FVec Ideal S1x1024 .f32) := by
  refine (dats m 0 c).arrAt_eq_of_covers 10 _ (by decide +kernel) fun t _ y => ?_
  blk_simp
  obtain ⟨l, rfl⟩ := row_ix y
  have h : (dats m 0 c).after 10 t = k0_pay2 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by
    rw [after0_10]; unfold out0_10; frame_out; first | done | rfl
  exact (congrFun h _).trans (((pay2_eq _ l).trans (blk0_sum m c t 3 l)).trans (block_at (gr (X m c) 3) l (by blk_ext [idx t])))

theorem final11 : (dats m 0 c).arrAt 11 cfg0.N = (gr (X m c) 0 : FVec Ideal S1x1024 .f32) := by
  refine (dats m 0 c).arrAt_eq_of_covers 11 _ (by decide +kernel) fun t _ y => ?_
  blk_simp
  obtain ⟨l, rfl⟩ := row_ix y
  have h : (dats m 0 c).after 11 t = g0B m c t := by
    rw [after0_11]; unfold out0_11; frame_out; first | done | rfl
  exact (congrFun h _).trans ((g0_at m c t l).trans (block_at (gr (X m c) 0) l (by blk_ext [idx t])))

theorem final12 : (dats m 0 c).arrAt 12 cfg0.N = (delta (X m c) 0 (A1 m c) (A4 m c) (A7 m c) : FVec Ideal S1x1024 .f32) := by
  refine (dats m 0 c).arrAt_eq_of_covers 12 _ (by decide +kernel) fun t _ y => ?_
  blk_simp
  obtain ⟨l, rfl⟩ := row_ix y
  have h : (dats m 0 c).after 12 t = k0_pay6 (F := Ideal) (g0B m c t) (iblk m c 1 t) (iblk m c 4 t) (iblk m c 7 t) := by
    rw [after0_12]; unfold out0_12; frame_out; first | done | rfl
  exact (congrFun h _).trans (((pay6_at _ _ _ _ l).trans (congr (congr (congrArg₂ Adam.delta (g0_at m c t l) (blk1 m c t l)) (blk4 m c t l)) (blk7 m c t l))).trans (block_at (delta (X m c) 0 (A1 m c) (A4 m c) (A7 m c)) l (by blk_ext [idx t])))

theorem final13 : (dats m 0 c).arrAt 13 cfg0.N = (mom (X m c) 0 (A4 m c) : FVec Ideal S1x1024 .f32) := by
  refine (dats m 0 c).arrAt_eq_of_covers 13 _ (by decide +kernel) fun t _ y => ?_
  blk_simp
  obtain ⟨l, rfl⟩ := row_ix y
  have h : (dats m 0 c).after 13 t = k0_pay4 (F := Ideal) (g0B m c t) (iblk m c 4 t) := by
    rw [after0_13]; unfold out0_13; frame_out; first | done | rfl
  exact (congrFun h _).trans (((pay4_at _ _ l).trans (congrArg₂ Adam.mom (g0_at m c t l) (blk4 m c t l))).trans (block_at (mom (X m c) 0 (A4 m c)) l (by blk_ext [idx t])))

theorem final14 : (dats m 0 c).arrAt 14 cfg0.N = (vel (X m c) 0 (A7 m c) : FVec Ideal S1x1024 .f32) := by
  refine (dats m 0 c).arrAt_eq_of_covers 14 _ (by decide +kernel) fun t _ y => ?_
  blk_simp
  obtain ⟨l, rfl⟩ := row_ix y
  have h : (dats m 0 c).after 14 t = k0_pay5 (F := Ideal) (g0B m c t) (iblk m c 7 t) := by
    rw [after0_14]; unfold out0_14; frame_out; first | done | rfl
  exact (congrFun h _).trans (((pay5_at _ _ l).trans (congrArg₂ Adam.vel (g0_at m c t l) (blk7 m c t l))).trans (block_at (vel (X m c) 0 (A7 m c)) l (by blk_ext [idx t])))

theorem final15 : (dats m 0 c).arrAt 15 cfg0.N = (gr (X m c) 1 : FVec Ideal S1x1024 .f32) := by
  refine (dats m 0 c).arrAt_eq_of_covers 15 _ (by decide +kernel) fun t _ y => ?_
  blk_simp
  obtain ⟨l, rfl⟩ := row_ix y
  have h : (dats m 0 c).after 15 t = g1B m c t := by
    rw [after0_15]; unfold out0_15; frame_out; first | done | rfl
  exact (congrFun h _).trans ((g1_at m c t l).trans (block_at (gr (X m c) 1) l (by blk_ext [idx t])))

theorem final16 : (dats m 0 c).arrAt 16 cfg0.N = (delta (X m c) 1 (A2 m c) (A5 m c) (A8 m c) : FVec Ideal S1x1024 .f32) := by
  refine (dats m 0 c).arrAt_eq_of_covers 16 _ (by decide +kernel) fun t _ y => ?_
  blk_simp
  obtain ⟨l, rfl⟩ := row_ix y
  have h : (dats m 0 c).after 16 t = k0_pay10 (F := Ideal) (g1B m c t) (iblk m c 2 t) (iblk m c 5 t) (iblk m c 8 t) := by
    rw [after0_16]; unfold out0_16; frame_out; first | done | rfl
  exact (congrFun h _).trans (((pay10_at _ _ _ _ l).trans (congr (congr (congrArg₂ Adam.delta (g1_at m c t l) (blk2 m c t l)) (blk5 m c t l)) (blk8 m c t l))).trans (block_at (delta (X m c) 1 (A2 m c) (A5 m c) (A8 m c)) l (by blk_ext [idx t])))

theorem final17 : (dats m 0 c).arrAt 17 cfg0.N = (mom (X m c) 1 (A5 m c) : FVec Ideal S1x1024 .f32) := by
  refine (dats m 0 c).arrAt_eq_of_covers 17 _ (by decide +kernel) fun t _ y => ?_
  blk_simp
  obtain ⟨l, rfl⟩ := row_ix y
  have h : (dats m 0 c).after 17 t = k0_pay8 (F := Ideal) (g1B m c t) (iblk m c 5 t) := by
    rw [after0_17]; unfold out0_17; frame_out; first | done | rfl
  exact (congrFun h _).trans (((pay8_at _ _ l).trans (congrArg₂ Adam.mom (g1_at m c t l) (blk5 m c t l))).trans (block_at (mom (X m c) 1 (A5 m c)) l (by blk_ext [idx t])))

theorem final18 : (dats m 0 c).arrAt 18 cfg0.N = (vel (X m c) 1 (A8 m c) : FVec Ideal S1x1024 .f32) := by
  refine (dats m 0 c).arrAt_eq_of_covers 18 _ (by decide +kernel) fun t _ y => ?_
  blk_simp
  obtain ⟨l, rfl⟩ := row_ix y
  have h : (dats m 0 c).after 18 t = k0_pay9 (F := Ideal) (g1B m c t) (iblk m c 8 t) := by
    rw [after0_18]; unfold out0_18; frame_out; first | done | rfl
  exact (congrFun h _).trans (((pay9_at _ _ l).trans (congrArg₂ Adam.vel (g1_at m c t l) (blk8 m c t l))).trans (block_at (vel (X m c) 1 (A8 m c)) l (by blk_ext [idx t])))

theorem final19 : (dats m 0 c).arrAt 19 cfg0.N = (gr (X m c) 2 : FVec Ideal S1x1024 .f32) := by
  refine (dats m 0 c).arrAt_eq_of_covers 19 _ (by decide +kernel) fun t _ y => ?_
  blk_simp
  obtain ⟨l, rfl⟩ := row_ix y
  have h : (dats m 0 c).after 19 t = g2B m c t := by
    rw [after0_19]; unfold out0_19; frame_out; first | done | rfl
  exact (congrFun h _).trans ((g2_at m c t l).trans (block_at (gr (X m c) 2) l (by blk_ext [idx t])))

theorem final20 : (dats m 0 c).arrAt 20 cfg0.N = (delta (X m c) 2 (A3 m c) (A6 m c) (A9 m c) : FVec Ideal S1x1024 .f32) := by
  refine (dats m 0 c).arrAt_eq_of_covers 20 _ (by decide +kernel) fun t _ y => ?_
  blk_simp
  obtain ⟨l, rfl⟩ := row_ix y
  have h : (dats m 0 c).after 20 t = k0_pay14 (F := Ideal) (g2B m c t) (iblk m c 3 t) (iblk m c 6 t) (iblk m c 9 t) := by
    rw [after0_20]; unfold out0_20; frame_out; first | done | rfl
  exact (congrFun h _).trans (((pay14_at _ _ _ _ l).trans (congr (congr (congrArg₂ Adam.delta (g2_at m c t l) (blk3 m c t l)) (blk6 m c t l)) (blk9 m c t l))).trans (block_at (delta (X m c) 2 (A3 m c) (A6 m c) (A9 m c)) l (by blk_ext [idx t])))

theorem final21 : (dats m 0 c).arrAt 21 cfg0.N = (mom (X m c) 2 (A6 m c) : FVec Ideal S1x1024 .f32) := by
  refine (dats m 0 c).arrAt_eq_of_covers 21 _ (by decide +kernel) fun t _ y => ?_
  blk_simp
  obtain ⟨l, rfl⟩ := row_ix y
  have h : (dats m 0 c).after 21 t = k0_pay12 (F := Ideal) (g2B m c t) (iblk m c 6 t) := by
    rw [after0_21]; unfold out0_21; frame_out; first | done | rfl
  exact (congrFun h _).trans (((pay12_at _ _ l).trans (congrArg₂ Adam.mom (g2_at m c t l) (blk6 m c t l))).trans (block_at (mom (X m c) 2 (A6 m c)) l (by blk_ext [idx t])))

theorem final22 : (dats m 0 c).arrAt 22 cfg0.N = (vel (X m c) 2 (A9 m c) : FVec Ideal S1x1024 .f32) := by
  refine (dats m 0 c).arrAt_eq_of_covers 22 _ (by decide +kernel) fun t _ y => ?_
  blk_simp
  obtain ⟨l, rfl⟩ := row_ix y
  have h : (dats m 0 c).after 22 t = k0_pay13 (F := Ideal) (g2B m c t) (iblk m c 9 t) := by
    rw [after0_22]; unfold out0_22; frame_out; first | done | rfl
  exact (congrFun h _).trans (((pay13_at _ _ l).trans (congrArg₂ Adam.vel (g2_at m c t l) (blk9 m c t l))).trans (block_at (vel (X m c) 2 (A9 m c)) l (by blk_ext [idx t])))

end Kernel

theorem algebraic : Cert.algebraic_KernelGainsIdeal_ReferenceGainsIdeal := by
  intro m g m' g' _ hagree
  refine ⟨_, _, _, _, _, _, _, _, _, _, _, _, _, Cert.KernelGainsIdeal.Value.run_blocks m g, ?_⟩
  refine (θ_run Cert.ReferenceGainsIdeal.defs _ _).mono (fun r h c => ?_) (Cert.ReferenceGainsIdeal.Value.run m' g')
  obtain ⟨h0, h1, h2, h3, h4, h5, h6, h7, h8, h9, h10, h11, h12, hargs⟩ := h c
  obtain ⟨e0, e1, e2, e3, e4, e5, e6, e7, e8, e9⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, hargs⟩
  · rw [e0, final10 m c]
    exact ref_row3 _
  · rw [e0, final11 m c, ref_row0, ref_flat]
    exact ref_gr _ _
  · rw [e0, e1, e4, e7, final12 m c, ref_row0, ref_flat]
    exact delta_cast _ _ _ _ _ _ (ref_delta _ _ _ _ _ _ (ref_mom _ _) (ref_vel _ _))
  · rw [e0, e4, final13 m c, ref_row0, ref_flat]
    exact mom_cast _ _ _ _ (ref_mom _ _)
  · rw [e0, e7, final14 m c, ref_row0, ref_flat]
    exact vel_cast _ _ _ _ (ref_vel _ _)
  · rw [e0, final15 m c, ref_row1, ref_flat]
    exact ref_gr _ _
  · rw [e0, e2, e5, e8, final16 m c, ref_row1, ref_flat]
    exact delta_cast _ _ _ _ _ _ (ref_delta _ _ _ _ _ _ (ref_mom _ _) (ref_vel _ _))
  · rw [e0, e5, final17 m c, ref_row1, ref_flat]
    exact mom_cast _ _ _ _ (ref_mom _ _)
  · rw [e0, e8, final18 m c, ref_row1, ref_flat]
    exact vel_cast _ _ _ _ (ref_vel _ _)
  · rw [e0, final19 m c, ref_row2, ref_flat]
    exact ref_gr _ _
  · rw [e0, e3, e6, e9, final20 m c, ref_row2, ref_flat]
    exact delta_cast _ _ _ _ _ _ (ref_delta _ _ _ _ _ _ (ref_mom _ _) (ref_vel _ _))
  · rw [e0, e6, final21 m c, ref_row2, ref_flat]
    exact mom_cast _ _ _ _ (ref_mom _ _)
  · rw [e0, e9, final22 m c, ref_row2, ref_flat]
    exact vel_cast _ _ _ _ (ref_vel _ _)

end Cert.GainsClaim

end
-- ==== Proof.Upd.Claim.lean ====
/-
  The sum over the devices of a weight's gradient and the weight's update: frames, and the value, for any arguments.
-/
module

public import proofs.«01_k».proof.Defs
public import proofs.«01_k».proof.Proof.Gen.KernelUpd.Frame
public import proofs.«01_k».proof.Proof.Gen.KernelUpdIdeal.Value
public import proofs.«01_k».proof.Proof.Gen.ReferenceUpdIdeal.Run
public import proofs.«01_k».proof.Proof.Adam.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpdClaim

theorem frame_reference : Cert.quiescent_ReferenceUpdIdeal := by
  intro m g _
  hlo_run
  · exact fun _ => ⟨trivial, trivial, trivial, trivial⟩
  · exact sem_eq_zero_of_no_sems (sig := Cert.ReferenceUpdIdeal.sig) (by decide) _

/-- What the devices sent, and one row-block of a weight's state. -/
abbrev Land := (⟨3, ![8, 704, 1024]⟩ : Shape).Idx → EReal
abbrev Arr := (⟨3, ![1, 704, 1024]⟩ : Shape).Idx → EReal

/-- The gradient: the sum over the devices. -/
def gr (x : Land) : Arr := fun i => ∑ d : Fin 8, x (ix3 d (i 1) (i 2))

/-- The new moments and the change. -/
def mom (x : Land) (m : Arr) : Arr := fun i => Adam.mom (gr x i) (m i)
def vel (x : Land) (v : Arr) : Arr := fun i => Adam.vel (gr x i) (v i)
def delta (x : Land) (w m v : Arr) : Arr := fun i => Adam.delta (gr x i) (w i) (m i) (v i)

theorem place {r : ℕ} (y : (⟨3, ![1, r, 1024]⟩ : Shape).Idx) : ∃ (p : Fin r) (l : Fin 1024), y = ix3 0 p l :=
  ⟨y 1, y 2, (eq_ix3 y).trans (by rw [Subsingleton.elim (α := Fin 1) (y 0) 0])⟩

section Reference

open Cert.ReferenceUpdIdeal Cert.ReferenceUpdIdeal.Gen

theorem ref_gr (x : FVec Ideal S8x704x1024 .f32) :
    (broadcastInDim S1x704x1024 ![1, 2] bcast_S704x1024_S1x704x1024_1_2 (Host.reduceAdd x (constant S_ .f32 0x00000000#32) reducesTo_S8x704x1024_S704x1024_d0 h_S_) : FVec Ideal S1x704x1024 .f32) = gr x := by
  funext i
  obtain ⟨p, l, rfl⟩ := place i
  pointwise []
  rfl

theorem ref_mom (g m : FVec Ideal S1x704x1024 .f32) :
    (addf (mulf (broadcastInDim S1x704x1024 ![] bcast_S_S1x704x1024 (constant S_ .f32 0x3F666666#32)) m) (mulf (broadcastInDim S1x704x1024 ![] bcast_S_S1x704x1024 (constant S_ .f32 0x3DCCCCCD#32)) g) : FVec Ideal S1x704x1024 .f32)
      = fun i => Adam.mom (g i) (m i) := by
  funext i
  obtain ⟨p, l, rfl⟩ := place i
  pointwise []
  rfl

theorem ref_vel (g v : FVec Ideal S1x704x1024 .f32) :
    (addf (mulf (broadcastInDim S1x704x1024 ![] bcast_S_S1x704x1024 (constant S_ .f32 0x3F7FBE77#32)) v) (mulf (broadcastInDim S1x704x1024 ![] bcast_S_S1x704x1024 (constant S_ .f32 0x3A83126F#32)) (mulf g g)) : FVec Ideal S1x704x1024 .f32)
      = fun i => Adam.vel (g i) (v i) := by
  funext i
  obtain ⟨p, l, rfl⟩ := place i
  pointwise []
  rfl

theorem ref_delta (w mu ve : FVec Ideal S1x704x1024 .f32) (g m v : Arr) (hm : mu = fun i => Adam.mom (g i) (m i)) (hv : ve = fun i => Adam.vel (g i) (v i)) :
    (mulf (broadcastInDim S1x704x1024 ![] bcast_S_S1x704x1024 (constant S_ .f32 0xBA83126F#32)) (addf (Host.divf (Host.divf mu (broadcastInDim S1x704x1024 ![] bcast_S_S1x704x1024 (constant S_ .f32 0x3F26BD02#32))) (addf (Host.sqrt (Host.divf ve (broadcastInDim S1x704x1024 ![] bcast_S_S1x704x1024 (constant S_ .f32 0x3C231ACC#32)))) (broadcastInDim S1x704x1024 ![] bcast_S_S1x704x1024 (constant S_ .f32 0x322BCC77#32)))) (mulf (broadcastInDim S1x704x1024 ![] bcast_S_S1x704x1024 (constant S_ .f32 0x3C23D70A#32)) w)) : FVec Ideal S1x704x1024 .f32)
      = fun i => Adam.delta (g i) (w i) (m i) (v i) := by
  funext i
  obtain ⟨p, l, rfl⟩ := place i
  pointwise []
  subst hm; subst hv
  rfl

end Reference

section Kernel

open Cert.KernelUpdIdeal Cert.KernelUpdIdeal.Gen

theorem pay8_at (x0 : FVec Ideal S8x352x1024 .bf16) (x1 x2 x3 : FVec Ideal S1x352x1024 .f32) (p : Fin 352) (l : Fin 1024) :
    k0_pay8 (F := Ideal) x0 x1 x2 x3 (ix2 p l) = ∑ d : Fin 8, x0 (ix3 d p l) := by
  unfold k0_pay8
  pointwise [k0_pay3]
  exact (Fin.sum_univ_eight fun d => x0 (ix3 d p l)).symm

theorem pay4_at (g : FVec Ideal S352x1024 .f32) (p : Fin 352) (l : Fin 1024) : k0_pay4 (F := Ideal) g (ix3 0 p l) = g (ix2 p l) := by
  pointwise [k0_pay4]

theorem pay7_at (g : FVec Ideal S352x1024 .f32) (w m v : FVec Ideal S1x352x1024 .f32) (p : Fin 352) (l : Fin 1024) :
    k0_pay7 (F := Ideal) g w m v (ix3 0 p l) = Adam.delta (g (ix2 p l)) (w (ix3 0 p l)) (m (ix3 0 p l)) (v (ix3 0 p l)) := by
  pointwise [k0_pay7, k0_pay5, k0_pay6]
  rfl

theorem pay1_at (g : FVec Ideal S352x1024 .f32) (m : FVec Ideal S1x352x1024 .f32) (p : Fin 352) (l : Fin 1024) :
    k0_pay1 (F := Ideal) (k0_pay5 (F := Ideal) g m) (ix3 0 p l) = Adam.mom (g (ix2 p l)) (m (ix3 0 p l)) := by
  pointwise [k0_pay1, k0_pay5]
  rfl

theorem pay2_at (g : FVec Ideal S352x1024 .f32) (v : FVec Ideal S1x352x1024 .f32) (p : Fin 352) (l : Fin 1024) :
    k0_pay2 (F := Ideal) (k0_pay6 (F := Ideal) g v) (ix3 0 p l) = Adam.vel (g (ix2 p l)) (v (ix3 0 p l)) := by
  pointwise [k0_pay2, k0_pay6]
  rfl

variable (m : (ℓ : Loc nD τ sig) → Buf (Elt Ideal) ℓ) (c : Dev nD) (t : Fin cfg0.N)

/-- Point `t` holds rows `352 t` to `352 t + 351` of every array. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row that row `p` of point `t`'s block is. -/
abbrev at_ (t : Fin cfg0.N) (p : Fin 352) : Fin 704 :=
  ⟨t.val * 352 + p.val, by have h : t.val < 2 := t.isLt; omega⟩

/-- The arguments. -/
abbrev X : Land := m ((c : Thread nD τ).loc main_arg0)
abbrev W : Arr := m ((c : Thread nD τ).loc main_arg1)
abbrev M : Arr := m ((c : Thread nD τ).loc main_arg2)
abbrev Ve : Arr := m ((c : Thread nD τ).loc main_arg3)

theorem V0 : V m c main_v0 = (truncf .bf16 (X m c) bitsLt_bf16_f32 : FVec Ideal S8x704x1024 .bf16) := by
  unfold V; simp only [hostOps0]; after_results_simp <;> rfl

theorem V1 : V m c main_arg1 = W m c := by
  unfold V; simp only [hostOps0]; after_results_simp

theorem V2 : V m c main_arg2 = M m c := by
  unfold V; simp only [hostOps0]; after_results_simp

theorem V3 : V m c main_arg3 = Ve m c := by
  unfold V; simp only [hostOps0]; after_results_simp

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem blk0 (d : Fin 8) (p : Fin 352) (l : Fin 1024) : iblk m c 0 t (ix3 d p l : S8x352x1024.Idx) = X m c (ix3 d (at_ t p) l) :=
  at_emb (V0 m c) ((cfg0.win 0).blk t).view.emb (j := ix3 d (at_ t p) l) (by blk_ext [idx t])

theorem blk1 (p : Fin 352) (l : Fin 1024) : iblk m c 1 t (ix3 0 p l : S1x352x1024.Idx) = W m c (ix3 0 (at_ t p) l) :=
  at_emb (V1 m c) ((cfg0.win 1).blk t).view.emb (j := ix3 0 (at_ t p) l) (by blk_ext [idx t])

theorem blk2 (p : Fin 352) (l : Fin 1024) : iblk m c 2 t (ix3 0 p l : S1x352x1024.Idx) = M m c (ix3 0 (at_ t p) l) :=
  at_emb (V2 m c) ((cfg0.win 2).blk t).view.emb (j := ix3 0 (at_ t p) l) (by blk_ext [idx t])

theorem blk3 (p : Fin 352) (l : Fin 1024) : iblk m c 3 t (ix3 0 p l : S1x352x1024.Idx) = Ve m c (ix3 0 (at_ t p) l) :=
  at_emb (V3 m c) ((cfg0.win 3).blk t).view.emb (j := ix3 0 (at_ t p) l) (by blk_ext [idx t])

/-- The block of the gradient. -/
abbrev grB : FVec Ideal S352x1024 .f32 := k0_pay8 (F := Ideal) (iblk m c 0 t) (iblk m c 1 t) (iblk m c 2 t) (iblk m c 3 t)

theorem gr_at (p : Fin 352) (l : Fin 1024) : grB m c t (ix2 p l) = gr (X m c) (ix3 0 (at_ t p) l) :=
  (pay8_at _ _ _ _ p l).trans (Finset.sum_congr rfl fun d _ => blk0 m c t d p l)

theorem after4 : (dats m 0 c).after 4 t = k0_pay4 (F := Ideal) (grB m c t) := by
  rw [after0_4]; unfold out0_4; frame_out

theorem after5 : (dats m 0 c).after 5 t = k0_pay7 (F := Ideal) (grB m c t) (iblk m c 1 t) (iblk m c 2 t) (iblk m c 3 t) := by
  rw [after0_5]; unfold out0_5; frame_out

theorem after6 : (dats m 0 c).after 6 t = k0_pay1 (F := Ideal) (k0_pay5 (F := Ideal) (grB m c t) (iblk m c 2 t)) := by
  rw [after0_6]; unfold out0_6; frame_out

theorem after7 : (dats m 0 c).after 7 t = k0_pay2 (F := Ideal) (k0_pay6 (F := Ideal) (grB m c t) (iblk m c 3 t)) := by
  rw [after0_7]; unfold out0_7; frame_out

theorem block_at (Y : Arr) (p : Fin 352) (l : Fin 1024) {i : (⟨3, ![1, 704, 1024]⟩ : Shape).Idx} (h : i = ix3 0 (at_ t p) l) : Y (ix3 0 (at_ t p) l) = Y i := by
  subst h; rfl

theorem final4 : (dats m 0 c).arrAt 4 cfg0.N = (gr (X m c) : FVec Ideal S1x704x1024 .f32) := by
  refine (dats m 0 c).arrAt_eq_of_covers 4 _ (by decide +kernel) fun t _ y => ?_
  blk_simp
  obtain ⟨p, l, rfl⟩ := place (r := 352) y
  exact (congrFun (after4 m c t) _).trans ((pay4_at _ p l).trans ((gr_at m c t p l).trans (block_at t (gr (X m c)) p l (by blk_ext [idx t]))))

theorem final5 : (dats m 0 c).arrAt 5 cfg0.N = (delta (X m c) (W m c) (M m c) (Ve m c) : FVec Ideal S1x704x1024 .f32) := by
  refine (dats m 0 c).arrAt_eq_of_covers 5 _ (by decide +kernel) fun t _ y => ?_
  blk_simp
  obtain ⟨p, l, rfl⟩ := place (r := 352) y
  refine (congrFun (after5 m c t) _).trans ((pay7_at _ _ _ _ p l).trans (Eq.trans ?_ (block_at t (delta (X m c) (W m c) (M m c) (Ve m c)) p l (by blk_ext [idx t]))))
  exact congr (congr (congrArg₂ Adam.delta (gr_at m c t p l) (blk1 m c t p l)) (blk2 m c t p l)) (blk3 m c t p l)

theorem final6 : (dats m 0 c).arrAt 6 cfg0.N = (mom (X m c) (M m c) : FVec Ideal S1x704x1024 .f32) := by
  refine (dats m 0 c).arrAt_eq_of_covers 6 _ (by decide +kernel) fun t _ y => ?_
  blk_simp
  obtain ⟨p, l, rfl⟩ := place (r := 352) y
  refine (congrFun (after6 m c t) _).trans ((pay1_at _ _ p l).trans (Eq.trans ?_ (block_at t (mom (X m c) (M m c)) p l (by blk_ext [idx t]))))
  exact congrArg₂ Adam.mom (gr_at m c t p l) (blk2 m c t p l)

theorem final7 : (dats m 0 c).arrAt 7 cfg0.N = (vel (X m c) (Ve m c) : FVec Ideal S1x704x1024 .f32) := by
  refine (dats m 0 c).arrAt_eq_of_covers 7 _ (by decide +kernel) fun t _ y => ?_
  blk_simp
  obtain ⟨p, l, rfl⟩ := place (r := 352) y
  refine (congrFun (after7 m c t) _).trans ((pay2_at _ _ p l).trans (Eq.trans ?_ (block_at t (vel (X m c) (Ve m c)) p l (by blk_ext [idx t]))))
  exact congrArg₂ Adam.vel (gr_at m c t p l) (blk3 m c t p l)

end Kernel

theorem algebraic : Cert.algebraic_KernelUpdIdeal_ReferenceUpdIdeal := by
  intro m g m' g' _ hagree
  refine ⟨_, _, _, _, Cert.KernelUpdIdeal.Value.run_blocks m g, ?_⟩
  refine (θ_run Cert.ReferenceUpdIdeal.defs _ _).mono (fun r h c => ?_) (Cert.ReferenceUpdIdeal.Value.run m' g')
  obtain ⟨h0, h1, h2, h3, hargs⟩ := h c
  obtain ⟨e0, e1, e2, e3⟩ := hagree c
  refine ⟨h0.trans ?_, h1.trans ?_, h2.trans ?_, h3.trans ?_, hargs⟩
  · rw [e0, final4 m c]
    exact ref_gr _
  · rw [e0, e1, e2, e3, final5 m c, ref_gr]
    exact ref_delta _ _ _ _ _ _ (ref_mom _ _) (ref_vel _ _)
  · rw [e0, e2, final6 m c, ref_gr]
    exact ref_mom _ _
  · rw [e0, e3, final7 m c, ref_gr]
    exact ref_vel _ _

end Cert.UpdClaim

end
-- ==== Proof.Bf.Claim.lean ====
/-
  A device's shards of the weights, cast and laid out as they are sent: frames, and the value, for any arguments.
-/
module

public import proofs.«01_k».proof.Defs
public import proofs.«01_k».proof.Proof.Gen.KernelBf.Frame
public import proofs.«01_k».proof.Proof.Gen.KernelBfIdeal.Value
public import proofs.«01_k».proof.Proof.Gen.ReferenceBfIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BfClaim

theorem frame_reference : Cert.quiescent_ReferenceBfIdeal := by
  intro m g _
  hlo_run
  · exact fun _ => ⟨trivial, trivial, trivial, trivial, trivial, trivial⟩
  · exact sem_eq_zero_of_no_sems (sig := Cert.ReferenceBfIdeal.sig) (by decide) _

/-- A shard's rows, and its columns as rows. -/
def rows {a b : ℕ} (x : (⟨3, ![1, a, b]⟩ : Shape).Idx → EReal) : (⟨2, ![a, b]⟩ : Shape).Idx → EReal := fun i => x (ix3 0 (i 0) (i 1))
def cols {a b : ℕ} (x : (⟨3, ![1, a, b]⟩ : Shape).Idx → EReal) : (⟨2, ![b, a]⟩ : Shape).Idx → EReal := fun i => x (ix3 0 (i 1) (i 0))

section Reference

open Cert.ReferenceBfIdeal Cert.ReferenceBfIdeal.Gen

theorem ref0 (x : FVec Ideal S1x1024x736 .f32) :
    (truncf .bf16 (transpose S736x1024 [1, 0] (shapeCast S1024x736 x shapeCasts_S1x1024x736_S1024x736) transposes_S1024x736_S736x1024_1_0) bitsLt_bf16_f32 : FVec Ideal S736x1024 .bf16) = cols x := by
  funext i
  obtain ⟨p, l, rfl⟩ : ∃ (p : Fin 736) (l : Fin 1024), i = ix2 p l := ⟨i 0, i 1, eq_ix2 i⟩
  pointwise []
  rfl

theorem ref1 (x : FVec Ideal S1x512x128 .f32) :
    (truncf .bf16 (transpose S128x512 [1, 0] (shapeCast S512x128 x shapeCasts_S1x512x128_S512x128) transposes_S512x128_S128x512_1_0) bitsLt_bf16_f32 : FVec Ideal S128x512 .bf16) = cols x := by
  funext i
  obtain ⟨p, l, rfl⟩ : ∃ (p : Fin 128) (l : Fin 512), i = ix2 p l := ⟨i 0, i 1, eq_ix2 i⟩
  pointwise []
  rfl

theorem ref2 (x : FVec Ideal S1x256x128 .f32) :
    (truncf .bf16 (transpose S128x256 [1, 0] (shapeCast S256x128 x shapeCasts_S1x256x128_S256x128) transposes_S256x128_S128x256_1_0) bitsLt_bf16_f32 : FVec Ideal S128x256 .bf16) = cols x := by
  funext i
  obtain ⟨p, l, rfl⟩ : ∃ (p : Fin 128) (l : Fin 256), i = ix2 p l := ⟨i 0, i 1, eq_ix2 i⟩
  pointwise []
  rfl

theorem ref3 (x : FVec Ideal S1x128x1024 .f32) :
    (truncf .bf16 (shapeCast S128x1024 x shapeCasts_S1x128x1024_S128x1024) bitsLt_bf16_f32 : FVec Ideal S128x1024 .bf16) = rows x := by
  funext i
  obtain ⟨p, l, rfl⟩ : ∃ (p : Fin 128) (l : Fin 1024), i = ix2 p l := ⟨i 0, i 1, eq_ix2 i⟩
  pointwise []
  rfl

theorem ref4 (x : FVec Ideal S1x1024x704 .f32) :
    (truncf .bf16 (transpose S704x1024 [1, 0] (shapeCast S1024x704 x shapeCasts_S1x1024x704_S1024x704) transposes_S1024x704_S704x1024_1_0) bitsLt_bf16_f32 : FVec Ideal S704x1024 .bf16) = cols x := by
  funext i
  obtain ⟨p, l, rfl⟩ : ∃ (p : Fin 704) (l : Fin 1024), i = ix2 p l := ⟨i 0, i 1, eq_ix2 i⟩
  pointwise []
  rfl

theorem ref5 (x : FVec Ideal S1x352x1024 .f32) :
    (truncf .bf16 (shapeCast S352x1024 x shapeCasts_S1x352x1024_S352x1024) bitsLt_bf16_f32 : FVec Ideal S352x1024 .bf16) = rows x := by
  funext i
  obtain ⟨p, l, rfl⟩ : ∃ (p : Fin 352) (l : Fin 1024), i = ix2 p l := ⟨i 0, i 1, eq_ix2 i⟩
  pointwise []
  rfl

end Reference

section Kernel

open Cert.KernelBfIdeal Cert.KernelBfIdeal.Gen

variable (m : (ℓ : Loc nD τ sig) → Buf (Elt Ideal) ℓ) (c : Dev nD) (t : Fin cfg0.N)

/-- The one point holds every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- A block's entry is the array's at the place it is cut from. -/
theorem at_emb {s s' : Shape} {A B : s.Idx → EReal} (h : A = B) (e : s'.Idx → s.Idx) {i : s'.Idx} {j : s.Idx} (he : e i = j) : A (e i) = B j := by
  subst h; subst he; rfl

theorem block_at {s : Shape} (X : s.Idx → EReal) {i j : s.Idx} (h : i = j) : X j = X i := by
  subst h; rfl

abbrev A0 : FVec Ideal S1x1024x736 .f32 := m ((c : Thread nD τ).loc main_arg0)

theorem blk0 (p : Fin 736) (l : Fin 1024) : iblk m c 0 t (ix2 p l : S736x1024.Idx) = cols (A0 m c) (ix2 p l) :=
  (at_emb (A := V m c main_v2) rfl ((cfg0.win 0).blk t).view.emb (j := ix2 p l) (by blk_ext [idx t])).trans (by
    unfold V; simp only [hostOps0]; after_results_simp; pointwise []; rfl)

theorem pay1_at (x : FVec Ideal S736x1024 .f32) (p : Fin 736) (l : Fin 1024) : k0_pay1 (F := Ideal) x (ix2 p l) = x (ix2 p l) := by
  pointwise [k0_pay1]

theorem final0 : (dats m 0 c).arrAt 6 cfg0.N = (cols (A0 m c) : FVec Ideal S736x1024 .bf16) := by
  refine (dats m 0 c).arrAt_eq_of_covers 6 _ (by decide +kernel) fun t _ y => ?_
  blk_simp
  obtain ⟨p, l, rfl⟩ : ∃ (p : Fin 736) (l : Fin 1024), y = (ix2 p l : S736x1024.Idx) := ⟨y 0, y 1, eq_ix2 y⟩
  have h : (dats m 0 c).after 6 t = k0_pay1 (F := Ideal) (iblk m c 0 t) := by
    rw [after0_6]; unfold out0_6; frame_out; first | done | rfl
  exact (congrFun h _).trans (((pay1_at _ p l).trans (blk0 m c t p l)).trans (block_at (j := ix2 p l) (cols (A0 m c)) (by blk_ext [idx t])))

abbrev A1 : FVec Ideal S1x512x128 .f32 := m ((c : Thread nD τ).loc main_arg1)

theorem blk1 (p : Fin 512) (l : Fin 128) : iblk m c 1 t (ix2 p l : S512x128.Idx) = rows (A1 m c) (ix2 p l) :=
  (at_emb (A := V m c main_v3) rfl ((cfg0.win 1).blk t).view.emb (j := ix2 p l) (by blk_ext [idx t])).trans (by
    unfold V; simp only [hostOps0]; after_results_simp; pointwise []; rfl)

theorem pay2_at (x : FVec Ideal S512x128 .f32) (p : Fin 128) (l : Fin 512) : k0_pay2 (F := Ideal) x (ix2 p l) = x (ix2 l p) := by
  pointwise [k0_pay2]

theorem final1 : (dats m 0 c).arrAt 7 cfg0.N = (cols (A1 m c) : FVec Ideal S128x512 .bf16) := by
  refine (dats m 0 c).arrAt_eq_of_covers 7 _ (by decide +kernel) fun t _ y => ?_
  blk_simp
  obtain ⟨p, l, rfl⟩ : ∃ (p : Fin 128) (l : Fin 512), y = (ix2 p l : S128x512.Idx) := ⟨y 0, y 1, eq_ix2 y⟩
  have h : (dats m 0 c).after 7 t = k0_pay2 (F := Ideal) (iblk m c 1 t) := by
    rw [after0_7]; unfold out0_7; frame_out; first | done | rfl
  exact (congrFun h _).trans (((pay2_at _ p l).trans (blk1 m c t l p)).trans (block_at (j := ix2 p l) (cols (A1 m c)) (by blk_ext [idx t])))

abbrev A2 : FVec Ideal S1x256x128 .f32 := m ((c : Thread nD τ).loc main_arg2)

theorem blk2 (p : Fin 256) (l : Fin 128) : iblk m c 2 t (ix2 p l : S256x128.Idx) = rows (A2 m c) (ix2 p l) :=
  (at_emb (A := V m c main_v4) rfl ((cfg0.win 2).blk t).view.emb (j := ix2 p l) (by blk_ext [idx t])).trans (by
    unfold V; simp only [hostOps0]; after_results_simp; pointwise []; rfl)

theorem pay3_at (x : FVec Ideal S256x128 .f32) (p : Fin 128) (l : Fin 256) : k0_pay3 (F := Ideal) x (ix2 p l) = x (ix2 l p) := by
  pointwise [k0_pay3]

theorem final2 : (dats m 0 c).arrAt 8 cfg0.N = (cols (A2 m c) : FVec Ideal S128x256 .bf16) := by
  refine (dats m 0 c).arrAt_eq_of_covers 8 _ (by decide +kernel) fun t _ y => ?_
  blk_simp
  obtain ⟨p, l, rfl⟩ : ∃ (p : Fin 128) (l : Fin 256), y = (ix2 p l : S128x256.Idx) := ⟨y 0, y 1, eq_ix2 y⟩
  have h : (dats m 0 c).after 8 t = k0_pay3 (F := Ideal) (iblk m c 2 t) := by
    rw [after0_8]; unfold out0_8; frame_out; first | done | rfl
  exact (congrFun h _).trans (((pay3_at _ p l).trans (blk2 m c t l p)).trans (block_at (j := ix2 p l) (cols (A2 m c)) (by blk_ext [idx t])))

abbrev A3 : FVec Ideal S1x128x1024 .f32 := m ((c : Thread nD τ).loc main_arg3)

theorem blk3 (p : Fin 128) (l : Fin 1024) : iblk m c 3 t (ix2 p l : S128x1024.Idx) = rows (A3 m c) (ix2 p l) :=
  (at_emb (A := V m c main_v5) rfl ((cfg0.win 3).blk t).view.emb (j := ix2 p l) (by blk_ext [idx t])).trans (by
    unfold V; simp only [hostOps0]; after_results_simp; pointwise []; rfl)

theorem pay4_at (x : FVec Ideal S128x1024 .f32) (p : Fin 128) (l : Fin 1024) : k0_pay4 (F := Ideal) x (ix2 p l) = x (ix2 p l) := by
  pointwise [k0_pay4]

theorem final3 : (dats m 0 c).arrAt 9 cfg0.N = (rows (A3 m c) : FVec Ideal S128x1024 .bf16) := by
  refine (dats m 0 c).arrAt_eq_of_covers 9 _ (by decide +kernel) fun t _ y => ?_
  blk_simp
  obtain ⟨p, l, rfl⟩ : ∃ (p : Fin 128) (l : Fin 1024), y = (ix2 p l : S128x1024.Idx) := ⟨y 0, y 1, eq_ix2 y⟩
  have h : (dats m 0 c).after 9 t = k0_pay4 (F := Ideal) (iblk m c 3 t) := by
    rw [after0_9]; unfold out0_9; frame_out; first | done | rfl
  exact (congrFun h _).trans (((pay4_at _ p l).trans (blk3 m c t p l)).trans (block_at (j := ix2 p l) (rows (A3 m c)) (by blk_ext [idx t])))

abbrev A4 : FVec Ideal S1x1024x704 .f32 := m ((c : Thread nD τ).loc main_arg4)

theorem blk4 (p : Fin 704) (l : Fin 1024) : iblk m c 4 t (ix2 p l : S704x1024.Idx) = cols (A4 m c) (ix2 p l) :=
  (at_emb (A := V m c main_v6) rfl ((cfg0.win 4).blk t).view.emb (j := ix2 p l) (by blk_ext [idx t])).trans (by
    unfold V; simp only [hostOps0]; after_results_simp; pointwise []; rfl)

theorem pay5_at (x : FVec Ideal S704x1024 .f32) (p : Fin 704) (l : Fin 1024) : k0_pay5 (F := Ideal) x (ix2 p l) = x (ix2 p l) := by
  pointwise [k0_pay5]

theorem final4 : (dats m 0 c).arrAt 10 cfg0.N = (cols (A4 m c) : FVec Ideal S704x1024 .bf16) := by
  refine (dats m 0 c).arrAt_eq_of_covers 10 _ (by decide +kernel) fun t _ y => ?_
  blk_simp
  obtain ⟨p, l, rfl⟩ : ∃ (p : Fin 704) (l : Fin 1024), y = (ix2 p l : S704x1024.Idx) := ⟨y 0, y 1, eq_ix2 y⟩
  have h : (dats m 0 c).after 10 t = k0_pay5 (F := Ideal) (iblk m c 4 t) := by
    rw [after0_10]; unfold out0_10; frame_out; first | done | rfl
  exact (congrFun h _).trans (((pay5_at _ p l).trans (blk4 m c t p l)).trans (block_at (j := ix2 p l) (cols (A4 m c)) (by blk_ext [idx t])))

abbrev A5 : FVec Ideal S1x352x1024 .f32 := m ((c : Thread nD τ).loc main_arg5)

theorem blk5 (p : Fin 352) (l : Fin 1024) : iblk m c 5 t (ix2 p l : S352x1024.Idx) = rows (A5 m c) (ix2 p l) :=
  (at_emb (A := V m c main_v7) rfl ((cfg0.win 5).blk t).view.emb (j := ix2 p l) (by blk_ext [idx t])).trans (by
    unfold V; simp only [hostOps0]; after_results_simp; pointwise []; rfl)

theorem pay6_at (x : FVec Ideal S352x1024 .f32) (p : Fin 352) (l : Fin 1024) : k0_pay6 (F := Ideal) x (ix2 p l) = x (ix2 p l) := by
  pointwise [k0_pay6]

theorem final5 : (dats m 0 c).arrAt 11 cfg0.N = (rows (A5 m c) : FVec Ideal S352x1024 .bf16) := by
  refine (dats m 0 c).arrAt_eq_of_covers 11 _ (by decide +kernel) fun t _ y => ?_
  blk_simp
  obtain ⟨p, l, rfl⟩ : ∃ (p : Fin 352) (l : Fin 1024), y = (ix2 p l : S352x1024.Idx) := ⟨y 0, y 1, eq_ix2 y⟩
  have h : (dats m 0 c).after 11 t = k0_pay6 (F := Ideal) (iblk m c 5 t) := by
    rw [after0_11]; unfold out0_11; frame_out; first | done | rfl
  exact (congrFun h _).trans (((pay6_at _ p l).trans (blk5 m c t p l)).trans (block_at (j := ix2 p l) (rows (A5 m c)) (by blk_ext [idx t])))

end Kernel

theorem algebraic : Cert.algebraic_KernelBfIdeal_ReferenceBfIdeal := by
  intro m g m' g' _ hagree
  refine ⟨_, _, _, _, _, _, Cert.KernelBfIdeal.Value.run_blocks m g, ?_⟩
  refine (θ_run Cert.ReferenceBfIdeal.defs _ _).mono (fun r h c => ?_) (Cert.ReferenceBfIdeal.Value.run m' g')
  obtain ⟨h0, h1, h2, h3, h4, h5, hargs⟩ := h c
  obtain ⟨e0, e1, e2, e3, e4, e5⟩ := hagree c
  refine ⟨h0.trans ?_, h1.trans ?_, h2.trans ?_, h3.trans ?_, h4.trans ?_, h5.trans ?_, hargs⟩
  · rw [e0, final0 m c]; exact ref0 _
  · rw [e1, final1 m c]; exact ref1 _
  · rw [e2, final2 m c]; exact ref2 _
  · rw [e3, final3 m c]; exact ref3 _
  · rw [e4, final4 m c]; exact ref4 _
  · rw [e5, final5 m c]; exact ref5 _

end Cert.BfClaim

end
-- ==== Proof.Ps.Claim.lean ====
/-
  The sum of a pair's two halves, the core's index prefetched: frames, and the value, where that index is 0 or 1.
-/
module

public import proofs.«01_k».proof.Defs
public import proofs.«01_k».proof.Proof.Gen.KernelPs.Frame
public import proofs.«01_k».proof.Proof.Gen.KernelPsIdeal.Frame
public import proofs.«01_k».proof.Proof.Gen.ReferencePsIdeal.Run
public import proofs.«01_k».proof.Proof.Gen.Pre_a_core
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PsClaim

theorem frame_reference : Cert.quiescent_ReferencePsIdeal := by
  intro m g _
  hlo_run
  · exact fun _ => ⟨trivial, trivial, trivial⟩
  · exact sem_eq_zero_of_no_sems (sig := Cert.ReferencePsIdeal.sig) (by decide) _

theorem frame_reference_pre : Cert.quiescent_ReferencePsIdeal_pre_a_core := fun m g _ => frame_reference m g trivial

/-- The index's place is one. -/
theorem one (v w : (⟨1, ![1]⟩ : Shape).Idx) : v = w := by
  funext a
  obtain rfl : a = 0 := Subsingleton.elim _ _
  exact Subsingleton.elim (α := Fin 1) _ _

/-- The precondition, read at the index's one word. -/
theorem core_of {F : FTy → Type} [FloatOps F] (x : FVec F Cert.Pre_a_core.S8x736x1024 .bf16) (y : FVec F Cert.Pre_a_core.S4x736x1024 .bf16)
    (k : IVec Cert.Pre_a_core.S1 32) (h : Cert.Pre_a_core.fn x y k = fun _ => 1#1) (w : Cert.Pre_a_core.S1.Idx) : k w = 0#32 ∨ k w = 1#32 := by
  have h0 := congrFun h (fun a => a.elim0)
  simp only [Cert.Pre_a_core.fn, cmpi, ori, constantI, shapeCast] at h0
  simp only [one _ w] at h0
  have hpq : ∀ p q : Bool, BitVec.ofBool (p || q) = 1#1 → p = true ∨ q = true := by decide
  simp only [IntOp.cmpi, IntOp.ori] at h0
  simpa using hpq (k w == 0#32) (k w == 1#32) (by simpa using h0)

/-- A device's block of the sum: its core's half of the pair's, and the other device's part. -/
def pairs (x : (⟨3, ![8, 736, 1024]⟩ : Shape).Idx → EReal) (y : (⟨3, ![4, 736, 1024]⟩ : Shape).Idx → EReal) (k : BitVec 32) :
    (⟨3, ![4, 736, 1024]⟩ : Shape).Idx → EReal := fun i =>
  (if k = 0#32 then x (ix3 ⟨(i 0).val * 2, by have := (i 0).isLt; change _ < 4 at this; show _ < 8; omega⟩ (i 1) (i 2))
   else x (ix3 ⟨(i 0).val * 2 + 1, by have := (i 0).isLt; change _ < 4 at this; show _ < 8; omega⟩ (i 1) (i 2))) + y i

/-- The block read is the pair's, its core's half; -/
theorem word (b : BitVec 32) (hb : b = 0#32 ∨ b = 1#32) (j : Fin 4) : (Scalar.addi (Scalar.muli 2#32 (BitVec.ofNat 32 j.val)) b).toNat = j.val * 2 + b.toNat := by
  rcases hb with rfl | rfl <;> revert j <;> decide

/-- and inside the array. -/
theorem inside (b : BitVec 32) (hb : b = 0#32 ∨ b = 1#32) (j : Fin 4) (i : Fin 2) (a : Fin 3) :
    ((![(Scalar.addi (Scalar.muli 2#32 (BitVec.ofNat 32 j.val)) b).toNat, (BitVec.ofNat 32 i.val).toNat, (0#32 : BitVec 32).toNat] : Fin 3 → ℕ) a + 1) * (![1, 368, 1024] : Fin 3 → ℕ) a ≤ (![8, 736, 1024] : Fin 3 → ℕ) a := by
  rcases hb with rfl | rfl <;> revert j i a <;> decide

theorem ok_bits {m : (ℓ : Loc Cert.KernelPs.nD Cert.KernelPs.τ Cert.KernelPs.sig) → Buf (Elt Bits) ℓ} (h : Cert.Pre_KernelPs m) : Cert.KernelPs.Gen.Ok m :=
  fun i => ⟨fun a => inside _ (core_of _ _ _ (h 0) _) (i 0) (i 1) a, .inr (Affine.block_words_dvd (of_decide_eq_true rfl) (by decide))⟩

theorem ok_ideal {m : (ℓ : Loc Cert.KernelPsIdeal.nD Cert.KernelPsIdeal.τ Cert.KernelPsIdeal.sig) → Buf (Elt Ideal) ℓ} (h : Cert.Pre_KernelPsIdeal m) :
    Cert.KernelPsIdeal.Gen.Ok m :=
  fun i => ⟨fun a => inside _ (core_of _ _ _ (h 0) _) (i 0) (i 1) a, .inr (Affine.block_words_dvd (of_decide_eq_true rfl) (by decide))⟩

section Reference

open Cert.ReferencePsIdeal Cert.ReferencePsIdeal.Gen

theorem reference_value (x : FVec Ideal S8x736x1024 .bf16) (y : FVec Ideal S4x736x1024 .bf16) (k : IVec S1 32) :
    (truncf .bf16 (addf (select (broadcastInDim S4x736x1024 ![] bcast_S_S4x736x1024 (cmpi .eq (shapeCast S_ k shapeCasts_S1_S_) (constantI S_ 32 0#32))) (shapeCast S4x736x1024 (extractStridedSlice S4x1x736x1024 ![0, 0, 0, 0] (extf .f32 (shapeCast S4x2x736x1024 x shapeCasts_S8x736x1024_S4x2x736x1024) bitsLt_bf16_f32) slices_S4x2x736x1024_S4x1x736x1024_0_0_0_0) shapeCasts_S4x1x736x1024_S4x736x1024) (shapeCast S4x736x1024 (extractStridedSlice S4x1x736x1024 ![0, 1, 0, 0] (extf .f32 (shapeCast S4x2x736x1024 x shapeCasts_S8x736x1024_S4x2x736x1024) bitsLt_bf16_f32) slices_S4x2x736x1024_S4x1x736x1024_0_1_0_0) shapeCasts_S4x1x736x1024_S4x736x1024)) (extf .f32 y bitsLt_bf16_f32)) bitsLt_bf16_f32 : FVec Ideal S4x736x1024 .bf16) = pairs x y (k (ix1 0)) := by
  funext i
  obtain ⟨j, p, l, rfl⟩ : ∃ (j : Fin 4) (p : Fin 736) (l : Fin 1024), i = ix3 j p l := ⟨i 0, i 1, i 2, eq_ix3 i⟩
  pointwise []
  by_cases hk : k (ix1 0) = 0#32
  · rw [hk]; rfl
  · rw [show IntOp.cmpi .eq (k (ix1 0)) 0#32 = 0#1 from congrArg BitVec.ofBool (beq_eq_false_iff_ne.mpr hk)]
    unfold pairs; rw [if_neg hk]; rfl

end Reference

section Kernel

open Cert.KernelPsIdeal Cert.KernelPsIdeal.Gen

variable (m : (ℓ : Loc nD τ sig) → Buf (Elt Ideal) ℓ) (hO : Ok m) (c : Dev nD)

/-- The core's index. -/
def core : BitVec 32 := (m ((c : Thread nD τ).loc main_arg2) : IVec S1 32) (ix1 0)

theorem idx1 (t : Fin (cfgM m hO).N) : ((cfgM m hO).win 1).index t = ![(grid0.coords t 0).val, (grid0.coords t 1).val, 0] :=
  (by decide +kernel : ∀ t : Fin grid0.N, cc0_transform_1 (grid0.coords t) = ![(grid0.coords t 0).val, (grid0.coords t 1).val, 0]) t

theorem idx2 (t : Fin (cfgM m hO).N) : ((cfgM m hO).win 2).index t = ![(grid0.coords t 0).val, (grid0.coords t 1).val, 0] :=
  (by decide +kernel : ∀ t : Fin grid0.N, cc0_transform_2 (grid0.coords t) = ![(grid0.coords t 0).val, (grid0.coords t 1).val, 0]) t

theorem covers : ((cfgM m hO).win 2).Covers :=
  Pipeline.Window.covers_of_indexMap_surj _ rfl (fun a => by revert a; exact (by decide : ∀ a : Fin 3, 0 < S1x368x1024.size a))
    (fun (β : (a : Fin 3) → Fin (((cfgM m hO).win 2).nblk a)) => by
      have h0 : (β 0).val < 4 := (β 0).isLt.trans_eq (by show (S4x736x1024.size 0 + S1x368x1024.size 0 - 1) / S1x368x1024.size 0 = 4; decide)
      have h1 : (β 1).val < 2 := (β 1).isLt.trans_eq (by show (S4x736x1024.size 1 + S1x368x1024.size 1 - 1) / S1x368x1024.size 1 = 2; decide)
      have h2 : (β 2).val < 1 := (β 2).isLt.trans_eq (by show (S4x736x1024.size 2 + S1x368x1024.size 2 - 1) / S1x368x1024.size 2 = 1; decide)
      obtain ⟨i, hi⟩ := (by decide +kernel : ∀ (u : Fin 4) (v : Fin 2), ∃ i : grid0.Coords, cc0_transform_2 i = ![u.val, v.val, 0]) ⟨_, h0⟩ ⟨_, h1⟩
      have hβ : ∀ a : Fin 3, (![(β 0).val, (β 1).val, 0] : Fin 3 → ℕ) a = β a
        | 0 => rfl
        | 1 => rfl
        | 2 => by show 0 = (β 2).val; omega
      exact ⟨i, fun a => (congrFun hi a).trans (hβ a)⟩)

theorem whole (y : S1x368x1024.Idx) : ∃ (q : Fin 368) (l : Fin 1024), y = ix3 0 q l :=
  ⟨y 1, y 2, (eq_ix3 y).trans (by rw [Subsingleton.elim (α := Fin 1) (y 0) 0])⟩

theorem idx0 (hb : core m c = 0#32 ∨ core m c = 1#32) (t : Fin (cfgM m hO).N) :
    ((cfgM m hO).win 0).index t = ![(grid0.coords t 0).val * 2 + (core m c).toNat, (grid0.coords t 1).val, 0] := by
  obtain rfl : c = 0 := Subsingleton.elim _ _
  have hw := word (core m 0) hb (grid0.coords t 0)
  have hi : (BitVec.ofNat 32 (grid0.coords t 1).val).toNat = (grid0.coords t 1).val := (by decide : ∀ i : Fin 2, (BitVec.ofNat 32 i.val).toNat = i.val) (grid0.coords t 1)
  rw [← hw]
  conv_rhs => rw [← hi]
  show cc0_transform_0 _ _ (tbl m) (grid0.coords t) = _
  unfold cc0_transform_0
  have hk : (tbl m).at 0 (Rect.unit (s := S1) ![0] S1.size Facts₀.inb_S1_S1_0) Facts₀.numel1_S1 = core m 0 :=
    congrArg (m (((0 : Dev nD) : Thread nD τ).loc main_arg2)) (one _ _)
  rw [hk]
  rfl

theorem pay_at (x y : FVec Ideal S1x368x1024 .bf16) (q : Fin 368) (l : Fin 1024) : k0_pay1 (F := Ideal) x y (ix3 0 q l) = x (ix3 0 q l) + y (ix3 0 q l) := by
  pointwise [k0_pay1]

theorem final (hb : core m c = 0#32 ∨ core m c = 1#32) : (dats m hO 0 c).arrAt 2 (cfgM m hO).N
    = (pairs (m ((c : Thread nD τ).loc main_arg0) : FVec Ideal S8x736x1024 .bf16) (m ((c : Thread nD τ).loc main_arg1) : FVec Ideal S4x736x1024 .bf16) (core m c) : FVec Ideal S4x736x1024 .bf16) := by
  refine (dats m hO 0 c).arrAt_eq_of_covers 2 _ (covers m hO) fun t _ y => ?_
  blk_simp
  obtain ⟨q, l, rfl⟩ : ∃ (q : Fin 368) (l : Fin 1024), y = (ix3 0 q l : S1x368x1024.Idx) := whole y
  have hj : (grid0.coords t 0).val < 4 := (grid0.coords t 0).isLt
  have hi : (grid0.coords t 1).val < 2 := (grid0.coords t 1).isLt
  have he : (((cfgM m hO).win 2).blk t).view.emb (ix3 0 q l : S1x368x1024.Idx) = (ix3 ⟨(grid0.coords t 0).val, hj⟩ ⟨(grid0.coords t 1).val * 368 + q.val, by omega⟩ l : S4x736x1024.Idx) := by
    blk_ext [idx2 m hO t]
  have e1 : (((cfgM m hO).win 1).blk t).view.emb (ix3 0 q l : S1x368x1024.Idx) = (ix3 ⟨(grid0.coords t 0).val, hj⟩ ⟨(grid0.coords t 1).val * 368 + q.val, by omega⟩ l : S4x736x1024.Idx) := by
    blk_ext [idx1 m hO t]
  have h : (dats m hO 0 c).after 2 t = k0_pay1 (F := Ideal) (iblk m hO c 0 t) (iblk m hO c 1 t) := by
    rw [after0_2]; unfold outsAt0 out0_A_2 kernelRun0_A; frame_out; exact congrArg₂ k0_pay1 ((hs0_0 m hO t).read_unread _) ((hs0_1 m hO t).read_unread _)
  refine (congrFun h _).trans ((pay_at _ _ q l).trans (Eq.trans ?_ (congrArg (pairs _ _ _) he.symm)))
  have h1 : iblk m hO c 1 t (ix3 0 q l : S1x368x1024.Idx) = (m ((c : Thread nD τ).loc main_arg1) : FVec Ideal S4x736x1024 .bf16) (ix3 ⟨(grid0.coords t 0).val, hj⟩ ⟨(grid0.coords t 1).val * 368 + q.val, by omega⟩ l) :=
    congrArg (m ((c : Thread nD τ).loc main_arg1)) e1
  have h0 : ∀ (d : ℕ) (hd : (core m c).toNat = d) (hlt : d < 2), iblk m hO c 0 t (ix3 0 q l : S1x368x1024.Idx) = (m ((c : Thread nD τ).loc main_arg0) : FVec Ideal S8x736x1024 .bf16) (ix3 ⟨(grid0.coords t 0).val * 2 + d, by omega⟩ ⟨(grid0.coords t 1).val * 368 + q.val, by omega⟩ l) := by
    intro d hd hlt
    have e0 : (((cfgM m hO).win 0).blk t).view.emb (ix3 0 q l : S1x368x1024.Idx) = (ix3 ⟨(grid0.coords t 0).val * 2 + d, by omega⟩ ⟨(grid0.coords t 1).val * 368 + q.val, by omega⟩ l : S8x736x1024.Idx) := by
      blk_ext [idx0 m hO c hb t, hd]
    exact congrArg (m ((c : Thread nD τ).loc main_arg0)) e0
  rcases hb with hk | hk
  · rw [h0 0 (by rw [hk]; rfl) (by omega), h1]; unfold pairs; rw [if_pos hk]; rfl
  · rw [h0 1 (by rw [hk]; rfl) (by omega), h1]; unfold pairs; rw [if_neg (by rw [hk]; decide)]; rfl

end Kernel

theorem algebraic : Cert.algebraic_KernelPsIdeal_ReferencePsIdeal := by
  intro m g m' g' hpre hagree
  have hO := ok_ideal hpre
  refine ⟨_, (θ_run Cert.KernelPsIdeal.defs _ _).mono (fun r h c => ⟨(h.1 c).1 2, h.2 c⟩)
    (θ_run_and (Cert.KernelPsIdeal.Gen.run_main m g hO) (Cert.KernelPsIdeal.Gen.unchanged m g hO)), ?_⟩
  refine (θ_run Cert.ReferencePsIdeal.defs _ _).mono (fun r h c => ?_) (Cert.ReferencePsIdeal.Value.run m' g')
  obtain ⟨h0, hargs⟩ := h c
  obtain ⟨e0, e1, e2⟩ := hagree c
  refine ⟨h0.trans ?_, hargs⟩
  rw [e0, e1, e2]
  exact (reference_value _ _ _).trans (final m hO c (core_of _ _ _ (hpre c) _)).symm

theorem frame_kernel : Cert.quiescent_KernelPs := fun m g h => Cert.KernelPs.Gen.frame m g (ok_bits h)

theorem frame_ideal : Cert.quiescent_KernelPsIdeal := fun m g h => Cert.KernelPsIdeal.Gen.frame m g (ok_ideal h)

end Cert.PsClaim

end
-- ==== Proof.lean ====
/- The claims about the backward calls of the gated merge (`Mix`), of the stick-breaking attention (`Sb`), of the
   in-projection with its norm (`Proj`), about the call that fuses merge, feed-forward, norms and loss with their
   gradients (`Ffn`), about the stick-breaking attention's forward call (`Sbf`), the norm with the in-projection (`Np`),
   three of the weights' gradients (`Cols`, `Atb`, `Pcs`), the sums over the
   devices with the gains' and the weights' updates (`Gains`, `Upd`), and the weights' packing (`Bf`): kernels and references end well, the ideal
   kernel is the kernel, and over the extended reals a call's results are the derivative of the
   reference's own lines, or these lines' values. The parts are proved in the modules under Proof/. -/
module

public import proofs.«01_k».proof.Proof.Mix.Claim
public import proofs.«01_k».proof.Proof.Sb.Claim
public import proofs.«01_k».proof.Proof.Ffn.Claim
public import proofs.«01_k».proof.Proof.Proj.Claim
public import proofs.«01_k».proof.Proof.Sbf.Claim
public import proofs.«01_k».proof.Proof.Np.Claim
public import proofs.«01_k».proof.Proof.Cols.Claim
public import proofs.«01_k».proof.Proof.Atb.Claim
public import proofs.«01_k».proof.Proof.Pcs.Claim
public import proofs.«01_k».proof.Proof.Gains.Claim
public import proofs.«01_k».proof.Proof.Upd.Claim
public import proofs.«01_k».proof.Proof.Bf.Claim
public import proofs.«01_k».proof.Proof.Ps.Claim
public import proofs.«01_k».proof.Defs
public import proofs.«01_k».proof.Proof.Gen.KernelSb
public import proofs.«01_k».proof.Proof.Gen.KernelSb.Loops
public import proofs.«01_k».proof.Proof.Gen.KernelSbIdeal.Loops
public import proofs.«01_k».proof.Proof.Gen.ReferenceSbIdeal
public import proofs.«01_k».proof.Proof.Gen.KernelSbf
public import proofs.«01_k».proof.Proof.Gen.ReferenceSbfIdeal
public import Idealize.ShloMosaic.Adequacy
public import Idealize.ShloMosaic.Init

@[expose] public section

noncomputable section

namespace Cert.Proof

/-- Every claim of the file, by the theorems of the modules. -/
theorem claim : Cert.Claim := ⟨Cert.KernelMix.Gen.facts, Cert.KernelMixIdeal.Gen.facts, Cert.ReferenceMixIdeal.Gen.facts,
  Cert.KernelSb.Gen.facts, Cert.KernelSbIdeal.Gen.facts, Cert.ReferenceSbIdeal.Gen.facts,
  Cert.KernelProj.Gen.facts, Cert.KernelProjIdeal.Gen.facts, Cert.ReferenceProjIdeal.Gen.facts,
  Cert.KernelFfn.Gen.facts, Cert.KernelFfnIdeal.Gen.facts, Cert.ReferenceFfnIdeal.Gen.facts,
  Cert.KernelSbf.Gen.facts, Cert.KernelSbfIdeal.Gen.facts, Cert.ReferenceSbfIdeal.Gen.facts,
  Cert.KernelNp.Gen.facts, Cert.KernelNpIdeal.Gen.facts, Cert.ReferenceNpIdeal.Gen.facts,
  Cert.KernelCols.Gen.facts, Cert.KernelColsIdeal.Gen.facts, Cert.ReferenceColsIdeal.Gen.facts,
  Cert.KernelAtb.Gen.facts, Cert.KernelAtbIdeal.Gen.facts, Cert.ReferenceAtbIdeal.Gen.facts,
  Cert.KernelPcs.Gen.facts, Cert.KernelPcsIdeal.Gen.facts, Cert.ReferencePcsIdeal.Gen.facts,
  Cert.KernelGains.Gen.facts, Cert.KernelGainsIdeal.Gen.facts, Cert.ReferenceGainsIdeal.Gen.facts,
  Cert.KernelUpd.Gen.facts, Cert.KernelUpdIdeal.Gen.facts, Cert.ReferenceUpdIdeal.Gen.facts,
  Cert.KernelBf.Gen.facts, Cert.KernelBfIdeal.Gen.facts, Cert.ReferenceBfIdeal.Gen.facts,
  Cert.KernelPs.Gen.facts, Cert.KernelPsIdeal.Gen.facts, Cert.ReferencePsIdeal.Gen.facts,
  Cert.Pre_finite_mix.Gen.facts, Cert.Pre_finite_sb.Gen.facts, Cert.Pre_finite_proj.Gen.facts, Cert.Pre_finite_ffn.Gen.facts, Cert.Pre_finite_sbf.Gen.facts, Cert.Pre_a_core.Gen.facts,
  Cert.Mix.frame_kernel, Cert.Mix.frame_ideal, Cert.Mix.frame_ideal_pre, Cert.Mix.frame_reference, Cert.Mix.frame_reference_pre,
  Cert.SbFrame.frame_kernel, Cert.SbClaim.frame_ideal, Cert.SbClaim.frame_ideal_pre, Cert.SbClaim.frame_reference, Cert.SbClaim.frame_reference_pre,
  Cert.ProjClaim.frame_kernel, Cert.ProjClaim.frame_ideal, Cert.ProjClaim.frame_ideal_pre, Cert.ProjClaim.frame_reference, Cert.ProjClaim.frame_reference_pre,
  Cert.FfnClaim.frame_kernel, Cert.FfnClaim.frame_ideal, Cert.FfnClaim.frame_ideal_pre, Cert.FfnClaim.frame_reference, Cert.FfnClaim.frame_reference_pre,
  Cert.SbfFrame.frame_kernel, Cert.SbfClaim.frame_ideal, Cert.SbfClaim.frame_ideal_pre, Cert.SbfClaim.frame_reference, Cert.SbfClaim.frame_reference_pre,
  fun m ρ _ => Cert.KernelNp.Gen.frame m ρ, fun m ρ _ => Cert.KernelNpIdeal.Gen.frame m ρ, Cert.NpClaim.frame_reference,
  fun m ρ _ => Cert.KernelCols.Gen.frame m ρ, fun m ρ _ => Cert.KernelColsIdeal.Gen.frame m ρ, Cert.ColsClaim.frame_reference,
  fun m ρ _ => Cert.KernelAtb.Gen.frame m ρ, fun m ρ _ => Cert.KernelAtbIdeal.Gen.frame m ρ, Cert.AtbClaim.frame_reference,
  fun m ρ _ => Cert.KernelPcs.Gen.frame m ρ, fun m ρ _ => Cert.KernelPcsIdeal.Gen.frame m ρ, Cert.PcsClaim.frame_reference,
  fun m ρ _ => Cert.KernelGains.Gen.frame m ρ, fun m ρ _ => Cert.KernelGainsIdeal.Gen.frame m ρ, Cert.GainsClaim.frame_reference,
  fun m ρ _ => Cert.KernelUpd.Gen.frame m ρ, fun m ρ _ => Cert.KernelUpdIdeal.Gen.frame m ρ, Cert.UpdClaim.frame_reference,
  fun m ρ _ => Cert.KernelBf.Gen.frame m ρ, fun m ρ _ => Cert.KernelBfIdeal.Gen.frame m ρ, Cert.BfClaim.frame_reference,
  Cert.PsClaim.frame_kernel, Cert.PsClaim.frame_ideal, Cert.PsClaim.frame_reference, Cert.PsClaim.frame_reference_pre,
  trivial, Cert.Mix.algebraic, Cert.SbClaim.preserves, Cert.SbClaim.algebraic, trivial, Cert.ProjClaim.algebraic,
  trivial, Cert.FfnClaim.algebraic, Cert.SbfClaim.preserves, Cert.SbfClaim.algebraic, trivial, Cert.NpClaim.algebraic,
  trivial, Cert.ColsClaim.algebraic, trivial, Cert.AtbClaim.algebraic, trivial, Cert.PcsClaim.algebraic, trivial, Cert.GainsClaim.algebraic, trivial, Cert.UpdClaim.algebraic,
  trivial, Cert.BfClaim.algebraic, trivial, Cert.PsClaim.algebraic⟩

end Cert.Proof

end
